-- ==== Defs.lean ====
def Pre_KRms (m : (ℓ : Loc Cert.KRms.nD Cert.KRms.τ Cert.KRms.sig) → Buf (Elt Bits) ℓ) : Prop :=
  True

def Pre_KRmsIdeal (m : (ℓ : Loc Cert.KRmsIdeal.nD Cert.KRmsIdeal.τ Cert.KRmsIdeal.sig) → Buf (Elt Ideal) ℓ) : Prop :=
  True

def Pre_RRmsIdeal (m : (ℓ : Loc Cert.RRmsIdeal.nD Cert.RRmsIdeal.τ Cert.RRmsIdeal.sig) → Buf (Elt Ideal) ℓ) : Prop :=
  True

def Pre_KPost (m : (ℓ : Loc Cert.KPost.nD Cert.KPost.τ Cert.KPost.sig) → Buf (Elt Bits) ℓ) : Prop :=
  True

def Pre_KPostIdeal (m : (ℓ : Loc Cert.KPostIdeal.nD Cert.KPostIdeal.τ Cert.KPostIdeal.sig) → Buf (Elt Ideal) ℓ) : Prop :=
  True

def Pre_RPostIdeal (m : (ℓ : Loc Cert.RPostIdeal.nD Cert.RPostIdeal.τ Cert.RPostIdeal.sig) → Buf (Elt Ideal) ℓ) : Prop :=
  True

def Pre_KPle (m : (ℓ : Loc Cert.KPle.nD Cert.KPle.τ Cert.KPle.sig) → Buf (Elt Bits) ℓ) : Prop :=
  True

def Pre_KPleIdeal (m : (ℓ : Loc Cert.KPleIdeal.nD Cert.KPleIdeal.τ Cert.KPleIdeal.sig) → Buf (Elt Ideal) ℓ) : Prop :=
  True

def Pre_RPleIdeal (m : (ℓ : Loc Cert.RPleIdeal.nD Cert.RPleIdeal.τ Cert.RPleIdeal.sig) → Buf (Elt Ideal) ℓ) : Prop :=
  True

def Pre_KConv (m : (ℓ : Loc Cert.KConv.nD Cert.KConv.τ Cert.KConv.sig) → Buf (Elt Bits) ℓ) : Prop :=
  True

def Pre_KConvIdeal (m : (ℓ : Loc Cert.KConvIdeal.nD Cert.KConvIdeal.τ Cert.KConvIdeal.sig) → Buf (Elt Ideal) ℓ) : Prop :=
  True

def Pre_RConvIdeal (m : (ℓ : Loc Cert.RConvIdeal.nD Cert.RConvIdeal.τ Cert.RConvIdeal.sig) → Buf (Elt Ideal) ℓ) : Prop :=
  True

def Pre_KFfn (m : (ℓ : Loc Cert.KFfn.nD Cert.KFfn.τ Cert.KFfn.sig) → Buf (Elt Bits) ℓ) : Prop :=
  True

def Pre_KFfnIdeal (m : (ℓ : Loc Cert.KFfnIdeal.nD Cert.KFfnIdeal.τ Cert.KFfnIdeal.sig) → Buf (Elt Ideal) ℓ) : Prop :=
  True

def Pre_RFfnIdeal (m : (ℓ : Loc Cert.RFfnIdeal.nD Cert.RFfnIdeal.τ Cert.RFfnIdeal.sig) → Buf (Elt Ideal) ℓ) : Prop :=
  True

def Pre_KLoss (m : (ℓ : Loc Cert.KLoss.nD Cert.KLoss.τ Cert.KLoss.sig) → Buf (Elt Bits) ℓ) : Prop :=
  True

def Pre_KLossIdeal (m : (ℓ : Loc Cert.KLossIdeal.nD Cert.KLossIdeal.τ Cert.KLossIdeal.sig) → Buf (Elt Ideal) ℓ) : Prop :=
  True

def Pre_RLossIdeal (m : (ℓ : Loc Cert.RLossIdeal.nD Cert.RLossIdeal.τ Cert.RLossIdeal.sig) → Buf (Elt Ideal) ℓ) : Prop :=
  True

def Pre_KQrope (m : (ℓ : Loc Cert.KQrope.nD Cert.KQrope.τ Cert.KQrope.sig) → Buf (Elt Bits) ℓ) : Prop :=
  True

def Pre_KQropeIdeal (m : (ℓ : Loc Cert.KQropeIdeal.nD Cert.KQropeIdeal.τ Cert.KQropeIdeal.sig) → Buf (Elt Ideal) ℓ) : Prop :=
  True

def Pre_RQropeIdeal (m : (ℓ : Loc Cert.RQropeIdeal.nD Cert.RQropeIdeal.τ Cert.RQropeIdeal.sig) → Buf (Elt Ideal) ℓ) : Prop :=
  True

def Pre_KKprep (m : (ℓ : Loc Cert.KKprep.nD Cert.KKprep.τ Cert.KKprep.sig) → Buf (Elt Bits) ℓ) : Prop :=
  True

def Pre_KKprepIdeal (m : (ℓ : Loc Cert.KKprepIdeal.nD Cert.KKprepIdeal.τ Cert.KKprepIdeal.sig) → Buf (Elt Ideal) ℓ) : Prop :=
  True

def Pre_RKprepIdeal (m : (ℓ : Loc Cert.RKprepIdeal.nD Cert.RKprepIdeal.τ Cert.RKprepIdeal.sig) → Buf (Elt Ideal) ℓ) : Prop :=
  True

def Pre_KRmsF (m : (ℓ : Loc Cert.KRmsF.nD Cert.KRmsF.τ Cert.KRmsF.sig) → Buf (Elt Bits) ℓ) : Prop :=
  True

def Pre_KRmsFIdeal (m : (ℓ : Loc Cert.KRmsFIdeal.nD Cert.KRmsFIdeal.τ Cert.KRmsFIdeal.sig) → Buf (Elt Ideal) ℓ) : Prop :=
  True

def Pre_RRmsFIdeal (m : (ℓ : Loc Cert.RRmsFIdeal.nD Cert.RRmsFIdeal.τ Cert.RRmsFIdeal.sig) → Buf (Elt Ideal) ℓ) : Prop :=
  True

def Pre_KPostF (m : (ℓ : Loc Cert.KPostF.nD Cert.KPostF.τ Cert.KPostF.sig) → Buf (Elt Bits) ℓ) : Prop :=
  True

def Pre_KPostFIdeal (m : (ℓ : Loc Cert.KPostFIdeal.nD Cert.KPostFIdeal.τ Cert.KPostFIdeal.sig) → Buf (Elt Ideal) ℓ) : Prop :=
  True

def Pre_RPostFIdeal (m : (ℓ : Loc Cert.RPostFIdeal.nD Cert.RPostFIdeal.τ Cert.RPostFIdeal.sig) → Buf (Elt Ideal) ℓ) : Prop :=
  True

def Pre_KPleF (m : (ℓ : Loc Cert.KPleF.nD Cert.KPleF.τ Cert.KPleF.sig) → Buf (Elt Bits) ℓ) : Prop :=
  True

def Pre_KPleFIdeal (m : (ℓ : Loc Cert.KPleFIdeal.nD Cert.KPleFIdeal.τ Cert.KPleFIdeal.sig) → Buf (Elt Ideal) ℓ) : Prop :=
  True

def Pre_RPleFIdeal (m : (ℓ : Loc Cert.RPleFIdeal.nD Cert.RPleFIdeal.τ Cert.RPleFIdeal.sig) → Buf (Elt Ideal) ℓ) : Prop :=
  True

def Pre_KFfnF (m : (ℓ : Loc Cert.KFfnF.nD Cert.KFfnF.τ Cert.KFfnF.sig) → Buf (Elt Bits) ℓ) : Prop :=
  True

def Pre_KFfnFIdeal (m : (ℓ : Loc Cert.KFfnFIdeal.nD Cert.KFfnFIdeal.τ Cert.KFfnFIdeal.sig) → Buf (Elt Ideal) ℓ) : Prop :=
  True

def Pre_RFfnFIdeal (m : (ℓ : Loc Cert.RFfnFIdeal.nD Cert.RFfnFIdeal.τ Cert.RFfnFIdeal.sig) → Buf (Elt Ideal) ℓ) : Prop :=
  True

def Pre_KKprepF (m : (ℓ : Loc Cert.KKprepF.nD Cert.KKprepF.τ Cert.KKprepF.sig) → Buf (Elt Bits) ℓ) : Prop :=
  True

def Pre_KKprepFIdeal (m : (ℓ : Loc Cert.KKprepFIdeal.nD Cert.KKprepFIdeal.τ Cert.KKprepFIdeal.sig) → Buf (Elt Ideal) ℓ) : Prop :=
  True

def Pre_RKprepFIdeal (m : (ℓ : Loc Cert.RKprepFIdeal.nD Cert.RKprepFIdeal.τ Cert.RKprepFIdeal.sig) → Buf (Elt Ideal) ℓ) : Prop :=
  True

def Pre_KQropeF (m : (ℓ : Loc Cert.KQropeF.nD Cert.KQropeF.τ Cert.KQropeF.sig) → Buf (Elt Bits) ℓ) : Prop :=
  True

def Pre_KQropeFIdeal (m : (ℓ : Loc Cert.KQropeFIdeal.nD Cert.KQropeFIdeal.τ Cert.KQropeFIdeal.sig) → Buf (Elt Ideal) ℓ) : Prop :=
  True

def Pre_RQropeFIdeal (m : (ℓ : Loc Cert.RQropeFIdeal.nD Cert.RQropeFIdeal.τ Cert.RQropeFIdeal.sig) → Buf (Elt Ideal) ℓ) : Prop :=
  True

def Pre_KAttnB (m : (ℓ : Loc Cert.KAttnB.nD Cert.KAttnB.τ Cert.KAttnB.sig) → Buf (Elt Bits) ℓ) : Prop :=
  True

def Pre_KAttnBIdeal (m : (ℓ : Loc Cert.KAttnBIdeal.nD Cert.KAttnBIdeal.τ Cert.KAttnBIdeal.sig) → Buf (Elt Ideal) ℓ) : Prop :=
  True

def Pre_KAttnBIdeal_finite [hPre_finite : Cert.Pre_finite.Facts] (m : (ℓ : Loc Cert.KAttnBIdeal.nD Cert.KAttnBIdeal.τ Cert.KAttnBIdeal.sig) → Buf (Elt Ideal) ℓ) : Prop :=
  ∀ c : Dev Cert.KAttnBIdeal.nD,
    (Cert.Pre_finite.fn (F := Ideal) (m ((c.tc : Thread Cert.KAttnBIdeal.nD Cert.KAttnBIdeal.τ).loc Cert.KAttnBIdeal.main_arg0)) (m ((c.tc : Thread Cert.KAttnBIdeal.nD Cert.KAttnBIdeal.τ).loc Cert.KAttnBIdeal.main_arg1)) (m ((c.tc : Thread Cert.KAttnBIdeal.nD Cert.KAttnBIdeal.τ).loc Cert.KAttnBIdeal.main_arg2)) (m ((c.tc : Thread Cert.KAttnBIdeal.nD Cert.KAttnBIdeal.τ).loc Cert.KAttnBIdeal.main_arg3)) (m ((c.tc : Thread Cert.KAttnBIdeal.nD Cert.KAttnBIdeal.τ).loc Cert.KAttnBIdeal.main_arg4))).1 = (fun _ => 1#1)
    ∧ (Cert.Pre_finite.fn (F := Ideal) (m ((c.tc : Thread Cert.KAttnBIdeal.nD Cert.KAttnBIdeal.τ).loc Cert.KAttnBIdeal.main_arg0)) (m ((c.tc : Thread Cert.KAttnBIdeal.nD Cert.KAttnBIdeal.τ).loc Cert.KAttnBIdeal.main_arg1)) (m ((c.tc : Thread Cert.KAttnBIdeal.nD Cert.KAttnBIdeal.τ).loc Cert.KAttnBIdeal.main_arg2)) (m ((c.tc : Thread Cert.KAttnBIdeal.nD Cert.KAttnBIdeal.τ).loc Cert.KAttnBIdeal.main_arg3)) (m ((c.tc : Thread Cert.KAttnBIdeal.nD Cert.KAttnBIdeal.τ).loc Cert.KAttnBIdeal.main_arg4))).2.1 = (fun _ => 1#1)
    ∧ (Cert.Pre_finite.fn (F := Ideal) (m ((c.tc : Thread Cert.KAttnBIdeal.nD Cert.KAttnBIdeal.τ).loc Cert.KAttnBIdeal.main_arg0)) (m ((c.tc : Thread Cert.KAttnBIdeal.nD Cert.KAttnBIdeal.τ).loc Cert.KAttnBIdeal.main_arg1)) (m ((c.tc : Thread Cert.KAttnBIdeal.nD Cert.KAttnBIdeal.τ).loc Cert.KAttnBIdeal.main_arg2)) (m ((c.tc : Thread Cert.KAttnBIdeal.nD Cert.KAttnBIdeal.τ).loc Cert.KAttnBIdeal.main_arg3)) (m ((c.tc : Thread Cert.KAttnBIdeal.nD Cert.KAttnBIdeal.τ).loc Cert.KAttnBIdeal.main_arg4))).2.2.1 = (fun _ => 1#1)
    ∧ (Cert.Pre_finite.fn (F := Ideal) (m ((c.tc : Thread Cert.KAttnBIdeal.nD Cert.KAttnBIdeal.τ).loc Cert.KAttnBIdeal.main_arg0)) (m ((c.tc : Thread Cert.KAttnBIdeal.nD Cert.KAttnBIdeal.τ).loc Cert.KAttnBIdeal.main_arg1)) (m ((c.tc : Thread Cert.KAttnBIdeal.nD Cert.KAttnBIdeal.τ).loc Cert.KAttnBIdeal.main_arg2)) (m ((c.tc : Thread Cert.KAttnBIdeal.nD Cert.KAttnBIdeal.τ).loc Cert.KAttnBIdeal.main_arg3)) (m ((c.tc : Thread Cert.KAttnBIdeal.nD Cert.KAttnBIdeal.τ).loc Cert.KAttnBIdeal.main_arg4))).2.2.2.1 = (fun _ => 1#1)
    ∧ (Cert.Pre_finite.fn (F := Ideal) (m ((c.tc : Thread Cert.KAttnBIdeal.nD Cert.KAttnBIdeal.τ).loc Cert.KAttnBIdeal.main_arg0)) (m ((c.tc : Thread Cert.KAttnBIdeal.nD Cert.KAttnBIdeal.τ).loc Cert.KAttnBIdeal.main_arg1)) (m ((c.tc : Thread Cert.KAttnBIdeal.nD Cert.KAttnBIdeal.τ).loc Cert.KAttnBIdeal.main_arg2)) (m ((c.tc : Thread Cert.KAttnBIdeal.nD Cert.KAttnBIdeal.τ).loc Cert.KAttnBIdeal.main_arg3)) (m ((c.tc : Thread Cert.KAttnBIdeal.nD Cert.KAttnBIdeal.τ).loc Cert.KAttnBIdeal.main_arg4))).2.2.2.2 = (fun _ => 1#1)

def Pre_RAttnBIdeal (m : (ℓ : Loc Cert.RAttnBIdeal.nD Cert.RAttnBIdeal.τ Cert.RAttnBIdeal.sig) → Buf (Elt Ideal) ℓ) : Prop :=
  True

def Pre_RAttnBIdeal_finite [hPre_finite : Cert.Pre_finite.Facts] (m : (ℓ : Loc Cert.RAttnBIdeal.nD Cert.RAttnBIdeal.τ Cert.RAttnBIdeal.sig) → Buf (Elt Ideal) ℓ) : Prop :=
  ∀ c : Dev Cert.RAttnBIdeal.nD,
    (Cert.Pre_finite.fn (F := Ideal) (m ((c.tc : Thread Cert.RAttnBIdeal.nD Cert.RAttnBIdeal.τ).loc Cert.RAttnBIdeal.main_arg0)) (m ((c.tc : Thread Cert.RAttnBIdeal.nD Cert.RAttnBIdeal.τ).loc Cert.RAttnBIdeal.main_arg1)) (m ((c.tc : Thread Cert.RAttnBIdeal.nD Cert.RAttnBIdeal.τ).loc Cert.RAttnBIdeal.main_arg2)) (m ((c.tc : Thread Cert.RAttnBIdeal.nD Cert.RAttnBIdeal.τ).loc Cert.RAttnBIdeal.main_arg3)) (m ((c.tc : Thread Cert.RAttnBIdeal.nD Cert.RAttnBIdeal.τ).loc Cert.RAttnBIdeal.main_arg4))).1 = (fun _ => 1#1)
    ∧ (Cert.Pre_finite.fn (F := Ideal) (m ((c.tc : Thread Cert.RAttnBIdeal.nD Cert.RAttnBIdeal.τ).loc Cert.RAttnBIdeal.main_arg0)) (m ((c.tc : Thread Cert.RAttnBIdeal.nD Cert.RAttnBIdeal.τ).loc Cert.RAttnBIdeal.main_arg1)) (m ((c.tc : Thread Cert.RAttnBIdeal.nD Cert.RAttnBIdeal.τ).loc Cert.RAttnBIdeal.main_arg2)) (m ((c.tc : Thread Cert.RAttnBIdeal.nD Cert.RAttnBIdeal.τ).loc Cert.RAttnBIdeal.main_arg3)) (m ((c.tc : Thread Cert.RAttnBIdeal.nD Cert.RAttnBIdeal.τ).loc Cert.RAttnBIdeal.main_arg4))).2.1 = (fun _ => 1#1)
    ∧ (Cert.Pre_finite.fn (F := Ideal) (m ((c.tc : Thread Cert.RAttnBIdeal.nD Cert.RAttnBIdeal.τ).loc Cert.RAttnBIdeal.main_arg0)) (m ((c.tc : Thread Cert.RAttnBIdeal.nD Cert.RAttnBIdeal.τ).loc Cert.RAttnBIdeal.main_arg1)) (m ((c.tc : Thread Cert.RAttnBIdeal.nD Cert.RAttnBIdeal.τ).loc Cert.RAttnBIdeal.main_arg2)) (m ((c.tc : Thread Cert.RAttnBIdeal.nD Cert.RAttnBIdeal.τ).loc Cert.RAttnBIdeal.main_arg3)) (m ((c.tc : Thread Cert.RAttnBIdeal.nD Cert.RAttnBIdeal.τ).loc Cert.RAttnBIdeal.main_arg4))).2.2.1 = (fun _ => 1#1)
    ∧ (Cert.Pre_finite.fn (F := Ideal) (m ((c.tc : Thread Cert.RAttnBIdeal.nD Cert.RAttnBIdeal.τ).loc Cert.RAttnBIdeal.main_arg0)) (m ((c.tc : Thread Cert.RAttnBIdeal.nD Cert.RAttnBIdeal.τ).loc Cert.RAttnBIdeal.main_arg1)) (m ((c.tc : Thread Cert.RAttnBIdeal.nD Cert.RAttnBIdeal.τ).loc Cert.RAttnBIdeal.main_arg2)) (m ((c.tc : Thread Cert.RAttnBIdeal.nD Cert.RAttnBIdeal.τ).loc Cert.RAttnBIdeal.main_arg3)) (m ((c.tc : Thread Cert.RAttnBIdeal.nD Cert.RAttnBIdeal.τ).loc Cert.RAttnBIdeal.main_arg4))).2.2.2.1 = (fun _ => 1#1)
    ∧ (Cert.Pre_finite.fn (F := Ideal) (m ((c.tc : Thread Cert.RAttnBIdeal.nD Cert.RAttnBIdeal.τ).loc Cert.RAttnBIdeal.main_arg0)) (m ((c.tc : Thread Cert.RAttnBIdeal.nD Cert.RAttnBIdeal.τ).loc Cert.RAttnBIdeal.main_arg1)) (m ((c.tc : Thread Cert.RAttnBIdeal.nD Cert.RAttnBIdeal.τ).loc Cert.RAttnBIdeal.main_arg2)) (m ((c.tc : Thread Cert.RAttnBIdeal.nD Cert.RAttnBIdeal.τ).loc Cert.RAttnBIdeal.main_arg3)) (m ((c.tc : Thread Cert.RAttnBIdeal.nD Cert.RAttnBIdeal.τ).loc Cert.RAttnBIdeal.main_arg4))).2.2.2.2 = (fun _ => 1#1)

def Pre_KAttnF (m : (ℓ : Loc Cert.KAttnF.nD Cert.KAttnF.τ Cert.KAttnF.sig) → Buf (Elt Bits) ℓ) : Prop :=
  True

def Pre_KAttnFIdeal (m : (ℓ : Loc Cert.KAttnFIdeal.nD Cert.KAttnFIdeal.τ Cert.KAttnFIdeal.sig) → Buf (Elt Ideal) ℓ) : Prop :=
  True

def Pre_KAttnFIdeal_finite_args [hPre_finite_args : Cert.Pre_finite_args.Facts] (m : (ℓ : Loc Cert.KAttnFIdeal.nD Cert.KAttnFIdeal.τ Cert.KAttnFIdeal.sig) → Buf (Elt Ideal) ℓ) : Prop :=
  ∀ c : Dev Cert.KAttnFIdeal.nD,
    (Cert.Pre_finite_args.fn (F := Ideal) (m ((c.tc : Thread Cert.KAttnFIdeal.nD Cert.KAttnFIdeal.τ).loc Cert.KAttnFIdeal.main_arg0)) (m ((c.tc : Thread Cert.KAttnFIdeal.nD Cert.KAttnFIdeal.τ).loc Cert.KAttnFIdeal.main_arg1)) (m ((c.tc : Thread Cert.KAttnFIdeal.nD Cert.KAttnFIdeal.τ).loc Cert.KAttnFIdeal.main_arg2)) (m ((c.tc : Thread Cert.KAttnFIdeal.nD Cert.KAttnFIdeal.τ).loc Cert.KAttnFIdeal.main_arg3))).1 = (fun _ => 1#1)
    ∧ (Cert.Pre_finite_args.fn (F := Ideal) (m ((c.tc : Thread Cert.KAttnFIdeal.nD Cert.KAttnFIdeal.τ).loc Cert.KAttnFIdeal.main_arg0)) (m ((c.tc : Thread Cert.KAttnFIdeal.nD Cert.KAttnFIdeal.τ).loc Cert.KAttnFIdeal.main_arg1)) (m ((c.tc : Thread Cert.KAttnFIdeal.nD Cert.KAttnFIdeal.τ).loc Cert.KAttnFIdeal.main_arg2)) (m ((c.tc : Thread Cert.KAttnFIdeal.nD Cert.KAttnFIdeal.τ).loc Cert.KAttnFIdeal.main_arg3))).2.1 = (fun _ => 1#1)
    ∧ (Cert.Pre_finite_args.fn (F := Ideal) (m ((c.tc : Thread Cert.KAttnFIdeal.nD Cert.KAttnFIdeal.τ).loc Cert.KAttnFIdeal.main_arg0)) (m ((c.tc : Thread Cert.KAttnFIdeal.nD Cert.KAttnFIdeal.τ).loc Cert.KAttnFIdeal.main_arg1)) (m ((c.tc : Thread Cert.KAttnFIdeal.nD Cert.KAttnFIdeal.τ).loc Cert.KAttnFIdeal.main_arg2)) (m ((c.tc : Thread Cert.KAttnFIdeal.nD Cert.KAttnFIdeal.τ).loc Cert.KAttnFIdeal.main_arg3))).2.2.1 = (fun _ => 1#1)
    ∧ (Cert.Pre_finite_args.fn (F := Ideal) (m ((c.tc : Thread Cert.KAttnFIdeal.nD Cert.KAttnFIdeal.τ).loc Cert.KAttnFIdeal.main_arg0)) (m ((c.tc : Thread Cert.KAttnFIdeal.nD Cert.KAttnFIdeal.τ).loc Cert.KAttnFIdeal.main_arg1)) (m ((c.tc : Thread Cert.KAttnFIdeal.nD Cert.KAttnFIdeal.τ).loc Cert.KAttnFIdeal.main_arg2)) (m ((c.tc : Thread Cert.KAttnFIdeal.nD Cert.KAttnFIdeal.τ).loc Cert.KAttnFIdeal.main_arg3))).2.2.2 = (fun _ => 1#1)

def Pre_RAttnFIdeal (m : (ℓ : Loc Cert.RAttnFIdeal.nD Cert.RAttnFIdeal.τ Cert.RAttnFIdeal.sig) → Buf (Elt Ideal) ℓ) : Prop :=
  True

def Pre_RAttnFIdeal_finite_args [hPre_finite_args : Cert.Pre_finite_args.Facts] (m : (ℓ : Loc Cert.RAttnFIdeal.nD Cert.RAttnFIdeal.τ Cert.RAttnFIdeal.sig) → Buf (Elt Ideal) ℓ) : Prop :=
  ∀ c : Dev Cert.RAttnFIdeal.nD,
    (Cert.Pre_finite_args.fn (F := Ideal) (m ((c.tc : Thread Cert.RAttnFIdeal.nD Cert.RAttnFIdeal.τ).loc Cert.RAttnFIdeal.main_arg0)) (m ((c.tc : Thread Cert.RAttnFIdeal.nD Cert.RAttnFIdeal.τ).loc Cert.RAttnFIdeal.main_arg1)) (m ((c.tc : Thread Cert.RAttnFIdeal.nD Cert.RAttnFIdeal.τ).loc Cert.RAttnFIdeal.main_arg2)) (m ((c.tc : Thread Cert.RAttnFIdeal.nD Cert.RAttnFIdeal.τ).loc Cert.RAttnFIdeal.main_arg3))).1 = (fun _ => 1#1)
    ∧ (Cert.Pre_finite_args.fn (F := Ideal) (m ((c.tc : Thread Cert.RAttnFIdeal.nD Cert.RAttnFIdeal.τ).loc Cert.RAttnFIdeal.main_arg0)) (m ((c.tc : Thread Cert.RAttnFIdeal.nD Cert.RAttnFIdeal.τ).loc Cert.RAttnFIdeal.main_arg1)) (m ((c.tc : Thread Cert.RAttnFIdeal.nD Cert.RAttnFIdeal.τ).loc Cert.RAttnFIdeal.main_arg2)) (m ((c.tc : Thread Cert.RAttnFIdeal.nD Cert.RAttnFIdeal.τ).loc Cert.RAttnFIdeal.main_arg3))).2.1 = (fun _ => 1#1)
    ∧ (Cert.Pre_finite_args.fn (F := Ideal) (m ((c.tc : Thread Cert.RAttnFIdeal.nD Cert.RAttnFIdeal.τ).loc Cert.RAttnFIdeal.main_arg0)) (m ((c.tc : Thread Cert.RAttnFIdeal.nD Cert.RAttnFIdeal.τ).loc Cert.RAttnFIdeal.main_arg1)) (m ((c.tc : Thread Cert.RAttnFIdeal.nD Cert.RAttnFIdeal.τ).loc Cert.RAttnFIdeal.main_arg2)) (m ((c.tc : Thread Cert.RAttnFIdeal.nD Cert.RAttnFIdeal.τ).loc Cert.RAttnFIdeal.main_arg3))).2.2.1 = (fun _ => 1#1)
    ∧ (Cert.Pre_finite_args.fn (F := Ideal) (m ((c.tc : Thread Cert.RAttnFIdeal.nD Cert.RAttnFIdeal.τ).loc Cert.RAttnFIdeal.main_arg0)) (m ((c.tc : Thread Cert.RAttnFIdeal.nD Cert.RAttnFIdeal.τ).loc Cert.RAttnFIdeal.main_arg1)) (m ((c.tc : Thread Cert.RAttnFIdeal.nD Cert.RAttnFIdeal.τ).loc Cert.RAttnFIdeal.main_arg2)) (m ((c.tc : Thread Cert.RAttnFIdeal.nD Cert.RAttnFIdeal.τ).loc Cert.RAttnFIdeal.main_arg3))).2.2.2 = (fun _ => 1#1)

def quiescent_KRms [hKRms : Cert.KRms.Facts] : Prop :=
  ∀ (m : (ℓ : Loc Cert.KRms.nD Cert.KRms.τ Cert.KRms.sig) → Buf (Elt Bits) ℓ) (g : Dev Cert.KRms.nD → PrngReg), Pre_KRms m →
    θ_run (Cert.KRms.defs (F := Bits)) (onTc (τ := Cert.KRms.τ) (Cert.KRms.main (F := Bits))) ⟨m, fun _ => 0, g⟩ (fun r => (∀ c : Dev Cert.KRms.nD,
      r.2.mem ((c.tc : Thread Cert.KRms.nD Cert.KRms.τ).loc Cert.KRms.main_arg0) = m ((c.tc : Thread Cert.KRms.nD Cert.KRms.τ).loc Cert.KRms.main_arg0)
      ∧ r.2.mem ((c.tc : Thread Cert.KRms.nD Cert.KRms.τ).loc Cert.KRms.main_arg1) = m ((c.tc : Thread Cert.KRms.nD Cert.KRms.τ).loc Cert.KRms.main_arg1)
      ∧ r.2.mem ((c.tc : Thread Cert.KRms.nD Cert.KRms.τ).loc Cert.KRms.main_arg2) = m ((c.tc : Thread Cert.KRms.nD Cert.KRms.τ).loc Cert.KRms.main_arg2)
      ∧ r.2.mem ((c.tc : Thread Cert.KRms.nD Cert.KRms.τ).loc Cert.KRms.main_arg3) = m ((c.tc : Thread Cert.KRms.nD Cert.KRms.τ).loc Cert.KRms.main_arg3))
      ∧ r.2.sem = fun _ => 0)

def quiescent_KRmsIdeal [hKRmsIdeal : Cert.KRmsIdeal.Facts] : Prop :=
  ∀ (m : (ℓ : Loc Cert.KRmsIdeal.nD Cert.KRmsIdeal.τ Cert.KRmsIdeal.sig) → Buf (Elt Ideal) ℓ) (g : Dev Cert.KRmsIdeal.nD → PrngReg), Pre_KRmsIdeal m →
    θ_run (Cert.KRmsIdeal.defs (F := Ideal)) (onTc (τ := Cert.KRmsIdeal.τ) (Cert.KRmsIdeal.main (F := Ideal))) ⟨m, fun _ => 0, g⟩ (fun r => (∀ c : Dev Cert.KRmsIdeal.nD,
      r.2.mem ((c.tc : Thread Cert.KRmsIdeal.nD Cert.KRmsIdeal.τ).loc Cert.KRmsIdeal.main_arg0) = m ((c.tc : Thread Cert.KRmsIdeal.nD Cert.KRmsIdeal.τ).loc Cert.KRmsIdeal.main_arg0)
      ∧ r.2.mem ((c.tc : Thread Cert.KRmsIdeal.nD Cert.KRmsIdeal.τ).loc Cert.KRmsIdeal.main_arg1) = m ((c.tc : Thread Cert.KRmsIdeal.nD Cert.KRmsIdeal.τ).loc Cert.KRmsIdeal.main_arg1)
      ∧ r.2.mem ((c.tc : Thread Cert.KRmsIdeal.nD Cert.KRmsIdeal.τ).loc Cert.KRmsIdeal.main_arg2) = m ((c.tc : Thread Cert.KRmsIdeal.nD Cert.KRmsIdeal.τ).loc Cert.KRmsIdeal.main_arg2)
      ∧ r.2.mem ((c.tc : Thread Cert.KRmsIdeal.nD Cert.KRmsIdeal.τ).loc Cert.KRmsIdeal.main_arg3) = m ((c.tc : Thread Cert.KRmsIdeal.nD Cert.KRmsIdeal.τ).loc Cert.KRmsIdeal.main_arg3))
      ∧ r.2.sem = fun _ => 0)

def quiescent_RRmsIdeal [hRRmsIdeal : Cert.RRmsIdeal.Facts] : Prop :=
  ∀ (m : (ℓ : Loc Cert.RRmsIdeal.nD Cert.RRmsIdeal.τ Cert.RRmsIdeal.sig) → Buf (Elt Ideal) ℓ) (g : Dev Cert.RRmsIdeal.nD → PrngReg), Pre_RRmsIdeal m →
    θ_run (Cert.RRmsIdeal.defs (F := Ideal)) (onTc (τ := Cert.RRmsIdeal.τ) (Cert.RRmsIdeal.main (F := Ideal))) ⟨m, fun _ => 0, g⟩ (fun r => (∀ c : Dev Cert.RRmsIdeal.nD,
      r.2.mem ((c.tc : Thread Cert.RRmsIdeal.nD Cert.RRmsIdeal.τ).loc Cert.RRmsIdeal.main_arg0) = m ((c.tc : Thread Cert.RRmsIdeal.nD Cert.RRmsIdeal.τ).loc Cert.RRmsIdeal.main_arg0)
      ∧ r.2.mem ((c.tc : Thread Cert.RRmsIdeal.nD Cert.RRmsIdeal.τ).loc Cert.RRmsIdeal.main_arg1) = m ((c.tc : Thread Cert.RRmsIdeal.nD Cert.RRmsIdeal.τ).loc Cert.RRmsIdeal.main_arg1)
      ∧ r.2.mem ((c.tc : Thread Cert.RRmsIdeal.nD Cert.RRmsIdeal.τ).loc Cert.RRmsIdeal.main_arg2) = m ((c.tc : Thread Cert.RRmsIdeal.nD Cert.RRmsIdeal.τ).loc Cert.RRmsIdeal.main_arg2)
      ∧ r.2.mem ((c.tc : Thread Cert.RRmsIdeal.nD Cert.RRmsIdeal.τ).loc Cert.RRmsIdeal.main_arg3) = m ((c.tc : Thread Cert.RRmsIdeal.nD Cert.RRmsIdeal.τ).loc Cert.RRmsIdeal.main_arg3))
      ∧ r.2.sem = fun _ => 0)

def quiescent_KPost [hKPost : Cert.KPost.Facts] : Prop :=
  ∀ (m : (ℓ : Loc Cert.KPost.nD Cert.KPost.τ Cert.KPost.sig) → Buf (Elt Bits) ℓ) (g : Dev Cert.KPost.nD → PrngReg), Pre_KPost m →
    θ_run (Cert.KPost.defs (F := Bits)) (onTc (τ := Cert.KPost.τ) (Cert.KPost.main (F := Bits))) ⟨m, fun _ => 0, g⟩ (fun r => (∀ c : Dev Cert.KPost.nD,
      r.2.mem ((c.tc : Thread Cert.KPost.nD Cert.KPost.τ).loc Cert.KPost.main_arg0) = m ((c.tc : Thread Cert.KPost.nD Cert.KPost.τ).loc Cert.KPost.main_arg0)
      ∧ r.2.mem ((c.tc : Thread Cert.KPost.nD Cert.KPost.τ).loc Cert.KPost.main_arg1) = m ((c.tc : Thread Cert.KPost.nD Cert.KPost.τ).loc Cert.KPost.main_arg1)
      ∧ r.2.mem ((c.tc : Thread Cert.KPost.nD Cert.KPost.τ).loc Cert.KPost.main_arg2) = m ((c.tc : Thread Cert.KPost.nD Cert.KPost.τ).loc Cert.KPost.main_arg2))
      ∧ r.2.sem = fun _ => 0)

def quiescent_KPostIdeal [hKPostIdeal : Cert.KPostIdeal.Facts] : Prop :=
  ∀ (m : (ℓ : Loc Cert.KPostIdeal.nD Cert.KPostIdeal.τ Cert.KPostIdeal.sig) → Buf (Elt Ideal) ℓ) (g : Dev Cert.KPostIdeal.nD → PrngReg), Pre_KPostIdeal m →
    θ_run (Cert.KPostIdeal.defs (F := Ideal)) (onTc (τ := Cert.KPostIdeal.τ) (Cert.KPostIdeal.main (F := Ideal))) ⟨m, fun _ => 0, g⟩ (fun r => (∀ c : Dev Cert.KPostIdeal.nD,
      r.2.mem ((c.tc : Thread Cert.KPostIdeal.nD Cert.KPostIdeal.τ).loc Cert.KPostIdeal.main_arg0) = m ((c.tc : Thread Cert.KPostIdeal.nD Cert.KPostIdeal.τ).loc Cert.KPostIdeal.main_arg0)
      ∧ r.2.mem ((c.tc : Thread Cert.KPostIdeal.nD Cert.KPostIdeal.τ).loc Cert.KPostIdeal.main_arg1) = m ((c.tc : Thread Cert.KPostIdeal.nD Cert.KPostIdeal.τ).loc Cert.KPostIdeal.main_arg1)
      ∧ r.2.mem ((c.tc : Thread Cert.KPostIdeal.nD Cert.KPostIdeal.τ).loc Cert.KPostIdeal.main_arg2) = m ((c.tc : Thread Cert.KPostIdeal.nD Cert.KPostIdeal.τ).loc Cert.KPostIdeal.main_arg2))
      ∧ r.2.sem = fun _ => 0)

def quiescent_RPostIdeal [hRPostIdeal : Cert.RPostIdeal.Facts] : Prop :=
  ∀ (m : (ℓ : Loc Cert.RPostIdeal.nD Cert.RPostIdeal.τ Cert.RPostIdeal.sig) → Buf (Elt Ideal) ℓ) (g : Dev Cert.RPostIdeal.nD → PrngReg), Pre_RPostIdeal m →
    θ_run (Cert.RPostIdeal.defs (F := Ideal)) (onTc (τ := Cert.RPostIdeal.τ) (Cert.RPostIdeal.main (F := Ideal))) ⟨m, fun _ => 0, g⟩ (fun r => (∀ c : Dev Cert.RPostIdeal.nD,
      r.2.mem ((c.tc : Thread Cert.RPostIdeal.nD Cert.RPostIdeal.τ).loc Cert.RPostIdeal.main_arg0) = m ((c.tc : Thread Cert.RPostIdeal.nD Cert.RPostIdeal.τ).loc Cert.RPostIdeal.main_arg0)
      ∧ r.2.mem ((c.tc : Thread Cert.RPostIdeal.nD Cert.RPostIdeal.τ).loc Cert.RPostIdeal.main_arg1) = m ((c.tc : Thread Cert.RPostIdeal.nD Cert.RPostIdeal.τ).loc Cert.RPostIdeal.main_arg1)
      ∧ r.2.mem ((c.tc : Thread Cert.RPostIdeal.nD Cert.RPostIdeal.τ).loc Cert.RPostIdeal.main_arg2) = m ((c.tc : Thread Cert.RPostIdeal.nD Cert.RPostIdeal.τ).loc Cert.RPostIdeal.main_arg2))
      ∧ r.2.sem = fun _ => 0)

def quiescent_KPle [hKPle : Cert.KPle.Facts] : Prop :=
  ∀ (m : (ℓ : Loc Cert.KPle.nD Cert.KPle.τ Cert.KPle.sig) → Buf (Elt Bits) ℓ) (g : Dev Cert.KPle.nD → PrngReg), Pre_KPle m →
    θ_run (Cert.KPle.defs (F := Bits)) (onTc (τ := Cert.KPle.τ) (Cert.KPle.main (F := Bits))) ⟨m, fun _ => 0, g⟩ (fun r => (∀ c : Dev Cert.KPle.nD,
      r.2.mem ((c.tc : Thread Cert.KPle.nD Cert.KPle.τ).loc Cert.KPle.main_arg0) = m ((c.tc : Thread Cert.KPle.nD Cert.KPle.τ).loc Cert.KPle.main_arg0)
      ∧ r.2.mem ((c.tc : Thread Cert.KPle.nD Cert.KPle.τ).loc Cert.KPle.main_arg1) = m ((c.tc : Thread Cert.KPle.nD Cert.KPle.τ).loc Cert.KPle.main_arg1)
      ∧ r.2.mem ((c.tc : Thread Cert.KPle.nD Cert.KPle.τ).loc Cert.KPle.main_arg2) = m ((c.tc : Thread Cert.KPle.nD Cert.KPle.τ).loc Cert.KPle.main_arg2)
      ∧ r.2.mem ((c.tc : Thread Cert.KPle.nD Cert.KPle.τ).loc Cert.KPle.main_arg3) = m ((c.tc : Thread Cert.KPle.nD Cert.KPle.τ).loc Cert.KPle.main_arg3))
      ∧ r.2.sem = fun _ => 0)

def quiescent_KPleIdeal [hKPleIdeal : Cert.KPleIdeal.Facts] : Prop :=
  ∀ (m : (ℓ : Loc Cert.KPleIdeal.nD Cert.KPleIdeal.τ Cert.KPleIdeal.sig) → Buf (Elt Ideal) ℓ) (g : Dev Cert.KPleIdeal.nD → PrngReg), Pre_KPleIdeal m →
    θ_run (Cert.KPleIdeal.defs (F := Ideal)) (onTc (τ := Cert.KPleIdeal.τ) (Cert.KPleIdeal.main (F := Ideal))) ⟨m, fun _ => 0, g⟩ (fun r => (∀ c : Dev Cert.KPleIdeal.nD,
      r.2.mem ((c.tc : Thread Cert.KPleIdeal.nD Cert.KPleIdeal.τ).loc Cert.KPleIdeal.main_arg0) = m ((c.tc : Thread Cert.KPleIdeal.nD Cert.KPleIdeal.τ).loc Cert.KPleIdeal.main_arg0)
      ∧ r.2.mem ((c.tc : Thread Cert.KPleIdeal.nD Cert.KPleIdeal.τ).loc Cert.KPleIdeal.main_arg1) = m ((c.tc : Thread Cert.KPleIdeal.nD Cert.KPleIdeal.τ).loc Cert.KPleIdeal.main_arg1)
      ∧ r.2.mem ((c.tc : Thread Cert.KPleIdeal.nD Cert.KPleIdeal.τ).loc Cert.KPleIdeal.main_arg2) = m ((c.tc : Thread Cert.KPleIdeal.nD Cert.KPleIdeal.τ).loc Cert.KPleIdeal.main_arg2)
      ∧ r.2.mem ((c.tc : Thread Cert.KPleIdeal.nD Cert.KPleIdeal.τ).loc Cert.KPleIdeal.main_arg3) = m ((c.tc : Thread Cert.KPleIdeal.nD Cert.KPleIdeal.τ).loc Cert.KPleIdeal.main_arg3))
      ∧ r.2.sem = fun _ => 0)

def quiescent_RPleIdeal [hRPleIdeal : Cert.RPleIdeal.Facts] : Prop :=
  ∀ (m : (ℓ : Loc Cert.RPleIdeal.nD Cert.RPleIdeal.τ Cert.RPleIdeal.sig) → Buf (Elt Ideal) ℓ) (g : Dev Cert.RPleIdeal.nD → PrngReg), Pre_RPleIdeal m →
    θ_run (Cert.RPleIdeal.defs (F := Ideal)) (onTc (τ := Cert.RPleIdeal.τ) (Cert.RPleIdeal.main (F := Ideal))) ⟨m, fun _ => 0, g⟩ (fun r => (∀ c : Dev Cert.RPleIdeal.nD,
      r.2.mem ((c.tc : Thread Cert.RPleIdeal.nD Cert.RPleIdeal.τ).loc Cert.RPleIdeal.main_arg0) = m ((c.tc : Thread Cert.RPleIdeal.nD Cert.RPleIdeal.τ).loc Cert.RPleIdeal.main_arg0)
      ∧ r.2.mem ((c.tc : Thread Cert.RPleIdeal.nD Cert.RPleIdeal.τ).loc Cert.RPleIdeal.main_arg1) = m ((c.tc : Thread Cert.RPleIdeal.nD Cert.RPleIdeal.τ).loc Cert.RPleIdeal.main_arg1)
      ∧ r.2.mem ((c.tc : Thread Cert.RPleIdeal.nD Cert.RPleIdeal.τ).loc Cert.RPleIdeal.main_arg2) = m ((c.tc : Thread Cert.RPleIdeal.nD Cert.RPleIdeal.τ).loc Cert.RPleIdeal.main_arg2)
      ∧ r.2.mem ((c.tc : Thread Cert.RPleIdeal.nD Cert.RPleIdeal.τ).loc Cert.RPleIdeal.main_arg3) = m ((c.tc : Thread Cert.RPleIdeal.nD Cert.RPleIdeal.τ).loc Cert.RPleIdeal.main_arg3))
      ∧ r.2.sem = fun _ => 0)

def quiescent_KConv [hKConv : Cert.KConv.Facts] : Prop :=
  ∀ (m : (ℓ : Loc Cert.KConv.nD Cert.KConv.τ Cert.KConv.sig) → Buf (Elt Bits) ℓ) (g : Dev Cert.KConv.nD → PrngReg), Pre_KConv m →
    θ_run (Cert.KConv.defs (F := Bits)) (onTc (τ := Cert.KConv.τ) (Cert.KConv.main (F := Bits))) ⟨m, fun _ => 0, g⟩ (fun r => (∀ c : Dev Cert.KConv.nD,
      r.2.mem ((c.tc : Thread Cert.KConv.nD Cert.KConv.τ).loc Cert.KConv.main_arg0) = m ((c.tc : Thread Cert.KConv.nD Cert.KConv.τ).loc Cert.KConv.main_arg0)
      ∧ r.2.mem ((c.tc : Thread Cert.KConv.nD Cert.KConv.τ).loc Cert.KConv.main_arg1) = m ((c.tc : Thread Cert.KConv.nD Cert.KConv.τ).loc Cert.KConv.main_arg1)
      ∧ r.2.mem ((c.tc : Thread Cert.KConv.nD Cert.KConv.τ).loc Cert.KConv.main_arg2) = m ((c.tc : Thread Cert.KConv.nD Cert.KConv.τ).loc Cert.KConv.main_arg2))
      ∧ r.2.sem = fun _ => 0)

def quiescent_KConvIdeal [hKConvIdeal : Cert.KConvIdeal.Facts] : Prop :=
  ∀ (m : (ℓ : Loc Cert.KConvIdeal.nD Cert.KConvIdeal.τ Cert.KConvIdeal.sig) → Buf (Elt Ideal) ℓ) (g : Dev Cert.KConvIdeal.nD → PrngReg), Pre_KConvIdeal m →
    θ_run (Cert.KConvIdeal.defs (F := Ideal)) (onTc (τ := Cert.KConvIdeal.τ) (Cert.KConvIdeal.main (F := Ideal))) ⟨m, fun _ => 0, g⟩ (fun r => (∀ c : Dev Cert.KConvIdeal.nD,
      r.2.mem ((c.tc : Thread Cert.KConvIdeal.nD Cert.KConvIdeal.τ).loc Cert.KConvIdeal.main_arg0) = m ((c.tc : Thread Cert.KConvIdeal.nD Cert.KConvIdeal.τ).loc Cert.KConvIdeal.main_arg0)
      ∧ r.2.mem ((c.tc : Thread Cert.KConvIdeal.nD Cert.KConvIdeal.τ).loc Cert.KConvIdeal.main_arg1) = m ((c.tc : Thread Cert.KConvIdeal.nD Cert.KConvIdeal.τ).loc Cert.KConvIdeal.main_arg1)
      ∧ r.2.mem ((c.tc : Thread Cert.KConvIdeal.nD Cert.KConvIdeal.τ).loc Cert.KConvIdeal.main_arg2) = m ((c.tc : Thread Cert.KConvIdeal.nD Cert.KConvIdeal.τ).loc Cert.KConvIdeal.main_arg2))
      ∧ r.2.sem = fun _ => 0)

def quiescent_RConvIdeal [hRConvIdeal : Cert.RConvIdeal.Facts] : Prop :=
  ∀ (m : (ℓ : Loc Cert.RConvIdeal.nD Cert.RConvIdeal.τ Cert.RConvIdeal.sig) → Buf (Elt Ideal) ℓ) (g : Dev Cert.RConvIdeal.nD → PrngReg), Pre_RConvIdeal m →
    θ_run (Cert.RConvIdeal.defs (F := Ideal)) (onTc (τ := Cert.RConvIdeal.τ) (Cert.RConvIdeal.main (F := Ideal))) ⟨m, fun _ => 0, g⟩ (fun r => (∀ c : Dev Cert.RConvIdeal.nD,
      r.2.mem ((c.tc : Thread Cert.RConvIdeal.nD Cert.RConvIdeal.τ).loc Cert.RConvIdeal.main_arg0) = m ((c.tc : Thread Cert.RConvIdeal.nD Cert.RConvIdeal.τ).loc Cert.RConvIdeal.main_arg0)
      ∧ r.2.mem ((c.tc : Thread Cert.RConvIdeal.nD Cert.RConvIdeal.τ).loc Cert.RConvIdeal.main_arg1) = m ((c.tc : Thread Cert.RConvIdeal.nD Cert.RConvIdeal.τ).loc Cert.RConvIdeal.main_arg1)
      ∧ r.2.mem ((c.tc : Thread Cert.RConvIdeal.nD Cert.RConvIdeal.τ).loc Cert.RConvIdeal.main_arg2) = m ((c.tc : Thread Cert.RConvIdeal.nD Cert.RConvIdeal.τ).loc Cert.RConvIdeal.main_arg2))
      ∧ r.2.sem = fun _ => 0)

def quiescent_KFfn [hKFfn : Cert.KFfn.Facts] : Prop :=
  ∀ (m : (ℓ : Loc Cert.KFfn.nD Cert.KFfn.τ Cert.KFfn.sig) → Buf (Elt Bits) ℓ) (g : Dev Cert.KFfn.nD → PrngReg), Pre_KFfn m →
    θ_run (Cert.KFfn.defs (F := Bits)) (onTc (τ := Cert.KFfn.τ) (Cert.KFfn.main (F := Bits))) ⟨m, fun _ => 0, g⟩ (fun r => (∀ c : Dev Cert.KFfn.nD,
      r.2.mem ((c.tc : Thread Cert.KFfn.nD Cert.KFfn.τ).loc Cert.KFfn.main_arg0) = m ((c.tc : Thread Cert.KFfn.nD Cert.KFfn.τ).loc Cert.KFfn.main_arg0)
      ∧ r.2.mem ((c.tc : Thread Cert.KFfn.nD Cert.KFfn.τ).loc Cert.KFfn.main_arg1) = m ((c.tc : Thread Cert.KFfn.nD Cert.KFfn.τ).loc Cert.KFfn.main_arg1)
      ∧ r.2.mem ((c.tc : Thread Cert.KFfn.nD Cert.KFfn.τ).loc Cert.KFfn.main_arg2) = m ((c.tc : Thread Cert.KFfn.nD Cert.KFfn.τ).loc Cert.KFfn.main_arg2))
      ∧ r.2.sem = fun _ => 0)

def quiescent_KFfnIdeal [hKFfnIdeal : Cert.KFfnIdeal.Facts] : Prop :=
  ∀ (m : (ℓ : Loc Cert.KFfnIdeal.nD Cert.KFfnIdeal.τ Cert.KFfnIdeal.sig) → Buf (Elt Ideal) ℓ) (g : Dev Cert.KFfnIdeal.nD → PrngReg), Pre_KFfnIdeal m →
    θ_run (Cert.KFfnIdeal.defs (F := Ideal)) (onTc (τ := Cert.KFfnIdeal.τ) (Cert.KFfnIdeal.main (F := Ideal))) ⟨m, fun _ => 0, g⟩ (fun r => (∀ c : Dev Cert.KFfnIdeal.nD,
      r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
      ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
      ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2))
      ∧ r.2.sem = fun _ => 0)

def quiescent_RFfnIdeal [hRFfnIdeal : Cert.RFfnIdeal.Facts] : Prop :=
  ∀ (m : (ℓ : Loc Cert.RFfnIdeal.nD Cert.RFfnIdeal.τ Cert.RFfnIdeal.sig) → Buf (Elt Ideal) ℓ) (g : Dev Cert.RFfnIdeal.nD → PrngReg), Pre_RFfnIdeal m →
    θ_run (Cert.RFfnIdeal.defs (F := Ideal)) (onTc (τ := Cert.RFfnIdeal.τ) (Cert.RFfnIdeal.main (F := Ideal))) ⟨m, fun _ => 0, g⟩ (fun r => (∀ c : Dev Cert.RFfnIdeal.nD,
      r.2.mem ((c.tc : Thread Cert.RFfnIdeal.nD Cert.RFfnIdeal.τ).loc Cert.RFfnIdeal.main_arg0) = m ((c.tc : Thread Cert.RFfnIdeal.nD Cert.RFfnIdeal.τ).loc Cert.RFfnIdeal.main_arg0)
      ∧ r.2.mem ((c.tc : Thread Cert.RFfnIdeal.nD Cert.RFfnIdeal.τ).loc Cert.RFfnIdeal.main_arg1) = m ((c.tc : Thread Cert.RFfnIdeal.nD Cert.RFfnIdeal.τ).loc Cert.RFfnIdeal.main_arg1)
      ∧ r.2.mem ((c.tc : Thread Cert.RFfnIdeal.nD Cert.RFfnIdeal.τ).loc Cert.RFfnIdeal.main_arg2) = m ((c.tc : Thread Cert.RFfnIdeal.nD Cert.RFfnIdeal.τ).loc Cert.RFfnIdeal.main_arg2))
      ∧ r.2.sem = fun _ => 0)

def quiescent_KLoss [hKLoss : Cert.KLoss.Facts] : Prop :=
  ∀ (m : (ℓ : Loc Cert.KLoss.nD Cert.KLoss.τ Cert.KLoss.sig) → Buf (Elt Bits) ℓ) (g : Dev Cert.KLoss.nD → PrngReg), Pre_KLoss m →
    θ_run (Cert.KLoss.defs (F := Bits)) (onTc (τ := Cert.KLoss.τ) (Cert.KLoss.main (F := Bits))) ⟨m, fun _ => 0, g⟩ (fun r => (∀ c : Dev Cert.KLoss.nD,
      r.2.mem ((c.tc : Thread Cert.KLoss.nD Cert.KLoss.τ).loc Cert.KLoss.main_arg0) = m ((c.tc : Thread Cert.KLoss.nD Cert.KLoss.τ).loc Cert.KLoss.main_arg0)
      ∧ r.2.mem ((c.tc : Thread Cert.KLoss.nD Cert.KLoss.τ).loc Cert.KLoss.main_arg1) = m ((c.tc : Thread Cert.KLoss.nD Cert.KLoss.τ).loc Cert.KLoss.main_arg1))
      ∧ r.2.sem = fun _ => 0)

def quiescent_KLossIdeal [hKLossIdeal : Cert.KLossIdeal.Facts] : Prop :=
  ∀ (m : (ℓ : Loc Cert.KLossIdeal.nD Cert.KLossIdeal.τ Cert.KLossIdeal.sig) → Buf (Elt Ideal) ℓ) (g : Dev Cert.KLossIdeal.nD → PrngReg), Pre_KLossIdeal m →
    θ_run (Cert.KLossIdeal.defs (F := Ideal)) (onTc (τ := Cert.KLossIdeal.τ) (Cert.KLossIdeal.main (F := Ideal))) ⟨m, fun _ => 0, g⟩ (fun r => (∀ c : Dev Cert.KLossIdeal.nD,
      r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
      ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1))
      ∧ r.2.sem = fun _ => 0)

def quiescent_RLossIdeal [hRLossIdeal : Cert.RLossIdeal.Facts] : Prop :=
  ∀ (m : (ℓ : Loc Cert.RLossIdeal.nD Cert.RLossIdeal.τ Cert.RLossIdeal.sig) → Buf (Elt Ideal) ℓ) (g : Dev Cert.RLossIdeal.nD → PrngReg), Pre_RLossIdeal m →
    θ_run (Cert.RLossIdeal.defs (F := Ideal)) (onTc (τ := Cert.RLossIdeal.τ) (Cert.RLossIdeal.main (F := Ideal))) ⟨m, fun _ => 0, g⟩ (fun r => (∀ c : Dev Cert.RLossIdeal.nD,
      r.2.mem ((c.tc : Thread Cert.RLossIdeal.nD Cert.RLossIdeal.τ).loc Cert.RLossIdeal.main_arg0) = m ((c.tc : Thread Cert.RLossIdeal.nD Cert.RLossIdeal.τ).loc Cert.RLossIdeal.main_arg0)
      ∧ r.2.mem ((c.tc : Thread Cert.RLossIdeal.nD Cert.RLossIdeal.τ).loc Cert.RLossIdeal.main_arg1) = m ((c.tc : Thread Cert.RLossIdeal.nD Cert.RLossIdeal.τ).loc Cert.RLossIdeal.main_arg1))
      ∧ r.2.sem = fun _ => 0)

def quiescent_KQrope [hKQrope : Cert.KQrope.Facts] : Prop :=
  ∀ (m : (ℓ : Loc Cert.KQrope.nD Cert.KQrope.τ Cert.KQrope.sig) → Buf (Elt Bits) ℓ) (g : Dev Cert.KQrope.nD → PrngReg), Pre_KQrope m →
    θ_run (Cert.KQrope.defs (F := Bits)) (onTc (τ := Cert.KQrope.τ) (Cert.KQrope.main (F := Bits))) ⟨m, fun _ => 0, g⟩ (fun r => (∀ c : Dev Cert.KQrope.nD,
      r.2.mem ((c.tc : Thread Cert.KQrope.nD Cert.KQrope.τ).loc Cert.KQrope.main_arg0) = m ((c.tc : Thread Cert.KQrope.nD Cert.KQrope.τ).loc Cert.KQrope.main_arg0)
      ∧ r.2.mem ((c.tc : Thread Cert.KQrope.nD Cert.KQrope.τ).loc Cert.KQrope.main_arg1) = m ((c.tc : Thread Cert.KQrope.nD Cert.KQrope.τ).loc Cert.KQrope.main_arg1)
      ∧ r.2.mem ((c.tc : Thread Cert.KQrope.nD Cert.KQrope.τ).loc Cert.KQrope.main_arg2) = m ((c.tc : Thread Cert.KQrope.nD Cert.KQrope.τ).loc Cert.KQrope.main_arg2))
      ∧ r.2.sem = fun _ => 0)

def quiescent_KQropeIdeal [hKQropeIdeal : Cert.KQropeIdeal.Facts] : Prop :=
  ∀ (m : (ℓ : Loc Cert.KQropeIdeal.nD Cert.KQropeIdeal.τ Cert.KQropeIdeal.sig) → Buf (Elt Ideal) ℓ) (g : Dev Cert.KQropeIdeal.nD → PrngReg), Pre_KQropeIdeal m →
    θ_run (Cert.KQropeIdeal.defs (F := Ideal)) (onTc (τ := Cert.KQropeIdeal.τ) (Cert.KQropeIdeal.main (F := Ideal))) ⟨m, fun _ => 0, g⟩ (fun r => (∀ c : Dev Cert.KQropeIdeal.nD,
      r.2.mem ((c.tc : Thread Cert.KQropeIdeal.nD Cert.KQropeIdeal.τ).loc Cert.KQropeIdeal.main_arg0) = m ((c.tc : Thread Cert.KQropeIdeal.nD Cert.KQropeIdeal.τ).loc Cert.KQropeIdeal.main_arg0)
      ∧ r.2.mem ((c.tc : Thread Cert.KQropeIdeal.nD Cert.KQropeIdeal.τ).loc Cert.KQropeIdeal.main_arg1) = m ((c.tc : Thread Cert.KQropeIdeal.nD Cert.KQropeIdeal.τ).loc Cert.KQropeIdeal.main_arg1)
      ∧ r.2.mem ((c.tc : Thread Cert.KQropeIdeal.nD Cert.KQropeIdeal.τ).loc Cert.KQropeIdeal.main_arg2) = m ((c.tc : Thread Cert.KQropeIdeal.nD Cert.KQropeIdeal.τ).loc Cert.KQropeIdeal.main_arg2))
      ∧ r.2.sem = fun _ => 0)

def quiescent_RQropeIdeal [hRQropeIdeal : Cert.RQropeIdeal.Facts] : Prop :=
  ∀ (m : (ℓ : Loc Cert.RQropeIdeal.nD Cert.RQropeIdeal.τ Cert.RQropeIdeal.sig) → Buf (Elt Ideal) ℓ) (g : Dev Cert.RQropeIdeal.nD → PrngReg), Pre_RQropeIdeal m →
    θ_run (Cert.RQropeIdeal.defs (F := Ideal)) (onTc (τ := Cert.RQropeIdeal.τ) (Cert.RQropeIdeal.main (F := Ideal))) ⟨m, fun _ => 0, g⟩ (fun r => (∀ c : Dev Cert.RQropeIdeal.nD,
      r.2.mem ((c.tc : Thread Cert.RQropeIdeal.nD Cert.RQropeIdeal.τ).loc Cert.RQropeIdeal.main_arg0) = m ((c.tc : Thread Cert.RQropeIdeal.nD Cert.RQropeIdeal.τ).loc Cert.RQropeIdeal.main_arg0)
      ∧ r.2.mem ((c.tc : Thread Cert.RQropeIdeal.nD Cert.RQropeIdeal.τ).loc Cert.RQropeIdeal.main_arg1) = m ((c.tc : Thread Cert.RQropeIdeal.nD Cert.RQropeIdeal.τ).loc Cert.RQropeIdeal.main_arg1)
      ∧ r.2.mem ((c.tc : Thread Cert.RQropeIdeal.nD Cert.RQropeIdeal.τ).loc Cert.RQropeIdeal.main_arg2) = m ((c.tc : Thread Cert.RQropeIdeal.nD Cert.RQropeIdeal.τ).loc Cert.RQropeIdeal.main_arg2))
      ∧ r.2.sem = fun _ => 0)

def quiescent_KKprep [hKKprep : Cert.KKprep.Facts] : Prop :=
  ∀ (m : (ℓ : Loc Cert.KKprep.nD Cert.KKprep.τ Cert.KKprep.sig) → Buf (Elt Bits) ℓ) (g : Dev Cert.KKprep.nD → PrngReg), Pre_KKprep m →
    θ_run (Cert.KKprep.defs (F := Bits)) (onTc (τ := Cert.KKprep.τ) (Cert.KKprep.main (F := Bits))) ⟨m, fun _ => 0, g⟩ (fun r => (∀ c : Dev Cert.KKprep.nD,
      r.2.mem ((c.tc : Thread Cert.KKprep.nD Cert.KKprep.τ).loc Cert.KKprep.main_arg0) = m ((c.tc : Thread Cert.KKprep.nD Cert.KKprep.τ).loc Cert.KKprep.main_arg0)
      ∧ r.2.mem ((c.tc : Thread Cert.KKprep.nD Cert.KKprep.τ).loc Cert.KKprep.main_arg1) = m ((c.tc : Thread Cert.KKprep.nD Cert.KKprep.τ).loc Cert.KKprep.main_arg1)
      ∧ r.2.mem ((c.tc : Thread Cert.KKprep.nD Cert.KKprep.τ).loc Cert.KKprep.main_arg2) = m ((c.tc : Thread Cert.KKprep.nD Cert.KKprep.τ).loc Cert.KKprep.main_arg2)
      ∧ r.2.mem ((c.tc : Thread Cert.KKprep.nD Cert.KKprep.τ).loc Cert.KKprep.main_arg3) = m ((c.tc : Thread Cert.KKprep.nD Cert.KKprep.τ).loc Cert.KKprep.main_arg3)
      ∧ r.2.mem ((c.tc : Thread Cert.KKprep.nD Cert.KKprep.τ).loc Cert.KKprep.main_arg4) = m ((c.tc : Thread Cert.KKprep.nD Cert.KKprep.τ).loc Cert.KKprep.main_arg4)
      ∧ r.2.mem ((c.tc : Thread Cert.KKprep.nD Cert.KKprep.τ).loc Cert.KKprep.main_arg5) = m ((c.tc : Thread Cert.KKprep.nD Cert.KKprep.τ).loc Cert.KKprep.main_arg5)
      ∧ r.2.mem ((c.tc : Thread Cert.KKprep.nD Cert.KKprep.τ).loc Cert.KKprep.main_arg6) = m ((c.tc : Thread Cert.KKprep.nD Cert.KKprep.τ).loc Cert.KKprep.main_arg6)
      ∧ r.2.mem ((c.tc : Thread Cert.KKprep.nD Cert.KKprep.τ).loc Cert.KKprep.main_arg7) = m ((c.tc : Thread Cert.KKprep.nD Cert.KKprep.τ).loc Cert.KKprep.main_arg7))
      ∧ r.2.sem = fun _ => 0)

def quiescent_KKprepIdeal [hKKprepIdeal : Cert.KKprepIdeal.Facts] : Prop :=
  ∀ (m : (ℓ : Loc Cert.KKprepIdeal.nD Cert.KKprepIdeal.τ Cert.KKprepIdeal.sig) → Buf (Elt Ideal) ℓ) (g : Dev Cert.KKprepIdeal.nD → PrngReg), Pre_KKprepIdeal m →
    θ_run (Cert.KKprepIdeal.defs (F := Ideal)) (onTc (τ := Cert.KKprepIdeal.τ) (Cert.KKprepIdeal.main (F := Ideal))) ⟨m, fun _ => 0, g⟩ (fun r => (∀ c : Dev Cert.KKprepIdeal.nD,
      r.2.mem ((c.tc : Thread Cert.KKprepIdeal.nD Cert.KKprepIdeal.τ).loc Cert.KKprepIdeal.main_arg0) = m ((c.tc : Thread Cert.KKprepIdeal.nD Cert.KKprepIdeal.τ).loc Cert.KKprepIdeal.main_arg0)
      ∧ r.2.mem ((c.tc : Thread Cert.KKprepIdeal.nD Cert.KKprepIdeal.τ).loc Cert.KKprepIdeal.main_arg1) = m ((c.tc : Thread Cert.KKprepIdeal.nD Cert.KKprepIdeal.τ).loc Cert.KKprepIdeal.main_arg1)
      ∧ r.2.mem ((c.tc : Thread Cert.KKprepIdeal.nD Cert.KKprepIdeal.τ).loc Cert.KKprepIdeal.main_arg2) = m ((c.tc : Thread Cert.KKprepIdeal.nD Cert.KKprepIdeal.τ).loc Cert.KKprepIdeal.main_arg2)
      ∧ r.2.mem ((c.tc : Thread Cert.KKprepIdeal.nD Cert.KKprepIdeal.τ).loc Cert.KKprepIdeal.main_arg3) = m ((c.tc : Thread Cert.KKprepIdeal.nD Cert.KKprepIdeal.τ).loc Cert.KKprepIdeal.main_arg3)
      ∧ r.2.mem ((c.tc : Thread Cert.KKprepIdeal.nD Cert.KKprepIdeal.τ).loc Cert.KKprepIdeal.main_arg4) = m ((c.tc : Thread Cert.KKprepIdeal.nD Cert.KKprepIdeal.τ).loc Cert.KKprepIdeal.main_arg4)
      ∧ r.2.mem ((c.tc : Thread Cert.KKprepIdeal.nD Cert.KKprepIdeal.τ).loc Cert.KKprepIdeal.main_arg5) = m ((c.tc : Thread Cert.KKprepIdeal.nD Cert.KKprepIdeal.τ).loc Cert.KKprepIdeal.main_arg5)
      ∧ r.2.mem ((c.tc : Thread Cert.KKprepIdeal.nD Cert.KKprepIdeal.τ).loc Cert.KKprepIdeal.main_arg6) = m ((c.tc : Thread Cert.KKprepIdeal.nD Cert.KKprepIdeal.τ).loc Cert.KKprepIdeal.main_arg6)
      ∧ r.2.mem ((c.tc : Thread Cert.KKprepIdeal.nD Cert.KKprepIdeal.τ).loc Cert.KKprepIdeal.main_arg7) = m ((c.tc : Thread Cert.KKprepIdeal.nD Cert.KKprepIdeal.τ).loc Cert.KKprepIdeal.main_arg7))
      ∧ r.2.sem = fun _ => 0)

def quiescent_RKprepIdeal [hRKprepIdeal : Cert.RKprepIdeal.Facts] : Prop :=
  ∀ (m : (ℓ : Loc Cert.RKprepIdeal.nD Cert.RKprepIdeal.τ Cert.RKprepIdeal.sig) → Buf (Elt Ideal) ℓ) (g : Dev Cert.RKprepIdeal.nD → PrngReg), Pre_RKprepIdeal m →
    θ_run (Cert.RKprepIdeal.defs (F := Ideal)) (onTc (τ := Cert.RKprepIdeal.τ) (Cert.RKprepIdeal.main (F := Ideal))) ⟨m, fun _ => 0, g⟩ (fun r => (∀ c : Dev Cert.RKprepIdeal.nD,
      r.2.mem ((c.tc : Thread Cert.RKprepIdeal.nD Cert.RKprepIdeal.τ).loc Cert.RKprepIdeal.main_arg0) = m ((c.tc : Thread Cert.RKprepIdeal.nD Cert.RKprepIdeal.τ).loc Cert.RKprepIdeal.main_arg0)
      ∧ r.2.mem ((c.tc : Thread Cert.RKprepIdeal.nD Cert.RKprepIdeal.τ).loc Cert.RKprepIdeal.main_arg1) = m ((c.tc : Thread Cert.RKprepIdeal.nD Cert.RKprepIdeal.τ).loc Cert.RKprepIdeal.main_arg1)
      ∧ r.2.mem ((c.tc : Thread Cert.RKprepIdeal.nD Cert.RKprepIdeal.τ).loc Cert.RKprepIdeal.main_arg2) = m ((c.tc : Thread Cert.RKprepIdeal.nD Cert.RKprepIdeal.τ).loc Cert.RKprepIdeal.main_arg2)
      ∧ r.2.mem ((c.tc : Thread Cert.RKprepIdeal.nD Cert.RKprepIdeal.τ).loc Cert.RKprepIdeal.main_arg3) = m ((c.tc : Thread Cert.RKprepIdeal.nD Cert.RKprepIdeal.τ).loc Cert.RKprepIdeal.main_arg3)
      ∧ r.2.mem ((c.tc : Thread Cert.RKprepIdeal.nD Cert.RKprepIdeal.τ).loc Cert.RKprepIdeal.main_arg4) = m ((c.tc : Thread Cert.RKprepIdeal.nD Cert.RKprepIdeal.τ).loc Cert.RKprepIdeal.main_arg4)
      ∧ r.2.mem ((c.tc : Thread Cert.RKprepIdeal.nD Cert.RKprepIdeal.τ).loc Cert.RKprepIdeal.main_arg5) = m ((c.tc : Thread Cert.RKprepIdeal.nD Cert.RKprepIdeal.τ).loc Cert.RKprepIdeal.main_arg5)
      ∧ r.2.mem ((c.tc : Thread Cert.RKprepIdeal.nD Cert.RKprepIdeal.τ).loc Cert.RKprepIdeal.main_arg6) = m ((c.tc : Thread Cert.RKprepIdeal.nD Cert.RKprepIdeal.τ).loc Cert.RKprepIdeal.main_arg6)
      ∧ r.2.mem ((c.tc : Thread Cert.RKprepIdeal.nD Cert.RKprepIdeal.τ).loc Cert.RKprepIdeal.main_arg7) = m ((c.tc : Thread Cert.RKprepIdeal.nD Cert.RKprepIdeal.τ).loc Cert.RKprepIdeal.main_arg7))
      ∧ r.2.sem = fun _ => 0)

def quiescent_KRmsF [hKRmsF : Cert.KRmsF.Facts] : Prop :=
  ∀ (m : (ℓ : Loc Cert.KRmsF.nD Cert.KRmsF.τ Cert.KRmsF.sig) → Buf (Elt Bits) ℓ) (g : Dev Cert.KRmsF.nD → PrngReg), Pre_KRmsF m →
    θ_run (Cert.KRmsF.defs (F := Bits)) (onTc (τ := Cert.KRmsF.τ) (Cert.KRmsF.main (F := Bits))) ⟨m, fun _ => 0, g⟩ (fun r => (∀ c : Dev Cert.KRmsF.nD,
      r.2.mem ((c.tc : Thread Cert.KRmsF.nD Cert.KRmsF.τ).loc Cert.KRmsF.main_arg0) = m ((c.tc : Thread Cert.KRmsF.nD Cert.KRmsF.τ).loc Cert.KRmsF.main_arg0)
      ∧ r.2.mem ((c.tc : Thread Cert.KRmsF.nD Cert.KRmsF.τ).loc Cert.KRmsF.main_arg1) = m ((c.tc : Thread Cert.KRmsF.nD Cert.KRmsF.τ).loc Cert.KRmsF.main_arg1))
      ∧ r.2.sem = fun _ => 0)

def quiescent_KRmsFIdeal [hKRmsFIdeal : Cert.KRmsFIdeal.Facts] : Prop :=
  ∀ (m : (ℓ : Loc Cert.KRmsFIdeal.nD Cert.KRmsFIdeal.τ Cert.KRmsFIdeal.sig) → Buf (Elt Ideal) ℓ) (g : Dev Cert.KRmsFIdeal.nD → PrngReg), Pre_KRmsFIdeal m →
    θ_run (Cert.KRmsFIdeal.defs (F := Ideal)) (onTc (τ := Cert.KRmsFIdeal.τ) (Cert.KRmsFIdeal.main (F := Ideal))) ⟨m, fun _ => 0, g⟩ (fun r => (∀ c : Dev Cert.KRmsFIdeal.nD,
      r.2.mem ((c.tc : Thread Cert.KRmsFIdeal.nD Cert.KRmsFIdeal.τ).loc Cert.KRmsFIdeal.main_arg0) = m ((c.tc : Thread Cert.KRmsFIdeal.nD Cert.KRmsFIdeal.τ).loc Cert.KRmsFIdeal.main_arg0)
      ∧ r.2.mem ((c.tc : Thread Cert.KRmsFIdeal.nD Cert.KRmsFIdeal.τ).loc Cert.KRmsFIdeal.main_arg1) = m ((c.tc : Thread Cert.KRmsFIdeal.nD Cert.KRmsFIdeal.τ).loc Cert.KRmsFIdeal.main_arg1))
      ∧ r.2.sem = fun _ => 0)

def quiescent_RRmsFIdeal [hRRmsFIdeal : Cert.RRmsFIdeal.Facts] : Prop :=
  ∀ (m : (ℓ : Loc Cert.RRmsFIdeal.nD Cert.RRmsFIdeal.τ Cert.RRmsFIdeal.sig) → Buf (Elt Ideal) ℓ) (g : Dev Cert.RRmsFIdeal.nD → PrngReg), Pre_RRmsFIdeal m →
    θ_run (Cert.RRmsFIdeal.defs (F := Ideal)) (onTc (τ := Cert.RRmsFIdeal.τ) (Cert.RRmsFIdeal.main (F := Ideal))) ⟨m, fun _ => 0, g⟩ (fun r => (∀ c : Dev Cert.RRmsFIdeal.nD,
      r.2.mem ((c.tc : Thread Cert.RRmsFIdeal.nD Cert.RRmsFIdeal.τ).loc Cert.RRmsFIdeal.main_arg0) = m ((c.tc : Thread Cert.RRmsFIdeal.nD Cert.RRmsFIdeal.τ).loc Cert.RRmsFIdeal.main_arg0)
      ∧ r.2.mem ((c.tc : Thread Cert.RRmsFIdeal.nD Cert.RRmsFIdeal.τ).loc Cert.RRmsFIdeal.main_arg1) = m ((c.tc : Thread Cert.RRmsFIdeal.nD Cert.RRmsFIdeal.τ).loc Cert.RRmsFIdeal.main_arg1))
      ∧ r.2.sem = fun _ => 0)

def quiescent_KPostF [hKPostF : Cert.KPostF.Facts] : Prop :=
  ∀ (m : (ℓ : Loc Cert.KPostF.nD Cert.KPostF.τ Cert.KPostF.sig) → Buf (Elt Bits) ℓ) (g : Dev Cert.KPostF.nD → PrngReg), Pre_KPostF m →
    θ_run (Cert.KPostF.defs (F := Bits)) (onTc (τ := Cert.KPostF.τ) (Cert.KPostF.main (F := Bits))) ⟨m, fun _ => 0, g⟩ (fun r => (∀ c : Dev Cert.KPostF.nD,
      r.2.mem ((c.tc : Thread Cert.KPostF.nD Cert.KPostF.τ).loc Cert.KPostF.main_arg0) = m ((c.tc : Thread Cert.KPostF.nD Cert.KPostF.τ).loc Cert.KPostF.main_arg0)
      ∧ r.2.mem ((c.tc : Thread Cert.KPostF.nD Cert.KPostF.τ).loc Cert.KPostF.main_arg1) = m ((c.tc : Thread Cert.KPostF.nD Cert.KPostF.τ).loc Cert.KPostF.main_arg1)
      ∧ r.2.mem ((c.tc : Thread Cert.KPostF.nD Cert.KPostF.τ).loc Cert.KPostF.main_arg2) = m ((c.tc : Thread Cert.KPostF.nD Cert.KPostF.τ).loc Cert.KPostF.main_arg2))
      ∧ r.2.sem = fun _ => 0)

def quiescent_KPostFIdeal [hKPostFIdeal : Cert.KPostFIdeal.Facts] : Prop :=
  ∀ (m : (ℓ : Loc Cert.KPostFIdeal.nD Cert.KPostFIdeal.τ Cert.KPostFIdeal.sig) → Buf (Elt Ideal) ℓ) (g : Dev Cert.KPostFIdeal.nD → PrngReg), Pre_KPostFIdeal m →
    θ_run (Cert.KPostFIdeal.defs (F := Ideal)) (onTc (τ := Cert.KPostFIdeal.τ) (Cert.KPostFIdeal.main (F := Ideal))) ⟨m, fun _ => 0, g⟩ (fun r => (∀ c : Dev Cert.KPostFIdeal.nD,
      r.2.mem ((c.tc : Thread Cert.KPostFIdeal.nD Cert.KPostFIdeal.τ).loc Cert.KPostFIdeal.main_arg0) = m ((c.tc : Thread Cert.KPostFIdeal.nD Cert.KPostFIdeal.τ).loc Cert.KPostFIdeal.main_arg0)
      ∧ r.2.mem ((c.tc : Thread Cert.KPostFIdeal.nD Cert.KPostFIdeal.τ).loc Cert.KPostFIdeal.main_arg1) = m ((c.tc : Thread Cert.KPostFIdeal.nD Cert.KPostFIdeal.τ).loc Cert.KPostFIdeal.main_arg1)
      ∧ r.2.mem ((c.tc : Thread Cert.KPostFIdeal.nD Cert.KPostFIdeal.τ).loc Cert.KPostFIdeal.main_arg2) = m ((c.tc : Thread Cert.KPostFIdeal.nD Cert.KPostFIdeal.τ).loc Cert.KPostFIdeal.main_arg2))
      ∧ r.2.sem = fun _ => 0)

def quiescent_RPostFIdeal [hRPostFIdeal : Cert.RPostFIdeal.Facts] : Prop :=
  ∀ (m : (ℓ : Loc Cert.RPostFIdeal.nD Cert.RPostFIdeal.τ Cert.RPostFIdeal.sig) → Buf (Elt Ideal) ℓ) (g : Dev Cert.RPostFIdeal.nD → PrngReg), Pre_RPostFIdeal m →
    θ_run (Cert.RPostFIdeal.defs (F := Ideal)) (onTc (τ := Cert.RPostFIdeal.τ) (Cert.RPostFIdeal.main (F := Ideal))) ⟨m, fun _ => 0, g⟩ (fun r => (∀ c : Dev Cert.RPostFIdeal.nD,
      r.2.mem ((c.tc : Thread Cert.RPostFIdeal.nD Cert.RPostFIdeal.τ).loc Cert.RPostFIdeal.main_arg0) = m ((c.tc : Thread Cert.RPostFIdeal.nD Cert.RPostFIdeal.τ).loc Cert.RPostFIdeal.main_arg0)
      ∧ r.2.mem ((c.tc : Thread Cert.RPostFIdeal.nD Cert.RPostFIdeal.τ).loc Cert.RPostFIdeal.main_arg1) = m ((c.tc : Thread Cert.RPostFIdeal.nD Cert.RPostFIdeal.τ).loc Cert.RPostFIdeal.main_arg1)
      ∧ r.2.mem ((c.tc : Thread Cert.RPostFIdeal.nD Cert.RPostFIdeal.τ).loc Cert.RPostFIdeal.main_arg2) = m ((c.tc : Thread Cert.RPostFIdeal.nD Cert.RPostFIdeal.τ).loc Cert.RPostFIdeal.main_arg2))
      ∧ r.2.sem = fun _ => 0)

def quiescent_KPleF [hKPleF : Cert.KPleF.Facts] : Prop :=
  ∀ (m : (ℓ : Loc Cert.KPleF.nD Cert.KPleF.τ Cert.KPleF.sig) → Buf (Elt Bits) ℓ) (g : Dev Cert.KPleF.nD → PrngReg), Pre_KPleF m →
    θ_run (Cert.KPleF.defs (F := Bits)) (onTc (τ := Cert.KPleF.τ) (Cert.KPleF.main (F := Bits))) ⟨m, fun _ => 0, g⟩ (fun r => (∀ c : Dev Cert.KPleF.nD,
      r.2.mem ((c.tc : Thread Cert.KPleF.nD Cert.KPleF.τ).loc Cert.KPleF.main_arg0) = m ((c.tc : Thread Cert.KPleF.nD Cert.KPleF.τ).loc Cert.KPleF.main_arg0)
      ∧ r.2.mem ((c.tc : Thread Cert.KPleF.nD Cert.KPleF.τ).loc Cert.KPleF.main_arg1) = m ((c.tc : Thread Cert.KPleF.nD Cert.KPleF.τ).loc Cert.KPleF.main_arg1)
      ∧ r.2.mem ((c.tc : Thread Cert.KPleF.nD Cert.KPleF.τ).loc Cert.KPleF.main_arg2) = m ((c.tc : Thread Cert.KPleF.nD Cert.KPleF.τ).loc Cert.KPleF.main_arg2)
      ∧ r.2.mem ((c.tc : Thread Cert.KPleF.nD Cert.KPleF.τ).loc Cert.KPleF.main_arg3) = m ((c.tc : Thread Cert.KPleF.nD Cert.KPleF.τ).loc Cert.KPleF.main_arg3))
      ∧ r.2.sem = fun _ => 0)

def quiescent_KPleFIdeal [hKPleFIdeal : Cert.KPleFIdeal.Facts] : Prop :=
  ∀ (m : (ℓ : Loc Cert.KPleFIdeal.nD Cert.KPleFIdeal.τ Cert.KPleFIdeal.sig) → Buf (Elt Ideal) ℓ) (g : Dev Cert.KPleFIdeal.nD → PrngReg), Pre_KPleFIdeal m →
    θ_run (Cert.KPleFIdeal.defs (F := Ideal)) (onTc (τ := Cert.KPleFIdeal.τ) (Cert.KPleFIdeal.main (F := Ideal))) ⟨m, fun _ => 0, g⟩ (fun r => (∀ c : Dev Cert.KPleFIdeal.nD,
      r.2.mem ((c.tc : Thread Cert.KPleFIdeal.nD Cert.KPleFIdeal.τ).loc Cert.KPleFIdeal.main_arg0) = m ((c.tc : Thread Cert.KPleFIdeal.nD Cert.KPleFIdeal.τ).loc Cert.KPleFIdeal.main_arg0)
      ∧ r.2.mem ((c.tc : Thread Cert.KPleFIdeal.nD Cert.KPleFIdeal.τ).loc Cert.KPleFIdeal.main_arg1) = m ((c.tc : Thread Cert.KPleFIdeal.nD Cert.KPleFIdeal.τ).loc Cert.KPleFIdeal.main_arg1)
      ∧ r.2.mem ((c.tc : Thread Cert.KPleFIdeal.nD Cert.KPleFIdeal.τ).loc Cert.KPleFIdeal.main_arg2) = m ((c.tc : Thread Cert.KPleFIdeal.nD Cert.KPleFIdeal.τ).loc Cert.KPleFIdeal.main_arg2)
      ∧ r.2.mem ((c.tc : Thread Cert.KPleFIdeal.nD Cert.KPleFIdeal.τ).loc Cert.KPleFIdeal.main_arg3) = m ((c.tc : Thread Cert.KPleFIdeal.nD Cert.KPleFIdeal.τ).loc Cert.KPleFIdeal.main_arg3))
      ∧ r.2.sem = fun _ => 0)

def quiescent_RPleFIdeal [hRPleFIdeal : Cert.RPleFIdeal.Facts] : Prop :=
  ∀ (m : (ℓ : Loc Cert.RPleFIdeal.nD Cert.RPleFIdeal.τ Cert.RPleFIdeal.sig) → Buf (Elt Ideal) ℓ) (g : Dev Cert.RPleFIdeal.nD → PrngReg), Pre_RPleFIdeal m →
    θ_run (Cert.RPleFIdeal.defs (F := Ideal)) (onTc (τ := Cert.RPleFIdeal.τ) (Cert.RPleFIdeal.main (F := Ideal))) ⟨m, fun _ => 0, g⟩ (fun r => (∀ c : Dev Cert.RPleFIdeal.nD,
      r.2.mem ((c.tc : Thread Cert.RPleFIdeal.nD Cert.RPleFIdeal.τ).loc Cert.RPleFIdeal.main_arg0) = m ((c.tc : Thread Cert.RPleFIdeal.nD Cert.RPleFIdeal.τ).loc Cert.RPleFIdeal.main_arg0)
      ∧ r.2.mem ((c.tc : Thread Cert.RPleFIdeal.nD Cert.RPleFIdeal.τ).loc Cert.RPleFIdeal.main_arg1) = m ((c.tc : Thread Cert.RPleFIdeal.nD Cert.RPleFIdeal.τ).loc Cert.RPleFIdeal.main_arg1)
      ∧ r.2.mem ((c.tc : Thread Cert.RPleFIdeal.nD Cert.RPleFIdeal.τ).loc Cert.RPleFIdeal.main_arg2) = m ((c.tc : Thread Cert.RPleFIdeal.nD Cert.RPleFIdeal.τ).loc Cert.RPleFIdeal.main_arg2)
      ∧ r.2.mem ((c.tc : Thread Cert.RPleFIdeal.nD Cert.RPleFIdeal.τ).loc Cert.RPleFIdeal.main_arg3) = m ((c.tc : Thread Cert.RPleFIdeal.nD Cert.RPleFIdeal.τ).loc Cert.RPleFIdeal.main_arg3))
      ∧ r.2.sem = fun _ => 0)

def quiescent_KFfnF [hKFfnF : Cert.KFfnF.Facts] : Prop :=
  ∀ (m : (ℓ : Loc Cert.KFfnF.nD Cert.KFfnF.τ Cert.KFfnF.sig) → Buf (Elt Bits) ℓ) (g : Dev Cert.KFfnF.nD → PrngReg), Pre_KFfnF m →
    θ_run (Cert.KFfnF.defs (F := Bits)) (onTc (τ := Cert.KFfnF.τ) (Cert.KFfnF.main (F := Bits))) ⟨m, fun _ => 0, g⟩ (fun r => (∀ c : Dev Cert.KFfnF.nD,
      r.2.mem ((c.tc : Thread Cert.KFfnF.nD Cert.KFfnF.τ).loc Cert.KFfnF.main_arg0) = m ((c.tc : Thread Cert.KFfnF.nD Cert.KFfnF.τ).loc Cert.KFfnF.main_arg0)
      ∧ r.2.mem ((c.tc : Thread Cert.KFfnF.nD Cert.KFfnF.τ).loc Cert.KFfnF.main_arg1) = m ((c.tc : Thread Cert.KFfnF.nD Cert.KFfnF.τ).loc Cert.KFfnF.main_arg1))
      ∧ r.2.sem = fun _ => 0)

def quiescent_KFfnFIdeal [hKFfnFIdeal : Cert.KFfnFIdeal.Facts] : Prop :=
  ∀ (m : (ℓ : Loc Cert.KFfnFIdeal.nD Cert.KFfnFIdeal.τ Cert.KFfnFIdeal.sig) → Buf (Elt Ideal) ℓ) (g : Dev Cert.KFfnFIdeal.nD → PrngReg), Pre_KFfnFIdeal m →
    θ_run (Cert.KFfnFIdeal.defs (F := Ideal)) (onTc (τ := Cert.KFfnFIdeal.τ) (Cert.KFfnFIdeal.main (F := Ideal))) ⟨m, fun _ => 0, g⟩ (fun r => (∀ c : Dev Cert.KFfnFIdeal.nD,
      r.2.mem ((c.tc : Thread Cert.KFfnFIdeal.nD Cert.KFfnFIdeal.τ).loc Cert.KFfnFIdeal.main_arg0) = m ((c.tc : Thread Cert.KFfnFIdeal.nD Cert.KFfnFIdeal.τ).loc Cert.KFfnFIdeal.main_arg0)
      ∧ r.2.mem ((c.tc : Thread Cert.KFfnFIdeal.nD Cert.KFfnFIdeal.τ).loc Cert.KFfnFIdeal.main_arg1) = m ((c.tc : Thread Cert.KFfnFIdeal.nD Cert.KFfnFIdeal.τ).loc Cert.KFfnFIdeal.main_arg1))
      ∧ r.2.sem = fun _ => 0)

def quiescent_RFfnFIdeal [hRFfnFIdeal : Cert.RFfnFIdeal.Facts] : Prop :=
  ∀ (m : (ℓ : Loc Cert.RFfnFIdeal.nD Cert.RFfnFIdeal.τ Cert.RFfnFIdeal.sig) → Buf (Elt Ideal) ℓ) (g : Dev Cert.RFfnFIdeal.nD → PrngReg), Pre_RFfnFIdeal m →
    θ_run (Cert.RFfnFIdeal.defs (F := Ideal)) (onTc (τ := Cert.RFfnFIdeal.τ) (Cert.RFfnFIdeal.main (F := Ideal))) ⟨m, fun _ => 0, g⟩ (fun r => (∀ c : Dev Cert.RFfnFIdeal.nD,
      r.2.mem ((c.tc : Thread Cert.RFfnFIdeal.nD Cert.RFfnFIdeal.τ).loc Cert.RFfnFIdeal.main_arg0) = m ((c.tc : Thread Cert.RFfnFIdeal.nD Cert.RFfnFIdeal.τ).loc Cert.RFfnFIdeal.main_arg0)
      ∧ r.2.mem ((c.tc : Thread Cert.RFfnFIdeal.nD Cert.RFfnFIdeal.τ).loc Cert.RFfnFIdeal.main_arg1) = m ((c.tc : Thread Cert.RFfnFIdeal.nD Cert.RFfnFIdeal.τ).loc Cert.RFfnFIdeal.main_arg1))
      ∧ r.2.sem = fun _ => 0)

def quiescent_KKprepF [hKKprepF : Cert.KKprepF.Facts] : Prop :=
  ∀ (m : (ℓ : Loc Cert.KKprepF.nD Cert.KKprepF.τ Cert.KKprepF.sig) → Buf (Elt Bits) ℓ) (g : Dev Cert.KKprepF.nD → PrngReg), Pre_KKprepF m →
    θ_run (Cert.KKprepF.defs (F := Bits)) (onTc (τ := Cert.KKprepF.τ) (Cert.KKprepF.main (F := Bits))) ⟨m, fun _ => 0, g⟩ (fun r => (∀ c : Dev Cert.KKprepF.nD,
      r.2.mem ((c.tc : Thread Cert.KKprepF.nD Cert.KKprepF.τ).loc Cert.KKprepF.main_arg0) = m ((c.tc : Thread Cert.KKprepF.nD Cert.KKprepF.τ).loc Cert.KKprepF.main_arg0)
      ∧ r.2.mem ((c.tc : Thread Cert.KKprepF.nD Cert.KKprepF.τ).loc Cert.KKprepF.main_arg1) = m ((c.tc : Thread Cert.KKprepF.nD Cert.KKprepF.τ).loc Cert.KKprepF.main_arg1)
      ∧ r.2.mem ((c.tc : Thread Cert.KKprepF.nD Cert.KKprepF.τ).loc Cert.KKprepF.main_arg2) = m ((c.tc : Thread Cert.KKprepF.nD Cert.KKprepF.τ).loc Cert.KKprepF.main_arg2)
      ∧ r.2.mem ((c.tc : Thread Cert.KKprepF.nD Cert.KKprepF.τ).loc Cert.KKprepF.main_arg3) = m ((c.tc : Thread Cert.KKprepF.nD Cert.KKprepF.τ).loc Cert.KKprepF.main_arg3)
      ∧ r.2.mem ((c.tc : Thread Cert.KKprepF.nD Cert.KKprepF.τ).loc Cert.KKprepF.main_arg4) = m ((c.tc : Thread Cert.KKprepF.nD Cert.KKprepF.τ).loc Cert.KKprepF.main_arg4))
      ∧ r.2.sem = fun _ => 0)

def quiescent_KKprepFIdeal [hKKprepFIdeal : Cert.KKprepFIdeal.Facts] : Prop :=
  ∀ (m : (ℓ : Loc Cert.KKprepFIdeal.nD Cert.KKprepFIdeal.τ Cert.KKprepFIdeal.sig) → Buf (Elt Ideal) ℓ) (g : Dev Cert.KKprepFIdeal.nD → PrngReg), Pre_KKprepFIdeal m →
    θ_run (Cert.KKprepFIdeal.defs (F := Ideal)) (onTc (τ := Cert.KKprepFIdeal.τ) (Cert.KKprepFIdeal.main (F := Ideal))) ⟨m, fun _ => 0, g⟩ (fun r => (∀ c : Dev Cert.KKprepFIdeal.nD,
      r.2.mem ((c.tc : Thread Cert.KKprepFIdeal.nD Cert.KKprepFIdeal.τ).loc Cert.KKprepFIdeal.main_arg0) = m ((c.tc : Thread Cert.KKprepFIdeal.nD Cert.KKprepFIdeal.τ).loc Cert.KKprepFIdeal.main_arg0)
      ∧ r.2.mem ((c.tc : Thread Cert.KKprepFIdeal.nD Cert.KKprepFIdeal.τ).loc Cert.KKprepFIdeal.main_arg1) = m ((c.tc : Thread Cert.KKprepFIdeal.nD Cert.KKprepFIdeal.τ).loc Cert.KKprepFIdeal.main_arg1)
      ∧ r.2.mem ((c.tc : Thread Cert.KKprepFIdeal.nD Cert.KKprepFIdeal.τ).loc Cert.KKprepFIdeal.main_arg2) = m ((c.tc : Thread Cert.KKprepFIdeal.nD Cert.KKprepFIdeal.τ).loc Cert.KKprepFIdeal.main_arg2)
      ∧ r.2.mem ((c.tc : Thread Cert.KKprepFIdeal.nD Cert.KKprepFIdeal.τ).loc Cert.KKprepFIdeal.main_arg3) = m ((c.tc : Thread Cert.KKprepFIdeal.nD Cert.KKprepFIdeal.τ).loc Cert.KKprepFIdeal.main_arg3)
      ∧ r.2.mem ((c.tc : Thread Cert.KKprepFIdeal.nD Cert.KKprepFIdeal.τ).loc Cert.KKprepFIdeal.main_arg4) = m ((c.tc : Thread Cert.KKprepFIdeal.nD Cert.KKprepFIdeal.τ).loc Cert.KKprepFIdeal.main_arg4))
      ∧ r.2.sem = fun _ => 0)

def quiescent_RKprepFIdeal [hRKprepFIdeal : Cert.RKprepFIdeal.Facts] : Prop :=
  ∀ (m : (ℓ : Loc Cert.RKprepFIdeal.nD Cert.RKprepFIdeal.τ Cert.RKprepFIdeal.sig) → Buf (Elt Ideal) ℓ) (g : Dev Cert.RKprepFIdeal.nD → PrngReg), Pre_RKprepFIdeal m →
    θ_run (Cert.RKprepFIdeal.defs (F := Ideal)) (onTc (τ := Cert.RKprepFIdeal.τ) (Cert.RKprepFIdeal.main (F := Ideal))) ⟨m, fun _ => 0, g⟩ (fun r => (∀ c : Dev Cert.RKprepFIdeal.nD,
      r.2.mem ((c.tc : Thread Cert.RKprepFIdeal.nD Cert.RKprepFIdeal.τ).loc Cert.RKprepFIdeal.main_arg0) = m ((c.tc : Thread Cert.RKprepFIdeal.nD Cert.RKprepFIdeal.τ).loc Cert.RKprepFIdeal.main_arg0)
      ∧ r.2.mem ((c.tc : Thread Cert.RKprepFIdeal.nD Cert.RKprepFIdeal.τ).loc Cert.RKprepFIdeal.main_arg1) = m ((c.tc : Thread Cert.RKprepFIdeal.nD Cert.RKprepFIdeal.τ).loc Cert.RKprepFIdeal.main_arg1)
      ∧ r.2.mem ((c.tc : Thread Cert.RKprepFIdeal.nD Cert.RKprepFIdeal.τ).loc Cert.RKprepFIdeal.main_arg2) = m ((c.tc : Thread Cert.RKprepFIdeal.nD Cert.RKprepFIdeal.τ).loc Cert.RKprepFIdeal.main_arg2)
      ∧ r.2.mem ((c.tc : Thread Cert.RKprepFIdeal.nD Cert.RKprepFIdeal.τ).loc Cert.RKprepFIdeal.main_arg3) = m ((c.tc : Thread Cert.RKprepFIdeal.nD Cert.RKprepFIdeal.τ).loc Cert.RKprepFIdeal.main_arg3)
      ∧ r.2.mem ((c.tc : Thread Cert.RKprepFIdeal.nD Cert.RKprepFIdeal.τ).loc Cert.RKprepFIdeal.main_arg4) = m ((c.tc : Thread Cert.RKprepFIdeal.nD Cert.RKprepFIdeal.τ).loc Cert.RKprepFIdeal.main_arg4))
      ∧ r.2.sem = fun _ => 0)

def quiescent_KQropeF [hKQropeF : Cert.KQropeF.Facts] : Prop :=
  ∀ (m : (ℓ : Loc Cert.KQropeF.nD Cert.KQropeF.τ Cert.KQropeF.sig) → Buf (Elt Bits) ℓ) (g : Dev Cert.KQropeF.nD → PrngReg), Pre_KQropeF m →
    θ_run (Cert.KQropeF.defs (F := Bits)) (onTc (τ := Cert.KQropeF.τ) (Cert.KQropeF.main (F := Bits))) ⟨m, fun _ => 0, g⟩ (fun r => (∀ c : Dev Cert.KQropeF.nD,
      r.2.mem ((c.tc : Thread Cert.KQropeF.nD Cert.KQropeF.τ).loc Cert.KQropeF.main_arg0) = m ((c.tc : Thread Cert.KQropeF.nD Cert.KQropeF.τ).loc Cert.KQropeF.main_arg0)
      ∧ r.2.mem ((c.tc : Thread Cert.KQropeF.nD Cert.KQropeF.τ).loc Cert.KQropeF.main_arg1) = m ((c.tc : Thread Cert.KQropeF.nD Cert.KQropeF.τ).loc Cert.KQropeF.main_arg1)
      ∧ r.2.mem ((c.tc : Thread Cert.KQropeF.nD Cert.KQropeF.τ).loc Cert.KQropeF.main_arg2) = m ((c.tc : Thread Cert.KQropeF.nD Cert.KQropeF.τ).loc Cert.KQropeF.main_arg2))
      ∧ r.2.sem = fun _ => 0)

def quiescent_KQropeFIdeal [hKQropeFIdeal : Cert.KQropeFIdeal.Facts] : Prop :=
  ∀ (m : (ℓ : Loc Cert.KQropeFIdeal.nD Cert.KQropeFIdeal.τ Cert.KQropeFIdeal.sig) → Buf (Elt Ideal) ℓ) (g : Dev Cert.KQropeFIdeal.nD → PrngReg), Pre_KQropeFIdeal m →
    θ_run (Cert.KQropeFIdeal.defs (F := Ideal)) (onTc (τ := Cert.KQropeFIdeal.τ) (Cert.KQropeFIdeal.main (F := Ideal))) ⟨m, fun _ => 0, g⟩ (fun r => (∀ c : Dev Cert.KQropeFIdeal.nD,
      r.2.mem ((c.tc : Thread Cert.KQropeFIdeal.nD Cert.KQropeFIdeal.τ).loc Cert.KQropeFIdeal.main_arg0) = m ((c.tc : Thread Cert.KQropeFIdeal.nD Cert.KQropeFIdeal.τ).loc Cert.KQropeFIdeal.main_arg0)
      ∧ r.2.mem ((c.tc : Thread Cert.KQropeFIdeal.nD Cert.KQropeFIdeal.τ).loc Cert.KQropeFIdeal.main_arg1) = m ((c.tc : Thread Cert.KQropeFIdeal.nD Cert.KQropeFIdeal.τ).loc Cert.KQropeFIdeal.main_arg1)
      ∧ r.2.mem ((c.tc : Thread Cert.KQropeFIdeal.nD Cert.KQropeFIdeal.τ).loc Cert.KQropeFIdeal.main_arg2) = m ((c.tc : Thread Cert.KQropeFIdeal.nD Cert.KQropeFIdeal.τ).loc Cert.KQropeFIdeal.main_arg2))
      ∧ r.2.sem = fun _ => 0)

def quiescent_RQropeFIdeal [hRQropeFIdeal : Cert.RQropeFIdeal.Facts] : Prop :=
  ∀ (m : (ℓ : Loc Cert.RQropeFIdeal.nD Cert.RQropeFIdeal.τ Cert.RQropeFIdeal.sig) → Buf (Elt Ideal) ℓ) (g : Dev Cert.RQropeFIdeal.nD → PrngReg), Pre_RQropeFIdeal m →
    θ_run (Cert.RQropeFIdeal.defs (F := Ideal)) (onTc (τ := Cert.RQropeFIdeal.τ) (Cert.RQropeFIdeal.main (F := Ideal))) ⟨m, fun _ => 0, g⟩ (fun r => (∀ c : Dev Cert.RQropeFIdeal.nD,
      r.2.mem ((c.tc : Thread Cert.RQropeFIdeal.nD Cert.RQropeFIdeal.τ).loc Cert.RQropeFIdeal.main_arg0) = m ((c.tc : Thread Cert.RQropeFIdeal.nD Cert.RQropeFIdeal.τ).loc Cert.RQropeFIdeal.main_arg0)
      ∧ r.2.mem ((c.tc : Thread Cert.RQropeFIdeal.nD Cert.RQropeFIdeal.τ).loc Cert.RQropeFIdeal.main_arg1) = m ((c.tc : Thread Cert.RQropeFIdeal.nD Cert.RQropeFIdeal.τ).loc Cert.RQropeFIdeal.main_arg1)
      ∧ r.2.mem ((c.tc : Thread Cert.RQropeFIdeal.nD Cert.RQropeFIdeal.τ).loc Cert.RQropeFIdeal.main_arg2) = m ((c.tc : Thread Cert.RQropeFIdeal.nD Cert.RQropeFIdeal.τ).loc Cert.RQropeFIdeal.main_arg2))
      ∧ r.2.sem = fun _ => 0)

def quiescent_KAttnB [hKAttnB : Cert.KAttnB.Facts] : Prop :=
  ∀ (m : (ℓ : Loc Cert.KAttnB.nD Cert.KAttnB.τ Cert.KAttnB.sig) → Buf (Elt Bits) ℓ) (g : Dev Cert.KAttnB.nD → PrngReg), Pre_KAttnB m →
    θ_run (Cert.KAttnB.defs (F := Bits)) (onTc (τ := Cert.KAttnB.τ) (Cert.KAttnB.main (F := Bits))) ⟨m, fun _ => 0, g⟩ (fun r => (∀ c : Dev Cert.KAttnB.nD,
      r.2.mem ((c.tc : Thread Cert.KAttnB.nD Cert.KAttnB.τ).loc Cert.KAttnB.main_arg0) = m ((c.tc : Thread Cert.KAttnB.nD Cert.KAttnB.τ).loc Cert.KAttnB.main_arg0)
      ∧ r.2.mem ((c.tc : Thread Cert.KAttnB.nD Cert.KAttnB.τ).loc Cert.KAttnB.main_arg1) = m ((c.tc : Thread Cert.KAttnB.nD Cert.KAttnB.τ).loc Cert.KAttnB.main_arg1)
      ∧ r.2.mem ((c.tc : Thread Cert.KAttnB.nD Cert.KAttnB.τ).loc Cert.KAttnB.main_arg2) = m ((c.tc : Thread Cert.KAttnB.nD Cert.KAttnB.τ).loc Cert.KAttnB.main_arg2)
      ∧ r.2.mem ((c.tc : Thread Cert.KAttnB.nD Cert.KAttnB.τ).loc Cert.KAttnB.main_arg3) = m ((c.tc : Thread Cert.KAttnB.nD Cert.KAttnB.τ).loc Cert.KAttnB.main_arg3)
      ∧ r.2.mem ((c.tc : Thread Cert.KAttnB.nD Cert.KAttnB.τ).loc Cert.KAttnB.main_arg4) = m ((c.tc : Thread Cert.KAttnB.nD Cert.KAttnB.τ).loc Cert.KAttnB.main_arg4))
      ∧ r.2.sem = fun _ => 0)

def quiescent_KAttnBIdeal [hKAttnBIdeal : Cert.KAttnBIdeal.Facts] : Prop :=
  ∀ (m : (ℓ : Loc Cert.KAttnBIdeal.nD Cert.KAttnBIdeal.τ Cert.KAttnBIdeal.sig) → Buf (Elt Ideal) ℓ) (g : Dev Cert.KAttnBIdeal.nD → PrngReg), Pre_KAttnBIdeal m →
    θ_run (Cert.KAttnBIdeal.defs (F := Ideal)) (onTc (τ := Cert.KAttnBIdeal.τ) (Cert.KAttnBIdeal.main (F := Ideal))) ⟨m, fun _ => 0, g⟩ (fun r => (∀ c : Dev Cert.KAttnBIdeal.nD,
      r.2.mem ((c.tc : Thread Cert.KAttnBIdeal.nD Cert.KAttnBIdeal.τ).loc Cert.KAttnBIdeal.main_arg0) = m ((c.tc : Thread Cert.KAttnBIdeal.nD Cert.KAttnBIdeal.τ).loc Cert.KAttnBIdeal.main_arg0)
      ∧ r.2.mem ((c.tc : Thread Cert.KAttnBIdeal.nD Cert.KAttnBIdeal.τ).loc Cert.KAttnBIdeal.main_arg1) = m ((c.tc : Thread Cert.KAttnBIdeal.nD Cert.KAttnBIdeal.τ).loc Cert.KAttnBIdeal.main_arg1)
      ∧ r.2.mem ((c.tc : Thread Cert.KAttnBIdeal.nD Cert.KAttnBIdeal.τ).loc Cert.KAttnBIdeal.main_arg2) = m ((c.tc : Thread Cert.KAttnBIdeal.nD Cert.KAttnBIdeal.τ).loc Cert.KAttnBIdeal.main_arg2)
      ∧ r.2.mem ((c.tc : Thread Cert.KAttnBIdeal.nD Cert.KAttnBIdeal.τ).loc Cert.KAttnBIdeal.main_arg3) = m ((c.tc : Thread Cert.KAttnBIdeal.nD Cert.KAttnBIdeal.τ).loc Cert.KAttnBIdeal.main_arg3)
      ∧ r.2.mem ((c.tc : Thread Cert.KAttnBIdeal.nD Cert.KAttnBIdeal.τ).loc Cert.KAttnBIdeal.main_arg4) = m ((c.tc : Thread Cert.KAttnBIdeal.nD Cert.KAttnBIdeal.τ).loc Cert.KAttnBIdeal.main_arg4))
      ∧ r.2.sem = fun _ => 0)

def quiescent_KAttnBIdeal_pre_finite [hKAttnBIdeal : Cert.KAttnBIdeal.Facts] [hPre_finite : Cert.Pre_finite.Facts] : Prop :=
  ∀ (m : (ℓ : Loc Cert.KAttnBIdeal.nD Cert.KAttnBIdeal.τ Cert.KAttnBIdeal.sig) → Buf (Elt Ideal) ℓ) (g : Dev Cert.KAttnBIdeal.nD → PrngReg), Pre_KAttnBIdeal_finite m →
    θ_run (Cert.KAttnBIdeal.defs (F := Ideal)) (onTc (τ := Cert.KAttnBIdeal.τ) (Cert.KAttnBIdeal.main (F := Ideal))) ⟨m, fun _ => 0, g⟩ (fun r => (∀ c : Dev Cert.KAttnBIdeal.nD,
      r.2.mem ((c.tc : Thread Cert.KAttnBIdeal.nD Cert.KAttnBIdeal.τ).loc Cert.KAttnBIdeal.main_arg0) = m ((c.tc : Thread Cert.KAttnBIdeal.nD Cert.KAttnBIdeal.τ).loc Cert.KAttnBIdeal.main_arg0)
      ∧ r.2.mem ((c.tc : Thread Cert.KAttnBIdeal.nD Cert.KAttnBIdeal.τ).loc Cert.KAttnBIdeal.main_arg1) = m ((c.tc : Thread Cert.KAttnBIdeal.nD Cert.KAttnBIdeal.τ).loc Cert.KAttnBIdeal.main_arg1)
      ∧ r.2.mem ((c.tc : Thread Cert.KAttnBIdeal.nD Cert.KAttnBIdeal.τ).loc Cert.KAttnBIdeal.main_arg2) = m ((c.tc : Thread Cert.KAttnBIdeal.nD Cert.KAttnBIdeal.τ).loc Cert.KAttnBIdeal.main_arg2)
      ∧ r.2.mem ((c.tc : Thread Cert.KAttnBIdeal.nD Cert.KAttnBIdeal.τ).loc Cert.KAttnBIdeal.main_arg3) = m ((c.tc : Thread Cert.KAttnBIdeal.nD Cert.KAttnBIdeal.τ).loc Cert.KAttnBIdeal.main_arg3)
      ∧ r.2.mem ((c.tc : Thread Cert.KAttnBIdeal.nD Cert.KAttnBIdeal.τ).loc Cert.KAttnBIdeal.main_arg4) = m ((c.tc : Thread Cert.KAttnBIdeal.nD Cert.KAttnBIdeal.τ).loc Cert.KAttnBIdeal.main_arg4))
      ∧ r.2.sem = fun _ => 0)

def quiescent_RAttnBIdeal [hRAttnBIdeal : Cert.RAttnBIdeal.Facts] : Prop :=
  ∀ (m : (ℓ : Loc Cert.RAttnBIdeal.nD Cert.RAttnBIdeal.τ Cert.RAttnBIdeal.sig) → Buf (Elt Ideal) ℓ) (g : Dev Cert.RAttnBIdeal.nD → PrngReg), Pre_RAttnBIdeal m →
    θ_run (Cert.RAttnBIdeal.defs (F := Ideal)) (onTc (τ := Cert.RAttnBIdeal.τ) (Cert.RAttnBIdeal.main (F := Ideal))) ⟨m, fun _ => 0, g⟩ (fun r => (∀ c : Dev Cert.RAttnBIdeal.nD,
      r.2.mem ((c.tc : Thread Cert.RAttnBIdeal.nD Cert.RAttnBIdeal.τ).loc Cert.RAttnBIdeal.main_arg0) = m ((c.tc : Thread Cert.RAttnBIdeal.nD Cert.RAttnBIdeal.τ).loc Cert.RAttnBIdeal.main_arg0)
      ∧ r.2.mem ((c.tc : Thread Cert.RAttnBIdeal.nD Cert.RAttnBIdeal.τ).loc Cert.RAttnBIdeal.main_arg1) = m ((c.tc : Thread Cert.RAttnBIdeal.nD Cert.RAttnBIdeal.τ).loc Cert.RAttnBIdeal.main_arg1)
      ∧ r.2.mem ((c.tc : Thread Cert.RAttnBIdeal.nD Cert.RAttnBIdeal.τ).loc Cert.RAttnBIdeal.main_arg2) = m ((c.tc : Thread Cert.RAttnBIdeal.nD Cert.RAttnBIdeal.τ).loc Cert.RAttnBIdeal.main_arg2)
      ∧ r.2.mem ((c.tc : Thread Cert.RAttnBIdeal.nD Cert.RAttnBIdeal.τ).loc Cert.RAttnBIdeal.main_arg3) = m ((c.tc : Thread Cert.RAttnBIdeal.nD Cert.RAttnBIdeal.τ).loc Cert.RAttnBIdeal.main_arg3)
      ∧ r.2.mem ((c.tc : Thread Cert.RAttnBIdeal.nD Cert.RAttnBIdeal.τ).loc Cert.RAttnBIdeal.main_arg4) = m ((c.tc : Thread Cert.RAttnBIdeal.nD Cert.RAttnBIdeal.τ).loc Cert.RAttnBIdeal.main_arg4))
      ∧ r.2.sem = fun _ => 0)

def quiescent_RAttnBIdeal_pre_finite [hRAttnBIdeal : Cert.RAttnBIdeal.Facts] [hPre_finite : Cert.Pre_finite.Facts] : Prop :=
  ∀ (m : (ℓ : Loc Cert.RAttnBIdeal.nD Cert.RAttnBIdeal.τ Cert.RAttnBIdeal.sig) → Buf (Elt Ideal) ℓ) (g : Dev Cert.RAttnBIdeal.nD → PrngReg), Pre_RAttnBIdeal_finite m →
    θ_run (Cert.RAttnBIdeal.defs (F := Ideal)) (onTc (τ := Cert.RAttnBIdeal.τ) (Cert.RAttnBIdeal.main (F := Ideal))) ⟨m, fun _ => 0, g⟩ (fun r => (∀ c : Dev Cert.RAttnBIdeal.nD,
      r.2.mem ((c.tc : Thread Cert.RAttnBIdeal.nD Cert.RAttnBIdeal.τ).loc Cert.RAttnBIdeal.main_arg0) = m ((c.tc : Thread Cert.RAttnBIdeal.nD Cert.RAttnBIdeal.τ).loc Cert.RAttnBIdeal.main_arg0)
      ∧ r.2.mem ((c.tc : Thread Cert.RAttnBIdeal.nD Cert.RAttnBIdeal.τ).loc Cert.RAttnBIdeal.main_arg1) = m ((c.tc : Thread Cert.RAttnBIdeal.nD Cert.RAttnBIdeal.τ).loc Cert.RAttnBIdeal.main_arg1)
      ∧ r.2.mem ((c.tc : Thread Cert.RAttnBIdeal.nD Cert.RAttnBIdeal.τ).loc Cert.RAttnBIdeal.main_arg2) = m ((c.tc : Thread Cert.RAttnBIdeal.nD Cert.RAttnBIdeal.τ).loc Cert.RAttnBIdeal.main_arg2)
      ∧ r.2.mem ((c.tc : Thread Cert.RAttnBIdeal.nD Cert.RAttnBIdeal.τ).loc Cert.RAttnBIdeal.main_arg3) = m ((c.tc : Thread Cert.RAttnBIdeal.nD Cert.RAttnBIdeal.τ).loc Cert.RAttnBIdeal.main_arg3)
      ∧ r.2.mem ((c.tc : Thread Cert.RAttnBIdeal.nD Cert.RAttnBIdeal.τ).loc Cert.RAttnBIdeal.main_arg4) = m ((c.tc : Thread Cert.RAttnBIdeal.nD Cert.RAttnBIdeal.τ).loc Cert.RAttnBIdeal.main_arg4))
      ∧ r.2.sem = fun _ => 0)

def quiescent_KAttnF [hKAttnF : Cert.KAttnF.Facts] : Prop :=
  ∀ (m : (ℓ : Loc Cert.KAttnF.nD Cert.KAttnF.τ Cert.KAttnF.sig) → Buf (Elt Bits) ℓ) (g : Dev Cert.KAttnF.nD → PrngReg), Pre_KAttnF m →
    θ_run (Cert.KAttnF.defs (F := Bits)) (onTc (τ := Cert.KAttnF.τ) (Cert.KAttnF.main (F := Bits))) ⟨m, fun _ => 0, g⟩ (fun r => (∀ c : Dev Cert.KAttnF.nD,
      r.2.mem ((c.tc : Thread Cert.KAttnF.nD Cert.KAttnF.τ).loc Cert.KAttnF.main_arg0) = m ((c.tc : Thread Cert.KAttnF.nD Cert.KAttnF.τ).loc Cert.KAttnF.main_arg0)
      ∧ r.2.mem ((c.tc : Thread Cert.KAttnF.nD Cert.KAttnF.τ).loc Cert.KAttnF.main_arg1) = m ((c.tc : Thread Cert.KAttnF.nD Cert.KAttnF.τ).loc Cert.KAttnF.main_arg1)
      ∧ r.2.mem ((c.tc : Thread Cert.KAttnF.nD Cert.KAttnF.τ).loc Cert.KAttnF.main_arg2) = m ((c.tc : Thread Cert.KAttnF.nD Cert.KAttnF.τ).loc Cert.KAttnF.main_arg2)
      ∧ r.2.mem ((c.tc : Thread Cert.KAttnF.nD Cert.KAttnF.τ).loc Cert.KAttnF.main_arg3) = m ((c.tc : Thread Cert.KAttnF.nD Cert.KAttnF.τ).loc Cert.KAttnF.main_arg3))
      ∧ r.2.sem = fun _ => 0)

def quiescent_KAttnFIdeal [hKAttnFIdeal : Cert.KAttnFIdeal.Facts] : Prop :=
  ∀ (m : (ℓ : Loc Cert.KAttnFIdeal.nD Cert.KAttnFIdeal.τ Cert.KAttnFIdeal.sig) → Buf (Elt Ideal) ℓ) (g : Dev Cert.KAttnFIdeal.nD → PrngReg), Pre_KAttnFIdeal m →
    θ_run (Cert.KAttnFIdeal.defs (F := Ideal)) (onTc (τ := Cert.KAttnFIdeal.τ) (Cert.KAttnFIdeal.main (F := Ideal))) ⟨m, fun _ => 0, g⟩ (fun r => (∀ c : Dev Cert.KAttnFIdeal.nD,
      r.2.mem ((c.tc : Thread Cert.KAttnFIdeal.nD Cert.KAttnFIdeal.τ).loc Cert.KAttnFIdeal.main_arg0) = m ((c.tc : Thread Cert.KAttnFIdeal.nD Cert.KAttnFIdeal.τ).loc Cert.KAttnFIdeal.main_arg0)
      ∧ r.2.mem ((c.tc : Thread Cert.KAttnFIdeal.nD Cert.KAttnFIdeal.τ).loc Cert.KAttnFIdeal.main_arg1) = m ((c.tc : Thread Cert.KAttnFIdeal.nD Cert.KAttnFIdeal.τ).loc Cert.KAttnFIdeal.main_arg1)
      ∧ r.2.mem ((c.tc : Thread Cert.KAttnFIdeal.nD Cert.KAttnFIdeal.τ).loc Cert.KAttnFIdeal.main_arg2) = m ((c.tc : Thread Cert.KAttnFIdeal.nD Cert.KAttnFIdeal.τ).loc Cert.KAttnFIdeal.main_arg2)
      ∧ r.2.mem ((c.tc : Thread Cert.KAttnFIdeal.nD Cert.KAttnFIdeal.τ).loc Cert.KAttnFIdeal.main_arg3) = m ((c.tc : Thread Cert.KAttnFIdeal.nD Cert.KAttnFIdeal.τ).loc Cert.KAttnFIdeal.main_arg3))
      ∧ r.2.sem = fun _ => 0)

def quiescent_KAttnFIdeal_pre_finite_args [hKAttnFIdeal : Cert.KAttnFIdeal.Facts] [hPre_finite_args : Cert.Pre_finite_args.Facts] : Prop :=
  ∀ (m : (ℓ : Loc Cert.KAttnFIdeal.nD Cert.KAttnFIdeal.τ Cert.KAttnFIdeal.sig) → Buf (Elt Ideal) ℓ) (g : Dev Cert.KAttnFIdeal.nD → PrngReg), Pre_KAttnFIdeal_finite_args m →
    θ_run (Cert.KAttnFIdeal.defs (F := Ideal)) (onTc (τ := Cert.KAttnFIdeal.τ) (Cert.KAttnFIdeal.main (F := Ideal))) ⟨m, fun _ => 0, g⟩ (fun r => (∀ c : Dev Cert.KAttnFIdeal.nD,
      r.2.mem ((c.tc : Thread Cert.KAttnFIdeal.nD Cert.KAttnFIdeal.τ).loc Cert.KAttnFIdeal.main_arg0) = m ((c.tc : Thread Cert.KAttnFIdeal.nD Cert.KAttnFIdeal.τ).loc Cert.KAttnFIdeal.main_arg0)
      ∧ r.2.mem ((c.tc : Thread Cert.KAttnFIdeal.nD Cert.KAttnFIdeal.τ).loc Cert.KAttnFIdeal.main_arg1) = m ((c.tc : Thread Cert.KAttnFIdeal.nD Cert.KAttnFIdeal.τ).loc Cert.KAttnFIdeal.main_arg1)
      ∧ r.2.mem ((c.tc : Thread Cert.KAttnFIdeal.nD Cert.KAttnFIdeal.τ).loc Cert.KAttnFIdeal.main_arg2) = m ((c.tc : Thread Cert.KAttnFIdeal.nD Cert.KAttnFIdeal.τ).loc Cert.KAttnFIdeal.main_arg2)
      ∧ r.2.mem ((c.tc : Thread Cert.KAttnFIdeal.nD Cert.KAttnFIdeal.τ).loc Cert.KAttnFIdeal.main_arg3) = m ((c.tc : Thread Cert.KAttnFIdeal.nD Cert.KAttnFIdeal.τ).loc Cert.KAttnFIdeal.main_arg3))
      ∧ r.2.sem = fun _ => 0)

def quiescent_RAttnFIdeal [hRAttnFIdeal : Cert.RAttnFIdeal.Facts] : Prop :=
  ∀ (m : (ℓ : Loc Cert.RAttnFIdeal.nD Cert.RAttnFIdeal.τ Cert.RAttnFIdeal.sig) → Buf (Elt Ideal) ℓ) (g : Dev Cert.RAttnFIdeal.nD → PrngReg), Pre_RAttnFIdeal m →
    θ_run (Cert.RAttnFIdeal.defs (F := Ideal)) (onTc (τ := Cert.RAttnFIdeal.τ) (Cert.RAttnFIdeal.main (F := Ideal))) ⟨m, fun _ => 0, g⟩ (fun r => (∀ c : Dev Cert.RAttnFIdeal.nD,
      r.2.mem ((c.tc : Thread Cert.RAttnFIdeal.nD Cert.RAttnFIdeal.τ).loc Cert.RAttnFIdeal.main_arg0) = m ((c.tc : Thread Cert.RAttnFIdeal.nD Cert.RAttnFIdeal.τ).loc Cert.RAttnFIdeal.main_arg0)
      ∧ r.2.mem ((c.tc : Thread Cert.RAttnFIdeal.nD Cert.RAttnFIdeal.τ).loc Cert.RAttnFIdeal.main_arg1) = m ((c.tc : Thread Cert.RAttnFIdeal.nD Cert.RAttnFIdeal.τ).loc Cert.RAttnFIdeal.main_arg1)
      ∧ r.2.mem ((c.tc : Thread Cert.RAttnFIdeal.nD Cert.RAttnFIdeal.τ).loc Cert.RAttnFIdeal.main_arg2) = m ((c.tc : Thread Cert.RAttnFIdeal.nD Cert.RAttnFIdeal.τ).loc Cert.RAttnFIdeal.main_arg2)
      ∧ r.2.mem ((c.tc : Thread Cert.RAttnFIdeal.nD Cert.RAttnFIdeal.τ).loc Cert.RAttnFIdeal.main_arg3) = m ((c.tc : Thread Cert.RAttnFIdeal.nD Cert.RAttnFIdeal.τ).loc Cert.RAttnFIdeal.main_arg3))
      ∧ r.2.sem = fun _ => 0)

def quiescent_RAttnFIdeal_pre_finite_args [hRAttnFIdeal : Cert.RAttnFIdeal.Facts] [hPre_finite_args : Cert.Pre_finite_args.Facts] : Prop :=
  ∀ (m : (ℓ : Loc Cert.RAttnFIdeal.nD Cert.RAttnFIdeal.τ Cert.RAttnFIdeal.sig) → Buf (Elt Ideal) ℓ) (g : Dev Cert.RAttnFIdeal.nD → PrngReg), Pre_RAttnFIdeal_finite_args m →
    θ_run (Cert.RAttnFIdeal.defs (F := Ideal)) (onTc (τ := Cert.RAttnFIdeal.τ) (Cert.RAttnFIdeal.main (F := Ideal))) ⟨m, fun _ => 0, g⟩ (fun r => (∀ c : Dev Cert.RAttnFIdeal.nD,
      r.2.mem ((c.tc : Thread Cert.RAttnFIdeal.nD Cert.RAttnFIdeal.τ).loc Cert.RAttnFIdeal.main_arg0) = m ((c.tc : Thread Cert.RAttnFIdeal.nD Cert.RAttnFIdeal.τ).loc Cert.RAttnFIdeal.main_arg0)
      ∧ r.2.mem ((c.tc : Thread Cert.RAttnFIdeal.nD Cert.RAttnFIdeal.τ).loc Cert.RAttnFIdeal.main_arg1) = m ((c.tc : Thread Cert.RAttnFIdeal.nD Cert.RAttnFIdeal.τ).loc Cert.RAttnFIdeal.main_arg1)
      ∧ r.2.mem ((c.tc : Thread Cert.RAttnFIdeal.nD Cert.RAttnFIdeal.τ).loc Cert.RAttnFIdeal.main_arg2) = m ((c.tc : Thread Cert.RAttnFIdeal.nD Cert.RAttnFIdeal.τ).loc Cert.RAttnFIdeal.main_arg2)
      ∧ r.2.mem ((c.tc : Thread Cert.RAttnFIdeal.nD Cert.RAttnFIdeal.τ).loc Cert.RAttnFIdeal.main_arg3) = m ((c.tc : Thread Cert.RAttnFIdeal.nD Cert.RAttnFIdeal.τ).loc Cert.RAttnFIdeal.main_arg3))
      ∧ r.2.sem = fun _ => 0)

def preserves_KRms_KRmsIdeal : Prop :=
  True

def algebraic_KRmsIdeal_RRmsIdeal [hKRmsIdeal : Cert.KRmsIdeal.Facts] [hRRmsIdeal : Cert.RRmsIdeal.Facts] : Prop :=
  ∀ (m : (ℓ : Loc Cert.KRmsIdeal.nD Cert.KRmsIdeal.τ Cert.KRmsIdeal.sig) → Buf (Elt Ideal) ℓ) (g : Dev Cert.KRmsIdeal.nD → PrngReg)
    (m' : (ℓ : Loc Cert.RRmsIdeal.nD Cert.RRmsIdeal.τ Cert.RRmsIdeal.sig) → Buf (Elt Ideal) ℓ) (g' : Dev Cert.RRmsIdeal.nD → PrngReg), Pre_KRmsIdeal m →
    (∀ c : Dev Cert.KRmsIdeal.nD,
      m' ((c.tc : Thread Cert.RRmsIdeal.nD Cert.RRmsIdeal.τ).loc Cert.RRmsIdeal.main_arg0) = m ((c.tc : Thread Cert.KRmsIdeal.nD Cert.KRmsIdeal.τ).loc Cert.KRmsIdeal.main_arg0)
      ∧ m' ((c.tc : Thread Cert.RRmsIdeal.nD Cert.RRmsIdeal.τ).loc Cert.RRmsIdeal.main_arg1) = m ((c.tc : Thread Cert.KRmsIdeal.nD Cert.KRmsIdeal.τ).loc Cert.KRmsIdeal.main_arg1)
      ∧ m' ((c.tc : Thread Cert.RRmsIdeal.nD Cert.RRmsIdeal.τ).loc Cert.RRmsIdeal.main_arg2) = m ((c.tc : Thread Cert.KRmsIdeal.nD Cert.KRmsIdeal.τ).loc Cert.KRmsIdeal.main_arg2)
      ∧ m' ((c.tc : Thread Cert.RRmsIdeal.nD Cert.RRmsIdeal.τ).loc Cert.RRmsIdeal.main_arg3) = m ((c.tc : Thread Cert.KRmsIdeal.nD Cert.KRmsIdeal.τ).loc Cert.KRmsIdeal.main_arg3)) →
    ∃ (v0 : (c : Dev Cert.KRmsIdeal.nD) → Buf (Elt Ideal) ((c.tc : Thread Cert.KRmsIdeal.nD Cert.KRmsIdeal.τ).loc Cert.KRmsIdeal.main_v1_0)) (v1 : (c : Dev Cert.KRmsIdeal.nD) → Buf (Elt Ideal) ((c.tc : Thread Cert.KRmsIdeal.nD Cert.KRmsIdeal.τ).loc Cert.KRmsIdeal.main_v1_1)),
      θ_run (Cert.KRmsIdeal.defs (F := Ideal)) (onTc (τ := Cert.KRmsIdeal.τ) (Cert.KRmsIdeal.main (F := Ideal))) ⟨m, fun _ => 0, g⟩ (fun r => ∀ c : Dev Cert.KRmsIdeal.nD,
          r.2.mem ((c.tc : Thread Cert.KRmsIdeal.nD Cert.KRmsIdeal.τ).loc Cert.KRmsIdeal.main_v1_0) = v0 c
          ∧ r.2.mem ((c.tc : Thread Cert.KRmsIdeal.nD Cert.KRmsIdeal.τ).loc Cert.KRmsIdeal.main_v1_1) = v1 c
          ∧ r.2.mem ((c.tc : Thread Cert.KRmsIdeal.nD Cert.KRmsIdeal.τ).loc Cert.KRmsIdeal.main_arg0) = m ((c.tc : Thread Cert.KRmsIdeal.nD Cert.KRmsIdeal.τ).loc Cert.KRmsIdeal.main_arg0)
          ∧ r.2.mem ((c.tc : Thread Cert.KRmsIdeal.nD Cert.KRmsIdeal.τ).loc Cert.KRmsIdeal.main_arg1) = m ((c.tc : Thread Cert.KRmsIdeal.nD Cert.KRmsIdeal.τ).loc Cert.KRmsIdeal.main_arg1)
          ∧ r.2.mem ((c.tc : Thread Cert.KRmsIdeal.nD Cert.KRmsIdeal.τ).loc Cert.KRmsIdeal.main_arg2) = m ((c.tc : Thread Cert.KRmsIdeal.nD Cert.KRmsIdeal.τ).loc Cert.KRmsIdeal.main_arg2)
          ∧ r.2.mem ((c.tc : Thread Cert.KRmsIdeal.nD Cert.KRmsIdeal.τ).loc Cert.KRmsIdeal.main_arg3) = m ((c.tc : Thread Cert.KRmsIdeal.nD Cert.KRmsIdeal.τ).loc Cert.KRmsIdeal.main_arg3))
      ∧ θ_run (Cert.RRmsIdeal.defs (F := Ideal)) (onTc (τ := Cert.RRmsIdeal.τ) (Cert.RRmsIdeal.main (F := Ideal))) ⟨m', fun _ => 0, g'⟩ (fun r => ∀ c : Dev Cert.RRmsIdeal.nD,
          r.2.mem ((c.tc : Thread Cert.RRmsIdeal.nD Cert.RRmsIdeal.τ).loc Cert.RRmsIdeal.main_v36) = v0 c
          ∧ r.2.mem ((c.tc : Thread Cert.RRmsIdeal.nD Cert.RRmsIdeal.τ).loc Cert.RRmsIdeal.main_v37) = v1 c
          ∧ r.2.mem ((c.tc : Thread Cert.RRmsIdeal.nD Cert.RRmsIdeal.τ).loc Cert.RRmsIdeal.main_arg0) = m' ((c.tc : Thread Cert.RRmsIdeal.nD Cert.RRmsIdeal.τ).loc Cert.RRmsIdeal.main_arg0)
          ∧ r.2.mem ((c.tc : Thread Cert.RRmsIdeal.nD Cert.RRmsIdeal.τ).loc Cert.RRmsIdeal.main_arg1) = m' ((c.tc : Thread Cert.RRmsIdeal.nD Cert.RRmsIdeal.τ).loc Cert.RRmsIdeal.main_arg1)
          ∧ r.2.mem ((c.tc : Thread Cert.RRmsIdeal.nD Cert.RRmsIdeal.τ).loc Cert.RRmsIdeal.main_arg2) = m' ((c.tc : Thread Cert.RRmsIdeal.nD Cert.RRmsIdeal.τ).loc Cert.RRmsIdeal.main_arg2)
          ∧ r.2.mem ((c.tc : Thread Cert.RRmsIdeal.nD Cert.RRmsIdeal.τ).loc Cert.RRmsIdeal.main_arg3) = m' ((c.tc : Thread Cert.RRmsIdeal.nD Cert.RRmsIdeal.τ).loc Cert.RRmsIdeal.main_arg3))

def preserves_KPost_KPostIdeal : Prop :=
  True

def algebraic_KPostIdeal_RPostIdeal [hKPostIdeal : Cert.KPostIdeal.Facts] [hRPostIdeal : Cert.RPostIdeal.Facts] : Prop :=
  ∀ (m : (ℓ : Loc Cert.KPostIdeal.nD Cert.KPostIdeal.τ Cert.KPostIdeal.sig) → Buf (Elt Ideal) ℓ) (g : Dev Cert.KPostIdeal.nD → PrngReg)
    (m' : (ℓ : Loc Cert.RPostIdeal.nD Cert.RPostIdeal.τ Cert.RPostIdeal.sig) → Buf (Elt Ideal) ℓ) (g' : Dev Cert.RPostIdeal.nD → PrngReg), Pre_KPostIdeal m →
    (∀ c : Dev Cert.KPostIdeal.nD,
      m' ((c.tc : Thread Cert.RPostIdeal.nD Cert.RPostIdeal.τ).loc Cert.RPostIdeal.main_arg0) = m ((c.tc : Thread Cert.KPostIdeal.nD Cert.KPostIdeal.τ).loc Cert.KPostIdeal.main_arg0)
      ∧ m' ((c.tc : Thread Cert.RPostIdeal.nD Cert.RPostIdeal.τ).loc Cert.RPostIdeal.main_arg1) = m ((c.tc : Thread Cert.KPostIdeal.nD Cert.KPostIdeal.τ).loc Cert.KPostIdeal.main_arg1)
      ∧ m' ((c.tc : Thread Cert.RPostIdeal.nD Cert.RPostIdeal.τ).loc Cert.RPostIdeal.main_arg2) = m ((c.tc : Thread Cert.KPostIdeal.nD Cert.KPostIdeal.τ).loc Cert.KPostIdeal.main_arg2)) →
    ∃ (v0 : (c : Dev Cert.KPostIdeal.nD) → Buf (Elt Ideal) ((c.tc : Thread Cert.KPostIdeal.nD Cert.KPostIdeal.τ).loc Cert.KPostIdeal.main_v1_0)) (v1 : (c : Dev Cert.KPostIdeal.nD) → Buf (Elt Ideal) ((c.tc : Thread Cert.KPostIdeal.nD Cert.KPostIdeal.τ).loc Cert.KPostIdeal.main_v1_1)),
      θ_run (Cert.KPostIdeal.defs (F := Ideal)) (onTc (τ := Cert.KPostIdeal.τ) (Cert.KPostIdeal.main (F := Ideal))) ⟨m, fun _ => 0, g⟩ (fun r => ∀ c : Dev Cert.KPostIdeal.nD,
          r.2.mem ((c.tc : Thread Cert.KPostIdeal.nD Cert.KPostIdeal.τ).loc Cert.KPostIdeal.main_v1_0) = v0 c
          ∧ r.2.mem ((c.tc : Thread Cert.KPostIdeal.nD Cert.KPostIdeal.τ).loc Cert.KPostIdeal.main_v1_1) = v1 c
          ∧ r.2.mem ((c.tc : Thread Cert.KPostIdeal.nD Cert.KPostIdeal.τ).loc Cert.KPostIdeal.main_arg0) = m ((c.tc : Thread Cert.KPostIdeal.nD Cert.KPostIdeal.τ).loc Cert.KPostIdeal.main_arg0)
          ∧ r.2.mem ((c.tc : Thread Cert.KPostIdeal.nD Cert.KPostIdeal.τ).loc Cert.KPostIdeal.main_arg1) = m ((c.tc : Thread Cert.KPostIdeal.nD Cert.KPostIdeal.τ).loc Cert.KPostIdeal.main_arg1)
          ∧ r.2.mem ((c.tc : Thread Cert.KPostIdeal.nD Cert.KPostIdeal.τ).loc Cert.KPostIdeal.main_arg2) = m ((c.tc : Thread Cert.KPostIdeal.nD Cert.KPostIdeal.τ).loc Cert.KPostIdeal.main_arg2))
      ∧ θ_run (Cert.RPostIdeal.defs (F := Ideal)) (onTc (τ := Cert.RPostIdeal.τ) (Cert.RPostIdeal.main (F := Ideal))) ⟨m', fun _ => 0, g'⟩ (fun r => ∀ c : Dev Cert.RPostIdeal.nD,
          r.2.mem ((c.tc : Thread Cert.RPostIdeal.nD Cert.RPostIdeal.τ).loc Cert.RPostIdeal.main_v40) = v0 c
          ∧ r.2.mem ((c.tc : Thread Cert.RPostIdeal.nD Cert.RPostIdeal.τ).loc Cert.RPostIdeal.main_v41) = v1 c
          ∧ r.2.mem ((c.tc : Thread Cert.RPostIdeal.nD Cert.RPostIdeal.τ).loc Cert.RPostIdeal.main_arg0) = m' ((c.tc : Thread Cert.RPostIdeal.nD Cert.RPostIdeal.τ).loc Cert.RPostIdeal.main_arg0)
          ∧ r.2.mem ((c.tc : Thread Cert.RPostIdeal.nD Cert.RPostIdeal.τ).loc Cert.RPostIdeal.main_arg1) = m' ((c.tc : Thread Cert.RPostIdeal.nD Cert.RPostIdeal.τ).loc Cert.RPostIdeal.main_arg1)
          ∧ r.2.mem ((c.tc : Thread Cert.RPostIdeal.nD Cert.RPostIdeal.τ).loc Cert.RPostIdeal.main_arg2) = m' ((c.tc : Thread Cert.RPostIdeal.nD Cert.RPostIdeal.τ).loc Cert.RPostIdeal.main_arg2))

def preserves_KPle_KPleIdeal : Prop :=
  True

def algebraic_KPleIdeal_RPleIdeal [hKPleIdeal : Cert.KPleIdeal.Facts] [hRPleIdeal : Cert.RPleIdeal.Facts] : Prop :=
  ∀ (m : (ℓ : Loc Cert.KPleIdeal.nD Cert.KPleIdeal.τ Cert.KPleIdeal.sig) → Buf (Elt Ideal) ℓ) (g : Dev Cert.KPleIdeal.nD → PrngReg)
    (m' : (ℓ : Loc Cert.RPleIdeal.nD Cert.RPleIdeal.τ Cert.RPleIdeal.sig) → Buf (Elt Ideal) ℓ) (g' : Dev Cert.RPleIdeal.nD → PrngReg), Pre_KPleIdeal m →
    (∀ c : Dev Cert.KPleIdeal.nD,
      m' ((c.tc : Thread Cert.RPleIdeal.nD Cert.RPleIdeal.τ).loc Cert.RPleIdeal.main_arg0) = m ((c.tc : Thread Cert.KPleIdeal.nD Cert.KPleIdeal.τ).loc Cert.KPleIdeal.main_arg0)
      ∧ m' ((c.tc : Thread Cert.RPleIdeal.nD Cert.RPleIdeal.τ).loc Cert.RPleIdeal.main_arg1) = m ((c.tc : Thread Cert.KPleIdeal.nD Cert.KPleIdeal.τ).loc Cert.KPleIdeal.main_arg1)
      ∧ m' ((c.tc : Thread Cert.RPleIdeal.nD Cert.RPleIdeal.τ).loc Cert.RPleIdeal.main_arg2) = m ((c.tc : Thread Cert.KPleIdeal.nD Cert.KPleIdeal.τ).loc Cert.KPleIdeal.main_arg2)
      ∧ m' ((c.tc : Thread Cert.RPleIdeal.nD Cert.RPleIdeal.τ).loc Cert.RPleIdeal.main_arg3) = m ((c.tc : Thread Cert.KPleIdeal.nD Cert.KPleIdeal.τ).loc Cert.KPleIdeal.main_arg3)) →
    ∃ (v0 : (c : Dev Cert.KPleIdeal.nD) → Buf (Elt Ideal) ((c.tc : Thread Cert.KPleIdeal.nD Cert.KPleIdeal.τ).loc Cert.KPleIdeal.main_v1_0)) (v1 : (c : Dev Cert.KPleIdeal.nD) → Buf (Elt Ideal) ((c.tc : Thread Cert.KPleIdeal.nD Cert.KPleIdeal.τ).loc Cert.KPleIdeal.main_v1_1)) (v2 : (c : Dev Cert.KPleIdeal.nD) → Buf (Elt Ideal) ((c.tc : Thread Cert.KPleIdeal.nD Cert.KPleIdeal.τ).loc Cert.KPleIdeal.main_v1_2)),
      θ_run (Cert.KPleIdeal.defs (F := Ideal)) (onTc (τ := Cert.KPleIdeal.τ) (Cert.KPleIdeal.main (F := Ideal))) ⟨m, fun _ => 0, g⟩ (fun r => ∀ c : Dev Cert.KPleIdeal.nD,
          r.2.mem ((c.tc : Thread Cert.KPleIdeal.nD Cert.KPleIdeal.τ).loc Cert.KPleIdeal.main_v1_0) = v0 c
          ∧ r.2.mem ((c.tc : Thread Cert.KPleIdeal.nD Cert.KPleIdeal.τ).loc Cert.KPleIdeal.main_v1_1) = v1 c
          ∧ r.2.mem ((c.tc : Thread Cert.KPleIdeal.nD Cert.KPleIdeal.τ).loc Cert.KPleIdeal.main_v1_2) = v2 c
          ∧ r.2.mem ((c.tc : Thread Cert.KPleIdeal.nD Cert.KPleIdeal.τ).loc Cert.KPleIdeal.main_arg0) = m ((c.tc : Thread Cert.KPleIdeal.nD Cert.KPleIdeal.τ).loc Cert.KPleIdeal.main_arg0)
          ∧ r.2.mem ((c.tc : Thread Cert.KPleIdeal.nD Cert.KPleIdeal.τ).loc Cert.KPleIdeal.main_arg1) = m ((c.tc : Thread Cert.KPleIdeal.nD Cert.KPleIdeal.τ).loc Cert.KPleIdeal.main_arg1)
          ∧ r.2.mem ((c.tc : Thread Cert.KPleIdeal.nD Cert.KPleIdeal.τ).loc Cert.KPleIdeal.main_arg2) = m ((c.tc : Thread Cert.KPleIdeal.nD Cert.KPleIdeal.τ).loc Cert.KPleIdeal.main_arg2)
          ∧ r.2.mem ((c.tc : Thread Cert.KPleIdeal.nD Cert.KPleIdeal.τ).loc Cert.KPleIdeal.main_arg3) = m ((c.tc : Thread Cert.KPleIdeal.nD Cert.KPleIdeal.τ).loc Cert.KPleIdeal.main_arg3))
      ∧ θ_run (Cert.RPleIdeal.defs (F := Ideal)) (onTc (τ := Cert.RPleIdeal.τ) (Cert.RPleIdeal.main (F := Ideal))) ⟨m', fun _ => 0, g'⟩ (fun r => ∀ c : Dev Cert.RPleIdeal.nD,
          r.2.mem ((c.tc : Thread Cert.RPleIdeal.nD Cert.RPleIdeal.τ).loc Cert.RPleIdeal.main_v49) = v0 c
          ∧ r.2.mem ((c.tc : Thread Cert.RPleIdeal.nD Cert.RPleIdeal.τ).loc Cert.RPleIdeal.main_v50) = v1 c
          ∧ r.2.mem ((c.tc : Thread Cert.RPleIdeal.nD Cert.RPleIdeal.τ).loc Cert.RPleIdeal.main_v51) = v2 c
          ∧ r.2.mem ((c.tc : Thread Cert.RPleIdeal.nD Cert.RPleIdeal.τ).loc Cert.RPleIdeal.main_arg0) = m' ((c.tc : Thread Cert.RPleIdeal.nD Cert.RPleIdeal.τ).loc Cert.RPleIdeal.main_arg0)
          ∧ r.2.mem ((c.tc : Thread Cert.RPleIdeal.nD Cert.RPleIdeal.τ).loc Cert.RPleIdeal.main_arg1) = m' ((c.tc : Thread Cert.RPleIdeal.nD Cert.RPleIdeal.τ).loc Cert.RPleIdeal.main_arg1)
          ∧ r.2.mem ((c.tc : Thread Cert.RPleIdeal.nD Cert.RPleIdeal.τ).loc Cert.RPleIdeal.main_arg2) = m' ((c.tc : Thread Cert.RPleIdeal.nD Cert.RPleIdeal.τ).loc Cert.RPleIdeal.main_arg2)
          ∧ r.2.mem ((c.tc : Thread Cert.RPleIdeal.nD Cert.RPleIdeal.τ).loc Cert.RPleIdeal.main_arg3) = m' ((c.tc : Thread Cert.RPleIdeal.nD Cert.RPleIdeal.τ).loc Cert.RPleIdeal.main_arg3))

def preserves_KConv_KConvIdeal : Prop :=
  True

def algebraic_KConvIdeal_RConvIdeal [hKConvIdeal : Cert.KConvIdeal.Facts] [hRConvIdeal : Cert.RConvIdeal.Facts] : Prop :=
  ∀ (m : (ℓ : Loc Cert.KConvIdeal.nD Cert.KConvIdeal.τ Cert.KConvIdeal.sig) → Buf (Elt Ideal) ℓ) (g : Dev Cert.KConvIdeal.nD → PrngReg)
    (m' : (ℓ : Loc Cert.RConvIdeal.nD Cert.RConvIdeal.τ Cert.RConvIdeal.sig) → Buf (Elt Ideal) ℓ) (g' : Dev Cert.RConvIdeal.nD → PrngReg), Pre_KConvIdeal m →
    (∀ c : Dev Cert.KConvIdeal.nD,
      m' ((c.tc : Thread Cert.RConvIdeal.nD Cert.RConvIdeal.τ).loc Cert.RConvIdeal.main_arg0) = m ((c.tc : Thread Cert.KConvIdeal.nD Cert.KConvIdeal.τ).loc Cert.KConvIdeal.main_arg0)
      ∧ m' ((c.tc : Thread Cert.RConvIdeal.nD Cert.RConvIdeal.τ).loc Cert.RConvIdeal.main_arg1) = m ((c.tc : Thread Cert.KConvIdeal.nD Cert.KConvIdeal.τ).loc Cert.KConvIdeal.main_arg1)
      ∧ m' ((c.tc : Thread Cert.RConvIdeal.nD Cert.RConvIdeal.τ).loc Cert.RConvIdeal.main_arg2) = m ((c.tc : Thread Cert.KConvIdeal.nD Cert.KConvIdeal.τ).loc Cert.KConvIdeal.main_arg2)) →
    ∃ (v0 : (c : Dev Cert.KConvIdeal.nD) → Buf (Elt Ideal) ((c.tc : Thread Cert.KConvIdeal.nD Cert.KConvIdeal.τ).loc Cert.KConvIdeal.main_v2_0)) (v1 : (c : Dev Cert.KConvIdeal.nD) → Buf (Elt Ideal) ((c.tc : Thread Cert.KConvIdeal.nD Cert.KConvIdeal.τ).loc Cert.KConvIdeal.main_v2_1)) (v2 : (c : Dev Cert.KConvIdeal.nD) → Buf (Elt Ideal) ((c.tc : Thread Cert.KConvIdeal.nD Cert.KConvIdeal.τ).loc Cert.KConvIdeal.main_v2_2)),
      θ_run (Cert.KConvIdeal.defs (F := Ideal)) (onTc (τ := Cert.KConvIdeal.τ) (Cert.KConvIdeal.main (F := Ideal))) ⟨m, fun _ => 0, g⟩ (fun r => ∀ c : Dev Cert.KConvIdeal.nD,
          r.2.mem ((c.tc : Thread Cert.KConvIdeal.nD Cert.KConvIdeal.τ).loc Cert.KConvIdeal.main_v2_0) = v0 c
          ∧ r.2.mem ((c.tc : Thread Cert.KConvIdeal.nD Cert.KConvIdeal.τ).loc Cert.KConvIdeal.main_v2_1) = v1 c
          ∧ r.2.mem ((c.tc : Thread Cert.KConvIdeal.nD Cert.KConvIdeal.τ).loc Cert.KConvIdeal.main_v2_2) = v2 c
          ∧ r.2.mem ((c.tc : Thread Cert.KConvIdeal.nD Cert.KConvIdeal.τ).loc Cert.KConvIdeal.main_arg0) = m ((c.tc : Thread Cert.KConvIdeal.nD Cert.KConvIdeal.τ).loc Cert.KConvIdeal.main_arg0)
          ∧ r.2.mem ((c.tc : Thread Cert.KConvIdeal.nD Cert.KConvIdeal.τ).loc Cert.KConvIdeal.main_arg1) = m ((c.tc : Thread Cert.KConvIdeal.nD Cert.KConvIdeal.τ).loc Cert.KConvIdeal.main_arg1)
          ∧ r.2.mem ((c.tc : Thread Cert.KConvIdeal.nD Cert.KConvIdeal.τ).loc Cert.KConvIdeal.main_arg2) = m ((c.tc : Thread Cert.KConvIdeal.nD Cert.KConvIdeal.τ).loc Cert.KConvIdeal.main_arg2))
      ∧ θ_run (Cert.RConvIdeal.defs (F := Ideal)) (onTc (τ := Cert.RConvIdeal.τ) (Cert.RConvIdeal.main (F := Ideal))) ⟨m', fun _ => 0, g'⟩ (fun r => ∀ c : Dev Cert.RConvIdeal.nD,
          r.2.mem ((c.tc : Thread Cert.RConvIdeal.nD Cert.RConvIdeal.τ).loc Cert.RConvIdeal.main_v85) = v0 c
          ∧ r.2.mem ((c.tc : Thread Cert.RConvIdeal.nD Cert.RConvIdeal.τ).loc Cert.RConvIdeal.main_v80) = v1 c
          ∧ r.2.mem ((c.tc : Thread Cert.RConvIdeal.nD Cert.RConvIdeal.τ).loc Cert.RConvIdeal.main_v86) = v2 c
          ∧ r.2.mem ((c.tc : Thread Cert.RConvIdeal.nD Cert.RConvIdeal.τ).loc Cert.RConvIdeal.main_arg0) = m' ((c.tc : Thread Cert.RConvIdeal.nD Cert.RConvIdeal.τ).loc Cert.RConvIdeal.main_arg0)
          ∧ r.2.mem ((c.tc : Thread Cert.RConvIdeal.nD Cert.RConvIdeal.τ).loc Cert.RConvIdeal.main_arg1) = m' ((c.tc : Thread Cert.RConvIdeal.nD Cert.RConvIdeal.τ).loc Cert.RConvIdeal.main_arg1)
          ∧ r.2.mem ((c.tc : Thread Cert.RConvIdeal.nD Cert.RConvIdeal.τ).loc Cert.RConvIdeal.main_arg2) = m' ((c.tc : Thread Cert.RConvIdeal.nD Cert.RConvIdeal.τ).loc Cert.RConvIdeal.main_arg2))

def preserves_KFfn_KFfnIdeal : Prop :=
  True

def algebraic_KFfnIdeal_RFfnIdeal [hKFfnIdeal : Cert.KFfnIdeal.Facts] [hRFfnIdeal : Cert.RFfnIdeal.Facts] : Prop :=
  ∀ (m : (ℓ : Loc Cert.KFfnIdeal.nD Cert.KFfnIdeal.τ Cert.KFfnIdeal.sig) → Buf (Elt Ideal) ℓ) (g : Dev Cert.KFfnIdeal.nD → PrngReg)
    (m' : (ℓ : Loc Cert.RFfnIdeal.nD Cert.RFfnIdeal.τ Cert.RFfnIdeal.sig) → Buf (Elt Ideal) ℓ) (g' : Dev Cert.RFfnIdeal.nD → PrngReg), Pre_KFfnIdeal m →
    (∀ c : Dev Cert.KFfnIdeal.nD,
      m' ((c.tc : Thread Cert.RFfnIdeal.nD Cert.RFfnIdeal.τ).loc Cert.RFfnIdeal.main_arg0) = m ((c.tc : Thread Cert.KFfnIdeal.nD Cert.KFfnIdeal.τ).loc Cert.KFfnIdeal.main_arg0)
      ∧ m' ((c.tc : Thread Cert.RFfnIdeal.nD Cert.RFfnIdeal.τ).loc Cert.RFfnIdeal.main_arg1) = m ((c.tc : Thread Cert.KFfnIdeal.nD Cert.KFfnIdeal.τ).loc Cert.KFfnIdeal.main_arg1)
      ∧ m' ((c.tc : Thread Cert.RFfnIdeal.nD Cert.RFfnIdeal.τ).loc Cert.RFfnIdeal.main_arg2) = m ((c.tc : Thread Cert.KFfnIdeal.nD Cert.KFfnIdeal.τ).loc Cert.KFfnIdeal.main_arg2)) →
    ∃ (v0 : (c : Dev Cert.KFfnIdeal.nD) → Buf (Elt Ideal) ((c.tc : Thread Cert.KFfnIdeal.nD Cert.KFfnIdeal.τ).loc Cert.KFfnIdeal.main_v8)),
      θ_run (Cert.KFfnIdeal.defs (F := Ideal)) (onTc (τ := Cert.KFfnIdeal.τ) (Cert.KFfnIdeal.main (F := Ideal))) ⟨m, fun _ => 0, g⟩ (fun r => ∀ c : Dev Cert.KFfnIdeal.nD,
          r.2.mem ((c.tc : Thread Cert.KFfnIdeal.nD Cert.KFfnIdeal.τ).loc Cert.KFfnIdeal.main_v8) = v0 c
          ∧ r.2.mem ((c.tc : Thread Cert.KFfnIdeal.nD Cert.KFfnIdeal.τ).loc Cert.KFfnIdeal.main_arg0) = m ((c.tc : Thread Cert.KFfnIdeal.nD Cert.KFfnIdeal.τ).loc Cert.KFfnIdeal.main_arg0)
          ∧ r.2.mem ((c.tc : Thread Cert.KFfnIdeal.nD Cert.KFfnIdeal.τ).loc Cert.KFfnIdeal.main_arg1) = m ((c.tc : Thread Cert.KFfnIdeal.nD Cert.KFfnIdeal.τ).loc Cert.KFfnIdeal.main_arg1)
          ∧ r.2.mem ((c.tc : Thread Cert.KFfnIdeal.nD Cert.KFfnIdeal.τ).loc Cert.KFfnIdeal.main_arg2) = m ((c.tc : Thread Cert.KFfnIdeal.nD Cert.KFfnIdeal.τ).loc Cert.KFfnIdeal.main_arg2))
      ∧ θ_run (Cert.RFfnIdeal.defs (F := Ideal)) (onTc (τ := Cert.RFfnIdeal.τ) (Cert.RFfnIdeal.main (F := Ideal))) ⟨m', fun _ => 0, g'⟩ (fun r => ∀ c : Dev Cert.RFfnIdeal.nD,
          r.2.mem ((c.tc : Thread Cert.RFfnIdeal.nD Cert.RFfnIdeal.τ).loc Cert.RFfnIdeal.main_v15) = v0 c
          ∧ r.2.mem ((c.tc : Thread Cert.RFfnIdeal.nD Cert.RFfnIdeal.τ).loc Cert.RFfnIdeal.main_arg0) = m' ((c.tc : Thread Cert.RFfnIdeal.nD Cert.RFfnIdeal.τ).loc Cert.RFfnIdeal.main_arg0)
          ∧ r.2.mem ((c.tc : Thread Cert.RFfnIdeal.nD Cert.RFfnIdeal.τ).loc Cert.RFfnIdeal.main_arg1) = m' ((c.tc : Thread Cert.RFfnIdeal.nD Cert.RFfnIdeal.τ).loc Cert.RFfnIdeal.main_arg1)
          ∧ r.2.mem ((c.tc : Thread Cert.RFfnIdeal.nD Cert.RFfnIdeal.τ).loc Cert.RFfnIdeal.main_arg2) = m' ((c.tc : Thread Cert.RFfnIdeal.nD Cert.RFfnIdeal.τ).loc Cert.RFfnIdeal.main_arg2))

def preserves_KLoss_KLossIdeal : Prop :=
  True

def algebraic_KLossIdeal_RLossIdeal [hKLossIdeal : Cert.KLossIdeal.Facts] [hRLossIdeal : Cert.RLossIdeal.Facts] : Prop :=
  ∀ (m : (ℓ : Loc Cert.KLossIdeal.nD Cert.KLossIdeal.τ Cert.KLossIdeal.sig) → Buf (Elt Ideal) ℓ) (g : Dev Cert.KLossIdeal.nD → PrngReg)
    (m' : (ℓ : Loc Cert.RLossIdeal.nD Cert.RLossIdeal.τ Cert.RLossIdeal.sig) → Buf (Elt Ideal) ℓ) (g' : Dev Cert.RLossIdeal.nD → PrngReg), Pre_KLossIdeal m →
    (∀ c : Dev Cert.KLossIdeal.nD,
      m' ((c.tc : Thread Cert.RLossIdeal.nD Cert.RLossIdeal.τ).loc Cert.RLossIdeal.main_arg0) = m ((c.tc : Thread Cert.KLossIdeal.nD Cert.KLossIdeal.τ).loc Cert.KLossIdeal.main_arg0)
      ∧ m' ((c.tc : Thread Cert.RLossIdeal.nD Cert.RLossIdeal.τ).loc Cert.RLossIdeal.main_arg1) = m ((c.tc : Thread Cert.KLossIdeal.nD Cert.KLossIdeal.τ).loc Cert.KLossIdeal.main_arg1)) →
    ∃ (v0 : (c : Dev Cert.KLossIdeal.nD) → Buf (Elt Ideal) ((c.tc : Thread Cert.KLossIdeal.nD Cert.KLossIdeal.τ).loc Cert.KLossIdeal.main_v3)) (v1 : (c : Dev Cert.KLossIdeal.nD) → Buf (Elt Ideal) ((c.tc : Thread Cert.KLossIdeal.nD Cert.KLossIdeal.τ).loc Cert.KLossIdeal.main_v0_0)),
      θ_run (Cert.KLossIdeal.defs (F := Ideal)) (onTc (τ := Cert.KLossIdeal.τ) (Cert.KLossIdeal.main (F := Ideal))) ⟨m, fun _ => 0, g⟩ (fun r => ∀ c : Dev Cert.KLossIdeal.nD,
          r.2.mem ((c.tc : Thread Cert.KLossIdeal.nD Cert.KLossIdeal.τ).loc Cert.KLossIdeal.main_v3) = v0 c
          ∧ r.2.mem ((c.tc : Thread Cert.KLossIdeal.nD Cert.KLossIdeal.τ).loc Cert.KLossIdeal.main_v0_0) = v1 c
          ∧ r.2.mem ((c.tc : Thread Cert.KLossIdeal.nD Cert.KLossIdeal.τ).loc Cert.KLossIdeal.main_arg0) = m ((c.tc : Thread Cert.KLossIdeal.nD Cert.KLossIdeal.τ).loc Cert.KLossIdeal.main_arg0)
          ∧ r.2.mem ((c.tc : Thread Cert.KLossIdeal.nD Cert.KLossIdeal.τ).loc Cert.KLossIdeal.main_arg1) = m ((c.tc : Thread Cert.KLossIdeal.nD Cert.KLossIdeal.τ).loc Cert.KLossIdeal.main_arg1))
      ∧ θ_run (Cert.RLossIdeal.defs (F := Ideal)) (onTc (τ := Cert.RLossIdeal.τ) (Cert.RLossIdeal.main (F := Ideal))) ⟨m', fun _ => 0, g'⟩ (fun r => ∀ c : Dev Cert.RLossIdeal.nD,
          r.2.mem ((c.tc : Thread Cert.RLossIdeal.nD Cert.RLossIdeal.τ).loc Cert.RLossIdeal.main_v8) = v0 c
          ∧ r.2.mem ((c.tc : Thread Cert.RLossIdeal.nD Cert.RLossIdeal.τ).loc Cert.RLossIdeal.main_v14) = v1 c
          ∧ r.2.mem ((c.tc : Thread Cert.RLossIdeal.nD Cert.RLossIdeal.τ).loc Cert.RLossIdeal.main_arg0) = m' ((c.tc : Thread Cert.RLossIdeal.nD Cert.RLossIdeal.τ).loc Cert.RLossIdeal.main_arg0)
          ∧ r.2.mem ((c.tc : Thread Cert.RLossIdeal.nD Cert.RLossIdeal.τ).loc Cert.RLossIdeal.main_arg1) = m' ((c.tc : Thread Cert.RLossIdeal.nD Cert.RLossIdeal.τ).loc Cert.RLossIdeal.main_arg1))

def preserves_KQrope_KQropeIdeal : Prop :=
  True

def algebraic_KQropeIdeal_RQropeIdeal [hKQropeIdeal : Cert.KQropeIdeal.Facts] [hRQropeIdeal : Cert.RQropeIdeal.Facts] : Prop :=
  ∀ (m : (ℓ : Loc Cert.KQropeIdeal.nD Cert.KQropeIdeal.τ Cert.KQropeIdeal.sig) → Buf (Elt Ideal) ℓ) (g : Dev Cert.KQropeIdeal.nD → PrngReg)
    (m' : (ℓ : Loc Cert.RQropeIdeal.nD Cert.RQropeIdeal.τ Cert.RQropeIdeal.sig) → Buf (Elt Ideal) ℓ) (g' : Dev Cert.RQropeIdeal.nD → PrngReg), Pre_KQropeIdeal m →
    (∀ c : Dev Cert.KQropeIdeal.nD,
      m' ((c.tc : Thread Cert.RQropeIdeal.nD Cert.RQropeIdeal.τ).loc Cert.RQropeIdeal.main_arg0) = m ((c.tc : Thread Cert.KQropeIdeal.nD Cert.KQropeIdeal.τ).loc Cert.KQropeIdeal.main_arg0)
      ∧ m' ((c.tc : Thread Cert.RQropeIdeal.nD Cert.RQropeIdeal.τ).loc Cert.RQropeIdeal.main_arg1) = m ((c.tc : Thread Cert.KQropeIdeal.nD Cert.KQropeIdeal.τ).loc Cert.KQropeIdeal.main_arg1)
      ∧ m' ((c.tc : Thread Cert.RQropeIdeal.nD Cert.RQropeIdeal.τ).loc Cert.RQropeIdeal.main_arg2) = m ((c.tc : Thread Cert.KQropeIdeal.nD Cert.KQropeIdeal.τ).loc Cert.KQropeIdeal.main_arg2)) →
    ∃ (v0 : (c : Dev Cert.KQropeIdeal.nD) → Buf (Elt Ideal) ((c.tc : Thread Cert.KQropeIdeal.nD Cert.KQropeIdeal.τ).loc Cert.KQropeIdeal.main_v22)),
      θ_run (Cert.KQropeIdeal.defs (F := Ideal)) (onTc (τ := Cert.KQropeIdeal.τ) (Cert.KQropeIdeal.main (F := Ideal))) ⟨m, fun _ => 0, g⟩ (fun r => ∀ c : Dev Cert.KQropeIdeal.nD,
          r.2.mem ((c.tc : Thread Cert.KQropeIdeal.nD Cert.KQropeIdeal.τ).loc Cert.KQropeIdeal.main_v22) = v0 c
          ∧ r.2.mem ((c.tc : Thread Cert.KQropeIdeal.nD Cert.KQropeIdeal.τ).loc Cert.KQropeIdeal.main_arg0) = m ((c.tc : Thread Cert.KQropeIdeal.nD Cert.KQropeIdeal.τ).loc Cert.KQropeIdeal.main_arg0)
          ∧ r.2.mem ((c.tc : Thread Cert.KQropeIdeal.nD Cert.KQropeIdeal.τ).loc Cert.KQropeIdeal.main_arg1) = m ((c.tc : Thread Cert.KQropeIdeal.nD Cert.KQropeIdeal.τ).loc Cert.KQropeIdeal.main_arg1)
          ∧ r.2.mem ((c.tc : Thread Cert.KQropeIdeal.nD Cert.KQropeIdeal.τ).loc Cert.KQropeIdeal.main_arg2) = m ((c.tc : Thread Cert.KQropeIdeal.nD Cert.KQropeIdeal.τ).loc Cert.KQropeIdeal.main_arg2))
      ∧ θ_run (Cert.RQropeIdeal.defs (F := Ideal)) (onTc (τ := Cert.RQropeIdeal.τ) (Cert.RQropeIdeal.main (F := Ideal))) ⟨m', fun _ => 0, g'⟩ (fun r => ∀ c : Dev Cert.RQropeIdeal.nD,
          r.2.mem ((c.tc : Thread Cert.RQropeIdeal.nD Cert.RQropeIdeal.τ).loc Cert.RQropeIdeal.main_v44) = v0 c
          ∧ r.2.mem ((c.tc : Thread Cert.RQropeIdeal.nD Cert.RQropeIdeal.τ).loc Cert.RQropeIdeal.main_arg0) = m' ((c.tc : Thread Cert.RQropeIdeal.nD Cert.RQropeIdeal.τ).loc Cert.RQropeIdeal.main_arg0)
          ∧ r.2.mem ((c.tc : Thread Cert.RQropeIdeal.nD Cert.RQropeIdeal.τ).loc Cert.RQropeIdeal.main_arg1) = m' ((c.tc : Thread Cert.RQropeIdeal.nD Cert.RQropeIdeal.τ).loc Cert.RQropeIdeal.main_arg1)
          ∧ r.2.mem ((c.tc : Thread Cert.RQropeIdeal.nD Cert.RQropeIdeal.τ).loc Cert.RQropeIdeal.main_arg2) = m' ((c.tc : Thread Cert.RQropeIdeal.nD Cert.RQropeIdeal.τ).loc Cert.RQropeIdeal.main_arg2))

def preserves_KKprep_KKprepIdeal : Prop :=
  True

def algebraic_KKprepIdeal_RKprepIdeal [hKKprepIdeal : Cert.KKprepIdeal.Facts] [hRKprepIdeal : Cert.RKprepIdeal.Facts] : Prop :=
  ∀ (m : (ℓ : Loc Cert.KKprepIdeal.nD Cert.KKprepIdeal.τ Cert.KKprepIdeal.sig) → Buf (Elt Ideal) ℓ) (g : Dev Cert.KKprepIdeal.nD → PrngReg)
    (m' : (ℓ : Loc Cert.RKprepIdeal.nD Cert.RKprepIdeal.τ Cert.RKprepIdeal.sig) → Buf (Elt Ideal) ℓ) (g' : Dev Cert.RKprepIdeal.nD → PrngReg), Pre_KKprepIdeal m →
    (∀ c : Dev Cert.KKprepIdeal.nD,
      m' ((c.tc : Thread Cert.RKprepIdeal.nD Cert.RKprepIdeal.τ).loc Cert.RKprepIdeal.main_arg0) = m ((c.tc : Thread Cert.KKprepIdeal.nD Cert.KKprepIdeal.τ).loc Cert.KKprepIdeal.main_arg0)
      ∧ m' ((c.tc : Thread Cert.RKprepIdeal.nD Cert.RKprepIdeal.τ).loc Cert.RKprepIdeal.main_arg1) = m ((c.tc : Thread Cert.KKprepIdeal.nD Cert.KKprepIdeal.τ).loc Cert.KKprepIdeal.main_arg1)
      ∧ m' ((c.tc : Thread Cert.RKprepIdeal.nD Cert.RKprepIdeal.τ).loc Cert.RKprepIdeal.main_arg2) = m ((c.tc : Thread Cert.KKprepIdeal.nD Cert.KKprepIdeal.τ).loc Cert.KKprepIdeal.main_arg2)
      ∧ m' ((c.tc : Thread Cert.RKprepIdeal.nD Cert.RKprepIdeal.τ).loc Cert.RKprepIdeal.main_arg3) = m ((c.tc : Thread Cert.KKprepIdeal.nD Cert.KKprepIdeal.τ).loc Cert.KKprepIdeal.main_arg3)
      ∧ m' ((c.tc : Thread Cert.RKprepIdeal.nD Cert.RKprepIdeal.τ).loc Cert.RKprepIdeal.main_arg4) = m ((c.tc : Thread Cert.KKprepIdeal.nD Cert.KKprepIdeal.τ).loc Cert.KKprepIdeal.main_arg4)
      ∧ m' ((c.tc : Thread Cert.RKprepIdeal.nD Cert.RKprepIdeal.τ).loc Cert.RKprepIdeal.main_arg5) = m ((c.tc : Thread Cert.KKprepIdeal.nD Cert.KKprepIdeal.τ).loc Cert.KKprepIdeal.main_arg5)
      ∧ m' ((c.tc : Thread Cert.RKprepIdeal.nD Cert.RKprepIdeal.τ).loc Cert.RKprepIdeal.main_arg6) = m ((c.tc : Thread Cert.KKprepIdeal.nD Cert.KKprepIdeal.τ).loc Cert.KKprepIdeal.main_arg6)
      ∧ m' ((c.tc : Thread Cert.RKprepIdeal.nD Cert.RKprepIdeal.τ).loc Cert.RKprepIdeal.main_arg7) = m ((c.tc : Thread Cert.KKprepIdeal.nD Cert.KKprepIdeal.τ).loc Cert.KKprepIdeal.main_arg7)) →
    ∃ (v0 : (c : Dev Cert.KKprepIdeal.nD) → Buf (Elt Ideal) ((c.tc : Thread Cert.KKprepIdeal.nD Cert.KKprepIdeal.τ).loc Cert.KKprepIdeal.main_v25)) (v1 : (c : Dev Cert.KKprepIdeal.nD) → Buf (Elt Ideal) ((c.tc : Thread Cert.KKprepIdeal.nD Cert.KKprepIdeal.τ).loc Cert.KKprepIdeal.main_v17_1)) (v2 : (c : Dev Cert.KKprepIdeal.nD) → Buf (Elt Ideal) ((c.tc : Thread Cert.KKprepIdeal.nD Cert.KKprepIdeal.τ).loc Cert.KKprepIdeal.main_v17_2)),
      θ_run (Cert.KKprepIdeal.defs (F := Ideal)) (onTc (τ := Cert.KKprepIdeal.τ) (Cert.KKprepIdeal.main (F := Ideal))) ⟨m, fun _ => 0, g⟩ (fun r => ∀ c : Dev Cert.KKprepIdeal.nD,
          r.2.mem ((c.tc : Thread Cert.KKprepIdeal.nD Cert.KKprepIdeal.τ).loc Cert.KKprepIdeal.main_v25) = v0 c
          ∧ r.2.mem ((c.tc : Thread Cert.KKprepIdeal.nD Cert.KKprepIdeal.τ).loc Cert.KKprepIdeal.main_v17_1) = v1 c
          ∧ r.2.mem ((c.tc : Thread Cert.KKprepIdeal.nD Cert.KKprepIdeal.τ).loc Cert.KKprepIdeal.main_v17_2) = v2 c
          ∧ r.2.mem ((c.tc : Thread Cert.KKprepIdeal.nD Cert.KKprepIdeal.τ).loc Cert.KKprepIdeal.main_arg0) = m ((c.tc : Thread Cert.KKprepIdeal.nD Cert.KKprepIdeal.τ).loc Cert.KKprepIdeal.main_arg0)
          ∧ r.2.mem ((c.tc : Thread Cert.KKprepIdeal.nD Cert.KKprepIdeal.τ).loc Cert.KKprepIdeal.main_arg1) = m ((c.tc : Thread Cert.KKprepIdeal.nD Cert.KKprepIdeal.τ).loc Cert.KKprepIdeal.main_arg1)
          ∧ r.2.mem ((c.tc : Thread Cert.KKprepIdeal.nD Cert.KKprepIdeal.τ).loc Cert.KKprepIdeal.main_arg2) = m ((c.tc : Thread Cert.KKprepIdeal.nD Cert.KKprepIdeal.τ).loc Cert.KKprepIdeal.main_arg2)
          ∧ r.2.mem ((c.tc : Thread Cert.KKprepIdeal.nD Cert.KKprepIdeal.τ).loc Cert.KKprepIdeal.main_arg3) = m ((c.tc : Thread Cert.KKprepIdeal.nD Cert.KKprepIdeal.τ).loc Cert.KKprepIdeal.main_arg3)
          ∧ r.2.mem ((c.tc : Thread Cert.KKprepIdeal.nD Cert.KKprepIdeal.τ).loc Cert.KKprepIdeal.main_arg4) = m ((c.tc : Thread Cert.KKprepIdeal.nD Cert.KKprepIdeal.τ).loc Cert.KKprepIdeal.main_arg4)
          ∧ r.2.mem ((c.tc : Thread Cert.KKprepIdeal.nD Cert.KKprepIdeal.τ).loc Cert.KKprepIdeal.main_arg5) = m ((c.tc : Thread Cert.KKprepIdeal.nD Cert.KKprepIdeal.τ).loc Cert.KKprepIdeal.main_arg5)
          ∧ r.2.mem ((c.tc : Thread Cert.KKprepIdeal.nD Cert.KKprepIdeal.τ).loc Cert.KKprepIdeal.main_arg6) = m ((c.tc : Thread Cert.KKprepIdeal.nD Cert.KKprepIdeal.τ).loc Cert.KKprepIdeal.main_arg6)
          ∧ r.2.mem ((c.tc : Thread Cert.KKprepIdeal.nD Cert.KKprepIdeal.τ).loc Cert.KKprepIdeal.main_arg7) = m ((c.tc : Thread Cert.KKprepIdeal.nD Cert.KKprepIdeal.τ).loc Cert.KKprepIdeal.main_arg7))
      ∧ θ_run (Cert.RKprepIdeal.defs (F := Ideal)) (onTc (τ := Cert.RKprepIdeal.τ) (Cert.RKprepIdeal.main (F := Ideal))) ⟨m', fun _ => 0, g'⟩ (fun r => ∀ c : Dev Cert.RKprepIdeal.nD,
          r.2.mem ((c.tc : Thread Cert.RKprepIdeal.nD Cert.RKprepIdeal.τ).loc Cert.RKprepIdeal.main_v101) = v0 c
          ∧ r.2.mem ((c.tc : Thread Cert.RKprepIdeal.nD Cert.RKprepIdeal.τ).loc Cert.RKprepIdeal.main_v102) = v1 c
          ∧ r.2.mem ((c.tc : Thread Cert.RKprepIdeal.nD Cert.RKprepIdeal.τ).loc Cert.RKprepIdeal.main_v103) = v2 c
          ∧ r.2.mem ((c.tc : Thread Cert.RKprepIdeal.nD Cert.RKprepIdeal.τ).loc Cert.RKprepIdeal.main_arg0) = m' ((c.tc : Thread Cert.RKprepIdeal.nD Cert.RKprepIdeal.τ).loc Cert.RKprepIdeal.main_arg0)
          ∧ r.2.mem ((c.tc : Thread Cert.RKprepIdeal.nD Cert.RKprepIdeal.τ).loc Cert.RKprepIdeal.main_arg1) = m' ((c.tc : Thread Cert.RKprepIdeal.nD Cert.RKprepIdeal.τ).loc Cert.RKprepIdeal.main_arg1)
          ∧ r.2.mem ((c.tc : Thread Cert.RKprepIdeal.nD Cert.RKprepIdeal.τ).loc Cert.RKprepIdeal.main_arg2) = m' ((c.tc : Thread Cert.RKprepIdeal.nD Cert.RKprepIdeal.τ).loc Cert.RKprepIdeal.main_arg2)
          ∧ r.2.mem ((c.tc : Thread Cert.RKprepIdeal.nD Cert.RKprepIdeal.τ).loc Cert.RKprepIdeal.main_arg3) = m' ((c.tc : Thread Cert.RKprepIdeal.nD Cert.RKprepIdeal.τ).loc Cert.RKprepIdeal.main_arg3)
          ∧ r.2.mem ((c.tc : Thread Cert.RKprepIdeal.nD Cert.RKprepIdeal.τ).loc Cert.RKprepIdeal.main_arg4) = m' ((c.tc : Thread Cert.RKprepIdeal.nD Cert.RKprepIdeal.τ).loc Cert.RKprepIdeal.main_arg4)
          ∧ r.2.mem ((c.tc : Thread Cert.RKprepIdeal.nD Cert.RKprepIdeal.τ).loc Cert.RKprepIdeal.main_arg5) = m' ((c.tc : Thread Cert.RKprepIdeal.nD Cert.RKprepIdeal.τ).loc Cert.RKprepIdeal.main_arg5)
          ∧ r.2.mem ((c.tc : Thread Cert.RKprepIdeal.nD Cert.RKprepIdeal.τ).loc Cert.RKprepIdeal.main_arg6) = m' ((c.tc : Thread Cert.RKprepIdeal.nD Cert.RKprepIdeal.τ).loc Cert.RKprepIdeal.main_arg6)
          ∧ r.2.mem ((c.tc : Thread Cert.RKprepIdeal.nD Cert.RKprepIdeal.τ).loc Cert.RKprepIdeal.main_arg7) = m' ((c.tc : Thread Cert.RKprepIdeal.nD Cert.RKprepIdeal.τ).loc Cert.RKprepIdeal.main_arg7))

def preserves_KRmsF_KRmsFIdeal : Prop :=
  True

def algebraic_KRmsFIdeal_RRmsFIdeal [hKRmsFIdeal : Cert.KRmsFIdeal.Facts] [hRRmsFIdeal : Cert.RRmsFIdeal.Facts] : Prop :=
  ∀ (m : (ℓ : Loc Cert.KRmsFIdeal.nD Cert.KRmsFIdeal.τ Cert.KRmsFIdeal.sig) → Buf (Elt Ideal) ℓ) (g : Dev Cert.KRmsFIdeal.nD → PrngReg)
    (m' : (ℓ : Loc Cert.RRmsFIdeal.nD Cert.RRmsFIdeal.τ Cert.RRmsFIdeal.sig) → Buf (Elt Ideal) ℓ) (g' : Dev Cert.RRmsFIdeal.nD → PrngReg), Pre_KRmsFIdeal m →
    (∀ c : Dev Cert.KRmsFIdeal.nD,
      m' ((c.tc : Thread Cert.RRmsFIdeal.nD Cert.RRmsFIdeal.τ).loc Cert.RRmsFIdeal.main_arg0) = m ((c.tc : Thread Cert.KRmsFIdeal.nD Cert.KRmsFIdeal.τ).loc Cert.KRmsFIdeal.main_arg0)
      ∧ m' ((c.tc : Thread Cert.RRmsFIdeal.nD Cert.RRmsFIdeal.τ).loc Cert.RRmsFIdeal.main_arg1) = m ((c.tc : Thread Cert.KRmsFIdeal.nD Cert.KRmsFIdeal.τ).loc Cert.KRmsFIdeal.main_arg1)) →
    ∃ (v0 : (c : Dev Cert.KRmsFIdeal.nD) → Buf (Elt Ideal) ((c.tc : Thread Cert.KRmsFIdeal.nD Cert.KRmsFIdeal.τ).loc Cert.KRmsFIdeal.main_v1)),
      θ_run (Cert.KRmsFIdeal.defs (F := Ideal)) (onTc (τ := Cert.KRmsFIdeal.τ) (Cert.KRmsFIdeal.main (F := Ideal))) ⟨m, fun _ => 0, g⟩ (fun r => ∀ c : Dev Cert.KRmsFIdeal.nD,
          r.2.mem ((c.tc : Thread Cert.KRmsFIdeal.nD Cert.KRmsFIdeal.τ).loc Cert.KRmsFIdeal.main_v1) = v0 c
          ∧ r.2.mem ((c.tc : Thread Cert.KRmsFIdeal.nD Cert.KRmsFIdeal.τ).loc Cert.KRmsFIdeal.main_arg0) = m ((c.tc : Thread Cert.KRmsFIdeal.nD Cert.KRmsFIdeal.τ).loc Cert.KRmsFIdeal.main_arg0)
          ∧ r.2.mem ((c.tc : Thread Cert.KRmsFIdeal.nD Cert.KRmsFIdeal.τ).loc Cert.KRmsFIdeal.main_arg1) = m ((c.tc : Thread Cert.KRmsFIdeal.nD Cert.KRmsFIdeal.τ).loc Cert.KRmsFIdeal.main_arg1))
      ∧ θ_run (Cert.RRmsFIdeal.defs (F := Ideal)) (onTc (τ := Cert.RRmsFIdeal.τ) (Cert.RRmsFIdeal.main (F := Ideal))) ⟨m', fun _ => 0, g'⟩ (fun r => ∀ c : Dev Cert.RRmsFIdeal.nD,
          r.2.mem ((c.tc : Thread Cert.RRmsFIdeal.nD Cert.RRmsFIdeal.τ).loc Cert.RRmsFIdeal.main_v13) = v0 c
          ∧ r.2.mem ((c.tc : Thread Cert.RRmsFIdeal.nD Cert.RRmsFIdeal.τ).loc Cert.RRmsFIdeal.main_arg0) = m' ((c.tc : Thread Cert.RRmsFIdeal.nD Cert.RRmsFIdeal.τ).loc Cert.RRmsFIdeal.main_arg0)
          ∧ r.2.mem ((c.tc : Thread Cert.RRmsFIdeal.nD Cert.RRmsFIdeal.τ).loc Cert.RRmsFIdeal.main_arg1) = m' ((c.tc : Thread Cert.RRmsFIdeal.nD Cert.RRmsFIdeal.τ).loc Cert.RRmsFIdeal.main_arg1))

def preserves_KPostF_KPostFIdeal : Prop :=
  True

def algebraic_KPostFIdeal_RPostFIdeal [hKPostFIdeal : Cert.KPostFIdeal.Facts] [hRPostFIdeal : Cert.RPostFIdeal.Facts] : Prop :=
  ∀ (m : (ℓ : Loc Cert.KPostFIdeal.nD Cert.KPostFIdeal.τ Cert.KPostFIdeal.sig) → Buf (Elt Ideal) ℓ) (g : Dev Cert.KPostFIdeal.nD → PrngReg)
    (m' : (ℓ : Loc Cert.RPostFIdeal.nD Cert.RPostFIdeal.τ Cert.RPostFIdeal.sig) → Buf (Elt Ideal) ℓ) (g' : Dev Cert.RPostFIdeal.nD → PrngReg), Pre_KPostFIdeal m →
    (∀ c : Dev Cert.KPostFIdeal.nD,
      m' ((c.tc : Thread Cert.RPostFIdeal.nD Cert.RPostFIdeal.τ).loc Cert.RPostFIdeal.main_arg0) = m ((c.tc : Thread Cert.KPostFIdeal.nD Cert.KPostFIdeal.τ).loc Cert.KPostFIdeal.main_arg0)
      ∧ m' ((c.tc : Thread Cert.RPostFIdeal.nD Cert.RPostFIdeal.τ).loc Cert.RPostFIdeal.main_arg1) = m ((c.tc : Thread Cert.KPostFIdeal.nD Cert.KPostFIdeal.τ).loc Cert.KPostFIdeal.main_arg1)
      ∧ m' ((c.tc : Thread Cert.RPostFIdeal.nD Cert.RPostFIdeal.τ).loc Cert.RPostFIdeal.main_arg2) = m ((c.tc : Thread Cert.KPostFIdeal.nD Cert.KPostFIdeal.τ).loc Cert.KPostFIdeal.main_arg2)) →
    ∃ (v0 : (c : Dev Cert.KPostFIdeal.nD) → Buf (Elt Ideal) ((c.tc : Thread Cert.KPostFIdeal.nD Cert.KPostFIdeal.τ).loc Cert.KPostFIdeal.main_v1)),
      θ_run (Cert.KPostFIdeal.defs (F := Ideal)) (onTc (τ := Cert.KPostFIdeal.τ) (Cert.KPostFIdeal.main (F := Ideal))) ⟨m, fun _ => 0, g⟩ (fun r => ∀ c : Dev Cert.KPostFIdeal.nD,
          r.2.mem ((c.tc : Thread Cert.KPostFIdeal.nD Cert.KPostFIdeal.τ).loc Cert.KPostFIdeal.main_v1) = v0 c
          ∧ r.2.mem ((c.tc : Thread Cert.KPostFIdeal.nD Cert.KPostFIdeal.τ).loc Cert.KPostFIdeal.main_arg0) = m ((c.tc : Thread Cert.KPostFIdeal.nD Cert.KPostFIdeal.τ).loc Cert.KPostFIdeal.main_arg0)
          ∧ r.2.mem ((c.tc : Thread Cert.KPostFIdeal.nD Cert.KPostFIdeal.τ).loc Cert.KPostFIdeal.main_arg1) = m ((c.tc : Thread Cert.KPostFIdeal.nD Cert.KPostFIdeal.τ).loc Cert.KPostFIdeal.main_arg1)
          ∧ r.2.mem ((c.tc : Thread Cert.KPostFIdeal.nD Cert.KPostFIdeal.τ).loc Cert.KPostFIdeal.main_arg2) = m ((c.tc : Thread Cert.KPostFIdeal.nD Cert.KPostFIdeal.τ).loc Cert.KPostFIdeal.main_arg2))
      ∧ θ_run (Cert.RPostFIdeal.defs (F := Ideal)) (onTc (τ := Cert.RPostFIdeal.τ) (Cert.RPostFIdeal.main (F := Ideal))) ⟨m', fun _ => 0, g'⟩ (fun r => ∀ c : Dev Cert.RPostFIdeal.nD,
          r.2.mem ((c.tc : Thread Cert.RPostFIdeal.nD Cert.RPostFIdeal.τ).loc Cert.RPostFIdeal.main_v15) = v0 c
          ∧ r.2.mem ((c.tc : Thread Cert.RPostFIdeal.nD Cert.RPostFIdeal.τ).loc Cert.RPostFIdeal.main_arg0) = m' ((c.tc : Thread Cert.RPostFIdeal.nD Cert.RPostFIdeal.τ).loc Cert.RPostFIdeal.main_arg0)
          ∧ r.2.mem ((c.tc : Thread Cert.RPostFIdeal.nD Cert.RPostFIdeal.τ).loc Cert.RPostFIdeal.main_arg1) = m' ((c.tc : Thread Cert.RPostFIdeal.nD Cert.RPostFIdeal.τ).loc Cert.RPostFIdeal.main_arg1)
          ∧ r.2.mem ((c.tc : Thread Cert.RPostFIdeal.nD Cert.RPostFIdeal.τ).loc Cert.RPostFIdeal.main_arg2) = m' ((c.tc : Thread Cert.RPostFIdeal.nD Cert.RPostFIdeal.τ).loc Cert.RPostFIdeal.main_arg2))

def preserves_KPleF_KPleFIdeal : Prop :=
  True

def algebraic_KPleFIdeal_RPleFIdeal [hKPleFIdeal : Cert.KPleFIdeal.Facts] [hRPleFIdeal : Cert.RPleFIdeal.Facts] : Prop :=
  ∀ (m : (ℓ : Loc Cert.KPleFIdeal.nD Cert.KPleFIdeal.τ Cert.KPleFIdeal.sig) → Buf (Elt Ideal) ℓ) (g : Dev Cert.KPleFIdeal.nD → PrngReg)
    (m' : (ℓ : Loc Cert.RPleFIdeal.nD Cert.RPleFIdeal.τ Cert.RPleFIdeal.sig) → Buf (Elt Ideal) ℓ) (g' : Dev Cert.RPleFIdeal.nD → PrngReg), Pre_KPleFIdeal m →
    (∀ c : Dev Cert.KPleFIdeal.nD,
      m' ((c.tc : Thread Cert.RPleFIdeal.nD Cert.RPleFIdeal.τ).loc Cert.RPleFIdeal.main_arg0) = m ((c.tc : Thread Cert.KPleFIdeal.nD Cert.KPleFIdeal.τ).loc Cert.KPleFIdeal.main_arg0)
      ∧ m' ((c.tc : Thread Cert.RPleFIdeal.nD Cert.RPleFIdeal.τ).loc Cert.RPleFIdeal.main_arg1) = m ((c.tc : Thread Cert.KPleFIdeal.nD Cert.KPleFIdeal.τ).loc Cert.KPleFIdeal.main_arg1)
      ∧ m' ((c.tc : Thread Cert.RPleFIdeal.nD Cert.RPleFIdeal.τ).loc Cert.RPleFIdeal.main_arg2) = m ((c.tc : Thread Cert.KPleFIdeal.nD Cert.KPleFIdeal.τ).loc Cert.KPleFIdeal.main_arg2)
      ∧ m' ((c.tc : Thread Cert.RPleFIdeal.nD Cert.RPleFIdeal.τ).loc Cert.RPleFIdeal.main_arg3) = m ((c.tc : Thread Cert.KPleFIdeal.nD Cert.KPleFIdeal.τ).loc Cert.KPleFIdeal.main_arg3)) →
    ∃ (v0 : (c : Dev Cert.KPleFIdeal.nD) → Buf (Elt Ideal) ((c.tc : Thread Cert.KPleFIdeal.nD Cert.KPleFIdeal.τ).loc Cert.KPleFIdeal.main_v1)),
      θ_run (Cert.KPleFIdeal.defs (F := Ideal)) (onTc (τ := Cert.KPleFIdeal.τ) (Cert.KPleFIdeal.main (F := Ideal))) ⟨m, fun _ => 0, g⟩ (fun r => ∀ c : Dev Cert.KPleFIdeal.nD,
          r.2.mem ((c.tc : Thread Cert.KPleFIdeal.nD Cert.KPleFIdeal.τ).loc Cert.KPleFIdeal.main_v1) = v0 c
          ∧ r.2.mem ((c.tc : Thread Cert.KPleFIdeal.nD Cert.KPleFIdeal.τ).loc Cert.KPleFIdeal.main_arg0) = m ((c.tc : Thread Cert.KPleFIdeal.nD Cert.KPleFIdeal.τ).loc Cert.KPleFIdeal.main_arg0)
          ∧ r.2.mem ((c.tc : Thread Cert.KPleFIdeal.nD Cert.KPleFIdeal.τ).loc Cert.KPleFIdeal.main_arg1) = m ((c.tc : Thread Cert.KPleFIdeal.nD Cert.KPleFIdeal.τ).loc Cert.KPleFIdeal.main_arg1)
          ∧ r.2.mem ((c.tc : Thread Cert.KPleFIdeal.nD Cert.KPleFIdeal.τ).loc Cert.KPleFIdeal.main_arg2) = m ((c.tc : Thread Cert.KPleFIdeal.nD Cert.KPleFIdeal.τ).loc Cert.KPleFIdeal.main_arg2)
          ∧ r.2.mem ((c.tc : Thread Cert.KPleFIdeal.nD Cert.KPleFIdeal.τ).loc Cert.KPleFIdeal.main_arg3) = m ((c.tc : Thread Cert.KPleFIdeal.nD Cert.KPleFIdeal.τ).loc Cert.KPleFIdeal.main_arg3))
      ∧ θ_run (Cert.RPleFIdeal.defs (F := Ideal)) (onTc (τ := Cert.RPleFIdeal.τ) (Cert.RPleFIdeal.main (F := Ideal))) ⟨m', fun _ => 0, g'⟩ (fun r => ∀ c : Dev Cert.RPleFIdeal.nD,
          r.2.mem ((c.tc : Thread Cert.RPleFIdeal.nD Cert.RPleFIdeal.τ).loc Cert.RPleFIdeal.main_v20) = v0 c
          ∧ r.2.mem ((c.tc : Thread Cert.RPleFIdeal.nD Cert.RPleFIdeal.τ).loc Cert.RPleFIdeal.main_arg0) = m' ((c.tc : Thread Cert.RPleFIdeal.nD Cert.RPleFIdeal.τ).loc Cert.RPleFIdeal.main_arg0)
          ∧ r.2.mem ((c.tc : Thread Cert.RPleFIdeal.nD Cert.RPleFIdeal.τ).loc Cert.RPleFIdeal.main_arg1) = m' ((c.tc : Thread Cert.RPleFIdeal.nD Cert.RPleFIdeal.τ).loc Cert.RPleFIdeal.main_arg1)
          ∧ r.2.mem ((c.tc : Thread Cert.RPleFIdeal.nD Cert.RPleFIdeal.τ).loc Cert.RPleFIdeal.main_arg2) = m' ((c.tc : Thread Cert.RPleFIdeal.nD Cert.RPleFIdeal.τ).loc Cert.RPleFIdeal.main_arg2)
          ∧ r.2.mem ((c.tc : Thread Cert.RPleFIdeal.nD Cert.RPleFIdeal.τ).loc Cert.RPleFIdeal.main_arg3) = m' ((c.tc : Thread Cert.RPleFIdeal.nD Cert.RPleFIdeal.τ).loc Cert.RPleFIdeal.main_arg3))

def preserves_KFfnF_KFfnFIdeal : Prop :=
  True

def algebraic_KFfnFIdeal_RFfnFIdeal [hKFfnFIdeal : Cert.KFfnFIdeal.Facts] [hRFfnFIdeal : Cert.RFfnFIdeal.Facts] : Prop :=
  ∀ (m : (ℓ : Loc Cert.KFfnFIdeal.nD Cert.KFfnFIdeal.τ Cert.KFfnFIdeal.sig) → Buf (Elt Ideal) ℓ) (g : Dev Cert.KFfnFIdeal.nD → PrngReg)
    (m' : (ℓ : Loc Cert.RFfnFIdeal.nD Cert.RFfnFIdeal.τ Cert.RFfnFIdeal.sig) → Buf (Elt Ideal) ℓ) (g' : Dev Cert.RFfnFIdeal.nD → PrngReg), Pre_KFfnFIdeal m →
    (∀ c : Dev Cert.KFfnFIdeal.nD,
      m' ((c.tc : Thread Cert.RFfnFIdeal.nD Cert.RFfnFIdeal.τ).loc Cert.RFfnFIdeal.main_arg0) = m ((c.tc : Thread Cert.KFfnFIdeal.nD Cert.KFfnFIdeal.τ).loc Cert.KFfnFIdeal.main_arg0)
      ∧ m' ((c.tc : Thread Cert.RFfnFIdeal.nD Cert.RFfnFIdeal.τ).loc Cert.RFfnFIdeal.main_arg1) = m ((c.tc : Thread Cert.KFfnFIdeal.nD Cert.KFfnFIdeal.τ).loc Cert.KFfnFIdeal.main_arg1)) →
    ∃ (v0 : (c : Dev Cert.KFfnFIdeal.nD) → Buf (Elt Ideal) ((c.tc : Thread Cert.KFfnFIdeal.nD Cert.KFfnFIdeal.τ).loc Cert.KFfnFIdeal.main_v1_0)) (v1 : (c : Dev Cert.KFfnFIdeal.nD) → Buf (Elt Ideal) ((c.tc : Thread Cert.KFfnFIdeal.nD Cert.KFfnFIdeal.τ).loc Cert.KFfnFIdeal.main_v1_1)),
      θ_run (Cert.KFfnFIdeal.defs (F := Ideal)) (onTc (τ := Cert.KFfnFIdeal.τ) (Cert.KFfnFIdeal.main (F := Ideal))) ⟨m, fun _ => 0, g⟩ (fun r => ∀ c : Dev Cert.KFfnFIdeal.nD,
          r.2.mem ((c.tc : Thread Cert.KFfnFIdeal.nD Cert.KFfnFIdeal.τ).loc Cert.KFfnFIdeal.main_v1_0) = v0 c
          ∧ r.2.mem ((c.tc : Thread Cert.KFfnFIdeal.nD Cert.KFfnFIdeal.τ).loc Cert.KFfnFIdeal.main_v1_1) = v1 c
          ∧ r.2.mem ((c.tc : Thread Cert.KFfnFIdeal.nD Cert.KFfnFIdeal.τ).loc Cert.KFfnFIdeal.main_arg0) = m ((c.tc : Thread Cert.KFfnFIdeal.nD Cert.KFfnFIdeal.τ).loc Cert.KFfnFIdeal.main_arg0)
          ∧ r.2.mem ((c.tc : Thread Cert.KFfnFIdeal.nD Cert.KFfnFIdeal.τ).loc Cert.KFfnFIdeal.main_arg1) = m ((c.tc : Thread Cert.KFfnFIdeal.nD Cert.KFfnFIdeal.τ).loc Cert.KFfnFIdeal.main_arg1))
      ∧ θ_run (Cert.RFfnFIdeal.defs (F := Ideal)) (onTc (τ := Cert.RFfnFIdeal.τ) (Cert.RFfnFIdeal.main (F := Ideal))) ⟨m', fun _ => 0, g'⟩ (fun r => ∀ c : Dev Cert.RFfnFIdeal.nD,
          r.2.mem ((c.tc : Thread Cert.RFfnFIdeal.nD Cert.RFfnFIdeal.τ).loc Cert.RFfnFIdeal.main_v6) = v0 c
          ∧ r.2.mem ((c.tc : Thread Cert.RFfnFIdeal.nD Cert.RFfnFIdeal.τ).loc Cert.RFfnFIdeal.main_v9) = v1 c
          ∧ r.2.mem ((c.tc : Thread Cert.RFfnFIdeal.nD Cert.RFfnFIdeal.τ).loc Cert.RFfnFIdeal.main_arg0) = m' ((c.tc : Thread Cert.RFfnFIdeal.nD Cert.RFfnFIdeal.τ).loc Cert.RFfnFIdeal.main_arg0)
          ∧ r.2.mem ((c.tc : Thread Cert.RFfnFIdeal.nD Cert.RFfnFIdeal.τ).loc Cert.RFfnFIdeal.main_arg1) = m' ((c.tc : Thread Cert.RFfnFIdeal.nD Cert.RFfnFIdeal.τ).loc Cert.RFfnFIdeal.main_arg1))

def preserves_KKprepF_KKprepFIdeal : Prop :=
  True

def algebraic_KKprepFIdeal_RKprepFIdeal [hKKprepFIdeal : Cert.KKprepFIdeal.Facts] [hRKprepFIdeal : Cert.RKprepFIdeal.Facts] : Prop :=
  ∀ (m : (ℓ : Loc Cert.KKprepFIdeal.nD Cert.KKprepFIdeal.τ Cert.KKprepFIdeal.sig) → Buf (Elt Ideal) ℓ) (g : Dev Cert.KKprepFIdeal.nD → PrngReg)
    (m' : (ℓ : Loc Cert.RKprepFIdeal.nD Cert.RKprepFIdeal.τ Cert.RKprepFIdeal.sig) → Buf (Elt Ideal) ℓ) (g' : Dev Cert.RKprepFIdeal.nD → PrngReg), Pre_KKprepFIdeal m →
    (∀ c : Dev Cert.KKprepFIdeal.nD,
      m' ((c.tc : Thread Cert.RKprepFIdeal.nD Cert.RKprepFIdeal.τ).loc Cert.RKprepFIdeal.main_arg0) = m ((c.tc : Thread Cert.KKprepFIdeal.nD Cert.KKprepFIdeal.τ).loc Cert.KKprepFIdeal.main_arg0)
      ∧ m' ((c.tc : Thread Cert.RKprepFIdeal.nD Cert.RKprepFIdeal.τ).loc Cert.RKprepFIdeal.main_arg1) = m ((c.tc : Thread Cert.KKprepFIdeal.nD Cert.KKprepFIdeal.τ).loc Cert.KKprepFIdeal.main_arg1)
      ∧ m' ((c.tc : Thread Cert.RKprepFIdeal.nD Cert.RKprepFIdeal.τ).loc Cert.RKprepFIdeal.main_arg2) = m ((c.tc : Thread Cert.KKprepFIdeal.nD Cert.KKprepFIdeal.τ).loc Cert.KKprepFIdeal.main_arg2)
      ∧ m' ((c.tc : Thread Cert.RKprepFIdeal.nD Cert.RKprepFIdeal.τ).loc Cert.RKprepFIdeal.main_arg3) = m ((c.tc : Thread Cert.KKprepFIdeal.nD Cert.KKprepFIdeal.τ).loc Cert.KKprepFIdeal.main_arg3)
      ∧ m' ((c.tc : Thread Cert.RKprepFIdeal.nD Cert.RKprepFIdeal.τ).loc Cert.RKprepFIdeal.main_arg4) = m ((c.tc : Thread Cert.KKprepFIdeal.nD Cert.KKprepFIdeal.τ).loc Cert.KKprepFIdeal.main_arg4)) →
    ∃ (v0 : (c : Dev Cert.KKprepFIdeal.nD) → Buf (Elt Ideal) ((c.tc : Thread Cert.KKprepFIdeal.nD Cert.KKprepFIdeal.τ).loc Cert.KKprepFIdeal.main_v16_0)) (v1 : (c : Dev Cert.KKprepFIdeal.nD) → Buf (Elt Ideal) ((c.tc : Thread Cert.KKprepFIdeal.nD Cert.KKprepFIdeal.τ).loc Cert.KKprepFIdeal.main_v16_1)) (v2 : (c : Dev Cert.KKprepFIdeal.nD) → Buf (Elt Ideal) ((c.tc : Thread Cert.KKprepFIdeal.nD Cert.KKprepFIdeal.τ).loc Cert.KKprepFIdeal.main_v17)),
      θ_run (Cert.KKprepFIdeal.defs (F := Ideal)) (onTc (τ := Cert.KKprepFIdeal.τ) (Cert.KKprepFIdeal.main (F := Ideal))) ⟨m, fun _ => 0, g⟩ (fun r => ∀ c : Dev Cert.KKprepFIdeal.nD,
          r.2.mem ((c.tc : Thread Cert.KKprepFIdeal.nD Cert.KKprepFIdeal.τ).loc Cert.KKprepFIdeal.main_v16_0) = v0 c
          ∧ r.2.mem ((c.tc : Thread Cert.KKprepFIdeal.nD Cert.KKprepFIdeal.τ).loc Cert.KKprepFIdeal.main_v16_1) = v1 c
          ∧ r.2.mem ((c.tc : Thread Cert.KKprepFIdeal.nD Cert.KKprepFIdeal.τ).loc Cert.KKprepFIdeal.main_v17) = v2 c
          ∧ r.2.mem ((c.tc : Thread Cert.KKprepFIdeal.nD Cert.KKprepFIdeal.τ).loc Cert.KKprepFIdeal.main_arg0) = m ((c.tc : Thread Cert.KKprepFIdeal.nD Cert.KKprepFIdeal.τ).loc Cert.KKprepFIdeal.main_arg0)
          ∧ r.2.mem ((c.tc : Thread Cert.KKprepFIdeal.nD Cert.KKprepFIdeal.τ).loc Cert.KKprepFIdeal.main_arg1) = m ((c.tc : Thread Cert.KKprepFIdeal.nD Cert.KKprepFIdeal.τ).loc Cert.KKprepFIdeal.main_arg1)
          ∧ r.2.mem ((c.tc : Thread Cert.KKprepFIdeal.nD Cert.KKprepFIdeal.τ).loc Cert.KKprepFIdeal.main_arg2) = m ((c.tc : Thread Cert.KKprepFIdeal.nD Cert.KKprepFIdeal.τ).loc Cert.KKprepFIdeal.main_arg2)
          ∧ r.2.mem ((c.tc : Thread Cert.KKprepFIdeal.nD Cert.KKprepFIdeal.τ).loc Cert.KKprepFIdeal.main_arg3) = m ((c.tc : Thread Cert.KKprepFIdeal.nD Cert.KKprepFIdeal.τ).loc Cert.KKprepFIdeal.main_arg3)
          ∧ r.2.mem ((c.tc : Thread Cert.KKprepFIdeal.nD Cert.KKprepFIdeal.τ).loc Cert.KKprepFIdeal.main_arg4) = m ((c.tc : Thread Cert.KKprepFIdeal.nD Cert.KKprepFIdeal.τ).loc Cert.KKprepFIdeal.main_arg4))
      ∧ θ_run (Cert.RKprepFIdeal.defs (F := Ideal)) (onTc (τ := Cert.RKprepFIdeal.τ) (Cert.RKprepFIdeal.main (F := Ideal))) ⟨m', fun _ => 0, g'⟩ (fun r => ∀ c : Dev Cert.RKprepFIdeal.nD,
          r.2.mem ((c.tc : Thread Cert.RKprepFIdeal.nD Cert.RKprepFIdeal.τ).loc Cert.RKprepFIdeal.main_v16) = v0 c
          ∧ r.2.mem ((c.tc : Thread Cert.RKprepFIdeal.nD Cert.RKprepFIdeal.τ).loc Cert.RKprepFIdeal.main_v30) = v1 c
          ∧ r.2.mem ((c.tc : Thread Cert.RKprepFIdeal.nD Cert.RKprepFIdeal.τ).loc Cert.RKprepFIdeal.main_v44) = v2 c
          ∧ r.2.mem ((c.tc : Thread Cert.RKprepFIdeal.nD Cert.RKprepFIdeal.τ).loc Cert.RKprepFIdeal.main_arg0) = m' ((c.tc : Thread Cert.RKprepFIdeal.nD Cert.RKprepFIdeal.τ).loc Cert.RKprepFIdeal.main_arg0)
          ∧ r.2.mem ((c.tc : Thread Cert.RKprepFIdeal.nD Cert.RKprepFIdeal.τ).loc Cert.RKprepFIdeal.main_arg1) = m' ((c.tc : Thread Cert.RKprepFIdeal.nD Cert.RKprepFIdeal.τ).loc Cert.RKprepFIdeal.main_arg1)
          ∧ r.2.mem ((c.tc : Thread Cert.RKprepFIdeal.nD Cert.RKprepFIdeal.τ).loc Cert.RKprepFIdeal.main_arg2) = m' ((c.tc : Thread Cert.RKprepFIdeal.nD Cert.RKprepFIdeal.τ).loc Cert.RKprepFIdeal.main_arg2)
          ∧ r.2.mem ((c.tc : Thread Cert.RKprepFIdeal.nD Cert.RKprepFIdeal.τ).loc Cert.RKprepFIdeal.main_arg3) = m' ((c.tc : Thread Cert.RKprepFIdeal.nD Cert.RKprepFIdeal.τ).loc Cert.RKprepFIdeal.main_arg3)
          ∧ r.2.mem ((c.tc : Thread Cert.RKprepFIdeal.nD Cert.RKprepFIdeal.τ).loc Cert.RKprepFIdeal.main_arg4) = m' ((c.tc : Thread Cert.RKprepFIdeal.nD Cert.RKprepFIdeal.τ).loc Cert.RKprepFIdeal.main_arg4))

def preserves_KQropeF_KQropeFIdeal : Prop :=
  True

def algebraic_KQropeFIdeal_RQropeFIdeal [hKQropeFIdeal : Cert.KQropeFIdeal.Facts] [hRQropeFIdeal : Cert.RQropeFIdeal.Facts] : Prop :=
  ∀ (m : (ℓ : Loc Cert.KQropeFIdeal.nD Cert.KQropeFIdeal.τ Cert.KQropeFIdeal.sig) → Buf (Elt Ideal) ℓ) (g : Dev Cert.KQropeFIdeal.nD → PrngReg)
    (m' : (ℓ : Loc Cert.RQropeFIdeal.nD Cert.RQropeFIdeal.τ Cert.RQropeFIdeal.sig) → Buf (Elt Ideal) ℓ) (g' : Dev Cert.RQropeFIdeal.nD → PrngReg), Pre_KQropeFIdeal m →
    (∀ c : Dev Cert.KQropeFIdeal.nD,
      m' ((c.tc : Thread Cert.RQropeFIdeal.nD Cert.RQropeFIdeal.τ).loc Cert.RQropeFIdeal.main_arg0) = m ((c.tc : Thread Cert.KQropeFIdeal.nD Cert.KQropeFIdeal.τ).loc Cert.KQropeFIdeal.main_arg0)
      ∧ m' ((c.tc : Thread Cert.RQropeFIdeal.nD Cert.RQropeFIdeal.τ).loc Cert.RQropeFIdeal.main_arg1) = m ((c.tc : Thread Cert.KQropeFIdeal.nD Cert.KQropeFIdeal.τ).loc Cert.KQropeFIdeal.main_arg1)
      ∧ m' ((c.tc : Thread Cert.RQropeFIdeal.nD Cert.RQropeFIdeal.τ).loc Cert.RQropeFIdeal.main_arg2) = m ((c.tc : Thread Cert.KQropeFIdeal.nD Cert.KQropeFIdeal.τ).loc Cert.KQropeFIdeal.main_arg2)) →
    ∃ (v0 : (c : Dev Cert.KQropeFIdeal.nD) → Buf (Elt Ideal) ((c.tc : Thread Cert.KQropeFIdeal.nD Cert.KQropeFIdeal.τ).loc Cert.KQropeFIdeal.main_v20)),
      θ_run (Cert.KQropeFIdeal.defs (F := Ideal)) (onTc (τ := Cert.KQropeFIdeal.τ) (Cert.KQropeFIdeal.main (F := Ideal))) ⟨m, fun _ => 0, g⟩ (fun r => ∀ c : Dev Cert.KQropeFIdeal.nD,
          r.2.mem ((c.tc : Thread Cert.KQropeFIdeal.nD Cert.KQropeFIdeal.τ).loc Cert.KQropeFIdeal.main_v20) = v0 c
          ∧ r.2.mem ((c.tc : Thread Cert.KQropeFIdeal.nD Cert.KQropeFIdeal.τ).loc Cert.KQropeFIdeal.main_arg0) = m ((c.tc : Thread Cert.KQropeFIdeal.nD Cert.KQropeFIdeal.τ).loc Cert.KQropeFIdeal.main_arg0)
          ∧ r.2.mem ((c.tc : Thread Cert.KQropeFIdeal.nD Cert.KQropeFIdeal.τ).loc Cert.KQropeFIdeal.main_arg1) = m ((c.tc : Thread Cert.KQropeFIdeal.nD Cert.KQropeFIdeal.τ).loc Cert.KQropeFIdeal.main_arg1)
          ∧ r.2.mem ((c.tc : Thread Cert.KQropeFIdeal.nD Cert.KQropeFIdeal.τ).loc Cert.KQropeFIdeal.main_arg2) = m ((c.tc : Thread Cert.KQropeFIdeal.nD Cert.KQropeFIdeal.τ).loc Cert.KQropeFIdeal.main_arg2))
      ∧ θ_run (Cert.RQropeFIdeal.defs (F := Ideal)) (onTc (τ := Cert.RQropeFIdeal.τ) (Cert.RQropeFIdeal.main (F := Ideal))) ⟨m', fun _ => 0, g'⟩ (fun r => ∀ c : Dev Cert.RQropeFIdeal.nD,
          r.2.mem ((c.tc : Thread Cert.RQropeFIdeal.nD Cert.RQropeFIdeal.τ).loc Cert.RQropeFIdeal.main_v24) = v0 c
          ∧ r.2.mem ((c.tc : Thread Cert.RQropeFIdeal.nD Cert.RQropeFIdeal.τ).loc Cert.RQropeFIdeal.main_arg0) = m' ((c.tc : Thread Cert.RQropeFIdeal.nD Cert.RQropeFIdeal.τ).loc Cert.RQropeFIdeal.main_arg0)
          ∧ r.2.mem ((c.tc : Thread Cert.RQropeFIdeal.nD Cert.RQropeFIdeal.τ).loc Cert.RQropeFIdeal.main_arg1) = m' ((c.tc : Thread Cert.RQropeFIdeal.nD Cert.RQropeFIdeal.τ).loc Cert.RQropeFIdeal.main_arg1)
          ∧ r.2.mem ((c.tc : Thread Cert.RQropeFIdeal.nD Cert.RQropeFIdeal.τ).loc Cert.RQropeFIdeal.main_arg2) = m' ((c.tc : Thread Cert.RQropeFIdeal.nD Cert.RQropeFIdeal.τ).loc Cert.RQropeFIdeal.main_arg2))

def preserves_KAttnB_KAttnBIdeal : Prop :=
  IdealRules.named_const.Statement Cert.KAttnBIdeal.κ "mask" .f32 0xF149F2CA#32 ⊥

def algebraic_KAttnBIdeal_RAttnBIdeal_pre_finite [hKAttnBIdeal : Cert.KAttnBIdeal.Facts] [hRAttnBIdeal : Cert.RAttnBIdeal.Facts] [hPre_finite : Cert.Pre_finite.Facts] : Prop :=
  ∀ (m : (ℓ : Loc Cert.KAttnBIdeal.nD Cert.KAttnBIdeal.τ Cert.KAttnBIdeal.sig) → Buf (Elt Ideal) ℓ) (g : Dev Cert.KAttnBIdeal.nD → PrngReg)
    (m' : (ℓ : Loc Cert.RAttnBIdeal.nD Cert.RAttnBIdeal.τ Cert.RAttnBIdeal.sig) → Buf (Elt Ideal) ℓ) (g' : Dev Cert.RAttnBIdeal.nD → PrngReg), Pre_KAttnBIdeal_finite m →
    (∀ c : Dev Cert.KAttnBIdeal.nD,
      m' ((c.tc : Thread Cert.RAttnBIdeal.nD Cert.RAttnBIdeal.τ).loc Cert.RAttnBIdeal.main_arg0) = m ((c.tc : Thread Cert.KAttnBIdeal.nD Cert.KAttnBIdeal.τ).loc Cert.KAttnBIdeal.main_arg0)
      ∧ m' ((c.tc : Thread Cert.RAttnBIdeal.nD Cert.RAttnBIdeal.τ).loc Cert.RAttnBIdeal.main_arg1) = m ((c.tc : Thread Cert.KAttnBIdeal.nD Cert.KAttnBIdeal.τ).loc Cert.KAttnBIdeal.main_arg1)
      ∧ m' ((c.tc : Thread Cert.RAttnBIdeal.nD Cert.RAttnBIdeal.τ).loc Cert.RAttnBIdeal.main_arg2) = m ((c.tc : Thread Cert.KAttnBIdeal.nD Cert.KAttnBIdeal.τ).loc Cert.KAttnBIdeal.main_arg2)
      ∧ m' ((c.tc : Thread Cert.RAttnBIdeal.nD Cert.RAttnBIdeal.τ).loc Cert.RAttnBIdeal.main_arg3) = m ((c.tc : Thread Cert.KAttnBIdeal.nD Cert.KAttnBIdeal.τ).loc Cert.KAttnBIdeal.main_arg3)
      ∧ m' ((c.tc : Thread Cert.RAttnBIdeal.nD Cert.RAttnBIdeal.τ).loc Cert.RAttnBIdeal.main_arg4) = m ((c.tc : Thread Cert.KAttnBIdeal.nD Cert.KAttnBIdeal.τ).loc Cert.KAttnBIdeal.main_arg4)) →
    ∃ (v0 : (c : Dev Cert.KAttnBIdeal.nD) → Buf (Elt Ideal) ((c.tc : Thread Cert.KAttnBIdeal.nD Cert.KAttnBIdeal.τ).loc Cert.KAttnBIdeal.main_v55)) (v1 : (c : Dev Cert.KAttnBIdeal.nD) → Buf (Elt Ideal) ((c.tc : Thread Cert.KAttnBIdeal.nD Cert.KAttnBIdeal.τ).loc Cert.KAttnBIdeal.main_v56)) (v2 : (c : Dev Cert.KAttnBIdeal.nD) → Buf (Elt Ideal) ((c.tc : Thread Cert.KAttnBIdeal.nD Cert.KAttnBIdeal.τ).loc Cert.KAttnBIdeal.main_v57)) (v3 : (c : Dev Cert.KAttnBIdeal.nD) → Buf (Elt Ideal) ((c.tc : Thread Cert.KAttnBIdeal.nD Cert.KAttnBIdeal.τ).loc Cert.KAttnBIdeal.main_v60)),
      θ_run (Cert.KAttnBIdeal.defs (F := Ideal)) (onTc (τ := Cert.KAttnBIdeal.τ) (Cert.KAttnBIdeal.main (F := Ideal))) ⟨m, fun _ => 0, g⟩ (fun r => ∀ c : Dev Cert.KAttnBIdeal.nD,
          r.2.mem ((c.tc : Thread Cert.KAttnBIdeal.nD Cert.KAttnBIdeal.τ).loc Cert.KAttnBIdeal.main_v55) = v0 c
          ∧ r.2.mem ((c.tc : Thread Cert.KAttnBIdeal.nD Cert.KAttnBIdeal.τ).loc Cert.KAttnBIdeal.main_v56) = v1 c
          ∧ r.2.mem ((c.tc : Thread Cert.KAttnBIdeal.nD Cert.KAttnBIdeal.τ).loc Cert.KAttnBIdeal.main_v57) = v2 c
          ∧ r.2.mem ((c.tc : Thread Cert.KAttnBIdeal.nD Cert.KAttnBIdeal.τ).loc Cert.KAttnBIdeal.main_v60) = v3 c
          ∧ r.2.mem ((c.tc : Thread Cert.KAttnBIdeal.nD Cert.KAttnBIdeal.τ).loc Cert.KAttnBIdeal.main_arg0) = m ((c.tc : Thread Cert.KAttnBIdeal.nD Cert.KAttnBIdeal.τ).loc Cert.KAttnBIdeal.main_arg0)
          ∧ r.2.mem ((c.tc : Thread Cert.KAttnBIdeal.nD Cert.KAttnBIdeal.τ).loc Cert.KAttnBIdeal.main_arg1) = m ((c.tc : Thread Cert.KAttnBIdeal.nD Cert.KAttnBIdeal.τ).loc Cert.KAttnBIdeal.main_arg1)
          ∧ r.2.mem ((c.tc : Thread Cert.KAttnBIdeal.nD Cert.KAttnBIdeal.τ).loc Cert.KAttnBIdeal.main_arg2) = m ((c.tc : Thread Cert.KAttnBIdeal.nD Cert.KAttnBIdeal.τ).loc Cert.KAttnBIdeal.main_arg2)
          ∧ r.2.mem ((c.tc : Thread Cert.KAttnBIdeal.nD Cert.KAttnBIdeal.τ).loc Cert.KAttnBIdeal.main_arg3) = m ((c.tc : Thread Cert.KAttnBIdeal.nD Cert.KAttnBIdeal.τ).loc Cert.KAttnBIdeal.main_arg3)
          ∧ r.2.mem ((c.tc : Thread Cert.KAttnBIdeal.nD Cert.KAttnBIdeal.τ).loc Cert.KAttnBIdeal.main_arg4) = m ((c.tc : Thread Cert.KAttnBIdeal.nD Cert.KAttnBIdeal.τ).loc Cert.KAttnBIdeal.main_arg4))
      ∧ θ_run (Cert.RAttnBIdeal.defs (F := Ideal)) (onTc (τ := Cert.RAttnBIdeal.τ) (Cert.RAttnBIdeal.main (F := Ideal))) ⟨m', fun _ => 0, g'⟩ (fun r => ∀ c : Dev Cert.RAttnBIdeal.nD,
          r.2.mem ((c.tc : Thread Cert.RAttnBIdeal.nD Cert.RAttnBIdeal.τ).loc Cert.RAttnBIdeal.main_v65) = v0 c
          ∧ r.2.mem ((c.tc : Thread Cert.RAttnBIdeal.nD Cert.RAttnBIdeal.τ).loc Cert.RAttnBIdeal.main_v71) = v1 c
          ∧ r.2.mem ((c.tc : Thread Cert.RAttnBIdeal.nD Cert.RAttnBIdeal.τ).loc Cert.RAttnBIdeal.main_v72) = v2 c
          ∧ r.2.mem ((c.tc : Thread Cert.RAttnBIdeal.nD Cert.RAttnBIdeal.τ).loc Cert.RAttnBIdeal.main_v70) = v3 c
          ∧ r.2.mem ((c.tc : Thread Cert.RAttnBIdeal.nD Cert.RAttnBIdeal.τ).loc Cert.RAttnBIdeal.main_arg0) = m' ((c.tc : Thread Cert.RAttnBIdeal.nD Cert.RAttnBIdeal.τ).loc Cert.RAttnBIdeal.main_arg0)
          ∧ r.2.mem ((c.tc : Thread Cert.RAttnBIdeal.nD Cert.RAttnBIdeal.τ).loc Cert.RAttnBIdeal.main_arg1) = m' ((c.tc : Thread Cert.RAttnBIdeal.nD Cert.RAttnBIdeal.τ).loc Cert.RAttnBIdeal.main_arg1)
          ∧ r.2.mem ((c.tc : Thread Cert.RAttnBIdeal.nD Cert.RAttnBIdeal.τ).loc Cert.RAttnBIdeal.main_arg2) = m' ((c.tc : Thread Cert.RAttnBIdeal.nD Cert.RAttnBIdeal.τ).loc Cert.RAttnBIdeal.main_arg2)
          ∧ r.2.mem ((c.tc : Thread Cert.RAttnBIdeal.nD Cert.RAttnBIdeal.τ).loc Cert.RAttnBIdeal.main_arg3) = m' ((c.tc : Thread Cert.RAttnBIdeal.nD Cert.RAttnBIdeal.τ).loc Cert.RAttnBIdeal.main_arg3)
          ∧ r.2.mem ((c.tc : Thread Cert.RAttnBIdeal.nD Cert.RAttnBIdeal.τ).loc Cert.RAttnBIdeal.main_arg4) = m' ((c.tc : Thread Cert.RAttnBIdeal.nD Cert.RAttnBIdeal.τ).loc Cert.RAttnBIdeal.main_arg4))

def preserves_KAttnF_KAttnFIdeal : Prop :=
  IdealRules.named_const.Statement Cert.KAttnFIdeal.κ "mask" .f32 0xF149F2CA#32 ⊥

def algebraic_KAttnFIdeal_RAttnFIdeal_pre_finite_args [hKAttnFIdeal : Cert.KAttnFIdeal.Facts] [hRAttnFIdeal : Cert.RAttnFIdeal.Facts] [hPre_finite_args : Cert.Pre_finite_args.Facts] : Prop :=
  ∀ (m : (ℓ : Loc Cert.KAttnFIdeal.nD Cert.KAttnFIdeal.τ Cert.KAttnFIdeal.sig) → Buf (Elt Ideal) ℓ) (g : Dev Cert.KAttnFIdeal.nD → PrngReg)
    (m' : (ℓ : Loc Cert.RAttnFIdeal.nD Cert.RAttnFIdeal.τ Cert.RAttnFIdeal.sig) → Buf (Elt Ideal) ℓ) (g' : Dev Cert.RAttnFIdeal.nD → PrngReg), Pre_KAttnFIdeal_finite_args m →
    (∀ c : Dev Cert.KAttnFIdeal.nD,
      m' ((c.tc : Thread Cert.RAttnFIdeal.nD Cert.RAttnFIdeal.τ).loc Cert.RAttnFIdeal.main_arg0) = m ((c.tc : Thread Cert.KAttnFIdeal.nD Cert.KAttnFIdeal.τ).loc Cert.KAttnFIdeal.main_arg0)
      ∧ m' ((c.tc : Thread Cert.RAttnFIdeal.nD Cert.RAttnFIdeal.τ).loc Cert.RAttnFIdeal.main_arg1) = m ((c.tc : Thread Cert.KAttnFIdeal.nD Cert.KAttnFIdeal.τ).loc Cert.KAttnFIdeal.main_arg1)
      ∧ m' ((c.tc : Thread Cert.RAttnFIdeal.nD Cert.RAttnFIdeal.τ).loc Cert.RAttnFIdeal.main_arg2) = m ((c.tc : Thread Cert.KAttnFIdeal.nD Cert.KAttnFIdeal.τ).loc Cert.KAttnFIdeal.main_arg2)
      ∧ m' ((c.tc : Thread Cert.RAttnFIdeal.nD Cert.RAttnFIdeal.τ).loc Cert.RAttnFIdeal.main_arg3) = m ((c.tc : Thread Cert.KAttnFIdeal.nD Cert.KAttnFIdeal.τ).loc Cert.KAttnFIdeal.main_arg3)) →
    ∃ (v0 : (c : Dev Cert.KAttnFIdeal.nD) → Buf (Elt Ideal) ((c.tc : Thread Cert.KAttnFIdeal.nD Cert.KAttnFIdeal.τ).loc Cert.KAttnFIdeal.main_v13_0)),
      θ_run (Cert.KAttnFIdeal.defs (F := Ideal)) (onTc (τ := Cert.KAttnFIdeal.τ) (Cert.KAttnFIdeal.main (F := Ideal))) ⟨m, fun _ => 0, g⟩ (fun r => ∀ c : Dev Cert.KAttnFIdeal.nD,
          r.2.mem ((c.tc : Thread Cert.KAttnFIdeal.nD Cert.KAttnFIdeal.τ).loc Cert.KAttnFIdeal.main_v13_0) = v0 c
          ∧ r.2.mem ((c.tc : Thread Cert.KAttnFIdeal.nD Cert.KAttnFIdeal.τ).loc Cert.KAttnFIdeal.main_arg0) = m ((c.tc : Thread Cert.KAttnFIdeal.nD Cert.KAttnFIdeal.τ).loc Cert.KAttnFIdeal.main_arg0)
          ∧ r.2.mem ((c.tc : Thread Cert.KAttnFIdeal.nD Cert.KAttnFIdeal.τ).loc Cert.KAttnFIdeal.main_arg1) = m ((c.tc : Thread Cert.KAttnFIdeal.nD Cert.KAttnFIdeal.τ).loc Cert.KAttnFIdeal.main_arg1)
          ∧ r.2.mem ((c.tc : Thread Cert.KAttnFIdeal.nD Cert.KAttnFIdeal.τ).loc Cert.KAttnFIdeal.main_arg2) = m ((c.tc : Thread Cert.KAttnFIdeal.nD Cert.KAttnFIdeal.τ).loc Cert.KAttnFIdeal.main_arg2)
          ∧ r.2.mem ((c.tc : Thread Cert.KAttnFIdeal.nD Cert.KAttnFIdeal.τ).loc Cert.KAttnFIdeal.main_arg3) = m ((c.tc : Thread Cert.KAttnFIdeal.nD Cert.KAttnFIdeal.τ).loc Cert.KAttnFIdeal.main_arg3))
      ∧ θ_run (Cert.RAttnFIdeal.defs (F := Ideal)) (onTc (τ := Cert.RAttnFIdeal.τ) (Cert.RAttnFIdeal.main (F := Ideal))) ⟨m', fun _ => 0, g'⟩ (fun r => ∀ c : Dev Cert.RAttnFIdeal.nD,
          r.2.mem ((c.tc : Thread Cert.RAttnFIdeal.nD Cert.RAttnFIdeal.τ).loc Cert.RAttnFIdeal.main_v27) = v0 c
          ∧ r.2.mem ((c.tc : Thread Cert.RAttnFIdeal.nD Cert.RAttnFIdeal.τ).loc Cert.RAttnFIdeal.main_arg0) = m' ((c.tc : Thread Cert.RAttnFIdeal.nD Cert.RAttnFIdeal.τ).loc Cert.RAttnFIdeal.main_arg0)
          ∧ r.2.mem ((c.tc : Thread Cert.RAttnFIdeal.nD Cert.RAttnFIdeal.τ).loc Cert.RAttnFIdeal.main_arg1) = m' ((c.tc : Thread Cert.RAttnFIdeal.nD Cert.RAttnFIdeal.τ).loc Cert.RAttnFIdeal.main_arg1)
          ∧ r.2.mem ((c.tc : Thread Cert.RAttnFIdeal.nD Cert.RAttnFIdeal.τ).loc Cert.RAttnFIdeal.main_arg2) = m' ((c.tc : Thread Cert.RAttnFIdeal.nD Cert.RAttnFIdeal.τ).loc Cert.RAttnFIdeal.main_arg2)
          ∧ r.2.mem ((c.tc : Thread Cert.RAttnFIdeal.nD Cert.RAttnFIdeal.τ).loc Cert.RAttnFIdeal.main_arg3) = m' ((c.tc : Thread Cert.RAttnFIdeal.nD Cert.RAttnFIdeal.τ).loc Cert.RAttnFIdeal.main_arg3))

def Claim : Prop :=
  ∃ (hKRms : Cert.KRms.Facts) (hKRmsIdeal : Cert.KRmsIdeal.Facts) (hRRmsIdeal : Cert.RRmsIdeal.Facts) (hKPost : Cert.KPost.Facts) (hKPostIdeal : Cert.KPostIdeal.Facts) (hRPostIdeal : Cert.RPostIdeal.Facts) (hKPle : Cert.KPle.Facts) (hKPleIdeal : Cert.KPleIdeal.Facts) (hRPleIdeal : Cert.RPleIdeal.Facts) (hKConv : Cert.KConv.Facts) (hKConvIdeal : Cert.KConvIdeal.Facts) (hRConvIdeal : Cert.RConvIdeal.Facts) (hKFfn : Cert.KFfn.Facts) (hKFfnIdeal : Cert.KFfnIdeal.Facts) (hRFfnIdeal : Cert.RFfnIdeal.Facts) (hKLoss : Cert.KLoss.Facts) (hKLossIdeal : Cert.KLossIdeal.Facts) (hRLossIdeal : Cert.RLossIdeal.Facts) (hKQrope : Cert.KQrope.Facts) (hKQropeIdeal : Cert.KQropeIdeal.Facts) (hRQropeIdeal : Cert.RQropeIdeal.Facts) (hKKprep : Cert.KKprep.Facts) (hKKprepIdeal : Cert.KKprepIdeal.Facts) (hRKprepIdeal : Cert.RKprepIdeal.Facts) (hKRmsF : Cert.KRmsF.Facts) (hKRmsFIdeal : Cert.KRmsFIdeal.Facts) (hRRmsFIdeal : Cert.RRmsFIdeal.Facts) (hKPostF : Cert.KPostF.Facts) (hKPostFIdeal : Cert.KPostFIdeal.Facts) (hRPostFIdeal : Cert.RPostFIdeal.Facts) (hKPleF : Cert.KPleF.Facts) (hKPleFIdeal : Cert.KPleFIdeal.Facts) (hRPleFIdeal : Cert.RPleFIdeal.Facts) (hKFfnF : Cert.KFfnF.Facts) (hKFfnFIdeal : Cert.KFfnFIdeal.Facts) (hRFfnFIdeal : Cert.RFfnFIdeal.Facts) (hKKprepF : Cert.KKprepF.Facts) (hKKprepFIdeal : Cert.KKprepFIdeal.Facts) (hRKprepFIdeal : Cert.RKprepFIdeal.Facts) (hKQropeF : Cert.KQropeF.Facts) (hKQropeFIdeal : Cert.KQropeFIdeal.Facts) (hRQropeFIdeal : Cert.RQropeFIdeal.Facts) (hKAttnB : Cert.KAttnB.Facts) (hKAttnBIdeal : Cert.KAttnBIdeal.Facts) (hRAttnBIdeal : Cert.RAttnBIdeal.Facts) (hKAttnF : Cert.KAttnF.Facts) (hKAttnFIdeal : Cert.KAttnFIdeal.Facts) (hRAttnFIdeal : Cert.RAttnFIdeal.Facts) (hPre_finite : Cert.Pre_finite.Facts) (hPre_finite_args : Cert.Pre_finite_args.Facts),
    quiescent_KRms (hKRms := hKRms)
    ∧ quiescent_KRmsIdeal (hKRmsIdeal := hKRmsIdeal)
    ∧ quiescent_RRmsIdeal (hRRmsIdeal := hRRmsIdeal)
    ∧ quiescent_KPost (hKPost := hKPost)
    ∧ quiescent_KPostIdeal (hKPostIdeal := hKPostIdeal)
    ∧ quiescent_RPostIdeal (hRPostIdeal := hRPostIdeal)
    ∧ quiescent_KPle (hKPle := hKPle)
    ∧ quiescent_KPleIdeal (hKPleIdeal := hKPleIdeal)
    ∧ quiescent_RPleIdeal (hRPleIdeal := hRPleIdeal)
    ∧ quiescent_KConv (hKConv := hKConv)
    ∧ quiescent_KConvIdeal (hKConvIdeal := hKConvIdeal)
    ∧ quiescent_RConvIdeal (hRConvIdeal := hRConvIdeal)
    ∧ quiescent_KFfn (hKFfn := hKFfn)
    ∧ quiescent_KFfnIdeal (hKFfnIdeal := hKFfnIdeal)
    ∧ quiescent_RFfnIdeal (hRFfnIdeal := hRFfnIdeal)
    ∧ quiescent_KLoss (hKLoss := hKLoss)
    ∧ quiescent_KLossIdeal (hKLossIdeal := hKLossIdeal)
    ∧ quiescent_RLossIdeal (hRLossIdeal := hRLossIdeal)
    ∧ quiescent_KQrope (hKQrope := hKQrope)
    ∧ quiescent_KQropeIdeal (hKQropeIdeal := hKQropeIdeal)
    ∧ quiescent_RQropeIdeal (hRQropeIdeal := hRQropeIdeal)
    ∧ quiescent_KKprep (hKKprep := hKKprep)
    ∧ quiescent_KKprepIdeal (hKKprepIdeal := hKKprepIdeal)
    ∧ quiescent_RKprepIdeal (hRKprepIdeal := hRKprepIdeal)
    ∧ quiescent_KRmsF (hKRmsF := hKRmsF)
    ∧ quiescent_KRmsFIdeal (hKRmsFIdeal := hKRmsFIdeal)
    ∧ quiescent_RRmsFIdeal (hRRmsFIdeal := hRRmsFIdeal)
    ∧ quiescent_KPostF (hKPostF := hKPostF)
    ∧ quiescent_KPostFIdeal (hKPostFIdeal := hKPostFIdeal)
    ∧ quiescent_RPostFIdeal (hRPostFIdeal := hRPostFIdeal)
    ∧ quiescent_KPleF (hKPleF := hKPleF)
    ∧ quiescent_KPleFIdeal (hKPleFIdeal := hKPleFIdeal)
    ∧ quiescent_RPleFIdeal (hRPleFIdeal := hRPleFIdeal)
    ∧ quiescent_KFfnF (hKFfnF := hKFfnF)
    ∧ quiescent_KFfnFIdeal (hKFfnFIdeal := hKFfnFIdeal)
    ∧ quiescent_RFfnFIdeal (hRFfnFIdeal := hRFfnFIdeal)
    ∧ quiescent_KKprepF (hKKprepF := hKKprepF)
    ∧ quiescent_KKprepFIdeal (hKKprepFIdeal := hKKprepFIdeal)
    ∧ quiescent_RKprepFIdeal (hRKprepFIdeal := hRKprepFIdeal)
    ∧ quiescent_KQropeF (hKQropeF := hKQropeF)
    ∧ quiescent_KQropeFIdeal (hKQropeFIdeal := hKQropeFIdeal)
    ∧ quiescent_RQropeFIdeal (hRQropeFIdeal := hRQropeFIdeal)
    ∧ quiescent_KAttnB (hKAttnB := hKAttnB)
    ∧ quiescent_KAttnBIdeal (hKAttnBIdeal := hKAttnBIdeal)
    ∧ quiescent_KAttnBIdeal_pre_finite (hKAttnBIdeal := hKAttnBIdeal) (hPre_finite := hPre_finite)
    ∧ quiescent_RAttnBIdeal (hRAttnBIdeal := hRAttnBIdeal)
    ∧ quiescent_RAttnBIdeal_pre_finite (hRAttnBIdeal := hRAttnBIdeal) (hPre_finite := hPre_finite)
    ∧ quiescent_KAttnF (hKAttnF := hKAttnF)
    ∧ quiescent_KAttnFIdeal (hKAttnFIdeal := hKAttnFIdeal)
    ∧ quiescent_KAttnFIdeal_pre_finite_args (hKAttnFIdeal := hKAttnFIdeal) (hPre_finite_args := hPre_finite_args)
    ∧ quiescent_RAttnFIdeal (hRAttnFIdeal := hRAttnFIdeal)
    ∧ quiescent_RAttnFIdeal_pre_finite_args (hRAttnFIdeal := hRAttnFIdeal) (hPre_finite_args := hPre_finite_args)
    ∧ preserves_KRms_KRmsIdeal
    ∧ algebraic_KRmsIdeal_RRmsIdeal (hKRmsIdeal := hKRmsIdeal) (hRRmsIdeal := hRRmsIdeal)
    ∧ preserves_KPost_KPostIdeal
    ∧ algebraic_KPostIdeal_RPostIdeal (hKPostIdeal := hKPostIdeal) (hRPostIdeal := hRPostIdeal)
    ∧ preserves_KPle_KPleIdeal
    ∧ algebraic_KPleIdeal_RPleIdeal (hKPleIdeal := hKPleIdeal) (hRPleIdeal := hRPleIdeal)
    ∧ preserves_KConv_KConvIdeal
    ∧ algebraic_KConvIdeal_RConvIdeal (hKConvIdeal := hKConvIdeal) (hRConvIdeal := hRConvIdeal)
    ∧ preserves_KFfn_KFfnIdeal
    ∧ algebraic_KFfnIdeal_RFfnIdeal (hKFfnIdeal := hKFfnIdeal) (hRFfnIdeal := hRFfnIdeal)
    ∧ preserves_KLoss_KLossIdeal
    ∧ algebraic_KLossIdeal_RLossIdeal (hKLossIdeal := hKLossIdeal) (hRLossIdeal := hRLossIdeal)
    ∧ preserves_KQrope_KQropeIdeal
    ∧ algebraic_KQropeIdeal_RQropeIdeal (hKQropeIdeal := hKQropeIdeal) (hRQropeIdeal := hRQropeIdeal)
    ∧ preserves_KKprep_KKprepIdeal
    ∧ algebraic_KKprepIdeal_RKprepIdeal (hKKprepIdeal := hKKprepIdeal) (hRKprepIdeal := hRKprepIdeal)
    ∧ preserves_KRmsF_KRmsFIdeal
    ∧ algebraic_KRmsFIdeal_RRmsFIdeal (hKRmsFIdeal := hKRmsFIdeal) (hRRmsFIdeal := hRRmsFIdeal)
    ∧ preserves_KPostF_KPostFIdeal
    ∧ algebraic_KPostFIdeal_RPostFIdeal (hKPostFIdeal := hKPostFIdeal) (hRPostFIdeal := hRPostFIdeal)
    ∧ preserves_KPleF_KPleFIdeal
    ∧ algebraic_KPleFIdeal_RPleFIdeal (hKPleFIdeal := hKPleFIdeal) (hRPleFIdeal := hRPleFIdeal)
    ∧ preserves_KFfnF_KFfnFIdeal
    ∧ algebraic_KFfnFIdeal_RFfnFIdeal (hKFfnFIdeal := hKFfnFIdeal) (hRFfnFIdeal := hRFfnFIdeal)
    ∧ preserves_KKprepF_KKprepFIdeal
    ∧ algebraic_KKprepFIdeal_RKprepFIdeal (hKKprepFIdeal := hKKprepFIdeal) (hRKprepFIdeal := hRKprepFIdeal)
    ∧ preserves_KQropeF_KQropeFIdeal
    ∧ algebraic_KQropeFIdeal_RQropeFIdeal (hKQropeFIdeal := hKQropeFIdeal) (hRQropeFIdeal := hRQropeFIdeal)
    ∧ preserves_KAttnB_KAttnBIdeal
    ∧ algebraic_KAttnBIdeal_RAttnBIdeal_pre_finite (hKAttnBIdeal := hKAttnBIdeal) (hRAttnBIdeal := hRAttnBIdeal) (hPre_finite := hPre_finite)
    ∧ preserves_KAttnF_KAttnFIdeal
    ∧ algebraic_KAttnFIdeal_RAttnFIdeal_pre_finite_args (hKAttnFIdeal := hKAttnFIdeal) (hRAttnFIdeal := hRAttnFIdeal) (hPre_finite_args := hPre_finite_args)
-- ==== Pre_finite.lean ====
abbrev S8192x16x192 : Shape := ⟨3, ![8192, 16, 192]⟩
abbrev S8192x16x128 : Shape := ⟨3, ![8192, 16, 128]⟩
abbrev S8192x64 : Shape := ⟨2, ![8192, 64]⟩
abbrev S_ : Shape := ⟨0, ![]⟩

class Facts : Prop where
  bcast_S_S8192x16x192 : S_.BroadcastsInDim S8192x16x192 (![] : Fin 0 → Fin S8192x16x192.rank)
  bcast_S_S8192x16x128 : S_.BroadcastsInDim S8192x16x128 (![] : Fin 0 → Fin S8192x16x128.rank)
  bcast_S_S8192x64 : S_.BroadcastsInDim S8192x64 (![] : Fin 0 → Fin S8192x64.rank)

variable [Facts]

def fn {F : FTy → Type} [FloatOps F] (main_arg0 : FVec F S8192x16x192 .f32) (main_arg1 : FVec F S8192x16x128 .f32) (main_arg2 : FVec F S8192x16x128 .f32) (main_arg3 : FVec F S8192x64 .f32) (main_arg4 : FVec F S8192x16x128 .f32) : IVec S8192x16x192 1 × IVec S8192x16x128 1 × IVec S8192x16x128 1 × IVec S8192x64 1 × IVec S8192x16x128 1 :=
  let main_v0 : FVec F S8192x16x192 .f32 := Host.absf main_arg0
  let main_cst : FVec F S_ .f32 := constant S_ .f32 0x7F800000#32
  let main_v1 : FVec F S8192x16x192 .f32 := broadcastInDim S8192x16x192 ![] bcast_S_S8192x16x192 main_cst
  let main_v2 : IVec S8192x16x192 1 := cmpf .olt main_v0 main_v1
  let main_v3 : FVec F S8192x16x128 .f32 := Host.absf main_arg1
  let main_cst_0 : FVec F S_ .f32 := constant S_ .f32 0x7F800000#32
  let main_v4 : FVec F S8192x16x128 .f32 := broadcastInDim S8192x16x128 ![] bcast_S_S8192x16x128 main_cst_0
  let main_v5 : IVec S8192x16x128 1 := cmpf .olt main_v3 main_v4
  let main_v6 : FVec F S8192x16x128 .f32 := Host.absf main_arg2
  let main_cst_1 : FVec F S_ .f32 := constant S_ .f32 0x7F800000#32
  let main_v7 : FVec F S8192x16x128 .f32 := broadcastInDim S8192x16x128 ![] bcast_S_S8192x16x128 main_cst_1
  let main_v8 : IVec S8192x16x128 1 := cmpf .olt main_v6 main_v7
  let main_v9 : FVec F S8192x64 .f32 := Host.absf main_arg3
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_v12 : FVec F S8192x16x128 .f32 := Host.absf main_arg4
  let main_cst_3 : FVec F S_ .f32 := constant S_ .f32 0x7F800000#32
  let main_v13 : FVec F S8192x16x128 .f32 := broadcastInDim S8192x16x128 ![] bcast_S_S8192x16x128 main_cst_3
  let main_v14 : IVec S8192x16x128 1 := cmpf .olt main_v12 main_v13
  (main_v2, main_v5, main_v8, main_v11, main_v14)
-- ==== Pre_finite_args.lean ====
abbrev S8192x16x192 : Shape := ⟨3, ![8192, 16, 192]⟩
abbrev S8192x16x128 : Shape := ⟨3, ![8192, 16, 128]⟩
abbrev S8192x64 : Shape := ⟨2, ![8192, 64]⟩
abbrev S_ : Shape := ⟨0, ![]⟩

class Facts : Prop where
  bcast_S_S8192x16x192 : S_.BroadcastsInDim S8192x16x192 (![] : Fin 0 → Fin S8192x16x192.rank)
  bcast_S_S8192x16x128 : S_.BroadcastsInDim S8192x16x128 (![] : Fin 0 → Fin S8192x16x128.rank)
  bcast_S_S8192x64 : S_.BroadcastsInDim S8192x64 (![] : Fin 0 → Fin S8192x64.rank)

variable [Facts]

def fn {F : FTy → Type} [FloatOps F] (main_arg0 : FVec F S8192x16x192 .f32) (main_arg1 : FVec F S8192x16x128 .f32) (main_arg2 : FVec F S8192x16x128 .f32) (main_arg3 : FVec F S8192x64 .f32) : IVec S8192x16x192 1 × IVec S8192x16x128 1 × IVec S8192x16x128 1 × IVec S8192x64 1 :=
  let main_v0 : FVec F S8192x16x192 .f32 := Host.absf main_arg0
  let main_cst : FVec F S_ .f32 := constant S_ .f32 0x7F800000#32
  let main_v1 : FVec F S8192x16x192 .f32 := broadcastInDim S8192x16x192 ![] bcast_S_S8192x16x192 main_cst
  let main_v2 : IVec S8192x16x192 1 := cmpf .olt main_v0 main_v1
  let main_v3 : FVec F S8192x16x128 .f32 := Host.absf main_arg1
  let main_cst_0 : FVec F S_ .f32 := constant S_ .f32 0x7F800000#32
  let main_v4 : FVec F S8192x16x128 .f32 := broadcastInDim S8192x16x128 ![] bcast_S_S8192x16x128 main_cst_0
  let main_v5 : IVec S8192x16x128 1 := cmpf .olt main_v3 main_v4
  let main_v6 : FVec F S8192x16x128 .f32 := Host.absf main_arg2
  let main_cst_1 : FVec F S_ .f32 := constant S_ .f32 0x7F800000#32
  let main_v7 : FVec F S8192x16x128 .f32 := broadcastInDim S8192x16x128 ![] bcast_S_S8192x16x128 main_cst_1
  let main_v8 : IVec S8192x16x128 1 := cmpf .olt main_v6 main_v7
  let main_v9 : FVec F S8192x64 .f32 := Host.absf main_arg3
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  (main_v2, main_v5, main_v8, main_v11)
-- ==== KRms.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S1x1024, .f32⟩
  | .hbm, ⟨5, _⟩ => ⟨S8192x1024, .f32⟩
  | .hbm, ⟨6, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RRmsIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== KPost.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .bf16⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RPostIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .bf16⟩
  | .hbm, ⟨55, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_6 : Ref sig .tc := ⟨.hbm, 35, rfl⟩
abbrev main_v25 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== KPle.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S1x1024, .f32⟩
  | .hbm, ⟨5, _⟩ => ⟨S8192x1024, .bf16⟩
  | .hbm, ⟨6, _⟩ => ⟨S8192x1024, .bf16⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== RPleIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .bf16⟩
  | .hbm, ⟨66, _⟩ => ⟨S8192x1024, .bf16⟩
  | .hbm, ⟨67, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== KConv.lean ====
abbrev S8192x4624 : Shape := ⟨2, ![8192, 4624]⟩
abbrev S4x1536 : Shape := ⟨2, ![4, 1536]⟩
abbrev S8192x1536 : Shape := ⟨2, ![8192, 1536]⟩
abbrev S_ : Shape := ⟨0, ![]⟩
abbrev S8192x496 : Shape := ⟨2, ![8192, 496]⟩
abbrev S8192x5120 : Shape := ⟨2, ![8192, 5120]⟩
abbrev S1x1536 : Shape := ⟨2, ![1, 1536]⟩
abbrev S256x1536 : Shape := ⟨2, ![256, 1536]⟩
abbrev S128x1536 : Shape := ⟨2, ![128, 1536]⟩
abbrev S384x1536 : Shape := ⟨2, ![384, 1536]⟩
abbrev S1536 : Shape := ⟨1, ![1536]⟩

abbrev nBuf : Space → Nat
  | .hbm => 9
  | .vmem => 15
  | .smem => 0
  | _ => 0

abbrev bufTy : (tb : Table) → Fin (tcTables nBuf tb) → BufTy
  | .hbm, ⟨0, _⟩ => ⟨S8192x4624, .f32⟩
  | .hbm, ⟨1, _⟩ => ⟨S4x1536, .f32⟩
  | .hbm, ⟨2, _⟩ => ⟨S8192x1536, .f32⟩
  | .hbm, ⟨3, _⟩ => ⟨S_, .f32⟩
  | .hbm, ⟨4, _⟩ => ⟨S8192x496, .f32⟩
  | .hbm, ⟨5, _⟩ => ⟨S8192x5120, .f32⟩
  | .hbm, ⟨6, _⟩ => ⟨S8192x1536, .bf16⟩
  | .hbm, ⟨7, _⟩ => ⟨S4x1536, .f32⟩
  | .hbm, ⟨8, _⟩ => ⟨S1x1536, .f32⟩
  | .local _ .vmem, ⟨0, _⟩ => ⟨S256x1536, .f32⟩
  | .local _ .vmem, ⟨1, _⟩ => ⟨S256x1536, .f32⟩
  | .local _ .vmem, ⟨2, _⟩ => ⟨S128x1536, .f32⟩
  | .local _ .vmem, ⟨3, _⟩ => ⟨S128x1536, .f32⟩
  | .local _ .vmem, ⟨4, _⟩ => ⟨S256x1536, .f32⟩
  | .local _ .vmem, ⟨5, _⟩ => ⟨S256x1536, .f32⟩
  | .local _ .vmem, ⟨6, _⟩ => ⟨S128x1536, .f32⟩
  | .local _ .vmem, ⟨7, _⟩ => ⟨S128x1536, .f32⟩
  | .local _ .vmem, ⟨8, _⟩ => ⟨S4x1536, .f32⟩
  | .local _ .vmem, ⟨9, _⟩ => ⟨S256x1536, .bf16⟩
  | .local _ .vmem, ⟨10, _⟩ => ⟨S256x1536, .bf16⟩
  | .local _ .vmem, ⟨11, _⟩ => ⟨S4x1536, .f32⟩
  | .local _ .vmem, ⟨12, _⟩ => ⟨S1x1536, .f32⟩
  | .local _ .vmem, ⟨13, _⟩ => ⟨S384x1536, .f32⟩
  | .local _ .vmem, ⟨14, _⟩ => ⟨S384x1536, .f32⟩
  | _, _ => ⟨S8192x4624, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c2_i32 : BitVec 32 := 2#32
  let v1 : BitVec 32 := Scalar.muli v0 c2_i32
  let c63_i32 : BitVec 32 := 63#32
  let v2 : BitVec 32 := Scalar.minsi v1 c63_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.subi v0 c1_i32
  let c0_i32 : BitVec 32 := 0#32
  let v2 : BitVec 32 := Scalar.maxsi v1 c0_i32
  let c2_i32_0 : BitVec 32 := 2#32
  let c0_i32_1 : BitVec 32 := 0#32
  ![v2.toNat, c2_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== RConvIdeal.lean ====
abbrev S8192x4624 : Shape := ⟨2, ![8192, 4624]⟩
abbrev S4x1536 : Shape := ⟨2, ![4, 1536]⟩
abbrev S8192x1536 : Shape := ⟨2, ![8192, 1536]⟩
abbrev S_ : Shape := ⟨0, ![]⟩
abbrev S1536 : Shape := ⟨1, ![1536]⟩
abbrev S3x1536 : Shape := ⟨2, ![3, 1536]⟩
abbrev S8195x1536 : Shape := ⟨2, ![8195, 1536]⟩
abbrev S1x1536 : Shape := ⟨2, ![1, 1536]⟩

abbrev nBuf : Space → Nat
  | .hbm => 112
  | .vmem => 0
  | .smem => 0
  | _ => 0

abbrev bufTy : (tb : Table) → Fin (tcTables nBuf tb) → BufTy
  | .hbm, ⟨0, _⟩ => ⟨S8192x4624, .f32⟩
  | .hbm, ⟨1, _⟩ => ⟨S4x1536, .f32⟩
  | .hbm, ⟨2, _⟩ => ⟨S8192x1536, .f32⟩
  | .hbm, ⟨3, _⟩ => ⟨S8192x1536, .f32⟩
  | .hbm, ⟨4, _⟩ => ⟨S_, .f32⟩
  | .hbm, ⟨5, _⟩ => ⟨S1536, .f32⟩
  | .hbm, ⟨6, _⟩ => ⟨S_, .f32⟩
  | .hbm, ⟨7, _⟩ => ⟨S3x1536, .f32⟩
  | .hbm, ⟨8, _⟩ => ⟨S8195x1536, .f32⟩
  | .hbm, ⟨9, _⟩ => ⟨S_, .f32⟩
  | .hbm, ⟨10, _⟩ => ⟨S3x1536, .f32⟩
  | .hbm, ⟨11, _⟩ => ⟨S8192x1536, .f32⟩
  | .hbm, ⟨12, _⟩ => ⟨S1x1536, .f32⟩
  | .hbm, ⟨13, _⟩ => ⟨S1536, .f32⟩
  | .hbm, ⟨14, _⟩ => ⟨S1x1536, .f32⟩
  | .hbm, ⟨15, _⟩ => ⟨S8192x1536, .f32⟩
  | .hbm, ⟨16, _⟩ => ⟨S8192x1536, .f32⟩
  | .hbm, ⟨17, _⟩ => ⟨S_, .f32⟩
  | .hbm, ⟨18, _⟩ => ⟨S8192x1536, .f32⟩
  | .hbm, ⟨19, _⟩ => ⟨S8192x1536, .f32⟩
  | .hbm, ⟨20, _⟩ => ⟨S8192x1536, .f32⟩
  | .hbm, ⟨21, _⟩ => ⟨S1x1536, .f32⟩
  | .hbm, ⟨22, _⟩ => ⟨S1536, .f32⟩
  | .hbm, ⟨23, _⟩ => ⟨S1x1536, .f32⟩
  | .hbm, ⟨24, _⟩ => ⟨S8192x1536, .f32⟩
  | .hbm, ⟨25, _⟩ => ⟨S8192x1536, .f32⟩
  | .hbm, ⟨26, _⟩ => ⟨S8192x1536, .f32⟩
  | .hbm, ⟨27, _⟩ => ⟨S8192x1536, .f32⟩
  | .hbm, ⟨28, _⟩ => ⟨S1x1536, .f32⟩
  | .hbm, ⟨29, _⟩ => ⟨S1536, .f32⟩
  | .hbm, ⟨30, _⟩ => ⟨S1x1536, .f32⟩
  | .hbm, ⟨31, _⟩ => ⟨S8192x1536, .f32⟩
  | .hbm, ⟨32, _⟩ => ⟨S8192x1536, .f32⟩
  | .hbm, ⟨33, _⟩ => ⟨S8192x1536, .f32⟩
  | .hbm, ⟨34, _⟩ => ⟨S8192x1536, .f32⟩
  | .hbm, ⟨35, _⟩ => ⟨S1x1536, .f32⟩
  | .hbm, ⟨36, _⟩ => ⟨S1536, .f32⟩
  | .hbm, ⟨37, _⟩ => ⟨S1x1536, .f32⟩
  | .hbm, ⟨38, _⟩ => ⟨S8192x1536, .f32⟩
  | .hbm, ⟨39, _⟩ => ⟨S8192x1536, .f32⟩
  | .hbm, ⟨40, _⟩ => ⟨S8192x1536, .f32⟩
  | .hbm, ⟨41, _⟩ => ⟨S1x1536, .f32⟩
  | .hbm, ⟨42, _⟩ => ⟨S8192x1536, .f32⟩
  | .hbm, ⟨43, _⟩ => ⟨S8192x1536, .f32⟩
  | .hbm, ⟨44, _⟩ => ⟨S8192x1536, .f32⟩
  | .hbm, ⟨45, _⟩ => ⟨S_, .f32⟩
  | .hbm, ⟨46, _⟩ => ⟨S1536, .f32⟩
  | .hbm, ⟨47, _⟩ => ⟨S1x1536, .f32⟩
  | .hbm, ⟨48, _⟩ => ⟨S_, .f32⟩
  | .hbm, ⟨49, _⟩ => ⟨S1536, .f32⟩
  | .hbm, ⟨50, _⟩ => ⟨S8192x1536, .f32⟩
  | .hbm, ⟨51, _⟩ => ⟨S_, .f32⟩
  | .hbm, ⟨52, _⟩ => ⟨S1536, .f32⟩
  | .hbm, ⟨53, _⟩ => ⟨S1x1536, .f32⟩
  | .hbm, ⟨54, _⟩ => ⟨S8192x1536, .f32⟩
  | .hbm, ⟨55, _⟩ => ⟨S8192x1536, .f32⟩
  | .hbm, ⟨56, _⟩ => ⟨S_, .f32⟩
  | .hbm, ⟨57, _⟩ => ⟨S1536, .f32⟩
  | .hbm, ⟨58, _⟩ => ⟨S1x1536, .f32⟩
  | .hbm, ⟨59, _⟩ => ⟨S_, .f32⟩
  | .hbm, ⟨60, _⟩ => ⟨S4x1536, .f32⟩
  | .hbm, ⟨61, _⟩ => ⟨S_, .f32⟩
  | .hbm, ⟨62, _⟩ => ⟨S8195x1536, .f32⟩
  | .hbm, ⟨63, _⟩ => ⟨S8192x1536, .f32⟩
  | .hbm, ⟨64, _⟩ => ⟨S_, .f32⟩
  | .hbm, ⟨65, _⟩ => ⟨S1536, .f32⟩
  | .hbm, ⟨66, _⟩ => ⟨S1x1536, .f32⟩
  | .hbm, ⟨67, _⟩ => ⟨S8192x1536, .f32⟩
  | .hbm, ⟨68, _⟩ => ⟨S8192x1536, .f32⟩
  | .hbm, ⟨69, _⟩ => ⟨S_, .f32⟩
  | .hbm, ⟨70, _⟩ => ⟨S1536, .f32⟩
  | .hbm, ⟨71, _⟩ => ⟨S1x1536, .f32⟩
  | .hbm, ⟨72, _⟩ => ⟨S_, .f32⟩
  | .hbm, ⟨73, _⟩ => ⟨S4x1536, .f32⟩
  | .hbm, ⟨74, _⟩ => ⟨S4x1536, .f32⟩
  | .hbm, ⟨75, _⟩ => ⟨S_, .f32⟩
  | .hbm, ⟨76, _⟩ => ⟨S8195x1536, .f32⟩
  | .hbm, ⟨77, _⟩ => ⟨S8195x1536, .f32⟩
  | .hbm, ⟨78, _⟩ => ⟨S8192x1536, .f32⟩
  | .hbm, ⟨79, _⟩ => ⟨S_, .f32⟩
  | .hbm, ⟨80, _⟩ => ⟨S1536, .f32⟩
  | .hbm, ⟨81, _⟩ => ⟨S1x1536, .f32⟩
  | .hbm, ⟨82, _⟩ => ⟨S8192x1536, .f32⟩
  | .hbm, ⟨83, _⟩ => ⟨S8192x1536, .f32⟩
  | .hbm, ⟨84, _⟩ => ⟨S_, .f32⟩
  | .hbm, ⟨85, _⟩ => ⟨S1536, .f32⟩
  | .hbm, ⟨86, _⟩ => ⟨S1x1536, .f32⟩
  | .hbm, ⟨87, _⟩ => ⟨S_, .f32⟩
  | .hbm, ⟨88, _⟩ => ⟨S4x1536, .f32⟩
  | .hbm, ⟨89, _⟩ => ⟨S4x1536, .f32⟩
  | .hbm, ⟨90, _⟩ => ⟨S_, .f32⟩
  | .hbm, ⟨91, _⟩ => ⟨S8195x1536, .f32⟩
  | .hbm, ⟨92, _⟩ => ⟨S8195x1536, .f32⟩
  | .hbm, ⟨93, _⟩ => ⟨S8192x1536, .f32⟩
  | .hbm, ⟨94, _⟩ => ⟨S_, .f32⟩
  | .hbm, ⟨95, _⟩ => ⟨S1536, .f32⟩
  | .hbm, ⟨96, _⟩ => ⟨S1x1536, .f32⟩
  | .hbm, ⟨97, _⟩ => ⟨S8192x1536, .f32⟩
  | .hbm, ⟨98, _⟩ => ⟨S8192x1536, .f32⟩
  | .hbm, ⟨99, _⟩ => ⟨S_, .f32⟩
  | .hbm, ⟨100, _⟩ => ⟨S1536, .f32⟩
  | .hbm, ⟨101, _⟩ => ⟨S1x1536, .f32⟩
  | .hbm, ⟨102, _⟩ => ⟨S_, .f32⟩
  | .hbm, ⟨103, _⟩ => ⟨S4x1536, .f32⟩
  | .hbm, ⟨104, _⟩ => ⟨S4x1536, .f32⟩
  | .hbm, ⟨105, _⟩ => ⟨S_, .f32⟩
  | .hbm, ⟨106, _⟩ => ⟨S8195x1536, .f32⟩
  | .hbm, ⟨107, _⟩ => ⟨S8195x1536, .f32⟩
  | .hbm, ⟨108, _⟩ => ⟨S3x1536, .f32⟩
  | .hbm, ⟨109, _⟩ => ⟨S8192x1536, .f32⟩
  | .hbm, ⟨110, _⟩ => ⟨S8192x1536, .bf16⟩
  | .hbm, ⟨111, _⟩ => ⟨S1x1536, .f32⟩
  | _, _ => ⟨S8192x4624, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_6 : Ref sig .tc := ⟨.hbm, 56, rfl⟩
abbrev main_v46 : Ref sig .tc := ⟨.hbm, 57, rfl⟩
abbrev main_v47 : Ref sig .tc := ⟨.hbm, 58, rfl⟩
abbrev main_cst_7 : Ref sig .tc := ⟨.hbm, 59, rfl⟩
abbrev main_v48 : Ref sig .tc := ⟨.hbm, 60, rfl⟩
abbrev main_cst_8 : Ref sig .tc := ⟨.hbm, 61, rfl⟩
abbrev main_v49 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_v56 : Ref sig .tc := ⟨.hbm, 71, rfl⟩
abbrev main_cst_11 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_cst_13 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_cst_14 : Ref sig .tc := ⟨.hbm, 84, rfl⟩
abbrev main_v66 : Ref sig .tc := ⟨.hbm, 85, rfl⟩
abbrev main_v67 : Ref sig .tc := ⟨.hbm, 86, rfl⟩
abbrev main_cst_15 : Ref sig .tc := ⟨.hbm, 87, rfl⟩
abbrev main_v68 : Ref sig .tc := ⟨.hbm, 88, rfl⟩
abbrev main_v69 : Ref sig .tc := ⟨.hbm, 89, rfl⟩
abbrev main_cst_16 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_17 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_cst_18 : Ref sig .tc := ⟨.hbm, 99, rfl⟩
abbrev main_v77 : Ref sig .tc := ⟨.hbm, 100, rfl⟩
abbrev main_v78 : Ref sig .tc := ⟨.hbm, 101, rfl⟩
abbrev main_cst_19 : Ref sig .tc := ⟨.hbm, 102, rfl⟩
abbrev main_v79 : Ref sig .tc := ⟨.hbm, 103, rfl⟩
abbrev main_v80 : Ref sig .tc := ⟨.hbm, 104, rfl⟩
abbrev main_cst_20 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩

abbrev nD : Nat := 1
abbrev τ : Topo := Topo.v7x

variable {F : FTy → Type} [FloatOps F]
-- ==== KFfn.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S1x2816x1024 : Shape := ⟨3, ![1, 2816, 1024]⟩
abbrev S512x1024 : Shape := ⟨2, ![512, 1024]⟩
abbrev S1x1408x1024 : Shape := ⟨3, ![1, 1408, 1024]⟩
abbrev S2x512x1408 : Shape := ⟨3, ![2, 512, 1408]⟩
abbrev S1408x1024 : Shape := ⟨2, ![1408, 1024]⟩
abbrev S512x1408 : Shape := ⟨2, ![512, 1408]⟩
abbrev S1x512x1408 : Shape := ⟨3, ![1, 512, 1408]⟩

abbrev nBuf : Space → Nat
  | .hbm => 12
  | .vmem => 8
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x2816, .f32⟩
  | .hbm, ⟨5, _⟩ => ⟨S8192x1024, .bf16⟩
  | .hbm, ⟨6, _⟩ => ⟨S1x8192x2816, .f32⟩
  | .hbm, ⟨7, _⟩ => ⟨S1x8192x2816, .f32⟩
  | .hbm, ⟨8, _⟩ => ⟨S2x8192x2816, .f32⟩
  | .hbm, ⟨9, _⟩ => ⟨S2x8192x2816, .bf16⟩
  | .hbm, ⟨10, _⟩ => ⟨S1x2816x1024, .f32⟩
  | .hbm, ⟨11, _⟩ => ⟨S2x8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1408x1024, .f32⟩
  | .local _ .vmem, ⟨3, _⟩ => ⟨S1x1408x1024, .f32⟩
  | .local _ .vmem, ⟨4, _⟩ => ⟨S2x512x1408, .bf16⟩
  | .local _ .vmem, ⟨5, _⟩ => ⟨S2x512x1408, .bf16⟩
  | .local _ .vmem, ⟨6, _⟩ => ⟨S2x512x1408, .bf16⟩
  | .local _ .vmem, ⟨7, _⟩ => ⟨S2x512x1408, .bf16⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1408x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RFfnIdeal.lean ====
abbrev S8192x5632 : Shape := ⟨2, ![8192, 5632]⟩
abbrev S2816x1024 : Shape := ⟨2, ![2816, 1024]⟩
abbrev S8192x1024 : Shape := ⟨2, ![8192, 1024]⟩
abbrev S8192x2816 : Shape := ⟨2, ![8192, 2816]⟩
abbrev S_ : Shape := ⟨0, ![]⟩
abbrev S1x8192x2816 : Shape := ⟨3, ![1, 8192, 2816]⟩
abbrev S2x8192x2816 : Shape := ⟨3, ![2, 8192, 2816]⟩

abbrev nBuf : Space → Nat
  | .hbm => 34
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S2816x1024, .f32⟩
  | .hbm, ⟨2, _⟩ => ⟨S8192x1024, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S_, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x1024, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x5632, .f32⟩
  | .hbm, ⟨28, _⟩ => ⟨S8192x2816, .f32⟩
  | .hbm, ⟨29, _⟩ => ⟨S8192x2816, .f32⟩
  | .hbm, ⟨30, _⟩ => ⟨S1x8192x2816, .f32⟩
  | .hbm, ⟨31, _⟩ => ⟨S1x8192x2816, .f32⟩
  | .hbm, ⟨32, _⟩ => ⟨S2x8192x2816, .f32⟩
  | .hbm, ⟨33, _⟩ => ⟨S2x8192x2816, .bf16⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩

abbrev nD : Nat := 1
abbrev τ : Topo := Topo.v7x

variable {F : FTy → Type} [FloatOps F]
-- ==== KLoss.lean ====
abbrev S8192x1024 : Shape := ⟨2, ![8192, 1024]⟩
abbrev S1x1024 : Shape := ⟨2, ![1, 1024]⟩
abbrev S512x1024 : Shape := ⟨2, ![512, 1024]⟩
abbrev S1024 : Shape := ⟨1, ![1024]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RLossIdeal.lean ====
abbrev S8192x1024 : Shape := ⟨2, ![8192, 1024]⟩
abbrev S_ : Shape := ⟨0, ![]⟩
abbrev S8192 : Shape := ⟨1, ![8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S_, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1024, .f32⟩
  | .hbm, ⟨24, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== KQrope.lean ====
abbrev S8192x16x192 : Shape := ⟨3, ![8192, 16, 192]⟩
abbrev S8192x32 : Shape := ⟨2, ![8192, 32]⟩
abbrev S_ : Shape := ⟨0, ![]⟩
abbrev S8192x64 : Shape := ⟨2, ![8192, 64]⟩
abbrev S8192x128 : Shape := ⟨2, ![8192, 128]⟩
abbrev S8192x256 : Shape := ⟨2, ![8192, 256]⟩
abbrev S8192x16x64 : Shape := ⟨3, ![8192, 16, 64]⟩
abbrev S8192x16x256 : Shape := ⟨3, ![8192, 16, 256]⟩
abbrev S8192x4096 : Shape := ⟨2, ![8192, 4096]⟩
abbrev S8192x8192 : Shape := ⟨2, ![8192, 8192]⟩
abbrev S256x4096 : Shape := ⟨2, ![256, 4096]⟩
abbrev S256x256 : Shape := ⟨2, ![256, 256]⟩
abbrev S256x8192 : Shape := ⟨2, ![256, 8192]⟩
abbrev S8192x16x128 : Shape := ⟨3, ![8192, 16, 128]⟩
abbrev S8192x16x32 : Shape := ⟨3, ![8192, 16, 32]⟩

abbrev nBuf : Space → Nat
  | .hbm => 30
  | .vmem => 8
  | .smem => 0
  | _ => 0

abbrev bufTy : (tb : Table) → Fin (tcTables nBuf tb) → BufTy
  | .hbm, ⟨0, _⟩ => ⟨S8192x16x192, .f32⟩
  | .hbm, ⟨1, _⟩ => ⟨S8192x32, .f32⟩
  | .hbm, ⟨2, _⟩ => ⟨S8192x32, .f32⟩
  | .hbm, ⟨3, _⟩ => ⟨S_, .f32⟩
  | .hbm, ⟨4, _⟩ => ⟨S8192x64, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192x128, .f32⟩
  | .hbm, ⟨9, _⟩ => ⟨S8192x256, .f32⟩
  | .hbm, ⟨10, _⟩ => ⟨S_, .f32⟩
  | .hbm, ⟨11, _⟩ => ⟨S8192x128, .f32⟩
  | .hbm, ⟨12, _⟩ => ⟨S8192x256, .f32⟩
  | .hbm, ⟨13, _⟩ => ⟨S_, .f32⟩
  | .hbm, ⟨14, _⟩ => ⟨S8192x16x64, .f32⟩
  | .hbm, ⟨15, _⟩ => ⟨S8192x16x256, .f32⟩
  | .hbm, ⟨16, _⟩ => ⟨S8192x4096, .f32⟩
  | .hbm, ⟨17, _⟩ => ⟨S8192x8192, .bf16⟩
  | .hbm, ⟨18, _⟩ => ⟨S8192x4096, .bf16⟩
  | .hbm, ⟨19, _⟩ => ⟨S8192x16x256, .bf16⟩
  | .hbm, ⟨20, _⟩ => ⟨S8192x4096, .bf16⟩
  | .hbm, ⟨21, _⟩ => ⟨S8192x16x256, .bf16⟩
  | .hbm, ⟨22, _⟩ => ⟨S8192x16x128, .bf16⟩
  | .hbm, ⟨23, _⟩ => ⟨S8192x16x32, .bf16⟩
  | .hbm, ⟨24, _⟩ => ⟨S8192x16x32, .bf16⟩
  | .hbm, ⟨25, _⟩ => ⟨S8192x16x32, .bf16⟩
  | .hbm, ⟨26, _⟩ => ⟨S8192x16x32, .bf16⟩
  | .hbm, ⟨27, _⟩ => ⟨S8192x16x32, .bf16⟩
  | .hbm, ⟨28, _⟩ => ⟨S8192x16x32, .bf16⟩
  | .hbm, ⟨29, _⟩ => ⟨S8192x16x192, .bf16⟩
  | .local _ .vmem, ⟨0, _⟩ => ⟨S256x4096, .f32⟩
  | .local _ .vmem, ⟨1, _⟩ => ⟨S256x4096, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x8192, .bf16⟩
  | .local _ .vmem, ⟨7, _⟩ => ⟨S256x8192, .bf16⟩
  | _, _ => ⟨S8192x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8192 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RQropeIdeal.lean ====
abbrev S8192x16x192 : Shape := ⟨3, ![8192, 16, 192]⟩
abbrev S8192x32 : Shape := ⟨2, ![8192, 32]⟩
abbrev S_ : Shape := ⟨0, ![]⟩
abbrev S1x8192x16x192 : Shape := ⟨4, ![1, 8192, 16, 192]⟩
abbrev S1x8192x16x128 : Shape := ⟨4, ![1, 8192, 16, 128]⟩
abbrev S1x8192x16x64 : Shape := ⟨4, ![1, 8192, 16, 64]⟩
abbrev S1x8192x32 : Shape := ⟨3, ![1, 8192, 32]⟩
abbrev S1x8192x1x32 : Shape := ⟨4, ![1, 8192, 1, 32]⟩
abbrev S1x8192x16x32 : Shape := ⟨4, ![1, 8192, 16, 32]⟩

abbrev nBuf : Space → Nat
  | .hbm => 51
  | .vmem => 0
  | .smem => 0
  | _ => 0

abbrev bufTy : (tb : Table) → Fin (tcTables nBuf tb) → BufTy
  | .hbm, ⟨0, _⟩ => ⟨S8192x16x192, .f32⟩
  | .hbm, ⟨1, _⟩ => ⟨S8192x32, .f32⟩
  | .hbm, ⟨2, _⟩ => ⟨S8192x32, .f32⟩
  | .hbm, ⟨3, _⟩ => ⟨S_, .f32⟩
  | .hbm, ⟨4, _⟩ => ⟨S1x8192x16x192, .f32⟩
  | .hbm, ⟨5, _⟩ => ⟨S1x8192x16x128, .f32⟩
  | .hbm, ⟨6, _⟩ => ⟨S1x8192x16x64, .f32⟩
  | .hbm, ⟨7, _⟩ => ⟨S1x8192x32, .f32⟩
  | .hbm, ⟨8, _⟩ => ⟨S1x8192x32, .f32⟩
  | .hbm, ⟨9, _⟩ => ⟨S1x8192x1x32, .f32⟩
  | .hbm, ⟨10, _⟩ => ⟨S1x8192x1x32, .f32⟩
  | .hbm, ⟨11, _⟩ => ⟨S1x8192x16x32, .f32⟩
  | .hbm, ⟨12, _⟩ => ⟨S1x8192x16x32, .f32⟩
  | .hbm, ⟨13, _⟩ => ⟨S1x8192x16x32, .f32⟩
  | .hbm, ⟨14, _⟩ => ⟨S1x8192x16x32, .f32⟩
  | .hbm, ⟨15, _⟩ => ⟨S1x8192x16x32, .f32⟩
  | .hbm, ⟨16, _⟩ => ⟨S1x8192x16x32, .f32⟩
  | .hbm, ⟨17, _⟩ => ⟨S1x8192x16x32, .f32⟩
  | .hbm, ⟨18, _⟩ => ⟨S1x8192x16x32, .f32⟩
  | .hbm, ⟨19, _⟩ => ⟨S1x8192x16x32, .f32⟩
  | .hbm, ⟨20, _⟩ => ⟨S1x8192x16x32, .f32⟩
  | .hbm, ⟨21, _⟩ => ⟨S1x8192x16x32, .f32⟩
  | .hbm, ⟨22, _⟩ => ⟨S1x8192x16x32, .f32⟩
  | .hbm, ⟨23, _⟩ => ⟨S1x8192x16x64, .f32⟩
  | .hbm, ⟨24, _⟩ => ⟨S1x8192x16x192, .f32⟩
  | .hbm, ⟨25, _⟩ => ⟨S_, .f32⟩
  | .hbm, ⟨26, _⟩ => ⟨S1x8192x16x192, .f32⟩
  | .hbm, ⟨27, _⟩ => ⟨S1x8192x16x192, .f32⟩
  | .hbm, ⟨28, _⟩ => ⟨S1x8192x16x192, .f32⟩
  | .hbm, ⟨29, _⟩ => ⟨S_, .f32⟩
  | .hbm, ⟨30, _⟩ => ⟨S1x8192x16x192, .f32⟩
  | .hbm, ⟨31, _⟩ => ⟨S1x8192x16x192, .f32⟩
  | .hbm, ⟨32, _⟩ => ⟨S1x8192x16x128, .f32⟩
  | .hbm, ⟨33, _⟩ => ⟨S1x8192x16x64, .f32⟩
  | .hbm, ⟨34, _⟩ => ⟨S1x8192x16x32, .f32⟩
  | .hbm, ⟨35, _⟩ => ⟨S1x8192x16x32, .f32⟩
  | .hbm, ⟨36, _⟩ => ⟨S1x8192x16x32, .f32⟩
  | .hbm, ⟨37, _⟩ => ⟨S1x8192x16x32, .f32⟩
  | .hbm, ⟨38, _⟩ => ⟨S1x8192x16x32, .f32⟩
  | .hbm, ⟨39, _⟩ => ⟨S1x8192x16x32, .f32⟩
  | .hbm, ⟨40, _⟩ => ⟨S1x8192x16x32, .f32⟩
  | .hbm, ⟨41, _⟩ => ⟨S1x8192x16x32, .f32⟩
  | .hbm, ⟨42, _⟩ => ⟨S1x8192x16x32, .f32⟩
  | .hbm, ⟨43, _⟩ => ⟨S1x8192x16x32, .f32⟩
  | .hbm, ⟨44, _⟩ => ⟨S1x8192x16x32, .f32⟩
  | .hbm, ⟨45, _⟩ => ⟨S1x8192x16x32, .f32⟩
  | .hbm, ⟨46, _⟩ => ⟨S1x8192x16x32, .f32⟩
  | .hbm, ⟨47, _⟩ => ⟨S1x8192x16x64, .f32⟩
  | .hbm, ⟨48, _⟩ => ⟨S1x8192x16x192, .f32⟩
  | .hbm, ⟨49, _⟩ => ⟨S8192x16x192, .f32⟩
  | .hbm, ⟨50, _⟩ => ⟨S8192x16x192, .bf16⟩
  | _, _ => ⟨S8192x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_cst_1 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩

abbrev nD : Nat := 1
abbrev τ : Topo := Topo.v7x

variable {F : FTy → Type} [FloatOps F]
-- ==== KKprep.lean ====
abbrev S8192x448 : Shape := ⟨2, ![8192, 448]⟩
abbrev S256 : Shape := ⟨1, ![256]⟩
abbrev S128 : Shape := ⟨1, ![128]⟩
abbrev S8192x32 : Shape := ⟨2, ![8192, 32]⟩
abbrev S8192x256 : Shape := ⟨2, ![8192, 256]⟩
abbrev S8192x128 : Shape := ⟨2, ![8192, 128]⟩
abbrev S8192x64 : Shape := ⟨2, ![8192, 64]⟩
abbrev S_ : Shape := ⟨0, ![]⟩
abbrev S8192x384 : Shape := ⟨2, ![8192, 384]⟩
abbrev S8192x640 : Shape := ⟨2, ![8192, 640]⟩
abbrev S1x256 : Shape := ⟨2, ![1, 256]⟩
abbrev S1x128 : Shape := ⟨2, ![1, 128]⟩
abbrev S256x640 : Shape := ⟨2, ![256, 640]⟩
abbrev S256x128 : Shape := ⟨2, ![256, 128]⟩
abbrev S256x256 : Shape := ⟨2, ![256, 256]⟩
abbrev S256x1 : Shape := ⟨2, ![256, 1]⟩
abbrev S256x512 : Shape := ⟨2, ![256, 512]⟩
abbrev S256x384 : Shape := ⟨2, ![256, 384]⟩

abbrev nBuf : Space → Nat
  | .hbm => 40
  | .vmem => 18
  | .smem => 0
  | _ => 0

abbrev bufTy : (tb : Table) → Fin (tcTables nBuf tb) → BufTy
  | .hbm, ⟨0, _⟩ => ⟨S8192x448, .f32⟩
  | .hbm, ⟨1, _⟩ => ⟨S256, .f32⟩
  | .hbm, ⟨2, _⟩ => ⟨S128, .f32⟩
  | .hbm, ⟨3, _⟩ => ⟨S8192x32, .f32⟩
  | .hbm, ⟨4, _⟩ => ⟨S8192x32, .f32⟩
  | .hbm, ⟨5, _⟩ => ⟨S8192x256, .f32⟩
  | .hbm, ⟨6, _⟩ => ⟨S8192x128, .f32⟩
  | .hbm, ⟨7, _⟩ => ⟨S8192x64, .f32⟩
  | .hbm, ⟨8, _⟩ => ⟨S_, .f32⟩
  | .hbm, ⟨9, _⟩ => ⟨S8192x64, .f32⟩
  | .hbm, ⟨10, _⟩ => ⟨S8192x384, .f32⟩
  | .hbm, ⟨11, _⟩ => ⟨S8192x64, .f32⟩
  | .hbm, ⟨12, _⟩ => ⟨S8192x32, .f32⟩
  | .hbm, ⟨13, _⟩ => ⟨S8192x32, .f32⟩
  | .hbm, ⟨14, _⟩ => ⟨S8192x32, .f32⟩
  | .hbm, ⟨15, _⟩ => ⟨S8192x640, .f32⟩
  | .hbm, ⟨16, _⟩ => ⟨S_, .f32⟩
  | .hbm, ⟨17, _⟩ => ⟨S8192x64, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192x128, .f32⟩
  | .hbm, ⟨22, _⟩ => ⟨S8192x256, .f32⟩
  | .hbm, ⟨23, _⟩ => ⟨S_, .f32⟩
  | .hbm, ⟨24, _⟩ => ⟨S8192x128, .f32⟩
  | .hbm, ⟨25, _⟩ => ⟨S8192x256, .f32⟩
  | .hbm, ⟨26, _⟩ => ⟨S8192x128, .f32⟩
  | .hbm, ⟨27, _⟩ => ⟨S1x256, .f32⟩
  | .hbm, ⟨28, _⟩ => ⟨S1x128, .f32⟩
  | .hbm, ⟨29, _⟩ => ⟨S8192x640, .bf16⟩
  | .hbm, ⟨30, _⟩ => ⟨S1x256, .f32⟩
  | .hbm, ⟨31, _⟩ => ⟨S1x128, .f32⟩
  | .hbm, ⟨32, _⟩ => ⟨S8192x384, .bf16⟩
  | .hbm, ⟨33, _⟩ => ⟨S8192x32, .bf16⟩
  | .hbm, ⟨34, _⟩ => ⟨S8192x32, .bf16⟩
  | .hbm, ⟨35, _⟩ => ⟨S8192x32, .bf16⟩
  | .hbm, ⟨36, _⟩ => ⟨S8192x32, .bf16⟩
  | .hbm, ⟨37, _⟩ => ⟨S8192x32, .bf16⟩
  | .hbm, ⟨38, _⟩ => ⟨S8192x32, .bf16⟩
  | .hbm, ⟨39, _⟩ => ⟨S8192x448, .bf16⟩
  | .local _ .vmem, ⟨0, _⟩ => ⟨S256x640, .f32⟩
  | .local _ .vmem, ⟨1, _⟩ => ⟨S256x640, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S256x256, .f32⟩
  | .local _ .vmem, ⟨7, _⟩ => ⟨S256x256, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x256, .f32⟩
  | .local _ .vmem, ⟨13, _⟩ => ⟨S1x128, .f32⟩
  | .local _ .vmem, ⟨14, _⟩ => ⟨S256x640, .bf16⟩
  | .local _ .vmem, ⟨15, _⟩ => ⟨S256x640, .bf16⟩
  | .local _ .vmem, ⟨16, _⟩ => ⟨S1x256, .f32⟩
  | .local _ .vmem, ⟨17, _⟩ => ⟨S1x128, .f32⟩
  | _, _ => ⟨S8192x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17_0 : Ref sig .tc := ⟨.hbm, 29, rfl⟩
abbrev main_v17_1 : Ref sig .tc := ⟨.hbm, 30, rfl⟩
abbrev main_v17_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x640 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== RKprepIdeal.lean ====
abbrev S8192x448 : Shape := ⟨2, ![8192, 448]⟩
abbrev S256 : Shape := ⟨1, ![256]⟩
abbrev S128 : Shape := ⟨1, ![128]⟩
abbrev S8192x32 : Shape := ⟨2, ![8192, 32]⟩
abbrev S8192x256 : Shape := ⟨2, ![8192, 256]⟩
abbrev S8192x128 : Shape := ⟨2, ![8192, 128]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S1x128 : Shape := ⟨2, ![1, 128]⟩
abbrev S1x8192x64 : Shape := ⟨3, ![1, 8192, 64]⟩
abbrev S1x8192x32 : Shape := ⟨3, ![1, 8192, 32]⟩

abbrev nBuf : Space → Nat
  | .hbm => 131
  | .vmem => 0
  | .smem => 0
  | _ => 0

abbrev hbmTy0_0 (i : Nat) : BufTy := match i % 128 with
  | 0 => ⟨S8192x448, .f32⟩
  | 1 => ⟨S256, .f32⟩
  | 2 => ⟨S128, .f32⟩
  | 3 => ⟨S8192x32, .f32⟩
  | 4 => ⟨S8192x32, .f32⟩
  | 5 => ⟨S8192x256, .f32⟩
  | 6 => ⟨S8192x128, .f32⟩
  | 7 => ⟨S8192x64, .f32⟩
  | 8 => ⟨S8192x256, .f32⟩
  | 9 => ⟨S8192x128, .f32⟩
  | 10 => ⟨S8192x64, .f32⟩
  | 11 => ⟨S8192x256, .f32⟩
  | 12 => ⟨S_, .f32⟩
  | 13 => ⟨S8192, .f32⟩
  | 14 => ⟨S8192x1, .f32⟩
  | 15 => ⟨S_, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1, .f32⟩
  | 22 => ⟨S8192x1, .f32⟩
  | 23 => ⟨S_, .f32⟩
  | 24 => ⟨S8192x1, .f32⟩
  | 25 => ⟨S8192x1, .f32⟩
  | 26 => ⟨S8192x256, .f32⟩
  | 27 => ⟨S8192x256, .f32⟩
  | 28 => ⟨S1x256, .f32⟩
  | 29 => ⟨S8192x256, .f32⟩
  | 30 => ⟨S8192x256, .f32⟩
  | 31 => ⟨S8192x128, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192x1, .f32⟩
  | 40 => ⟨S8192x1, .f32⟩
  | 41 => ⟨S8192x1, .f32⟩
  | 42 => ⟨S8192x1, .f32⟩
  | 43 => ⟨S_, .f32⟩
  | 44 => ⟨S8192x1, .f32⟩
  | 45 => ⟨S8192x1, .f32⟩
  | 46 => ⟨S8192x128, .f32⟩
  | 47 => ⟨S8192x128, .f32⟩
  | 48 => ⟨S1x128, .f32⟩
  | 49 => ⟨S8192x128, .f32⟩
  | 50 => ⟨S8192x128, .f32⟩
  | 51 => ⟨S1x8192x64, .f32⟩
  | 52 => ⟨S1x8192x32, .f32⟩
  | 53 => ⟨S1x8192x32, .f32⟩
  | 54 => ⟨S1x8192x32, .f32⟩
  | 55 => ⟨S1x8192x32, .f32⟩
  | 56 => ⟨S1x8192x32, .f32⟩
  | 57 => ⟨S1x8192x32, .f32⟩
  | 58 => ⟨S1x8192x32, .f32⟩
  | 59 => ⟨S1x8192x32, .f32⟩
  | 60 => ⟨S1x8192x32, .f32⟩
  | 61 => ⟨S1x8192x32, .f32⟩
  | 62 => ⟨S1x8192x64, .f32⟩
  | 63 => ⟨S8192x64, .f32⟩
  | 64 => ⟨S1x8192x64, .f32⟩
  | 65 => ⟨S1x8192x32, .f32⟩
  | 66 => ⟨S1x8192x32, .f32⟩
  | 67 => ⟨S1x8192x32, .f32⟩
  | 68 => ⟨S1x8192x32, .f32⟩
  | 69 => ⟨S1x8192x32, .f32⟩
  | 70 => ⟨S1x8192x32, .f32⟩
  | 71 => ⟨S1x8192x32, .f32⟩
  | 72 => ⟨S1x8192x32, .f32⟩
  | 73 => ⟨S1x8192x32, .f32⟩
  | 74 => ⟨S1x8192x64, .f32⟩
  | 75 => ⟨S_, .f32⟩
  | 76 => ⟨S8192x64, .f32⟩
  | 77 => ⟨S8192x128, .f32⟩
  | 78 => ⟨S_, .f32⟩
  | 79 => ⟨S128, .f32⟩
  | 80 => ⟨S1x128, .f32⟩
  | 81 => ⟨S8192x128, .f32⟩
  | 82 => ⟨S8192x128, .f32⟩
  | 83 => ⟨S_, .f32⟩
  | 84 => ⟨S128, .f32⟩
  | 85 => ⟨S8192x128, .f32⟩
  | 86 => ⟨S_, .f32⟩
  | 87 => ⟨S8192, .f32⟩
  | 88 => ⟨S8192x1, .f32⟩
  | 89 => ⟨S8192x128, .f32⟩
  | 90 => ⟨S8192x128, .f32⟩
  | 91 => ⟨S8192x1, .f32⟩
  | 92 => ⟨S_, .f32⟩
  | 93 => ⟨S8192x1, .f32⟩
  | 94 => ⟨S8192x1, .f32⟩
  | 95 => ⟨S_, .f32⟩
  | 96 => ⟨S8192, .f32⟩
  | 97 => ⟨S8192x128, .f32⟩
  | 98 => ⟨S8192x128, .f32⟩
  | 99 => ⟨S8192x128, .f32⟩
  | 100 => ⟨S8192x128, .f32⟩
  | 101 => ⟨S8192x128, .f32⟩
  | 102 => ⟨S8192x256, .f32⟩
  | 103 => ⟨S_, .f32⟩
  | 104 => ⟨S256, .f32⟩
  | 105 => ⟨S1x256, .f32⟩
  | 106 => ⟨S8192x256, .f32⟩
  | 107 => ⟨S8192x256, .f32⟩
  | 108 => ⟨S_, .f32⟩
  | 109 => ⟨S256, .f32⟩
  | 110 => ⟨S8192x256, .f32⟩
  | 111 => ⟨S_, .f32⟩
  | 112 => ⟨S8192, .f32⟩
  | 113 => ⟨S8192x1, .f32⟩
  | 114 => ⟨S8192x256, .f32⟩
  | 115 => ⟨S8192x256, .f32⟩
  | 116 => ⟨S8192x1, .f32⟩
  | 117 => ⟨S_, .f32⟩
  | 118 => ⟨S8192x1, .f32⟩
  | 119 => ⟨S8192x1, .f32⟩
  | 120 => ⟨S_, .f32⟩
  | 121 => ⟨S8192, .f32⟩
  | 122 => ⟨S8192x256, .f32⟩
  | 123 => ⟨S8192x256, .f32⟩
  | 124 => ⟨S8192x256, .f32⟩
  | 125 => ⟨S8192x256, .f32⟩
  | 126 => ⟨S8192x256, .f32⟩
  | 127 => ⟨S8192x448, .f32⟩
  | _ => ⟨S8192x448, .f32⟩

abbrev hbmTy0_1 (i : Nat) : BufTy := match i % 128 with
  | 0 => ⟨S8192x448, .bf16⟩
  | 1 => ⟨S1x256, .f32⟩
  | 2 => ⟨S1x128, .f32⟩
  | _ => ⟨S8192x448, .f32⟩

abbrev hbmTy (i : Nat) : BufTy := match i / 128 with
  | 0 => hbmTy0_0 i
  | 1 => hbmTy0_1 i
  | _ => ⟨S8192x448, .f32⟩

abbrev bufTy : (tb : Table) → Fin (tcTables nBuf tb) → BufTy
  | .hbm, ⟨i, _⟩ => hbmTy i
  | _, _ => ⟨S8192x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_cst_8 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_cst_9 : Ref sig .tc := ⟨.hbm, 83, rfl⟩
abbrev main_v65 : Ref sig .tc := ⟨.hbm, 84, rfl⟩
abbrev main_v66 : Ref sig .tc := ⟨.hbm, 85, rfl⟩
abbrev main_cst_10 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_cst_11 : Ref sig .tc := ⟨.hbm, 92, rfl⟩
abbrev main_v72 : Ref sig .tc := ⟨.hbm, 93, rfl⟩
abbrev main_v73 : Ref sig .tc := ⟨.hbm, 94, rfl⟩
abbrev main_cst_12 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_13 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_cst_14 : Ref sig .tc := ⟨.hbm, 108, rfl⟩
abbrev main_v85 : Ref sig .tc := ⟨.hbm, 109, rfl⟩
abbrev main_v86 : Ref sig .tc := ⟨.hbm, 110, rfl⟩
abbrev main_cst_15 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_cst_16 : Ref sig .tc := ⟨.hbm, 117, rfl⟩
abbrev main_v92 : Ref sig .tc := ⟨.hbm, 118, rfl⟩
abbrev main_v93 : Ref sig .tc := ⟨.hbm, 119, rfl⟩
abbrev main_cst_17 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩

abbrev nD : Nat := 1
abbrev τ : Topo := Topo.v7x

variable {F : FTy → Type} [FloatOps F]
-- ==== KRmsF.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RRmsFIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S8192x1024, .f32⟩
  | .hbm, ⟨18, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== KPostF.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S1x1024, .f32⟩
  | .hbm, ⟨4, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RPostFIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== KPleF.lean ====
abbrev S8192x1024 : Shape := ⟨2, ![8192, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S1x1024, .f32⟩
  | .hbm, ⟨5, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RPleFIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S1x1024, .f32⟩
  | .hbm, ⟨27, _⟩ => ⟨S8192x1024, .f32⟩
  | .hbm, ⟨28, _⟩ => ⟨S8192x1024, .f32⟩
  | .hbm, ⟨29, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== KFfnF.lean ====
abbrev S8192x1024 : Shape := ⟨2, ![8192, 1024]⟩
abbrev S1024x5632 : Shape := ⟨2, ![1024, 5632]⟩
abbrev S1x1024x5632 : Shape := ⟨3, ![1, 1024, 5632]⟩
abbrev S2x8192x2816 : Shape := ⟨3, ![2, 8192, 2816]⟩
abbrev S8192x2816 : Shape := ⟨2, ![8192, 2816]⟩
abbrev S512x1024 : Shape := ⟨2, ![512, 1024]⟩
abbrev S1x1024x1408 : Shape := ⟨3, ![1, 1024, 1408]⟩
abbrev S2x512x1408 : Shape := ⟨3, ![2, 512, 1408]⟩
abbrev S512x1408 : Shape := ⟨2, ![512, 1408]⟩
abbrev S1024x1408 : Shape := ⟨2, ![1024, 1408]⟩
abbrev S1x512x1408 : Shape := ⟨3, ![1, 512, 1408]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1x1024x5632, .f32⟩
  | .hbm, ⟨3, _⟩ => ⟨S2x8192x2816, .bf16⟩
  | .hbm, ⟨4, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024x1408, .f32⟩
  | .local _ .vmem, ⟨3, _⟩ => ⟨S1x1024x1408, .f32⟩
  | .local _ .vmem, ⟨4, _⟩ => ⟨S1x1024x1408, .f32⟩
  | .local _ .vmem, ⟨5, _⟩ => ⟨S1x1024x1408, .f32⟩
  | .local _ .vmem, ⟨6, _⟩ => ⟨S2x512x1408, .bf16⟩
  | .local _ .vmem, ⟨7, _⟩ => ⟨S2x512x1408, .bf16⟩
  | .local _ .vmem, ⟨8, _⟩ => ⟨S512x1408, .bf16⟩
  | .local _ .vmem, ⟨9, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  let c0_i32_1 : BitVec 32 := 0#32
  ![c0_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== RFfnFIdeal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S8192x5632, .f32⟩
  | .hbm, ⟨3, _⟩ => ⟨S8192x2816, .f32⟩
  | .hbm, ⟨4, _⟩ => ⟨S8192x2816, .f32⟩
  | .hbm, ⟨5, _⟩ => ⟨S1x8192x2816, .f32⟩
  | .hbm, ⟨6, _⟩ => ⟨S1x8192x2816, .f32⟩
  | .hbm, ⟨7, _⟩ => ⟨S2x8192x2816, .f32⟩
  | .hbm, ⟨8, _⟩ => ⟨S2x8192x2816, .bf16⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== KKprepF.lean ====
abbrev S8192x448 : Shape := ⟨2, ![8192, 448]⟩
abbrev S256 : Shape := ⟨1, ![256]⟩
abbrev S128 : Shape := ⟨1, ![128]⟩
abbrev S8192x32 : Shape := ⟨2, ![8192, 32]⟩
abbrev S_ : Shape := ⟨0, ![]⟩
abbrev S8192x64 : Shape := ⟨2, ![8192, 64]⟩
abbrev S8192x384 : Shape := ⟨2, ![8192, 384]⟩
abbrev S8192x640 : Shape := ⟨2, ![8192, 640]⟩
abbrev S8192x128 : Shape := ⟨2, ![8192, 128]⟩
abbrev S8192x256 : Shape := ⟨2, ![8192, 256]⟩
abbrev S1x256 : Shape := ⟨2, ![1, 256]⟩
abbrev S1x128 : Shape := ⟨2, ![1, 128]⟩
abbrev S512x640 : Shape := ⟨2, ![512, 640]⟩
abbrev S512x128 : Shape := ⟨2, ![512, 128]⟩
abbrev S512x256 : Shape := ⟨2, ![512, 256]⟩
abbrev S512 : Shape := ⟨1, ![512]⟩
abbrev S512x1 : Shape := ⟨2, ![512, 1]⟩

abbrev nBuf : Space → Nat
  | .hbm => 29
  | .vmem => 14
  | .smem => 0
  | _ => 0

abbrev bufTy : (tb : Table) → Fin (tcTables nBuf tb) → BufTy
  | .hbm, ⟨0, _⟩ => ⟨S8192x448, .f32⟩
  | .hbm, ⟨1, _⟩ => ⟨S256, .f32⟩
  | .hbm, ⟨2, _⟩ => ⟨S128, .f32⟩
  | .hbm, ⟨3, _⟩ => ⟨S8192x32, .f32⟩
  | .hbm, ⟨4, _⟩ => ⟨S8192x32, .f32⟩
  | .hbm, ⟨5, _⟩ => ⟨S_, .f32⟩
  | .hbm, ⟨6, _⟩ => ⟨S8192x64, .f32⟩
  | .hbm, ⟨7, _⟩ => ⟨S8192x384, .f32⟩
  | .hbm, ⟨8, _⟩ => ⟨S8192x64, .f32⟩
  | .hbm, ⟨9, _⟩ => ⟨S8192x32, .f32⟩
  | .hbm, ⟨10, _⟩ => ⟨S8192x32, .f32⟩
  | .hbm, ⟨11, _⟩ => ⟨S8192x32, .f32⟩
  | .hbm, ⟨12, _⟩ => ⟨S8192x640, .f32⟩
  | .hbm, ⟨13, _⟩ => ⟨S_, .f32⟩
  | .hbm, ⟨14, _⟩ => ⟨S8192x64, .f32⟩
  | .hbm, ⟨15, _⟩ => ⟨S8192x128, .f32⟩
  | .hbm, ⟨16, _⟩ => ⟨S8192x128, .f32⟩
  | .hbm, ⟨17, _⟩ => ⟨S_, .f32⟩
  | .hbm, ⟨18, _⟩ => ⟨S8192x128, .f32⟩
  | .hbm, ⟨19, _⟩ => ⟨S8192x256, .f32⟩
  | .hbm, ⟨20, _⟩ => ⟨S_, .f32⟩
  | .hbm, ⟨21, _⟩ => ⟨S8192x128, .f32⟩
  | .hbm, ⟨22, _⟩ => ⟨S8192x256, .f32⟩
  | .hbm, ⟨23, _⟩ => ⟨S1x256, .f32⟩
  | .hbm, ⟨24, _⟩ => ⟨S1x128, .f32⟩
  | .hbm, ⟨25, _⟩ => ⟨S8192x256, .bf16⟩
  | .hbm, ⟨26, _⟩ => ⟨S8192x128, .bf16⟩
  | .hbm, ⟨27, _⟩ => ⟨S8192x128, .bf16⟩
  | .hbm, ⟨28, _⟩ => ⟨S8192x64, .bf16⟩
  | .local _ .vmem, ⟨0, _⟩ => ⟨S512x640, .f32⟩
  | .local _ .vmem, ⟨1, _⟩ => ⟨S512x640, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x256, .f32⟩
  | .local _ .vmem, ⟨7, _⟩ => ⟨S1x128, .f32⟩
  | .local _ .vmem, ⟨8, _⟩ => ⟨S512x256, .bf16⟩
  | .local _ .vmem, ⟨9, _⟩ => ⟨S512x256, .bf16⟩
  | .local _ .vmem, ⟨10, _⟩ => ⟨S512x128, .bf16⟩
  | .local _ .vmem, ⟨11, _⟩ => ⟨S512x128, .bf16⟩
  | .local _ .vmem, ⟨12, _⟩ => ⟨S512x128, .bf16⟩
  | .local _ .vmem, ⟨13, _⟩ => ⟨S512x128, .bf16⟩
  | _, _ => ⟨S8192x448, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RKprepFIdeal.lean ====
abbrev S8192x448 : Shape := ⟨2, ![8192, 448]⟩
abbrev S256 : Shape := ⟨1, ![256]⟩
abbrev S128 : Shape := ⟨1, ![128]⟩
abbrev S8192x32 : Shape := ⟨2, ![8192, 32]⟩
abbrev S8192x256 : Shape := ⟨2, ![8192, 256]⟩
abbrev S8192x128 : Shape := ⟨2, ![8192, 128]⟩
abbrev S8192x64 : Shape := ⟨2, ![8192, 64]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S1x128 : Shape := ⟨2, ![1, 128]⟩
abbrev S1x8192x64 : Shape := ⟨3, ![1, 8192, 64]⟩
abbrev S1x8192x32 : Shape := ⟨3, ![1, 8192, 32]⟩

abbrev nBuf : Space → Nat
  | .hbm => 56
  | .vmem => 0
  | .smem => 0
  | _ => 0

abbrev bufTy : (tb : Table) → Fin (tcTables nBuf tb) → BufTy
  | .hbm, ⟨0, _⟩ => ⟨S8192x448, .f32⟩
  | .hbm, ⟨1, _⟩ => ⟨S256, .f32⟩
  | .hbm, ⟨2, _⟩ => ⟨S128, .f32⟩
  | .hbm, ⟨3, _⟩ => ⟨S8192x32, .f32⟩
  | .hbm, ⟨4, _⟩ => ⟨S8192x32, .f32⟩
  | .hbm, ⟨5, _⟩ => ⟨S8192x256, .f32⟩
  | .hbm, ⟨6, _⟩ => ⟨S8192x128, .f32⟩
  | .hbm, ⟨7, _⟩ => ⟨S8192x64, .f32⟩
  | .hbm, ⟨8, _⟩ => ⟨S8192x256, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x256, .f32⟩
  | .hbm, ⟨20, _⟩ => ⟨S8192x256, .f32⟩
  | .hbm, ⟨21, _⟩ => ⟨S1x256, .f32⟩
  | .hbm, ⟨22, _⟩ => ⟨S8192x256, .f32⟩
  | .hbm, ⟨23, _⟩ => ⟨S8192x256, .f32⟩
  | .hbm, ⟨24, _⟩ => ⟨S8192x256, .bf16⟩
  | .hbm, ⟨25, _⟩ => ⟨S8192x128, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x128, .f32⟩
  | .hbm, ⟨37, _⟩ => ⟨S8192x128, .f32⟩
  | .hbm, ⟨38, _⟩ => ⟨S1x128, .f32⟩
  | .hbm, ⟨39, _⟩ => ⟨S8192x128, .f32⟩
  | .hbm, ⟨40, _⟩ => ⟨S8192x128, .f32⟩
  | .hbm, ⟨41, _⟩ => ⟨S8192x128, .bf16⟩
  | .hbm, ⟨42, _⟩ => ⟨S1x8192x64, .f32⟩
  | .hbm, ⟨43, _⟩ => ⟨S1x8192x32, .f32⟩
  | .hbm, ⟨44, _⟩ => ⟨S1x8192x32, .f32⟩
  | .hbm, ⟨45, _⟩ => ⟨S1x8192x32, .f32⟩
  | .hbm, ⟨46, _⟩ => ⟨S1x8192x32, .f32⟩
  | .hbm, ⟨47, _⟩ => ⟨S1x8192x32, .f32⟩
  | .hbm, ⟨48, _⟩ => ⟨S1x8192x32, .f32⟩
  | .hbm, ⟨49, _⟩ => ⟨S1x8192x32, .f32⟩
  | .hbm, ⟨50, _⟩ => ⟨S1x8192x32, .f32⟩
  | .hbm, ⟨51, _⟩ => ⟨S1x8192x32, .f32⟩
  | .hbm, ⟨52, _⟩ => ⟨S1x8192x32, .f32⟩
  | .hbm, ⟨53, _⟩ => ⟨S1x8192x64, .f32⟩
  | .hbm, ⟨54, _⟩ => ⟨S8192x64, .f32⟩
  | .hbm, ⟨55, _⟩ => ⟨S8192x64, .bf16⟩
  | _, _ => ⟨S8192x448, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩

abbrev nD : Nat := 1
abbrev τ : Topo := Topo.v7x

variable {F : FTy → Type} [FloatOps F]
-- ==== KQropeF.lean ====
abbrev S8192x16x192 : Shape := ⟨3, ![8192, 16, 192]⟩
abbrev S8192x32 : Shape := ⟨2, ![8192, 32]⟩
abbrev S_ : Shape := ⟨0, ![]⟩
abbrev S8192x64 : Shape := ⟨2, ![8192, 64]⟩
abbrev S8192x128 : Shape := ⟨2, ![8192, 128]⟩
abbrev S8192x256 : Shape := ⟨2, ![8192, 256]⟩
abbrev S8192x16x64 : Shape := ⟨3, ![8192, 16, 64]⟩
abbrev S8192x16x256 : Shape := ⟨3, ![8192, 16, 256]⟩
abbrev S8192x4096 : Shape := ⟨2, ![8192, 4096]⟩
abbrev S8192x16x128 : Shape := ⟨3, ![8192, 16, 128]⟩
abbrev S8192x16x32 : Shape := ⟨3, ![8192, 16, 32]⟩
abbrev S8192x8192 : Shape := ⟨2, ![8192, 8192]⟩
abbrev S256x8192 : Shape := ⟨2, ![256, 8192]⟩
abbrev S256x256 : Shape := ⟨2, ![256, 256]⟩
abbrev S256x4096 : Shape := ⟨2, ![256, 4096]⟩

abbrev nBuf : Space → Nat
  | .hbm => 30
  | .vmem => 8
  | .smem => 0
  | _ => 0

abbrev bufTy : (tb : Table) → Fin (tcTables nBuf tb) → BufTy
  | .hbm, ⟨0, _⟩ => ⟨S8192x16x192, .f32⟩
  | .hbm, ⟨1, _⟩ => ⟨S8192x32, .f32⟩
  | .hbm, ⟨2, _⟩ => ⟨S8192x32, .f32⟩
  | .hbm, ⟨3, _⟩ => ⟨S_, .f32⟩
  | .hbm, ⟨4, _⟩ => ⟨S8192x64, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192x128, .f32⟩
  | .hbm, ⟨9, _⟩ => ⟨S8192x256, .f32⟩
  | .hbm, ⟨10, _⟩ => ⟨S_, .f32⟩
  | .hbm, ⟨11, _⟩ => ⟨S8192x128, .f32⟩
  | .hbm, ⟨12, _⟩ => ⟨S8192x256, .f32⟩
  | .hbm, ⟨13, _⟩ => ⟨S_, .f32⟩
  | .hbm, ⟨14, _⟩ => ⟨S8192x16x64, .f32⟩
  | .hbm, ⟨15, _⟩ => ⟨S8192x16x256, .f32⟩
  | .hbm, ⟨16, _⟩ => ⟨S8192x4096, .f32⟩
  | .hbm, ⟨17, _⟩ => ⟨S_, .f32⟩
  | .hbm, ⟨18, _⟩ => ⟨S8192x16x128, .f32⟩
  | .hbm, ⟨19, _⟩ => ⟨S8192x16x32, .f32⟩
  | .hbm, ⟨20, _⟩ => ⟨S8192x16x32, .f32⟩
  | .hbm, ⟨21, _⟩ => ⟨S8192x16x32, .f32⟩
  | .hbm, ⟨22, _⟩ => ⟨S_, .f32⟩
  | .hbm, ⟨23, _⟩ => ⟨S8192x16x64, .f32⟩
  | .hbm, ⟨24, _⟩ => ⟨S8192x16x256, .f32⟩
  | .hbm, ⟨25, _⟩ => ⟨S8192x4096, .f32⟩
  | .hbm, ⟨26, _⟩ => ⟨S8192x8192, .f32⟩
  | .hbm, ⟨27, _⟩ => ⟨S8192x4096, .bf16⟩
  | .hbm, ⟨28, _⟩ => ⟨S8192x16x256, .bf16⟩
  | .hbm, ⟨29, _⟩ => ⟨S8192x16x192, .bf16⟩
  | .local _ .vmem, ⟨0, _⟩ => ⟨S256x8192, .f32⟩
  | .local _ .vmem, ⟨1, _⟩ => ⟨S256x8192, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x4096, .bf16⟩
  | .local _ .vmem, ⟨7, _⟩ => ⟨S256x4096, .bf16⟩
  | _, _ => ⟨S8192x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RQropeFIdeal.lean ====
abbrev S8192x16x192 : Shape := ⟨3, ![8192, 16, 192]⟩
abbrev S8192x32 : Shape := ⟨2, ![8192, 32]⟩
abbrev S1x8192x16x192 : Shape := ⟨4, ![1, 8192, 16, 192]⟩
abbrev S1x8192x16x128 : Shape := ⟨4, ![1, 8192, 16, 128]⟩
abbrev S1x8192x16x64 : Shape := ⟨4, ![1, 8192, 16, 64]⟩
abbrev S1x8192x32 : Shape := ⟨3, ![1, 8192, 32]⟩
abbrev S1x8192x1x32 : Shape := ⟨4, ![1, 8192, 1, 32]⟩
abbrev S1x8192x16x32 : Shape := ⟨4, ![1, 8192, 16, 32]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x16x192, .f32⟩
  | .hbm, ⟨1, _⟩ => ⟨S8192x32, .f32⟩
  | .hbm, ⟨2, _⟩ => ⟨S8192x32, .f32⟩
  | .hbm, ⟨3, _⟩ => ⟨S1x8192x16x192, .f32⟩
  | .hbm, ⟨4, _⟩ => ⟨S1x8192x16x128, .f32⟩
  | .hbm, ⟨5, _⟩ => ⟨S1x8192x16x64, .f32⟩
  | .hbm, ⟨6, _⟩ => ⟨S1x8192x32, .f32⟩
  | .hbm, ⟨7, _⟩ => ⟨S1x8192x32, .f32⟩
  | .hbm, ⟨8, _⟩ => ⟨S1x8192x1x32, .f32⟩
  | .hbm, ⟨9, _⟩ => ⟨S1x8192x1x32, .f32⟩
  | .hbm, ⟨10, _⟩ => ⟨S1x8192x16x32, .f32⟩
  | .hbm, ⟨11, _⟩ => ⟨S1x8192x16x32, .f32⟩
  | .hbm, ⟨12, _⟩ => ⟨S1x8192x16x32, .f32⟩
  | .hbm, ⟨13, _⟩ => ⟨S1x8192x16x32, .f32⟩
  | .hbm, ⟨14, _⟩ => ⟨S1x8192x16x32, .f32⟩
  | .hbm, ⟨15, _⟩ => ⟨S1x8192x16x32, .f32⟩
  | .hbm, ⟨16, _⟩ => ⟨S1x8192x16x32, .f32⟩
  | .hbm, ⟨17, _⟩ => ⟨S1x8192x16x32, .f32⟩
  | .hbm, ⟨18, _⟩ => ⟨S1x8192x16x32, .f32⟩
  | .hbm, ⟨19, _⟩ => ⟨S1x8192x16x32, .f32⟩
  | .hbm, ⟨20, _⟩ => ⟨S1x8192x16x32, .f32⟩
  | .hbm, ⟨21, _⟩ => ⟨S1x8192x16x32, .f32⟩
  | .hbm, ⟨22, _⟩ => ⟨S1x8192x16x64, .f32⟩
  | .hbm, ⟨23, _⟩ => ⟨S1x8192x16x192, .f32⟩
  | .hbm, ⟨24, _⟩ => ⟨S_, .f32⟩
  | .hbm, ⟨25, _⟩ => ⟨S1x8192x16x192, .f32⟩
  | .hbm, ⟨26, _⟩ => ⟨S1x8192x16x192, .f32⟩
  | .hbm, ⟨27, _⟩ => ⟨S8192x16x192, .f32⟩
  | .hbm, ⟨28, _⟩ => ⟨S8192x16x192, .bf16⟩
  | _, _ => ⟨S8192x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== KAttnB.lean ====
abbrev S8192x16x192 : Shape := ⟨3, ![8192, 16, 192]⟩
abbrev S8192x16x128 : Shape := ⟨3, ![8192, 16, 128]⟩
abbrev S8192x64 : Shape := ⟨2, ![8192, 64]⟩
abbrev S8192x1x64 : Shape := ⟨3, ![8192, 1, 64]⟩
abbrev S8192x16x64 : Shape := ⟨3, ![8192, 16, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S8192x16 : Shape := ⟨2, ![8192, 16]⟩
abbrev S16x128x8192 : Shape := ⟨3, ![16, 128, 8192]⟩
abbrev S8192x16x1 : Shape := ⟨3, ![8192, 16, 1]⟩
abbrev S8192x2048 : Shape := ⟨2, ![8192, 2048]⟩
abbrev S8192x16x256 : Shape := ⟨3, ![8192, 16, 256]⟩
abbrev S8192x4096 : Shape := ⟨2, ![8192, 4096]⟩
abbrev S8192x128 : Shape := ⟨2, ![8192, 128]⟩
abbrev S8192x256 : Shape := ⟨2, ![8192, 256]⟩
abbrev S512x128 : Shape := ⟨2, ![512, 128]⟩
abbrev S512x256 : Shape := ⟨2, ![512, 256]⟩
abbrev S512x1 : Shape := ⟨2, ![512, 1]⟩
abbrev S512x512 : Shape := ⟨2, ![512, 512]⟩

abbrev nBuf : Space → Nat
  | .hbm => 82
  | .vmem => 20
  | .smem => 0
  | _ => 0

abbrev bufTy : (tb : Table) → Fin (tcTables nBuf tb) → BufTy
  | .hbm, ⟨0, _⟩ => ⟨S8192x16x192, .f32⟩
  | .hbm, ⟨1, _⟩ => ⟨S8192x16x128, .f32⟩
  | .hbm, ⟨2, _⟩ => ⟨S8192x16x128, .f32⟩
  | .hbm, ⟨3, _⟩ => ⟨S8192x64, .f32⟩
  | .hbm, ⟨4, _⟩ => ⟨S8192x16x128, .f32⟩
  | .hbm, ⟨5, _⟩ => ⟨S8192x1x64, .f32⟩
  | .hbm, ⟨6, _⟩ => ⟨S8192x16x64, .f32⟩
  | .hbm, ⟨7, _⟩ => ⟨S8192x16x192, .f32⟩
  | .hbm, ⟨8, _⟩ => ⟨S16x8192x8192, .f32⟩
  | .hbm, ⟨9, _⟩ => ⟨S_, .f32⟩
  | .hbm, ⟨10, _⟩ => ⟨S16x8192x8192, .f32⟩
  | .hbm, ⟨11, _⟩ => ⟨S16x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S16x8192x8192, .i1⟩
  | .hbm, ⟨21, _⟩ => ⟨S16x8192x8192, .f32⟩
  | .hbm, ⟨22, _⟩ => ⟨S16x8192x8192, .f32⟩
  | .hbm, ⟨23, _⟩ => ⟨S_, .f32⟩
  | .hbm, ⟨24, _⟩ => ⟨S16x8192, .f32⟩
  | .hbm, ⟨25, _⟩ => ⟨S16x8192x1, .f32⟩
  | .hbm, ⟨26, _⟩ => ⟨S16x8192x8192, .f32⟩
  | .hbm, ⟨27, _⟩ => ⟨S16x8192x8192, .f32⟩
  | .hbm, ⟨28, _⟩ => ⟨S16x8192x8192, .f32⟩
  | .hbm, ⟨29, _⟩ => ⟨S_, .f32⟩
  | .hbm, ⟨30, _⟩ => ⟨S16x8192, .f32⟩
  | .hbm, ⟨31, _⟩ => ⟨S16x8192x1, .f32⟩
  | .hbm, ⟨32, _⟩ => ⟨S16x8192x1, .f32⟩
  | .hbm, ⟨33, _⟩ => ⟨S16x8192x1, .f32⟩
  | .hbm, ⟨34, _⟩ => ⟨S16x8192, .f32⟩
  | .hbm, ⟨35, _⟩ => ⟨S8192x16, .f32⟩
  | .hbm, ⟨36, _⟩ => ⟨S16x8192x8192, .f32⟩
  | .hbm, ⟨37, _⟩ => ⟨S16x8192x8192, .f32⟩
  | .hbm, ⟨38, _⟩ => ⟨S16x128x8192, .f32⟩
  | .hbm, ⟨39, _⟩ => ⟨S8192x16x128, .f32⟩
  | .hbm, ⟨40, _⟩ => ⟨S8192x16x128, .f32⟩
  | .hbm, ⟨41, _⟩ => ⟨S_, .f32⟩
  | .hbm, ⟨42, _⟩ => ⟨S8192x16, .f32⟩
  | .hbm, ⟨43, _⟩ => ⟨S8192x16x1, .f32⟩
  | .hbm, ⟨44, _⟩ => ⟨S8192x16x64, .f32⟩
  | .hbm, ⟨45, _⟩ => ⟨S8192x16x1, .f32⟩
  | .hbm, ⟨46, _⟩ => ⟨S8192x16x64, .f32⟩
  | .hbm, ⟨47, _⟩ => ⟨S8192x16x128, .f32⟩
  | .hbm, ⟨48, _⟩ => ⟨S8192x2048, .f32⟩
  | .hbm, ⟨49, _⟩ => ⟨S_, .f32⟩
  | .hbm, ⟨50, _⟩ => ⟨S8192x16x192, .f32⟩
  | .hbm, ⟨51, _⟩ => ⟨S8192x16x192, .f32⟩
  | .hbm, ⟨52, _⟩ => ⟨S_, .f32⟩
  | .hbm, ⟨53, _⟩ => ⟨S8192x16x64, .f32⟩
  | .hbm, ⟨54, _⟩ => ⟨S8192x16x256, .f32⟩
  | .hbm, ⟨55, _⟩ => ⟨S8192x4096, .f32⟩
  | .hbm, ⟨56, _⟩ => ⟨S8192x4096, .bf16⟩
  | .hbm, ⟨57, _⟩ => ⟨S8192x2048, .f32⟩
  | .hbm, ⟨58, _⟩ => ⟨S8192x2048, .f32⟩
  | .hbm, ⟨59, _⟩ => ⟨S8192x4096, .f32⟩
  | .hbm, ⟨60, _⟩ => ⟨S8192x4096, .bf16⟩
  | .hbm, ⟨61, _⟩ => ⟨S_, .f32⟩
  | .hbm, ⟨62, _⟩ => ⟨S8192x64, .f32⟩
  | .hbm, ⟨63, _⟩ => ⟨S8192x128, .f32⟩
  | .hbm, ⟨64, _⟩ => ⟨S8192x128, .bf16⟩
  | .hbm, ⟨65, _⟩ => ⟨S8192x2048, .f32⟩
  | .hbm, ⟨66, _⟩ => ⟨S8192x2048, .bf16⟩
  | .hbm, ⟨67, _⟩ => ⟨S8192x4096, .f32⟩
  | .hbm, ⟨68, _⟩ => ⟨S8192x2048, .bf16⟩
  | .hbm, ⟨69, _⟩ => ⟨S8192x2048, .bf16⟩
  | .hbm, ⟨70, _⟩ => ⟨S8192x2048, .f32⟩
  | .hbm, ⟨71, _⟩ => ⟨S8192x16x256, .f32⟩
  | .hbm, ⟨72, _⟩ => ⟨S8192x16x192, .f32⟩
  | .hbm, ⟨73, _⟩ => ⟨S_, .f32⟩
  | .hbm, ⟨74, _⟩ => ⟨S8192x16x192, .f32⟩
  | .hbm, ⟨75, _⟩ => ⟨S8192x16x192, .f32⟩
  | .hbm, ⟨76, _⟩ => ⟨S8192x16x128, .bf16⟩
  | .hbm, ⟨77, _⟩ => ⟨S8192x16x128, .bf16⟩
  | .hbm, ⟨78, _⟩ => ⟨S8192x16x128, .f32⟩
  | .hbm, ⟨79, _⟩ => ⟨S8192x16x64, .f32⟩
  | .hbm, ⟨80, _⟩ => ⟨S_, .f32⟩
  | .hbm, ⟨81, _⟩ => ⟨S8192x64, .f32⟩
  | .local _ .vmem, ⟨0, _⟩ => ⟨S8192x256, .bf16⟩
  | .local _ .vmem, ⟨1, _⟩ => ⟨S8192x256, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .f32⟩
  | .local _ .vmem, ⟨5, _⟩ => ⟨S8192x128, .f32⟩
  | .local _ .vmem, ⟨6, _⟩ => ⟨S512x128, .bf16⟩
  | .local _ .vmem, ⟨7, _⟩ => ⟨S512x128, .bf16⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S8192x256, .f32⟩
  | .local _ .vmem, ⟨13, _⟩ => ⟨S8192x256, .f32⟩
  | .local _ .vmem, ⟨14, _⟩ => ⟨S512x128, .bf16⟩
  | .local _ .vmem, ⟨15, _⟩ => ⟨S512x128, .bf16⟩
  | .local _ .vmem, ⟨16, _⟩ => ⟨S512x128, .bf16⟩
  | .local _ .vmem, ⟨17, _⟩ => ⟨S512x128, .bf16⟩
  | .local _ .vmem, ⟨18, _⟩ => ⟨S512x128, .f32⟩
  | .local _ .vmem, ⟨19, _⟩ => ⟨S512x128, .f32⟩
  | _, _ => ⟨S8192x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_3 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51_0 : Ref sig .tc := ⟨.hbm, 67, rfl⟩
abbrev main_v51_1 : Ref sig .tc := ⟨.hbm, 68, rfl⟩
abbrev main_v51_2 : Ref sig .tc := ⟨.hbm, 69, rfl⟩
abbrev main_v51_3 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_8 : Ref sig .tc := ⟨.hbm, 80, rfl⟩
abbrev main_v60 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 16], ![false, false]⟩

def k0_mult1 (i : grid0.Coords) : BitVec 32 :=
  let arg1 : BitVec 32 := BitVec.ofNat 32 (i 1).val
  let c512_i32 : BitVec 32 := 512#32
  let v12 : BitVec 32 := Scalar.muli arg1 c512_i32
  v12
def k0_off1 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v14 : Index := Scalar.indexCast v13
  let c0_7 : Index := 0#32
  ![v14.toNat, 0]
def k0_off2 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v17 : Index := Scalar.indexCast v13
  let c0_8 : Index := 0#32
  ![v17.toNat, 0]
def k0_off3 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v20 : Index := Scalar.indexCast v13
  let c0_9 : Index := 0#32
  ![v20.toNat, 0]
def k0_off4 (i : grid0.Coords) : Fin 2 → Nat :=
  let arg1 : BitVec 32 := BitVec.ofNat 32 (i 1).val
  let c512_i32 : BitVec 32 := 512#32
  let v12 : BitVec 32 := Scalar.muli arg1 c512_i32
  let v13 : BitVec 32 := v12
  let v23 : Index := Scalar.indexCast v13
  let c64 : Index := 64#32
  ![v23.toNat, 64]
@[reducible] def k0_t1_loop (i : grid0.Coords) : Scf.Loop 32 :=
  let c0_i32_23 : BitVec 32 := 0#32
  let c15_i32 : BitVec 32 := 15#32
  let arg1 : BitVec 32 := BitVec.ofNat 32 (i 1).val
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_25 : BitVec 32 := 1#32
  ⟨c0_i32_23, v74, c1_i32_25⟩
def k0_mult2 (i : grid0.Coords) (k0_t1 : Fin (k0_t1_loop i).trips) : BitVec 32 :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c1_i32_25 : BitVec 32 := 1#32
  let arg12 : BitVec 32 := Scf.iv c0_i32_23 c1_i32_25 k0_t1
  let v127 : BitVec 32 := Scalar.muli c4_i32_57 arg12
  let v128 : BitVec 32 := Scalar.addi v126 v127
  let c0_i32_58 : BitVec 32 := 0#32
  let v129 : BitVec 32 := Scalar.addi v128 c0_i32_58
  let c512_i32_59 : BitVec 32 := 512#32
  let v130 : BitVec 32 := Scalar.muli v129 c512_i32_59
  v130
def k0_off5 (i : grid0.Coords) (k0_t1 : Fin (k0_t1_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c1_i32_25 : BitVec 32 := 1#32
  let arg12 : BitVec 32 := Scf.iv c0_i32_23 c1_i32_25 k0_t1
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v132 : Index := Scalar.indexCast v131
  let c0_60 : Index := 0#32
  ![v132.toNat, 0]
def k0_off6 (i : grid0.Coords) (k0_t1 : Fin (k0_t1_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c1_i32_25 : BitVec 32 := 1#32
  let arg12 : BitVec 32 := Scf.iv c0_i32_23 c1_i32_25 k0_t1
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v135 : Index := Scalar.indexCast v131
  let c0_61 : Index := 0#32
  ![v135.toNat, 0]
def k0_off7 (i : grid0.Coords) (k0_t1 : Fin (k0_t1_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c1_i32_25 : BitVec 32 := 1#32
  let arg12 : BitVec 32 := Scf.iv c0_i32_23 c1_i32_25 k0_t1
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v138 : Index := Scalar.indexCast v131
  let c0_62 : Index := 0#32
  ![v138.toNat, 0]
def k0_off8 (i : grid0.Coords) (k0_t1 : Fin (k0_t1_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c1_i32_25 : BitVec 32 := 1#32
  let arg12 : BitVec 32 := Scf.iv c0_i32_23 c1_i32_25 k0_t1
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v141 : Index := Scalar.indexCast v131
  let c64_63 : Index := 64#32
  ![v141.toNat, 64]
def k0_mult3 (i : grid0.Coords) (k0_t1 : Fin (k0_t1_loop i).trips) : BitVec 32 :=
  let arg1 : BitVec 32 := BitVec.ofNat 32 (i 1).val
  let c1_i32_71 : BitVec 32 := 1#32
  let v165 : BitVec 32 := Scalar.addi arg1 c1_i32_71
  let c4_i32_72 : BitVec 32 := 4#32
  let c0_i32_23 : BitVec 32 := 0#32
  let c1_i32_25 : BitVec 32 := 1#32
  let arg12 : BitVec 32 := Scf.iv c0_i32_23 c1_i32_25 k0_t1
  let v166 : BitVec 32 := Scalar.muli c4_i32_72 arg12
  let v167 : BitVec 32 := Scalar.addi v165 v166
  let c1_i32_73 : BitVec 32 := 1#32
  let v168 : BitVec 32 := Scalar.addi v167 c1_i32_73
  let c512_i32_74 : BitVec 32 := 512#32
  let v169 : BitVec 32 := Scalar.muli v168 c512_i32_74
  v169
def k0_mult4 (i : grid0.Coords) (k0_t1 : Fin (k0_t1_loop i).trips) : BitVec 32 :=
  let arg1 : BitVec 32 := BitVec.ofNat 32 (i 1).val
  let c1_i32_86 : BitVec 32 := 1#32
  let v204 : BitVec 32 := Scalar.addi arg1 c1_i32_86
  let c4_i32_87 : BitVec 32 := 4#32
  let c0_i32_23 : BitVec 32 := 0#32
  let c1_i32_25 : BitVec 32 := 1#32
  let arg12 : BitVec 32 := Scf.iv c0_i32_23 c1_i32_25 k0_t1
  let v205 : BitVec 32 := Scalar.muli c4_i32_87 arg12
  let v206 : BitVec 32 := Scalar.addi v204 v205
  let c2_i32_88 : BitVec 32 := 2#32
  let v207 : BitVec 32 := Scalar.addi v206 c2_i32_88
  let c512_i32_89 : BitVec 32 := 512#32
  let v208 : BitVec 32 := Scalar.muli v207 c512_i32_89
  v208
def k0_mult5 (i : grid0.Coords) (k0_t1 : Fin (k0_t1_loop i).trips) : BitVec 32 :=
  let arg1 : BitVec 32 := BitVec.ofNat 32 (i 1).val
  let c1_i32_101 : BitVec 32 := 1#32
  let v243 : BitVec 32 := Scalar.addi arg1 c1_i32_101
  let c4_i32_102 : BitVec 32 := 4#32
  let c0_i32_23 : BitVec 32 := 0#32
  let c1_i32_25 : BitVec 32 := 1#32
  let arg12 : BitVec 32 := Scf.iv c0_i32_23 c1_i32_25 k0_t1
  let v244 : BitVec 32 := Scalar.muli c4_i32_102 arg12
  let v245 : BitVec 32 := Scalar.addi v243 v244
  let c3_i32 : BitVec 32 := 3#32
  let v246 : BitVec 32 := Scalar.addi v245 c3_i32
  let c512_i32_103 : BitVec 32 := 512#32
  let v247 : BitVec 32 := Scalar.muli v246 c512_i32_103
  v247
@[reducible] def k0_t2_loop (i : grid0.Coords) : Scf.Loop 32 :=
  let c0_i32_23 : BitVec 32 := 0#32
  let c15_i32 : BitVec 32 := 15#32
  let arg1 : BitVec 32 := BitVec.ofNat 32 (i 1).val
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let v71 : BitVec 32 := Scalar.addi c0_i32_23 v70
  let c1_i32_26 : BitVec 32 := 1#32
  ⟨v74, v71, c1_i32_26⟩
def k0_mult6 (i : grid0.Coords) (k0_t2 : Fin (k0_t2_loop i).trips) : BitVec 32 :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v127 : BitVec 32 := Scalar.muli c4_i32_57 arg12
  let v128 : BitVec 32 := Scalar.addi v126 v127
  let c0_i32_58 : BitVec 32 := 0#32
  let v129 : BitVec 32 := Scalar.addi v128 c0_i32_58
  let c512_i32_59 : BitVec 32 := 512#32
  let v130 : BitVec 32 := Scalar.muli v129 c512_i32_59
  v130
def k0_off9 (i : grid0.Coords) (k0_t2 : Fin (k0_t2_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v132 : Index := Scalar.indexCast v131
  let c0_60 : Index := 0#32
  ![v132.toNat, 0]
def k0_off10 (i : grid0.Coords) (k0_t2 : Fin (k0_t2_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v135 : Index := Scalar.indexCast v131
  let c0_61 : Index := 0#32
  ![v135.toNat, 0]
def k0_off11 (i : grid0.Coords) (k0_t2 : Fin (k0_t2_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v138 : Index := Scalar.indexCast v131
  let c0_62 : Index := 0#32
  ![v138.toNat, 0]
def k0_off12 (i : grid0.Coords) (k0_t2 : Fin (k0_t2_loop i).trips) (c0_i32_58 : BitVec 32) : Fin 2 → Nat :=
  let arg1 : BitVec 32 := BitVec.ofNat 32 (i 1).val
  let c1_i32_56 : BitVec 32 := 1#32
  let v126 : BitVec 32 := Scalar.addi arg1 c1_i32_56
  let c4_i32_57 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v127 : BitVec 32 := Scalar.muli c4_i32_57 arg12
  let v128 : BitVec 32 := Scalar.addi v126 v127
  let v129 : BitVec 32 := Scalar.addi v128 c0_i32_58
  let c512_i32_59 : BitVec 32 := 512#32
  let v130 : BitVec 32 := Scalar.muli v129 c512_i32_59
  let v131 : BitVec 32 := v130
  let v141 : Index := Scalar.indexCast v131
  let c64_63 : Index := 64#32
  ![v141.toNat, 64]
def k0_mult7 (i : grid0.Coords) (k0_t2 : Fin (k0_t2_loop i).trips) : BitVec 32 :=
  let arg1 : BitVec 32 := BitVec.ofNat 32 (i 1).val
  let c1_i32_71 : BitVec 32 := 1#32
  let v165 : BitVec 32 := Scalar.addi arg1 c1_i32_71
  let c4_i32_72 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v166 : BitVec 32 := Scalar.muli c4_i32_72 arg12
  let v167 : BitVec 32 := Scalar.addi v165 v166
  let c1_i32_73 : BitVec 32 := 1#32
  let v168 : BitVec 32 := Scalar.addi v167 c1_i32_73
  let c512_i32_74 : BitVec 32 := 512#32
  let v169 : BitVec 32 := Scalar.muli v168 c512_i32_74
  v169
def k0_mult8 (i : grid0.Coords) (k0_t2 : Fin (k0_t2_loop i).trips) : BitVec 32 :=
  let arg1 : BitVec 32 := BitVec.ofNat 32 (i 1).val
  let c1_i32_86 : BitVec 32 := 1#32
  let v204 : BitVec 32 := Scalar.addi arg1 c1_i32_86
  let c4_i32_87 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v205 : BitVec 32 := Scalar.muli c4_i32_87 arg12
  let v206 : BitVec 32 := Scalar.addi v204 v205
  let c2_i32_88 : BitVec 32 := 2#32
  let v207 : BitVec 32 := Scalar.addi v206 c2_i32_88
  let c512_i32_89 : BitVec 32 := 512#32
  let v208 : BitVec 32 := Scalar.muli v207 c512_i32_89
  v208
def k0_mult9 (i : grid0.Coords) (k0_t2 : Fin (k0_t2_loop i).trips) : BitVec 32 :=
  let arg1 : BitVec 32 := BitVec.ofNat 32 (i 1).val
  let c1_i32_101 : BitVec 32 := 1#32
  let v243 : BitVec 32 := Scalar.addi arg1 c1_i32_101
  let c4_i32_102 : BitVec 32 := 4#32
  let c0_i32_23 : BitVec 32 := 0#32
  let c15_i32 : BitVec 32 := 15#32
  let v52 : BitVec 32 := Scalar.subi c15_i32 arg1
  let c0_i32_18 : BitVec 32 := 0#32
  let v54 : BitVec 1 := Scalar.cmpi .sgt v52 c0_i32_18
  let v55 : BitVec 32 := Scalar.extui v54
  let c0_i32_19 : BitVec 32 := 0#32
  let v56 : BitVec 1 := Scalar.cmpi .slt v52 c0_i32_19
  let v57 : BitVec 32 := Scalar.extui v56
  let v58 : BitVec 32 := Scalar.subi v55 v57
  let c4_i32 : BitVec 32 := 4#32
  let c0_i32_20 : BitVec 32 := 0#32
  let v59 : BitVec 1 := Scalar.cmpi .sgt c4_i32 c0_i32_20
  let v60 : BitVec 32 := Scalar.extui v59
  let c0_i32_21 : BitVec 32 := 0#32
  let v61 : BitVec 1 := Scalar.cmpi .slt c4_i32 c0_i32_21
  let v62 : BitVec 32 := Scalar.extui v61
  let v63 : BitVec 32 := Scalar.subi v60 v62
  let v64 : BitVec 1 := Scalar.cmpi .ne v58 v63
  let v65 : BitVec 32 := Scalar.remsi v52 c4_i32
  let c0_i32_22 : BitVec 32 := 0#32
  let v66 : BitVec 1 := Scalar.cmpi .ne v65 c0_i32_22
  let v67 : BitVec 1 := Scalar.andi v64 v66
  let v53 : BitVec 32 := Scalar.divsi v52 c4_i32
  let c1_i32 : BitVec 32 := 1#32
  let v68 : BitVec 32 := Scalar.subi v53 c1_i32
  let v69 : BitVec 32 := Scalar.select v67 v68 v53
  let v70 : BitVec 32 := Scalar.subi v69 c0_i32_23
  let c1_i32_24 : BitVec 32 := 1#32
  let v72 : BitVec 32 := Scalar.divsi v70 c1_i32_24
  let v73 : BitVec 32 := Scalar.muli v72 c1_i32_24
  let v74 : BitVec 32 := Scalar.addi c0_i32_23 v73
  let c1_i32_26 : BitVec 32 := 1#32
  let arg12 : BitVec 32 := Scf.iv v74 c1_i32_26 k0_t2
  let v244 : BitVec 32 := Scalar.muli c4_i32_102 arg12
  let v245 : BitVec 32 := Scalar.addi v243 v244
  let c3_i32 : BitVec 32 := 3#32
  let v246 : BitVec 32 := Scalar.addi v245 c3_i32
  let c512_i32_103 : BitVec 32 := 512#32
  let v247 : BitVec 32 := Scalar.muli v246 c512_i32_103
  v247
def k0_cond2 (i : grid0.Coords) : BitVec 1 :=
  let c15_i32 : BitVec 32 := 15#32
  let arg1 : BitVec 32 := BitVec.ofNat 32 (i 1).val
  let v52 : BitVec 32 := Scalar.subi c15_i32 arg1
  let c4_i32_27 : BitVec 32 := 4#32
  let c0_i32_28 : BitVec 32 := 0#32
  let v77 : BitVec 1 := Scalar.cmpi .eq c4_i32_27 c0_i32_28
  let c1_i32_29 : BitVec 32 := 1#32
  let v78 : BitVec 32 := Scalar.select v77 c1_i32_29 c4_i32_27
  let v79 : BitVec 32 := Scalar.remsi v52 v78
  let c0_i32_31 : BitVec 32 := 0#32
  let v81 : BitVec 1 := Scalar.cmpi .slt v79 c0_i32_31
  let c0_i32_32 : BitVec 32 := 0#32
  let v82 : BitVec 1 := Scalar.cmpi .slt v78 c0_i32_32
  let v83 : BitVec 1 := Scalar.xori v81 v82
  let c0_i32_30 : BitVec 32 := 0#32
  let v80 : BitVec 1 := Scalar.cmpi .ne v79 c0_i32_30
  let v84 : BitVec 1 := Scalar.andi v83 v80
  let v85 : BitVec 32 := Scalar.addi v79 v78
  let v86 : BitVec 32 := Scalar.select v84 v85 v79
  let c0_i32_33 : BitVec 32 := 0#32
  let v87 : BitVec 1 := Scalar.cmpi .sgt v86 c0_i32_33
  let v88 : BitVec 32 := Scalar.extui v87
  let c0_i32_34 : BitVec 32 := 0#32
  let v89 : BitVec 1 := Scalar.cmpi .ne v88 c0_i32_34
  v89

def k0_mult10 : BitVec 32 :=
  let c7680_i32 : BitVec 32 := 7680#32
  c7680_i32
def k0_cond3 (i : grid0.Coords) : BitVec 1 :=
  let c15_i32 : BitVec 32 := 15#32
  let arg1 : BitVec 32 := BitVec.ofNat 32 (i 1).val
  let v52 : BitVec 32 := Scalar.subi c15_i32 arg1
  let c4_i32_35 : BitVec 32 := 4#32
  let c0_i32_36 : BitVec 32 := 0#32
  let v91 : BitVec 1 := Scalar.cmpi .eq c4_i32_35 c0_i32_36
  let c1_i32_37 : BitVec 32 := 1#32
  let v92 : BitVec 32 := Scalar.select v91 c1_i32_37 c4_i32_35
  let v93 : BitVec 32 := Scalar.remsi v52 v92
  let c0_i32_39 : BitVec 32 := 0#32
  let v95 : BitVec 1 := Scalar.cmpi .slt v93 c0_i32_39
  let c0_i32_40 : BitVec 32 := 0#32
  let v96 : BitVec 1 := Scalar.cmpi .slt v92 c0_i32_40
  let v97 : BitVec 1 := Scalar.xori v95 v96
  let c0_i32_38 : BitVec 32 := 0#32
  let v94 : BitVec 1 := Scalar.cmpi .ne v93 c0_i32_38
  let v98 : BitVec 1 := Scalar.andi v97 v94
  let v99 : BitVec 32 := Scalar.addi v93 v92
  let v100 : BitVec 32 := Scalar.select v98 v99 v93
  let c1_i32_41 : BitVec 32 := 1#32
  let v101 : BitVec 1 := Scalar.cmpi .sgt v100 c1_i32_41
  let v102 : BitVec 32 := Scalar.extui v101
  let c0_i32_42 : BitVec 32 := 0#32
  let v103 : BitVec 1 := Scalar.cmpi .ne v102 c0_i32_42
  v103

def k0_mult11 : BitVec 32 :=
  let c7168_i32 : BitVec 32 := 7168#32
  c7168_i32
def k0_cond4 (i : grid0.Coords) : BitVec 1 :=
  let c15_i32 : BitVec 32 := 15#32
  let arg1 : BitVec 32 := BitVec.ofNat 32 (i 1).val
  let v52 : BitVec 32 := Scalar.subi c15_i32 arg1
  let c4_i32_43 : BitVec 32 := 4#32
  let c0_i32_44 : BitVec 32 := 0#32
  let v105 : BitVec 1 := Scalar.cmpi .eq c4_i32_43 c0_i32_44
  let c1_i32_45 : BitVec 32 := 1#32
  let v106 : BitVec 32 := Scalar.select v105 c1_i32_45 c4_i32_43
  let v107 : BitVec 32 := Scalar.remsi v52 v106
  let c0_i32_47 : BitVec 32 := 0#32
  let v109 : BitVec 1 := Scalar.cmpi .slt v107 c0_i32_47
  let c0_i32_48 : BitVec 32 := 0#32
  let v110 : BitVec 1 := Scalar.cmpi .slt v106 c0_i32_48
  let v111 : BitVec 1 := Scalar.xori v109 v110
  let c0_i32_46 : BitVec 32 := 0#32
  let v108 : BitVec 1 := Scalar.cmpi .ne v107 c0_i32_46
  let v112 : BitVec 1 := Scalar.andi v111 v108
  let v113 : BitVec 32 := Scalar.addi v107 v106
  let v114 : BitVec 32 := Scalar.select v112 v113 v107
  let c2_i32 : BitVec 32 := 2#32
  let v115 : BitVec 1 := Scalar.cmpi .sgt v114 c2_i32
  let v116 : BitVec 32 := Scalar.extui v115
  let c0_i32_49 : BitVec 32 := 0#32
  let v117 : BitVec 1 := Scalar.cmpi .ne v116 c0_i32_49
  v117

def k0_mult12 : BitVec 32 :=
  let c6656_i32 : BitVec 32 := 6656#32
  c6656_i32
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== KAttnBIdeal.lean ====
variable {F : FTy → Type} [FloatOps F] [Named F]
def κ : String → Option EReal := fun
  | "mask" => some ⊥
  | _ => none
-- ==== RAttnBIdeal.lean ====
abbrev S8192x16x192 : Shape := ⟨3, ![8192, 16, 192]⟩
abbrev S8192x16x128 : Shape := ⟨3, ![8192, 16, 128]⟩
abbrev S8192x64 : Shape := ⟨2, ![8192, 64]⟩
abbrev S8192x1x64 : Shape := ⟨3, ![8192, 1, 64]⟩
abbrev S8192x16x64 : Shape := ⟨3, ![8192, 16, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S16x8192x192 : Shape := ⟨3, ![16, 8192, 192]⟩

abbrev nBuf : Space → Nat
  | .hbm => 102
  | .vmem => 0
  | .smem => 0
  | _ => 0

abbrev bufTy : (tb : Table) → Fin (tcTables nBuf tb) → BufTy
  | .hbm, ⟨0, _⟩ => ⟨S8192x16x192, .f32⟩
  | .hbm, ⟨1, _⟩ => ⟨S8192x16x128, .f32⟩
  | .hbm, ⟨2, _⟩ => ⟨S8192x16x128, .f32⟩
  | .hbm, ⟨3, _⟩ => ⟨S8192x64, .f32⟩
  | .hbm, ⟨4, _⟩ => ⟨S8192x16x128, .f32⟩
  | .hbm, ⟨5, _⟩ => ⟨S8192x1x64, .f32⟩
  | .hbm, ⟨6, _⟩ => ⟨S8192x16x64, .f32⟩
  | .hbm, ⟨7, _⟩ => ⟨S8192x16x192, .f32⟩
  | .hbm, ⟨8, _⟩ => ⟨S16x8192x8192, .f32⟩
  | .hbm, ⟨9, _⟩ => ⟨S_, .f32⟩
  | .hbm, ⟨10, _⟩ => ⟨S16x8192x8192, .f32⟩
  | .hbm, ⟨11, _⟩ => ⟨S16x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S16x8192x8192, .i1⟩
  | .hbm, ⟨21, _⟩ => ⟨S16x8192x8192, .f32⟩
  | .hbm, ⟨22, _⟩ => ⟨S16x8192x8192, .f32⟩
  | .hbm, ⟨23, _⟩ => ⟨S_, .f32⟩
  | .hbm, ⟨24, _⟩ => ⟨S16x8192x8192, .f32⟩
  | .hbm, ⟨25, _⟩ => ⟨S_, .f32⟩
  | .hbm, ⟨26, _⟩ => ⟨S16x8192, .f32⟩
  | .hbm, ⟨27, _⟩ => ⟨S16x8192x1, .f32⟩
  | .hbm, ⟨28, _⟩ => ⟨S16x8192x8192, .f32⟩
  | .hbm, ⟨29, _⟩ => ⟨S16x8192x8192, .i1⟩
  | .hbm, ⟨30, _⟩ => ⟨S16x8192x8192, .f32⟩
  | .hbm, ⟨31, _⟩ => ⟨S_, .f32⟩
  | .hbm, ⟨32, _⟩ => ⟨S16x8192, .f32⟩
  | .hbm, ⟨33, _⟩ => ⟨S_, .f32⟩
  | .hbm, ⟨34, _⟩ => ⟨S16x8192, .f32⟩
  | .hbm, ⟨35, _⟩ => ⟨S16x8192, .f32⟩
  | .hbm, ⟨36, _⟩ => ⟨S_, .f32⟩
  | .hbm, ⟨37, _⟩ => ⟨S16x8192, .f32⟩
  | .hbm, ⟨38, _⟩ => ⟨S16x8192, .i1⟩
  | .hbm, ⟨39, _⟩ => ⟨S_, .f32⟩
  | .hbm, ⟨40, _⟩ => ⟨S16x8192, .f32⟩
  | .hbm, ⟨41, _⟩ => ⟨S16x8192, .i1⟩
  | .hbm, ⟨42, _⟩ => ⟨S_, .f32⟩
  | .hbm, ⟨43, _⟩ => ⟨S16x8192, .f32⟩
  | .hbm, ⟨44, _⟩ => ⟨S_, .f32⟩
  | .hbm, ⟨45, _⟩ => ⟨S16x8192, .f32⟩
  | .hbm, ⟨46, _⟩ => ⟨S_, .f32⟩
  | .hbm, ⟨47, _⟩ => ⟨S16x8192, .f32⟩
  | .hbm, ⟨48, _⟩ => ⟨S16x8192, .f32⟩
  | .hbm, ⟨49, _⟩ => ⟨S16x8192, .f32⟩
  | .hbm, ⟨50, _⟩ => ⟨S16x8192x1, .f32⟩
  | .hbm, ⟨51, _⟩ => ⟨S16x8192x8192, .f32⟩
  | .hbm, ⟨52, _⟩ => ⟨S16x8192x8192, .f32⟩
  | .hbm, ⟨53, _⟩ => ⟨S16x8192x8192, .f32⟩
  | .hbm, ⟨54, _⟩ => ⟨S_, .f32⟩
  | .hbm, ⟨55, _⟩ => ⟨S16x8192, .f32⟩
  | .hbm, ⟨56, _⟩ => ⟨S16x8192x1, .f32⟩
  | .hbm, ⟨57, _⟩ => ⟨S16x8192x8192, .f32⟩
  | .hbm, ⟨58, _⟩ => ⟨S16x8192x8192, .f32⟩
  | .hbm, ⟨59, _⟩ => ⟨S16x8192x1, .f32⟩
  | .hbm, ⟨60, _⟩ => ⟨S_, .f32⟩
  | .hbm, ⟨61, _⟩ => ⟨S16x8192x1, .f32⟩
  | .hbm, ⟨62, _⟩ => ⟨S16x8192x1, .f32⟩
  | .hbm, ⟨63, _⟩ => ⟨S16x128x8192, .f32⟩
  | .hbm, ⟨64, _⟩ => ⟨S8192x16x128, .f32⟩
  | .hbm, ⟨65, _⟩ => ⟨S16x128x8192, .f32⟩
  | .hbm, ⟨66, _⟩ => ⟨S16x8192x8192, .f32⟩
  | .hbm, ⟨67, _⟩ => ⟨S16x128x8192, .f32⟩
  | .hbm, ⟨68, _⟩ => ⟨S8192x16x128, .f32⟩
  | .hbm, ⟨69, _⟩ => ⟨S16x8192x8192, .f32⟩
  | .hbm, ⟨70, _⟩ => ⟨S16x8192x8192, .f32⟩
  | .hbm, ⟨71, _⟩ => ⟨S16x8192x8192, .f32⟩
  | .hbm, ⟨72, _⟩ => ⟨S_, .f32⟩
  | .hbm, ⟨73, _⟩ => ⟨S16x8192, .f32⟩
  | .hbm, ⟨74, _⟩ => ⟨S16x8192x1, .f32⟩
  | .hbm, ⟨75, _⟩ => ⟨S16x8192x1, .f32⟩
  | .hbm, ⟨76, _⟩ => ⟨S16x8192x8192, .f32⟩
  | .hbm, ⟨77, _⟩ => ⟨S16x8192x8192, .f32⟩
  | .hbm, ⟨78, _⟩ => ⟨S_, .f32⟩
  | .hbm, ⟨79, _⟩ => ⟨S16x8192, .f32⟩
  | .hbm, ⟨80, _⟩ => ⟨S16x8192x8192, .f32⟩
  | .hbm, ⟨81, _⟩ => ⟨S16x8192x8192, .f32⟩
  | .hbm, ⟨82, _⟩ => ⟨S16x8192x8192, .f32⟩
  | .hbm, ⟨83, _⟩ => ⟨S_, .f32⟩
  | .hbm, ⟨84, _⟩ => ⟨S16x8192x8192, .f32⟩
  | .hbm, ⟨85, _⟩ => ⟨S16x8192x8192, .f32⟩
  | .hbm, ⟨86, _⟩ => ⟨S_, .f32⟩
  | .hbm, ⟨87, _⟩ => ⟨S16x8192x8192, .f32⟩
  | .hbm, ⟨88, _⟩ => ⟨S16x8192x8192, .f32⟩
  | .hbm, ⟨89, _⟩ => ⟨S16x8192x192, .f32⟩
  | .hbm, ⟨90, _⟩ => ⟨S8192x16x192, .f32⟩
  | .hbm, ⟨91, _⟩ => ⟨S16x8192x192, .f32⟩
  | .hbm, ⟨92, _⟩ => ⟨S8192x16x192, .f32⟩
  | .hbm, ⟨93, _⟩ => ⟨S8192x16x128, .f32⟩
  | .hbm, ⟨94, _⟩ => ⟨S8192x16x64, .f32⟩
  | .hbm, ⟨95, _⟩ => ⟨S_, .f32⟩
  | .hbm, ⟨96, _⟩ => ⟨S8192x64, .f32⟩
  | .hbm, ⟨97, _⟩ => ⟨S8192x1x64, .f32⟩
  | .hbm, ⟨98, _⟩ => ⟨S_, .f32⟩
  | .hbm, ⟨99, _⟩ => ⟨S8192x64, .f32⟩
  | .hbm, ⟨100, _⟩ => ⟨S8192x16x128, .bf16⟩
  | .hbm, ⟨101, _⟩ => ⟨S8192x16x128, .bf16⟩
  | _, _ => ⟨S8192x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_v12_1 : Ref sig .tc := ⟨.hbm, 20, rfl⟩
abbrev main_call0_v2 : Ref sig .tc := ⟨.hbm, 21, rfl⟩
abbrev main_v12_0 : Ref sig .tc := ⟨.hbm, 22, rfl⟩
abbrev main_call0_cst : Ref sig .tc := ⟨.hbm, 23, rfl⟩
abbrev main_v12_2 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_2 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_cst_7 : Ref sig .tc := ⟨.hbm, 44, rfl⟩
abbrev main_v26 : Ref sig .tc := ⟨.hbm, 45, rfl⟩
abbrev main_cst_8 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_12 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_cst_13 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_14 : Ref sig .tc := ⟨.hbm, 95, rfl⟩
abbrev main_v68 : Ref sig .tc := ⟨.hbm, 96, rfl⟩
abbrev main_v69 : Ref sig .tc := ⟨.hbm, 97, rfl⟩
abbrev main_cst_15 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]
-- ==== KAttnF.lean ====
abbrev S8192x16x192 : Shape := ⟨3, ![8192, 16, 192]⟩
abbrev S8192x16x128 : Shape := ⟨3, ![8192, 16, 128]⟩
abbrev S8192x64 : Shape := ⟨2, ![8192, 64]⟩
abbrev S_ : Shape := ⟨0, ![]⟩
abbrev S8192x16x64 : Shape := ⟨3, ![8192, 16, 64]⟩
abbrev S8192x16x256 : Shape := ⟨3, ![8192, 16, 256]⟩
abbrev S8192x4096 : Shape := ⟨2, ![8192, 4096]⟩
abbrev S8192x2048 : Shape := ⟨2, ![8192, 2048]⟩
abbrev S8192x128 : Shape := ⟨2, ![8192, 128]⟩
abbrev S512x1024 : Shape := ⟨2, ![512, 1024]⟩
abbrev S8192x512 : Shape := ⟨2, ![8192, 512]⟩
abbrev S512x512 : Shape := ⟨2, ![512, 512]⟩
abbrev S512x256 : Shape := ⟨2, ![512, 256]⟩
abbrev S512x1 : Shape := ⟨2, ![512, 1]⟩
abbrev S512x128 : Shape := ⟨2, ![512, 128]⟩
abbrev S512 : Shape := ⟨1, ![512]⟩

abbrev nBuf : Space → Nat
  | .hbm => 22
  | .vmem => 11
  | .smem => 0
  | _ => 0

abbrev bufTy : (tb : Table) → Fin (tcTables nBuf tb) → BufTy
  | .hbm, ⟨0, _⟩ => ⟨S8192x16x192, .f32⟩
  | .hbm, ⟨1, _⟩ => ⟨S8192x16x128, .f32⟩
  | .hbm, ⟨2, _⟩ => ⟨S8192x16x128, .f32⟩
  | .hbm, ⟨3, _⟩ => ⟨S8192x64, .f32⟩
  | .hbm, ⟨4, _⟩ => ⟨S_, .f32⟩
  | .hbm, ⟨5, _⟩ => ⟨S8192x16x192, .f32⟩
  | .hbm, ⟨6, _⟩ => ⟨S8192x16x192, .f32⟩
  | .hbm, ⟨7, _⟩ => ⟨S_, .f32⟩
  | .hbm, ⟨8, _⟩ => ⟨S8192x16x64, .f32⟩
  | .hbm, ⟨9, _⟩ => ⟨S8192x16x256, .f32⟩
  | .hbm, ⟨10, _⟩ => ⟨S8192x4096, .f32⟩
  | .hbm, ⟨11, _⟩ => ⟨S8192x4096, .bf16⟩
  | .hbm, ⟨12, _⟩ => ⟨S8192x2048, .f32⟩
  | .hbm, ⟨13, _⟩ => ⟨S8192x2048, .f32⟩
  | .hbm, ⟨14, _⟩ => ⟨S8192x4096, .f32⟩
  | .hbm, ⟨15, _⟩ => ⟨S8192x4096, .bf16⟩
  | .hbm, ⟨16, _⟩ => ⟨S_, .f32⟩
  | .hbm, ⟨17, _⟩ => ⟨S8192x64, .f32⟩
  | .hbm, ⟨18, _⟩ => ⟨S8192x128, .f32⟩
  | .hbm, ⟨19, _⟩ => ⟨S8192x128, .bf16⟩
  | .hbm, ⟨20, _⟩ => ⟨S8192x2048, .bf16⟩
  | .hbm, ⟨21, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S8192x512, .bf16⟩
  | .local _ .vmem, ⟨3, _⟩ => ⟨S8192x512, .bf16⟩
  | .local _ .vmem, ⟨4, _⟩ => ⟨S8192x512, .bf16⟩
  | .local _ .vmem, ⟨5, _⟩ => ⟨S8192x512, .bf16⟩
  | .local _ .vmem, ⟨6, _⟩ => ⟨S8192x128, .bf16⟩
  | .local _ .vmem, ⟨7, _⟩ => ⟨S512x512, .bf16⟩
  | .local _ .vmem, ⟨8, _⟩ => ⟨S512x512, .bf16⟩
  | .local _ .vmem, ⟨9, _⟩ => ⟨S512x512, .f32⟩
  | .local _ .vmem, ⟨10, _⟩ => ⟨S512x512, .f32⟩
  | _, _ => ⟨S8192x16x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_6 : BitVec 32 := 1#32
  ⟨c0_i32, v15, c1_i32_6⟩
def k0_mult1 (i : grid0.Coords) (k0_t1 : Fin (k0_t1_loop i).trips) : BitVec 32 :=
  let c0_i32 : BitVec 32 := 0#32
  let c1_i32_6 : BitVec 32 := 1#32
  let arg8 : BitVec 32 := Scf.iv c0_i32 c1_i32_6 k0_t1
  let c512_i32_51 : BitVec 32 := 512#32
  let v179 : BitVec 32 := Scalar.muli arg8 c512_i32_51
  v179
def k0_off1 (i : grid0.Coords) (k0_t1 : Fin (k0_t1_loop i).trips) : Fin 2 → Nat :=
  let c0_i32 : BitVec 32 := 0#32
  let c1_i32_6 : BitVec 32 := 1#32
  let arg8 : BitVec 32 := Scf.iv c0_i32 c1_i32_6 k0_t1
  let c512_i32_51 : BitVec 32 := 512#32
  let v179 : BitVec 32 := Scalar.muli arg8 c512_i32_51
  let v180 : BitVec 32 := v179
  let v181 : Index := Scalar.indexCast v180
  let c0_52 : Index := 0#32
  ![v181.toNat, 0]
def k0_off2 (i : grid0.Coords) (k0_t1 : Fin (k0_t1_loop i).trips) : Fin 2 → Nat :=
  let c0_i32 : BitVec 32 := 0#32
  let c1_i32_6 : BitVec 32 := 1#32
  let arg8 : BitVec 32 := Scf.iv c0_i32 c1_i32_6 k0_t1
  let c512_i32_51 : BitVec 32 := 512#32
  let v179 : BitVec 32 := Scalar.muli arg8 c512_i32_51
  let v180 : BitVec 32 := v179
  let v184 : Index := Scalar.indexCast v180
  let c0_53 : Index := 0#32
  ![v184.toNat, 0]
def k0_off3 (i : grid0.Coords) (k0_t1 : Fin (k0_t1_loop i).trips) : Fin 2 → Nat :=
  let c0_i32 : BitVec 32 := 0#32
  let c1_i32_6 : BitVec 32 := 1#32
  let arg8 : BitVec 32 := Scf.iv c0_i32 c1_i32_6 k0_t1
  let c512_i32_51 : BitVec 32 := 512#32
  let v179 : BitVec 32 := Scalar.muli arg8 c512_i32_51
  let v180 : BitVec 32 := v179
  let v209 : Index := Scalar.indexCast v180
  let c128_59 : Index := 128#32
  ![v209.toNat, 128]
def k0_off4 (i : grid0.Coords) (k0_t1 : Fin (k0_t1_loop i).trips) : Fin 2 → Nat :=
  let c0_i32 : BitVec 32 := 0#32
  let c1_i32_6 : BitVec 32 := 1#32
  let arg8 : BitVec 32 := Scf.iv c0_i32 c1_i32_6 k0_t1
  let c512_i32_51 : BitVec 32 := 512#32
  let v179 : BitVec 32 := Scalar.muli arg8 c512_i32_51
  let v180 : BitVec 32 := v179
  let v234 : Index := Scalar.indexCast v180
  let c256_65 : Index := 256#32
  ![v234.toNat, 256]
def k0_off5 (i : grid0.Coords) (k0_t1 : Fin (k0_t1_loop i).trips) : Fin 2 → Nat :=
  let c0_i32 : BitVec 32 := 0#32
  let c1_i32_6 : BitVec 32 := 1#32
  let arg8 : BitVec 32 := Scf.iv c0_i32 c1_i32_6 k0_t1
  let c512_i32_51 : BitVec 32 := 512#32
  let v179 : BitVec 32 := Scalar.muli arg8 c512_i32_51
  let v180 : BitVec 32 := v179
  let v259 : Index := Scalar.indexCast v180
  let c384_71 : Index := 384#32
  ![v259.toNat, 384]
@[reducible] def k0_t2_loop (i : grid0.Coords) : Scf.Loop 32 :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let v12 : BitVec 32 := Scalar.addi c0_i32 v11
  let c1_i32_7 : BitVec 32 := 1#32
  ⟨v15, v12, c1_i32_7⟩
def k0_mult2 (i : grid0.Coords) (k0_t2 : Fin (k0_t2_loop i).trips) : BitVec 32 :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_7 : BitVec 32 := 1#32
  let arg8 : BitVec 32 := Scf.iv v15 c1_i32_7 k0_t2
  let c512_i32_51 : BitVec 32 := 512#32
  let v179 : BitVec 32 := Scalar.muli arg8 c512_i32_51
  v179
def k0_off6 (i : grid0.Coords) (k0_t2 : Fin (k0_t2_loop i).trips) : Fin 2 → Nat :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_7 : BitVec 32 := 1#32
  let arg8 : BitVec 32 := Scf.iv v15 c1_i32_7 k0_t2
  let c512_i32_51 : BitVec 32 := 512#32
  let v179 : BitVec 32 := Scalar.muli arg8 c512_i32_51
  let v180 : BitVec 32 := v179
  let v181 : Index := Scalar.indexCast v180
  let c0_52 : Index := 0#32
  ![v181.toNat, 0]
def k0_off7 (i : grid0.Coords) (k0_t2 : Fin (k0_t2_loop i).trips) : Fin 2 → Nat :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_7 : BitVec 32 := 1#32
  let arg8 : BitVec 32 := Scf.iv v15 c1_i32_7 k0_t2
  let c512_i32_51 : BitVec 32 := 512#32
  let v179 : BitVec 32 := Scalar.muli arg8 c512_i32_51
  let v180 : BitVec 32 := v179
  let v184 : Index := Scalar.indexCast v180
  let c0_53 : Index := 0#32
  ![v184.toNat, 0]
def k0_off8 (i : grid0.Coords) (k0_t2 : Fin (k0_t2_loop i).trips) : Fin 2 → Nat :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_7 : BitVec 32 := 1#32
  let arg8 : BitVec 32 := Scf.iv v15 c1_i32_7 k0_t2
  let c512_i32_51 : BitVec 32 := 512#32
  let v179 : BitVec 32 := Scalar.muli arg8 c512_i32_51
  let v180 : BitVec 32 := v179
  let v209 : Index := Scalar.indexCast v180
  let c128_59 : Index := 128#32
  ![v209.toNat, 128]
def k0_off9 (i : grid0.Coords) (k0_t2 : Fin (k0_t2_loop i).trips) : Fin 2 → Nat :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_7 : BitVec 32 := 1#32
  let arg8 : BitVec 32 := Scf.iv v15 c1_i32_7 k0_t2
  let c512_i32_51 : BitVec 32 := 512#32
  let v179 : BitVec 32 := Scalar.muli arg8 c512_i32_51
  let v180 : BitVec 32 := v179
  let v234 : Index := Scalar.indexCast v180
  let c256_65 : Index := 256#32
  ![v234.toNat, 256]
def k0_off10 (i : grid0.Coords) (k0_t2 : Fin (k0_t2_loop i).trips) : Fin 2 → Nat :=
  let c0_i32 : BitVec 32 := 0#32
  let arg1 : BitVec 32 := BitVec.ofNat 32 (i 1).val
  let v11 : BitVec 32 := Scalar.subi arg1 c0_i32
  let c1_i32 : BitVec 32 := 1#32
  let v13 : BitVec 32 := Scalar.divsi v11 c1_i32
  let v14 : BitVec 32 := Scalar.muli v13 c1_i32
  let v15 : BitVec 32 := Scalar.addi c0_i32 v14
  let c1_i32_7 : BitVec 32 := 1#32
  let arg8 : BitVec 32 := Scf.iv v15 c1_i32_7 k0_t2
  let c512_i32_51 : BitVec 32 := 512#32
  let v179 : BitVec 32 := Scalar.muli arg8 c512_i32_51
  let v180 : BitVec 32 := v179
  let v259 : Index := Scalar.indexCast v180
  let c384_71 : Index := 384#32
  ![v259.toNat, 384]
def k0_mult3 (i : grid0.Coords) : BitVec 32 :=
  let arg1 : BitVec 32 := BitVec.ofNat 32 (i 1).val
  let c512_i32 : BitVec 32 := 512#32
  let v18 : BitVec 32 := Scalar.muli arg1 c512_i32
  v18
def k0_off11 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v20 : Index := Scalar.indexCast v19
  let c0_8 : Index := 0#32
  ![v20.toNat, 0]
def k0_off12 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v23 : Index := Scalar.indexCast v19
  let c0_9 : Index := 0#32
  ![v23.toNat, 0]
def k0_off13 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v53 : Index := Scalar.indexCast v19
  let c128 : Index := 128#32
  ![v53.toNat, 128]
def k0_off14 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v83 : Index := Scalar.indexCast v19
  let c256_22 : Index := 256#32
  ![v83.toNat, 256]
def k0_off15 (i : grid0.Coords) : Fin 2 → Nat :=
  let arg1 : BitVec 32 := BitVec.ofNat 32 (i 1).val
  let c512_i32 : BitVec 32 := 512#32
  let v18 : BitVec 32 := Scalar.muli arg1 c512_i32
  let v19 : BitVec 32 := v18
  let v113 : Index := Scalar.indexCast v19
  let c384 : Index := 384#32
  ![v113.toNat, 384]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KAttnFIdeal.lean ====
variable {F : FTy → Type} [FloatOps F] [Named F]
def κ : String → Option EReal := fun
  | "mask" => some ⊥
  | _ => none
-- ==== RAttnFIdeal.lean ====
abbrev S8192x16x192 : Shape := ⟨3, ![8192, 16, 192]⟩
abbrev S8192x16x128 : Shape := ⟨3, ![8192, 16, 128]⟩
abbrev S8192x64 : Shape := ⟨2, ![8192, 64]⟩
abbrev S8192x1x64 : Shape := ⟨3, ![8192, 1, 64]⟩
abbrev S8192x16x64 : Shape := ⟨3, ![8192, 16, 64]⟩
abbrev S16x8192x8192 : Shape := ⟨3, ![16, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S16x8192 : Shape := ⟨2, ![16, 8192]⟩
abbrev S16x8192x1 : Shape := ⟨3, ![16, 8192, 1]⟩
abbrev S16x128x8192 : Shape := ⟨3, ![16, 128, 8192]⟩
abbrev S8192x2048 : Shape := ⟨2, ![8192, 2048]⟩

abbrev nBuf : Space → Nat
  | .hbm => 40
  | .vmem => 0
  | .smem => 0
  | _ => 0

abbrev bufTy : (tb : Table) → Fin (tcTables nBuf tb) → BufTy
  | .hbm, ⟨0, _⟩ => ⟨S8192x16x192, .f32⟩
  | .hbm, ⟨1, _⟩ => ⟨S8192x16x128, .f32⟩
  | .hbm, ⟨2, _⟩ => ⟨S8192x16x128, .f32⟩
  | .hbm, ⟨3, _⟩ => ⟨S8192x64, .f32⟩
  | .hbm, ⟨4, _⟩ => ⟨S8192x1x64, .f32⟩
  | .hbm, ⟨5, _⟩ => ⟨S8192x16x64, .f32⟩
  | .hbm, ⟨6, _⟩ => ⟨S8192x16x192, .f32⟩
  | .hbm, ⟨7, _⟩ => ⟨S16x8192x8192, .f32⟩
  | .hbm, ⟨8, _⟩ => ⟨S_, .f32⟩
  | .hbm, ⟨9, _⟩ => ⟨S16x8192x8192, .f32⟩
  | .hbm, ⟨10, _⟩ => ⟨S16x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S_, .f32⟩
  | .hbm, ⟨19, _⟩ => ⟨S16x8192x8192, .i1⟩
  | .hbm, ⟨20, _⟩ => ⟨S16x8192x8192, .f32⟩
  | .hbm, ⟨21, _⟩ => ⟨S16x8192x8192, .f32⟩
  | .hbm, ⟨22, _⟩ => ⟨S_, .f32⟩
  | .hbm, ⟨23, _⟩ => ⟨S16x8192, .f32⟩
  | .hbm, ⟨24, _⟩ => ⟨S_, .f32⟩
  | .hbm, ⟨25, _⟩ => ⟨S16x8192, .f32⟩
  | .hbm, ⟨26, _⟩ => ⟨S16x8192, .f32⟩
  | .hbm, ⟨27, _⟩ => ⟨S16x8192x1, .f32⟩
  | .hbm, ⟨28, _⟩ => ⟨S16x8192x8192, .f32⟩
  | .hbm, ⟨29, _⟩ => ⟨S16x8192x8192, .f32⟩
  | .hbm, ⟨30, _⟩ => ⟨S16x8192x8192, .f32⟩
  | .hbm, ⟨31, _⟩ => ⟨S_, .f32⟩
  | .hbm, ⟨32, _⟩ => ⟨S16x8192, .f32⟩
  | .hbm, ⟨33, _⟩ => ⟨S16x8192x1, .f32⟩
  | .hbm, ⟨34, _⟩ => ⟨S16x8192x8192, .f32⟩
  | .hbm, ⟨35, _⟩ => ⟨S16x8192x8192, .f32⟩
  | .hbm, ⟨36, _⟩ => ⟨S16x128x8192, .f32⟩
  | .hbm, ⟨37, _⟩ => ⟨S8192x16x128, .f32⟩
  | .hbm, ⟨38, _⟩ => ⟨S8192x2048, .f32⟩
  | .hbm, ⟨39, _⟩ => ⟨S8192x2048, .bf16⟩
  | _, _ => ⟨S8192x16x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== Proof.RmsValue.lean ====
module

public import proofs.«01_k».proof.Defs
public import Idealize.ShloMosaic.Lib.Claim
public import proofs.«01_k».proof.Proof.Gen.KRmsIdeal.Value
public import proofs.«01_k».proof.Proof.Gen.RRmsIdeal.Read
public import Idealize.ShloMosaic.Lib.Pipeline.ValueKit
public import Idealize.ShloMosaic.Lib.Pointwise

@[expose] public section

/-! The gradient of `rmsnorm(h) · g` added to a residual's gradient: every block of rows the kernel stores is the
reference's rows, and the row it accumulates is the reference's sum over all rows. -/

set_option maxRecDepth 16384

noncomputable section

namespace Cert.RmsValue

open Idealize.ShloMosaic Idealize.ShloMosaic.TcCoe Idealize.SL.Sem
open Cert.KRmsIdeal Cert.KRmsIdeal.Gen Cert.RRmsIdeal.Read

/-- One row of `dh`: a row only reads itself and the gain. -/
theorem dh_row (x dy dr : FVec Ideal S512x1024 .f32) (g : FVec Ideal S1x1024 .f32) (X DY DR : FVec Ideal S8192x1024 .f32)
    (G : FVec Ideal S1024 .f32) (r : Fin 512) (R : Fin 8192) (c : Fin 1024)
    (hx : ∀ k, x (ix2 r k) = X (ix2 R k)) (hy : ∀ k, dy (ix2 r k) = DY (ix2 R k)) (hr : ∀ k, dr (ix2 r k) = DR (ix2 R k))
    (hg : ∀ k, g (ix2 0 k) = G (ix1 k)) :
    k0_pay6 (F := Ideal) x dy dr g (ix2 r c) = val_main_v36 (F := Ideal) X G DR DY (ix2 R c) := by
  pointwise [k0_pay6, k0_pay4, k0_pay3, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_v28, val_main_cst_6, val_main_v29, val_main_v30, val_main_cst_7, val_main_v31, val_main_v32, val_main_v33, val_main_v34, val_main_v35, val_main_v36, val_main_v37]
  simp only [hx, hy, hr, hg]
  simp only [add_assoc]

/-- Grid point `t` holds the rows `512 t …` of the row operands and the whole gain. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

variable (m : (ℓ : Loc nD τ sig) → Buf (Elt Ideal) ℓ)

/-- The array of `dh` after the launch. -/
theorem final_dh (c : Dev nD) : (dats m 0 c).arrAt 4 (cfgs 0).N = val_main_v36 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp [idx t]
  rw [after0_4]
  have key : k0_pay6 (F := Ideal) (iblk m c 0 t) (iblk m c 1 t) (iblk m c 2 t) (iblk m c 3 t) y
      = val_main_v36 (F := Ideal) (m ((c : Thread nD τ).loc main_arg0)) (m ((c : Thread nD τ).loc main_arg1))
        (m ((c : Thread nD τ).loc main_arg2)) (m ((c : Thread nD τ).loc main_arg3)) ((win0_4.blk t).view.emb y) := by
    have ht : t.val < 16 := lt_of_lt_of_eq t.isLt N_0
    obtain_idx j : S8192x1024 := [t.val * 512 + (y 0 : ℕ), (y 1 : ℕ)] with hj
    have he : (win0_4.blk t).view.emb y = j := by blk_ext [idx t]
    rw [he, eq_ix2 j, eq_ix2 y]
    have e1 : y 1 = j 1 := Fin.ext hj1.symm
    rw [e1]
    exact dh_row _ _ _ _ _ _ _ _ (y 0) (j 0) (j 1) (fun k => by blk_point [iblk, V, idx t]) (fun k => by blk_point [iblk, V, idx t])
      (fun k => by blk_point [iblk, V, idx t]) (fun k => by blk_simp [iblk, idx t]; entry_read; pointwise; blk_ext [idx t])
  by_cases h : t.val % 16 = 0
  · rw [outsAt0_A m c t h]; frame_out; exact key
  · rw [outsAt0_B m c t h]; frame_out; exact key

/-- The accumulator starts at zero. -/
theorem hzero (j : S1x1024.Idx) : k0_pay1 (F := Ideal) j = 0 := by pointwise! [k0_pay1]

/-- A step adds its block's row to the accumulator. -/
theorem hpay (v20 : FVec Ideal S1x1024 .f32) (v43 : Vec Ideal S1x1024 .f32) (j : S1x1024.Idx) :
    k0_pay2 v20 v43 j = v43 j + v20 j := by pointwise [k0_pay2]

/-- The gain's gradient: the sum over the sixteen blocks is the sum over all rows. -/
theorem final_dg (c : Dev nD) : (dats m 0 c).arrAt 5 (cfgs 0).N = val_main_v37 (F := Ideal) (m ((c : Thread nD τ).loc main_arg0))
    (m ((c : Thread nD τ).loc main_arg3)) := by
  refine (dats m 0 c).arrAt_eq_of_after_last 5 t0_15 (by decide +kernel) _ fun j => ?_
  blk_simp
  rw [after0_5, Pipeline.eq_sum_fin_of_reset_step_apply_last (fun n h => (outsAt0 m c n h).2) 16 (fun _ => 0) _
    (fun t h j => by rw [outsAt0_A m c t h]; frame_out; rw [hpay, hzero])
    (fun t h j => by rw [outsAt0_B m c t h]; frame_out; rw [hpay])
    (le_of_eq N_0) t0_15 rfl j, zero_add]
  pointwise [k0_pay5, k0_pay4, k0_pay3, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_v16, val_main_cst_3, val_main_v17, val_main_v18, val_main_v19, val_main_v20, val_main_cst_4, val_main_v21, val_main_v22, val_main_cst_5, val_main_v23, val_main_v24, val_main_v25, val_main_v26, val_main_v27, val_main_v28, val_main_cst_6, val_main_v29, val_main_v30, val_main_cst_7, val_main_v31, val_main_v32, val_main_v33, val_main_v34, val_main_v35, val_main_v36, val_main_v37]
  simp only [Finset.univ_unique, Finset.sum_singleton]
  refine Fin.sum_mul_add_congr fun s k hl => ?_
  blk_point [iblk, V, idx s]

/-- The reference runs to its end with its arguments unchanged. -/
theorem frame_reference : Cert.quiescent_RRmsIdeal := fun m ρ _ =>
  (θ_run Cert.RRmsIdeal.defs _ _).mono
    (fun r h => ⟨fun c => (h c).2.2, sem_eq_zero_of_no_sems (by decide) r.2⟩) (Cert.RRmsIdeal.Value.run m ρ)

/-- Kernel and reference compute the same two arrays. -/
theorem algebraic : Cert.algebraic_KRmsIdeal_RRmsIdeal := by
  pair_intro
  · run_from Cert.KRmsIdeal.Value.run_blocks m g
  · run_from Cert.RRmsIdeal.Value.run m' g'
    · rw [final_dh]; exact val_main_v36_eq _ _ _ _
    · rw [final_dg]; exact val_main_v37_eq _ _

end Cert.RmsValue
-- ==== Proof.PostValue.lean ====
module

public import proofs.«01_k».proof.Defs
public import Idealize.ShloMosaic.Lib.Claim
public import proofs.«01_k».proof.Proof.Gen.KPostIdeal.Value
public import proofs.«01_k».proof.Proof.Gen.RPostIdeal.Read
public import Idealize.ShloMosaic.Lib.Pipeline.ValueKit
public import Idealize.ShloMosaic.Lib.Pointwise

@[expose] public section

/-! The gradient of a branch `0.5 · rmsnorm(f) · g`: every block of rows the kernel stores is the reference's rows, and the row it accumulates is the reference's sum over all rows. -/

set_option maxRecDepth 16384

noncomputable section

namespace Cert.PostValue

open Idealize.ShloMosaic Idealize.ShloMosaic.TcCoe Idealize.SL.Sem
open Cert.KPostIdeal Cert.KPostIdeal.Gen Cert.RPostIdeal.Read

/-- One row of `df`: a row only reads itself and the gain. -/
theorem df_row (x dy : FVec Ideal S512x1024 .f32) (g : FVec Ideal S1x1024 .f32) (X DY : FVec Ideal S8192x1024 .f32)
    (G : FVec Ideal S1024 .f32) (r : Fin 512) (R : Fin 8192) (c : Fin 1024) (hx : ∀ k, x (ix2 r k) = X (ix2 R k))
    (hy : ∀ k, dy (ix2 r k) = DY (ix2 R k)) (hg : ∀ k, g (ix2 0 k) = G (ix1 k)) :
    k0_pay7 (F := Ideal) x dy g (ix2 r c) = val_main_v40 (F := Ideal) X G DY (ix2 R c) := by
  pointwise [k0_pay7, k0_pay6, k0_pay5, k0_pay4, k0_pay3, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_cst_4, val_main_v18, val_main_v19, val_main_v20, val_main_cst_5, val_main_v21, val_main_v22, val_main_v23, val_main_v24, val_main_cst_6, val_main_v25, val_main_v26, val_main_cst_7, val_main_v27, val_main_v28, val_main_v29, val_main_v30, val_main_v31, val_main_cst_8, val_main_v32, val_main_v33, val_main_cst_9, val_main_v34, val_main_v35, val_main_v36, val_main_v37, val_main_v38, val_main_v39, val_main_v40, val_main_v41]
  simp only [hx, hy, hg]

/-- Grid point `t` holds the rows `512 t …` of the three row operands and the whole gain. -/
theorem idx : ∀ t : Fin cfg0.N, win0_0.index t = ![t.val, 0] ∧ win0_1.index t = ![t.val, 0] ∧ win0_2.index t = ![0, 0]
    ∧ win0_3.index t = ![t.val, 0] ∧ win0_4.index t = ![0, 0] := (by decide +kernel : ∀ t : Fin grid0.N, _)

variable (m : (ℓ : Loc nD τ sig) → Buf (Elt Ideal) ℓ)

/-- The array of `df` after the launch. -/
theorem final_df (c : Dev nD) : (dats m 0 c).arrAt 3 (cfgs 0).N = val_main_v40 (F := Ideal) (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp [idx t]
  rw [after0_3]
  have key : k0_pay7 (F := Ideal) (iblk m c 0 t) (iblk m c 1 t) (iblk m c 2 t) y
      = val_main_v40 (F := Ideal) (m ((c : Thread nD τ).loc main_arg0)) (m ((c : Thread nD τ).loc main_arg1)) (m ((c : Thread nD τ).loc main_arg2)) ((win0_3.blk t).view.emb y) := by
    have ht : t.val < 16 := lt_of_lt_of_eq t.isLt N_0
    obtain_idx j : S8192x1024 := [t.val * 512 + (y 0 : ℕ), (y 1 : ℕ)] with hj
    have he : (win0_3.blk t).view.emb y = j := by blk_ext [idx t]
    rw [he, eq_ix2 j, eq_ix2 y]
    have e1 : y 1 = j 1 := Fin.ext hj1.symm
    rw [e1]
    exact df_row _ _ _ _ _ _ (y 0) (j 0) (j 1)
      (fun k => by blk_point [iblk, V, idx t]) (fun k => by blk_point [iblk, V, idx t])
      (fun k => by blk_simp [iblk, idx t]; entry_read; pointwise; blk_ext [idx t])
  by_cases h : t.val % 16 = 0
  · rw [outsAt0_A m c t h]; frame_out; exact key
  · rw [outsAt0_B m c t h]; frame_out; exact key

/-- The accumulator starts at zero. -/
theorem hzero (j : S1x1024.Idx) : k0_pay1 (F := Ideal) j = 0 := by pointwise! [k0_pay1]

/-- A step adds its block's row to the accumulator. -/
theorem hpay (v20 : FVec Ideal S1x1024 .f32) (v43 : Vec Ideal S1x1024 .f32) (j : S1x1024.Idx) :
    k0_pay2 v20 v43 j = v43 j + v20 j := by pointwise [k0_pay2]

/-- The gain's gradient: the sum over the sixteen blocks is the sum over all rows. -/
theorem final_dg (c : Dev nD) : (dats m 0 c).arrAt 4 (cfgs 0).N = val_main_v41 (F := Ideal) (m ((c : Thread nD τ).loc main_arg0))
    (m ((c : Thread nD τ).loc main_arg2)) := by
  refine (dats m 0 c).arrAt_eq_of_after_last 4 t0_15 (by decide +kernel) _ fun j => ?_
  blk_simp
  rw [after0_4, Pipeline.eq_sum_fin_of_reset_step_apply_last (fun n h => (outsAt0 m c n h).2) 16 (fun _ => 0) _
    (fun t h j => by rw [outsAt0_A m c t h]; frame_out; rw [hpay, hzero])
    (fun t h j => by rw [outsAt0_B m c t h]; frame_out; rw [hpay])
    (le_of_eq N_0) t0_15 rfl j, zero_add]
  pointwise [k0_pay6, k0_pay5, k0_pay4, k0_pay3, val_main_v0, val_main_cst, val_main_v1, val_main_v2, val_main_cst_0, val_main_v3, val_main_v4, val_main_cst_1, val_main_v5, val_main_v6, val_main_v7, val_main_v8, val_main_cst_2, val_main_v9, val_main_v10, val_main_v11, val_main_v12, val_main_v13, val_main_v14, val_main_v15, val_main_cst_3, val_main_v16, val_main_v17, val_main_cst_4, val_main_v18, val_main_v19, val_main_v20, val_main_cst_5, val_main_v21, val_main_v22, val_main_v23, val_main_v24, val_main_cst_6, val_main_v25, val_main_v26, val_main_cst_7, val_main_v27, val_main_v28, val_main_v29, val_main_v30, val_main_v31, val_main_cst_8, val_main_v32, val_main_v33, val_main_cst_9, val_main_v34, val_main_v35, val_main_v36, val_main_v37, val_main_v38, val_main_v39, val_main_v40, val_main_v41]
  simp only [Finset.univ_unique, Finset.sum_singleton]
  refine Fin.sum_mul_add_congr fun s k hl => ?_
  blk_point [iblk, V, idx s]

/-- The reference runs to its end with its arguments unchanged. -/
theorem frame_reference : Cert.quiescent_RPostIdeal := fun m ρ _ =>
  (θ_run Cert.RPostIdeal.defs _ _).mono
    (fun r h => ⟨fun c => (h c).2.2, sem_eq_zero_of_no_sems (by decide) r.2⟩) (Cert.RPostIdeal.Value.run m ρ)

/-- Kernel and reference compute the same two arrays. -/
theorem algebraic : Cert.algebraic_KPostIdeal_RPostIdeal := by
  pair_intro
  · run_from Cert.KPostIdeal.Value.run_blocks m g
  · run_from Cert.RPostIdeal.Value.run m' g'
    · rw [final_df]; rw [val_main_v40_eq, (hagree c).1, (hagree c).2.1, (hagree c).2.2]
    · rw [final_dg]; exact val_main_v41_eq _ _

end Cert.PostValue
-- ==== Proof.PleValue.lean ====
module

public import proofs.«01_k».proof.Defs
public import Idealize.ShloMosaic.Lib.Claim
public import proofs.«01_k».proof.Proof.Gen.KPleIdeal.Value
public import proofs.«01_k».proof.Proof.Gen.RPleIdeal.Read
public import Idealize.ShloMosaic.Lib.Pipeline.ValueKit
public import Idealize.ShloMosaic.Lib.Pointwise

@[expose] public section

/-! The gradient of `rmsnorm(sigmoid(f) · e) · g`: the two blocks of rows the kernel stores are the reference's rows, and the row it accumulates is the reference's sum over all rows. -/

set_option maxRecDepth 16384

noncomputable section

namespace Cert.PleValue

open Idealize.ShloMosaic Idealize.ShloMosaic.TcCoe Idealize.SL.Sem
open Cert.KPleIdeal Cert.KPleIdeal.Gen Cert.RPleIdeal.Read

/-- One row of the gate's gradient. -/
theorem df_row (f e dy : FVec Ideal S512x1024 .f32) (g : FVec Ideal S1x1024 .f32) (X E DY : FVec Ideal S8192x1024 .f32)
    (G : FVec Ideal S1024 .f32) (r : Fin 512) (R : Fin 8192) (c : Fin 1024) (hx : ∀ k, f (ix2 r k) = X (ix2 R k))
    (he : ∀ k, e (ix2 r k) = E (ix2 R k)) (hy : ∀ k, dy (ix2 r k) = DY (ix2 R k)) (hg : ∀ k, g (ix2 0 k) = G (ix1 k)) :
    k0_pay2 (F := Ideal) e (k0_pay7 f) (k0_pay14 f e dy g) (k0_pay15 f e dy g) (ix2 r c) = val_main_v49 (F := Ideal) X E G DY (ix2 R c) := by
  pointwise [k0_pay3, k0_pay2, k0_pay1, k0_pay15, k0_pay14, k0_pay13, k0_pay12, k0_pay11, k0_pay10, k0_pay9, k0_pay8, k0_pay7, k0_pay6, val_main_v0, val_main_v1, val_main_cst, val_main_v2, val_main_v3, val_main_cst_0, val_main_v4, val_main_v5, val_main_cst_1, val_main_v6, val_main_v7, val_main_v8, val_main_v9, val_main_v10, val_main_cst_2, val_main_v11, val_main_v12, val_main_cst_3, val_main_v13, val_main_v14, val_main_cst_4, val_main_v15, val_main_v16, val_main_v17, val_main_v18, val_main_cst_5, val_main_v19, val_main_v20, val_main_v21, val_main_v22, val_main_v23, val_main_v24, val_main_v25, val_main_v26, val_main_cst_6, val_main_v27, val_main_v28, val_main_v29, val_main_v30, val_main_cst_7, val_main_v31, val_main_v32, val_main_cst_8, val_main_v33, val_main_v34, val_main_v35, val_main_v36, val_main_v37, val_main_cst_9, val_main_v38, val_main_v39, val_main_cst_10, val_main_v40, val_main_v41, val_main_v42, val_main_v43, val_main_v44, val_main_v45, val_main_v46, val_main_v47, val_main_v48, val_main_v49, val_main_v50, val_main_v51]
  simp only [hx, he, hy, hg, Ideal.logistic]

/-- One row of the embedding's gradient. -/
theorem de_row (f e dy : FVec Ideal S512x1024 .f32) (g : FVec Ideal S1x1024 .f32) (X E DY : FVec Ideal S8192x1024 .f32)
    (G : FVec Ideal S1024 .f32) (r : Fin 512) (R : Fin 8192) (c : Fin 1024) (hx : ∀ k, f (ix2 r k) = X (ix2 R k))
    (he : ∀ k, e (ix2 r k) = E (ix2 R k)) (hy : ∀ k, dy (ix2 r k) = DY (ix2 R k)) (hg : ∀ k, g (ix2 0 k) = G (ix1 k)) :
    k0_pay3 (F := Ideal) (k0_pay6 f) (k0_pay14 f e dy g) (k0_pay15 f e dy g) (ix2 r c) = val_main_v50 (F := Ideal) X E G DY (ix2 R c) := by
  pointwise [k0_pay3, k0_pay2, k0_pay1, k0_pay15, k0_pay14, k0_pay13, k0_pay12, k0_pay11, k0_pay10, k0_pay9, k0_pay8, k0_pay7, k0_pay6, val_main_v0, val_main_v1, val_main_cst, val_main_v2, val_main_v3, val_main_cst_0, val_main_v4, val_main_v5, val_main_cst_1, val_main_v6, val_main_v7, val_main_v8, val_main_v9, val_main_v10, val_main_cst_2, val_main_v11, val_main_v12, val_main_cst_3, val_main_v13, val_main_v14, val_main_cst_4, val_main_v15, val_main_v16, val_main_v17, val_main_v18, val_main_cst_5, val_main_v19, val_main_v20, val_main_v21, val_main_v22, val_main_v23, val_main_v24, val_main_v25, val_main_v26, val_main_cst_6, val_main_v27, val_main_v28, val_main_v29, val_main_v30, val_main_cst_7, val_main_v31, val_main_v32, val_main_cst_8, val_main_v33, val_main_v34, val_main_v35, val_main_v36, val_main_v37, val_main_cst_9, val_main_v38, val_main_v39, val_main_cst_10, val_main_v40, val_main_v41, val_main_v42, val_main_v43, val_main_v44, val_main_v45, val_main_v46, val_main_v47, val_main_v48, val_main_v49, val_main_v50, val_main_v51]
  simp only [hx, he, hy, hg, Ideal.logistic]

/-- Grid point `t` holds the rows `512 t …` of the row operands and the whole gain. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

variable (m : (ℓ : Loc nD τ sig) → Buf (Elt Ideal) ℓ)

/-- The array of the gate's gradient after the launch. -/
theorem final_df (c : Dev nD) : (dats m 0 c).arrAt 4 (cfgs 0).N = val_main_v49 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp [idx t]
  rw [after0_4]
  have key : k0_pay2 (F := Ideal) (iblk m c 1 t) (k0_pay7 (iblk m c 0 t)) (k0_pay14 (iblk m c 0 t) (iblk m c 1 t) (iblk m c 2 t) (iblk m c 3 t)) (k0_pay15 (iblk m c 0 t) (iblk m c 1 t) (iblk m c 2 t) (iblk m c 3 t)) y
      = val_main_v49 (F := Ideal) (m ((c : Thread nD τ).loc main_arg0)) (m ((c : Thread nD τ).loc main_arg1)) (m ((c : Thread nD τ).loc main_arg2)) (m ((c : Thread nD τ).loc main_arg3)) ((win0_4.blk t).view.emb y) := by
    have ht : t.val < 16 := lt_of_lt_of_eq t.isLt N_0
    obtain_idx j : S8192x1024 := [t.val * 512 + (y 0 : ℕ), (y 1 : ℕ)] with hj
    have he : (win0_4.blk t).view.emb y = j := by blk_ext [idx t]
    rw [he, eq_ix2 j, eq_ix2 y]
    have e1 : y 1 = j 1 := Fin.ext hj1.symm
    rw [e1]
    exact df_row _ _ _ _ _ _ _ _ (y 0) (j 0) (j 1)
      (fun k => by blk_point [iblk, V, idx t]) (fun k => by blk_point [iblk, V, idx t])
      (fun k => by blk_point [iblk, V, idx t])
      (fun k => by blk_simp [iblk, idx t]; entry_read; pointwise; blk_ext [idx t])
  by_cases h : t.val % 16 = 0
  · rw [outsAt0_A m c t h]; frame_out; exact key
  · rw [outsAt0_B m c t h]; frame_out; exact key

/-- The array of the embedding's gradient after the launch. -/
theorem final_de (c : Dev nD) : (dats m 0 c).arrAt 5 (cfgs 0).N = val_main_v50 (F := Ideal) (m ((c : Thread nD τ).loc main_arg0))
    (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp [idx t]
  rw [after0_5]
  have key : k0_pay3 (F := Ideal) (k0_pay6 (iblk m c 0 t)) (k0_pay14 (iblk m c 0 t) (iblk m c 1 t) (iblk m c 2 t) (iblk m c 3 t)) (k0_pay15 (iblk m c 0 t) (iblk m c 1 t) (iblk m c 2 t) (iblk m c 3 t)) y
      = val_main_v50 (F := Ideal) (m ((c : Thread nD τ).loc main_arg0)) (m ((c : Thread nD τ).loc main_arg1)) (m ((c : Thread nD τ).loc main_arg2)) (m ((c : Thread nD τ).loc main_arg3)) ((win0_5.blk t).view.emb y) := by
    have ht : t.val < 16 := lt_of_lt_of_eq t.isLt N_0
    obtain_idx j : S8192x1024 := [t.val * 512 + (y 0 : ℕ), (y 1 : ℕ)] with hj
    have he : (win0_5.blk t).view.emb y = j := by blk_ext [idx t]
    rw [he, eq_ix2 j, eq_ix2 y]
    have e1 : y 1 = j 1 := Fin.ext hj1.symm
    rw [e1]
    exact de_row _ _ _ _ _ _ _ _ (y 0) (j 0) (j 1)
      (fun k => by blk_point [iblk, V, idx t]) (fun k => by blk_point [iblk, V, idx t])
      (fun k => by blk_point [iblk, V, idx t])
      (fun k => by blk_simp [iblk, idx t]; entry_read; pointwise; blk_ext [idx t])
  by_cases h : t.val % 16 = 0
  · rw [outsAt0_A m c t h]; frame_out; exact key
  · rw [outsAt0_B m c t h]; frame_out; exact key

/-- The accumulator starts at zero. -/
theorem hzero (j : S1x1024.Idx) : k0_pay4 (F := Ideal) j = 0 := by pointwise! [k0_pay4]

/-- A step adds its block's row to the accumulator. -/
theorem hpay (v20 : FVec Ideal S1x1024 .f32) (v43 : Vec Ideal S1x1024 .f32) (j : S1x1024.Idx) :
    k0_pay5 v20 v43 j = v43 j + v20 j := by pointwise [k0_pay5]

/-- The gain's gradient: the sum over the sixteen blocks is the sum over all rows. -/
theorem final_dg (c : Dev nD) : (dats m 0 c).arrAt 6 (cfgs 0).N = val_main_v51 (F := Ideal) (m ((c : Thread nD τ).loc main_arg0))
    (m ((c : Thread nD τ).loc main_arg1)) (m ((c : Thread nD τ).loc main_arg3)) := by
  refine (dats m 0 c).arrAt_eq_of_after_last 6 t0_15 (by decide +kernel) _ fun j => ?_
  blk_simp
  rw [after0_6, Pipeline.eq_sum_fin_of_reset_step_apply_last (fun n h => (outsAt0 m c n h).2.2) 16 (fun _ => 0) _
    (fun t h j => by rw [outsAt0_A m c t h]; frame_out; rw [hpay, hzero])
    (fun t h j => by rw [outsAt0_B m c t h]; frame_out; rw [hpay])
    (le_of_eq N_0) t0_15 rfl j, zero_add]
  pointwise [k0_pay15, k0_pay14, k0_pay13, k0_pay12, k0_pay11, k0_pay10, k0_pay9, k0_pay8, k0_pay7, k0_pay6, val_main_v0, val_main_v1, val_main_cst, val_main_v2, val_main_v3, val_main_cst_0, val_main_v4, val_main_v5, val_main_cst_1, val_main_v6, val_main_v7, val_main_v8, val_main_v9, val_main_v10, val_main_cst_2, val_main_v11, val_main_v12, val_main_cst_3, val_main_v13, val_main_v14, val_main_cst_4, val_main_v15, val_main_v16, val_main_v17, val_main_v18, val_main_cst_5, val_main_v19, val_main_v20, val_main_v21, val_main_v22, val_main_v23, val_main_v24, val_main_v25, val_main_v26, val_main_cst_6, val_main_v27, val_main_v28, val_main_v29, val_main_v30, val_main_cst_7, val_main_v31, val_main_v32, val_main_cst_8, val_main_v33, val_main_v34, val_main_v35, val_main_v36, val_main_v37, val_main_cst_9, val_main_v38, val_main_v39, val_main_cst_10, val_main_v40, val_main_v41, val_main_v42, val_main_v43, val_main_v44, val_main_v45, val_main_v46, val_main_v47, val_main_v48, val_main_v49, val_main_v50, val_main_v51]
  simp only [Finset.univ_unique, Finset.sum_singleton, Ideal.logistic]
  refine Fin.sum_mul_add_congr fun s k hl => ?_
  blk_point [iblk, V, idx s]

/-- The reference runs to its end with its arguments unchanged. -/
theorem frame_reference : Cert.quiescent_RPleIdeal := fun m ρ _ =>
  (θ_run Cert.RPleIdeal.defs _ _).mono
    (fun r h => ⟨fun c => (h c).2.2.2, sem_eq_zero_of_no_sems (by decide) r.2⟩) (Cert.RPleIdeal.Value.run m ρ)

/-- Kernel and reference compute the same three arrays. -/
theorem algebraic : Cert.algebraic_KPleIdeal_RPleIdeal := by
  pair_intro
  · run_from Cert.KPleIdeal.Value.run_blocks m g
  · run_from Cert.RPleIdeal.Value.run m' g'
    · rw [final_df]; rw [val_main_v49_eq, (hagree c).1, (hagree c).2.1, (hagree c).2.2.1, (hagree c).2.2.2]
    · rw [final_de]; rw [val_main_v50_eq, (hagree c).1, (hagree c).2.1, (hagree c).2.2.1, (hagree c).2.2.2]
    · rw [final_dg]; exact val_main_v51_eq _ _ _

end Cert.PleValue
-- ==== Proof.ConvValue.lean ====
module

public import proofs.«01_k».proof.Defs
public import Idealize.ShloMosaic.Lib.Claim
public import proofs.«01_k».proof.Proof.Gen.KConvIdeal.Value
public import proofs.«01_k».proof.Proof.Gen.RConvIdeal.Read
public import Idealize.ShloMosaic.Lib.Pipeline.ValueKit
public import Idealize.ShloMosaic.Lib.Pointwise
public import Idealize.ShloMosaic.Lib.Pipeline.ReadBack

@[expose] public section

/-! The gradient of the causal depthwise convolution over time: the block of rows the kernel stores is the reference's block, reading three rows on past its end, and the four rows and the one row it accumulates are the reference's sums over all rows. -/

set_option maxRecDepth 16384

noncomputable section

namespace Cert.ConvValue

open Idealize.ShloMosaic Idealize.ShloMosaic.TcCoe Idealize.SL.Sem
open Cert.KConvIdeal Cert.KConvIdeal.Gen Cert.RConvIdeal.Read

/-- Row `n` of a gradient of the outputs, and nothing past the last row. -/
def ahead (D : FVec Ideal S8192x1536 .f32) (n : ℕ) (c : Fin 1536) : EReal := if h : n < 8192 then D (ix2 ⟨n, h⟩ c) else 0

/-- The convolved columns, 128 rows late, with nothing before the first row. -/
def back (X : FVec Ideal S8192x4624 .f32) (n : ℕ) (c : Fin 1536) : EReal :=
  if h : 128 ≤ n ∧ n - 128 < 8192 then X (ix2 ⟨n - 128, h.2⟩ ⟨3072 + c.val, by omega⟩) else 0

/-- One entry of the reference's gradient of the inputs. -/
theorem ref_dx (W : FVec Ideal S4x1536 .f32) (D : FVec Ideal S8192x1536 .f32) (t : Fin 8192) (c : Fin 1536) :
    val_main_v85 (F := Ideal) W D (ix2 t c) = W (ix2 3 c) * D (ix2 t c) + W (ix2 0 c) * ahead D (3 + t.val) c
      + W (ix2 1 c) * ahead D (2 + t.val) c + W (ix2 2 c) * ahead D (1 + t.val) c := by
  pointwise [val_main_v85, val_main_v84, val_main_v82, val_main_v81, val_main_v71, val_main_v70, val_main_v60, val_main_v59, val_main_v49, val_main_v45, val_main_v54, val_main_v65, val_main_v76, val_main_v37, val_main_v44, val_main_v53, val_main_v64, val_main_v75, val_main_v30, val_main_v23, val_main_v16, val_main_v8, val_main_v29, val_main_v22, val_main_v15, val_main_v7, val_main_v28, val_main_v21, val_main_v14, val_main_v6, val_main_cst_8, val_main_cst_12, val_main_cst_16, val_main_cst_20]
  have e2 : (if h : 2 ≤ 3 + t.val ∧ 3 + t.val - 2 < 8192 then D (ix2 ⟨3 + t.val - 2, h.2⟩ c) * W (ix2 2 c) else 0) = W (ix2 2 c) * ahead D (1 + t.val) c := by
    unfold ahead
    by_cases h : 1 + t.val < 8192
    · rw [dif_pos h, dif_pos (by omega), mul_comm]; congr 4; omega
    · rw [dif_neg h, dif_neg (by omega), mul_zero]
  have e1 : (if h : 1 ≤ 3 + t.val ∧ 3 + t.val - 1 < 8192 then D (ix2 ⟨3 + t.val - 1, h.2⟩ c) * W (ix2 1 c) else 0) = W (ix2 1 c) * ahead D (2 + t.val) c := by
    unfold ahead
    by_cases h : 2 + t.val < 8192
    · rw [dif_pos h, dif_pos (by omega), mul_comm]; congr 4; omega
    · rw [dif_neg h, dif_neg (by omega), mul_zero]
  have e0 : (if h : 3 + t.val < 8192 then D (ix2 ⟨3 + t.val, h⟩ c) * W (ix2 0 c) else 0) = W (ix2 0 c) * ahead D (3 + t.val) c := by
    unfold ahead
    by_cases h : 3 + t.val < 8192
    · rw [dif_pos h, dif_pos h, mul_comm]
    · rw [dif_neg h, dif_neg h, mul_zero]
  rw [e0, e1, e2, mul_comm (D _)]
  generalize W (ix2 3 c) * D (ix2 t c) = a
  rw [add_right_comm, add_assoc, add_assoc, add_comm (W (ix2 2 c) * _)]
  ac_rfl

/-- One entry of the reference's gradient of the weights. -/
theorem ref_dw (X : FVec Ideal S8192x4624 .f32) (D : FVec Ideal S8192x1536 .f32) (k : Fin 4) (c : Fin 1536) :
    val_main_v80 (F := Ideal) X D (ix2 k c) = ∑ t : Fin 8192, D (ix2 t c) * back X (125 + k.val + t.val) c := by
  match k with
  | 0 =>
    pointwise [val_main_v80, val_main_v79, val_main_v78, val_main_v77, val_main_v74, val_main_v73, val_main_v72, val_main_v69, val_main_v68, val_main_v67, val_main_v66, val_main_v63, val_main_v62, val_main_v61, val_main_v58, val_main_v57, val_main_v56, val_main_v55, val_main_v52, val_main_v51, val_main_v50, val_main_v48, val_main_v47, val_main_v46, val_main_v43, val_main_v42, val_main_v41, val_main_v37, val_main_v27, val_main_v20, val_main_v13, val_main_v5, val_main_v3, val_main_v2, val_main_v0, val_main_cst_0, val_main_cst_5, val_main_cst_6, val_main_cst_7, val_main_cst_9, val_main_cst_10, val_main_cst_11, val_main_cst_13, val_main_cst_14, val_main_cst_15, val_main_cst_17, val_main_cst_18, val_main_cst_19]
    rw [Finset.univ_unique, Finset.sum_singleton]
    refine Eq.trans ?_ (Fin.sum_univ_add (a := 3) (b := 8189) fun t : Fin 8192 => D (ix2 t c) * back X (125 + t.val) c).symm
    refine congrArg₂ (· + ·) (Finset.sum_congr rfl fun x _ => ?_) (Finset.sum_congr rfl fun x _ => ?_)
    · rw [zero_mul, back, dif_neg (by have := x.isLt; simp only [Fin.val_castAdd]; omega), mul_zero]
    · rw [back, dif_pos (by have := x.isLt; simp only [Fin.val_natAdd]; omega), mul_comm]
      refine congrArg₂ (· * ·) rfl (congrArg X (congrArg₂ ix2 (Fin.ext ?_) rfl))
      simp only [Fin.val_natAdd]; omega
  | 1 =>
    pointwise [val_main_v80, val_main_v79, val_main_v78, val_main_v77, val_main_v74, val_main_v73, val_main_v72, val_main_v69, val_main_v68, val_main_v67, val_main_v66, val_main_v63, val_main_v62, val_main_v61, val_main_v58, val_main_v57, val_main_v56, val_main_v55, val_main_v52, val_main_v51, val_main_v50, val_main_v48, val_main_v47, val_main_v46, val_main_v43, val_main_v42, val_main_v41, val_main_v37, val_main_v27, val_main_v20, val_main_v13, val_main_v5, val_main_v3, val_main_v2, val_main_v0, val_main_cst_0, val_main_cst_5, val_main_cst_6, val_main_cst_7, val_main_cst_9, val_main_cst_10, val_main_cst_11, val_main_cst_13, val_main_cst_14, val_main_cst_15, val_main_cst_17, val_main_cst_18, val_main_cst_19]
    rw [Finset.univ_unique, Finset.sum_singleton]
    refine Finset.sum_congr rfl fun x _ => ?_
    rw [mul_comm, back]
    refine congrArg (_ * ·) ?_
    by_cases hx : 1 + x.val < 3
    · rw [dif_pos hx, dif_neg (by omega)]
    · rw [dif_neg hx, dif_pos (by have := x.isLt; omega)]
      exact congrArg X (congrArg₂ ix2 (Fin.ext (by show 1 + x.val - 3 = 126 + x.val - 128; omega)) rfl)
  | 2 =>
    pointwise [val_main_v80, val_main_v79, val_main_v78, val_main_v77, val_main_v74, val_main_v73, val_main_v72, val_main_v69, val_main_v68, val_main_v67, val_main_v66, val_main_v63, val_main_v62, val_main_v61, val_main_v58, val_main_v57, val_main_v56, val_main_v55, val_main_v52, val_main_v51, val_main_v50, val_main_v48, val_main_v47, val_main_v46, val_main_v43, val_main_v42, val_main_v41, val_main_v37, val_main_v27, val_main_v20, val_main_v13, val_main_v5, val_main_v3, val_main_v2, val_main_v0, val_main_cst_0, val_main_cst_5, val_main_cst_6, val_main_cst_7, val_main_cst_9, val_main_cst_10, val_main_cst_11, val_main_cst_13, val_main_cst_14, val_main_cst_15, val_main_cst_17, val_main_cst_18, val_main_cst_19]
    rw [Finset.univ_unique, Finset.sum_singleton]
    refine Finset.sum_congr rfl fun x _ => ?_
    rw [mul_comm, back]
    refine congrArg (_ * ·) ?_
    by_cases hx : 2 + x.val < 3
    · rw [dif_pos hx, dif_neg (by omega)]
    · rw [dif_neg hx, dif_pos (by have := x.isLt; omega)]
      exact congrArg X (congrArg₂ ix2 (Fin.ext (by show 2 + x.val - 3 = 127 + x.val - 128; omega)) rfl)
  | 3 =>
    pointwise [val_main_v80, val_main_v79, val_main_v78, val_main_v77, val_main_v74, val_main_v73, val_main_v72, val_main_v69, val_main_v68, val_main_v67, val_main_v66, val_main_v63, val_main_v62, val_main_v61, val_main_v58, val_main_v57, val_main_v56, val_main_v55, val_main_v52, val_main_v51, val_main_v50, val_main_v48, val_main_v47, val_main_v46, val_main_v43, val_main_v42, val_main_v41, val_main_v37, val_main_v27, val_main_v20, val_main_v13, val_main_v5, val_main_v3, val_main_v2, val_main_v0, val_main_cst_0, val_main_cst_5, val_main_cst_6, val_main_cst_7, val_main_cst_9, val_main_cst_10, val_main_cst_11, val_main_cst_13, val_main_cst_14, val_main_cst_15, val_main_cst_17, val_main_cst_18, val_main_cst_19]
    rw [Finset.univ_unique, Finset.sum_singleton]
    refine Finset.sum_congr rfl fun x _ => ?_
    rw [mul_comm, back, dif_pos (by have := x.isLt; omega)]
    exact congrArg (_ * ·) (congrArg X (congrArg₂ ix2 (Fin.ext (by show x.val = 128 + x.val - 128; omega)) rfl))

/-- Where a band of whole rows places an index. -/
theorem band_row {M p o : ℕ} (io) (x : (Rect.unit (s := ⟨2, ![M, 1536]⟩) ![o, 0] ![p, 1536] io).shape.Idx) :
    ((Rect.unit (s := ⟨2, ![M, 1536]⟩) ![o, 0] ![p, 1536] io).idx x 0).val = o + (x 0).val := by
  show o + 1 * (x 0).val = _; omega

theorem band_col {M p o : ℕ} (io) (x : (Rect.unit (s := ⟨2, ![M, 1536]⟩) ![o, 0] ![p, 1536] io).shape.Idx) :
    ((Rect.unit (s := ⟨2, ![M, 1536]⟩) ![o, 0] ![p, 1536] io).idx x 1).val = (x 1).val := by
  show 0 + 1 * (x 1).val = _; omega

/-- The indices of a band of whole rows. -/
theorem mem_band {M p o : ℕ} (io) (y : (⟨2, ![M, 1536]⟩ : Shape).Idx) (h1 : o ≤ (y 0).val) (h2 : (y 0).val < o + p) :
    y ∈ (Rect.unit (s := ⟨2, ![M, 1536]⟩) ![o, 0] ![p, 1536] io).set := by
  rw [Rect.mem_set_unit]
  intro a
  match a with
  | 0 => exact ⟨h1, h2⟩
  | 1 => exact ⟨Nat.zero_le _, lt_of_lt_of_eq (y 1).isLt (Nat.zero_add 1536).symm⟩

/-- The two pieces of a scratch of 384 rows, read back at any row. -/
theorem scratch_at {sp : Space} (v : View sig .tc sp S384x1536 .f32) (a b o : ℕ) (ia ib io) (P : (Rect.unit (s := S384x1536) ![a, 0] ![b, 1536] ia).shape.Idx → EReal)
    (Q : (Rect.unit (s := S384x1536) ![0, 0] ![a, 1536] ib).shape.Idx → EReal) (f : ℕ → Fin 1536 → EReal) (hab : a + b = 384)
    (hP : ∀ (r : Fin b) (c : Fin 1536), P (ix2 r c) = f (a + r.val) c) (hQ : ∀ (r : Fin a) (c : Fin 1536), Q (ix2 r c) = f r.val c) (r : Fin 256) (c : Fin 1536) :
    v.readCov (Val := Elt Ideal) [⟨Rect.unit (s := S384x1536) ![a, 0] ![b, 1536] ia, P⟩, ⟨Rect.unit (s := S384x1536) ![0, 0] ![a, 1536] ib, Q⟩]
      (Rect.unit (s := S384x1536) ![o, 0] ![256, 1536] io).toLoadRect (ix2 r c) = f (o + r.val) c := by
  have e0 : ((Rect.unit (s := S384x1536) ![o, 0] ![256, 1536] io).idx (ix2 r c) 0).val = o + r.val := band_row io _
  have lim : o + r.val < 384 := e0 ▸ ((Rect.unit (s := S384x1536) ![o, 0] ![256, 1536] io).idx (ix2 r c) 0).isLt
  rw [View.readCov_eq_canon']
  refine (View.canon_apply_of_pieces (fun i : S384x1536.Idx => f (i 0).val (i 1)) _ ?_ _ ?_).trans ?_
  · intro p hp x
    rcases List.mem_cons.mp hp with rfl | hp
    · exact (congrArg P (eq_ix2 x)).trans ((hP (x 0) (x 1)).trans (congrArg₂ f (band_row ia x).symm (Fin.ext (band_col ia x).symm)))
    · obtain rfl := List.mem_singleton.mp hp
      exact (congrArg Q (eq_ix2 x)).trans ((hQ (x 0) (x 1)).trans (congrArg₂ f ((Nat.zero_add _).symm.trans (band_row ib x).symm) (Fin.ext (band_col ib x).symm)))
  · by_cases h : o + r.val < a
    · exact ⟨_, List.mem_cons_of_mem _ (List.mem_singleton.mpr rfl), mem_band ib _ (Nat.zero_le _) (by rw [Nat.zero_add]; exact lt_of_eq_of_lt e0 h)⟩
    · exact ⟨_, List.mem_cons_self, mem_band ia _ (le_of_le_of_eq (not_lt.mp h) e0.symm) (lt_of_eq_of_lt e0 (lt_of_lt_of_eq lim hab.symm))⟩
  · exact congrArg₂ f e0 (Fin.ext (band_col io _))

/-- Four rows as one array. -/
def rowsOf (G : Fin 4 → Fin 1536 → EReal) : S4x1536.Idx → EReal := fun i => G (i 0) (i 1)

/-- Four rows stored one by one over anything. -/
theorem rows_at (G : Fin 4 → Fin 1536 → EReal) (P0 P1 P2 P3 : Vec Ideal S1x1536 .f32) (i0 i1 i2 i3) (L : List (View.Piece (Elt Ideal) S4x1536 .f32))
    (h0 : ∀ c, P0 (ix2 0 c) = G 0 c) (h1 : ∀ c, P1 (ix2 0 c) = G 1 c) (h2 : ∀ c, P2 (ix2 0 c) = G 2 c) (h3 : ∀ c, P3 (ix2 0 c) = G 3 c) (j : S4x1536.Idx) :
    View.canon (⟨Rect.unit (s := S4x1536) ![3, 0] ![1, 1536] i3, P3⟩ :: ⟨Rect.unit (s := S4x1536) ![2, 0] ![1, 1536] i2, P2⟩
      :: ⟨Rect.unit (s := S4x1536) ![1, 0] ![1, 1536] i1, P1⟩ :: ⟨Rect.unit (s := S4x1536) ![0, 0] ![1, 1536] i0, P0⟩ :: L) j = rowsOf G j := by
  have row : ∀ (o : Fin 4) (io) (P : Vec Ideal S1x1536 .f32) (_ : ∀ c, P (ix2 0 c) = G o c) (x : (Rect.unit (s := S4x1536) ![o.val, 0] ![1, 1536] io).shape.Idx),
      P x = rowsOf G ((Rect.unit (s := S4x1536) ![o.val, 0] ![1, 1536] io).emb x) := by
    intro o io P hP x
    have x0 : (x 0).val = 0 := Nat.lt_one_iff.mp (x 0).isLt
    refine (congrArg P ((eq_ix2 x).trans (congrArg₂ ix2 (Fin.ext x0 : x 0 = (0 : Fin 1)) rfl))).trans ((hP (x 1)).trans (congrArg₂ G (Fin.ext ?_) (Fin.ext (band_col io x).symm)))
    exact ((band_row io x).trans (congrArg (o.val + ·) x0)).symm
  refine View.canon_append_of_piecesOf (Val := Elt Ideal) (s := S4x1536) (e := .f32) (rowsOf G) L [⟨Rect.unit (s := S4x1536) ![3, 0] ![1, 1536] i3, P3⟩, ⟨Rect.unit (s := S4x1536) ![2, 0] ![1, 1536] i2, P2⟩,
      ⟨Rect.unit (s := S4x1536) ![1, 0] ![1, 1536] i1, P1⟩, ⟨Rect.unit (s := S4x1536) ![0, 0] ![1, 1536] i0, P0⟩]
    ⟨row 3 i3 P3 h3, row 2 i2 P2 h2, row 1 i1 P1 h1, row 0 i0 P0 h0, trivial⟩ j ?_
  have hj : (j 0).val < 4 := (j 0).isLt
  rcases (by omega : (j 0).val = 3 ∨ (j 0).val = 2 ∨ (j 0).val = 1 ∨ (j 0).val = 0) with h | h | h | h
  · exact ⟨_, List.mem_cons_self, mem_band i3 j (by omega) (by omega)⟩
  · exact ⟨_, List.mem_cons_of_mem _ List.mem_cons_self, mem_band i2 j (by omega) (by omega)⟩
  · exact ⟨_, List.mem_cons_of_mem _ (List.mem_cons_of_mem _ List.mem_cons_self), mem_band i1 j (by omega) (by omega)⟩
  · exact ⟨_, List.mem_cons_of_mem _ (List.mem_cons_of_mem _ (List.mem_cons_of_mem _ List.mem_cons_self)), mem_band i0 j (by omega) (by omega)⟩

/-- The rows after a point's block: nothing is kept past the last block. -/
theorem pay7_at (i : grid0.Coords) (P : Vec Ideal S128x1536 .f32) (y : S128x1536.Idx) :
    k0_pay7 (F := Ideal) i P y = if (i 0).val < 31 then P y else 0 := by
  have h : ∀ n : Fin 32, Scalar.cmpi .slt (BitVec.ofNat 32 n.val) 31#32 = if n.val < 31 then 1#1 else 0#1 := by decide
  unfold k0_pay7
  dsimp only
  rw [h (i 0)]
  by_cases hi : (i 0).val < 31
  · rw [if_pos hi, if_pos hi]; pointwise
  · rw [if_neg hi, if_neg hi]; pointwise

/-- The rows before a point's block: nothing is kept before the first block. -/
theorem pay8_at (i : grid0.Coords) (P : Vec Ideal S128x1536 .f32) (y : S128x1536.Idx) :
    k0_pay8 (F := Ideal) i P y = if 0 < (i 0).val then P y else 0 := by
  have h : ∀ n : Fin 32, Scalar.cmpi .sgt (BitVec.ofNat 32 n.val) 0#32 = if 0 < n.val then 1#1 else 0#1 := by decide
  unfold k0_pay8
  dsimp only
  rw [h (i 0)]
  by_cases hi : 0 < (i 0).val
  · rw [if_pos hi, if_pos hi]; pointwise
  · rw [if_neg hi, if_neg hi]; pointwise

/-- One entry of the block the kernel stores. -/
theorem row_dx (w0 w1 w2 w3 : Vec Ideal S1x1536 .f32) (d d1 d2 d3 : Vec Ideal S256x1536 .f32) (r : Fin 256) (c : Fin 1536) :
    k0_pay11 (F := Ideal) (k0_pay10 d w3) w0 d3 w1 d2 w2 d1 (ix2 r c)
      = w3 (ix2 0 c) * d (ix2 r c) + w0 (ix2 0 c) * d3 (ix2 r c) + w1 (ix2 0 c) * d2 (ix2 r c) + w2 (ix2 0 c) * d1 (ix2 r c) := by
  pointwise [k0_pay11, k0_pay10]

/-- Each step adds to one row of the weights' gradient the sum over the block's rows. -/
theorem pay12_at (d x : Vec Ideal S256x1536 .f32) (w : Vec Ideal S1x1536 .f32) (c : Fin 1536) :
    k0_pay12 (F := Ideal) d x w (ix2 0 c) = w (ix2 0 c) + ∑ r : Fin 256, d (ix2 r c) * x (ix2 r c) := by pointwise [k0_pay12]
theorem pay13_at (d x : Vec Ideal S256x1536 .f32) (w : Vec Ideal S1x1536 .f32) (c : Fin 1536) :
    k0_pay13 (F := Ideal) d x w (ix2 0 c) = w (ix2 0 c) + ∑ r : Fin 256, d (ix2 r c) * x (ix2 r c) := by pointwise [k0_pay13]
theorem pay1_at (d x : Vec Ideal S256x1536 .f32) (w : Vec Ideal S1x1536 .f32) (c : Fin 1536) :
    k0_pay1 (F := Ideal) d x w (ix2 0 c) = w (ix2 0 c) + ∑ r : Fin 256, d (ix2 r c) * x (ix2 r c) := by pointwise [k0_pay1]
theorem pay2_at (d x : Vec Ideal S256x1536 .f32) (w : Vec Ideal S1x1536 .f32) (c : Fin 1536) :
    k0_pay2 (F := Ideal) d x w (ix2 0 c) = w (ix2 0 c) + ∑ r : Fin 256, d (ix2 r c) * x (ix2 r c) := by pointwise [k0_pay2]
theorem pay3_at (d : Vec Ideal S256x1536 .f32) (w : Vec Ideal S1x1536 .f32) (j : S1x1536.Idx) :
    k0_pay3 (F := Ideal) d w j = w j + ∑ r : Fin 256, d (ix2 r (j 1)) := by pointwise [k0_pay3]
theorem zero4 (j : S4x1536.Idx) : k0_pay4 (F := Ideal) j = 0 := by pointwise! [k0_pay4]
theorem zero5 (j : S1x1536.Idx) : k0_pay5 (F := Ideal) j = 0 := by pointwise! [k0_pay5]

/-- Grid point `t`'s blocks. -/
theorem idx : ∀ t : Fin cfg0.N, win0_0.index t = ![t.val, 0] ∧ win0_1.index t = ![min (2 * (t.val + 1)) 63, 0] ∧ win0_2.index t = ![t.val, 2]
    ∧ win0_3.index t = ![2 * t.val - 1, 2] ∧ win0_4.index t = ![0, 0] ∧ win0_5.index t = ![t.val, 0] ∧ win0_6.index t = ![0, 0] ∧ win0_7.index t = ![0, 0] :=
  (by decide +kernel : ∀ t : Fin grid0.N, _)

/-- The grid has one axis. -/
theorem coord : ∀ t : Fin cfg0.N, (grid0.coords t 0).val = t.val := (by decide +kernel : ∀ t : Fin grid0.N, _)

variable (m : (ℓ : Loc nD τ sig) → Buf (Elt Ideal) ℓ)

/-- The rows of the gradient a grid point holds. -/
theorem own_d (c : Dev nD) (t : Fin cfg0.N) (r : Fin 256) (k : Fin 1536) (h : t.val * 256 + r.val < 8192) :
    (iblk m c 0 t : Vec Ideal S256x1536 .f32) (ix2 r k) = (m ((c : Thread nD τ).loc main_arg2) : FVec Ideal S8192x1536 .f32) (ix2 ⟨t.val * 256 + r.val, h⟩ k) := by
  blk_point [iblk, V, idx t]

/-- The rows of the gradient after those of a grid point. -/
theorem next_d (c : Dev nD) (t : Fin cfg0.N) (r : Fin 128) (k : Fin 1536) (h : (t.val + 1) * 256 + r.val < 8192) :
    (iblk m c 1 t : Vec Ideal S128x1536 .f32) (ix2 r k) = (m ((c : Thread nD τ).loc main_arg2) : FVec Ideal S8192x1536 .f32) (ix2 ⟨(t.val + 1) * 256 + r.val, h⟩ k) := by
  have e : min (2 * (t.val + 1)) 63 = 2 * (t.val + 1) := by omega
  have hi := (idx t).2.1
  rw [e] at hi
  blk_point [iblk, V, hi]

/-- The rows of the convolved columns a grid point holds. -/
theorem own_x (c : Dev nD) (t : Fin cfg0.N) (r : Fin 256) (k : Fin 1536) (h : t.val * 256 + r.val < 8192) :
    (X0_2 m c t : Vec Ideal S256x1536 .f32) (ix2 r k) = (m ((c : Thread nD τ).loc main_arg0) : FVec Ideal S8192x4624 .f32) (ix2 ⟨t.val * 256 + r.val, h⟩ ⟨3072 + k.val, by omega⟩) := by
  unfold X0_2
  rw [Pipeline.Window.fill, dif_pos (moved0_2 t _)]
  blk_simp [iblk, idx t]
  entry_read
  pointwise
  generalize hj : ((View.whole main_v1).slice (win0_2.rect t)).emb _ = j
  have e : j = (ix2 ⟨t.val * 256 + r.val, h⟩ ⟨3072 + k.val, by omega⟩ : S8192x5120.Idx) := by rw [← hj]; blk_ext [idx t]
  rw [e]
  exact dif_pos (show 3072 + k.val < 4624 by omega)

/-- The rows of the convolved columns before them. -/
theorem prev_x (c : Dev nD) (t : Fin cfg0.N) (r : Fin 128) (k : Fin 1536) (h : (2 * t.val - 1) * 128 + r.val < 8192) :
    (X0_3 m c t : Vec Ideal S128x1536 .f32) (ix2 r k) = (m ((c : Thread nD τ).loc main_arg0) : FVec Ideal S8192x4624 .f32) (ix2 ⟨(2 * t.val - 1) * 128 + r.val, h⟩ ⟨3072 + k.val, by omega⟩) := by
  unfold X0_3
  rw [Pipeline.Window.fill, dif_pos (moved0_3 t _)]
  blk_simp [iblk, idx t]
  entry_read
  pointwise
  generalize hj : ((View.whole main_v1).slice (win0_3.rect t)).emb _ = j
  have e : j = (ix2 ⟨(2 * t.val - 1) * 128 + r.val, h⟩ ⟨3072 + k.val, by omega⟩ : S8192x5120.Idx) := by rw [← hj]; blk_ext [idx t]
  rw [e]
  exact dif_pos (show 3072 + k.val < 4624 by omega)

/-- One row of the weights. -/
theorem own_w (c : Dev nD) (t : Fin cfg0.N) (o : Fin 4) (io) (k : Fin 1536) :
    View.ld (Val := Elt Ideal) (iblk m c 4 t : Vec Ideal S4x1536 .f32) (Rect.unit (s := S4x1536) ![o.val, 0] ![1, 1536] io) (ix2 0 k)
      = (m ((c : Thread nD τ).loc main_arg1) : FVec Ideal S4x1536 .f32) (ix2 o k) := by
  have e0 : ((Rect.unit (s := S4x1536) ![o.val, 0] ![1, 1536] io).idx (ix2 0 k) 0).val = o.val := band_row io _
  have e1 : ((Rect.unit (s := S4x1536) ![o.val, 0] ![1, 1536] io).idx (ix2 0 k) 1).val = k.val := band_col io _
  unfold View.ld
  blk_point [iblk, V, idx t]

/-- The first scratch: the point's rows of the gradient and the rows after them. -/
theorem held_d (c : Dev nD) (t : Fin cfg0.N) (o : ℕ) (io) (r : Fin 256) (k : Fin 1536) :
    (View.whole cc0_scratch0).readCov (Val := Elt Ideal)
        [⟨Rect.unit (s := S384x1536) ![256, 0] ![128, 1536] inb_S384x1536_S128x1536_256_0, k0_pay7 (grid0.coords t) (iblk m c 1 t)⟩,
          ⟨Rect.unit (s := S384x1536) ![0, 0] ![256, 1536] inb_S384x1536_S256x1536_0_0, k0_pay6 (iblk m c 0 t)⟩]
        (Rect.unit (s := S384x1536) ![o, 0] ![256, 1536] io).toLoadRect (ix2 r k)
      = ahead (m ((c : Thread nD τ).loc main_arg2)) (t.val * 256 + (o + r.val)) k := by
  have ht : t.val < 32 := lt_of_lt_of_eq t.isLt N_0
  refine scratch_at (View.whole cc0_scratch0) 256 128 o _ _ io (k0_pay7 (grid0.coords t) (iblk m c 1 t)) (k0_pay6 (iblk m c 0 t))
    (fun n k => ahead (m ((c : Thread nD τ).loc main_arg2)) (t.val * 256 + n) k) rfl (fun r k => ?_) (fun r k => ?_) r k
  · refine (pay7_at _ _ _).trans ?_
    rw [coord]
    unfold ahead
    have hr := r.isLt
    by_cases h : t.val < 31
    · rw [if_pos h, dif_pos (by omega)]
      exact (next_d m c t r k (by omega)).trans (congrArg _ (congrArg₂ ix2 (Fin.ext (by show (t.val + 1) * 256 + r.val = t.val * 256 + (256 + r.val); omega)) rfl))
    · rw [if_neg h, dif_neg (by omega)]
  · have hr := r.isLt
    unfold ahead
    rw [dif_pos (by omega)]
    refine Eq.trans ?_ (own_d m c t r k (by omega))
    pointwise [k0_pay6]

/-- The second scratch: the rows before the point's rows of the convolved columns, and those rows. -/
theorem held_x (c : Dev nD) (t : Fin cfg0.N) (o : ℕ) (io) (r : Fin 256) (k : Fin 1536) :
    (View.whole cc0_scratch1).readCov (Val := Elt Ideal)
        [⟨Rect.unit (s := S384x1536) ![128, 0] ![256, 1536] inb_S384x1536_S256x1536_128_0, k0_pay9 (X0_2 m c t)⟩,
          ⟨Rect.unit (s := S384x1536) ![0, 0] ![128, 1536] inb_S384x1536_S128x1536_0_0, k0_pay8 (grid0.coords t) (X0_3 m c t)⟩]
        (Rect.unit (s := S384x1536) ![o, 0] ![256, 1536] io).toLoadRect (ix2 r k)
      = back (m ((c : Thread nD τ).loc main_arg0)) (t.val * 256 + (o + r.val)) k := by
  have ht : t.val < 32 := lt_of_lt_of_eq t.isLt N_0
  refine scratch_at (View.whole cc0_scratch1) 128 256 o _ _ io (k0_pay9 (X0_2 m c t)) (k0_pay8 (grid0.coords t) (X0_3 m c t))
    (fun n k => back (m ((c : Thread nD τ).loc main_arg0)) (t.val * 256 + n) k) rfl (fun r k => ?_) (fun r k => ?_) r k
  · have hr := r.isLt
    unfold back
    rw [dif_pos (by omega)]
    refine Eq.trans (by pointwise [k0_pay9]) ((own_x m c t r k (by omega)).trans (congrArg _ (congrArg₂ ix2 (Fin.ext ?_) rfl)))
    show t.val * 256 + r.val = t.val * 256 + (128 + r.val) - 128
    omega
  · refine (pay8_at _ _ _).trans ?_
    rw [coord]
    unfold back
    have hr := r.isLt
    by_cases h : 0 < t.val
    · rw [if_pos h, dif_pos (by omega)]
      exact (prev_x m c t r k (by omega)).trans (congrArg _ (congrArg₂ ix2 (Fin.ext (by show (2 * t.val - 1) * 128 + r.val = t.val * 256 + r.val - 128; omega)) rfl))
    · rw [if_neg h, dif_neg (by omega)]

/-- The last of the four reads of the second scratch is of the point's own rows, which the store has just left. -/
theorem held_own (c : Dev nD) (t : Fin cfg0.N) (r : Fin 256) (k : Fin 1536) :
    k0_pay9 (F := Ideal) (X0_2 m c t) (ix2 r k) = back (m ((c : Thread nD τ).loc main_arg0)) (t.val * 256 + (128 + r.val)) k := by
  have ht : t.val < 32 := lt_of_lt_of_eq t.isLt N_0
  have hr := r.isLt
  unfold back
  rw [dif_pos (by omega)]
  refine Eq.trans (by pointwise [k0_pay9]) ((own_x m c t r k (by omega)).trans (congrArg _ (congrArg₂ ix2 (Fin.ext ?_) rfl)))
  show t.val * 256 + r.val = t.val * 256 + (128 + r.val) - 128
  omega

/-- The gradient of the inputs after the launch. -/
theorem final_dx (c : Dev nD) : (dats m 0 c).arrAt 5 (cfgs 0).N = val_main_v85 (F := Ideal) (m ((c : Thread nD τ).loc main_arg1)) (m ((c : Thread nD τ).loc main_arg2)) := by
  refine (dats m 0 c).arrAt_eq_of_covers 5 _ (by decide +kernel) fun t hf y => ?_
  have ht : t.val < 32 := lt_of_lt_of_eq t.isLt N_0
  obtain_idx j : S8192x1536 := [t.val * 256 + (y 0 : ℕ), (y 1 : ℕ)] with hj
  have he : (win0_5.blk t).view.emb y = j := by blk_ext [idx t]
  have e1 : y 1 = j 1 := Fin.ext hj1.symm
  have hy : (y 0).val < 256 := (y 0).isLt
  blk_simp [idx t]
  rw [after0_5]
  refine Eq.trans ?_ (congrArg _ he).symm
  refine Eq.trans ?_ ((congrArg _ (eq_ix2 j)).trans (ref_dx _ _ (j 0) (j 1))).symm
  by_cases h : t.val % 32 = 0
  on_goal 1 => rw [outsAt0_A m c t h]
  on_goal 2 => rw [outsAt0_B m c t h]
  all_goals
    frame_out
    rw [eq_ix2 y, e1]
    refine (row_dx _ _ _ _ _ _ _ _ (y 0) (j 1)).trans ?_
    refine congrArg₂ (· + ·) (congrArg₂ (· + ·) (congrArg₂ (· + ·)
      (congrArg₂ (· * ·) (own_w m c t 3 _ _) ((own_d m c t (y 0) (j 1) (by omega)).trans (congrArg _ (congrArg₂ ix2 (Fin.ext hj0.symm) rfl))))
      (congrArg₂ (· * ·) (own_w m c t 0 _ _) ((held_d m c t 3 _ (y 0) (j 1)).trans (congrArg (fun n => ahead _ n _) ?_))))
      (congrArg₂ (· * ·) (own_w m c t 1 _ _) ((held_d m c t 2 _ (y 0) (j 1)).trans (congrArg (fun n => ahead _ n _) ?_))))
      (congrArg₂ (· * ·) (own_w m c t 2 _ _) ((held_d m c t 1 _ (y 0) (j 1)).trans (congrArg (fun n => ahead _ n _) ?_)))
    all_goals omega

/-- What grid point `s` adds to row `o` of the weights' gradient. -/
def part (c : Dev nD) (s : ℕ) (o : Fin 4) (k : Fin 1536) : EReal :=
  ∑ r : Fin 256, ahead (m ((c : Thread nD τ).loc main_arg2)) (s * 256 + r.val) k * back (m ((c : Thread nD τ).loc main_arg0)) (s * 256 + (125 + o.val + r.val)) k

theorem own_ahead (c : Dev nD) (t : Fin cfg0.N) (r : Fin 256) (k : Fin 1536) :
    (iblk m c 0 t : Vec Ideal S256x1536 .f32) (ix2 r k) = ahead (m ((c : Thread nD τ).loc main_arg2)) (t.val * 256 + r.val) k := by
  have ht : t.val < 32 := lt_of_lt_of_eq t.isLt N_0
  have hr := r.isLt
  rw [own_d m c t r k (by omega), ahead, dif_pos (by omega)]

theorem first_dw (c : Dev nD) (t : Fin cfg0.N) (h : t.val % 32 = 0) (j : S4x1536.Idx) :
    (outsAt0 m c t.val t.isLt).2.1 j = 0 + part m c t.val (j 0) (j 1) := by
  rw [outsAt0_A m c t h]
  frame_open
  simp (disch := decide) only [↓ View.readCov_skip, ↓ View.readCov_cons_toLoadRect, ↓ View.readCov_fill]
  frame_out
  refine rows_at (fun o k => 0 + part m c t.val o k) _ _ _ _ _ _ _ _ _ (fun k => ?_) (fun k => ?_) (fun k => ?_) (fun k => ?_) j
  · refine (pay12_at _ _ _ k).trans (congrArg₂ (· + ·) (zero4 _) (Finset.sum_congr rfl fun r _ => congrArg₂ (· * ·) (own_ahead m c t r k) (held_x m c t 125 _ r k)))
  · refine (pay13_at _ _ _ k).trans (congrArg₂ (· + ·) (zero4 _) (Finset.sum_congr rfl fun r _ => congrArg₂ (· * ·) (own_ahead m c t r k) (held_x m c t 126 _ r k)))
  · refine (pay1_at _ _ _ k).trans (congrArg₂ (· + ·) (zero4 _) (Finset.sum_congr rfl fun r _ => congrArg₂ (· * ·) (own_ahead m c t r k) (held_x m c t 127 _ r k)))
  · refine (pay2_at _ _ _ k).trans (congrArg₂ (· + ·) (zero4 _) (Finset.sum_congr rfl fun r _ => congrArg₂ (· * ·) (own_ahead m c t r k) (held_own m c t r k)))

theorem prev_row (Q : Vec Ideal S4x1536 .f32) (o : Fin 4) (io) (k : Fin 1536) :
    View.ld (Val := Elt Ideal) Q (Rect.unit (s := S4x1536) ![o.val, 0] ![1, 1536] io) (ix2 0 k) = Q (ix2 o k) :=
  congrArg Q ((eq_ix2 _).trans (congrArg₂ ix2 (Fin.ext (band_row io _)) (Fin.ext (band_col io _))))

theorem next_dw (c : Dev nD) (t : Fin cfg0.N) (h : ¬ t.val % 32 = 0) (j : S4x1536.Idx) :
    (outsAt0 m c t.val t.isLt).2.1 j = (outsAt0 m c (t.val - 1) (Nat.lt_of_le_of_lt (Nat.sub_le _ _) t.isLt)).2.1 j + part m c t.val (j 0) (j 1) := by
  rw [outsAt0_B m c t h]
  frame_out
  generalize (outsAt0 m c (t.val - 1) _).2.1 = Q
  refine Eq.trans (rows_at (fun o k => Q (ix2 o k) + part m c t.val o k) _ _ _ _ _ _ _ _ _ (fun k => ?_) (fun k => ?_) (fun k => ?_) (fun k => ?_) j) ?_
  on_goal 5 => exact congrArg (fun q => Q q + part m c t.val (j 0) (j 1)) (eq_ix2 j).symm
  · refine (pay12_at _ _ _ k).trans (congrArg₂ (· + ·) (prev_row Q 0 _ k) (Finset.sum_congr rfl fun r _ => congrArg₂ (· * ·) (own_ahead m c t r k) (held_x m c t 125 _ r k)))
  · refine (pay13_at _ _ _ k).trans (congrArg₂ (· + ·) (prev_row Q 1 _ k) (Finset.sum_congr rfl fun r _ => congrArg₂ (· * ·) (own_ahead m c t r k) (held_x m c t 126 _ r k)))
  · refine (pay1_at _ _ _ k).trans (congrArg₂ (· + ·) (prev_row Q 2 _ k) (Finset.sum_congr rfl fun r _ => congrArg₂ (· * ·) (own_ahead m c t r k) (held_x m c t 127 _ r k)))
  · refine (pay2_at _ _ _ k).trans (congrArg₂ (· + ·) (prev_row Q 3 _ k) (Finset.sum_congr rfl fun r _ => congrArg₂ (· * ·) (own_ahead m c t r k) (held_x m c t 128 _ r k)))

/-- The last grid point. -/
def final : Fin cfg0.N := ⟨31, lt_of_lt_of_eq (by decide : 31 < 32) N_0.symm⟩

/-- The gradient of the weights after the launch: the sum over the 32 blocks is the sum over all rows. -/
theorem final_dw (c : Dev nD) : (dats m 0 c).arrAt 6 (cfgs 0).N = val_main_v80 (F := Ideal) (m ((c : Thread nD τ).loc main_arg0)) (m ((c : Thread nD τ).loc main_arg2)) := by
  refine (dats m 0 c).arrAt_eq_of_after_last 6 final (by decide +kernel) _ fun j => ?_
  blk_simp
  rw [after0_6, Pipeline.eq_sum_fin_of_reset_step_apply_last (fun n h => (outsAt0 m c n h).2.1) 32 (fun _ => 0) (fun t j => part m c t.val (j 0) (j 1))
    (fun t h j => first_dw m c t h j) (fun t h j => next_dw m c t h j) (le_of_eq N_0) final rfl j, zero_add]
  refine Eq.trans ?_ ((congrArg _ (eq_ix2 j)).trans (ref_dw _ _ (j 0) (j 1))).symm
  unfold part
  refine Fin.sum_mul_add_congr fun s r hl => congrArg₂ (· * ·) (dif_pos hl) (congrArg (fun n => back _ n _) ?_)
  show s.val * 256 + (125 + (j 0).val + r.val) = 125 + (j 0).val + (s.val * 256 + r.val)
  omega

/-- The gradient of the bias after the launch. -/
theorem final_db (c : Dev nD) : (dats m 0 c).arrAt 7 (cfgs 0).N = val_main_v86 (F := Ideal) (m ((c : Thread nD τ).loc main_arg2)) := by
  refine (dats m 0 c).arrAt_eq_of_after_last 7 final (by decide +kernel) _ fun j => ?_
  blk_simp
  rw [after0_7, Pipeline.eq_sum_fin_of_reset_step_apply_last (fun n h => (outsAt0 m c n h).2.2) 32 (fun _ => 0) _
    (fun t h j => by rw [outsAt0_A m c t h]; frame_out; rw [pay3_at, zero5])
    (fun t h j => by rw [outsAt0_B m c t h]; frame_out; rw [pay3_at])
    (le_of_eq N_0) final rfl j, zero_add]
  pointwise [val_main_v86, val_main_v40, val_main_v39, val_main_v38, val_main_cst_3, val_main_cst_4]
  simp only [Finset.univ_unique, Finset.sum_singleton]
  refine Fin.sum_mul_add_congr fun s k hl => ?_
  blk_point [iblk, V, idx s]

/-- The reference runs to its end with its arguments unchanged. -/
theorem frame_reference : Cert.quiescent_RConvIdeal := fun m ρ _ =>
  (θ_run Cert.RConvIdeal.defs _ _).mono
    (fun r h => ⟨fun c => (h c).2.2.2, sem_eq_zero_of_no_sems (by decide) r.2⟩) (Cert.RConvIdeal.Value.run m ρ)

/-- Kernel and reference compute the same three arrays. -/
theorem algebraic : Cert.algebraic_KConvIdeal_RConvIdeal := by
  pair_intro
  · run_from Cert.KConvIdeal.Value.run_blocks m g
  · run_from Cert.RConvIdeal.Value.run m' g'
    · rw [final_dx]; rw [val_main_v85_eq]
    · rw [final_dw]; rw [val_main_v80_eq]
    · rw [final_db]; rw [val_main_v86_eq]

end Cert.ConvValue
-- ==== Proof.FfnValue.lean ====
module

public import proofs.«01_k».proof.Defs
public import Idealize.ShloMosaic.Lib.Claim
public import proofs.«01_k».proof.Proof.Gen.KFfnIdeal.Value
public import proofs.«01_k».proof.Proof.Gen.RFfnIdeal.Read
public import Idealize.ShloMosaic.Lib.Pipeline.ValueKit
public import Idealize.ShloMosaic.Lib.Pointwise
public import Idealize.ShloMosaic.Lib.StableHlo.ReadAt

@[expose] public section

/-! The gradient of the gated unit `silu(gate) · up` through the product with the down weights: each of the two blocks the kernel stores is the reference's block. -/

set_option maxRecDepth 16384

noncomputable section

namespace Cert.FfnValue

open Idealize.ShloMosaic Idealize.ShloMosaic.TcCoe Idealize.SL.Sem
open Cert.KFfnIdeal Cert.KFfnIdeal.Gen Cert.RFfnIdeal.Read

/-- One entry of the gate's gradient. -/
theorem gate_at (d : FVec Ideal S512x1024 .bf16) (w : FVec Ideal S1x1408x1024 .f32) (a b : FVec Ideal S1x512x1408 .bf16)
    (GU : FVec Ideal S8192x5632 .f32) (W : FVec Ideal S2816x1024 .f32) (D : FVec Ideal S8192x1024 .f32) (r : Fin 512) (q : Fin 1408)
    (R : Fin 8192) (Q : Fin 2816) (hd : ∀ k, d (ix2 r k) = D (ix2 R k)) (hw : ∀ k, w (ix3 0 q k) = W (ix2 Q k))
    (ha : a (ix3 0 r q) = val_main_v0 (F := Ideal) GU (ix2 R Q)) (hb : b (ix3 0 r q) = val_main_v1 (F := Ideal) GU (ix2 R Q)) :
    k0_pay4 (F := Ideal) d w a b (ix3 0 r q) = val_main_v8 (F := Ideal) GU W D (ix2 R Q) := by
  pointwise [k0_pay4, k0_pay3, k0_pay2, k0_pay1, val_main_v8, val_main_call1_v2, val_main_call1_v1, val_main_call1_v0, val_main_v7, val_main_v5, val_main_v2_1, val_main_v2_2, val_main_call0_v7, val_main_call0_v6, val_main_call0_cst_1, val_main_call0_v4, val_main_call0_cst_0, val_main_call0_v3, val_main_call0_v2, val_main_call0_cst, val_main_call0_v1, val_main_call0_v0]
  simp only [hd, hw, ha, hb, Ideal.logistic]

/-- One entry of the other factor's gradient. -/
theorem up_at (d : FVec Ideal S512x1024 .bf16) (w : FVec Ideal S1x1408x1024 .f32) (a : FVec Ideal S1x512x1408 .bf16)
    (GU : FVec Ideal S8192x5632 .f32) (W : FVec Ideal S2816x1024 .f32) (D : FVec Ideal S8192x1024 .f32) (r : Fin 512) (q : Fin 1408)
    (R : Fin 8192) (Q : Fin 2816) (hd : ∀ k, d (ix2 r k) = D (ix2 R k)) (hw : ∀ k, w (ix3 0 q k) = W (ix2 Q k))
    (ha : a (ix3 0 r q) = val_main_v0 (F := Ideal) GU (ix2 R Q)) :
    k0_pay5 (F := Ideal) d w a (ix3 0 r q) = val_main_v6 (F := Ideal) GU W D (ix2 R Q) := by
  pointwise [k0_pay5, k0_pay3, k0_pay2, k0_pay1, val_main_v6, val_main_v2_0, val_main_v5, val_main_v2_2, val_main_call0_v4, val_main_call0_cst_0, val_main_call0_v3, val_main_call0_v2, val_main_call0_cst, val_main_call0_v1, val_main_call0_v0]
  simp only [hd, hw, ha, Ideal.logistic]

/-- The reference's first slab is the gate's gradient, its second the other factor's. -/
theorem slabs (GU : FVec Ideal S8192x5632 .f32) (W : FVec Ideal S2816x1024 .f32) (D : FVec Ideal S8192x1024 .f32) (R : Fin 8192) (Q : Fin 2816) :
    val_main_v15 (F := Ideal) GU W D (ix3 0 R Q) = val_main_v8 (F := Ideal) GU W D (ix2 R Q)
      ∧ val_main_v15 (F := Ideal) GU W D (ix3 1 R Q) = val_main_v6 (F := Ideal) GU W D (ix2 R Q) := by
  constructor
  · rw [val_main_v15]
    generalize hA : val_main_v8 (F := Ideal) GU W D = A
    pointwise [val_main_v14, val_main_v13, val_main_v12, val_main_v11, val_main_v10, val_main_v9, hA]
  · rw [val_main_v15]
    generalize hB : val_main_v6 (F := Ideal) GU W D = B
    pointwise [val_main_v14, val_main_v13, val_main_v12, val_main_v11, val_main_v10, val_main_v9, hB]

/-- Grid point `t` holds the rows `512 (t / 2) …` and the columns `1408 (t % 2) …`. -/
theorem idx : ∀ t : Fin cfg0.N, win0_0.index t = ![t.val / 2, 0] ∧ win0_1.index t = ![0, t.val % 2, 0]
    ∧ win0_2.index t = ![0, t.val / 2, t.val % 2] ∧ win0_3.index t = ![0, t.val / 2, t.val % 2] :=
  (by decide +kernel : ∀ t : Fin grid0.N, _)

variable (m : (ℓ : Loc nD τ sig) → Buf (Elt Ideal) ℓ)

/-- A block of the incoming gradient's rows, -/
theorem own_d (c : Dev nD) (t : Fin cfg0.N) (r : Fin 512) (R : Fin 8192) (k : Fin 1024) (hR : (R : ℕ) = t.val / 2 * 512 + r) :
    View.ld (iblk m c 0 t) r0_0 (ix2 r k) = (m ((c : Thread nD τ).loc main_arg2) : S8192x1024.Idx → EReal) (ix2 R k) := by
  blk_point [iblk, V, idx t]

/-- of the weights' rows, -/
theorem own_w (c : Dev nD) (t : Fin cfg0.N) (q : Fin 1408) (Q : Fin 2816) (k : Fin 1024) (hQ : (Q : ℕ) = t.val % 2 * 1408 + q) :
    View.ld (iblk m c 1 t) r0_1 (ix3 0 q k) = (m ((c : Thread nD τ).loc main_arg1) : S2816x1024.Idx → EReal) (ix2 Q k) := by
  have a : r0_1.idx (ix3 0 q k) = ix3 0 q k := by
    funext a
    match a with
    | ⟨0, _⟩ => rfl
    | ⟨1, _⟩ => exact Fin.ext (by show 0 + 1 * q.val = q.val; omega)
    | ⟨2, _⟩ => exact Fin.ext (by show 0 + 1 * k.val = k.val; omega)
  have e : (win0_1.blk t).view.emb (ix3 0 q k) = ix3 0 Q k := by blk_ext [idx t]
  rw [← a] at e
  refine (congrArg (V m c main_v7) e).trans ?_
  unfold V
  after_reads_at

/-- of the gate -/
theorem own_gate (c : Dev nD) (t : Fin cfg0.N) (r : Fin 512) (R : Fin 8192) (q : Fin 1408) (Q : Fin 2816)
    (hR : (R : ℕ) = t.val / 2 * 512 + r) (hQ : (Q : ℕ) = t.val % 2 * 1408 + q) :
    View.ld (iblk m c 2 t) r0_2 (ix3 0 r q) = val_main_v0 (F := Ideal) (m ((c : Thread nD τ).loc main_arg0)) (ix2 R Q) := by
  have a : r0_2.idx (ix3 0 r q) = ix3 0 r q := by
    funext a
    match a with
    | ⟨0, _⟩ => rfl
    | ⟨1, _⟩ => exact Fin.ext (by show 0 + 1 * r.val = r.val; omega)
    | ⟨2, _⟩ => exact Fin.ext (by show 0 + 1 * q.val = q.val; omega)
  have e : (win0_2.blk t).view.emb (ix3 0 r q) = ix3 0 R Q := by blk_ext [idx t]
  rw [← a] at e
  refine (congrArg (V m c main_v6) e).trans ?_
  unfold V
  after_reads_at
  pointwise [val_main_v0]
  after_reads_at

/-- and of the factor beside it. -/
theorem own_up (c : Dev nD) (t : Fin cfg0.N) (r : Fin 512) (R : Fin 8192) (q : Fin 1408) (Q : Fin 2816)
    (hR : (R : ℕ) = t.val / 2 * 512 + r) (hQ : (Q : ℕ) = t.val % 2 * 1408 + q) :
    View.ld (iblk m c 2 t) r0_3 (ix3 0 r q) = val_main_v1 (F := Ideal) (m ((c : Thread nD τ).loc main_arg0)) (ix2 R Q) := by
  have a : r0_3.idx (ix3 0 r q) = ix3 1 r q := by
    funext a
    match a with
    | ⟨0, _⟩ => rfl
    | ⟨1, _⟩ => exact Fin.ext (by show 0 + 1 * r.val = r.val; omega)
    | ⟨2, _⟩ => exact Fin.ext (by show 0 + 1 * q.val = q.val; omega)
  have e : (win0_2.blk t).view.emb (ix3 1 r q) = ix3 1 R Q := by blk_ext [idx t]
  rw [← a] at e
  refine (congrArg (V m c main_v6) e).trans ?_
  unfold V
  after_reads_at
  pointwise [val_main_v1]
  after_reads_at

/-- The array after the launch. -/
theorem final (c : Dev nD) : (dats m 0 c).arrAt 3 (cfgs 0).N = val_main_v15 (F := Ideal) (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp [idx t]
  rw [after0_3, out0_3]
  have ht : t.val < 32 := lt_of_lt_of_eq t.isLt N_0
  refine View.canon_eq_of_allAt _ y _ (cover0_3 _ _ y) (View.allAt_cons_unit _ _ _ _ _ ?_ (View.allAt_cons_unit _ _ _ _ _ ?_ (View.allAt_nil _ _)))
  · intro (x : S1x512x1408.Idx) hx
    obtain_idx j : S8192x2816 := [t.val / 2 * 512 + (x 1 : ℕ), t.val % 2 * 1408 + (x 2 : ℕ)] with hj
    have x0 : x 0 = (0 : Fin 1) := Subsingleton.elim (α := Fin 1) _ _
    have hy0 : (y 0 : ℕ) = 1 + (x 0 : ℕ) := hx 0
    have hy1 : (y 1 : ℕ) = 0 + (x 1 : ℕ) := hx 1
    have hy2 : (y 2 : ℕ) = 0 + (x 2 : ℕ) := hx 2
    have x0' : (x 0 : ℕ) = 0 := congrArg Fin.val x0
    have he : (win0_3.blk t).view.emb y = ix3 1 (j 0) (j 1) := by blk_ext [idx t]
    rw [he, eq_ix3 x, x0]
    exact (up_at _ _ _ _ _ _ (x 1) (x 2) (j 0) (j 1) (fun k => own_d m c t _ _ k hj0) (fun k => own_w m c t _ _ k hj1)
      (own_gate m c t _ _ _ _ hj0 hj1)).trans (slabs _ _ _ _ _).2.symm
  · intro (x : S1x512x1408.Idx) hx
    obtain_idx j : S8192x2816 := [t.val / 2 * 512 + (x 1 : ℕ), t.val % 2 * 1408 + (x 2 : ℕ)] with hj
    have x0 : x 0 = (0 : Fin 1) := Subsingleton.elim (α := Fin 1) _ _
    have hy0 : (y 0 : ℕ) = 0 + (x 0 : ℕ) := hx 0
    have hy1 : (y 1 : ℕ) = 0 + (x 1 : ℕ) := hx 1
    have hy2 : (y 2 : ℕ) = 0 + (x 2 : ℕ) := hx 2
    have x0' : (x 0 : ℕ) = 0 := congrArg Fin.val x0
    have he : (win0_3.blk t).view.emb y = ix3 0 (j 0) (j 1) := by blk_ext [idx t]
    rw [he, eq_ix3 x, x0]
    exact (gate_at _ _ _ _ _ _ _ (x 1) (x 2) (j 0) (j 1) (fun k => own_d m c t _ _ k hj0) (fun k => own_w m c t _ _ k hj1)
      (own_gate m c t _ _ _ _ hj0 hj1) (own_up m c t _ _ _ _ hj0 hj1)).trans (slabs _ _ _ _ _).1.symm

/-- The reference runs to its end with its arguments unchanged. -/
theorem frame_reference : Cert.quiescent_RFfnIdeal := fun m ρ _ =>
  (θ_run Cert.RFfnIdeal.defs _ _).mono
    (fun r h => ⟨fun c => (h c).2, sem_eq_zero_of_no_sems (by decide) r.2⟩) (Cert.RFfnIdeal.Value.run m ρ)

/-- Kernel and reference compute the same array. -/
theorem algebraic : Cert.algebraic_KFfnIdeal_RFfnIdeal := by
  pair_intro
  · run_from Cert.KFfnIdeal.Value.run_blocks m g
  · run_from Cert.RFfnIdeal.Value.run m' g'
    rw [final]; rw [val_main_v15_eq, (hagree c).1, (hagree c).2.1, (hagree c).2.2]

end Cert.FfnValue
-- ==== Proof.LossValue.lean ====
module

public import proofs.«01_k».proof.Defs
public import Idealize.ShloMosaic.Lib.Claim
public import proofs.«01_k».proof.Proof.Gen.KLossIdeal.Frame
public import proofs.«01_k».proof.Proof.Gen.RLossIdeal.Read
public import Idealize.ShloMosaic.Lib.Pipeline.ValueKit
public import Idealize.ShloMosaic.Lib.Pointwise
public import Idealize.ShloMosaic.Lib.StableHlo.ReadAt

@[expose] public section

/-! The loss and the gradient it sends back: the columns' sums of squares the kernel accumulates over the blocks of rows add up to the mean over all entries. -/

set_option maxRecDepth 16384

noncomputable section

namespace Cert.LossValue

open Idealize.ShloMosaic Idealize.ShloMosaic.TcCoe Idealize.SL.Sem
open Cert.KLossIdeal Cert.KLossIdeal.Gen Cert.RLossIdeal.Read

/-- Grid point `t` holds the rows `512 t …`; the row of sums is one block. -/
theorem idx : ∀ t : Fin cfg0.N, win0_0.index t = ![t.val, 0] ∧ win0_1.index t = ![t.val, 0] ∧ win0_2.index t = ![t.val, 0]
    ∧ win0_3.index t = ![0, 0] :=
  (by decide +kernel : ∀ t : Fin grid0.N, _)

variable (m : (ℓ : Loc nD τ sig) → Buf (Elt Ideal) ℓ)

/-- A half, -/
theorem lit_half : Ideal.ofBits .f32 1056964608#32 = ((1 / 2 : ℝ) : EReal) := by
  simp [Ideal.ofBits, Ideal.ieee, -EReal.coe_mul]; norm_num

/-- two, -/
theorem lit_two : Ideal.ofBits .f32 1073741824#32 = ((2 : ℝ) : EReal) := by
  simp [Ideal.ofBits, Ideal.ieee, -EReal.coe_mul]; norm_num

/-- the row's length -/
theorem lit_row : Ideal.ofBits .f32 1149239296#32 = ((1024 : ℝ) : EReal) := by
  simp [Ideal.ofBits, Ideal.ieee, -EReal.coe_mul]; norm_num

/-- and its reciprocal. -/
theorem lit_inv : Ideal.ofBits .f32 981467136#32 = ((1 / 1024 : ℝ) : EReal) := by
  simp [Ideal.ofBits, Ideal.ieee, -EReal.coe_mul]; norm_num

/-- One entry of the gradient. -/
theorem dh_at (a b : FVec Ideal S512x1024 .f32) (Y T : FVec Ideal S8192x1024 .f32) (r : Fin 512) (R : Fin 8192) (k : Fin 1024)
    (ha : a (ix2 r k) = Y (ix2 R k)) (hb : b (ix2 r k) = T (ix2 R k)) :
    k0_pay2 (F := Ideal) a b (ix2 r k) = val_main_v14 (F := Ideal) Y T (ix2 R k) := by
  pointwise [k0_pay2, k0_pay1, val_main_v14, val_main_v13, val_main_v12, val_main_v11, val_main_cst_6, val_main_v10, val_main_v9, val_main_cst_5, val_main_cst_4, val_main_v3, val_main_v2, val_main_cst, val_main_v0]
  rw [ha, hb, lit_half, lit_two, lit_row, lit_inv, Ideal.div_coe (by norm_num : (1024 : ℝ) ≠ 0), ← EReal.coe_mul, ← mul_assoc, ← EReal.coe_mul, mul_comm]
  norm_num

/-- The gradient's array after the launch. -/
theorem final_dh (c : Dev nD) : (dats m 0 c).arrAt 2 (cfgs 0).N = val_main_v14 (F := Ideal) (m ((c : Thread nD τ).loc main_arg0))
    (m ((c : Thread nD τ).loc main_arg1)) := by
  refine (dats m 0 c).arrAt_eq_of_covers 2 _ (by decide +kernel) fun t hf y => ?_
  blk_simp [idx t]
  rw [after0_2]
  have key : k0_pay2 (F := Ideal) (iblk m c 0 t) (iblk m c 1 t) y
      = val_main_v14 (F := Ideal) (m ((c : Thread nD τ).loc main_arg0)) (m ((c : Thread nD τ).loc main_arg1)) ((win0_2.blk t).view.emb y) := by
    have ht : t.val < 16 := lt_of_lt_of_eq t.isLt N_0
    obtain_idx j : S8192x1024 := [t.val * 512 + (y 0 : ℕ), (y 1 : ℕ)] with hj
    have he : (win0_2.blk t).view.emb y = j := by blk_ext [idx t]
    rw [he, eq_ix2 j, eq_ix2 y]
    have e1 : y 1 = j 1 := Fin.ext hj1.symm
    rw [e1]
    exact dh_at _ _ _ _ (y 0) (j 0) (j 1) (by blk_point [iblk, V, idx t]) (by blk_point [iblk, V, idx t])
  by_cases h : t.val % 16 = 0
  · rw [outsAt0_A m c t h]; frame_out; exact key
  · rw [outsAt0_B m c t h]; frame_out; exact key

/-- The square of the error of one entry. -/
def sq (Y T : FVec Ideal S8192x1024 .f32) (R : Fin 8192) (k : Fin 1024) : EReal :=
  (Y (ix2 R k) - T (ix2 R k)) * (Y (ix2 R k) - T (ix2 R k))

/-- The accumulator starts at zero. -/
theorem hzero (j : S1x1024.Idx) : k0_pay3 (F := Ideal) j = 0 := by pointwise! [k0_pay3]

/-- A step adds its block's sums of squares to the accumulator. -/
theorem hpay (a b : FVec Ideal S512x1024 .f32) (v : Vec Ideal S1x1024 .f32) (j : S1x1024.Idx) :
    k0_pay4 a b v j = v j + ∑ r : Fin 512, k0_pay1 (F := Ideal) a b (ix2 r (j 1)) * k0_pay1 (F := Ideal) a b (ix2 r (j 1)) := by
  pointwise [k0_pay4]

/-- The row of sums after the launch: each column's sum of squares over all rows. -/
theorem final_sq (c : Dev nD) : (dats m 0 c).arrAt 3 (cfgs 0).N
    = (fun i : S1x1024.Idx => ∑ R, sq (m ((c : Thread nD τ).loc main_arg0)) (m ((c : Thread nD τ).loc main_arg1)) R (i 1)) := by
  refine (dats m 0 c).arrAt_eq_of_after_last 3 t0_15 (by decide +kernel) _ fun j => ?_
  blk_simp
  rw [after0_3, Pipeline.eq_sum_fin_of_reset_step_apply_last (fun n h => (outsAt0 m c n h).2) 16 (fun _ => 0) _
    (fun t h j => by rw [outsAt0_A m c t h]; frame_out; rw [hpay, hzero])
    (fun t h j => by rw [outsAt0_B m c t h]; frame_out; rw [hpay])
    (le_of_eq N_0) t0_15 rfl j, zero_add]
  refine Fin.sum_mul_add_congr fun s k hl => ?_
  unfold sq
  pointwise [k0_pay1]
  blk_point [iblk, V, idx s]

/-- A square is not negative. -/
theorem sq_nonneg (Y T : FVec Ideal S8192x1024 .f32) (R : Fin 8192) (k : Fin 1024) : 0 ≤ sq Y T R k := by
  unfold sq
  generalize Y (ix2 R k) - T (ix2 R k) = x
  rcases le_total 0 x with h | h
  · exact EReal.mul_nonneg h h
  · rw [← neg_mul_neg]
    exact EReal.mul_nonneg (EReal.neg_nonneg.mpr h) (EReal.neg_nonneg.mpr h)

/-- A factor that is a number passes into a sum of terms that are not negative. -/
theorem sum_scaled {ι : Type} (s : Finset ι) (f : ι → EReal) (h : ∀ i, 0 ≤ f i) (r : ℝ) :
    (∑ i ∈ s, f i) * (r : EReal) = ∑ i ∈ s, f i * (r : EReal) := by
  classical
  induction s using Finset.induction_on with
  | empty => simp
  | insert a s ha ih =>
    rw [Finset.sum_insert ha, Finset.sum_insert ha, ← ih]
    exact EReal.right_distrib_of_nonneg (h a) (Finset.sum_nonneg fun i _ => h i)

/-- The reference's loss: half the mean over the columns, summed over the rows. -/
theorem ref_loss (Y T : FVec Ideal S8192x1024 .f32) (i : S_.Idx) : val_main_v8 (F := Ideal) Y T i
    = ((1 / 2 : ℝ) : EReal) * ∑ R, (∑ k, sq Y T R k) * ((1 / 1024 : ℝ) : EReal) := by
  pointwise [val_main_v8, val_main_v7, val_main_v6, val_main_v5, val_main_v4, val_main_v1, val_main_v0, val_main_cst_0, val_main_cst_1, val_main_cst_2, val_main_cst_3]
  rw [lit_half, lit_row]
  refine congrArg _ (Finset.sum_congr rfl fun R _ => ?_)
  rw [Ideal.div_coe (by norm_num : (1024 : ℝ) ≠ 0)]
  rfl

variable {m} in
/-- The contents the lines after the launch start from. -/
def launched (c : Dev nD) : Valuation τ sig (Elt Ideal) := Pipeline.withArrays (cfgs 0).spec c (V0 m c) fun w => (dats m 0 c).arrAt w (cfgs 0).N

theorem launched_sq (c : Dev nD) : launched (m := m) c (no_index (Proc.devRef .tc main_v0_1))
    = (fun i : S1x1024.Idx => ∑ R, sq (m ((c : Thread nD τ).loc main_arg0)) (m ((c : Thread nD τ).loc main_arg1)) R (i 1)) :=
  (Pipeline.withArrays_arr (cfgs 0).spec (by decide) c (V0 m c) (fun w => (dats m 0 c).arrAt w (cfgs 0).N) 3).trans (final_sq m c)

/-- The loss after the host lines. -/
theorem tail_loss (c : Dev nD) : Pipeline.afterTail₀ cfgs (dats m) 0 (V0 m) [hostOps1] c main_v3
    = val_main_v8 (F := Ideal) (m ((c : Thread nD τ).loc main_arg0)) (m ((c : Thread nD τ).loc main_arg1)) := by
  funext i
  rw [ref_loss]
  unfold Pipeline.afterTail₀
  change StableHlo.after _ (launched c) _ _ = _
  after_reads_at
  rw [launched_sq, lit_half, lit_row, Ideal.div_coe (by norm_num : (1024 : ℝ) ≠ 0), ← sum_scaled _ _ (fun R => Finset.sum_nonneg fun k _ => sq_nonneg _ _ R k), ← mul_assoc]
  simp only [Fin.sum_univ_one]
  refine congrArg (· * ((1 / 1024 : ℝ) : EReal)) (congrArg (((1 / 2 : ℝ) : EReal) * ·) ?_)
  exact Finset.sum_comm

/-- The run with both results named and the arguments unchanged. -/
theorem run_results (ρ : Dev nD → PrngReg) : θ_run defs (onTc (τ := τ) (main (F := Ideal))) ⟨m, fun _ => 0, ρ⟩ fun r => ∀ c : Dev nD,
      r.2.mem ((c : Thread nD τ).loc main_v3) = Pipeline.afterTail₀ cfgs (dats m) 0 (V0 m) [hostOps1] c main_v3
      ∧ r.2.mem ((c : Thread nD τ).loc main_v0_0) = (dats m 0 c).arrAt 2 (cfgs 0).N
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h.1 c).2 main_v3 (Pipeline.mem_restRefs_of main_v3 (by decide) (by decide)), (h.1 c).1 2, h.2 c⟩)
    (θ_run_and (run_main m ρ) (unchanged m ρ))

/-- The reference runs to its end with its arguments unchanged. -/
theorem frame_reference : Cert.quiescent_RLossIdeal := fun m ρ _ =>
  (θ_run Cert.RLossIdeal.defs _ _).mono
    (fun r h => ⟨fun c => (h c).2.2, sem_eq_zero_of_no_sems (by decide) r.2⟩) (Cert.RLossIdeal.Value.run m ρ)

/-- Kernel and reference compute the same loss and the same gradient. -/
theorem algebraic : Cert.algebraic_KLossIdeal_RLossIdeal := by
  pair_intro
  · run_from run_results m g
  · run_from Cert.RLossIdeal.Value.run m' g'
    · rw [tail_loss, val_main_v8_eq]
    · rw [final_dh, val_main_v14_eq]

end Cert.LossValue
-- ==== Proof.QropeValue.lean ====
module

public import proofs.«01_k».proof.Defs
public import Idealize.ShloMosaic.Lib.Claim
public import proofs.«01_k».proof.Proof.Gen.KQropeIdeal.Frame
public import proofs.«01_k».proof.Proof.Gen.RQropeIdeal.Read
public import Idealize.ShloMosaic.Lib.Pipeline.ValueKit
public import Idealize.ShloMosaic.Lib.Pointwise
public import Idealize.ShloMosaic.Lib.StableHlo.ReadAt

@[expose] public section

/-! The gradient through the rotation of the queries: the kernel scales the padded gradient, multiplies it once by the cosines and once by the sines, and the host lines after it add the two halves of each pair. -/

set_option maxRecDepth 16384

noncomputable section

namespace Cert.QropeValue

open Idealize.ShloMosaic Idealize.ShloMosaic.TcCoe Idealize.SL.Sem
open Cert.KQropeIdeal Cert.KQropeIdeal.Gen Cert.RQropeIdeal.Read

/-- Grid point `t` holds the rows `256 t …`. -/
theorem idx : ∀ t : Fin cfg0.N, win0_0.index t = ![t.val, 0] ∧ win0_1.index t = ![t.val, 0] ∧ win0_2.index t = ![t.val, 0]
    ∧ win0_3.index t = ![t.val, 0] :=
  (by decide +kernel : ∀ t : Fin grid0.N, _)

variable (m : (ℓ : Loc nD τ sig) → Buf (Elt Ideal) ℓ)

/-- The scale. -/
def scale : EReal := Ideal.ofBits .f32 0x3D93CD3A#32

/-- The 32 pieces of a block of rows: each head's columns, scaled, by the cosines and by the sines. -/
def piece (x : FVec Ideal S256x4096 .f32) (c s : FVec Ideal S256x256 .f32) : Fin 32 → FVec Ideal S256x256 .f32 :=
  ![k0_pay14 x c, k0_pay17 x c, k0_pay20 x c, k0_pay23 x c, k0_pay26 x c, k0_pay29 x c, k0_pay32 x c, k0_pay35 x c,
    mulf (k0_pay1 (k0_pay10 x)) (k0_pay11 c), mulf (k0_pay2 (k0_pay10 x)) (k0_pay11 c), mulf (k0_pay3 (k0_pay10 x)) (k0_pay11 c), mulf (k0_pay4 (k0_pay10 x)) (k0_pay11 c),
    mulf (k0_pay5 (k0_pay10 x)) (k0_pay11 c), mulf (k0_pay6 (k0_pay10 x)) (k0_pay11 c), mulf (k0_pay7 (k0_pay10 x)) (k0_pay11 c), mulf (k0_pay8 (k0_pay10 x)) (k0_pay11 c),
    k0_pay15 x s, k0_pay18 x s, k0_pay21 x s, k0_pay24 x s, k0_pay27 x s, k0_pay30 x s, k0_pay33 x s, mulf (k0_pay34 x) (k0_pay12 s),
    mulf (k0_pay1 (k0_pay10 x)) (k0_pay12 s), mulf (k0_pay2 (k0_pay10 x)) (k0_pay12 s), mulf (k0_pay3 (k0_pay10 x)) (k0_pay12 s), mulf (k0_pay4 (k0_pay10 x)) (k0_pay12 s),
    mulf (k0_pay5 (k0_pay10 x)) (k0_pay12 s), mulf (k0_pay6 (k0_pay10 x)) (k0_pay12 s), mulf (k0_pay7 (k0_pay10 x)) (k0_pay12 s), mulf (k0_pay8 (k0_pay10 x)) (k0_pay12 s)]

set_option maxHeartbeats 2000000 in
/-- One entry of a piece. -/
theorem piece_at (x : FVec Ideal S256x4096 .f32) (c s : FVec Ideal S256x256 .f32) (n : Fin 32) (q k : Fin 256) (K : Fin 4096)
    (hK : K.val = 256 * (n.val % 16) + k.val) :
    piece x c s n (ix2 q k) = x (ix2 q K) * scale * (if n.val < 16 then c (ix2 q k) else s (ix2 q k)) := by
  obtain ⟨K, hk⟩ := K
  dsimp only at hK
  subst hK
  fin_cases n
  all_goals
    pointwise [piece, scale, k0_pay1, k0_pay2, k0_pay3, k0_pay4, k0_pay5, k0_pay6, k0_pay7, k0_pay8, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35]

set_option maxHeartbeats 2000000 in
/-- One entry of the block the kernel stores. -/
theorem out_at (x : Vec Ideal S256x4096 .f32) (c s : Vec Ideal S256x256 .f32) (q : Fin 256) (l : Fin 8192) (n : Fin 32) (k : Fin 256)
    (hl : l.val = 256 * n.val + k.val) :
    out0_3 (F := Ideal) x c s (ix2 q l) = piece x c s n (ix2 q k) := by
  unfold_out out0_3
  frame_out
  have hx : View.ld x r0_0 = x := View.ld_unit_zero (by funext a; fin_cases a <;> rfl) _ x
  have hc : View.ld c r0_1 = c := View.ld_unit_zero (by funext a; fin_cases a <;> rfl) _ c
  have hs : View.ld s r0_1 = s := View.ld_unit_zero (by funext a; fin_cases a <;> rfl) _ s
  rw [hx, hc, hs]
  have hk : k.val < 256 := k.isLt
  exact concatenate_ofFn_apply (t := S256x8192) (s₁ := S256x256) 1 (piece x c s) concatenates_S256x256_S256x256_S256x256_S256x256_S256x256_S256x256_S256x256_S256x256_S256x256_S256x256_S256x256_S256x256_S256x256_S256x256_S256x256_S256x256_S256x256_S256x256_S256x256_S256x256_S256x256_S256x256_S256x256_S256x256_S256x256_S256x256_S256x256_S256x256_S256x256_S256x256_S256x256_S256x256_S256x8192_d1
    rfl 256 rfl (ix2 q l) n (by show l.val / 256 = n.val; omega) (ix2 q k) (by show k.val = l.val % 256; omega)
    (fun b hb => by match b with | ⟨0, _⟩ => rfl | ⟨1, _⟩ => exact absurd rfl hb)

/-- The head's column a column of the padded row names. -/
def prod (x : FVec Ideal S8192x4096 .f32) (c s : FVec Ideal S8192x256 .f32) : FVec Ideal S8192x8192 .bf16 := fun i =>
  x (ix2 (i 0) ⟨(i 1).val % 4096, Nat.mod_lt _ (by norm_num)⟩) * scale
    * (if (i 1).val < 4096 then c (ix2 (i 0) ⟨(i 1).val % 256, Nat.mod_lt _ (by norm_num)⟩) else s (ix2 (i 0) ⟨(i 1).val % 256, Nat.mod_lt _ (by norm_num)⟩))

/-- The kernel's array after the launch. -/
theorem final_dq (c : Dev nD) : (dats m 0 c).arrAt 3 (cfgs 0).N = prod (V m c main_v9) (V m c main_v4) (V m c main_v6) := by
  refine (dats m 0 c).arrAt_eq_of_covers 3 _ (by decide +kernel) fun t hf y => ?_
  blk_simp [idx t]
  rw [after0_3]
  have ht : t.val < 32 := lt_of_lt_of_eq t.isLt N_0
  obtain_idx j : S8192x8192 := [t.val * 256 + (y 0 : ℕ), (y 1 : ℕ)] with hj
  have he : (win0_3.blk t).view.emb y = j := by blk_ext [idx t]
  rw [he, eq_ix2 y]
  have h1 : (y 1).val < 8192 := (y 1).isLt
  have e1 : (j 1).val = (y 1).val := hj1
  rw [out_at _ _ _ (y 0) (y 1) ⟨(y 1).val / 256, by omega⟩ ⟨(y 1).val % 256, by omega⟩ (by show (y 1).val = 256 * ((y 1).val / 256) + (y 1).val % 256; omega),
    piece_at _ _ _ _ (y 0) _ ⟨(y 1).val % 4096, by omega⟩ (by show (y 1).val % 4096 = 256 * ((y 1).val / 256 % 16) + (y 1).val % 256; omega)]
  unfold prod
  have hif : ((y 1).val / 256 < 16) ↔ (j 1).val < 4096 := by omega
  have ea : iblk m c 0 t (ix2 (y 0) ⟨(y 1).val % 4096, by omega⟩) = V m c main_v9 (ix2 (j 0) ⟨(j 1).val % 4096, by omega⟩) := by
    blk_point [iblk, V, idx t]
  have eb : iblk m c 1 t (ix2 (y 0) ⟨(y 1).val % 256, by omega⟩) = V m c main_v4 (ix2 (j 0) ⟨(j 1).val % 256, by omega⟩) := by
    blk_point [iblk, V, idx t]
  have ec : iblk m c 2 t (ix2 (y 0) ⟨(y 1).val % 256, by omega⟩) = V m c main_v6 (ix2 (j 0) ⟨(j 1).val % 256, by omega⟩) := by
    blk_point [iblk, V, idx t]
  rw [ea, eb, ec]
  simp only [hif]

/-- The padded gradient, -/
theorem pad_at (c : Dev nD) (R : Fin 8192) (h : Fin 16) (k : Fin 192) (K : Fin 4096) (hK : K.val = 256 * h.val + k.val) :
    V m c main_v9 (ix2 R K) = m ((c : Thread nD τ).loc main_arg0) (ix3 R h k) := by
  obtain ⟨K, hk⟩ := K
  dsimp only at hK
  subst hK
  have h1 : k.val < 192 := k.isLt
  unfold V
  after_reads_at
  rw [dif_pos (by omega)]
  after_reads_at
  exact congrArg _ (congrArg₂ (ix3 R) (Fin.ext (by first | rfl | (show (256 * h.val + k.val) / 256 = h.val; omega))) (Fin.ext (by first | rfl | (show (256 * h.val + k.val) % 256 = k.val; omega))))

/-- the cosines behind 128 ones -/
theorem cos_one (c : Dev nD) (R : Fin 8192) (k : Fin 256) (hk : k.val < 128) : V m c main_v4 (ix2 R k) = (1 : EReal) := by
  unfold V
  after_reads_at
  rw [dif_pos hk]

/-- and twice, -/
theorem cos_at (c : Dev nD) (R : Fin 8192) (e : Fin 32) (k : Fin 256) (hk : k.val = 128 + e.val ∨ k.val = 160 + e.val) :
    V m c main_v4 (ix2 R k) = m ((c : Thread nD τ).loc main_arg1) (ix2 R e) := by
  have he : e.val < 32 := e.isLt
  unfold V
  after_reads_at
  rw [dif_neg (by omega)]
  rcases hk with hk | hk
  · rw [dif_pos (by omega)]
    after_reads_at
    exact congrArg _ (congrArg (ix2 R) (Fin.ext (by show k.val - 128 = e.val; omega)))
  · rw [dif_neg (by omega), dif_pos (by omega)]
    after_reads_at
    exact congrArg _ (congrArg (ix2 R) (Fin.ext (by show k.val - 128 - 32 = e.val; omega)))

/-- and the sines. -/
theorem sin_at (c : Dev nD) (R : Fin 8192) (e : Fin 32) (k : Fin 256) (hk : k.val = 128 + e.val ∨ k.val = 160 + e.val) :
    V m c main_v6 (ix2 R k) = m ((c : Thread nD τ).loc main_arg2) (ix2 R e) := by
  have he : e.val < 32 := e.isLt
  unfold V
  after_reads_at
  rw [dif_neg (by omega)]
  rcases hk with hk | hk
  · rw [dif_pos (by omega)]
    after_reads_at
    exact congrArg _ (congrArg (ix2 R) (Fin.ext (by show k.val - 128 = e.val; omega)))
  · rw [dif_neg (by omega), dif_pos (by omega)]
    after_reads_at
    exact congrArg _ (congrArg (ix2 R) (Fin.ext (by show k.val - 128 - 32 = e.val; omega)))

/-- An entry of the product in its first half -/
theorem prod_cos (x : FVec Ideal S8192x4096 .f32) (c s : FVec Ideal S8192x256 .f32) (R : Fin 8192) (l : Fin 8192) (K : Fin 4096) (k : Fin 256)
    (hl : l.val = K.val) (hk : k.val = K.val % 256) : prod x c s (ix2 R l) = x (ix2 R K) * scale * c (ix2 R k) := by
  have h1 : K.val < 4096 := K.isLt
  have e1 : (⟨l.val % 4096, Nat.mod_lt _ (by norm_num)⟩ : Fin 4096) = K := Fin.ext (by show l.val % 4096 = K.val; omega)
  have e2 : (⟨l.val % 256, Nat.mod_lt _ (by norm_num)⟩ : Fin 256) = k := Fin.ext (by show l.val % 256 = k.val; omega)
  show x (ix2 R ⟨l.val % 4096, _⟩) * scale * (if l.val < 4096 then c (ix2 R ⟨l.val % 256, _⟩) else _) = _
  rw [if_pos (by omega), e1, e2]

/-- and in its second. -/
theorem prod_sin (x : FVec Ideal S8192x4096 .f32) (c s : FVec Ideal S8192x256 .f32) (R : Fin 8192) (l : Fin 8192) (K : Fin 4096) (k : Fin 256)
    (hl : l.val = 4096 + K.val) (hk : k.val = K.val % 256) : prod x c s (ix2 R l) = x (ix2 R K) * scale * s (ix2 R k) := by
  have h1 : K.val < 4096 := K.isLt
  have e1 : (⟨l.val % 4096, Nat.mod_lt _ (by norm_num)⟩ : Fin 4096) = K := Fin.ext (by show l.val % 4096 = K.val; omega)
  have e2 : (⟨l.val % 256, Nat.mod_lt _ (by norm_num)⟩ : Fin 256) = k := Fin.ext (by show l.val % 256 = k.val; omega)
  show x (ix2 R ⟨l.val % 4096, _⟩) * scale * (if l.val < 4096 then _ else s (ix2 R ⟨l.val % 256, _⟩)) = _
  rw [if_neg (by omega), e1, e2]

/-- The reference's entries: the columns without position, -/
theorem ref_nope (D : FVec Ideal S8192x16x192 .f32) (C S : FVec Ideal S8192x32 .f32) (R : Fin 8192) (h : Fin 16) (k : Fin 192) (h1 : k.val < 128) :
    val_main_v44 (F := Ideal) D C S (ix3 R h k) = D (ix3 R h k) * scale := by
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v6, val_main_v5, val_main_v4, val_main_v3, val_main_cst_1]
  rw [dif_pos h1]
  rfl

/-- the first of a pair, -/
theorem ref_lo (D : FVec Ideal S8192x16x192 .f32) (C S : FVec Ideal S8192x32 .f32) (R : Fin 8192) (h : Fin 16) (k k' : Fin 192) (e : Fin 32)
    (h1 : k.val = 128 + e.val) (h2 : k'.val = 160 + e.val) :
    val_main_v44 (F := Ideal) D C S (ix3 R h k) = D (ix3 R h k) * scale * C (ix2 R e) + D (ix3 R h k') * scale * S (ix2 R e) := by
  have he : e.val < 32 := e.isLt
  obtain ⟨k, hk⟩ := k
  obtain ⟨k', hk'⟩ := k'
  dsimp only at h1 h2
  subst h1 h2
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v6, val_main_v5, val_main_v4, val_main_v3, val_main_cst_1]
  have a2 : 128 + (32 + e.val) = 160 + e.val := by omega
  simp only [a2]
  exact add_comm _ _

/-- and the second. -/
theorem ref_hi (D : FVec Ideal S8192x16x192 .f32) (C S : FVec Ideal S8192x32 .f32) (R : Fin 8192) (h : Fin 16) (k k' : Fin 192) (e : Fin 32)
    (h1 : k.val = 128 + e.val) (h2 : k'.val = 160 + e.val) :
    val_main_v44 (F := Ideal) D C S (ix3 R h k') = D (ix3 R h k') * scale * C (ix2 R e) - D (ix3 R h k) * scale * S (ix2 R e) := by
  have he : e.val < 32 := e.isLt
  obtain ⟨k, hk⟩ := k
  obtain ⟨k', hk'⟩ := k'
  dsimp only at h1 h2
  subst h1 h2
  pointwise [val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v6, val_main_v5, val_main_v4, val_main_v3, val_main_cst_1]
  rw [dif_neg (by omega), dif_neg (by omega), sub_eq_add_neg]
  have a1 : 160 + e.val - 128 - 32 = e.val := by omega
  have a2 : 128 + (32 + e.val) = 160 + e.val := by omega
  simp only [a1, a2]
  exact congrArg (_ + ·) (EReal.neg_mul _ _)

variable {m} in
/-- The contents the lines after the launch start from. -/
def launched (c : Dev nD) : Valuation τ sig (Elt Ideal) := Pipeline.withArrays (cfgs 0).spec c (V0 m c) fun w => (dats m 0 c).arrAt w (cfgs 0).N

theorem launched_dq (c : Dev nD) : launched (m := m) c (no_index (Proc.devRef .tc main_v10)) = prod (V m c main_v9) (V m c main_v4) (V m c main_v6) :=
  (Pipeline.withArrays_arr (cfgs 0).spec (by decide) c (V0 m c) (fun w => (dats m 0 c).arrAt w (cfgs 0).N) 3).trans (final_dq m c)

/-- The kernel's array as the host lines find it. -/
def arr (c : Dev nD) : S8192x8192.Idx → EReal := launched (m := m) c (Proc.devRef .tc main_v10)

theorem arr_eq (c : Dev nD) : arr m c = prod (V m c main_v9) (V m c main_v4) (V m c main_v6) := launched_dq m c

/-- The host lines after the launch: the columns without position, -/
theorem tail_nope (c : Dev nD) (R : Fin 8192) (h : Fin 16) (k : Fin 192) (h1 : k.val < 128) (l : Fin 8192) (hl : l.val = 256 * h.val + k.val) :
    Pipeline.afterTail₀ cfgs (dats m) 0 (V0 m) [hostOps1] c main_v22 (ix3 R h k) = arr m c (ix2 R l) := by
  unfold Pipeline.afterTail₀
  change StableHlo.after _ (launched c) _ _ = _
  after_reads_at
  refine (dif_pos h1).trans ((congrFun (StableHlo.unary_result' _ _ _ _) _).trans ?_)
  after_reads_at
  exact congrArg (arr m c) (congrArg (ix2 R) (Fin.ext (by show h.val * 256 + k.val = l.val; omega)))

/-- the first of a pair, -/
theorem tail_lo (c : Dev nD) (R : Fin 8192) (h : Fin 16) (k : Fin 192) (e : Fin 32) (h1 : k.val = 128 + e.val)
    (l l' : Fin 8192) (hl : l.val = 256 * h.val + (128 + e.val)) (hl' : l'.val = 4096 + (256 * h.val + (160 + e.val))) :
    Pipeline.afterTail₀ cfgs (dats m) 0 (V0 m) [hostOps1] c main_v22 (ix3 R h k)
      = arr m c (ix2 R l) + arr m c (ix2 R l') := by
  have he : e.val < 32 := e.isLt
  unfold Pipeline.afterTail₀
  change StableHlo.after _ (launched c) _ _ = _
  after_reads_at
  refine (dif_neg (by omega)).trans ((dif_pos (by omega)).trans ((congrFun (StableHlo.binary_result' _ _ _ _ _) _).trans ?_))
  after_reads_at
  exact congrArg₂ (· + ·) (congrArg (arr m c) (congrArg (ix2 R) (Fin.ext (by show h.val * 256 + (128 + (k.val - 128)) = l.val; omega))))
    (congrArg (arr m c) (congrArg (ix2 R) (Fin.ext (by show 4096 + (h.val * 256 + (160 + (k.val - 128))) = l'.val; omega))))

/-- and the second. -/
theorem tail_hi (c : Dev nD) (R : Fin 8192) (h : Fin 16) (k : Fin 192) (e : Fin 32) (h1 : k.val = 160 + e.val)
    (l l' : Fin 8192) (hl : l.val = 256 * h.val + (160 + e.val)) (hl' : l'.val = 4096 + (256 * h.val + (128 + e.val))) :
    Pipeline.afterTail₀ cfgs (dats m) 0 (V0 m) [hostOps1] c main_v22 (ix3 R h k)
      = arr m c (ix2 R l) - arr m c (ix2 R l') := by
  have he : e.val < 32 := e.isLt
  unfold Pipeline.afterTail₀
  change StableHlo.after _ (launched c) _ _ = _
  after_reads_at
  refine (dif_neg (by omega)).trans ((dif_neg (by omega)).trans ((congrFun (StableHlo.binary_result' _ _ _ _ _) _).trans ?_))
  after_reads_at
  exact congrArg₂ (· - ·) (congrArg (arr m c) (congrArg (ix2 R) (Fin.ext (by show h.val * 256 + (160 + (k.val - 128 - 32)) = l.val; omega))))
    (congrArg (arr m c) (congrArg (ix2 R) (Fin.ext (by show 4096 + (h.val * 256 + (128 + (k.val - 128 - 32))) = l'.val; omega))))

/-- The result after the host lines is the reference's. -/
theorem tail_dq (c : Dev nD) : Pipeline.afterTail₀ cfgs (dats m) 0 (V0 m) [hostOps1] c main_v22
    = val_main_v44 (F := Ideal) (m ((c : Thread nD τ).loc main_arg0)) (m ((c : Thread nD τ).loc main_arg1)) (m ((c : Thread nD τ).loc main_arg2)) := by
  funext i
  obtain ⟨R, h, k, rfl⟩ : ∃ R h k, i = ix3 R h k := ⟨i 0, i 1, i 2, eq_ix3 i⟩
  have hk : k.val < 192 := k.isLt
  have hh : h.val < 16 := h.isLt
  have hl := arr_eq m c
  by_cases h1 : k.val < 128
  · rw [ref_nope _ _ _ R h k h1]
    refine (tail_nope m c R h k h1 ⟨256 * h.val + k.val, by omega⟩ rfl).trans ?_
    refine (congrFun hl _).trans ?_
    rw [prod_cos _ _ _ R _ ⟨256 * h.val + k.val, by omega⟩ ⟨k.val, by omega⟩ rfl (by show k.val = (256 * h.val + k.val) % 256; omega),
      pad_at m c R h k _ rfl, cos_one m c R _ h1, mul_one]
  by_cases h2 : k.val < 160
  · obtain ⟨e, he⟩ : ∃ e : Fin 32, k.val = 128 + e.val := ⟨⟨k.val - 128, by omega⟩, by show k.val = 128 + (k.val - 128); omega⟩
    have hb : e.val < 32 := e.isLt
    rw [ref_lo _ _ _ R h k ⟨160 + e.val, by omega⟩ e he rfl]
    refine (tail_lo m c R h k e he ⟨256 * h.val + (128 + e.val), by omega⟩ ⟨4096 + (256 * h.val + (160 + e.val)), by omega⟩ rfl rfl).trans ?_
    refine congrArg₂ (· + ·) ((congrFun hl _).trans ?_) ((congrFun hl _).trans ?_)
    · rw [prod_cos _ _ _ R _ ⟨256 * h.val + (128 + e.val), by omega⟩ ⟨128 + e.val, by omega⟩ rfl (by show 128 + e.val = (256 * h.val + (128 + e.val)) % 256; omega),
        pad_at m c R h k _ (by show _ = 256 * h.val + k.val; rw [he]), cos_at m c R e _ (Or.inl rfl)]
    · rw [prod_sin _ _ _ R _ ⟨256 * h.val + (160 + e.val), by omega⟩ ⟨160 + e.val, by omega⟩ rfl (by show 160 + e.val = (256 * h.val + (160 + e.val)) % 256; omega),
        pad_at m c R h ⟨160 + e.val, by omega⟩ _ rfl, sin_at m c R e _ (Or.inr rfl)]
  · obtain ⟨e, he⟩ : ∃ e : Fin 32, k.val = 160 + e.val := ⟨⟨k.val - 160, by omega⟩, by show k.val = 160 + (k.val - 160); omega⟩
    have hb : e.val < 32 := e.isLt
    rw [ref_hi _ _ _ R h ⟨128 + e.val, by omega⟩ k e rfl he]
    refine (tail_hi m c R h k e he ⟨256 * h.val + (160 + e.val), by omega⟩ ⟨4096 + (256 * h.val + (128 + e.val)), by omega⟩ rfl rfl).trans ?_
    refine congrArg₂ (· - ·) ((congrFun hl _).trans ?_) ((congrFun hl _).trans ?_)
    · rw [prod_cos _ _ _ R _ ⟨256 * h.val + (160 + e.val), by omega⟩ ⟨160 + e.val, by omega⟩ rfl (by show 160 + e.val = (256 * h.val + (160 + e.val)) % 256; omega),
        pad_at m c R h k _ (by show _ = 256 * h.val + k.val; rw [he]), cos_at m c R e _ (Or.inr rfl)]
    · rw [prod_sin _ _ _ R _ ⟨256 * h.val + (128 + e.val), by omega⟩ ⟨128 + e.val, by omega⟩ rfl (by show 128 + e.val = (256 * h.val + (128 + e.val)) % 256; omega),
        pad_at m c R h ⟨128 + e.val, by omega⟩ _ rfl, sin_at m c R e _ (Or.inl rfl)]

/-- The run with the result named and the arguments unchanged. -/
theorem run_results (ρ : Dev nD → PrngReg) : θ_run defs (onTc (τ := τ) (main (F := Ideal))) ⟨m, fun _ => 0, ρ⟩ fun r => ∀ c : Dev nD,
      r.2.mem ((c : Thread nD τ).loc main_v22) = Pipeline.afterTail₀ cfgs (dats m) 0 (V0 m) [hostOps1] c main_v22
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).2 main_v22 (Pipeline.mem_restRefs_of main_v22 (by decide) (by decide)), h.2 c⟩)
    (θ_run_and (run_main m ρ) (unchanged m ρ))

/-- The reference runs to its end with its arguments unchanged. -/
theorem frame_reference : Cert.quiescent_RQropeIdeal := fun m ρ _ =>
  (θ_run Cert.RQropeIdeal.defs _ _).mono
    (fun r h => ⟨fun c => (h c).2, sem_eq_zero_of_no_sems (by decide) r.2⟩) (Cert.RQropeIdeal.Value.run m ρ)

/-- Kernel and reference compute the same gradient. -/
theorem algebraic : Cert.algebraic_KQropeIdeal_RQropeIdeal := by
  pair_intro
  · run_from run_results m g
  · run_from Cert.RQropeIdeal.Value.run m' g'
    rw [tail_dq, val_main_v44_eq, (hagree c).2.2]

end Cert.QropeValue
-- ==== Proof.KprepValue.lean ====
module

public import proofs.«01_k».proof.Defs
public import Idealize.ShloMosaic.Lib.Claim
public import proofs.«01_k».proof.Proof.Gen.KKprepIdeal.Frame
public import proofs.«01_k».proof.Proof.Gen.RKprepIdeal.Read
public import Idealize.ShloMosaic.Lib.Pipeline.ValueKit
public import Idealize.ShloMosaic.Lib.Pointwise
public import Idealize.ShloMosaic.Lib.StableHlo.ReadAt

@[expose] public section

/-! The gradient through the two latent norms and the rotation of the keys: the kernel lays the three gradients side by side in one padded row, and the host lines after it add the two halves of each rotated pair. -/

set_option maxRecDepth 16384

noncomputable section

namespace Cert.KprepValue

open Idealize.ShloMosaic Idealize.ShloMosaic.TcCoe Idealize.SL.Sem
open Cert.KKprepIdeal Cert.KKprepIdeal.Gen Cert.RKprepIdeal.Read

/-- Grid point `t` holds the rows `256 t …` of the row operands and the whole gains. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0]
    ∧ win0_6.index t = ![0, 0] ∧ win0_7.index t = ![0, 0] ∧ win0_8.index t = ![t.val, 0] ∧ win0_9.index t = ![0, 0] ∧ win0_10.index t = ![0, 0] :=
  (by decide +kernel : ∀ t : Fin grid0.N, _)

/-- The block of gradients the kernel stores. -/
def row (x : FVec Ideal S256x640 .f32) (c s : FVec Ideal S256x128 .f32) (dq : FVec Ideal S256x256 .f32) (dk dr : FVec Ideal S256x128 .f32)
    (gq : FVec Ideal S1x256 .f32) (gk : FVec Ideal S1x128 .f32) : FVec Ideal S256x640 .bf16 :=
  k0_pay1 (k0_pay12 x) (k0_pay15 x) (k0_pay21 (k0_pay7 c) (k0_pay8 s) dk (k0_pay9 dr) (k0_pay11 gk) (k0_pay17 x) (k0_pay18 x))
    (k0_pay24 dq (k0_pay10 gq) (k0_pay12 x)) (k0_pay25 dq (k0_pay10 gq) (k0_pay14 x))

section

variable (x : FVec Ideal S256x640 .f32) (c s : FVec Ideal S256x128 .f32) (dq : FVec Ideal S256x256 .f32) (dk dr : FVec Ideal S256x128 .f32)
  (gq : FVec Ideal S1x256 .f32) (gk : FVec Ideal S1x128 .f32)
  (X : FVec Ideal S8192x448 .f32) (DQ : FVec Ideal S8192x256 .f32) (DK : FVec Ideal S8192x128 .f32) (GQ : FVec Ideal S256 .f32) (GK : FVec Ideal S128 .f32)

/-- Its first 256 columns: the gradient of the queries' latent norm. -/
theorem row_q (r : Fin 256) (R : Fin 8192) (k : Fin 256) (l : Fin 640) (hl : l.val = k.val)
    (hx : ∀ a : Fin 384, x (ix2 r ⟨a.val, by omega⟩) = X (ix2 R ⟨a.val, by omega⟩))
    (hd : ∀ a, dq (ix2 r a) = DQ (ix2 R a)) (hg : ∀ a, gq (ix2 0 a) = GQ (ix1 a)) :
    row x c s dq dk dr gq gk (ix2 r l) = val_main_v99 (F := Ideal) X GQ DQ (ix2 R k) := by
  have hk : k.val < 256 := k.isLt
  obtain ⟨l, hll⟩ := l
  dsimp only at hl
  subst hl
  have hx' : ∀ a : Fin 256, x (ix2 r ⟨a.val, by omega⟩) = X (ix2 R ⟨a.val, by omega⟩) := fun a => hx ⟨a.val, by omega⟩
  pointwise [row, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, val_main_v0, val_main_v3, val_main_v4, val_main_v5, val_main_v6, val_main_v7, val_main_v8, val_main_v9, val_main_v10, val_main_v11, val_main_v12, val_main_v13, val_main_v14, val_main_v15, val_main_v16, val_main_v17, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_cst, val_main_cst_0, val_main_cst_1, val_main_cst_2, val_main_cst_13, val_main_cst_14, val_main_cst_15, val_main_cst_16, val_main_cst_17]
  rw [dif_pos (by omega), dif_pos (by omega), dif_pos (by omega), dif_pos (by omega)]
  simp only [hx', hd, hg, zero_add]

/-- The next 128: the gradient of the keys' latent norm. -/
theorem row_k (r : Fin 256) (R : Fin 8192) (k : Fin 128) (l : Fin 640) (hl : l.val = 256 + k.val)
    (hx : ∀ a : Fin 384, x (ix2 r ⟨a.val, by omega⟩) = X (ix2 R ⟨a.val, by omega⟩))
    (hd : ∀ a, dk (ix2 r a) = DK (ix2 R a)) (hg : ∀ a, gk (ix2 0 a) = GK (ix1 a)) :
    row x c s dq dk dr gq gk (ix2 r l) = val_main_v79 (F := Ideal) X GK DK (ix2 R k) := by
  have hk : k.val < 128 := k.isLt
  obtain ⟨l, hll⟩ := l
  dsimp only at hl
  subst hl
  have hx' : ∀ a : Fin 128, x (ix2 r ⟨256 + a.val, by omega⟩) = X (ix2 R ⟨256 + a.val, by omega⟩) := fun a => hx ⟨256 + a.val, by omega⟩
  pointwise [row, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, val_main_v1, val_main_v19, val_main_v20, val_main_v21, val_main_v22, val_main_v23, val_main_v24, val_main_v25, val_main_v26, val_main_v27, val_main_v28, val_main_v29, val_main_v30, val_main_v31, val_main_v32, val_main_v33, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_cst_3, val_main_cst_4, val_main_cst_5, val_main_cst_6, val_main_cst_8, val_main_cst_9, val_main_cst_10, val_main_cst_11, val_main_cst_12]
  repeat first | rw [dif_pos (by omega)] | rw [dif_neg (by omega)]
  simp only [hx', hd, hg, zero_add, add_zero]

/-- Then the gradient of the rotated key by the cosines -/
theorem row_cos (r : Fin 256) (k : Fin 128) (l : Fin 640) (hl : l.val = 384 + k.val) :
    row x c s dq dk dr gq gk (ix2 r l) = dr (ix2 r k) * c (ix2 r k) := by
  have hk : k.val < 128 := k.isLt
  obtain ⟨l, hll⟩ := l
  dsimp only at hl
  subst hl
  pointwise [row, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  repeat first | rw [dif_pos (by omega)] | rw [dif_neg (by omega)]
  simp only [zero_add, add_zero]

/-- and by the sines. -/
theorem row_sin (r : Fin 256) (k : Fin 128) (l : Fin 640) (hl : l.val = 512 + k.val) :
    row x c s dq dk dr gq gk (ix2 r l) = dr (ix2 r k) * s (ix2 r k) := by
  have hk : k.val < 128 := k.isLt
  obtain ⟨l, hll⟩ := l
  dsimp only at hl
  subst hl
  pointwise [row, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25]
  repeat first | rw [dif_pos (by omega)] | rw [dif_neg (by omega)]
  simp only [zero_add, add_zero]

end

variable (m : (ℓ : Loc nD τ sig) → Buf (Elt Ideal) ℓ)

/-- The arrays the launch reads: the two latents, -/
theorem lat_at (c : Dev nD) (R : Fin 8192) (l : Fin 640) (k : Fin 448) (hl : l.val = k.val) (hk : k.val < 384) :
    V m c main_v6 (ix2 R l) = m ((c : Thread nD τ).loc main_arg0) (ix2 R k) := by
  unfold V
  after_reads_at
  rw [dif_pos (by omega)]
  after_reads_at
  exact congrArg _ (congrArg (ix2 R) (Fin.ext (by show l.val = k.val; exact hl)))

/-- the cosines twice, -/
theorem cos_at (c : Dev nD) (R : Fin 8192) (e : Fin 32) (k : Fin 128) (hk : k.val = e.val ∨ k.val = 32 + e.val) :
    V m c main_v8 (ix2 R k) = m ((c : Thread nD τ).loc main_arg3) (ix2 R e) := by
  have he : e.val < 32 := e.isLt
  unfold V
  after_reads_at
  rcases hk with hk | hk
  · rw [dif_pos (by omega)]
    exact congrArg _ (congrArg (ix2 R) (Fin.ext (by show k.val = e.val; omega)))
  · rw [dif_neg (by omega), dif_pos (by omega)]
    exact congrArg _ (congrArg (ix2 R) (Fin.ext (by show k.val - 32 = e.val; omega)))

/-- the sines twice, -/
theorem sin_at (c : Dev nD) (R : Fin 8192) (e : Fin 32) (k : Fin 128) (hk : k.val = e.val ∨ k.val = 32 + e.val) :
    V m c main_v9 (ix2 R k) = m ((c : Thread nD τ).loc main_arg4) (ix2 R e) := by
  have he : e.val < 32 := e.isLt
  unfold V
  after_reads_at
  rcases hk with hk | hk
  · rw [dif_pos (by omega)]
    exact congrArg _ (congrArg (ix2 R) (Fin.ext (by show k.val = e.val; omega)))
  · rw [dif_neg (by omega), dif_pos (by omega)]
    exact congrArg _ (congrArg (ix2 R) (Fin.ext (by show k.val - 32 = e.val; omega)))

/-- and the key's gradient. -/
theorem key_at (c : Dev nD) (R : Fin 8192) (k : Fin 64) (l : Fin 128) (hl : l.val = k.val) :
    V m c main_v14 (ix2 R l) = m ((c : Thread nD τ).loc main_arg7) (ix2 R k) := by
  have hk : k.val < 64 := k.isLt
  unfold V
  after_reads_at
  rw [dif_pos (by omega)]
  exact congrArg _ (congrArg (ix2 R) (Fin.ext (by show l.val = k.val; exact hl)))

/-- The two gains as rows. -/
theorem gq_at (c : Dev nD) (k : Fin 256) : V m c main_v15 (ix2 0 k) = m ((c : Thread nD τ).loc main_arg1) (ix1 k) := by
  unfold V
  after_reads_at

theorem gk_at (c : Dev nD) (k : Fin 128) : V m c main_v16 (ix2 0 k) = m ((c : Thread nD τ).loc main_arg2) (ix1 k) := by
  unfold V
  after_reads_at

/-- The padded rows: two gradients of norms, then the key's gradient by the cosines and by the sines. -/
def packed (Q : FVec Ideal S8192x256 .f32) (K : FVec Ideal S8192x128 .f32) (D C S : FVec Ideal S8192x128 .f32) : FVec Ideal S8192x640 .bf16 := fun i =>
  if h : (i 1).val < 256 then Q (ix2 (i 0) ⟨(i 1).val, h⟩)
  else if h : (i 1).val < 384 then K (ix2 (i 0) ⟨(i 1).val - 256, by omega⟩)
  else if h : (i 1).val < 512 then D (ix2 (i 0) ⟨(i 1).val - 384, by omega⟩) * C (ix2 (i 0) ⟨(i 1).val - 384, by omega⟩)
  else D (ix2 (i 0) ⟨((i 1).val - 512) % 128, Nat.mod_lt _ (by norm_num)⟩) * S (ix2 (i 0) ⟨((i 1).val - 512) % 128, Nat.mod_lt _ (by norm_num)⟩)

/-- A block of the latents. -/
theorem lat_blk (c : Dev nD) (t : Fin cfg0.N) (r : Fin 256) (R : Fin 8192) (hR : R.val = t.val * 256 + r.val) (a : Fin 384) :
    iblk m c 0 t (ix2 r (⟨a.val, by omega⟩ : Fin 640)) = m ((c : Thread nD τ).loc main_arg0) (ix2 R (⟨a.val, by omega⟩ : Fin 448)) :=
  (by blk_point [iblk, V, idx t] : iblk m c 0 t (ix2 r (⟨a.val, by omega⟩ : Fin 640)) = V m c main_v6 (ix2 R (⟨a.val, by omega⟩ : Fin 640))).trans
    (lat_at m c _ _ _ rfl a.isLt)

/-- The packed rows the launch leaves. -/
def rows (c : Dev nD) : FVec Ideal S8192x640 .bf16 :=
  packed (val_main_v99 (F := Ideal) (m ((c : Thread nD τ).loc main_arg0)) (m ((c : Thread nD τ).loc main_arg1)) (m ((c : Thread nD τ).loc main_arg5)))
    (val_main_v79 (F := Ideal) (m ((c : Thread nD τ).loc main_arg0)) (m ((c : Thread nD τ).loc main_arg2)) (m ((c : Thread nD τ).loc main_arg6)))
    (V m c main_v14) (V m c main_v8) (V m c main_v9)

/-- The array of gradients after the launch. -/
theorem final_dc (c : Dev nD) : (dats m 0 c).arrAt 8 (cfgs 0).N = rows m c := by
  refine (dats m 0 c).arrAt_eq_of_covers 8 _ (by decide +kernel) fun t hf y => ?_
  blk_simp [idx t]
  rw [after0_8]
  have key : row (iblk m c 0 t) (iblk m c 1 t) (iblk m c 2 t) (iblk m c 3 t) (iblk m c 4 t) (iblk m c 5 t) (iblk m c 6 t) (iblk m c 7 t) y
      = rows m c ((win0_8.blk t).view.emb y) := by
    have ht : t.val < 32 := lt_of_lt_of_eq t.isLt N_0
    obtain_idx j : S8192x640 := [t.val * 256 + (y 0 : ℕ), (y 1 : ℕ)] with hj
    have he : (win0_8.blk t).view.emb y = j := by blk_ext [idx t]
    rw [he, eq_ix2 y]
    have h1 : (y 1).val < 640 := (y 1).isLt
    have e1 : (j 1).val = (y 1).val := hj1
    unfold rows packed
    by_cases c1 : (j 1).val < 256
    · rw [dif_pos c1]
      exact row_q _ _ _ _ _ _ _ _ _ _ _ (y 0) (j 0) _ _ (by show (y 1).val = (j 1).val; omega) (lat_blk m c t _ _ hj0) (fun k => by blk_point [iblk, V, idx t])
        (fun k => (by blk_point [iblk, V, idx t] : iblk m c 6 t (ix2 0 k) = V m c main_v15 (ix2 0 k)).trans (gq_at m c k))
    by_cases c2 : (j 1).val < 384
    · rw [dif_neg c1, dif_pos c2]
      exact row_k _ _ _ _ _ _ _ _ _ _ _ (y 0) (j 0) _ _ (by show (y 1).val = 256 + ((j 1).val - 256); omega) (lat_blk m c t _ _ hj0) (fun k => by blk_point [iblk, V, idx t])
        (fun k => (by blk_point [iblk, V, idx t] : iblk m c 7 t (ix2 0 k) = V m c main_v16 (ix2 0 k)).trans (gk_at m c k))
    have hd : ∀ k, iblk m c 5 t (ix2 (y 0) k) = V m c main_v14 (ix2 (j 0) k) := fun k => by blk_point [iblk, V, idx t]
    by_cases c3 : (j 1).val < 512
    · have hc : ∀ k, iblk m c 1 t (ix2 (y 0) k) = V m c main_v8 (ix2 (j 0) k) := fun k => by blk_point [iblk, V, idx t]
      rw [dif_neg c1, dif_neg c2, dif_pos c3]
      refine (row_cos _ _ _ _ _ _ _ _ (y 0) ⟨(j 1).val - 384, by omega⟩ _ (by show (y 1).val = 384 + ((j 1).val - 384); omega)).trans ?_
      exact congrArg₂ (· * ·) (hd _) (hc _)
    · have hs : ∀ k, iblk m c 2 t (ix2 (y 0) k) = V m c main_v9 (ix2 (j 0) k) := fun k => by blk_point [iblk, V, idx t]
      rw [dif_neg c1, dif_neg c2, dif_neg c3]
      refine (row_sin _ _ _ _ _ _ _ _ (y 0) ⟨((j 1).val - 512) % 128, by omega⟩ _ (by show (y 1).val = 512 + ((j 1).val - 512) % 128; omega)).trans ?_
      exact congrArg₂ (· * ·) (hd _) (hs _)
  by_cases h : t.val % 32 = 0
  · rw [outsAt0_A m c t h]; frame_out; exact key
  · rw [outsAt0_B m c t h]; frame_out; exact key

/-- The last grid point. -/
def last : Fin grid0.N := ⟨31, by rw [N_0]; decide⟩

/-- The accumulators start at zero, -/
theorem zero_q (j : S1x256.Idx) : k0_pay2 (F := Ideal) j = 0 := by pointwise! [k0_pay2]

theorem zero_k (j : S1x128.Idx) : k0_pay3 (F := Ideal) j = 0 := by pointwise! [k0_pay3]

/-- and a step adds its block's row. -/
theorem add_q (v : FVec Ideal S1x256 .f32) (w : Vec Ideal S1x256 .f32) (j : S1x256.Idx) : k0_pay4 v w j = w j + v j := by pointwise [k0_pay4]

theorem add_k (v : FVec Ideal S1x128 .f32) (w : Vec Ideal S1x128 .f32) (j : S1x128.Idx) : k0_pay5 v w j = w j + v j := by pointwise [k0_pay5]

/-- The gradient of the queries' gain: the sum over the blocks is the sum over all rows. -/
theorem final_gq (c : Dev nD) : (dats m 0 c).arrAt 9 (cfgs 0).N = val_main_v102 (F := Ideal) (m ((c : Thread nD τ).loc main_arg0))
    (m ((c : Thread nD τ).loc main_arg5)) := by
  refine (dats m 0 c).arrAt_eq_of_after_last 9 last (by decide +kernel) _ fun j => ?_
  blk_simp
  rw [after0_9, Pipeline.eq_sum_fin_of_reset_step_apply_last (fun n h => (outsAt0 m c n h).2.1) 32 (fun _ => 0) _
    (fun t h j => by rw [outsAt0_A m c t h]; frame_out; rw [add_q, zero_q])
    (fun t h j => by rw [outsAt0_B m c t h]; frame_out; rw [add_q])
    (le_of_eq N_0) last rfl j, zero_add]
  pointwise [k0_pay22, k0_pay16, k0_pay14, k0_pay13, k0_pay12, k0_pay6, val_main_v0, val_main_v3, val_main_v4, val_main_v5, val_main_v6, val_main_v7, val_main_v8, val_main_v9, val_main_v10, val_main_v11, val_main_v12, val_main_v13, val_main_v14, val_main_v15, val_main_v16, val_main_v17, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_cst, val_main_cst_0, val_main_cst_1, val_main_cst_2, val_main_cst_13, val_main_cst_14, val_main_cst_15, val_main_cst_16, val_main_cst_17, val_main_v102]
  simp only [Finset.univ_unique, Finset.sum_singleton]
  refine Fin.sum_mul_add_congr fun s k hl => ?_
  have hx : ∀ a : Fin 256, iblk m c 0 s (ix2 k (⟨a.val, by omega⟩ : Fin 640)) = m ((c : Thread nD τ).loc main_arg0) (ix2 (⟨s.val * 256 + k.val, hl⟩ : Fin 8192) (⟨a.val, by omega⟩ : Fin 448)) :=
    fun a => lat_blk m c s k _ rfl ⟨a.val, by omega⟩
  simp only [hx]
  exact congrArg₂ (· * ·) (congrArg₂ (· * ·) (hx (j 1)) rfl) (by blk_point [iblk, V, idx s])

/-- The gradient of the keys' gain. -/
theorem final_gk (c : Dev nD) : (dats m 0 c).arrAt 10 (cfgs 0).N = val_main_v103 (F := Ideal) (m ((c : Thread nD τ).loc main_arg0))
    (m ((c : Thread nD τ).loc main_arg6)) := by
  refine (dats m 0 c).arrAt_eq_of_after_last 10 last (by decide +kernel) _ fun j => ?_
  blk_simp
  rw [after0_10, Pipeline.eq_sum_fin_of_reset_step_apply_last (fun n h => (outsAt0 m c n h).2.2) 32 (fun _ => 0) _
    (fun t h j => by rw [outsAt0_A m c t h]; frame_out; rw [add_k, zero_k])
    (fun t h j => by rw [outsAt0_B m c t h]; frame_out; rw [add_k])
    (le_of_eq N_0) last rfl j, zero_add]
  pointwise [k0_pay20, k0_pay19, k0_pay18, k0_pay17, k0_pay6, val_main_v1, val_main_v19, val_main_v20, val_main_v21, val_main_v22, val_main_v23, val_main_v24, val_main_v25, val_main_v26, val_main_v27, val_main_v28, val_main_v29, val_main_v30, val_main_v31, val_main_v32, val_main_v33, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_cst_3, val_main_cst_4, val_main_cst_5, val_main_cst_6, val_main_cst_8, val_main_cst_9, val_main_cst_10, val_main_cst_11, val_main_cst_12, val_main_v103]
  simp only [Finset.univ_unique, Finset.sum_singleton]
  refine Fin.sum_mul_add_congr fun s k hl => ?_
  have hx : ∀ a : Fin 128, iblk m c 0 s (ix2 k (⟨256 + a.val, by omega⟩ : Fin 640)) = m ((c : Thread nD τ).loc main_arg0) (ix2 (⟨s.val * 256 + k.val, hl⟩ : Fin 8192) (⟨256 + a.val, by omega⟩ : Fin 448)) :=
    fun a => lat_blk m c s k _ rfl ⟨256 + a.val, by omega⟩
  simp only [hx]
  exact congrArg₂ (· * ·) (congrArg₂ (· * ·) (hx (j 1)) rfl) (by blk_point [iblk, V, idx s])

variable {m} in
/-- The contents the lines after the launch start from. -/
def launched (c : Dev nD) : Valuation τ sig (Elt Ideal) := Pipeline.withArrays (cfgs 0).spec c (V0 m c) fun w => (dats m 0 c).arrAt w (cfgs 0).N

/-- The packed rows as the host lines find them. -/
def arr (c : Dev nD) : S8192x640.Idx → EReal := launched (m := m) c (Proc.devRef .tc main_v17_0)

theorem arr_eq (c : Dev nD) : arr m c = rows m c :=
  (Pipeline.withArrays_arr (cfgs 0).spec (by decide) c (V0 m c) (fun w => (dats m 0 c).arrAt w (cfgs 0).N) 8).trans (final_dc m c)

/-- The host lines after the launch: the two latents' gradients, -/
theorem tail_lat (c : Dev nD) (R : Fin 8192) (k : Fin 448) (h1 : k.val < 384) (l : Fin 640) (hl : l.val = k.val) :
    Pipeline.afterTail₀ cfgs (dats m) 0 (V0 m) [hostOps1] c main_v25 (ix2 R k) = arr m c (ix2 R l) := by
  unfold Pipeline.afterTail₀
  change StableHlo.after _ (launched c) _ _ = _
  after_reads_at
  refine (dif_pos h1).trans ((congrFun (StableHlo.unary_result' _ _ _ _) _).trans ?_)
  after_reads_at
  exact congrArg (arr m c) (congrArg (ix2 R) (Fin.ext (by show k.val = l.val; omega)))

/-- the first of a pair, -/
theorem tail_lo (c : Dev nD) (R : Fin 8192) (k : Fin 448) (e : Fin 32) (h1 : k.val = 384 + e.val)
    (l l' : Fin 640) (hl : l.val = 384 + e.val) (hl' : l'.val = 544 + e.val) :
    Pipeline.afterTail₀ cfgs (dats m) 0 (V0 m) [hostOps1] c main_v25 (ix2 R k) = arr m c (ix2 R l) + arr m c (ix2 R l') := by
  have he : e.val < 32 := e.isLt
  unfold Pipeline.afterTail₀
  change StableHlo.after _ (launched c) _ _ = _
  after_reads_at
  refine (dif_neg (by omega)).trans ((dif_pos (by omega)).trans ((congrFun (StableHlo.binary_result' _ _ _ _ _) _).trans ?_))
  after_reads_at
  exact congrArg₂ (· + ·) (congrArg (arr m c) (congrArg (ix2 R) (Fin.ext (by show 384 + (k.val - 384) = l.val; omega))))
    (congrArg (arr m c) (congrArg (ix2 R) (Fin.ext (by show 544 + (k.val - 384) = l'.val; omega))))

/-- and the second. -/
theorem tail_hi (c : Dev nD) (R : Fin 8192) (k : Fin 448) (e : Fin 32) (h1 : k.val = 416 + e.val)
    (l l' : Fin 640) (hl : l.val = 416 + e.val) (hl' : l'.val = 512 + e.val) :
    Pipeline.afterTail₀ cfgs (dats m) 0 (V0 m) [hostOps1] c main_v25 (ix2 R k) = arr m c (ix2 R l) - arr m c (ix2 R l') := by
  have he : e.val < 32 := e.isLt
  unfold Pipeline.afterTail₀
  change StableHlo.after _ (launched c) _ _ = _
  after_reads_at
  refine (dif_neg (by omega)).trans ((dif_neg (by omega)).trans ((congrFun (StableHlo.binary_result' _ _ _ _ _) _).trans ?_))
  after_reads_at
  exact congrArg₂ (· - ·) (congrArg (arr m c) (congrArg (ix2 R) (Fin.ext (by show 416 + (k.val - 384 - 32) = l.val; omega))))
    (congrArg (arr m c) (congrArg (ix2 R) (Fin.ext (by show 512 + (k.val - 384 - 32) = l'.val; omega))))

/-- A column of the packed rows in the part by the cosines -/
theorem packed_cos (Q : FVec Ideal S8192x256 .f32) (K : FVec Ideal S8192x128 .f32) (D C S : FVec Ideal S8192x128 .f32) (R : Fin 8192) (l : Fin 640)
    (k : Fin 128) (hl : l.val = 384 + k.val) : packed Q K D C S (ix2 R l) = D (ix2 R k) * C (ix2 R k) := by
  have hk : k.val < 128 := k.isLt
  obtain ⟨l, hll⟩ := l
  dsimp only at hl
  subst hl
  refine (dif_neg (c := 384 + k.val < 256) (by omega)).trans ((dif_neg (c := 384 + k.val < 384) (by omega)).trans
    ((dif_pos (c := 384 + k.val < 512) (by omega)).trans ?_))
  have e1 : (⟨384 + k.val - 384, by omega⟩ : Fin 128) = k := Fin.ext (by show 384 + k.val - 384 = k.val; omega)
  exact congrArg₂ (· * ·) (congrArg _ (congrArg (ix2 R) e1)) (congrArg _ (congrArg (ix2 R) e1))

/-- and in the part by the sines. -/
theorem packed_sin (Q : FVec Ideal S8192x256 .f32) (K : FVec Ideal S8192x128 .f32) (D C S : FVec Ideal S8192x128 .f32) (R : Fin 8192) (l : Fin 640)
    (k : Fin 128) (hl : l.val = 512 + k.val) : packed Q K D C S (ix2 R l) = D (ix2 R k) * S (ix2 R k) := by
  have hk : k.val < 128 := k.isLt
  obtain ⟨l, hll⟩ := l
  dsimp only at hl
  subst hl
  refine (dif_neg (c := 512 + k.val < 256) (by omega)).trans ((dif_neg (c := 512 + k.val < 384) (by omega)).trans
    ((dif_neg (c := 512 + k.val < 512) (by omega)).trans ?_))
  have e1 : (⟨(512 + k.val - 512) % 128, Nat.mod_lt _ (by norm_num)⟩ : Fin 128) = k := Fin.ext (by show (512 + k.val - 512) % 128 = k.val; omega)
  exact congrArg₂ (· * ·) (congrArg _ (congrArg (ix2 R) e1)) (congrArg _ (congrArg (ix2 R) e1))

section

variable (X : FVec Ideal S8192x448 .f32) (GQ : FVec Ideal S256 .f32) (GK : FVec Ideal S128 .f32) (C S : FVec Ideal S8192x32 .f32)
  (DQ : FVec Ideal S8192x256 .f32) (DK : FVec Ideal S8192x128 .f32) (DR : FVec Ideal S8192x64 .f32)

/-- The reference's entries: the queries' latent, -/
theorem ref_q (R : Fin 8192) (l : Fin 448) (k : Fin 256) (hl : l.val = k.val) :
    val_main_v101 (F := Ideal) X GQ GK C S DQ DK DR (ix2 R l) = val_main_v99 (F := Ideal) X GQ DQ (ix2 R k) := by
  have hk : k.val < 256 := k.isLt
  pointwise [val_main_v101, val_main_v100]
  rw [dif_pos (by omega)]
  exact congrArg _ (congrArg (ix2 R) (Fin.ext hl))

/-- the keys' latent, -/
theorem ref_k (R : Fin 8192) (l : Fin 448) (k : Fin 128) (hl : l.val = 256 + k.val) :
    val_main_v101 (F := Ideal) X GQ GK C S DQ DK DR (ix2 R l) = val_main_v79 (F := Ideal) X GK DK (ix2 R k) := by
  have hk : k.val < 128 := k.isLt
  pointwise [val_main_v101, val_main_v100]
  rw [dif_neg (by omega), dif_pos (by omega)]
  exact congrArg _ (congrArg (ix2 R) (Fin.ext (by show l.val - 256 = k.val; omega)))

/-- the first of a pair, -/
theorem ref_lo (R : Fin 8192) (l : Fin 448) (e : Fin 32) (hl : l.val = 384 + e.val) :
    val_main_v101 (F := Ideal) X GQ GK C S DQ DK DR (ix2 R l)
      = DR (ix2 R ⟨e.val, by omega⟩) * C (ix2 R e) + DR (ix2 R ⟨32 + e.val, by omega⟩) * S (ix2 R e) := by
  have he : e.val < 32 := e.isLt
  obtain ⟨l, hll⟩ := l
  dsimp only at hl
  subst hl
  pointwise [val_main_v101, val_main_v100, val_main_v36, val_main_v37, val_main_v48, val_main_v49, val_main_v50, val_main_v51, val_main_v52, val_main_v53, val_main_v54, val_main_v55, val_main_v56, val_main_v57, val_main_v58, val_main_v59, val_main_cst_7]
  have a1 : 384 + e.val - 256 - 128 = e.val := by omega
  rw [dif_neg (by omega), dif_neg (by omega)]
  simp only [a1, Fin.sum_univ_one, dif_pos he]
  exact add_comm _ _

/-- and the second. -/
theorem ref_hi (R : Fin 8192) (l : Fin 448) (e : Fin 32) (hl : l.val = 416 + e.val) :
    val_main_v101 (F := Ideal) X GQ GK C S DQ DK DR (ix2 R l)
      = DR (ix2 R ⟨32 + e.val, by omega⟩) * C (ix2 R e) - DR (ix2 R ⟨e.val, by omega⟩) * S (ix2 R e) := by
  have he : e.val < 32 := e.isLt
  obtain ⟨l, hll⟩ := l
  dsimp only at hl
  subst hl
  pointwise [val_main_v101, val_main_v100, val_main_v36, val_main_v37, val_main_v48, val_main_v49, val_main_v50, val_main_v51, val_main_v52, val_main_v53, val_main_v54, val_main_v55, val_main_v56, val_main_v57, val_main_v58, val_main_v59, val_main_cst_7]
  have a1 : 416 + e.val - 256 - 128 = 32 + e.val := by omega
  have a2 : 32 + e.val - 32 = e.val := by omega
  rw [dif_neg (by omega), dif_neg (by omega)]
  refine Eq.trans ?_ (sub_eq_add_neg _ _).symm
  simp only [a1, a2, Fin.sum_univ_one, dif_neg (by omega : ¬ 32 + e.val < 32)]
  exact congrArg (_ + ·) (EReal.neg_mul _ _)

end

/-- The result after the host lines is the reference's. -/
theorem tail_dc (c : Dev nD) : Pipeline.afterTail₀ cfgs (dats m) 0 (V0 m) [hostOps1] c main_v25
    = val_main_v101 (F := Ideal) (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)) := by
  funext i
  obtain ⟨R, k, rfl⟩ : ∃ R k, i = ix2 R k := ⟨i 0, i 1, eq_ix2 i⟩
  have hk : k.val < 448 := k.isLt
  have hl := arr_eq m c
  by_cases h1 : k.val < 256
  · refine (tail_lat m c R k (by omega) ⟨k.val, by omega⟩ rfl).trans ((congrFun hl _).trans ?_)
    rw [ref_q _ _ _ _ _ _ _ _ R k ⟨k.val, h1⟩ rfl]
    exact dif_pos h1
  by_cases h2 : k.val < 384
  · refine (tail_lat m c R k h2 ⟨k.val, by omega⟩ rfl).trans ((congrFun hl _).trans ?_)
    rw [ref_k _ _ _ _ _ _ _ _ R k ⟨k.val - 256, by omega⟩ (by show k.val = 256 + (k.val - 256); omega)]
    exact (dif_neg h1).trans (dif_pos h2)
  by_cases h3 : k.val < 416
  · obtain ⟨e, he⟩ : ∃ e : Fin 32, k.val = 384 + e.val := ⟨⟨k.val - 384, by omega⟩, by show k.val = 384 + (k.val - 384); omega⟩
    have hb : e.val < 32 := e.isLt
    rw [ref_lo _ _ _ _ _ _ _ _ R k e he]
    refine (tail_lo m c R k e he ⟨384 + e.val, by omega⟩ ⟨544 + e.val, by omega⟩ rfl rfl).trans ?_
    refine congrArg₂ (· + ·) ((congrFun hl _).trans ?_) ((congrFun hl _).trans ?_)
    · exact (packed_cos _ _ _ _ _ R _ ⟨e.val, by omega⟩ rfl).trans (congrArg₂ (· * ·) (key_at m c R ⟨e.val, by omega⟩ _ rfl) (cos_at m c R e _ (Or.inl rfl)))
    · exact (packed_sin _ _ _ _ _ R _ ⟨32 + e.val, by omega⟩ (by show 544 + e.val = 512 + (32 + e.val); omega)).trans
        (congrArg₂ (· * ·) (key_at m c R ⟨32 + e.val, by omega⟩ _ rfl) (sin_at m c R e _ (Or.inr rfl)))
  · obtain ⟨e, he⟩ : ∃ e : Fin 32, k.val = 416 + e.val := ⟨⟨k.val - 416, by omega⟩, by show k.val = 416 + (k.val - 416); omega⟩
    have hb : e.val < 32 := e.isLt
    rw [ref_hi _ _ _ _ _ _ _ _ R k e he]
    refine (tail_hi m c R k e he ⟨416 + e.val, by omega⟩ ⟨512 + e.val, by omega⟩ rfl rfl).trans ?_
    refine congrArg₂ (· - ·) ((congrFun hl _).trans ?_) ((congrFun hl _).trans ?_)
    · exact (packed_cos _ _ _ _ _ R _ ⟨32 + e.val, by omega⟩ (by show 416 + e.val = 384 + (32 + e.val); omega)).trans
        (congrArg₂ (· * ·) (key_at m c R ⟨32 + e.val, by omega⟩ _ rfl) (cos_at m c R e _ (Or.inr rfl)))
    · exact (packed_sin _ _ _ _ _ R _ ⟨e.val, by omega⟩ rfl).trans (congrArg₂ (· * ·) (key_at m c R ⟨e.val, by omega⟩ _ rfl) (sin_at m c R e _ (Or.inl rfl)))

/-- The run with its three results named and the arguments unchanged. -/
theorem run_results (ρ : Dev nD → PrngReg) : θ_run defs (onTc (τ := τ) (main (F := Ideal))) ⟨m, fun _ => 0, ρ⟩ fun r => ∀ c : Dev nD,
      r.2.mem ((c : Thread nD τ).loc main_v25) = Pipeline.afterTail₀ cfgs (dats m) 0 (V0 m) [hostOps1] c main_v25
      ∧ r.2.mem ((c : Thread nD τ).loc main_v17_1) = (dats m 0 c).arrAt 9 (cfgs 0).N
      ∧ r.2.mem ((c : Thread nD τ).loc main_v17_2) = (dats m 0 c).arrAt 10 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h.1 c).2 main_v25 (Pipeline.mem_restRefs_of main_v25 (by decide) (by decide)), (h.1 c).1 9, (h.1 c).1 10, h.2 c⟩)
    (θ_run_and (run_main m ρ) (unchanged m ρ))

/-- The reference runs to its end with its arguments unchanged. -/
theorem frame_reference : Cert.quiescent_RKprepIdeal := fun m ρ _ =>
  (θ_run Cert.RKprepIdeal.defs _ _).mono
    (fun r h => ⟨fun c => (h c).2.2.2, sem_eq_zero_of_no_sems (by decide) r.2⟩) (Cert.RKprepIdeal.Value.run m ρ)

/-- Kernel and reference compute the same three gradients. -/
theorem algebraic : Cert.algebraic_KKprepIdeal_RKprepIdeal := by
  pair_intro
  · run_from run_results m g
  · run_from Cert.RKprepIdeal.Value.run m' g'
    · obtain ⟨h0, h1, h2, h3, h4, h5, h6, h7⟩ := hagree c
      rw [tail_dc, val_main_v101_eq (F := Ideal) m' c, h0, h1, h2, h3, h4, h5, h6, h7]
    · rw [final_gq]; exact val_main_v102_eq _ _
    · rw [final_gk]; exact val_main_v103_eq _ _

end Cert.KprepValue
-- ==== Proof.RmsFValue.lean ====
module

public import proofs.«01_k».proof.Defs
public import Idealize.ShloMosaic.Lib.Claim
public import proofs.«01_k».proof.Proof.Gen.KRmsFIdeal.Value
public import proofs.«01_k».proof.Proof.Gen.RRmsFIdeal.Read
public import Idealize.ShloMosaic.Lib.Pipeline.ValueKit
public import Idealize.ShloMosaic.Lib.Pointwise

@[expose] public section

/-! The norm before a branch: every block of rows the kernel stores is the reference's rows. -/

set_option maxRecDepth 16384

noncomputable section

namespace Cert.RmsFValue

open Idealize.ShloMosaic Idealize.ShloMosaic.TcCoe Idealize.SL.Sem
open Cert.KRmsFIdeal Cert.KRmsFIdeal.Gen Cert.RRmsFIdeal.Read

/-- One row of the norm reads that row and the gain. -/
theorem row (x : FVec Ideal S512x1024 .f32) (g : FVec Ideal S1x1024 .f32) (X : FVec Ideal S8192x1024 .f32) (G : FVec Ideal S1024 .f32)
    (r : Fin 512) (R : Fin 8192) (a : Fin 1024) (hx : ∀ k, x (ix2 r k) = X (ix2 R k)) (hg : ∀ k, g (ix2 0 k) = G (ix1 k)) :
    k0_pay1 (F := Ideal) x g (ix2 r a) = val_main_v13 (F := Ideal) X G (ix2 R a) := by
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12, val_main_v13]
  simp only [hx, hg]

/-- Grid point `t` holds the rows `512 t …` of the row operands and the whole gain. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ)

/-- The normed array after the launch. -/
theorem final (c : Dev nD) : (dats m 0 c).arrAt 2 (cfgs 0).N = val_main_v13 (F := Ideal) (m ((c : Thread nD τ).loc main_arg0)) (m ((c : Thread nD τ).loc main_arg1)) := by
  refine (dats m 0 c).arrAt_eq_of_covers 2 _ (by decide +kernel) fun t hf y => ?_
  blk_simp [idx t]
  rw [after0_2, out0_2]
  frame_out
  have ht : t.val < 16 := lt_of_lt_of_eq t.isLt N_0
  obtain_idx j : S8192x1024 := [t.val * 512 + (y 0 : ℕ), (y 1 : ℕ)] with hj
  have he : (win0_2.blk t).view.emb y = j := by blk_ext [idx t]
  have e1 : y 1 = j 1 := Fin.ext hj1.symm
  rw [he, eq_ix2 j, eq_ix2 y, e1]
  exact row _ _ _ _ (y 0) (j 0) (j 1) (fun k => by blk_point [iblk, V, idx t]) (fun k => by blk_simp [iblk, idx t]; entry_read; pointwise; blk_ext [idx t])

/-- The reference runs to its end with its arguments unchanged. -/
theorem frame_reference : Cert.quiescent_RRmsFIdeal := fun m ρ _ =>
  (θ_run Cert.RRmsFIdeal.defs _ _).mono
    (fun r h => ⟨fun c => (h c).2, sem_eq_zero_of_no_sems (by decide) r.2⟩) (Cert.RRmsFIdeal.Value.run m ρ)

/-- Kernel and reference compute the same array. -/
theorem algebraic : Cert.algebraic_KRmsFIdeal_RRmsFIdeal := by
  pair_intro
  · run_from Cert.KRmsFIdeal.Value.run_blocks m g
  · run_from Cert.RRmsFIdeal.Value.run m' g'
    rw [final, val_main_v13_eq]

end Cert.RmsFValue
-- ==== Proof.PostFValue.lean ====
module

public import proofs.«01_k».proof.Defs
public import Idealize.ShloMosaic.Lib.Claim
public import proofs.«01_k».proof.Proof.Gen.KPostFIdeal.Value
public import proofs.«01_k».proof.Proof.Gen.RPostFIdeal.Read
public import Idealize.ShloMosaic.Lib.Pipeline.ValueKit
public import Idealize.ShloMosaic.Lib.Pointwise

@[expose] public section

/-! The residual plus half the norm of a branch: every block of rows the kernel stores is the reference's rows. -/

set_option maxRecDepth 16384

noncomputable section

namespace Cert.PostFValue

open Idealize.ShloMosaic Idealize.ShloMosaic.TcCoe Idealize.SL.Sem
open Cert.KPostFIdeal Cert.KPostFIdeal.Gen Cert.RPostFIdeal.Read

/-- One row of the sum reads that row of the residual and of the branch, and the gain. -/
theorem row (x : FVec Ideal S512x1024 .f32) (f : FVec Ideal S512x1024 .f32) (g : FVec Ideal S1x1024 .f32) (X : FVec Ideal S8192x1024 .f32) (F : FVec Ideal S8192x1024 .f32) (G : FVec Ideal S1024 .f32)
    (r : Fin 512) (R : Fin 8192) (a : Fin 1024) (hx : ∀ k, x (ix2 r k) = X (ix2 R k)) (hf : ∀ k, f (ix2 r k) = F (ix2 R k)) (hg : ∀ k, g (ix2 0 k) = G (ix1 k)) :
    k0_pay1 (F := Ideal) x f g (ix2 r a) = val_main_v15 (F := Ideal) X F G (ix2 R a) := by
  pointwise [k0_pay1, val_main_v0, val_main_cst, val_main_v1, val_main_v2, val_main_cst_0, val_main_v3, val_main_v4, val_main_cst_1, val_main_v5, val_main_v6, val_main_v7, val_main_v8, val_main_v9, val_main_v10, val_main_v11, val_main_v12, val_main_cst_2, val_main_v13, val_main_v14, val_main_v15]
  simp only [hx, hf, hg]

/-- Grid point `t` holds the rows `512 t …` of the row operands and the whole gain. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

variable (m : (ℓ : Loc nD τ sig) → Buf (Elt Ideal) ℓ)

/-- The residual after the branch, as the launch leaves it. -/
theorem final (c : Dev nD) : (dats m 0 c).arrAt 3 (cfgs 0).N = val_main_v15 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp [idx t]
  rw [after0_3, out0_3]
  frame_out
  have ht : t.val < 16 := lt_of_lt_of_eq t.isLt N_0
  obtain_idx j : S8192x1024 := [t.val * 512 + (y 0 : ℕ), (y 1 : ℕ)] with hj
  have he : (win0_3.blk t).view.emb y = j := by blk_ext [idx t]
  have e1 : y 1 = j 1 := Fin.ext hj1.symm
  rw [he, eq_ix2 j, eq_ix2 y, e1]
  exact row _ _ _ _ _ _ (y 0) (j 0) (j 1) (fun k => by blk_point [iblk, V, idx t]) (fun k => by blk_point [iblk, V, idx t]) (fun k => by blk_simp [iblk, idx t]; entry_read; pointwise; blk_ext [idx t])

/-- The reference runs to its end with its arguments unchanged. -/
theorem frame_reference : Cert.quiescent_RPostFIdeal := fun m ρ _ =>
  (θ_run Cert.RPostFIdeal.defs _ _).mono
    (fun r h => ⟨fun c => (h c).2, sem_eq_zero_of_no_sems (by decide) r.2⟩) (Cert.RPostFIdeal.Value.run m ρ)

/-- Kernel and reference compute the same array. -/
theorem algebraic : Cert.algebraic_KPostFIdeal_RPostFIdeal := by
  pair_intro
  · run_from Cert.KPostFIdeal.Value.run_blocks m g
  · run_from Cert.RPostFIdeal.Value.run m' g'
    rw [final, val_main_v15_eq]

end Cert.PostFValue
-- ==== Proof.PleFValue.lean ====
module

public import proofs.«01_k».proof.Defs
public import Idealize.ShloMosaic.Lib.Claim
public import proofs.«01_k».proof.Proof.Gen.KPleFIdeal.Value
public import proofs.«01_k».proof.Proof.Gen.RPleFIdeal.Read
public import Idealize.ShloMosaic.Lib.Pipeline.ValueKit
public import Idealize.ShloMosaic.Lib.Pointwise

@[expose] public section

/-! The residual plus the norm of a gated embedding: every block of rows the kernel stores is the reference's rows. -/

set_option maxRecDepth 16384

noncomputable section

namespace Cert.PleFValue

open Idealize.ShloMosaic Idealize.ShloMosaic.TcCoe Idealize.SL.Sem
open Cert.KPleFIdeal Cert.KPleFIdeal.Gen Cert.RPleFIdeal.Read

/-- One row reads that row of the residual, the gate's logits and the embedding, and the gain. -/
theorem row (x : FVec Ideal S512x1024 .f32) (l : FVec Ideal S512x1024 .f32) (p : FVec Ideal S512x1024 .f32) (g : FVec Ideal S1x1024 .f32) (X : FVec Ideal S8192x1024 .f32) (L : FVec Ideal S8192x1024 .f32) (P : FVec Ideal S8192x1024 .f32) (G : FVec Ideal S1024 .f32)
    (r : Fin 512) (R : Fin 8192) (a : Fin 1024) (hx : ∀ k, x (ix2 r k) = X (ix2 R k)) (hl : ∀ k, l (ix2 r k) = L (ix2 R k)) (hp : ∀ k, p (ix2 r k) = P (ix2 R k)) (hg : ∀ k, g (ix2 0 k) = G (ix1 k)) :
    k0_pay1 (F := Ideal) x l p g (ix2 r a) = val_main_v20 (F := Ideal) X L P G (ix2 R a) := by
  pointwise [k0_pay1, val_main_v0, val_main_v1, val_main_cst, val_main_v2, val_main_v3, val_main_cst_0, val_main_v4, val_main_v5, val_main_v6, val_main_v7, val_main_cst_1, val_main_v8, val_main_v9, val_main_cst_2, val_main_v10, val_main_v11, val_main_cst_3, val_main_v12, val_main_v13, val_main_v14, val_main_v15, val_main_v16, val_main_v17, val_main_v18, val_main_v19, val_main_v20]
  simp only [hx, hl, hp, hg, Ideal.logistic]

/-- Grid point `t` holds the rows `512 t …` of the row operands and the whole gain. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] :=
  (by decide +kernel : ∀ t : Fin grid0.N, _)

variable (m : (ℓ : Loc nD τ sig) → Buf (Elt Ideal) ℓ)

/-- The residual after the gated embedding, as the launch leaves it. -/
theorem final (c : Dev nD) : (dats m 0 c).arrAt 4 (cfgs 0).N = val_main_v20 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp [idx t]
  rw [after0_4, out0_4]
  frame_out
  have ht : t.val < 16 := lt_of_lt_of_eq t.isLt N_0
  obtain_idx j : S8192x1024 := [t.val * 512 + (y 0 : ℕ), (y 1 : ℕ)] with hj
  have he : (win0_4.blk t).view.emb y = j := by blk_ext [idx t]
  have e1 : y 1 = j 1 := Fin.ext hj1.symm
  rw [he, eq_ix2 j, eq_ix2 y, e1]
  exact row _ _ _ _ _ _ _ _ (y 0) (j 0) (j 1) (fun k => by blk_point [iblk, V, idx t]) (fun k => by blk_point [iblk, V, idx t]) (fun k => by blk_point [iblk, V, idx t]) (fun k => by blk_simp [iblk, idx t]; entry_read; pointwise; blk_ext [idx t])

/-- The reference runs to its end with its arguments unchanged. -/
theorem frame_reference : Cert.quiescent_RPleFIdeal := fun m ρ _ =>
  (θ_run Cert.RPleFIdeal.defs _ _).mono
    (fun r h => ⟨fun c => (h c).2, sem_eq_zero_of_no_sems (by decide) r.2⟩) (Cert.RPleFIdeal.Value.run m ρ)

/-- Kernel and reference compute the same array. -/
theorem algebraic : Cert.algebraic_KPleFIdeal_RPleFIdeal := by
  pair_intro
  · run_from Cert.KPleFIdeal.Value.run_blocks m g
  · run_from Cert.RPleFIdeal.Value.run m' g'
    rw [final, val_main_v20_eq]

end Cert.PleFValue
-- ==== Proof.FfnFValue.lean ====
module

public import proofs.«01_k».proof.Defs
public import Idealize.ShloMosaic.Lib.Claim
public import proofs.«01_k».proof.Proof.Gen.KFfnFIdeal.Value
public import proofs.«01_k».proof.Proof.Gen.RFfnFIdeal.Read
public import Idealize.ShloMosaic.Lib.Pipeline.ValueKit
public import Idealize.ShloMosaic.Lib.Pointwise
public import Idealize.ShloMosaic.Lib.StableHlo.ReadAt

@[expose] public section

/-! The product with the gated unit's input weights and the unit itself: the stored gate and factor are the reference's two halves, and the stored product is `silu(gate) · up`. -/

set_option maxRecDepth 16384

noncomputable section

namespace Cert.FfnFValue

open Idealize.ShloMosaic Idealize.ShloMosaic.TcCoe Idealize.SL.Sem
open Cert.KFfnFIdeal Cert.KFfnFIdeal.Gen Cert.RFfnFIdeal.Read

section

variable (x : FVec Ideal S512x1024 .f32) (a b : FVec Ideal S1x1024x1408 .f32) (X : FVec Ideal S8192x1024 .f32) (W : FVec Ideal S1024x5632 .f32)
  (r : Fin 512) (q : Fin 1408) (R : Fin 8192) (Q : Fin 2816)

/-- An entry of the gate: a row of the input by a column of the weights. -/
theorem gate_at (hx : ∀ k, x (ix2 r k) = X (ix2 R k)) (ha : ∀ k, a (ix3 0 k q) = W (ix2 k (⟨Q.val, by omega⟩ : Fin 5632))) :
    k0_pay2 (F := Ideal) x a (ix2 r q) = val_main_v1 (F := Ideal) X W (ix2 R Q) := by
  pointwise [k0_pay2, k0_pay1, val_main_v1, val_main_v0]
  simp only [hx, ha]

/-- An entry of the factor beside it. -/
theorem up_at (hx : ∀ k, x (ix2 r k) = X (ix2 R k)) (hb : ∀ k, b (ix3 0 k q) = W (ix2 k (⟨2816 + Q.val, by omega⟩ : Fin 5632))) :
    k0_pay3 (F := Ideal) x b (ix2 r q) = val_main_v2 (F := Ideal) X W (ix2 R Q) := by
  pointwise [k0_pay3, k0_pay1, val_main_v2, val_main_v0]
  simp only [hx, hb]

/-- An entry of the unit. -/
theorem act_at (hg : k0_pay2 (F := Ideal) x a (ix2 r q) = val_main_v1 (F := Ideal) X W (ix2 R Q))
    (hu : k0_pay3 (F := Ideal) x b (ix2 r q) = val_main_v2 (F := Ideal) X W (ix2 R Q)) :
    k0_pay6 (F := Ideal) x a b (ix2 r q) = val_main_v9 (F := Ideal) X W (ix2 R Q) := by
  pointwise [k0_pay6, val_main_v9, val_main_v8, val_main_v7, val_main_call0_v5, val_main_call0_v4, val_main_call0_cst_0, val_main_call0_v3, val_main_call0_v2, val_main_call0_cst, val_main_call0_v1, val_main_call0_v0]
  simp only [hg, hu, Ideal.logistic]

/-- The reference's first slab is the gate, its second the factor. -/
theorem slab_gate : val_main_v6 (F := Ideal) X W (ix3 0 R Q) = val_main_v1 (F := Ideal) X W (ix2 R Q) := by
  generalize hA : val_main_v1 (F := Ideal) X W = A
  pointwise [val_main_v6, val_main_v5, val_main_v4, val_main_v3, hA]

theorem slab_up : val_main_v6 (F := Ideal) X W (ix3 1 R Q) = val_main_v2 (F := Ideal) X W (ix2 R Q) := by
  generalize hB : val_main_v2 (F := Ideal) X W = B
  pointwise [val_main_v6, val_main_v5, val_main_v4, val_main_v3, hB]

end

/-- Grid point `t` holds the rows `512 (t / 2) …` and the columns `1408 (t % 2) …` of either half. -/
theorem idx : ∀ t : Fin cfg0.N, win0_0.index t = ![t.val / 2, 0] ∧ win0_1.index t = ![0, 0, t.val % 2] ∧ win0_2.index t = ![0, 0, 2 + t.val % 2]
    ∧ win0_3.index t = ![0, t.val / 2, t.val % 2] ∧ win0_4.index t = ![t.val / 2, t.val % 2] :=
  (by decide +kernel : ∀ t : Fin grid0.N, _)

variable (m : (ℓ : Loc nD τ sig) → Buf (Elt Ideal) ℓ)

/-- A block of the input's rows, -/
theorem own_x (c : Dev nD) (t : Fin cfg0.N) (r : Fin 512) (R : Fin 8192) (k : Fin 1024) (hR : (R : ℕ) = t.val / 2 * 512 + r) :
    View.ld (iblk m c 0 t) r0_0 (ix2 r k) = (m ((c : Thread nD τ).loc main_arg0) : S8192x1024.Idx → EReal) (ix2 R k) := by
  blk_point [iblk, V, idx t]

/-- where a block of weights is read, -/
theorem unit_idx (k : Fin 1024) (q : Fin 1408) : r0_1.idx (ix3 0 k q) = ix3 0 k q := by
  funext a
  match a with
  | ⟨0, _⟩ => rfl
  | ⟨1, _⟩ => exact Fin.ext (by show 0 + 1 * k.val = k.val; omega)
  | ⟨2, _⟩ => exact Fin.ext (by show 0 + 1 * q.val = q.val; omega)

/-- of the gate's weights, -/
theorem own_gate (c : Dev nD) (t : Fin cfg0.N) (q : Fin 1408) (Q : Fin 2816) (k : Fin 1024) (hQ : (Q : ℕ) = t.val % 2 * 1408 + q) :
    View.ld (iblk m c 1 t) r0_1 (ix3 0 k q) = (m ((c : Thread nD τ).loc main_arg1) : S1024x5632.Idx → EReal) (ix2 k (⟨Q.val, by omega⟩ : Fin 5632)) := by
  have e : (win0_1.blk t).view.emb (ix3 0 k q) = ix3 0 k (⟨Q.val, by omega⟩ : Fin 5632) := by blk_ext [idx t]
  rw [← unit_idx k q] at e
  refine (congrArg (V m c main_v0) e).trans ?_
  unfold V
  after_reads_at

/-- and of the factor's. -/
theorem own_up (c : Dev nD) (t : Fin cfg0.N) (q : Fin 1408) (Q : Fin 2816) (k : Fin 1024) (hQ : (Q : ℕ) = t.val % 2 * 1408 + q) :
    View.ld (iblk m c 2 t) r0_1 (ix3 0 k q) = (m ((c : Thread nD τ).loc main_arg1) : S1024x5632.Idx → EReal) (ix2 k (⟨2816 + Q.val, by omega⟩ : Fin 5632)) := by
  have e : (win0_2.blk t).view.emb (ix3 0 k q) = ix3 0 k (⟨2816 + Q.val, by omega⟩ : Fin 5632) := by blk_ext [idx t]
  rw [← unit_idx k q] at e
  refine (congrArg (V m c main_v0) e).trans ?_
  unfold V
  after_reads_at

/-- A stored entry of the gate -/
theorem gate_blk (c : Dev nD) (t : Fin cfg0.N) (r : Fin 512) (R : Fin 8192) (q : Fin 1408) (Q : Fin 2816) (hR : (R : ℕ) = t.val / 2 * 512 + r)
    (hQ : (Q : ℕ) = t.val % 2 * 1408 + q) : k0_pay2 (F := Ideal) (View.ld (iblk m c 0 t) r0_0) (View.ld (iblk m c 1 t) r0_1) (ix2 r q)
      = val_main_v1 (F := Ideal) (m ((c : Thread nD τ).loc main_arg0)) (m ((c : Thread nD τ).loc main_arg1)) (ix2 R Q) :=
  gate_at _ _ _ _ r q R Q (fun k => own_x m c t _ _ k hR) (fun k => own_gate m c t _ _ k hQ)

/-- and of the factor. -/
theorem up_blk (c : Dev nD) (t : Fin cfg0.N) (r : Fin 512) (R : Fin 8192) (q : Fin 1408) (Q : Fin 2816) (hR : (R : ℕ) = t.val / 2 * 512 + r)
    (hQ : (Q : ℕ) = t.val % 2 * 1408 + q) : k0_pay3 (F := Ideal) (View.ld (iblk m c 0 t) r0_0) (View.ld (iblk m c 2 t) r0_1) (ix2 r q)
      = val_main_v2 (F := Ideal) (m ((c : Thread nD τ).loc main_arg0)) (m ((c : Thread nD τ).loc main_arg1)) (ix2 R Q) :=
  up_at _ _ _ _ r q R Q (fun k => own_x m c t _ _ k hR) (fun k => own_up m c t _ _ k hQ)

/-- Storing a block as a slab changes no entry. -/
theorem lay_gate (x : FVec Ideal S512x1024 .f32) (a : FVec Ideal S1x1024x1408 .f32) (r : Fin 512) (q : Fin 1408) :
    k0_pay4 (F := Ideal) x a (ix3 0 r q) = k0_pay2 (F := Ideal) x a (ix2 r q) := by
  generalize hA : k0_pay2 (F := Ideal) x a = A
  pointwise [k0_pay4, hA]

theorem lay_up (x : FVec Ideal S512x1024 .f32) (b : FVec Ideal S1x1024x1408 .f32) (r : Fin 512) (q : Fin 1408) :
    k0_pay5 (F := Ideal) x b (ix3 0 r q) = k0_pay3 (F := Ideal) x b (ix2 r q) := by
  generalize hB : k0_pay3 (F := Ideal) x b = B
  pointwise [k0_pay5, hB]

/-- The two slabs after the launch. -/
theorem final_gu (c : Dev nD) : (dats m 0 c).arrAt 3 (cfgs 0).N = val_main_v6 (F := Ideal) (m ((c : Thread nD τ).loc main_arg0))
    (m ((c : Thread nD τ).loc main_arg1)) := by
  refine (dats m 0 c).arrAt_eq_of_covers 3 _ (by decide +kernel) fun t hf y => ?_
  blk_simp [idx t]
  rw [after0_3, out0_3]
  have ht : t.val < 32 := lt_of_lt_of_eq t.isLt N_0
  refine View.canon_eq_of_allAt _ y _ (cover0_3 _ _ y) (View.allAt_cons_unit _ _ _ _ _ ?_ (View.allAt_cons_unit _ _ _ _ _ ?_ (View.allAt_nil _ _)))
  · intro (x : S1x512x1408.Idx) hx
    obtain_idx j : S8192x2816 := [t.val / 2 * 512 + (x 1 : ℕ), t.val % 2 * 1408 + (x 2 : ℕ)] with hj
    have x0 : x 0 = (0 : Fin 1) := Subsingleton.elim (α := Fin 1) _ _
    have hy0 : (y 0 : ℕ) = 1 + (x 0 : ℕ) := hx 0
    have hy1 : (y 1 : ℕ) = 0 + (x 1 : ℕ) := hx 1
    have hy2 : (y 2 : ℕ) = 0 + (x 2 : ℕ) := hx 2
    have x0' : (x 0 : ℕ) = 0 := congrArg Fin.val x0
    have he : (win0_3.blk t).view.emb y = ix3 1 (j 0) (j 1) := by blk_ext [idx t]
    rw [he, eq_ix3 x, x0]
    exact (lay_up _ _ (x 1) (x 2)).trans ((up_blk m c t _ _ _ _ hj0 hj1).trans (slab_up _ _ _ _).symm)
  · intro (x : S1x512x1408.Idx) hx
    obtain_idx j : S8192x2816 := [t.val / 2 * 512 + (x 1 : ℕ), t.val % 2 * 1408 + (x 2 : ℕ)] with hj
    have x0 : x 0 = (0 : Fin 1) := Subsingleton.elim (α := Fin 1) _ _
    have hy0 : (y 0 : ℕ) = 0 + (x 0 : ℕ) := hx 0
    have hy1 : (y 1 : ℕ) = 0 + (x 1 : ℕ) := hx 1
    have hy2 : (y 2 : ℕ) = 0 + (x 2 : ℕ) := hx 2
    have x0' : (x 0 : ℕ) = 0 := congrArg Fin.val x0
    have he : (win0_3.blk t).view.emb y = ix3 0 (j 0) (j 1) := by blk_ext [idx t]
    rw [he, eq_ix3 x, x0]
    exact (lay_gate _ _ (x 1) (x 2)).trans ((gate_blk m c t _ _ _ _ hj0 hj1).trans (slab_gate _ _ _ _).symm)

/-- The unit after the launch. -/
theorem final_act (c : Dev nD) : (dats m 0 c).arrAt 4 (cfgs 0).N = val_main_v9 (F := Ideal) (m ((c : Thread nD τ).loc main_arg0))
    (m ((c : Thread nD τ).loc main_arg1)) := by
  refine (dats m 0 c).arrAt_eq_of_covers 4 _ (by decide +kernel) fun t hf y => ?_
  blk_simp [idx t]
  rw [after0_4, out0_4]
  have ht : t.val < 32 := lt_of_lt_of_eq t.isLt N_0
  refine View.canon_eq_of_allAt _ y _ (cover0_4 _ y) (View.allAt_cons_unit _ _ _ _ _ ?_ (View.allAt_nil _ _))
  intro (x : S512x1408.Idx) hx
  obtain_idx j : S8192x2816 := [t.val / 2 * 512 + (x 0 : ℕ), t.val % 2 * 1408 + (x 1 : ℕ)] with hj
  have hy0 : (y 0 : ℕ) = 0 + (x 0 : ℕ) := hx 0
  have hy1 : (y 1 : ℕ) = 0 + (x 1 : ℕ) := hx 1
  have he : (win0_4.blk t).view.emb y = ix2 (j 0) (j 1) := by blk_ext [idx t]
  rw [he, eq_ix2 x]
  exact act_at _ _ _ _ _ _ _ _ _ (gate_blk m c t _ _ _ _ hj0 hj1) (up_blk m c t _ _ _ _ hj0 hj1)

/-- The reference runs to its end with its arguments unchanged. -/
theorem frame_reference : Cert.quiescent_RFfnFIdeal := fun m ρ _ =>
  (θ_run Cert.RFfnFIdeal.defs _ _).mono
    (fun r h => ⟨fun c => (h c).2.2, sem_eq_zero_of_no_sems (by decide) r.2⟩) (Cert.RFfnFIdeal.Value.run m ρ)

/-- Kernel and reference compute the same two arrays. -/
theorem algebraic : Cert.algebraic_KFfnFIdeal_RFfnFIdeal := by
  pair_intro
  · run_from Cert.KFfnFIdeal.Value.run_blocks m g
  · run_from Cert.RFfnFIdeal.Value.run m' g'
    · rw [final_gu, val_main_v6_eq]
    · rw [final_act, val_main_v9_eq]

end Cert.FfnFValue
-- ==== Proof.KprepFValue.lean ====
module

public import proofs.«01_k».proof.Defs
public import Idealize.ShloMosaic.Lib.Claim
public import proofs.«01_k».proof.Proof.Gen.KKprepFIdeal.Frame
public import proofs.«01_k».proof.Proof.Gen.RKprepFIdeal.Read
public import Idealize.ShloMosaic.Lib.Pipeline.ValueKit
public import Idealize.ShloMosaic.Lib.Pointwise
public import Idealize.ShloMosaic.Lib.StableHlo.ReadAt

@[expose] public section

/-! The two latent norms and the rotation of the keys: the key's columns come twice, the second time with its halves exchanged and the first negated, so that the rotation is one sum of two products. -/

set_option maxRecDepth 16384

noncomputable section

namespace Cert.KprepFValue

open Idealize.ShloMosaic Idealize.ShloMosaic.TcCoe Idealize.SL.Sem
open Cert.KKprepFIdeal Cert.KKprepFIdeal.Gen Cert.RKprepFIdeal.Read

/-- Grid point `t` holds the rows `512 t …` of the row operands and the whole gains. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0] ∧ win0_7.index t = ![t.val, 0] :=
  (by decide +kernel : ∀ t : Fin grid0.N, _)

section

variable (x : FVec Ideal S512x640 .f32) (gq : FVec Ideal S1x256 .f32) (gk : FVec Ideal S1x128 .f32) (u v : FVec Ideal S512x128 .f32)
  (X : FVec Ideal S8192x448 .f32) (GQ : FVec Ideal S256 .f32) (GK : FVec Ideal S128 .f32)

/-- An entry of the queries' latent, normed. -/
theorem row_q (r : Fin 512) (R : Fin 8192) (k : Fin 256) (hx : ∀ a : Fin 384, x (ix2 r ⟨a.val, by omega⟩) = X (ix2 R ⟨a.val, by omega⟩))
    (hg : ∀ a, gq (ix2 0 a) = GQ (ix1 a)) : k0_pay6 (F := Ideal) x gq (ix2 r k) = val_main_v16 (F := Ideal) X GQ (ix2 R k) := by
  have hx' : ∀ a : Fin 256, x (ix2 r ⟨a.val, by omega⟩) = X (ix2 R ⟨a.val, by omega⟩) := fun a => hx ⟨a.val, by omega⟩
  pointwise [k0_pay6, k0_pay3, val_main_v0, val_main_v3, val_main_v4, val_main_v5, val_main_v6, val_main_v7, val_main_v8, val_main_v9, val_main_v10, val_main_v11, val_main_v12, val_main_v13, val_main_v14, val_main_v15, val_main_v16, val_main_cst, val_main_cst_0, val_main_cst_1]
  simp only [hx', hg, zero_add]

/-- An entry of the keys' latent, normed. -/
theorem row_k (r : Fin 512) (R : Fin 8192) (k : Fin 128) (hx : ∀ a : Fin 384, x (ix2 r ⟨a.val, by omega⟩) = X (ix2 R ⟨a.val, by omega⟩))
    (hg : ∀ a, gk (ix2 0 a) = GK (ix1 a)) : k0_pay1 (F := Ideal) (k0_pay4 x gk) (ix2 r k) = val_main_v30 (F := Ideal) X GK (ix2 R k) := by
  have hx' : ∀ a : Fin 128, x (ix2 r ⟨256 + a.val, by omega⟩) = X (ix2 R ⟨256 + a.val, by omega⟩) := fun a => hx ⟨256 + a.val, by omega⟩
  pointwise [k0_pay1, k0_pay4, k0_pay3, val_main_v1, val_main_v17, val_main_v18, val_main_v19, val_main_v20, val_main_v21, val_main_v22, val_main_v23, val_main_v24, val_main_v25, val_main_v26, val_main_v27, val_main_v28, val_main_v29, val_main_v30, val_main_cst_1, val_main_cst_2, val_main_cst_3, val_main_cst_4]
  simp only [hx', hg, zero_add]

/-- An entry of the rotated key. -/
theorem row_r (r : Fin 512) (k : Fin 128) : k0_pay2 (F := Ideal) (k0_pay5 x u v) (ix2 r k)
    = x (ix2 r ⟨384 + k.val, by omega⟩) * u (ix2 r k) + x (ix2 r ⟨512 + k.val, by omega⟩) * v (ix2 r k) := by
  pointwise [k0_pay2, k0_pay5, k0_pay3]

end

variable (m : (ℓ : Loc nD τ sig) → Buf (Elt Ideal) ℓ)

/-- The arrays the launch reads: the two latents and the key, -/
theorem lat_at (c : Dev nD) (R : Fin 8192) (l : Fin 640) (k : Fin 448) (hl : l.val = k.val) :
    V m c main_v6 (ix2 R l) = m ((c : Thread nD τ).loc main_arg0) (ix2 R k) := by
  have hk : k.val < 448 := k.isLt
  unfold V
  after_reads_at
  by_cases h : k.val < 384
  · rw [dif_pos (by omega)]
    after_reads_at
    exact congrArg _ (congrArg (ix2 R) (Fin.ext (by show l.val = k.val; exact hl)))
  · rw [dif_neg (by omega), dif_pos (by omega)]
    after_reads_at
    exact congrArg _ (congrArg (ix2 R) (Fin.ext (by show 384 + (l.val - 384) = k.val; omega)))

/-- the key's second half negated, -/
theorem neg_at (c : Dev nD) (R : Fin 8192) (l : Fin 640) (k : Fin 448) (e : Fin 32) (hl : l.val = 512 + e.val) (hk : k.val = 416 + e.val) :
    V m c main_v6 (ix2 R l) = @Neg.neg EReal _ (m ((c : Thread nD τ).loc main_arg0) (ix2 R k)) := by
  have he : e.val < 32 := e.isLt
  unfold V
  after_reads_at
  rw [dif_neg (by omega), dif_neg (by omega), dif_neg (by omega), dif_pos (by omega)]
  after_reads_at
  exact congrArg (@Neg.neg EReal _) (congrArg _ (congrArg (ix2 R) (Fin.ext (by show 416 + (l.val - 384 - 64 - 64) = k.val; omega))))

/-- and its first half, -/
theorem swap_at (c : Dev nD) (R : Fin 8192) (l : Fin 640) (k : Fin 448) (e : Fin 32) (hl : l.val = 544 + e.val) (hk : k.val = 384 + e.val) :
    V m c main_v6 (ix2 R l) = m ((c : Thread nD τ).loc main_arg0) (ix2 R k) := by
  have he : e.val < 32 := e.isLt
  unfold V
  after_reads_at
  rw [dif_neg (by omega), dif_neg (by omega), dif_neg (by omega), dif_neg (by omega), dif_pos (by omega)]
  after_reads_at
  exact congrArg _ (congrArg (ix2 R) (Fin.ext (by show 384 + (l.val - 384 - 64 - 64 - 32) = k.val; omega)))

/-- the cosines twice, -/
theorem cos_at (c : Dev nD) (R : Fin 8192) (e : Fin 32) (k : Fin 128) (hk : k.val = e.val ∨ k.val = 32 + e.val) :
    V m c main_v8 (ix2 R k) = m ((c : Thread nD τ).loc main_arg3) (ix2 R e) := by
  have he : e.val < 32 := e.isLt
  unfold V
  after_reads_at
  rcases hk with hk | hk
  · rw [dif_pos (by omega)]
    exact congrArg _ (congrArg (ix2 R) (Fin.ext (by show k.val = e.val; omega)))
  · rw [dif_neg (by omega), dif_pos (by omega)]
    exact congrArg _ (congrArg (ix2 R) (Fin.ext (by show k.val - 32 = e.val; omega)))

/-- the sines twice, -/
theorem sin_at (c : Dev nD) (R : Fin 8192) (e : Fin 32) (k : Fin 128) (hk : k.val = e.val ∨ k.val = 32 + e.val) :
    V m c main_v9 (ix2 R k) = m ((c : Thread nD τ).loc main_arg4) (ix2 R e) := by
  have he : e.val < 32 := e.isLt
  unfold V
  after_reads_at
  rcases hk with hk | hk
  · rw [dif_pos (by omega)]
    exact congrArg _ (congrArg (ix2 R) (Fin.ext (by show k.val = e.val; omega)))
  · rw [dif_neg (by omega), dif_pos (by omega)]
    exact congrArg _ (congrArg (ix2 R) (Fin.ext (by show k.val - 32 = e.val; omega)))

/-- and the two gains as rows. -/
theorem gq_at (c : Dev nD) (k : Fin 256) : V m c main_v14 (ix2 0 k) = m ((c : Thread nD τ).loc main_arg1) (ix1 k) := by
  unfold V
  after_reads_at

theorem gk_at (c : Dev nD) (k : Fin 128) : V m c main_v15 (ix2 0 k) = m ((c : Thread nD τ).loc main_arg2) (ix1 k) := by
  unfold V
  after_reads_at

/-- A block of the latents. -/
theorem lat_blk (c : Dev nD) (t : Fin cfg0.N) (r : Fin 512) (R : Fin 8192) (hR : R.val = t.val * 512 + r.val) (a : Fin 384) :
    iblk m c 0 t (ix2 r (⟨a.val, by omega⟩ : Fin 640)) = m ((c : Thread nD τ).loc main_arg0) (ix2 R (⟨a.val, by omega⟩ : Fin 448)) :=
  (by blk_point [iblk, V, idx t] : iblk m c 0 t (ix2 r (⟨a.val, by omega⟩ : Fin 640)) = V m c main_v6 (ix2 R (⟨a.val, by omega⟩ : Fin 640))).trans
    (lat_at m c _ _ _ rfl)

/-- The queries' latents after the launch. -/
theorem final_q (c : Dev nD) : (dats m 0 c).arrAt 5 (cfgs 0).N = val_main_v16 (F := Ideal) (m ((c : Thread nD τ).loc main_arg0))
    (m ((c : Thread nD τ).loc main_arg1)) := by
  refine (dats m 0 c).arrAt_eq_of_covers 5 _ (by decide +kernel) fun t hf y => ?_
  blk_simp [idx t]
  rw [after0_5, out0_5]
  frame_out
  have ht : t.val < 16 := lt_of_lt_of_eq t.isLt N_0
  obtain_idx j : S8192x256 := [t.val * 512 + (y 0 : ℕ), (y 1 : ℕ)] with hj
  have he : (win0_5.blk t).view.emb y = j := by blk_ext [idx t]
  have e1 : y 1 = j 1 := Fin.ext hj1.symm
  rw [he, eq_ix2 j, eq_ix2 y, e1]
  exact row_q _ _ _ _ (y 0) (j 0) (j 1) (lat_blk m c t _ _ hj0)
    (fun k => (by blk_point [iblk, V, idx t] : iblk m c 3 t (ix2 0 k) = V m c main_v14 (ix2 0 k)).trans (gq_at m c k))

/-- The keys' latents after the launch. -/
theorem final_k (c : Dev nD) : (dats m 0 c).arrAt 6 (cfgs 0).N = val_main_v30 (F := Ideal) (m ((c : Thread nD τ).loc main_arg0))
    (m ((c : Thread nD τ).loc main_arg2)) := by
  refine (dats m 0 c).arrAt_eq_of_covers 6 _ (by decide +kernel) fun t hf y => ?_
  blk_simp [idx t]
  rw [after0_6, out0_6]
  frame_out
  have ht : t.val < 16 := lt_of_lt_of_eq t.isLt N_0
  obtain_idx j : S8192x128 := [t.val * 512 + (y 0 : ℕ), (y 1 : ℕ)] with hj
  have he : (win0_6.blk t).view.emb y = j := by blk_ext [idx t]
  have e1 : y 1 = j 1 := Fin.ext hj1.symm
  rw [he, eq_ix2 j, eq_ix2 y, e1]
  exact row_k _ _ _ _ (y 0) (j 0) (j 1) (lat_blk m c t _ _ hj0)
    (fun k => (by blk_point [iblk, V, idx t] : iblk m c 4 t (ix2 0 k) = V m c main_v15 (ix2 0 k)).trans (gk_at m c k))

/-- The padded rotated keys. -/
def rot (A : FVec Ideal S8192x640 .f32) (C S : FVec Ideal S8192x128 .f32) : FVec Ideal S8192x128 .bf16 := fun i =>
  A (ix2 (i 0) ⟨384 + (i 1).val, by have h : (i 1).val < 128 := (i 1).isLt; omega⟩) * C (ix2 (i 0) (i 1))
    + A (ix2 (i 0) ⟨512 + (i 1).val, by have h : (i 1).val < 128 := (i 1).isLt; omega⟩) * S (ix2 (i 0) (i 1))

/-- The launch leaves them. -/
theorem final_r (c : Dev nD) : (dats m 0 c).arrAt 7 (cfgs 0).N = rot (V m c main_v6) (V m c main_v8) (V m c main_v9) := by
  refine (dats m 0 c).arrAt_eq_of_covers 7 _ (by decide +kernel) fun t hf y => ?_
  blk_simp [idx t]
  rw [after0_7, out0_7]
  frame_out
  have ht : t.val < 16 := lt_of_lt_of_eq t.isLt N_0
  obtain_idx j : S8192x128 := [t.val * 512 + (y 0 : ℕ), (y 1 : ℕ)] with hj
  have he : (win0_7.blk t).view.emb y = j := by blk_ext [idx t]
  have e1 : y 1 = j 1 := Fin.ext hj1.symm
  rw [he, eq_ix2 y, e1]
  refine (row_r _ _ _ (y 0) (j 1)).trans ?_
  unfold rot
  have hA : ∀ l, iblk m c 0 t (ix2 (y 0) l) = V m c main_v6 (ix2 (j 0) l) := fun l => by blk_point [iblk, V, idx t]
  have hC : ∀ l, iblk m c 1 t (ix2 (y 0) l) = V m c main_v8 (ix2 (j 0) l) := fun l => by blk_point [iblk, V, idx t]
  have hS : ∀ l, iblk m c 2 t (ix2 (y 0) l) = V m c main_v9 (ix2 (j 0) l) := fun l => by blk_point [iblk, V, idx t]
  exact congrArg₂ (· + ·) (congrArg₂ (· * ·) (hA _) (hC _)) (congrArg₂ (· * ·) (hA _) (hS _))

variable {m} in
/-- The contents the line after the launch starts from. -/
def launched (c : Dev nD) : Valuation τ sig (Elt Ideal) := Pipeline.withArrays (cfgs 0).spec c (V0 m c) fun w => (dats m 0 c).arrAt w (cfgs 0).N

/-- The padded keys as that line finds them. -/
def arr (c : Dev nD) : S8192x128.Idx → EReal := launched (m := m) c (Proc.devRef .tc main_v16_2)

theorem arr_eq (c : Dev nD) : arr m c = rot (V m c main_v6) (V m c main_v8) (V m c main_v9) :=
  (Pipeline.withArrays_arr (cfgs 0).spec (by decide) c (V0 m c) (fun w => (dats m 0 c).arrAt w (cfgs 0).N) 7).trans (final_r m c)

/-- The line after the launch cuts the padding off. -/
theorem tail_at (c : Dev nD) (R : Fin 8192) (k : Fin 64) :
    Pipeline.afterTail₀ cfgs (dats m) 0 (V0 m) [hostOps1] c main_v17 (ix2 R k) = arr m c (ix2 R (⟨k.val, by omega⟩ : Fin 128)) := by
  unfold Pipeline.afterTail₀
  change StableHlo.after _ (launched c) _ _ = _
  after_reads_at
  rfl

section

variable (X : FVec Ideal S8192x448 .f32) (C S : FVec Ideal S8192x32 .f32)

/-- The reference's rotated key: the first of a pair, -/
theorem ref_lo (R : Fin 8192) (l : Fin 64) (e : Fin 32) (hl : l.val = e.val) :
    val_main_v44 (F := Ideal) X C S (ix2 R l)
      = X (ix2 R ⟨384 + e.val, by omega⟩) * C (ix2 R e) - X (ix2 R ⟨416 + e.val, by omega⟩) * S (ix2 R e) := by
  have he : e.val < 32 := e.isLt
  obtain ⟨l, hll⟩ := l
  dsimp only at hl
  subst hl
  pointwise [val_main_v2, val_main_v31, val_main_v32, val_main_v33, val_main_v34, val_main_v35, val_main_v36, val_main_v37, val_main_v38, val_main_v39, val_main_v40, val_main_v41, val_main_v42, val_main_v43, val_main_v44]
  exact congrArg (_ - ·) (congrArg₂ (· * ·) (congrArg X (congrArg (ix2 R) (Fin.ext (by show 384 + (32 + e.val) = 416 + e.val; omega)))) rfl)

/-- and the second. -/
theorem ref_hi (R : Fin 8192) (l : Fin 64) (e : Fin 32) (hl : l.val = 32 + e.val) :
    val_main_v44 (F := Ideal) X C S (ix2 R l)
      = X (ix2 R ⟨416 + e.val, by omega⟩) * C (ix2 R e) + X (ix2 R ⟨384 + e.val, by omega⟩) * S (ix2 R e) := by
  have he : e.val < 32 := e.isLt
  obtain ⟨l, hll⟩ := l
  dsimp only at hl
  subst hl
  pointwise [val_main_v2, val_main_v31, val_main_v32, val_main_v33, val_main_v34, val_main_v35, val_main_v36, val_main_v37, val_main_v38, val_main_v39, val_main_v40, val_main_v41, val_main_v42, val_main_v43, val_main_v44]
  exact congrArg (· + _) (congrArg₂ (· * ·) (congrArg X (congrArg (ix2 R) (Fin.ext (by show 384 + (32 + e.val) = 416 + e.val; omega)))) rfl)

end

/-- The rotated keys after that line are the reference's. -/
theorem tail_r (c : Dev nD) : Pipeline.afterTail₀ cfgs (dats m) 0 (V0 m) [hostOps1] c main_v17
    = val_main_v44 (F := Ideal) (m ((c : Thread nD τ).loc main_arg0)) (m ((c : Thread nD τ).loc main_arg3)) (m ((c : Thread nD τ).loc main_arg4)) := by
  funext i
  obtain ⟨R, k, rfl⟩ : ∃ R k, i = ix2 R k := ⟨i 0, i 1, eq_ix2 i⟩
  have hk : k.val < 64 := k.isLt
  refine (tail_at m c R k).trans ((congrFun (arr_eq m c) _).trans ?_)
  by_cases h : k.val < 32
  · obtain ⟨e, he⟩ : ∃ e : Fin 32, k.val = e.val := ⟨⟨k.val, h⟩, rfl⟩
    have hb : e.val < 32 := e.isLt
    rw [ref_lo _ _ _ R k e he, sub_eq_add_neg]
    refine congrArg₂ (· + ·) ?_ (Eq.trans ?_ (EReal.neg_mul _ _))
    · exact congrArg₂ (· * ·) (lat_at m c R _ _ (by show 384 + k.val = 384 + e.val; omega)) (cos_at m c R e _ (Or.inl he))
    · exact congrArg₂ (· * ·) (neg_at m c R _ _ e (by show 512 + k.val = 512 + e.val; omega) rfl) (sin_at m c R e _ (Or.inl he))
  · obtain ⟨e, he⟩ : ∃ e : Fin 32, k.val = 32 + e.val := ⟨⟨k.val - 32, by omega⟩, by show k.val = 32 + (k.val - 32); omega⟩
    have hb : e.val < 32 := e.isLt
    rw [ref_hi _ _ _ R k e he]
    refine congrArg₂ (· + ·) ?_ ?_
    · exact congrArg₂ (· * ·) (lat_at m c R _ _ (by show 384 + k.val = 416 + e.val; omega)) (cos_at m c R e _ (Or.inr he))
    · exact congrArg₂ (· * ·) (swap_at m c R _ _ e (by show 512 + k.val = 544 + e.val; omega) rfl) (sin_at m c R e _ (Or.inr he))

/-- The run with its three results named and the arguments unchanged. -/
theorem run_results (ρ : Dev nD → PrngReg) : θ_run defs (onTc (τ := τ) (main (F := Ideal))) ⟨m, fun _ => 0, ρ⟩ fun r => ∀ c : Dev nD,
      r.2.mem ((c : Thread nD τ).loc main_v16_0) = (dats m 0 c).arrAt 5 (cfgs 0).N
      ∧ r.2.mem ((c : Thread nD τ).loc main_v16_1) = (dats m 0 c).arrAt 6 (cfgs 0).N
      ∧ r.2.mem ((c : Thread nD τ).loc main_v17) = Pipeline.afterTail₀ cfgs (dats m) 0 (V0 m) [hostOps1] c main_v17
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h.1 c).1 5, (h.1 c).1 6, (h.1 c).2 main_v17 (Pipeline.mem_restRefs_of main_v17 (by decide) (by decide)), h.2 c⟩)
    (θ_run_and (run_main m ρ) (unchanged m ρ))

/-- The reference runs to its end with its arguments unchanged. -/
theorem frame_reference : Cert.quiescent_RKprepFIdeal := fun m ρ _ =>
  (θ_run Cert.RKprepFIdeal.defs _ _).mono
    (fun r h => ⟨fun c => (h c).2.2.2, sem_eq_zero_of_no_sems (by decide) r.2⟩) (Cert.RKprepFIdeal.Value.run m ρ)

/-- Kernel and reference compute the same three arrays. -/
theorem algebraic : Cert.algebraic_KKprepFIdeal_RKprepFIdeal := by
  pair_intro
  · run_from run_results m g
  · run_from Cert.RKprepFIdeal.Value.run m' g'
    · rw [final_q]; exact val_main_v16_eq _ _
    · rw [final_k]; exact val_main_v30_eq _ _
    · rw [tail_r, val_main_v44_eq, (hagree c).2.2.2.1, (hagree c).2.2.2.2]

end Cert.KprepFValue
-- ==== Proof.QropeFValue.lean ====
module

public import proofs.«01_k».proof.Defs
public import Idealize.ShloMosaic.Lib.Claim
public import proofs.«01_k».proof.Proof.Gen.KQropeFIdeal.Frame
public import proofs.«01_k».proof.Proof.Gen.RQropeFIdeal.Read
public import Idealize.ShloMosaic.Lib.Pipeline.ValueKit
public import Idealize.ShloMosaic.Lib.Pointwise
public import Idealize.ShloMosaic.Lib.StableHlo.ReadAt

@[expose] public section

/-! The rotation and scaling of the queries: a row holds the sixteen heads twice, the second time with the halves of each head's rotated columns exchanged and the first negated, so that a head's result is one sum of two products. -/

set_option maxRecDepth 16384

noncomputable section

namespace Cert.QropeFValue

open Idealize.ShloMosaic Idealize.ShloMosaic.TcCoe Idealize.SL.Sem
open Cert.KQropeFIdeal Cert.KQropeFIdeal.Gen Cert.RQropeFIdeal.Read

/-- Grid point `t` holds the rows `256 t …`. -/
theorem idx : ∀ t : Fin cfg0.N, win0_0.index t = ![t.val, 0] ∧ win0_1.index t = ![t.val, 0] ∧ win0_2.index t = ![t.val, 0]
    ∧ win0_3.index t = ![t.val, 0] :=
  (by decide +kernel : ∀ t : Fin grid0.N, _)

variable (m : (ℓ : Loc nD τ sig) → Buf (Elt Ideal) ℓ)

/-- The scale. -/
def scale : EReal := Ideal.ofBits .f32 0x3D93CD3A#32

/-- The sixteen heads of a block of rows. -/
def piece (x : FVec Ideal S256x8192 .f32) (c s : FVec Ideal S256x256 .f32) : Fin 16 → FVec Ideal S256x256 .f32 :=
  ![k0_pay8 x c s, k0_pay9 x c s, k0_pay10 x c s, k0_pay11 x c s, k0_pay12 x c s, k0_pay15 (k0_pay13 x c s) k0_pay14,
    k0_pay16 (k0_pay5 x) (k0_pay6 c) (k0_pay7 s), k0_pay17 (k0_pay5 x) (k0_pay6 c) (k0_pay7 s), k0_pay18 (k0_pay5 x) (k0_pay6 c) (k0_pay7 s),
    k0_pay19 (k0_pay5 x) (k0_pay6 c) (k0_pay7 s), k0_pay20 (k0_pay5 x) (k0_pay6 c) (k0_pay7 s), k0_pay21 (k0_pay5 x) (k0_pay6 c) (k0_pay7 s),
    k0_pay22 (k0_pay5 x) (k0_pay6 c) (k0_pay7 s),
    mulf (k0_pay1 (k0_pay7 s) (k0_pay23 (k0_pay5 x)) (k0_pay24 (k0_pay5 x) (k0_pay6 c))) k0_pay14,
    mulf (k0_pay2 (k0_pay5 x) (k0_pay6 c) (k0_pay7 s)) k0_pay14, mulf (k0_pay3 (k0_pay5 x) (k0_pay6 c) (k0_pay7 s)) k0_pay14]

set_option maxHeartbeats 2000000 in
/-- One entry of a head. -/
theorem piece_at (x : FVec Ideal S256x8192 .f32) (c s : FVec Ideal S256x256 .f32) (n : Fin 16) (q k : Fin 256) (K K' : Fin 8192)
    (hK : K.val = 256 * n.val + k.val) (hK' : K'.val = 4096 + (256 * n.val + k.val)) :
    piece x c s n (ix2 q k) = (x (ix2 q K) * c (ix2 q k) + x (ix2 q K') * s (ix2 q k)) * scale := by
  obtain ⟨K, hk⟩ := K
  obtain ⟨K', hk'⟩ := K'
  dsimp only at hK hK'
  subst hK hK'
  fin_cases n
  all_goals
    pointwise [piece, scale, k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24]
      <;> exact congrArg (fun e : EReal => (_ + e * _) * _) (congrArg x (congrArg (ix2 q) (Fin.ext (by first | rfl | (dsimp only; omega)))))

set_option maxHeartbeats 2000000 in
/-- One entry of the block the kernel stores. -/
theorem out_at (x : Vec Ideal S256x8192 .f32) (c s : Vec Ideal S256x256 .f32) (q : Fin 256) (l : Fin 4096) (n : Fin 16) (k : Fin 256)
    (hl : l.val = 256 * n.val + k.val) :
    out0_3 (F := Ideal) x c s (ix2 q l) = piece x c s n (ix2 q k) := by
  unfold_out out0_3
  frame_out
  have hk : k.val < 256 := k.isLt
  exact concatenate_ofFn_apply (t := S256x4096) (s₁ := S256x256) 1 (piece x c s) concatenates_S256x256_S256x256_S256x256_S256x256_S256x256_S256x256_S256x256_S256x256_S256x256_S256x256_S256x256_S256x256_S256x256_S256x256_S256x256_S256x256_S256x4096_d1
    rfl 256 rfl (ix2 q l) n (by show l.val / 256 = n.val; omega) (ix2 q k) (by show k.val = l.val % 256; omega)
    (fun b hb => by match b with | ⟨0, _⟩ => rfl | ⟨1, _⟩ => exact absurd rfl hb)

/-- The padded rows the launch leaves. -/
def prod (x : FVec Ideal S8192x8192 .f32) (c s : FVec Ideal S8192x256 .f32) : FVec Ideal S8192x4096 .bf16 := fun i =>
  (x (ix2 (i 0) ⟨(i 1).val, lt_of_lt_of_le (show (i 1).val < 4096 from (i 1).isLt) (by norm_num)⟩) * c (ix2 (i 0) ⟨(i 1).val % 256, Nat.mod_lt _ (by norm_num)⟩)
    + x (ix2 (i 0) ⟨4096 + (i 1).val, by have h : (i 1).val < 4096 := (i 1).isLt; omega⟩) * s (ix2 (i 0) ⟨(i 1).val % 256, Nat.mod_lt _ (by norm_num)⟩)) * scale

/-- The kernel's array after the launch. -/
theorem final_q (c : Dev nD) : (dats m 0 c).arrAt 3 (cfgs 0).N = prod (V m c main_v17) (V m c main_v4) (V m c main_v6) := by
  refine (dats m 0 c).arrAt_eq_of_covers 3 _ (by decide +kernel) fun t hf y => ?_
  blk_simp [idx t]
  rw [after0_3]
  have ht : t.val < 32 := lt_of_lt_of_eq t.isLt N_0
  obtain_idx j : S8192x4096 := [t.val * 256 + (y 0 : ℕ), (y 1 : ℕ)] with hj
  have he : (win0_3.blk t).view.emb y = j := by blk_ext [idx t]
  rw [he, eq_ix2 y]
  have h1 : (y 1).val < 4096 := (y 1).isLt
  have e1 : (j 1).val = (y 1).val := hj1
  rw [out_at _ _ _ (y 0) (y 1) ⟨(y 1).val / 256, by omega⟩ ⟨(y 1).val % 256, by omega⟩ (by show (y 1).val = 256 * ((y 1).val / 256) + (y 1).val % 256; omega),
    piece_at _ _ _ _ (y 0) _ ⟨(y 1).val, by omega⟩ ⟨4096 + (y 1).val, by omega⟩ (by show (y 1).val = 256 * ((y 1).val / 256) + (y 1).val % 256; omega)
      (by show 4096 + (y 1).val = 4096 + (256 * ((y 1).val / 256) + (y 1).val % 256); omega)]
  unfold prod
  have ea : iblk m c 0 t (ix2 (y 0) ⟨(y 1).val, by omega⟩) = V m c main_v17 (ix2 (j 0) ⟨(j 1).val, by omega⟩) := by
    blk_point [iblk, V, idx t]
  have ed : iblk m c 0 t (ix2 (y 0) ⟨4096 + (y 1).val, by omega⟩) = V m c main_v17 (ix2 (j 0) ⟨4096 + (j 1).val, by omega⟩) := by
    blk_point [iblk, V, idx t]
  have eb : iblk m c 1 t (ix2 (y 0) ⟨(y 1).val % 256, by omega⟩) = V m c main_v4 (ix2 (j 0) ⟨(j 1).val % 256, by omega⟩) := by
    blk_point [iblk, V, idx t]
  have ec : iblk m c 2 t (ix2 (y 0) ⟨(y 1).val % 256, by omega⟩) = V m c main_v6 (ix2 (j 0) ⟨(j 1).val % 256, by omega⟩) := by
    blk_point [iblk, V, idx t]
  rw [ea, eb, ec, ed]

set_option maxRecDepth 100000 in
/-- The arrays the launch reads: the queries, -/
theorem pad_at (c : Dev nD) (R : Fin 8192) (h : Fin 16) (k : Fin 192) (K : Fin 8192) (hK : K.val = 256 * h.val + k.val) :
    V m c main_v17 (ix2 R K) = m ((c : Thread nD τ).loc main_arg0) (ix3 R h k) := by
  have h1 : k.val < 192 := k.isLt
  have h2 : h.val < 16 := h.isLt
  unfold V
  after_reads_at
  rw [dif_pos (by omega)]
  rw [dif_pos (by omega)]
  exact congrArg _ (congrArg₂ (ix3 R) (Fin.ext (by show K.val / 256 = h.val; omega)) (Fin.ext (by show K.val % 256 = k.val; omega)))

/-- zeros where the columns carry no position, -/
theorem swap_zero (c : Dev nD) (R : Fin 8192) (h : Fin 16) (k : Fin 192) (hk : k.val < 128) (K : Fin 8192) (hK : K.val = 4096 + (256 * h.val + k.val)) :
    V m c main_v17 (ix2 R K) = (0 : EReal) := by
  obtain ⟨K, hk'⟩ := K
  dsimp only at hK
  subst hK
  have h2 : h.val < 16 := h.isLt
  unfold V
  after_reads_at
  rw [dif_pos (by omega)]
  after_reads_at

/-- the second half of a head's rotated columns negated, -/
theorem swap_lo (c : Dev nD) (R : Fin 8192) (h : Fin 16) (e : Fin 32) (k : Fin 192) (hk : k.val = 160 + e.val) (K : Fin 8192)
    (hK : K.val = 4096 + (256 * h.val + (128 + e.val))) :
    V m c main_v17 (ix2 R K) = @Neg.neg EReal _ (m ((c : Thread nD τ).loc main_arg0) (ix3 R h k)) := by
  obtain ⟨K, hk'⟩ := K
  obtain ⟨k, hkk⟩ := k
  dsimp only at hK hk
  subst hK hk
  have h2 : h.val < 16 := h.isLt
  have h3 : e.val < 32 := e.isLt
  unfold V
  after_reads_at
  rw [dif_neg (by omega), dif_pos (by omega)]
  after_reads_at
  exact congrArg (@Neg.neg EReal _) (congrArg _ (congrArg₂ (ix3 R) (Fin.ext (by dsimp only; omega)) (Fin.ext (by dsimp only; omega))))

/-- and the first half. -/
theorem swap_hi (c : Dev nD) (R : Fin 8192) (h : Fin 16) (e : Fin 32) (k : Fin 192) (hk : k.val = 128 + e.val) (K : Fin 8192)
    (hK : K.val = 4096 + (256 * h.val + (160 + e.val))) :
    V m c main_v17 (ix2 R K) = m ((c : Thread nD τ).loc main_arg0) (ix3 R h k) := by
  obtain ⟨K, hk'⟩ := K
  obtain ⟨k, hkk⟩ := k
  dsimp only at hK hk
  subst hK hk
  have h2 : h.val < 16 := h.isLt
  have h3 : e.val < 32 := e.isLt
  unfold V
  after_reads_at
  rw [dif_neg (by omega), dif_neg (by omega), dif_pos (by omega)]
  after_reads_at
  exact congrArg _ (congrArg₂ (ix3 R) (Fin.ext (by dsimp only; omega)) (Fin.ext (by dsimp only; omega)))

/-- The cosines behind 128 ones -/
theorem cos_one (c : Dev nD) (R : Fin 8192) (k : Fin 256) (hk : k.val < 128) : V m c main_v4 (ix2 R k) = (1 : EReal) := by
  unfold V
  after_reads_at
  rw [dif_pos hk]

/-- and twice, -/
theorem cos_at (c : Dev nD) (R : Fin 8192) (e : Fin 32) (k : Fin 256) (hk : k.val = 128 + e.val ∨ k.val = 160 + e.val) :
    V m c main_v4 (ix2 R k) = m ((c : Thread nD τ).loc main_arg1) (ix2 R e) := by
  have he : e.val < 32 := e.isLt
  unfold V
  after_reads_at
  rw [dif_neg (by omega)]
  rcases hk with hk | hk
  · rw [dif_pos (by omega)]
    after_reads_at
    exact congrArg _ (congrArg (ix2 R) (Fin.ext (by show k.val - 128 = e.val; omega)))
  · rw [dif_neg (by omega), dif_pos (by omega)]
    after_reads_at
    exact congrArg _ (congrArg (ix2 R) (Fin.ext (by show k.val - 128 - 32 = e.val; omega)))

/-- and the sines. -/
theorem sin_at (c : Dev nD) (R : Fin 8192) (e : Fin 32) (k : Fin 256) (hk : k.val = 128 + e.val ∨ k.val = 160 + e.val) :
    V m c main_v6 (ix2 R k) = m ((c : Thread nD τ).loc main_arg2) (ix2 R e) := by
  have he : e.val < 32 := e.isLt
  unfold V
  after_reads_at
  rw [dif_neg (by omega)]
  rcases hk with hk | hk
  · rw [dif_pos (by omega)]
    after_reads_at
    exact congrArg _ (congrArg (ix2 R) (Fin.ext (by show k.val - 128 = e.val; omega)))
  · rw [dif_neg (by omega), dif_pos (by omega)]
    after_reads_at
    exact congrArg _ (congrArg (ix2 R) (Fin.ext (by show k.val - 128 - 32 = e.val; omega)))

section

variable (X : FVec Ideal S8192x16x192 .f32) (C S : FVec Ideal S8192x32 .f32) (R : Fin 8192) (h : Fin 16)

/-- The reference's entries: the columns without position, -/
theorem ref_nope (k : Fin 192) (h1 : k.val < 128) :
    val_main_v24 (F := Ideal) X C S (ix3 R h k) = X (ix3 R h k) * scale := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst]
  rw [dif_pos h1]
  rfl

/-- the first of a pair, -/
theorem ref_lo (k k' : Fin 192) (e : Fin 32) (h1 : k.val = 128 + e.val) (h2 : k'.val = 160 + e.val) :
    val_main_v24 (F := Ideal) X C S (ix3 R h k) = (X (ix3 R h k) * C (ix2 R e) - X (ix3 R h k') * S (ix2 R e)) * scale := by
  have he : e.val < 32 := e.isLt
  obtain ⟨k, hk⟩ := k
  obtain ⟨k', hk'⟩ := k'
  dsimp only at h1 h2
  subst h1 h2
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst]
  have a2 : 128 + (32 + e.val) = 160 + e.val := by omega
  simp only [a2]
  rfl

/-- and the second. -/
theorem ref_hi (k k' : Fin 192) (e : Fin 32) (h1 : k.val = 128 + e.val) (h2 : k'.val = 160 + e.val) :
    val_main_v24 (F := Ideal) X C S (ix3 R h k') = (X (ix3 R h k') * C (ix2 R e) + X (ix3 R h k) * S (ix2 R e)) * scale := by
  have he : e.val < 32 := e.isLt
  obtain ⟨k, hk⟩ := k
  obtain ⟨k', hk'⟩ := k'
  dsimp only at h1 h2
  subst h1 h2
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst]
  rw [dif_neg (by omega), dif_neg (by omega)]
  have a1 : 160 + e.val - 128 - 32 = e.val := by omega
  have a2 : 128 + (32 + e.val) = 160 + e.val := by omega
  simp only [a1, a2]
  rfl

end

variable {m} in
/-- The contents the lines after the launch start from. -/
def launched (c : Dev nD) : Valuation τ sig (Elt Ideal) := Pipeline.withArrays (cfgs 0).spec c (V0 m c) fun w => (dats m 0 c).arrAt w (cfgs 0).N

/-- The kernel's array as the host lines find it. -/
def arr (c : Dev nD) : S8192x4096.Idx → EReal := launched (m := m) c (Proc.devRef .tc main_v18)

theorem arr_eq (c : Dev nD) : arr m c = prod (V m c main_v17) (V m c main_v4) (V m c main_v6) :=
  (Pipeline.withArrays_arr (cfgs 0).spec (by decide) c (V0 m c) (fun w => (dats m 0 c).arrAt w (cfgs 0).N) 3).trans (final_q m c)

/-- The lines after the launch cut the padding off each head. -/
theorem tail_at (c : Dev nD) (R : Fin 8192) (h : Fin 16) (k : Fin 192) (l : Fin 4096) (hl : l.val = 256 * h.val + k.val) :
    Pipeline.afterTail₀ cfgs (dats m) 0 (V0 m) [hostOps1] c main_v20 (ix3 R h k) = arr m c (ix2 R l) := by
  unfold Pipeline.afterTail₀
  change StableHlo.after _ (launched c) _ _ = _
  after_reads_at
  exact congrArg (arr m c) (congrArg (ix2 R) (Fin.ext (by show h.val * 256 + k.val = l.val; omega)))

/-- An entry of the padded rows. -/
theorem prod_at (x : FVec Ideal S8192x8192 .f32) (c s : FVec Ideal S8192x256 .f32) (R : Fin 8192) (l : Fin 4096) (K K' : Fin 8192) (k : Fin 256)
    (hK : K.val = l.val) (hK' : K'.val = 4096 + l.val) (hk : k.val = l.val % 256) :
    prod x c s (ix2 R l) = (x (ix2 R K) * c (ix2 R k) + x (ix2 R K') * s (ix2 R k)) * scale := by
  obtain ⟨K, _⟩ := K
  obtain ⟨K', _⟩ := K'
  obtain ⟨k, _⟩ := k
  dsimp only at hK hK' hk
  subst hK hK' hk
  rfl

/-- The result after the host lines is the reference's. -/
theorem tail_q (c : Dev nD) : Pipeline.afterTail₀ cfgs (dats m) 0 (V0 m) [hostOps1] c main_v20
    = val_main_v24 (F := Ideal) (m ((c : Thread nD τ).loc main_arg0)) (m ((c : Thread nD τ).loc main_arg1)) (m ((c : Thread nD τ).loc main_arg2)) := by
  funext i
  obtain ⟨R, h, k, rfl⟩ : ∃ R h k, i = ix3 R h k := ⟨i 0, i 1, i 2, eq_ix3 i⟩
  have hk : k.val < 192 := k.isLt
  have hh : h.val < 16 := h.isLt
  refine (tail_at m c R h k ⟨256 * h.val + k.val, by omega⟩ rfl).trans ((congrFun (arr_eq m c) _).trans ?_)
  rw [prod_at _ _ _ R _ ⟨256 * h.val + k.val, by omega⟩ ⟨4096 + (256 * h.val + k.val), by omega⟩ ⟨k.val, by omega⟩ rfl rfl
    (by show k.val = (256 * h.val + k.val) % 256; omega), pad_at m c R h k _ rfl]
  by_cases h1 : k.val < 128
  · rw [ref_nope _ _ _ R h k h1, swap_zero m c R h k h1 _ rfl, cos_one m c R _ h1, zero_mul, add_zero, mul_one]
  by_cases h2 : k.val < 160
  · obtain ⟨e, he⟩ : ∃ e : Fin 32, k.val = 128 + e.val := ⟨⟨k.val - 128, by omega⟩, by show k.val = 128 + (k.val - 128); omega⟩
    have hb : e.val < 32 := e.isLt
    rw [ref_lo _ _ _ R h k ⟨160 + e.val, by omega⟩ e he rfl, swap_lo m c R h e ⟨160 + e.val, by omega⟩ rfl _ (by show 4096 + (256 * h.val + k.val) = _; rw [he]),
      cos_at m c R e _ (Or.inl he), sin_at m c R e _ (Or.inl he), sub_eq_add_neg]
    exact congrArg (fun z : EReal => (_ + z) * _) (EReal.neg_mul _ _)
  · obtain ⟨e, he⟩ : ∃ e : Fin 32, k.val = 160 + e.val := ⟨⟨k.val - 160, by omega⟩, by show k.val = 160 + (k.val - 160); omega⟩
    have hb : e.val < 32 := e.isLt
    rw [ref_hi _ _ _ R h ⟨128 + e.val, by omega⟩ k e rfl he, swap_hi m c R h e ⟨128 + e.val, by omega⟩ rfl _ (by show 4096 + (256 * h.val + k.val) = _; rw [he]),
      cos_at m c R e _ (Or.inr he), sin_at m c R e _ (Or.inr he)]

/-- The run with the result named and the arguments unchanged. -/
theorem run_results (ρ : Dev nD → PrngReg) : θ_run defs (onTc (τ := τ) (main (F := Ideal))) ⟨m, fun _ => 0, ρ⟩ fun r => ∀ c : Dev nD,
      r.2.mem ((c : Thread nD τ).loc main_v20) = Pipeline.afterTail₀ cfgs (dats m) 0 (V0 m) [hostOps1] c main_v20
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h.1 c).2 main_v20 (Pipeline.mem_restRefs_of main_v20 (by decide) (by decide)), h.2 c⟩)
    (θ_run_and (run_main m ρ) (unchanged m ρ))

/-- The reference runs to its end with its arguments unchanged. -/
theorem frame_reference : Cert.quiescent_RQropeFIdeal := fun m ρ _ =>
  (θ_run Cert.RQropeFIdeal.defs _ _).mono
    (fun r h => ⟨fun c => (h c).2, sem_eq_zero_of_no_sems (by decide) r.2⟩) (Cert.RQropeFIdeal.Value.run m ρ)

/-- Kernel and reference compute the same queries. -/
theorem algebraic : Cert.algebraic_KQropeFIdeal_RQropeFIdeal := by
  pair_intro
  · run_from run_results m g
  · run_from Cert.RQropeFIdeal.Value.run m' g'
    rw [tail_q, val_main_v24_eq, (hagree c).2.2]

end Cert.QropeFValue
-- ==== Proof.AttnBMath.lean ====
module

public import Idealize.ShloMosaic.PureOps.Ideal
public import Idealize.ShloMosaic.PureOps.Ideal.Laws

@[expose] public section

/-! Causal softmax attention of one head over the reals, its gradients, and the passage from sums of extended reals that are all finite to sums of reals. -/

noncomputable section

namespace Cert.AttnB.Math

open Idealize.ShloMosaic

/-- A finite sum of reals, read in the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A product of two columns whose entries are reals. -/
theorem sum_mul_coe {ι : Type} [Fintype ι] {f g : ι → EReal} {x y : ι → ℝ} (hf : ∀ i, f i = x i) (hg : ∀ i, g i = y i) :
    ∑ i, f i * g i = ((∑ i, x i * y i : ℝ) : EReal) := by
  rw [coe_sum]; exact Finset.sum_congr rfl fun i _ => by rw [hf, hg, EReal.coe_mul]

/-- A sum whose terms are reals. -/
theorem sum_coe {ι : Type} [Fintype ι] {f : ι → EReal} {x : ι → ℝ} (hf : ∀ i, f i = x i) : ∑ i, f i = ((∑ i, x i : ℝ) : EReal) := by
  rw [coe_sum]; exact Finset.sum_congr rfl fun i _ => hf i

/-- The largest of finitely many extended reals below `⊤`, one of them above `⊥`, is a real. -/
theorem max_real {ι : Type} [Fintype ι] (f : ι → EReal) (ht : ∀ i, f i ≠ ⊤) (j : ι) (hb : f j ≠ ⊥) :
    ∃ r : ℝ, (Finset.univ : Finset ι).fold max ⊥ f = r := by
  have h : (Finset.univ : Finset ι).fold max ⊥ f = Finset.univ.sup f := rfl
  rw [h]
  have h1 : Finset.univ.sup f ≠ ⊤ := fun e => by
    have : (Finset.univ.sup f) < ⊤ := (Finset.sup_lt_iff (bot_lt_top)).2 fun i _ => lt_top_iff_ne_top.2 (ht i)
    exact (ne_of_lt this) e
  have h2 : Finset.univ.sup f ≠ ⊥ := fun e => hb (le_bot_iff.1 (e ▸ Finset.le_sup (Finset.mem_univ j)))
  exact ⟨_, (EReal.coe_toReal h1 h2).symm⟩

variable {n : ℕ} (s : Fin n → Fin n → ℝ) (M : Fin n → ℝ)

/-- Row `t`'s exponentials, zero after the diagonal. -/
def ex (t u : Fin n) : ℝ := if u ≤ t then Real.exp (s t u - M t) else 0
/-- Their sum. -/
def tot (t : Fin n) : ℝ := ∑ u, ex s M t u
/-- The row's weights. -/
def soft (t u : Fin n) : ℝ := ex s M t u / tot s M t

theorem ex_nonneg (t u : Fin n) : 0 ≤ ex s M t u := by
  unfold ex; split
  · exact (Real.exp_pos _).le
  · exact le_rfl

theorem tot_pos (t : Fin n) : 0 < tot s M t :=
  Finset.sum_pos' (fun u _ => ex_nonneg s M t u) ⟨t, Finset.mem_univ _, by unfold ex; rw [if_pos le_rfl]; exact Real.exp_pos _⟩

/-- On and before the diagonal the weight is the exponential of the score less the row's log-sum. -/
theorem soft_eq_exp {t u : Fin n} (h : u ≤ t) : soft s M t u = Real.exp (s t u - (M t + Real.log (tot s M t))) := by
  unfold soft ex
  rw [if_pos h, ← sub_sub, Real.exp_sub (s t u - M t), Real.exp_log (tot_pos s M t)]

theorem soft_after {t u : Fin n} (h : ¬u ≤ t) : soft s M t u = 0 := by
  unfold soft ex; rw [if_neg h, zero_div]

variable (p : Fin n → Fin n → ℝ)

/-- The mean of row `t` of `p` under the weights. -/
def mean (t : Fin n) : ℝ := ∑ u, soft s M t u * p t u
/-- The scores' gradient, `p` the weights' gradient. -/
def grad (t u : Fin n) : ℝ := soft s M t u * (p t u - mean s M p t)

theorem grad_after {t u : Fin n} (h : ¬u ≤ t) : grad s M p t u = 0 := by
  unfold grad; rw [soft_after s M h, zero_mul]

/-- The same mean taken feature by feature of the two factors `g` and `v` of `p`. -/
theorem mean_eq {k : ℕ} (g v : Fin n → Fin k → ℝ) (t : Fin n) :
    ∑ d, g t d * (∑ u, v u d * soft s M t u) = mean s M (fun t u => ∑ d, g t d * v u d) t := by
  unfold mean
  simp only [Finset.mul_sum]
  rw [Finset.sum_comm]
  exact Finset.sum_congr rfl fun u _ => Finset.sum_congr rfl fun d _ => by ring

/-- The gradient as the quotient rule writes it. -/
theorem grad_quotient (t u : Fin n) :
    (p t u / tot s M t + -(∑ u, p t u * (1 / (tot s M t * tot s M t)) * ex s M t u)) * ex s M t u = grad s M p t u := by
  have h : (∑ u, p t u * (1 / (tot s M t * tot s M t)) * ex s M t u) = mean s M p t / tot s M t := by
    unfold mean soft
    rw [Finset.sum_div]
    exact Finset.sum_congr rfl fun u _ => by
      have := (tot_pos s M t).ne'; field_simp
  rw [h]; unfold grad soft
  ring

end Cert.AttnB.Math
-- ==== Proof.AttnBRefA.lean ====
module

public import proofs.«01_k».proof.Proof.AttnBMath
public import proofs.«01_k».proof.Proof.Gen.RAttnBIdeal.Read
public import Idealize.ShloMosaic.Lib.Pointwise

@[expose] public section

/-! The reference's stages at finite arguments: each is the real number that the textbook formula gives. -/

set_option maxRecDepth 16384
set_option maxHeartbeats 400000

noncomputable section

namespace Cert.AttnB

open Idealize.ShloMosaic Idealize.ShloMosaic.TcCoe Idealize.SL.Sem
open Cert.RAttnBIdeal Cert.RAttnBIdeal.Gen Cert.RAttnBIdeal.Read

/-- Every entry is a real. -/
def Real? {s : Shape} (X : s.Idx → EReal) : Prop := ∀ i, X i = ((X i).toReal : EReal)

/-- The scale `192 ^ (-1/2)` as the programs write it. -/
def scale : ℝ := (Ideal.ofBits .f32 0x3D93CD3A#32).toReal

theorem scale_eq : Ideal.ofBits .f32 0x3D93CD3A#32 = (scale : EReal) := by
  unfold scale; simp [Ideal.ofBits, Ideal.ieee, -EReal.coe_mul]

variable (A : FVec Ideal S8192x16x192 .f32) (B W G : FVec Ideal S8192x16x128 .f32) (R : FVec Ideal S8192x64 .f32)

/-- Head `h`'s queries. -/
def qr (h : Fin 16) (t : Fin 8192) (d : Fin 192) : ℝ := (A (ix3 t h d)).toReal
/-- Head `h`'s values, or its output gradient. -/
def vr (h : Fin 16) (t : Fin 8192) (d : Fin 128) : ℝ := (W (ix3 t h d)).toReal
/-- Head `h`'s keys, the shared rotary part at the end. -/
def kr (h : Fin 16) (u : Fin 8192) (d : Fin 192) : ℝ := (val_main_v2 (F := Ideal) B R (ix3 u h d)).toReal
/-- Head `h`'s scores. -/
def sc (h : Fin 16) (t u : Fin 8192) : ℝ := (∑ d, qr A h t d * kr B R h u d) * scale
/-- The row maxima. -/
def mx (h : Fin 16) (t : Fin 8192) : ℝ := (val_main_v13 (F := Ideal) A B R (ix2 h t)).toReal
/-- The gradient of the weights. -/
def dw (h : Fin 16) (t u : Fin 8192) : ℝ := ∑ d, vr G h t d * vr W h u d
/-- Head `h`'s weights. -/
def wt (h : Fin 16) : Fin 8192 → Fin 8192 → ℝ := Math.soft (sc A B R h) (mx A B R h)
/-- Head `h`'s gradient of the scores. -/
def gr (h : Fin 16) : Fin 8192 → Fin 8192 → ℝ := Math.grad (sc A B R h) (mx A B R h) (dw W G h)

variable {A B W G R}

/-- The keys at a feature of the first 128. -/
theorem key_left (u : Fin 8192) (h : Fin 16) (d : Fin 192) (e : Fin 128) (hd : d.val = e.val) :
    val_main_v2 (F := Ideal) B R (ix3 u h d) = B (ix3 u h e) := by
  unfold val_main_v2
  refine concatenate_pair_apply_left (t := S8192x16x192) (s₁ := S8192x16x128) (s₂ := S8192x16x64) 2 _ _ _ _ rfl (ix3 u h e) fun b => ?_
  match b with
  | ⟨0, _⟩ => rfl
  | ⟨1, _⟩ => rfl
  | ⟨2, _⟩ => exact hd.symm

/-- The keys at a feature of the last 64. -/
theorem key_right (u : Fin 8192) (h : Fin 16) (d : Fin 192) (e : Fin 64) (hd : d.val = 128 + e.val) :
    val_main_v2 (F := Ideal) B R (ix3 u h d) = R (ix2 u e) := by
  unfold val_main_v2
  refine (concatenate_pair_apply_right (t := S8192x16x192) (s₁ := S8192x16x128) (s₂ := S8192x16x64) 2 _ _ _ _ rfl rfl (ix3 u h e) (fun b hb => ?_) ?_).trans ?_
  · match b with
    | ⟨0, _⟩ => rfl
    | ⟨1, _⟩ => rfl
    | ⟨2, _⟩ => exact absurd rfl hb
  · show e.val + 128 = d.val
    omega
  · pointwise [val_main_v1, val_main_v0]

theorem key_real (hB : Real? B) (hR : Real? R) (u : Fin 8192) (h : Fin 16) (d : Fin 192) :
    val_main_v2 (F := Ideal) B R (ix3 u h d) = (kr B R h u d : EReal) := by
  unfold kr
  by_cases hd : d.val < 128
  · rw [key_left u h d ⟨d.val, hd⟩ rfl]; exact hB _
  · rw [key_right u h d ⟨d.val - 128, by omega⟩ (by simp; omega)]; exact hR _

variable (hA : Real? A) (hB : Real? B) (hW : Real? W) (hG : Real? G) (hR : Real? R)
include hA hB hR

theorem v5_real (h : Fin 16) (t u : Fin 8192) : val_main_v5 (F := Ideal) A B R (ix3 h t u) = (sc A B R h t u : EReal) := by
  pointwise [val_main_v5, val_main_v4, val_main_cst, val_main_v3]
  rw [Math.sum_mul_coe (fun d => hA (ix3 t h d)) (fun d => key_real hB hR u h d), scale_eq, ← EReal.coe_mul]
  rfl

omit hA hB hR in
/-- The mask keeps the keys up to the query. -/
theorem mask_iff (h : Fin 16) (t u : Fin 8192) : val_main_v12_1 (F := Ideal) (ix3 h t u) = 1#1 ↔ u ≤ t := by
  have e : val_main_v12_1 (F := Ideal) (ix3 h t u) = IntOp.cmpi CmpIPredicate.sle (BitVec.ofNat 32 u.val) (BitVec.ofNat 32 t.val) := by
    pointwise [val_main_v12_1, val_main_v11, val_main_v10, val_main_v9, val_main_v8, val_main_v7, val_main_v6]
  rw [e, IntOp.cmpi_sle, Fin.le_def]
  simp only [BitVec.toInt_eq_toNat_cond, BitVec.toNat_ofNat]
  have := u.isLt
  have := t.isLt
  omega

theorem v12_real (h : Fin 16) (t u : Fin 8192) :
    val_main_v12_0 (F := Ideal) A B R (ix3 h t u) = if u ≤ t then (sc A B R h t u : EReal) else ⊥ := by
  pointwise [val_main_v12_0, val_main_call0_v2, val_main_call0_v0, val_main_cst_0]
  rw [v5_real hA hB hR]
  have hb : id (constant S_ FTy.f32 (4286578688#32 : BitVec 32)) ix0 = (⊥ : Ideal FTy.f32) := by
    show Ideal.ofBits .f32 4286578688#32 = ⊥
    simp [Ideal.ofBits, Ideal.ieee]
  rw [hb]
  unfold Scalar.select
  by_cases hu : u ≤ t
  · rw [if_pos hu, (mask_iff h t u).2 hu]; rfl
  · rw [if_neg hu]; exact if_neg fun e => hu ((mask_iff h t u).1 e)

theorem v13_real (h : Fin 16) (t : Fin 8192) : val_main_v13 (F := Ideal) A B R (ix2 h t) = (mx A B R h t : EReal) := by
  have hb : val_main_cst_1 (F := Ideal) (Shape.Idx.first h_S_) = (⊥ : EReal) := by
    show Ideal.ofBits .f32 0xFF800000#32 = ⊥
    simp [Ideal.ofBits, Ideal.ieee]
  have hr : S16x8192x8192.Reduces [2] S16x8192 := by decide
  have hl (u : Fin 8192) : hr.lift (ix2 h t) u = ix3 h t u := funext fun a => Fin.ext (by
    match a with
    | ⟨0, _⟩ => rfl
    | ⟨1, _⟩ => rfl
    | ⟨2, _⟩ => rfl)
  have e := Host.reduce_eq_fold_single (FloatOps.maximumf (F := Ideal) (φ := .f32)) (val_main_v12_0 (F := Ideal) A B R)
    (val_main_cst_1 (F := Ideal)) reducesTo_S16x8192x8192_S16x8192_d2 hr h_S_ (ix2 h t)
  rw [hb] at e
  have hx (u : Fin 8192) : val_main_v12_0 (F := Ideal) A B R (hr.lift (ix2 h t) u) = if u ≤ t then (sc A B R h t u : EReal) else ⊥ :=
    (congrArg _ (hl u)).trans (v12_real hA hB hR h t u)
  have ht (u : Fin 8192) : val_main_v12_0 (F := Ideal) A B R (hr.lift (ix2 h t) u) ≠ ⊤ := by
    rw [hx u]; split; exacts [EReal.coe_ne_top _, bot_ne_top]
  have hd : val_main_v12_0 (F := Ideal) A B R (hr.lift (ix2 h t) t) ≠ ⊥ := by
    rw [hx t, if_pos le_rfl]; exact EReal.coe_ne_bot _
  obtain ⟨r, hr'⟩ := Math.max_real (val_main_v12_0 (F := Ideal) A B R ∘ hr.lift (ix2 h t)) ht t hd
  have e' : val_main_v13 (F := Ideal) A B R (ix2 h t) = (r : EReal) := e.trans hr'
  unfold mx
  rw [e', EReal.toReal_coe]

end Cert.AttnB
-- ==== Proof.AttnBRefB.lean ====
module

public import proofs.«01_k».proof.Proof.AttnBRefA
public import proofs.«01_k».proof.Proof.Gen.RAttnBIdeal.Read
public import Idealize.ShloMosaic.Lib.Pointwise

@[expose] public section

/-! The reference's stages at finite arguments: each is the real number that the textbook formula gives. -/

set_option maxRecDepth 16384
set_option maxHeartbeats 400000

noncomputable section

namespace Cert.AttnB

open Idealize.ShloMosaic Idealize.ShloMosaic.TcCoe Idealize.SL.Sem
open Cert.RAttnBIdeal Cert.RAttnBIdeal.Gen Cert.RAttnBIdeal.Read

variable {A : FVec Ideal S8192x16x192 .f32} {B W G : FVec Ideal S8192x16x128 .f32} {R : FVec Ideal S8192x64 .f32}
variable (hA : Real? A) (hB : Real? B) (hW : Real? W) (hG : Real? G) (hR : Real? R)
include hA hB hR

/-- The exponential of a masked score less its row's maximum. -/
theorem ex_real (h : Fin 16) (t u : Fin 8192) :
    Ideal.exp (val_main_v12_0 (F := Ideal) A B R (ix3 h t u) - val_main_v13 (F := Ideal) A B R (ix2 h t)) = (Math.ex (sc A B R h) (mx A B R h) t u : EReal) := by
  rw [v12_real hA hB hR, v13_real hA hB hR]
  unfold Math.ex
  by_cases hu : u ≤ t
  · rw [if_pos hu, if_pos hu, ← EReal.coe_sub, Ideal.exp_coe]
  · rw [if_neg hu, if_neg hu, EReal.bot_sub, Ideal.exp_bot, EReal.coe_zero]

theorem v33_real (h : Fin 16) (t u : Fin 8192) :
    val_main_v33 (F := Ideal) A B R (ix3 h t u) = (Math.ex (sc A B R h) (mx A B R h) t u : EReal) := by
  have e : val_main_v33 (F := Ideal) A B R (ix3 h t u) = Ideal.exp (val_main_v12_0 (F := Ideal) A B R (ix3 h t u)
      - max (Ideal.ofBits .f32 4286578688#32) (val_main_v13 (F := Ideal) A B R (ix2 h t))) := by
    rw [val_main_v33_apply, val_main_v32_apply, val_main_v31_apply, val_main_v30_apply, val_main_v20_apply, val_main_v19_apply, val_main_cst_3_apply]
    have hi : idx_main_v30 (idx_main_v31 (ix3 h t u)) = ix2 h t := funext fun a => Fin.ext (by
      match a with
      | ⟨0, _⟩ => rfl
      | ⟨1, _⟩ => rfl)
    rw [hi]
    rfl
  have hb : Ideal.ofBits .f32 4286578688#32 = ⊥ := by simp [Ideal.ofBits, Ideal.ieee]
  rw [e, hb, max_eq_right bot_le]
  exact ex_real hA hB hR h t u

theorem v34_real (h : Fin 16) (t : Fin 8192) :
    val_main_v34 (F := Ideal) A B R (ix2 h t) = (Math.tot (sc A B R h) (mx A B R h) t : EReal) := by
  pointwise [val_main_v34, val_main_cst_9]
  rw [Math.sum_coe (fun u => v33_real hA hB hR h t u)]
  rfl

theorem v37_real (h : Fin 16) (t u : Fin 8192) :
    val_main_v37 (F := Ideal) A B R (ix3 h t u) = (wt A B R h t u : EReal) := by
  pointwise [val_main_v37, val_main_v36, val_main_v35]
  rw [v33_real hA hB hR, v34_real hA hB hR, Ideal.div_coe (Math.tot_pos _ _ _).ne', ← EReal.coe_mul, mul_one_div]
  rfl

include hW hG
omit hA hB hR in
theorem v44_real (h : Fin 16) (t u : Fin 8192) : val_main_v44 (F := Ideal) W G (ix3 h t u) = (dw W G h t u : EReal) := by
  pointwise [val_main_v44, val_main_v43]
  rw [Math.sum_mul_coe (fun d => hG (ix3 t h d)) (fun d => hW (ix3 u h d))]
  rfl

theorem v59_real (h : Fin 16) (t u : Fin 8192) :
    val_main_v59 (F := Ideal) A B W R G (ix3 h t u) = (gr A B W G R h t u : EReal) := by
  pointwise [val_main_v59, val_main_v58, val_main_v57, val_main_v56, val_main_v55, val_main_v54, val_main_v53, val_main_v52, val_main_v51, val_main_v50, val_main_v49, val_main_v48, val_main_v47, val_main_v40, val_main_v39, val_main_v38, val_main_v35, val_main_cst_10, val_main_cst_11, val_main_cst_12, val_main_call1_v0, val_main_call1_cst]
  simp only [Finset.univ_unique, Finset.sum_singleton]
  have hT := (Math.tot_pos (sc A B R h) (mx A B R h) t).ne'
  rw [v34_real hA hB hR, v33_real hA hB hR, v44_real hW hG, ← EReal.coe_mul, Ideal.div_coe hT, Ideal.div_coe (mul_ne_zero hT hT), one_mul]
  rw [Math.sum_coe (x := fun x => dw W G h t x * (1 / (Math.tot (sc A B R h) (mx A B R h) t * Math.tot (sc A B R h) (mx A B R h) t)) * Math.ex (sc A B R h) (mx A B R h) t x)
    (fun x => by rw [v44_real hW hG, v33_real hA hB hR, ← EReal.coe_mul, ← EReal.coe_mul])]
  rw [← EReal.coe_mul, ← EReal.coe_neg, ← EReal.coe_add, ← EReal.coe_mul, mul_one_div, Math.grad_quotient]
  unfold Scalar.select
  by_cases hu : u ≤ t
  · rw [(mask_iff h t u).2 hu]; rfl
  · refine (if_neg fun e => hu ((mask_iff h t u).1 e)).trans ?_
    unfold gr
    rw [Math.grad_after _ _ _ hu]; rfl

theorem v61_real (h : Fin 16) (t u : Fin 8192) :
    val_main_v61 (F := Ideal) A B W R G (ix3 h t u) = ((gr A B W G R h t u * scale : ℝ) : EReal) := by
  pointwise [val_main_v61, val_main_v60, val_main_cst_13]
  rw [v59_real hA hB hW hG hR, scale_eq, ← EReal.coe_mul]

/-- The queries' gradient. -/
theorem v65_real (t : Fin 8192) (h : Fin 16) (d : Fin 192) :
    val_main_v65 (F := Ideal) A B W R G (ix3 t h d) = ((∑ u, gr A B W G R h t u * scale * kr B R h u d : ℝ) : EReal) := by
  pointwise [val_main_v65, val_main_v64]
  exact Math.sum_mul_coe (fun u => v61_real hA hB hW hG hR h t u) (fun u => key_real hB hR u h d)

/-- The keys' gradient, all 192 features of it. -/
theorem v63_real (u : Fin 8192) (h : Fin 16) (d : Fin 192) :
    val_main_v63 (F := Ideal) A B W R G (ix3 u h d) = ((∑ t, gr A B W G R h t u * scale * qr A h t d : ℝ) : EReal) := by
  pointwise [val_main_v63, val_main_v62]
  exact Math.sum_mul_coe (fun t => v61_real hA hB hW hG hR h t u) (fun t => hA (ix3 t h d))

/-- The gradient of the keys' own features. -/
theorem v71_real (u : Fin 8192) (h : Fin 16) (d : Fin 128) :
    val_main_v71 (F := Ideal) A B W R G (ix3 u h d) = ((∑ t, gr A B W G R h t u * scale * qr A h t ⟨d.val, by omega⟩ : ℝ) : EReal) := by
  pointwise [val_main_v71, val_main_v66]
  exact v63_real hA hB hW hG hR u h ⟨d.val, by omega⟩

/-- The gradient of the shared rotary features: the heads' sum. -/
theorem v70_real (u : Fin 8192) (d : Fin 64) :
    val_main_v70 (F := Ideal) A B W R G (ix2 u d)
      = ((∑ h, ∑ t, gr A B W G R h t u * scale * qr A h t ⟨128 + d.val, by omega⟩ : ℝ) : EReal) := by
  pointwise [val_main_v70, val_main_v69, val_main_v68, val_main_v67, val_main_cst_14, val_main_cst_15]
  simp only [Finset.univ_unique, Finset.sum_singleton]
  exact Math.sum_coe fun h => v63_real hA hB hW hG hR u h ⟨128 + d.val, by omega⟩

omit hW in
/-- The values' gradient. -/
theorem v72_real (u : Fin 8192) (h : Fin 16) (d : Fin 128) :
    val_main_v72 (F := Ideal) A B R G (ix3 u h d) = ((∑ t, vr G h t d * wt A B R h t u : ℝ) : EReal) := by
  pointwise [val_main_v72, val_main_v46, val_main_v45, val_main_v43]
  exact Math.sum_mul_coe (fun t => hG (ix3 t h d)) (fun t => v37_real hA hB hR h t u)

end Cert.AttnB
-- ==== Proof.AttnBOff.lean ====
module

public import proofs.«01_k».proof.Proof.Gen.KAttnBIdeal
public import proofs.«01_k».proof.Proof.Gen.KAttnBIdeal.Skeleton

@[expose] public section

set_option maxRecDepth 16384

noncomputable section

namespace Cert.AttnB

open Idealize.ShloMosaic Cert.KAttnBIdeal Cert.KAttnBIdeal.Gen

theorem off5_eq : ∀ (i : grid0.Coords) (k : Fin (k0_t1_loop i).trips) (j : Fin 4),
    k0_off5 i k (BitVec.ofNat 32 j.val) = ![512 * ((i 1).val + 1 + 4 * k.val + j.val), 0] := by decide +kernel
theorem off6_eq : ∀ (i : grid0.Coords) (k : Fin (k0_t1_loop i).trips) (j : Fin 4),
    k0_off6 i k (BitVec.ofNat 32 j.val) = ![512 * ((i 1).val + 1 + 4 * k.val + j.val), 0] := by decide +kernel
theorem off7_eq : ∀ (i : grid0.Coords) (k : Fin (k0_t1_loop i).trips) (j : Fin 4),
    k0_off7 i k (BitVec.ofNat 32 j.val) = ![512 * ((i 1).val + 1 + 4 * k.val + j.val), 0] := by decide +kernel
theorem off8_eq : ∀ (i : grid0.Coords) (k : Fin (k0_t1_loop i).trips) (j : Fin 4),
    k0_off8 i k (BitVec.ofNat 32 j.val) = ![512 * ((i 1).val + 1 + 4 * k.val + j.val), 64] := by decide +kernel
theorem trips1_eq : ∀ i : grid0.Coords, (k0_t1_loop i).trips = (15 - (i 1).val) / 4 := by decide +kernel
theorem trips2_eq : ∀ i : grid0.Coords, (k0_t2_loop i).trips = 0 := by decide +kernel
theorem cond2_iff : ∀ i : grid0.Coords, k0_cond2 i = 1#1 ↔ 0 < (15 - (i 1).val) % 4 := by decide +kernel
theorem cond3_iff : ∀ i : grid0.Coords, k0_cond3 i = 1#1 ↔ 1 < (15 - (i 1).val) % 4 := by decide +kernel
theorem cond4_iff : ∀ i : grid0.Coords, k0_cond4 i = 1#1 ↔ 2 < (15 - (i 1).val) % 4 := by decide +kernel

end Cert.AttnB

end
-- ==== Proof.AttnBStep.lean ====
module

public import proofs.«01_k».proof.Proof.AttnBOff
public import proofs.«01_k».proof.Proof.Gen.KAttnBIdeal.Loops
public import proofs.«01_k».proof.Proof.Gen.KAttnBIdeal.Frame
public import Idealize.ShloMosaic.Lib.VecWindow

@[expose] public section

set_option maxRecDepth 16384

noncomputable section

namespace Cert.AttnB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KAttnBIdeal Cert.KAttnBIdeal.Gen

variable {F : FTy → Type} [FloatOps F] [Named F]

local notation "𝕄" => MT nD τ sig Unit (Elt F) ℕ (UR sig nD τ) ℕ

instance (i : grid0.Coords) (k : Fin (k0_t1_loop i).trips) : ClosedOff (k0_off5 i k 0#32) := ⟨_, off5_eq i k 0⟩
instance (i : grid0.Coords) (k : Fin (k0_t1_loop i).trips) : ClosedOff (k0_off5 i k 1#32) := ⟨_, off5_eq i k 1⟩
instance (i : grid0.Coords) (k : Fin (k0_t1_loop i).trips) : ClosedOff (k0_off5 i k 2#32) := ⟨_, off5_eq i k 2⟩
instance (i : grid0.Coords) (k : Fin (k0_t1_loop i).trips) : ClosedOff (k0_off5 i k 3#32) := ⟨_, off5_eq i k 3⟩

theorem inb256 (b : Fin 16) : ∀ a, (![512 * b.val, 0] : Fin 2 → ℕ) a + S512x256.size a ≤ S8192x256.size a := by
  revert b; decide
theorem inb128 (b : Fin 16) : ∀ a, (![512 * b.val, 0] : Fin 2 → ℕ) a + S512x128.size a ≤ S8192x128.size a := by
  revert b; decide
theorem inb0 (b : Fin 16) : ∀ a, (![512 * b.val, 0] : Fin 2 → ℕ) a + S512x1.size a ≤ S8192x128.size a := by
  revert b; decide
theorem inb64 (b : Fin 16) : ∀ a, (![512 * b.val, 64] : Fin 2 → ℕ) a + S512x1.size a ≤ S8192x128.size a := by
  revert b; decide

/-- Row block `b` of a 256-wide array. -/
def wide {e : EltTy} (X : Vec F S8192x256 e) (b : Fin 16) : Vec F S512x256 e :=
  VecWindow.window X ![512 * b.val, 0] S512x256.size (inb256 b)
def slim {e : EltTy} (X : Vec F S8192x128 e) (b : Fin 16) : Vec F S512x128 e :=
  VecWindow.window X ![512 * b.val, 0] S512x128.size (inb128 b)
def lseOf (X : Vec F S8192x128 .f32) (b : Fin 16) : Vec F S512x1 .f32 :=
  VecWindow.window X ![512 * b.val, 0] S512x1.size (inb0 b)
def delOf (X : Vec F S8192x128 .f32) (b : Fin 16) : Vec F S512x1 .f32 :=
  VecWindow.window X ![512 * b.val, 64] S512x1.size (inb64 b)

abbrev St (F : FTy → Type) : Type := Vec F S8192x256 .f32 × Vec F S512x256 .f32 × Vec F S512x128 .f32

/-- One row block below the diagonal. -/
def step (q : Vec F S8192x256 .bf16) (o : Vec F S8192x128 .bf16) (st : Vec F S8192x128 .f32) (k : Vec F S512x256 .bf16) (v : Vec F S512x128 .bf16)
    (s : St F) (b : Fin 16) : St F :=
  (VecWindow.put s.1 ![512 * b.val, 0] S512x256.size
      (k0_pay7 k v (wide q b) (slim o b) (lseOf st b) (delOf st b) (wide s.1 b)),
    k0_pay6 k v s.2.1 (wide q b) (slim o b) (lseOf st b) (delOf st b),
    k0_pay4 k s.2.2 (wide q b) (slim o b) (lseOf st b))

def blk (n : ℕ) : Fin 16 := ⟨n % 16, Nat.mod_lt _ (by decide)⟩

theorem blk_val {n : ℕ} (h : n < 16) : (blk n).val = n := Nat.mod_eq_of_lt h

theorem below (i : grid0.Coords) (k : Fin (k0_t1_loop i).trips) (j : Fin 4) : (i 1).val + 1 + 4 * k.val + j.val < 16 := by
  have h := k.isLt
  have e := trips1_eq i
  have hj := j.isLt
  omega

theorem at5 (i : grid0.Coords) (k : Fin (k0_t1_loop i).trips) (j : Fin 4) :
    k0_off5 i k (BitVec.ofNat 32 j.val) = ![512 * (blk ((i 1).val + 1 + 4 * k.val + j.val)).val, 0] := by
  rw [blk_val (below i k j)]; exact off5_eq i k j
theorem at6 (i : grid0.Coords) (k : Fin (k0_t1_loop i).trips) (j : Fin 4) :
    k0_off6 i k (BitVec.ofNat 32 j.val) = ![512 * (blk ((i 1).val + 1 + 4 * k.val + j.val)).val, 0] := by
  rw [blk_val (below i k j)]; exact off6_eq i k j
theorem at7 (i : grid0.Coords) (k : Fin (k0_t1_loop i).trips) (j : Fin 4) :
    k0_off7 i k (BitVec.ofNat 32 j.val) = ![512 * (blk ((i 1).val + 1 + 4 * k.val + j.val)).val, 0] := by
  rw [blk_val (below i k j)]; exact off7_eq i k j
theorem at8 (i : grid0.Coords) (k : Fin (k0_t1_loop i).trips) (j : Fin 4) :
    k0_off8 i k (BitVec.ofNat 32 j.val) = ![512 * (blk ((i 1).val + 1 + 4 * k.val + j.val)).val, 64] := by
  rw [blk_val (below i k j)]; exact off8_eq i k j

section Reads
variable {Val : EltTy → Type} {sig' : RefSig} {κ : Kind} {sp : Space}

theorem wide_read {e : EltTy} (m : Memref sig .tc .vmem S8192x256 e) (f : m.view.ty.Contents (Elt F)) {off : Fin 2 → ℕ} (b : Fin 16)
    (inb : ∀ a, off a + S512x256.size a ≤ S8192x256.size a) (h : off = ![512 * b.val, 0]) :
    m.view.readAt (Elt F) (Rect.unit (s := S8192x256) off S512x256.size inb).toLoadRect f = wide (m.view.read (Elt F) f) b :=
  View.readAt_unit m.view f inb h (inb256 b)
theorem slim_read {e : EltTy} (m : Memref sig .tc .vmem S8192x128 e) (f : m.view.ty.Contents (Elt F)) {off : Fin 2 → ℕ} (b : Fin 16)
    (inb : ∀ a, off a + S512x128.size a ≤ S8192x128.size a) (h : off = ![512 * b.val, 0]) :
    m.view.readAt (Elt F) (Rect.unit (s := S8192x128) off S512x128.size inb).toLoadRect f = slim (m.view.read (Elt F) f) b :=
  View.readAt_unit m.view f inb h (inb128 b)
theorem lse_read (m : Memref sig .tc .vmem S8192x128 .f32) (f : m.view.ty.Contents (Elt F)) {off : Fin 2 → ℕ} (b : Fin 16)
    (inb : ∀ a, off a + S512x1.size a ≤ S8192x128.size a) (h : off = ![512 * b.val, 0]) :
    m.view.readAt (Elt F) (Rect.unit (s := S8192x128) off S512x1.size inb).toLoadRect f = lseOf (m.view.read (Elt F) f) b :=
  View.readAt_unit m.view f inb h (inb0 b)
theorem del_read (m : Memref sig .tc .vmem S8192x128 .f32) (f : m.view.ty.Contents (Elt F)) {off : Fin 2 → ℕ} (b : Fin 16)
    (inb : ∀ a, off a + S512x1.size a ≤ S8192x128.size a) (h : off = ![512 * b.val, 64]) :
    m.view.readAt (Elt F) (Rect.unit (s := S8192x128) off S512x1.size inb).toLoadRect f = delOf (m.view.read (Elt F) f) b :=
  View.readAt_unit m.view f inb h (inb64 b)

/-- A store of row block `b`. -/
theorem put_read (m : Memref sig .tc .vmem S8192x256 .f32) (f : m.view.ty.Contents (Elt F)) {off : Fin 2 → ℕ} (b : Fin 16)
    (inb : ∀ a, off a + S512x256.size a ≤ S8192x256.size a) (w : Vec F S512x256 .f32) (L : List (View.Piece (Elt F) S8192x256 .f32))
    (Q : Vec F S8192x256 .f32) (hQ : m.view.read (Elt F) (m.view.writes (Elt F) f L) = Q) (h : off = ![512 * b.val, 0]) :
    m.view.read (Elt F) (m.view.writes (Elt F) f (⟨Rect.unit (s := S8192x256) off S512x256.size inb, w⟩ :: L)) = VecWindow.put Q ![512 * b.val, 0] S512x256.size w := by
  subst hQ
  exact View.read_writes_cons_put m.view f inb w L h

theorem wide_read' {e : EltTy} (m : Memref sig .tc .vmem S8192x256 e) (hm : m.IsWhole) (X : Vec F S8192x256 e) {off : Fin 2 → ℕ} (b : Fin 16)
    (h : off = ![512 * b.val, 0]) (inb : ∀ a, off a + (![512, 256] : Fin 2 → ℕ) a ≤ S8192x256.size a) :
    m.view.readAt (Elt F) (Rect.unit (s := S8192x256) off ![512, 256] inb).toLoadRect (hm.unread X) = wide X b :=
  (wide_read m _ b inb h).trans (by rw [hm.read_unread])
theorem slim_read' {e : EltTy} (m : Memref sig .tc .vmem S8192x128 e) (hm : m.IsWhole) (X : Vec F S8192x128 e) {off : Fin 2 → ℕ} (b : Fin 16)
    (h : off = ![512 * b.val, 0]) (inb : ∀ a, off a + (![512, 128] : Fin 2 → ℕ) a ≤ S8192x128.size a) :
    m.view.readAt (Elt F) (Rect.unit (s := S8192x128) off ![512, 128] inb).toLoadRect (hm.unread X) = slim X b :=
  (slim_read m _ b inb h).trans (by rw [hm.read_unread])
theorem lse_read' (m : Memref sig .tc .vmem S8192x128 .f32) (hm : m.IsWhole) (X : Vec F S8192x128 .f32) {off : Fin 2 → ℕ} (b : Fin 16)
    (h : off = ![512 * b.val, 0]) (inb : ∀ a, off a + (![512, 1] : Fin 2 → ℕ) a ≤ S8192x128.size a) :
    m.view.readAt (Elt F) (Rect.unit (s := S8192x128) off ![512, 1] inb).toLoadRect (hm.unread X) = lseOf X b :=
  (lse_read m _ b inb h).trans (by rw [hm.read_unread])
theorem del_read' (m : Memref sig .tc .vmem S8192x128 .f32) (hm : m.IsWhole) (X : Vec F S8192x128 .f32) {off : Fin 2 → ℕ} (b : Fin 16)
    (h : off = ![512 * b.val, 64]) (inb : ∀ a, off a + (![512, 1] : Fin 2 → ℕ) a ≤ S8192x128.size a) :
    m.view.readAt (Elt F) (Rect.unit (s := S8192x128) off ![512, 1] inb).toLoadRect (hm.unread X) = delOf X b :=
  (del_read m _ b inb h).trans (by rw [hm.read_unread])
theorem put_unread (m : Memref sig .tc .vmem S8192x256 .f32) (hm : m.IsWhole) (Q : Vec F S8192x256 .f32) {off : Fin 2 → ℕ} (b : Fin 16)
    (h : off = ![512 * b.val, 0]) (inb : ∀ a, off a + (![512, 256] : Fin 2 → ℕ) a ≤ S8192x256.size a) (w : Vec F S512x256 .f32) :
    m.view.writes (Elt F) (hm.unread Q) [⟨Rect.unit (s := S8192x256) off ![512, 256] inb, w⟩]
      = hm.unread (VecWindow.put Q ![512 * b.val, 0] S512x256.size w) :=
  hm.eq_unread (put_read m _ b inb w [] Q (hm.read_unread Q) h)

end Reads

/-- The four row blocks of one trip. -/
def step4 (q : Vec F S8192x256 .bf16) (o : Vec F S8192x128 .bf16) (st : Vec F S8192x128 .f32) (k : Vec F S512x256 .bf16) (v : Vec F S512x128 .bf16)
    (s : St F) (i : grid0.Coords) (t : Fin (k0_t1_loop i).trips) : St F :=
  step q o st k v (step q o st k v (step q o st k v (step q o st k v s (blk ((i 1).val + 1 + 4 * t.val + (0 : Fin 4).val)))
    (blk ((i 1).val + 1 + 4 * t.val + (1 : Fin 4).val))) (blk ((i 1).val + 1 + 4 * t.val + (2 : Fin 4).val))) (blk ((i 1).val + 1 + 4 * t.val + (3 : Fin 4).val))

set_option maxHeartbeats 2000000 in
theorem trip (𝒱 : Variants) (c : Dev nD) (bd : Option 𝒱.V) (i : grid0.Coords) (arg2 : Memref sig .tc .vmem S8192x256 .bf16) (harg2 : arg2.IsWhole) (arg3 : Memref sig .tc .vmem S8192x128 .bf16) (harg3 : arg3.IsWhole) (arg4 : Memref sig .tc .vmem S8192x128 .f32) (harg4 : arg4.IsWhole) (arg5 : Memref sig .tc .vmem S512x128 .bf16) (harg5 : arg5.IsWhole) (arg6 : Memref sig .tc .vmem S512x128 .bf16) (harg6 : arg6.IsWhole) (arg7 : Memref sig .tc .vmem S512x128 .bf16) (harg7 : arg7.IsWhole) (arg8 : Memref sig .tc .vmem S8192x256 .f32) (harg8 : arg8.IsWhole) (arg9 : Memref sig .tc .vmem S512x128 .bf16) (harg9 : arg9.IsWhole) (arg10 : Memref sig .tc .vmem S512x128 .bf16) (harg10 : arg10.IsWhole) (arg11 : Memref sig .tc .vmem S512x128 .f32) (harg11 : arg11.IsWhole) (arg1 : BitVec 32) (v7 : FVec F S512x256 .bf16) (v9 : FVec F S512x128 .bf16) (v10 : FVec F S512x256 .f32) (v13 : BitVec 32) (v16 : FVec F S512x256 .bf16) (v19 : FVec F S512x128 .bf16) (v25 : FVec F S512x1 .f32) (v34 : FVec F S512x512 .f32) (v37 : FVec F S512x128 .f32) (cst_13 : FVec F S512x512 .f32)
    (q : Vec F S8192x256 .bf16) (o : Vec F S8192x128 .bf16) (st : Vec F S8192x128 .f32)
    (k : Fin (k0_t1_loop i).trips) (E : Set ℕ) (s : St F) :
    iprop((arg2.view.loc (c : Thread nD τ) ↦[arg2.view.set]{fullShare} harg2.unread q) ∗ (arg3.view.loc (c : Thread nD τ) ↦[arg3.view.set]{fullShare} harg3.unread o)
        ∗ (arg4.view.loc (c : Thread nD τ) ↦[arg4.view.set]{fullShare} harg4.unread st) ∗ (arg8.view.loc (c : Thread nD τ) ↦[arg8.view.set]{fullShare} harg8.unread s.1))
      ⊢ (wp frame (wpE (defs₀ (F := F)) 𝒱 (c : Thread nD τ) bd) E (k0_t1_body (F := F) i arg2 harg2 arg3 harg3 arg4 harg4 arg5 harg5 arg6 harg6 arg7 harg7 arg8 harg8 arg9 harg9 arg10 harg10 arg11 harg11 arg1 v7 v9 v10 v13 v16 v19 v25 v34 v37 cst_13 k s.2)
        (fun y => iprop((arg2.view.loc (c : Thread nD τ) ↦[arg2.view.set]{fullShare} harg2.unread q) ∗ (arg3.view.loc (c : Thread nD τ) ↦[arg3.view.set]{fullShare} harg3.unread o)
        ∗ (arg4.view.loc (c : Thread nD τ) ↦[arg4.view.set]{fullShare} harg4.unread st) ∗ (arg8.view.loc (c : Thread nD τ) ↦[arg8.view.set]{fullShare} harg8.unread (step4 q o st v7 v9 s i k).1) ∗ ⌜y = (step4 q o st v7 v9 s i k).2⌝)) : sProp 𝕄) := by
  obtain ⟨s1, s2, s3⟩ := s
  unfold k0_t1_body
  simp only [k0_part1_eq_skeleton, k0_part2_eq_skeleton, k0_part3_eq_skeleton]
  iintro ⟨H2, H3, H4, H8⟩
  sl_exec
  sl_step
  delta trip.sl.H8_3 trip.sl.r_4 trip.sl.r_5 trip.sl.r_6
  try delta trip.sl.H8_2
  try delta trip.sl.r_3
  try delta trip.sl.r_2
  try delta trip.sl.H8_1
  try delta trip.sl.r_1
  try delta trip.sl.r_0
  try delta trip.sl.r
  try delta trip.sl.H8
  have e : ∀ (f p p' L), arg8.view.writes (Elt F) f (p :: p' :: L) = arg8.view.writes (Elt F) (arg8.view.writes (Elt F) f (p' :: L)) [p] := fun _ _ _ _ => rfl
  have q0 := wide_read' (F := F) arg2 harg2 q (blk ((i 1).val + 1 + 4 * k.val + (0 : Fin 4).val)) (show k0_off5 i k 0#32 = _ from at5 i k 0)
  have o0 := slim_read' (F := F) arg3 harg3 o (blk ((i 1).val + 1 + 4 * k.val + (0 : Fin 4).val)) (show k0_off6 i k 0#32 = _ from at6 i k 0)
  have l0 := lse_read' (F := F) arg4 harg4 st (blk ((i 1).val + 1 + 4 * k.val + (0 : Fin 4).val)) (show k0_off7 i k 0#32 = _ from at7 i k 0)
  have d0 := del_read' (F := F) arg4 harg4 st (blk ((i 1).val + 1 + 4 * k.val + (0 : Fin 4).val)) (show k0_off8 i k 0#32 = _ from at8 i k 0)
  have g0 := fun Q => wide_read' (F := F) arg8 harg8 Q (blk ((i 1).val + 1 + 4 * k.val + (0 : Fin 4).val)) (show k0_off5 i k 0#32 = _ from at5 i k 0)
  have p0 := fun Q => put_unread (F := F) arg8 harg8 Q (blk ((i 1).val + 1 + 4 * k.val + (0 : Fin 4).val)) (show k0_off5 i k 0#32 = _ from at5 i k 0)
  have q1 := wide_read' (F := F) arg2 harg2 q (blk ((i 1).val + 1 + 4 * k.val + (1 : Fin 4).val)) (show k0_off5 i k 1#32 = _ from at5 i k 1)
  have o1 := slim_read' (F := F) arg3 harg3 o (blk ((i 1).val + 1 + 4 * k.val + (1 : Fin 4).val)) (show k0_off6 i k 1#32 = _ from at6 i k 1)
  have l1 := lse_read' (F := F) arg4 harg4 st (blk ((i 1).val + 1 + 4 * k.val + (1 : Fin 4).val)) (show k0_off7 i k 1#32 = _ from at7 i k 1)
  have d1 := del_read' (F := F) arg4 harg4 st (blk ((i 1).val + 1 + 4 * k.val + (1 : Fin 4).val)) (show k0_off8 i k 1#32 = _ from at8 i k 1)
  have g1 := fun Q => wide_read' (F := F) arg8 harg8 Q (blk ((i 1).val + 1 + 4 * k.val + (1 : Fin 4).val)) (show k0_off5 i k 1#32 = _ from at5 i k 1)
  have p1 := fun Q => put_unread (F := F) arg8 harg8 Q (blk ((i 1).val + 1 + 4 * k.val + (1 : Fin 4).val)) (show k0_off5 i k 1#32 = _ from at5 i k 1)
  have q2 := wide_read' (F := F) arg2 harg2 q (blk ((i 1).val + 1 + 4 * k.val + (2 : Fin 4).val)) (show k0_off5 i k 2#32 = _ from at5 i k 2)
  have o2 := slim_read' (F := F) arg3 harg3 o (blk ((i 1).val + 1 + 4 * k.val + (2 : Fin 4).val)) (show k0_off6 i k 2#32 = _ from at6 i k 2)
  have l2 := lse_read' (F := F) arg4 harg4 st (blk ((i 1).val + 1 + 4 * k.val + (2 : Fin 4).val)) (show k0_off7 i k 2#32 = _ from at7 i k 2)
  have d2 := del_read' (F := F) arg4 harg4 st (blk ((i 1).val + 1 + 4 * k.val + (2 : Fin 4).val)) (show k0_off8 i k 2#32 = _ from at8 i k 2)
  have g2 := fun Q => wide_read' (F := F) arg8 harg8 Q (blk ((i 1).val + 1 + 4 * k.val + (2 : Fin 4).val)) (show k0_off5 i k 2#32 = _ from at5 i k 2)
  have p2 := fun Q => put_unread (F := F) arg8 harg8 Q (blk ((i 1).val + 1 + 4 * k.val + (2 : Fin 4).val)) (show k0_off5 i k 2#32 = _ from at5 i k 2)
  have q3 := wide_read' (F := F) arg2 harg2 q (blk ((i 1).val + 1 + 4 * k.val + (3 : Fin 4).val)) (show k0_off5 i k 3#32 = _ from at5 i k 3)
  have o3 := slim_read' (F := F) arg3 harg3 o (blk ((i 1).val + 1 + 4 * k.val + (3 : Fin 4).val)) (show k0_off6 i k 3#32 = _ from at6 i k 3)
  have l3 := lse_read' (F := F) arg4 harg4 st (blk ((i 1).val + 1 + 4 * k.val + (3 : Fin 4).val)) (show k0_off7 i k 3#32 = _ from at7 i k 3)
  have d3 := del_read' (F := F) arg4 harg4 st (blk ((i 1).val + 1 + 4 * k.val + (3 : Fin 4).val)) (show k0_off8 i k 3#32 = _ from at8 i k 3)
  have g3 := fun Q => wide_read' (F := F) arg8 harg8 Q (blk ((i 1).val + 1 + 4 * k.val + (3 : Fin 4).val)) (show k0_off5 i k 3#32 = _ from at5 i k 3)
  have p3 := fun Q => put_unread (F := F) arg8 harg8 Q (blk ((i 1).val + 1 + 4 * k.val + (3 : Fin 4).val)) (show k0_off5 i k 3#32 = _ from at5 i k 3)
  simp only [e, q0, o0, l0, d0, g0, p0, q1, o1, l1, d1, g1, p1, q2, o2, l2, d2, g2, p2, q3, o3, l3, d3, g3, p3]
  isplitl [H2]; · iexact H2
  isplitl [H3]; · iexact H3
  isplitl [H4]; · iexact H4
  isplitl [H8]; · iexact H8
  ipureintro
  rfl

end Cert.AttnB

end
-- ==== Proof.AttnBLoop.lean ====
module

public import proofs.«01_k».proof.Proof.AttnBStep

@[expose] public section

set_option maxRecDepth 16384

noncomputable section

namespace Cert.AttnB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KAttnBIdeal Cert.KAttnBIdeal.Gen

variable {F : FTy → Type} [FloatOps F] [Named F]

local notation "𝕄" => MT nD τ sig Unit (Elt F) ℕ (UR sig nD τ) ℕ

/-- The row blocks of `L` in turn. -/
def rows (q : Vec F S8192x256 .bf16) (o : Vec F S8192x128 .bf16) (st : Vec F S8192x128 .f32) (k : Vec F S512x256 .bf16) (v : Vec F S512x128 .bf16)
    (L : List (Fin 16)) (s : St F) : St F := L.foldl (step q o st k v) s

/-- The `4 * n` row blocks from `a` on. -/
def band (a n : ℕ) : List (Fin 16) := (List.range (4 * n)).map fun j => blk (a + j)

theorem band_succ (a n : ℕ) : band a (n + 1) = band a n ++ [blk (a + 4 * n + 0), blk (a + 4 * n + 1), blk (a + 4 * n + 2), blk (a + 4 * n + 3)] := by
  unfold band
  rw [show 4 * (n + 1) = 4 * n + 1 + 1 + 1 + 1 by omega]
  simp only [List.range_succ, List.map_append, List.map_cons, List.map_nil, List.append_assoc, List.cons_append, List.nil_append,
    Nat.add_assoc, Nat.add_zero]

theorem rows_succ (q : Vec F S8192x256 .bf16) (o : Vec F S8192x128 .bf16) (st : Vec F S8192x128 .f32) (k : Vec F S512x256 .bf16) (v : Vec F S512x128 .bf16)
    (s : St F) (i : grid0.Coords) (t : Fin (k0_t1_loop i).trips) :
    rows q o st k v (band ((i 1).val + 1) (t.val + 1)) s = step4 q o st k v (rows q o st k v (band ((i 1).val + 1) t.val) s) i t := by
  rw [band_succ]; unfold rows; rw [List.foldl_append]; rfl

variable (𝒱 : Variants) (c : Dev nD) (bd : Option 𝒱.V) (E : Set ℕ) (i : grid0.Coords)
variable (arg2 : Memref sig .tc .vmem S8192x256 .bf16) (harg2 : arg2.IsWhole)
variable (arg3 : Memref sig .tc .vmem S8192x128 .bf16) (harg3 : arg3.IsWhole)
variable (arg4 : Memref sig .tc .vmem S8192x128 .f32) (harg4 : arg4.IsWhole)
variable (arg5 : Memref sig .tc .vmem S512x128 .bf16) (harg5 : arg5.IsWhole)
variable (arg6 : Memref sig .tc .vmem S512x128 .bf16) (harg6 : arg6.IsWhole)
variable (arg7 : Memref sig .tc .vmem S512x128 .bf16) (harg7 : arg7.IsWhole)
variable (arg8 : Memref sig .tc .vmem S8192x256 .f32) (harg8 : arg8.IsWhole)
variable (arg9 : Memref sig .tc .vmem S512x128 .bf16) (harg9 : arg9.IsWhole)
variable (arg10 : Memref sig .tc .vmem S512x128 .bf16) (harg10 : arg10.IsWhole)
variable (arg11 : Memref sig .tc .vmem S512x128 .f32) (harg11 : arg11.IsWhole)
variable (q : Vec F S8192x256 .bf16) (o : Vec F S8192x128 .bf16) (st : Vec F S8192x128 .f32)

/-- The four buffers a row block touches, the last holding `Q`. -/
def held (Q : Vec F S8192x256 .f32) : sProp 𝕄 :=
  iprop((arg2.view.loc (c : Thread nD τ) ↦[arg2.view.set]{fullShare} harg2.unread q) ∗ (arg3.view.loc (c : Thread nD τ) ↦[arg3.view.set]{fullShare} harg3.unread o)
        ∗ (arg4.view.loc (c : Thread nD τ) ↦[arg4.view.set]{fullShare} harg4.unread st) ∗ (arg8.view.loc (c : Thread nD τ) ↦[arg8.view.set]{fullShare} harg8.unread Q))

/-- One trip, from band to band. -/
theorem trip_band (arg1 : BitVec 32) (v7 : FVec F S512x256 .bf16) (v9 : FVec F S512x128 .bf16) (v10 : FVec F S512x256 .f32) (v13 : BitVec 32) (v16 : FVec F S512x256 .bf16) (v19 : FVec F S512x128 .bf16) (v25 : FVec F S512x1 .f32) (v34 : FVec F S512x512 .f32) (v37 : FVec F S512x128 .f32) (cst_13 : FVec F S512x512 .f32) (s : St F) (k : Fin (k0_t1_loop i).trips) :
    held c arg2 harg2 arg3 harg3 arg4 harg4 arg8 harg8 q o st (rows q o st v7 v9 (band ((i 1).val + 1) k.val) s).1
      ⊢ wp frame (wpE (defs₀ (F := F)) 𝒱 (c : Thread nD τ) bd) E
        (k0_t1_body (F := F) i arg2 harg2 arg3 harg3 arg4 harg4 arg5 harg5 arg6 harg6 arg7 harg7 arg8 harg8 arg9 harg9 arg10 harg10 arg11 harg11 arg1 v7 v9 v10 v13 v16 v19 v25 v34 v37 cst_13 k (rows q o st v7 v9 (band ((i 1).val + 1) k.val) s).2)
        (fun y => iprop(held c arg2 harg2 arg3 harg3 arg4 harg4 arg8 harg8 q o st (rows q o st v7 v9 (band ((i 1).val + 1) (k.val + 1)) s).1
          ∗ ⌜y = (rows q o st v7 v9 (band ((i 1).val + 1) (k.val + 1)) s).2⌝)) := by
  rw [rows_succ q o st v7 v9 s i k]
  generalize rows q o st v7 v9 (band ((i 1).val + 1) k.val) s = s'
  unfold held
  iintro H
  iapply (wp_wand_r Idealize.ShloMosaic.frame (wpE (defs₀ (F := F)) 𝒱 (c : Thread nD τ) bd) E)
  isplitl [H]
  · iapply (trip (F := F) 𝒱 c bd i arg2 harg2 arg3 harg3 arg4 harg4 arg5 harg5 arg6 harg6 arg7 harg7 arg8 harg8 arg9 harg9 arg10 harg10 arg11 harg11 arg1 v7 v9 v10 v13 v16 v19 v25 v34 v37 cst_13 q o st k E s')
    iexact H
  iintro %y ⟨H2, H3, H4, H8, %e⟩
  isplitl [H2 H3 H4 H8]
  · isplitl [H2]; · iexact H2
    isplitl [H3]; · iexact H3
    isplitl [H4]; · iexact H4
    iexact H8
  ipureintro; exact e

/-- The first loop: all its bands. -/
theorem loop1 (arg1 : BitVec 32) (v7 : FVec F S512x256 .bf16) (v9 : FVec F S512x128 .bf16) (v10 : FVec F S512x256 .f32) (v13 : BitVec 32) (v16 : FVec F S512x256 .bf16) (v19 : FVec F S512x128 .bf16) (v25 : FVec F S512x1 .f32) (v34 : FVec F S512x512 .f32) (v37 : FVec F S512x128 .f32) (cst_13 : FVec F S512x512 .f32) (s : St F) :
    held c arg2 harg2 arg3 harg3 arg4 harg4 arg8 harg8 q o st s.1
      ⊢ wp frame (wpE (defs₀ (F := F)) 𝒱 (c : Thread nD τ) bd) E
        (Scf.Loop.for (k0_t1_loop i) (k0_t1_ok i) s.2 (k0_t1_body (F := F) i arg2 harg2 arg3 harg3 arg4 harg4 arg5 harg5 arg6 harg6 arg7 harg7 arg8 harg8 arg9 harg9 arg10 harg10 arg11 harg11 arg1 v7 v9 v10 v13 v16 v19 v25 v34 v37 cst_13))
        (fun y => iprop(held c arg2 harg2 arg3 harg3 arg4 harg4 arg8 harg8 q o st (rows q o st v7 v9 (band ((i 1).val + 1) ((15 - (i 1).val) / 4)) s).1
          ∗ ⌜y = (rows q o st v7 v9 (band ((i 1).val + 1) ((15 - (i 1).val) / 4)) s).2⌝)) := by
  have h := Scf.wp_for frame (wpE (defs₀ (F := F)) 𝒱 (c : Thread nD τ) bd) E (k0_t1_loop i).lb (k0_t1_loop i).ub (k0_t1_loop i).st (k0_t1_ok i) s.2
    (k0_t1_body (F := F) i arg2 harg2 arg3 harg3 arg4 harg4 arg5 harg5 arg6 harg6 arg7 harg7 arg8 harg8 arg9 harg9 arg10 harg10 arg11 harg11 arg1 v7 v9 v10 v13 v16 v19 v25 v34 v37 cst_13)
    (fun n y => iprop(held c arg2 harg2 arg3 harg3 arg4 harg4 arg8 harg8 q o st (rows q o st v7 v9 (band ((i 1).val + 1) n) s).1 ∗ ⌜y = (rows q o st v7 v9 (band ((i 1).val + 1) n) s).2⌝))
    (fun k acc => by
      iintro ⟨H, %e⟩
      subst e
      iapply (trip_band (F := F) 𝒱 c bd E i arg2 harg2 arg3 harg3 arg4 harg4 arg5 harg5 arg6 harg6 arg7 harg7 arg8 harg8 arg9 harg9 arg10 harg10 arg11 harg11 q o st arg1 v7 v9 v10 v13 v16 v19 v25 v34 v37 cst_13 s k)
      iexact H)
    (Q := fun y => iprop(held c arg2 harg2 arg3 harg3 arg4 harg4 arg8 harg8 q o st (rows q o st v7 v9 (band ((i 1).val + 1) ((15 - (i 1).val) / 4)) s).1
          ∗ ⌜y = (rows q o st v7 v9 (band ((i 1).val + 1) ((15 - (i 1).val) / 4)) s).2⌝))
  refine BI.BIBase.Entails.trans ?_ h
  iintro H
  isplitl [H]
  · isplitl [H]; · iexact H
    ipureintro; rfl
  · iintro %acc H
    have e : Scf.trips (k0_t1_loop i).lb (k0_t1_loop i).ub (k0_t1_loop i).st = (15 - (i 1).val) / 4 := trips1_eq i
    rw [e]
    iexact H

/-- The second loop makes no trip. -/
theorem loop2 (arg1 : BitVec 32) (v7 : FVec F S512x256 .bf16) (v9 : FVec F S512x128 .bf16) (v10 : FVec F S512x256 .f32) (v13 : BitVec 32) (v16 : FVec F S512x256 .bf16) (v19 : FVec F S512x128 .bf16) (v25 : FVec F S512x1 .f32) (v34 : FVec F S512x512 .f32) (v37 : FVec F S512x128 .f32) (cst_13 : FVec F S512x512 .f32) (v74 : BitVec 32) (y0 : Vec F S512x256 .f32 × Vec F S512x128 .f32) (P : sProp 𝕄) :
    P ⊢ wp frame (wpE (defs₀ (F := F)) 𝒱 (c : Thread nD τ) bd) E
        (Scf.Loop.for (k0_t2_loop i) (k0_t2_ok i) y0 (k0_t2_body (F := F) i arg2 harg2 arg3 harg3 arg4 harg4 arg5 harg5 arg6 harg6 arg7 harg7 arg8 harg8 arg9 harg9 arg10 harg10 arg11 harg11 arg1 v7 v9 v10 v13 v16 v19 v25 v34 v37 cst_13 v74))
        (fun y => iprop(P ∗ ⌜y = y0⌝)) := by
  have h := Scf.wp_for frame (wpE (defs₀ (F := F)) 𝒱 (c : Thread nD τ) bd) E (k0_t2_loop i).lb (k0_t2_loop i).ub (k0_t2_loop i).st (k0_t2_ok i) y0
    (k0_t2_body (F := F) i arg2 harg2 arg3 harg3 arg4 harg4 arg5 harg5 arg6 harg6 arg7 harg7 arg8 harg8 arg9 harg9 arg10 harg10 arg11 harg11 arg1 v7 v9 v10 v13 v16 v19 v25 v34 v37 cst_13 v74)
    (fun _ y => iprop(P ∗ ⌜y = y0⌝))
    (fun k _ => absurd k.isLt (by have e : Scf.trips (k0_t2_loop i).lb (k0_t2_loop i).ub (k0_t2_loop i).st = 0 := trips2_eq i; omega))
    (Q := fun y => iprop(P ∗ ⌜y = y0⌝))
  refine BI.BIBase.Entails.trans ?_ h
  iintro H
  isplitl [H]
  · isplitl [H]; · iexact H
    ipureintro; rfl
  · iintro %acc H
    iexact H

end Cert.AttnB

end
-- ==== Proof.AttnBPart8.lean ====
module

public import proofs.«01_k».proof.Proof.AttnBLoop

@[expose] public section

set_option maxRecDepth 16384

noncomputable section

namespace Cert.AttnB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KAttnBIdeal Cert.KAttnBIdeal.Gen

variable {F : FTy → Type} [FloatOps F] [Named F]

local notation "𝕄" => MT nD τ sig Unit (Elt F) ℕ (UR sig nD τ) ℕ

variable (𝒱 : Variants) (c : Dev nD) (bd : Option 𝒱.V) (E : Set ℕ) (i : grid0.Coords)
variable (arg2 : Memref sig .tc .vmem S8192x256 .bf16) (harg2 : arg2.IsWhole)
variable (arg3 : Memref sig .tc .vmem S8192x128 .bf16) (harg3 : arg3.IsWhole)
variable (arg4 : Memref sig .tc .vmem S8192x128 .f32) (harg4 : arg4.IsWhole)
variable (arg5 : Memref sig .tc .vmem S512x128 .bf16) (harg5 : arg5.IsWhole)
variable (arg6 : Memref sig .tc .vmem S512x128 .bf16) (harg6 : arg6.IsWhole)
variable (arg7 : Memref sig .tc .vmem S512x128 .bf16) (harg7 : arg7.IsWhole)
variable (arg8 : Memref sig .tc .vmem S8192x256 .f32) (harg8 : arg8.IsWhole)
variable (arg9 : Memref sig .tc .vmem S512x128 .bf16) (harg9 : arg9.IsWhole)
variable (arg10 : Memref sig .tc .vmem S512x128 .bf16) (harg10 : arg10.IsWhole)
variable (arg11 : Memref sig .tc .vmem S512x128 .f32) (harg11 : arg11.IsWhole)
variable (q : Vec F S8192x256 .bf16) (o : Vec F S8192x128 .bf16) (st : Vec F S8192x128 .f32)

theorem at1 : k0_off1 i = ![512 * (blk (i 1).val).val, 0] := by
  rw [blk_val (show (i 1).val < 16 from (i 1).isLt)]; exact k0_off1_eq i
theorem at2 : k0_off2 i = ![512 * (blk (i 1).val).val, 0] := by
  rw [blk_val (show (i 1).val < 16 from (i 1).isLt)]; exact k0_off2_eq i
theorem at3 : k0_off3 i = ![512 * (blk (i 1).val).val, 0] := by
  rw [blk_val (show (i 1).val < 16 from (i 1).isLt)]; exact k0_off3_eq i
theorem at4 : k0_off4 i = ![512 * (blk (i 1).val).val, 64] := by
  rw [blk_val (show (i 1).val < 16 from (i 1).isLt)]; exact k0_off4_eq i

set_option maxHeartbeats 2000000 in
/-- The diagonal's row block of the query gradient, then the bands below it. -/
theorem part8 (arg1 : BitVec 32) (v7 : FVec F S512x256 .bf16) (v9 : FVec F S512x128 .bf16) (v10 : FVec F S512x256 .f32) (v13 : BitVec 32) (v16 : FVec F S512x256 .bf16) (v19 : FVec F S512x128 .bf16) (v25 : FVec F S512x1 .f32) (v34 : FVec F S512x512 .f32) (v37 : FVec F S512x128 .f32) (cst_13 : FVec F S512x512 .f32) (Q : Vec F S8192x256 .f32) (s : St F)
    (hs : s = (VecWindow.put Q ![512 * (blk (i 1).val).val, 0] S512x256.size (k0_pay66 v7 v9 v19 v25 v34 cst_13 (wide Q (blk (i 1).val))),
      k0_pay65 v9 v10 v16 v19 v25 v34 cst_13, v37)) :
    held c arg2 harg2 arg3 harg3 arg4 harg4 arg8 harg8 q o st Q
      ⊢ wp frame (wpE (defs₀ (F := F)) 𝒱 (c : Thread nD τ) bd) E
        (k0_part8 (F := F) i arg2 harg2 arg3 harg3 arg4 harg4 arg5 harg5 arg6 harg6 arg7 harg7 arg8 harg8 arg9 harg9 arg10 harg10 arg11 harg11 arg1 v7 v9 v10 v13 v16 v19 v25 v34 v37 cst_13)
        (fun y => iprop(held c arg2 harg2 arg3 harg3 arg4 harg4 arg8 harg8 q o st (rows q o st v7 v9 (band ((i 1).val + 1) ((15 - (i 1).val) / 4)) s).1
          ∗ ⌜y = ⟨Scalar.subi 15#32 arg1, (rows q o st v7 v9 (band ((i 1).val + 1) ((15 - (i 1).val) / 4)) s).2.1,
            (rows q o st v7 v9 (band ((i 1).val + 1) ((15 - (i 1).val) / 4)) s).2.2, 4#32, Scalar.cmpi .eq 4#32 0#32, 1#32⟩⌝)) := by
  rw [k0_part8_eq_skeleton]
  unfold k0_part8_skel held
  iintro ⟨H2, H3, H4, H8⟩
  sl_exec
  rw [wide_read' (F := F) arg8 harg8 Q (blk (i 1).val) (at1 i), put_unread (F := F) arg8 harg8 Q (blk (i 1).val) (at1 i)]
  rw [wp_bind]
  iapply (wp_wand_r Idealize.ShloMosaic.frame (wpE (defs₀ (F := F)) 𝒱 (c : Thread nD τ) bd) E)
  isplitl [H2 H3 H4 H8]
  · have h := loop1 (F := F) 𝒱 c bd E i arg2 harg2 arg3 harg3 arg4 harg4 arg5 harg5 arg6 harg6 arg7 harg7 arg8 harg8 arg9 harg9 arg10 harg10 arg11 harg11 q o st arg1 v7 v9 v10 v13 v16 v19 v25 v34 v37 cst_13 s
    rw [hs] at h
    unfold held at h
    iapply h
    isplitl [H2]; · iexact H2
    isplitl [H3]; · iexact H3
    isplitl [H4]; · iexact H4
    iexact H8
  rw [← hs]
  iintro %y ⟨H, %e⟩
  subst e
  rw [show (rows q o st v7 v9 (band ((i 1).val + 1) ((15 - (i 1).val) / 4)) s).2 = ((rows q o st v7 v9 (band ((i 1).val + 1) ((15 - (i 1).val) / 4)) s).2.1, (rows q o st v7 v9 (band ((i 1).val + 1) ((15 - (i 1).val) / 4)) s).2.2) from rfl]
  dsimp only
  rw [wp_bind]
  iapply (wp_wand_r Idealize.ShloMosaic.frame (wpE (defs₀ (F := F)) 𝒱 (c : Thread nD τ) bd) E)
  isplitl [H]
  · iapply (loop2 (F := F) 𝒱 c bd E i arg2 harg2 arg3 harg3 arg4 harg4 arg5 harg5 arg6 harg6 arg7 harg7 arg8 harg8 arg9 harg9 arg10 harg10 arg11 harg11 arg1 v7 v9 v10 v13 v16 v19 v25 v34 v37 cst_13 _ _ _)
    iexact H
  iintro %y ⟨H, %e⟩
  subst e
  dsimp only
  sl_step
  isplitl [H]; · iexact H
  ipureintro; rfl

end Cert.AttnB

end
-- ==== Proof.AttnBPart7.lean ====
module

public import proofs.«01_k».proof.Proof.AttnBPart8

@[expose] public section

set_option maxRecDepth 16384

noncomputable section

namespace Cert.AttnB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KAttnBIdeal Cert.KAttnBIdeal.Gen

variable {F : FTy → Type} [FloatOps F] [Named F]

local notation "𝕄" => MT nD τ sig Unit (Elt F) ℕ (UR sig nD τ) ℕ

variable (𝒱 : Variants) (c : Dev nD) (bd : Option 𝒱.V) (E : Set ℕ) (i : grid0.Coords)
variable (arg2 : Memref sig .tc .vmem S8192x256 .bf16) (harg2 : arg2.IsWhole)
variable (arg3 : Memref sig .tc .vmem S8192x128 .bf16) (harg3 : arg3.IsWhole)
variable (arg4 : Memref sig .tc .vmem S8192x128 .f32) (harg4 : arg4.IsWhole)
variable (arg5 : Memref sig .tc .vmem S512x128 .bf16) (harg5 : arg5.IsWhole)
variable (arg6 : Memref sig .tc .vmem S512x128 .bf16) (harg6 : arg6.IsWhole)
variable (arg7 : Memref sig .tc .vmem S512x128 .bf16) (harg7 : arg7.IsWhole)
variable (arg8 : Memref sig .tc .vmem S8192x256 .f32) (harg8 : arg8.IsWhole)
variable (arg9 : Memref sig .tc .vmem S512x128 .bf16) (harg9 : arg9.IsWhole)
variable (arg10 : Memref sig .tc .vmem S512x128 .bf16) (harg10 : arg10.IsWhole)
variable (arg11 : Memref sig .tc .vmem S512x128 .f32) (harg11 : arg11.IsWhole)
variable (q : Vec F S8192x256 .bf16) (o : Vec F S8192x128 .bf16) (st : Vec F S8192x128 .f32)

variable (kn vv kr : Vec F S512x128 .bf16)

theorem full_read {e : EltTy} (m : Memref sig .tc .vmem S512x128 e) (hm : m.IsWhole) (X : Vec F S512x128 e)
    (inb : ∀ a, (![0, 0] : Fin 2 → ℕ) a + (![512, 128] : Fin 2 → ℕ) a ≤ S512x128.size a) :
    m.view.readAt (Elt F) (Rect.unit (s := S512x128) ![0, 0] ![512, 128] inb).toLoadRect (hm.unread X) = X :=
  (View.readAt_full m.view _ inb).trans (hm.read_unread X)

theorem slim_store {e : EltTy} (m : Memref sig .tc .vmem S512x128 e) (hm : m.IsWhole) (Y X : Vec F S512x128 e)
    (inb : ∀ a, (![0, 0] : Fin 2 → ℕ) a + (![512, 128] : Fin 2 → ℕ) a ≤ S512x128.size a) :
    m.view.writes (Elt F) (hm.unread Y) [⟨Rect.unit (s := S512x128) ![0, 0] ![512, 128] inb, X⟩] = hm.unread X :=
  hm.eq_unread (View.read_writes_full m.view _ inb X [])

theorem zeros_unread (Q : Vec F S8192x256 .f32) (inb : ∀ a, (![0, 0] : Fin 2 → ℕ) a + (![8192, 256] : Fin 2 → ℕ) a ≤ S8192x256.size a) (w : Vec F S8192x256 .f32) :
    arg8.view.writes (Elt F) (harg8.unread Q) [⟨Rect.unit (s := S8192x256) ![0, 0] ![8192, 256] inb, w⟩] = harg8.unread w :=
  harg8.eq_unread (View.read_writes_full arg8.view _ inb w [])

/-- What one grid point computes before its loops, for the diagonal block. -/
abbrev Head (F : FTy → Type) [FloatOps F] [Named F] := Σ' (_ : BitVec 32) (_ : FVec F S512x256 .bf16) (_ : FVec F S512x128 .bf16) (_ : FVec F S512x256 .f32) (_ : BitVec 32) (_ : FVec F S512x256 .bf16) (_ : FVec F S512x128 .bf16) (_ : FVec F S512x1 .f32) (_ : FVec F S512x512 .f32) (_ : FVec F S512x128 .f32), FVec F S512x512 .f32

def headOf (i : grid0.Coords) (q : Vec F S8192x256 .bf16) (o : Vec F S8192x128 .bf16) (st : Vec F S8192x128 .f32) (kn vv kr : Vec F S512x128 .bf16) : Head F :=
  ⟨BitVec.ofNat 32 (i 1).val, k0_pay56 kn kr, k0_pay57 vv, k0_pay58 (F := F), Scalar.muli (BitVec.ofNat 32 (i 1).val) 512#32, k0_pay59 (wide q (blk (i 1).val)),
    k0_pay60 (slim o (blk (i 1).val)), k0_pay61 (delOf st (blk (i 1).val)), k0_pay62 kn kr (wide q (blk (i 1).val)) (lseOf st (blk (i 1).val)),
    k0_pay63 kn kr (wide q (blk (i 1).val)) (slim o (blk (i 1).val)) (lseOf st (blk (i 1).val)), constant S512x512 .f32 0x00000000#32⟩

/-- The query gradient's block as the diagonal finds it: cleared at a head's first point. -/
def opened (i : grid0.Coords) (Q : Vec F S8192x256 .f32) : Vec F S8192x256 .f32 := if (i 1).val = 0 then k0_pay55 (F := F) else Q

theorem condz_iff : ∀ k : Fin 16, Scalar.cmpi .ne ((Scalar.extui (Scalar.cmpi .eq (BitVec.ofNat 32 k.val) 0#32) : BitVec 32)) 0#32 = 1#1 ↔ k.val = 0 := by decide

set_option maxHeartbeats 2000000 in
theorem part7 (Q : Vec F S8192x256 .f32) :
    iprop(held c arg2 harg2 arg3 harg3 arg4 harg4 arg8 harg8 q o st Q ∗ (arg5.view.loc (c : Thread nD τ) ↦[arg5.view.set]{fullShare} harg5.unread kn) ∗ (arg6.view.loc (c : Thread nD τ) ↦[arg6.view.set]{fullShare} harg6.unread vv) ∗ (arg7.view.loc (c : Thread nD τ) ↦[arg7.view.set]{fullShare} harg7.unread kr))
      ⊢ wp frame (wpE (defs₀ (F := F)) 𝒱 (c : Thread nD τ) bd) E
        (k0_part7 (F := F) i arg2 harg2 arg3 harg3 arg4 harg4 arg5 harg5 arg6 harg6 arg7 harg7 arg8 harg8 arg9 harg9 arg10 harg10 arg11 harg11)
        (fun y => iprop(held c arg2 harg2 arg3 harg3 arg4 harg4 arg8 harg8 q o st (opened i Q) ∗ (arg5.view.loc (c : Thread nD τ) ↦[arg5.view.set]{fullShare} harg5.unread kn) ∗ (arg6.view.loc (c : Thread nD τ) ↦[arg6.view.set]{fullShare} harg6.unread vv) ∗ (arg7.view.loc (c : Thread nD τ) ↦[arg7.view.set]{fullShare} harg7.unread kr)
          ∗ ⌜y = headOf i q o st kn vv kr⌝)) := by
  rw [k0_part7_eq_skeleton]
  unfold k0_part7_skel held headOf
  by_cases h0 : (i 1).val = 0
  · have hc := (condz_iff (i 1)).mpr h0
    rw [show opened i Q = k0_pay55 (F := F) from if_pos h0]
    iintro ⟨⟨H2, H3, H4, H8⟩, H5, H6, H7⟩
    sl_exec (disch := first | sl_exact hc)
    sl_step
    simp only [full_read (F := F) arg5 harg5 kn, full_read (F := F) arg7 harg7 kr, full_read (F := F) arg6 harg6 vv,
      wide_read' (F := F) arg2 harg2 q (blk (i 1).val) (at1 i), slim_read' (F := F) arg3 harg3 o (blk (i 1).val) (at2 i),
      lse_read' (F := F) arg4 harg4 st (blk (i 1).val) (at3 i), del_read' (F := F) arg4 harg4 st (blk (i 1).val) (at4 i),
      zeros_unread (F := F) arg8 harg8 Q]
    isplitl [H2 H3 H4 H8]
    · isplitl [H2]; · iexact H2
      isplitl [H3]; · iexact H3
      isplitl [H4]; · iexact H4
      iexact H8
    isplitl [H5]; · iexact H5
    isplitl [H6]; · iexact H6
    isplitl [H7]; · iexact H7
    ipureintro; rfl
  · have hc := fun h => h0 ((condz_iff (i 1)).mp h)
    rw [show opened i Q = Q from if_neg h0]
    iintro ⟨⟨H2, H3, H4, H8⟩, H5, H6, H7⟩
    sl_exec (disch := first | sl_exact hc)
    sl_step
    simp only [full_read (F := F) arg5 harg5 kn, full_read (F := F) arg7 harg7 kr, full_read (F := F) arg6 harg6 vv,
      wide_read' (F := F) arg2 harg2 q (blk (i 1).val) (at1 i), slim_read' (F := F) arg3 harg3 o (blk (i 1).val) (at2 i),
      lse_read' (F := F) arg4 harg4 st (blk (i 1).val) (at3 i), del_read' (F := F) arg4 harg4 st (blk (i 1).val) (at4 i)]
    isplitl [H2 H3 H4 H8]
    · isplitl [H2]; · iexact H2
      isplitl [H3]; · iexact H3
      isplitl [H4]; · iexact H4
      iexact H8
    isplitl [H5]; · iexact H5
    isplitl [H6]; · iexact H6
    isplitl [H7]; · iexact H7
    ipureintro; rfl

/-- The two single row blocks of the second part's remainder. -/
def rest2 (i : grid0.Coords) : List (Fin 16) := (if k0_cond2 i = 1#1 then [15] else []) ++ (if k0_cond3 i = 1#1 then [14] else [])

/-- Another row block's store leaves this one's rows. -/
theorem wide_put (X : Vec F S8192x256 .f32) (w : Vec F S512x256 .f32) {b b' : Fin 16} (h : b ≠ b') :
    wide (VecWindow.put X ![512 * b'.val, 0] S512x256.size w) b = wide X b := by
  unfold wide
  have hn : b.val ≠ b'.val := fun e => h (Fin.ext e)
  rcases Nat.lt_or_ge b.val b'.val with hlt | hge
  · refine VecWindow.window_put_of_disjoint _ _ _ _ _ (inb256 b) _ 0 (Or.inl ?_)
    show 512 * b.val + 512 ≤ 512 * b'.val
    omega
  · refine VecWindow.window_put_of_disjoint _ _ _ _ _ (inb256 b) _ 0 (Or.inr ?_)
    show 512 * b'.val + 512 ≤ 512 * b.val
    omega

set_option maxHeartbeats 2000000 in
theorem part9 (v7 : FVec F S512x256 .bf16) (v9 : FVec F S512x128 .bf16) (v52 : BitVec 32) (s : St F) (c4 : BitVec 32) (v77 : BitVec 1) (c1 : BitVec 32) :
    held c arg2 harg2 arg3 harg3 arg4 harg4 arg8 harg8 q o st s.1
      ⊢ wp frame (wpE (defs₀ (F := F)) 𝒱 (c : Thread nD τ) bd) E
        (k0_part9 (F := F) i arg2 harg2 arg3 harg3 arg4 harg4 arg5 harg5 arg6 harg6 arg7 harg7 arg8 harg8 arg9 harg9 arg10 harg10 arg11 harg11 v7 v9 v52 s.2.1 s.2.2 c4 v77 c1)
        (fun y => iprop(held c arg2 harg2 arg3 harg3 arg4 harg4 arg8 harg8 q o st (rows q o st v7 v9 (rest2 i) s).1
          ∗ ⌜y.1 = (rows q o st v7 v9 (rest2 i) s).2.1 ∧ y.2.1 = (rows q o st v7 v9 (rest2 i) s).2.2⌝)) := by
  rw [k0_part9_eq_skeleton]
  obtain ⟨s1, s2, s3⟩ := s
  unfold k0_part9_skel held rest2
  have q15 := wide_read' (F := F) arg2 harg2 q 15 (off := ![7680, 0]) rfl
  have o15 := slim_read' (F := F) arg3 harg3 o 15 (off := ![7680, 0]) rfl
  have l15 := lse_read' (F := F) arg4 harg4 st 15 (off := ![7680, 0]) rfl
  have d15 := del_read' (F := F) arg4 harg4 st 15 (off := ![7680, 64]) rfl
  have g15 := fun Q => wide_read' (F := F) arg8 harg8 Q 15 (off := ![7680, 0]) rfl
  have p15 := fun Q => put_unread (F := F) arg8 harg8 Q 15 (off := ![7680, 0]) rfl
  have q14 := wide_read' (F := F) arg2 harg2 q 14 (off := ![7168, 0]) rfl
  have o14 := slim_read' (F := F) arg3 harg3 o 14 (off := ![7168, 0]) rfl
  have l14 := lse_read' (F := F) arg4 harg4 st 14 (off := ![7168, 0]) rfl
  have d14 := del_read' (F := F) arg4 harg4 st 14 (off := ![7168, 64]) rfl
  have g14 := fun Q => wide_read' (F := F) arg8 harg8 Q 14 (off := ![7168, 0]) rfl
  have p14 := fun Q => put_unread (F := F) arg8 harg8 Q 14 (off := ![7168, 0]) rfl
  have e8 : ∀ (f p p' L), arg8.view.writes (Elt F) f (p :: p' :: L) = arg8.view.writes (Elt F) (arg8.view.writes (Elt F) f (p' :: L)) [p] := fun _ _ _ _ => rfl
  by_cases h2 : k0_cond2 i = 1#1 <;> by_cases h3 : k0_cond3 i = 1#1
  all_goals
    simp only [h2, h3, if_true, if_false]
    iintro ⟨H2, H3, H4, H8⟩
    sl_exec (disch := first | sl_exact h2 | sl_exact h3)
    sl_step
    simp only [e8, q15, o15, l15, d15, g15, p15, q14, o14, l14, d14, g14, p14]
    isplitl [H2 H3 H4 H8]
    · isplitl [H2]; · iexact H2
      isplitl [H3]; · iexact H3
      isplitl [H4]; · iexact H4
      first
      | iexact H8
      | rw [show wide s1 14 = wide (VecWindow.put s1 ![512 * (15 : Fin 16).val, 0] ![512, 256]
          (k0_pay85 v7 v9 (wide q 15) (slim o 15) (lseOf st 15) (delOf st 15) (wide s1 15))) 14 from (wide_put s1 _ (by decide)).symm]
        iexact H8
    ipureintro; exact ⟨rfl, rfl⟩

/-- The row blocks one point visits below the diagonal, in order. -/
def order (i : grid0.Coords) : List (Fin 16) :=
  band ((i 1).val + 1) ((15 - (i 1).val) / 4) ++ rest2 i ++ (if k0_cond4 i = 1#1 then [13] else [])

/-- The three results after the diagonal block, from the query gradient `Q` of the points before. -/
def start (i : grid0.Coords) (q : Vec F S8192x256 .bf16) (o : Vec F S8192x128 .bf16) (st : Vec F S8192x128 .f32) (kn vv kr : Vec F S512x128 .bf16)
    (Q : Vec F S8192x256 .f32) : St F :=
  (VecWindow.put (opened i Q) ![512 * (blk (i 1).val).val, 0] S512x256.size
      (k0_pay66 (k0_pay56 kn kr) (k0_pay57 vv) (k0_pay60 (slim o (blk (i 1).val))) (k0_pay61 (delOf st (blk (i 1).val)))
        (k0_pay62 kn kr (wide q (blk (i 1).val)) (lseOf st (blk (i 1).val))) (constant S512x512 .f32 0x00000000#32) (wide (opened i Q) (blk (i 1).val))),
    k0_pay65 (k0_pay57 vv) (k0_pay58 (F := F)) (k0_pay59 (wide q (blk (i 1).val))) (k0_pay60 (slim o (blk (i 1).val))) (k0_pay61 (delOf st (blk (i 1).val)))
      (k0_pay62 kn kr (wide q (blk (i 1).val)) (lseOf st (blk (i 1).val))) (constant S512x512 .f32 0x00000000#32),
    k0_pay63 kn kr (wide q (blk (i 1).val)) (slim o (blk (i 1).val)) (lseOf st (blk (i 1).val)))

/-- The three results of one point. -/
def done (i : grid0.Coords) (q : Vec F S8192x256 .bf16) (o : Vec F S8192x128 .bf16) (st : Vec F S8192x128 .f32) (kn vv kr : Vec F S512x128 .bf16)
    (Q : Vec F S8192x256 .f32) : St F :=
  rows q o st (k0_pay56 kn kr) (k0_pay57 vv) (order i) (start i q o st kn vv kr Q)

set_option maxHeartbeats 2000000 in
/-- One point's body. -/
theorem body (Q : Vec F S8192x256 .f32) (x9 x10 : Vec F S512x128 .bf16) (x11 : Vec F S512x128 .f32) :
    iprop(held c arg2 harg2 arg3 harg3 arg4 harg4 arg8 harg8 q o st Q ∗ (arg5.view.loc (c : Thread nD τ) ↦[arg5.view.set]{fullShare} harg5.unread kn) ∗ (arg6.view.loc (c : Thread nD τ) ↦[arg6.view.set]{fullShare} harg6.unread vv) ∗ (arg7.view.loc (c : Thread nD τ) ↦[arg7.view.set]{fullShare} harg7.unread kr) ∗ (arg9.view.loc (c : Thread nD τ) ↦[arg9.view.set]{fullShare} harg9.unread x9) ∗ (arg10.view.loc (c : Thread nD τ) ↦[arg10.view.set]{fullShare} harg10.unread x10) ∗ (arg11.view.loc (c : Thread nD τ) ↦[arg11.view.set]{fullShare} harg11.unread x11))
      ⊢ wp frame (wpE (defs₀ (F := F)) 𝒱 (c : Thread nD τ) bd) E
        (cc0_attn_b (F := F) i arg2 harg2 arg3 harg3 arg4 harg4 arg5 harg5 arg6 harg6 arg7 harg7 arg8 harg8 arg9 harg9 arg10 harg10 arg11 harg11)
        (fun _ => iprop(held c arg2 harg2 arg3 harg3 arg4 harg4 arg8 harg8 q o st (done i q o st kn vv kr Q).1 ∗ (arg5.view.loc (c : Thread nD τ) ↦[arg5.view.set]{fullShare} harg5.unread kn) ∗ (arg6.view.loc (c : Thread nD τ) ↦[arg6.view.set]{fullShare} harg6.unread vv) ∗ (arg7.view.loc (c : Thread nD τ) ↦[arg7.view.set]{fullShare} harg7.unread kr)
          ∗ (arg9.view.loc (c : Thread nD τ) ↦[arg9.view.set]{fullShare} harg9.unread (k0_pay8 (done i q o st kn vv kr Q).2.1)) ∗ (arg10.view.loc (c : Thread nD τ) ↦[arg10.view.set]{fullShare} harg10.unread (k0_pay10 (done i q o st kn vv kr Q).2.2)) ∗ (arg11.view.loc (c : Thread nD τ) ↦[arg11.view.set]{fullShare} harg11.unread (k0_pay9 (done i q o st kn vv kr Q).2.1)))) := by
  rw [cc0_attn_b_eq_skeleton]
  unfold cc0_attn_b_skel
  iintro ⟨H, H5, H6, H7, H9, H10, H11⟩
  rw [wp_bind]
  iapply (wp_wand_r Idealize.ShloMosaic.frame (wpE (defs₀ (F := F)) 𝒱 (c : Thread nD τ) bd) E)
  isplitl [H H5 H6 H7]
  · iapply (part7 (F := F) 𝒱 c bd E i arg2 harg2 arg3 harg3 arg4 harg4 arg5 harg5 arg6 harg6 arg7 harg7 arg8 harg8 arg9 harg9 arg10 harg10 arg11 harg11 q o st kn vv kr Q)
    isplitl [H]; · iexact H
    isplitl [H5]; · iexact H5
    isplitl [H6]; · iexact H6
    iexact H7
  iintro %y ⟨H, H5, H6, H7, %e⟩
  subst e
  dsimp only [headOf]
  rw [wp_bind]
  iapply (wp_wand_r Idealize.ShloMosaic.frame (wpE (defs₀ (F := F)) 𝒱 (c : Thread nD τ) bd) E)
  isplitl [H]
  · iapply (part8 (F := F) 𝒱 c bd E i arg2 harg2 arg3 harg3 arg4 harg4 arg5 harg5 arg6 harg6 arg7 harg7 arg8 harg8 arg9 harg9 arg10 harg10 arg11 harg11 q o st _ _ _ _ _ _ _ _ _ _ _ (opened i Q) (start i q o st kn vv kr Q) rfl)
    iexact H
  iintro %y ⟨H, %e⟩
  subst e
  dsimp only
  rw [wp_bind]
  iapply (wp_wand_r Idealize.ShloMosaic.frame (wpE (defs₀ (F := F)) 𝒱 (c : Thread nD τ) bd) E)
  isplitl [H]
  · iapply (part9 (F := F) 𝒱 c bd E i arg2 harg2 arg3 harg3 arg4 harg4 arg5 harg5 arg6 harg6 arg7 harg7 arg8 harg8 arg9 harg9 arg10 harg10 arg11 harg11 q o st _ _ _ (rows q o st (k0_pay56 kn kr) (k0_pay57 vv) (band ((i 1).val + 1) ((15 - (i 1).val) / 4)) (start i q o st kn vv kr Q)) _ _ _)
    iexact H
  iintro %y ⟨H, %e⟩
  obtain ⟨y1, y2, y3, y4⟩ := y
  obtain ⟨e1, e2⟩ := e
  dsimp only at e1 e2
  subst e1 e2
  have hR : done i q o st kn vv kr Q = rows q o st (k0_pay56 kn kr) (k0_pay57 vv) (if k0_cond4 i = 1#1 then [13] else [])
      (rows q o st (k0_pay56 kn kr) (k0_pay57 vv) (rest2 i) (rows q o st (k0_pay56 kn kr) (k0_pay57 vv) (band ((i 1).val + 1) ((15 - (i 1).val) / 4)) (start i q o st kn vv kr Q))) := by
    unfold done order rows; rw [List.foldl_append, List.foldl_append]
  rw [hR]
  generalize rows q o st (k0_pay56 kn kr) (k0_pay57 vv) (rest2 i) (rows q o st (k0_pay56 kn kr) (k0_pay57 vv) (band ((i 1).val + 1) ((15 - (i 1).val) / 4)) (start i q o st kn vv kr Q)) = s
  obtain ⟨s1, s2, s3⟩ := s
  dsimp only
  have q13 := wide_read' (F := F) arg2 harg2 q 13 (off := ![6656, 0]) rfl
  have o13 := slim_read' (F := F) arg3 harg3 o 13 (off := ![6656, 0]) rfl
  have l13 := lse_read' (F := F) arg4 harg4 st 13 (off := ![6656, 0]) rfl
  have d13 := del_read' (F := F) arg4 harg4 st 13 (off := ![6656, 64]) rfl
  have g13 := fun Q => wide_read' (F := F) arg8 harg8 Q 13 (off := ![6656, 0]) rfl
  have p13 := fun Q => put_unread (F := F) arg8 harg8 Q 13 (off := ![6656, 0]) rfl
  have s9 := fun X => slim_store (F := F) arg9 harg9 x9 X
  have s10 := fun X => slim_store (F := F) arg10 harg10 x10 X
  have s11 := fun X => slim_store (F := F) arg11 harg11 x11 X
  unfold held
  by_cases h4 : k0_cond4 i = 1#1
  all_goals
    simp only [h4, if_true, if_false]
    icases H with ⟨H2, H3, H4, H8⟩
    sl_exec (disch := first | sl_exact h4)
    sl_step
    simp only [q13, o13, l13, d13, g13, p13, s9, s10, s11]
    isplitl [H2 H3 H4 H8]
    · isplitl [H2]; · iexact H2
      isplitl [H3]; · iexact H3
      isplitl [H4]; · iexact H4
      iexact H8
    isplitl [H5]; · iexact H5
    isplitl [H6]; · iexact H6
    isplitl [H7]; · iexact H7
    isplitl [H9]; · iexact H9
    isplitl [H10]; · iexact H10
    iexact H11

end Cert.AttnB

end
-- ==== Proof.AttnBRun.lean ====
module

public import proofs.«01_k».proof.Proof.AttnBPart7
public import Idealize.ShloMosaic.Lib.Claim

@[expose] public section

set_option maxRecDepth 16384

noncomputable section

namespace Cert.AttnB

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KAttnBIdeal Cert.KAttnBIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem coord1 : ∀ t : Fin cfg0.N, (grid0.coords t 1).val = t.val % 16 := by decide +kernel

/-- The three results of point `t` over the query gradient `Q` of the points before. -/
def pointOut (c : Dev nD) (t : Fin cfg0.N) (Q : Vec F S8192x256 .f32) : St F :=
  done (grid0.coords t) (iblk m c 0 t) (iblk m c 1 t) (iblk m c 2 t) (iblk m c 3 t) (iblk m c 4 t) (iblk m c 5 t) Q

/-- The query gradient's block before point `n`. -/
def qBefore (c : Dev nD) : ℕ → Vec F S8192x256 .f32
  | 0 => k0_pay55 (F := F)
  | n + 1 => if h : n < cfg0.N then (pointOut m c ⟨n, h⟩ (qBefore c n)).1 else qBefore c n

theorem qBefore_succ (c : Dev nD) (t : Fin cfg0.N) : qBefore m c (t.val + 1) = (pointOut m c t (qBefore m c t.val)).1 := by
  rw [qBefore, dif_pos t.isLt]

/-- At a head's first point the points before do not matter. -/
theorem done_first (i : grid0.Coords) (h : (i 1).val = 0) (q : Vec F S8192x256 .bf16) (o : Vec F S8192x128 .bf16) (st : Vec F S8192x128 .f32) (kn vv kr : Vec F S512x128 .bf16)
    (Q Q' : Vec F S8192x256 .f32) : done i q o st kn vv kr Q = done i q o st kn vv kr Q' := by
  have e : opened i Q = opened i Q' := (if_pos h).trans (if_pos h).symm
  unfold done start; rw [e]

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (pointOut m c t (qBefore m c t.val)).1
    | ⟨7, _⟩ => k0_pay8 (pointOut m c t (qBefore m c t.val)).2.1
    | ⟨8, _⟩ => k0_pay10 (pointOut m c t (qBefore m c t.val)).2.2
    | ⟨9, _⟩ => k0_pay9 (pointOut m c t (qBefore m c t.val)).2.1
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = (pointOut m c t (qBefore m c t.val)).1 := by dsimp only [dats]
theorem after_7 (c : Dev nD) (t : Fin cfg0.N) : (dats m 0 c).after 7 t = k0_pay8 (pointOut m c t (qBefore m c t.val)).2.1 := by dsimp only [dats]
theorem after_8 (c : Dev nD) (t : Fin cfg0.N) : (dats m 0 c).after 8 t = k0_pay10 (pointOut m c t (qBefore m c t.val)).2.2 := by dsimp only [dats]
theorem after_9 (c : Dev nD) (t : Fin cfg0.N) : (dats m 0 c).after 9 t = k0_pay9 (pointOut m c t (qBefore m c t.val)).2.1 := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d
theorem before_5 (c : Dev nD) (t : Fin cfg0.N) (d) : (dats m 0 c).before 5 t d = iblk m c 5 t := before0_5_of m (dats m 0 c) (A_eq m c 5) (after_5 m c) t d

/-- Past a head's first point the query gradient's buffer holds what the point before left. -/
theorem before_6 (c : Dev nD) (t : Fin cfg0.N) (h0 : ¬t.val % 16 = 0) (d) : (dats m 0 c).before 6 t d = qBefore m c t.val := by
  have hN : t.val < 256 := lt_of_lt_of_eq t.isLt (show cfg0.N = 256 from N_0)
  rw [Dat.before_out_kept _ 6 rfl t (by omega) (Bool.eq_false_iff.mpr fun h => by have := (flush0_6 _).mp h; dsimp only at this; omega)
    (fun _ => rfl) (fun _ _ => rfl), after_6, ← qBefore_succ]
  exact congrArg (qBefore m c) (show t.val - 1 + 1 = t.val by omega)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t))

set_option maxHeartbeats 2000000 in
/-- One point over any query gradient whose results are those of the points before. -/
theorem body_owns (c : Dev nD) (t : Fin cfg0.N) (Q : Vec F S8192x256 .f32) (x9 x10 : Vec F S512x128 .bf16) (x11 : Vec F S512x128 .f32)
    (hQ : pointOut m c t Q = pointOut m c t (qBefore m c t.val)) :
    iprop(owns (c : Thread nD τ) (win0_0.stage (cfg0.slots t 0)) fullShare (iblk m c 0 t) ∗ owns (c : Thread nD τ) (win0_1.stage (cfg0.slots t 1)) fullShare (iblk m c 1 t) ∗ owns (c : Thread nD τ) (win0_2.stage (cfg0.slots t 2)) fullShare (iblk m c 2 t) ∗ owns (c : Thread nD τ) (win0_3.stage (cfg0.slots t 3)) fullShare (iblk m c 3 t) ∗ owns (c : Thread nD τ) (win0_4.stage (cfg0.slots t 4)) fullShare (iblk m c 4 t) ∗ owns (c : Thread nD τ) (win0_5.stage (cfg0.slots t 5)) fullShare (iblk m c 5 t)
      ∗ owns (c : Thread nD τ) (win0_6.stage (cfg0.slots t 6)) fullShare Q ∗ owns (c : Thread nD τ) (win0_7.stage (cfg0.slots t 7)) fullShare x9
      ∗ owns (c : Thread nD τ) (win0_8.stage (cfg0.slots t 8)) fullShare x10 ∗ owns (c : Thread nD τ) (win0_9.stage (cfg0.slots t 9)) fullShare x11 : sProp 𝕄)
    ⊢ wp frame (wpE (defs₀ (F := F)) Variants.none c none) Set.univ (bodyAt0 t) (fun _ => iprop(
      owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t))) := by
  rw [after_0, after_1, after_2, after_3, after_4, after_5, after_6, after_7, after_8, after_9, ← hQ]
  have hb := body (F := F) Variants.none c none Set.univ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9))
    (iblk m c 0 t) (iblk m c 1 t) (iblk m c 2 t) (iblk m c 3 t) (iblk m c 4 t) (iblk m c 5 t) Q x9 x10 x11
  unfold owns bodyAt0
  iintro ⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩⟩
  obtain rfl := (hstage0_0 ((cfg0.slots t 0).cast nbuf0_0)).eq_unread h0
  obtain rfl := (hstage0_1 ((cfg0.slots t 1).cast nbuf0_1)).eq_unread h1
  obtain rfl := (hstage0_2 ((cfg0.slots t 2).cast nbuf0_2)).eq_unread h2
  obtain rfl := (hstage0_3 ((cfg0.slots t 3).cast nbuf0_3)).eq_unread h3
  obtain rfl := (hstage0_4 ((cfg0.slots t 4).cast nbuf0_4)).eq_unread h4
  obtain rfl := (hstage0_5 ((cfg0.slots t 5).cast nbuf0_5)).eq_unread h5
  obtain rfl := (hstage0_6 ((cfg0.slots t 6).cast nbuf0_6)).eq_unread h6
  obtain rfl := (hstage0_7 ((cfg0.slots t 7).cast nbuf0_7)).eq_unread h7
  obtain rfl := (hstage0_8 ((cfg0.slots t 8).cast nbuf0_8)).eq_unread h8
  obtain rfl := (hstage0_9 ((cfg0.slots t 9).cast nbuf0_9)).eq_unread h9
  iapply (wp_wand_r Idealize.ShloMosaic.frame (wpE (defs₀ (F := F)) Variants.none (c : Thread nD τ) none) Set.univ)
  isplitl [H0 H1 H2 H3 H4 H5 H6 H7 H8 H9]
  · iapply hb
    unfold held
    isplitl [H0 H1 H2 H6]
    · isplitl [H0]; · iexact H0
      isplitl [H1]; · iexact H1
      isplitl [H2]; · iexact H2
      iexact H6
    isplitl [H3]; · iexact H3
    isplitl [H4]; · iexact H4
    isplitl [H5]; · iexact H5
    isplitl [H7]; · iexact H7
    isplitl [H8]; · iexact H8
    iexact H9
  unfold held
  iintro %y ⟨⟨H0, H1, H2, H6⟩, H3, H4, H5, H7, H8, H9⟩
  isplitl [H0]
  · iexists _; isplitr; swap
    · iexact H0
    ipureintro; exact (hstage0_0 ((cfg0.slots t 0).cast nbuf0_0)).read_unread _
  isplitl [H1]
  · iexists _; isplitr; swap
    · iexact H1
    ipureintro; exact (hstage0_1 ((cfg0.slots t 1).cast nbuf0_1)).read_unread _
  isplitl [H2]
  · iexists _; isplitr; swap
    · iexact H2
    ipureintro; exact (hstage0_2 ((cfg0.slots t 2).cast nbuf0_2)).read_unread _
  isplitl [H3]
  · iexists _; isplitr; swap
    · iexact H3
    ipureintro; exact (hstage0_3 ((cfg0.slots t 3).cast nbuf0_3)).read_unread _
  isplitl [H4]
  · iexists _; isplitr; swap
    · iexact H4
    ipureintro; exact (hstage0_4 ((cfg0.slots t 4).cast nbuf0_4)).read_unread _
  isplitl [H5]
  · iexists _; isplitr; swap
    · iexact H5
    ipureintro; exact (hstage0_5 ((cfg0.slots t 5).cast nbuf0_5)).read_unread _
  isplitl [H6]
  · iexists _; isplitr; swap
    · iexact H6
    ipureintro; exact (hstage0_6 ((cfg0.slots t 6).cast nbuf0_6)).read_unread _
  isplitl [H7]
  · iexists _; isplitr; swap
    · iexact H7
    ipureintro; exact (hstage0_7 ((cfg0.slots t 7).cast nbuf0_7)).read_unread _
  isplitl [H8]
  · iexists _; isplitr; swap
    · iexact H8
    ipureintro; exact (hstage0_8 ((cfg0.slots t 8).cast nbuf0_8)).read_unread _
  iexists _; isplitr; swap
  · iexact H9
  ipureintro; exact (hstage0_9 ((cfg0.slots t 9).cast nbuf0_9)).read_unread _

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (wp_wand_r Idealize.ShloMosaic.frame (wpE (defs₀ (F := F)) Variants.none (c : Thread nD τ) none) Set.univ)
  isplitl [H0 H1 H2 H3 H4 H5 H6 H7 H8 H9]
  · have hQ : pointOut m c t ((dats m 0 c).before 6 t d6) = pointOut m c t (qBefore m c t.val) := by
      by_cases h0 : t.val % 16 = 0
      · exact done_first _ ((coord1 t).trans h0) _ _ _ _ _ _ _ _
      · rw [before_6 m c t h0]
    iapply (body_owns m c t _ _ _ _ hQ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  iintro %y H
  isplitl [HΦ]; · iexact HΦ
  isplitl [Ho]; · iexact Ho
  iexact H

/-- The body table's row at point `t`'s slots. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch, and every semaphore counter at zero at every final state. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The arguments end as launched, every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
 ∧      r.2.mem ((c.tc : Thread nD τ).loc main_arg1) = m ((c.tc : Thread nD τ).loc main_arg1)
 ∧      r.2.mem ((c.tc : Thread nD τ).loc main_arg2) = m ((c.tc : Thread nD τ).loc main_arg2)
 ∧      r.2.mem ((c.tc : Thread nD τ).loc main_arg3) = m ((c.tc : Thread nD τ).loc main_arg3)
 ∧      r.2.mem ((c.tc : Thread nD τ).loc main_arg4) = m ((c.tc : Thread nD τ).loc main_arg4)
)
      ∧ r.2.sem = fun _ => 0) :=
  θ_run_and (frame_of m ρ (dats m) (A_eq m) (run_main m ρ)) ((θ_run defs _ _).mono (fun _ h => h.2) (run_main_quiescent m ρ))

end Cert.AttnB

end
-- ==== Proof.AttnBHost.lean ====
module

public import proofs.«01_k».proof.Proof.AttnBRefB
public import proofs.«01_k».proof.Proof.AttnBRun
public import Idealize.ShloMosaic.Lib.Pipeline.ValueKit
public import Idealize.ShloMosaic.Lib.Pointwise
public import Idealize.ShloMosaic.Lib.StableHlo.ReadAt

@[expose] public section

/-! The arrays the launch reads, as the lines before it leave them, and what the lines after it make of its results. -/

set_option maxRecDepth 16384

noncomputable section

namespace Cert.AttnB

open Idealize.ShloMosaic Idealize.ShloMosaic.TcCoe Idealize.SL.Sem
open Cert.KAttnBIdeal Cert.KAttnBIdeal.Gen
open Cert.RAttnBIdeal.Read (val_main_v2 val_main_v12_0 val_main_v13)

variable (m : (ℓ : Loc nD τ sig) → Buf (Elt Ideal) ℓ) (c : Dev nD)

/-- The queries. -/
abbrev argA : FVec Ideal S8192x16x192 .f32 := m (c, Proc.devRef .tc main_arg0)
/-- The keys' part without the rotary features. -/
abbrev argB : FVec Ideal S8192x16x128 .f32 := m (c, Proc.devRef .tc main_arg1)
/-- The values. -/
abbrev argW : FVec Ideal S8192x16x128 .f32 := m (c, Proc.devRef .tc main_arg2)
/-- The rotary keys, one for all heads. -/
abbrev argR : FVec Ideal S8192x64 .f32 := m (c, Proc.devRef .tc main_arg3)
/-- The output's gradient. -/
abbrev argG : FVec Ideal S8192x16x128 .f32 := m (c, Proc.devRef .tc main_arg4)

/-- The buffers once the masked scores stand. -/
def masked : Valuation τ sig (Elt Ideal) := StableHlo.after (hostOps0 ++ hostOps0_1) (fun b => m (c, b))
/-- The buffers once the row maxima stand. -/
def maxed : Valuation τ sig (Elt Ideal) := StableHlo.after (hostOps0_2.take 2) (masked m c)

theorem V0_maxed : V0 m c = StableHlo.after (hostOps0_2.drop 2) (maxed m c) := by
  unfold maxed masked
  rw [← StableHlo.after_append, ← StableHlo.after_append]
  rfl

theorem masked_scores : masked m c (no_index (Proc.devRef .tc main_v12)) = val_main_v12_0 (F := Ideal) (argA m c) (argB m c) (argR m c) := by
  unfold masked
  after_reads_simp
  simp -implicitDefEqProofs only [StableHlo.TRef.toBuf, StableHlo.TRef.ofBuf, cast_cast, cast_eq]
  have e1 : StableHlo.upto (hostOps0 ++ hostOps0_1) (fun b => m (c, b)) 2 (Proc.tc.devRef main_arg1) = argB m c := by after_reads_simp
  have e2 : (StableHlo.upto (hostOps0 ++ hostOps0_1) (fun b => m (c, b)) 2 (Proc.tc.devRef main_v1) : S8192x16x64.Idx → EReal)
      = Cert.RAttnBIdeal.Read.val_main_v1 (F := Ideal) (argR m c) := by after_reads_simp; rfl
  rw [e1, e2]
  rfl

theorem maxed_scores : maxed m c (no_index (Proc.devRef .tc main_v12)) = masked m c (Proc.devRef .tc main_v12) := by
  unfold maxed
  after_reads_simp

theorem maxed_max : maxed m c (no_index (Proc.devRef .tc main_v13)) = val_main_v13 (F := Ideal) (argA m c) (argB m c) (argR m c) := by
  unfold maxed
  after_reads_simp
  unfold val_main_v13
  rw [← masked_scores]
  rfl

theorem maxed_args : maxed m c (no_index (Proc.devRef .tc main_arg2)) = argW m c ∧ maxed m c (no_index (Proc.devRef .tc main_arg4)) = argG m c := by
  unfold maxed masked
  constructor <;> after_reads_simp

/-- The buffers once the row statistics stand. -/
def summed : Valuation τ sig (Elt Ideal) := StableHlo.after ((hostOps0_2.drop 2).take 18) (maxed m c)

theorem V0_summed : V0 m c = StableHlo.after (hostOps0_2.drop 20) (summed m c) := by
  rw [V0_maxed]
  unfold summed
  rw [← StableHlo.after_append]
  rfl

/-- Every argument entry is a real. -/
structure Finite : Prop where
  A : Real? (argA m c)
  B : Real? (argB m c)
  W : Real? (argW m c)
  G : Real? (argG m c)
  R : Real? (argR m c)

/-- Head `h`'s scores, -/
abbrev score (h : Fin 16) : Fin 8192 → Fin 8192 → ℝ := sc (argA m c) (argB m c) (argR m c) h
/-- row maxima, -/
abbrev top (h : Fin 16) : Fin 8192 → ℝ := mx (argA m c) (argB m c) (argR m c) h
/-- weights' gradient, -/
abbrev dweight (h : Fin 16) : Fin 8192 → Fin 8192 → ℝ := dw (argW m c) (argG m c) h
/-- log-sums -/
def lse (h : Fin 16) (t : Fin 8192) : ℝ := top m c h t + Real.log (Math.tot (score m c h) (top m c h) t)
/-- and row means of the weights' gradient. -/
def mean (h : Fin 16) (t : Fin 8192) : ℝ := Math.mean (score m c h) (top m c h) (dweight m c h) t
/-- The scaled queries, padded. -/
def qs (h : Fin 16) (t : Fin 8192) (x : Fin 256) : ℝ := if hx : x.val < 192 then qr (argA m c) h t ⟨x.val, hx⟩ * scale else 0
/-- The keys, padded. -/
def ks (h : Fin 16) (u : Fin 8192) (x : Fin 256) : ℝ := if hx : x.val < 192 then kr (argB m c) (argR m c) h u ⟨x.val, hx⟩ else 0

variable {m c} (hf : Finite m c)
include hf

omit hf in
/-- Drop the last axis, swap the others. -/
theorem turned (X : FVec Ideal S16x8192x1 .f32) (h : Fin 16) (t : Fin 8192) :
    (transpose S8192x16 [1, 0] (shapeCast S16x8192 X shapeCasts_S16x8192x1_S16x8192) transposes_S16x8192_S8192x16_1_0 : FVec Ideal S8192x16 .f32) (ix2 t h)
      = X (ix3 h t 0) := by
  pointwise

omit hf in
/-- A maximum plus the logarithm of the sum of exponentials. -/
theorem logsum (X : FVec Ideal S16x8192x8192 .f32) (M : FVec Ideal S16x8192 .f32) (h : Fin 16) (t : Fin 8192) :
    (addf (broadcastInDim S16x8192x1 ![0, 1] bcast_S16x8192_S16x8192x1_0_1 M) (Host.log (broadcastInDim S16x8192x1 ![0, 1] bcast_S16x8192_S16x8192x1_0_1
      (Host.reduceAdd (Host.exp (subf X (broadcastInDim S16x8192x8192 ![0, 1, 2] bcast_S16x8192x1_S16x8192x8192_0_1_2
        (broadcastInDim S16x8192x1 ![0, 1] bcast_S16x8192_S16x8192x1_0_1 M)))) (constant S_ FTy.f32 0#32) reducesTo_S16x8192x8192_S16x8192_d2 h_S_)))
      : FVec Ideal S16x8192x1 .f32) (ix3 h t 0) = M (ix2 h t) + Ideal.log (∑ x, Ideal.exp (X (ix3 h t x) - M (ix2 h t))) := by
  pointwise

theorem summed_lse (h : Fin 16) (t : Fin 8192) :
    (summed m c (Proc.devRef .tc main_v23) : S8192x16.Idx → EReal) (ix2 t h) = (lse m c h t : EReal) := by
  unfold summed
  after_reads_simp
  refine (turned _ h t).trans ((logsum _ _ h t).trans ?_)
  simp only [maxed_max, maxed_scores, masked_scores]
  have hT := Math.tot_pos (score m c h) (top m c h) t
  rw [Math.sum_coe (ex_real hf.A hf.B hf.R h t), v13_real hf.A hf.B hf.R]
  change ((top m c h t : ℝ) : EReal) + Ideal.log ((Math.tot (score m c h) (top m c h) t : ℝ) : EReal) = _
  rw [Ideal.log_coe, if_neg (not_le.2 hT), ← EReal.coe_add]
  rfl

theorem summed_mean (h : Fin 16) (t : Fin 8192) :
    (summed m c (Proc.devRef .tc main_v29) : S8192x16.Idx → EReal) (ix2 t h) = (mean m c h t : EReal) := by
  unfold summed
  after_reads_at
  simp only [maxed_max, maxed_scores, masked_scores, (maxed_args m c).1, (maxed_args m c).2]
  have hT := (Math.tot_pos (score m c h) (top m c h) t).ne'
  have hw (u : Fin 8192) : Ideal.div (Ideal.exp (val_main_v12_0 (F := Ideal) (argA m c) (argB m c) (argR m c) (ix3 h t u) - val_main_v13 (F := Ideal) (argA m c) (argB m c) (argR m c) (ix2 h t)))
      (∑ x, Ideal.exp (val_main_v12_0 (F := Ideal) (argA m c) (argB m c) (argR m c) (ix3 h t x) - val_main_v13 (F := Ideal) (argA m c) (argB m c) (argR m c) (ix2 h t)))
      = (Math.soft (score m c h) (top m c h) t u : EReal) := by
    rw [Math.sum_coe (ex_real hf.A hf.B hf.R h t), ex_real hf.A hf.B hf.R]
    refine (Ideal.div_coe hT _).trans ?_
    rw [← EReal.coe_mul, mul_one_div]
    rfl
  have hd (d : Fin 128) := Math.sum_mul_coe (fun u => hf.W (ix3 u h d)) hw
  refine (Finset.sum_congr rfl fun d _ => congrArg₂ (fun a b : EReal => a * b) (hf.G (ix3 t h d)) (hd d)).trans ?_
  refine (Math.sum_mul_coe (fun _ => rfl) (fun _ => rfl)).trans ?_
  exact congrArg _ (Math.mean_eq (score m c h) (top m c h) (vr (argG m c) h) (vr (argW m c) h) t)

theorem V_lse (h : Fin 16) (t : Fin 8192) (x : Fin 2048) (hx : x.val = 128 * h.val) :
    (V m c main_v35 : S8192x2048.Idx → EReal) (ix2 t x) = (lse m c h t : EReal) := by
  unfold V
  rw [V0_summed]
  after_reads_at
  after_reads_at
  have e : (⟨x.val / 128, by omega⟩ : Fin 16) = h := Fin.ext (by show x.val / 128 = h.val; omega)
  rw [dif_pos (by omega)]
  exact (congrArg (fun h' => (summed m c (Proc.devRef .tc main_v23) : S8192x16.Idx → EReal) (ix2 t h')) e).trans (summed_lse hf h t)

theorem V_mean (h : Fin 16) (t : Fin 8192) (x : Fin 2048) (hx : x.val = 128 * h.val + 64) :
    (V m c main_v35 : S8192x2048.Idx → EReal) (ix2 t x) = (mean m c h t : EReal) := by
  unfold V
  rw [V0_summed]
  after_reads_at
  after_reads_at
  have e : (⟨x.val / 128, by omega⟩ : Fin 16) = h := Fin.ext (by show x.val / 128 = h.val; omega)
  rw [dif_neg (by omega)]
  exact (congrArg (fun h' => (summed m c (Proc.devRef .tc main_v29) : S8192x16.Idx → EReal) (ix2 t h')) e).trans (summed_mean hf h t)

theorem V_q (h : Fin 16) (t : Fin 8192) (x : Fin 4096) (y : Fin 256) (hx : x.val = 256 * h.val + y.val) :
    (V m c main_v41 : S8192x4096.Idx → EReal) (ix2 t x) = (qs m c h t y : EReal) := by
  unfold V V0
  after_reads_at
  after_reads_at
  have e : (⟨x.val / 256, by omega⟩ : Fin 16) = h := Fin.ext (by show x.val / 256 = h.val; omega)
  have ey : x.val % 256 = y.val := by omega
  unfold qs
  by_cases hy : y.val < 192
  · rw [dif_pos (by omega), dif_pos hy, scale_eq, EReal.coe_mul]
    refine congrArg (· * (scale : EReal)) ?_
    have e2 : (⟨x.val % 256, by omega⟩ : Fin 192) = ⟨y.val, hy⟩ := Fin.ext ey
    refine Eq.trans ?_ (hf.A (ix3 t h ⟨y.val, hy⟩))
    exact congrArg₂ (fun a b => argA m c (ix3 t a b)) e e2
  · rw [dif_neg (by omega), dif_neg hy, EReal.coe_zero]

theorem V_kn (h : Fin 16) (u : Fin 8192) (x : Fin 4096) (y : Fin 128) (hx : x.val = 128 * h.val + y.val) :
    (V m c main_v45 : S8192x4096.Idx → EReal) (ix2 u x) = (ks m c h u ⟨y.val, by omega⟩ : EReal) := by
  unfold V V0
  after_reads_at
  after_reads_at
  have e : (⟨x.val / 128, by omega⟩ : Fin 16) = h := Fin.ext (by show x.val / 128 = h.val; omega)
  have e2 : (⟨x.val % 128, by omega⟩ : Fin 128) = y := Fin.ext (by show x.val % 128 = y.val; omega)
  rw [dif_pos (by omega)]
  unfold ks
  rw [dif_pos (show y.val < 192 by omega)]
  refine Eq.trans ?_ (key_real hf.B hf.R u h _)
  rw [key_left u h ⟨y.val, by omega⟩ y rfl]
  exact congrArg₂ (fun a b => argB m c (ix3 u a b)) e e2

theorem V_v (h : Fin 16) (u : Fin 8192) (x : Fin 4096) (y : Fin 128) (hx : x.val = 2048 + 128 * h.val + y.val) :
    (V m c main_v45 : S8192x4096.Idx → EReal) (ix2 u x) = (vr (argW m c) h u y : EReal) := by
  unfold V V0
  after_reads_at
  after_reads_at
  have e : (⟨(x.val - 2048) / 128, by omega⟩ : Fin 16) = h := Fin.ext (by show (x.val - 2048) / 128 = h.val; omega)
  have e2 : (⟨(x.val - 2048) % 128, by omega⟩ : Fin 128) = y := Fin.ext (by show (x.val - 2048) % 128 = y.val; omega)
  rw [dif_neg (by omega)]
  refine Eq.trans ?_ (hf.W (ix3 u h y))
  exact congrArg₂ (fun a b => argW m c (ix3 u a b)) e e2

theorem V_kr (h : Fin 16) (u : Fin 8192) (x : Fin 128) :
    (V m c main_v48 : S8192x128.Idx → EReal) (ix2 u x) = (ks m c h u ⟨128 + x.val, by omega⟩ : EReal) := by
  unfold V V0
  after_reads_at
  after_reads_at
  unfold ks
  by_cases hx : x.val < 64
  · rw [dif_pos hx, dif_pos (show 128 + x.val < 192 by omega)]
    refine Eq.trans ?_ (key_real hf.B hf.R u h _)
    rw [key_right u h ⟨128 + x.val, by omega⟩ ⟨x.val, hx⟩ rfl]
  · rw [dif_neg hx, dif_neg (show ¬128 + x.val < 192 by omega), EReal.coe_zero]

theorem V_do (h : Fin 16) (t : Fin 8192) (x : Fin 2048) (y : Fin 128) (hx : x.val = 128 * h.val + y.val) :
    (V m c main_v50 : S8192x2048.Idx → EReal) (ix2 t x) = (vr (argG m c) h t y : EReal) := by
  unfold V V0
  after_reads_at
  have e : (⟨x.val / 128, by omega⟩ : Fin 16) = h := Fin.ext (by show x.val / 128 = h.val; omega)
  have e2 : (⟨x.val % 128, by omega⟩ : Fin 128) = y := Fin.ext (by show x.val % 128 = y.val; omega)
  refine Eq.trans ?_ (hf.G (ix3 t h y))
  exact congrArg₂ (fun a b => argG m c (ix3 t a b)) e e2

end Cert.AttnB
-- ==== Proof.AttnBTile.lean ====
module

public import proofs.«01_k».proof.Proof.AttnBHost

@[expose] public section

/-! One tile's arithmetic: what the body makes of a block of queries and a block of keys whose entries are reals. -/

set_option maxRecDepth 16384

noncomputable section

namespace Cert.AttnB

open Idealize.ShloMosaic Idealize.ShloMosaic.TcCoe Idealize.SL.Sem
open Cert.KAttnBIdeal Cert.KAttnBIdeal.Gen

variable {k : FVec Ideal S512x256 .bf16} {v : FVec Ideal S512x128 .bf16} {q : FVec Ideal S512x256 .bf16} {o : FVec Ideal S512x128 .bf16}
variable {l d : FVec Ideal S512x1 .f32}

theorem pay3_at (r y : Fin 512) : k0_pay3 (F := Ideal) k q l (ix2 r y) = Ideal.exp ((∑ x, q (ix2 r x) * k (ix2 y x)) - l (ix2 r 0)) := by
  pointwise [k0_pay3, k0_pay1]

theorem pay5_at (r y : Fin 512) : k0_pay5 (F := Ideal) k v q o l d (ix2 r y)
    = k0_pay3 (F := Ideal) k q l (ix2 r y) * ((∑ x, o (ix2 r x) * v (ix2 y x)) - d (ix2 r 0)) := by
  pointwise [k0_pay5, k0_pay2]

theorem pay4_at (a : FVec Ideal S512x128 .f32) (y : Fin 512) (x : Fin 128) : k0_pay4 (F := Ideal) k a q o l (ix2 y x)
    = a (ix2 y x) + ∑ r, k0_pay3 (F := Ideal) k q l (ix2 r y) * o (ix2 r x) := by
  pointwise [k0_pay4, k0_pay2]

theorem pay6_at (a : FVec Ideal S512x256 .f32) (y : Fin 512) (x : Fin 256) : k0_pay6 (F := Ideal) k v a q o l d (ix2 y x)
    = a (ix2 y x) + ∑ r, k0_pay5 (F := Ideal) k v q o l d (ix2 r y) * q (ix2 r x) := by
  pointwise [k0_pay6, k0_pay1]

theorem pay7_at (a : FVec Ideal S512x256 .f32) (r : Fin 512) (x : Fin 256) : k0_pay7 (F := Ideal) k v q o l d a (ix2 r x)
    = a (ix2 r x) + ∑ y, k0_pay5 (F := Ideal) k v q o l d (ix2 r y) * k (ix2 y x) := by
  pointwise [k0_pay7]

theorem pay62_at (kn kr : FVec Ideal S512x128 .bf16) (r y : Fin 512) : k0_pay62 (F := Ideal) kn kr q l (ix2 r y)
    = Ideal.exp ((if y ≤ r then ∑ x, q (ix2 r x) * k0_pay56 (F := Ideal) kn kr (ix2 y x) else ⊥) - l (ix2 r 0)) := by
  pointwise [k0_pay62, k0_pay59]
  have hn : Named.named (F := Ideal) κ "mask" (φ := .f32) 0xF149F2CA#32 = (⊥ : EReal) := by rfl
  have hc : IntOp.cmpi CmpIPredicate.sle (BitVec.ofNat 32 y.val) (BitVec.ofNat 32 r.val) = 1#1 ↔ y ≤ r := by
    rw [IntOp.cmpi_sle, Fin.le_def]
    simp only [BitVec.toInt_eq_toNat_cond, BitVec.toNat_ofNat]
    have := y.isLt
    have := r.isLt
    omega
  rw [hn]
  unfold Scalar.select
  by_cases h : y ≤ r
  · rw [if_pos h, hc.2 h]; rfl
  · rw [if_neg h]; exact congrArg (fun z : EReal => Ideal.exp (z - l (ix2 r 0))) (if_neg fun e => h (hc.1 e))

theorem pay56_at (kn kr : FVec Ideal S512x128 .bf16) (y : Fin 512) (x : Fin 256) : k0_pay56 (F := Ideal) kn kr (ix2 y x)
    = if h : x.val < 128 then kn (ix2 y ⟨x.val, h⟩) else kr (ix2 y ⟨x.val - 128, by omega⟩) := by
  pointwise [k0_pay56]

theorem pay57_at (y : Fin 512) (x : Fin 128) : k0_pay57 (F := Ideal) v (ix2 y x) = v (ix2 y x) := by
  pointwise [k0_pay57]

theorem pay63_at (kn kr : FVec Ideal S512x128 .bf16) (y : Fin 512) (x : Fin 128) : k0_pay63 (F := Ideal) kn kr q o l (ix2 y x)
    = ∑ r, k0_pay62 (F := Ideal) kn kr q l (ix2 r y) * o (ix2 r x) := by
  pointwise [k0_pay63, k0_pay60]

theorem pay64_at (e : FVec Ideal S512x512 .f32) (r y : Fin 512) : k0_pay64 (F := Ideal) v o l e (constant S512x512 .f32 0x00000000#32) (ix2 r y)
    = e (ix2 r y) * ((∑ x, o (ix2 r x) * v (ix2 y x)) - l (ix2 r 0)) := by
  pointwise [k0_pay64]

theorem pay65_at (e : FVec Ideal S512x512 .f32) (y : Fin 512) (x : Fin 256) :
    k0_pay65 (F := Ideal) v (k0_pay58 (F := Ideal)) (k0_pay59 q) o l e (constant S512x512 .f32 0x00000000#32) (ix2 y x)
    = ∑ r, k0_pay64 (F := Ideal) v o l e (constant S512x512 .f32 0x00000000#32) (ix2 r y) * q (ix2 r x) := by
  pointwise [k0_pay65, k0_pay58, k0_pay59]

theorem pay66_at (e : FVec Ideal S512x512 .f32) (a : FVec Ideal S512x256 .f32) (r : Fin 512) (x : Fin 256) :
    k0_pay66 (F := Ideal) k v o l e (constant S512x512 .f32 0x00000000#32) a (ix2 r x)
    = a (ix2 r x) + ∑ y, k0_pay64 (F := Ideal) v o l e (constant S512x512 .f32 0x00000000#32) (ix2 r y) * k (ix2 y x) := by
  pointwise [k0_pay66]

theorem pay60_eq : k0_pay60 (F := Ideal) o = o :=
  shapeCast_self _ _

theorem pay61_eq : k0_pay61 (F := Ideal) l = l :=
  shapeCast_self _ _

/-- Row block `b` of the queries, -/
abbrev qB (X : FVec Ideal S8192x256 .bf16) (b : Fin 16) : FVec Ideal S512x256 .bf16 := wide (F := Ideal) (e := .bf16) X b
/-- of the output's gradient, -/
abbrev oB (X : FVec Ideal S8192x128 .bf16) (b : Fin 16) : FVec Ideal S512x128 .bf16 := slim (F := Ideal) (e := .bf16) X b
/-- of the log-sums, -/
abbrev lB (X : FVec Ideal S8192x128 .f32) (b : Fin 16) : FVec Ideal S512x1 .f32 := lseOf (F := Ideal) X b
/-- and of the means. -/
abbrev dB (X : FVec Ideal S8192x128 .f32) (b : Fin 16) : FVec Ideal S512x1 .f32 := delOf (F := Ideal) X b

/-- Row `r` of row block `b`. -/
def tb (b : Fin 16) (r : Fin 512) : Fin 8192 := ⟨512 * b.val + r.val, by omega⟩

theorem tb_le {a b : Fin 16} (h : a < b) (y r : Fin 512) : tb a y ≤ tb b r := by
  have : a.val < b.val := h
  show 512 * a.val + y.val ≤ 512 * b.val + r.val
  omega

theorem tb_le_same (b : Fin 16) (y r : Fin 512) : tb b y ≤ tb b r ↔ y ≤ r := by
  show 512 * b.val + y.val ≤ 512 * b.val + r.val ↔ y.val ≤ r.val
  omega

theorem tb_not_le {a b : Fin 16} (h : b < a) (y r : Fin 512) : ¬tb a y ≤ tb b r := by
  have : b.val < a.val := h
  show ¬512 * a.val + y.val ≤ 512 * b.val + r.val
  omega

variable (m : (ℓ : Loc nD τ sig) → Buf (Elt Ideal) ℓ) (c : Dev nD)

/-- Head `h`'s weights -/
def wgt (h : Fin 16) : Fin 8192 → Fin 8192 → ℝ := Math.soft (score m c h) (top m c h)
/-- and its gradient of the scores. -/
def grd (h : Fin 16) : Fin 8192 → Fin 8192 → ℝ := Math.grad (score m c h) (top m c h) (dweight m c h)

/-- What the body finds for head `h` and key block `ki`. -/
structure Found (h ki : Fin 16) (q : FVec Ideal S8192x256 .bf16) (o : FVec Ideal S8192x128 .bf16) (st : FVec Ideal S8192x128 .f32)
    (k : FVec Ideal S512x256 .bf16) (v : FVec Ideal S512x128 .bf16) : Prop where
  q : ∀ b r x, qB q b (ix2 r x) = (qs m c h (tb b r) x : EReal)
  o : ∀ b r x, oB o b (ix2 r x) = (vr (argG m c) h (tb b r) x : EReal)
  l : ∀ b r, lB st b (ix2 r 0) = (lse m c h (tb b r) : EReal)
  d : ∀ b r, dB st b (ix2 r 0) = (mean m c h (tb b r) : EReal)
  k : ∀ y x, k (ix2 y x) = (ks m c h (tb ki y) x : EReal)
  v : ∀ y x, v (ix2 y x) = (vr (argW m c) h (tb ki y) x : EReal)

/-- Row block `b`'s part of the padded key gradient, -/
def partK (h ki b : Fin 16) (y : Fin 512) (x : Fin 256) : ℝ := ∑ r, grd m c h (tb b r) (tb ki y) * qs m c h (tb b r) x
/-- of the value gradient, -/
def partV (h ki b : Fin 16) (y : Fin 512) (x : Fin 128) : ℝ := ∑ r, wgt m c h (tb b r) (tb ki y) * vr (argG m c) h (tb b r) x
/-- and key block `ki`'s part of the query gradient. -/
def partQ (h ki b : Fin 16) (r : Fin 512) (x : Fin 256) : ℝ := ∑ y, grd m c h (tb b r) (tb ki y) * ks m c h (tb ki y) x

/-- The padding adds nothing to a score. -/
theorem score_eq (h : Fin 16) (t u : Fin 8192) : ∑ x, qs m c h t x * ks m c h u x = score m c h t u := by
  have e := Fin.sum_univ_add (a := 192) (b := 64) fun x : Fin (192 + 64) => qs m c h t x * ks m c h u x
  refine e.trans ?_
  have hz (x : Fin 64) : qs m c h t (Fin.natAdd 192 x) * ks m c h u (Fin.natAdd 192 x) = 0 := by
    have h0 : ks m c h u (Fin.natAdd 192 x) = 0 := dif_neg (show ¬192 + x.val < 192 by omega)
    rw [h0, mul_zero]
  have hs (x : Fin 192) : qs m c h t (Fin.castAdd 64 x) * ks m c h u (Fin.castAdd 64 x)
      = qr (argA m c) h t x * kr (argB m c) (argR m c) h u x * scale := by
    have h1 : qs m c h t (Fin.castAdd 64 x) = qr (argA m c) h t x * scale := dif_pos x.isLt
    have h2 : ks m c h u (Fin.castAdd 64 x) = kr (argB m c) (argR m c) h u x := dif_pos x.isLt
    rw [h1, h2, mul_right_comm]
  rw [Finset.sum_congr rfl fun x _ => hz x, Finset.sum_const_zero, add_zero, Finset.sum_congr rfl fun x _ => hs x, ← Finset.sum_mul]
  rfl

variable {m c} {h ki : Fin 16} {Q : FVec Ideal S8192x256 .bf16} {O : FVec Ideal S8192x128 .bf16} {T : FVec Ideal S8192x128 .f32}
variable (H : Found m c h ki Q O T k v)
include H

/-- Below the diagonal block every weight is the exponential of the score less the log-sum. -/
theorem below_weight {b : Fin 16} (hb : ki < b) (r y : Fin 512) :
    k0_pay3 (F := Ideal) k (qB Q b) (lB T b) (ix2 r y) = (wgt m c h (tb b r) (tb ki y) : EReal) := by
  rw [pay3_at, Math.sum_mul_coe (H.q b r) (H.k y), H.l, score_eq, ← EReal.coe_sub, Ideal.exp_coe]
  unfold wgt
  rw [Math.soft_eq_exp _ _ (tb_le hb y r)]
  rfl

/-- On it those after the query vanish. -/
theorem diagonal_weight {kn kr : FVec Ideal S512x128 .bf16} (hk : k = k0_pay56 (F := Ideal) kn kr) (r y : Fin 512) :
    k0_pay62 (F := Ideal) kn kr (qB Q ki) (lB T ki) (ix2 r y) = (wgt m c h (tb ki r) (tb ki y) : EReal) := by
  rw [pay62_at, ← hk, Math.sum_mul_coe (H.q ki r) (H.k y), H.l, score_eq]
  unfold wgt
  by_cases hy : y ≤ r
  · rw [if_pos hy, ← EReal.coe_sub, Ideal.exp_coe, Math.soft_eq_exp _ _ ((tb_le_same ki y r).2 hy)]
    rfl
  · rw [if_neg hy, EReal.bot_sub, Ideal.exp_bot, Math.soft_after _ _ (fun e => hy ((tb_le_same ki y r).1 e)), EReal.coe_zero]

/-- The gradient of a score, from its weight. -/
theorem grad_of_weight (b : Fin 16) (r y : Fin 512) :
    (wgt m c h (tb b r) (tb ki y) : EReal) * ((∑ x, oB O b (ix2 r x) * v (ix2 y x)) - dB T b (ix2 r 0))
      = (grd m c h (tb b r) (tb ki y) : EReal) := by
  rw [Math.sum_mul_coe (H.o b r) (H.v y), H.d, ← EReal.coe_sub, ← EReal.coe_mul]
  rfl

theorem below_grad {b : Fin 16} (hb : ki < b) (r y : Fin 512) :
    k0_pay5 (F := Ideal) k v (qB Q b) (oB O b) (lB T b) (dB T b) (ix2 r y) = (grd m c h (tb b r) (tb ki y) : EReal) := by
  rw [pay5_at, below_weight H hb, grad_of_weight H b r y]

theorem diagonal_grad {e : FVec Ideal S512x512 .f32} (he : ∀ r y, e (ix2 r y) = (wgt m c h (tb ki r) (tb ki y) : EReal)) (r y : Fin 512) :
    k0_pay64 (F := Ideal) v (oB O ki) (dB T ki) e (constant S512x512 .f32 0x00000000#32) (ix2 r y) = (grd m c h (tb ki r) (tb ki y) : EReal) := by
  rw [pay64_at, he, grad_of_weight H ki r y]

end Cert.AttnB
-- ==== Proof.AttnBFold.lean ====
module

public import proofs.«01_k».proof.Proof.AttnBTile

@[expose] public section

/-! One grid point: the diagonal block, then the row blocks below it, add up block by block. -/

set_option maxRecDepth 16384

noncomputable section

namespace Cert.AttnB

open Idealize.ShloMosaic Idealize.ShloMosaic.TcCoe Idealize.SL.Sem
open Cert.KAttnBIdeal Cert.KAttnBIdeal.Gen

/-- Row block `b` of the query gradient. -/
abbrev gB (X : FVec Ideal S8192x256 .f32) (b : Fin 16) : FVec Ideal S512x256 .f32 := wide (F := Ideal) (e := .f32) X b

theorem gB_put_same (X : FVec Ideal S8192x256 .f32) (w : FVec Ideal S512x256 .f32) (b : Fin 16) :
    gB (VecWindow.put X ![512 * b.val, 0] S512x256.size w) b = w :=
  VecWindow.window_put_same _ _ _ (inb256 b) _

theorem gB_put_other (X : FVec Ideal S8192x256 .f32) (w : FVec Ideal S512x256 .f32) {b b' : Fin 16} (h : b ≠ b') :
    gB (VecWindow.put X ![512 * b'.val, 0] S512x256.size w) b = gB X b :=
  wide_put (F := Ideal) X w h

variable {k : FVec Ideal S512x256 .bf16} {v : FVec Ideal S512x128 .bf16}
variable {m : (ℓ : Loc nD τ sig) → Buf (Elt Ideal) ℓ} {c : Dev nD}
variable {h ki : Fin 16} {Q : FVec Ideal S8192x256 .bf16} {O : FVec Ideal S8192x128 .bf16} {T : FVec Ideal S8192x128 .f32}

variable (m c h ki) in
/-- The row blocks of `S` are done: their parts are in, on top of `R` for the query gradient. -/
structure Added (R : Fin 16 → Fin 512 → Fin 256 → ℝ) (S : Finset (Fin 16)) (s : St Ideal) : Prop where
  q : ∀ b r x, gB s.1 b (ix2 r x) = ((R b r x + if b ∈ S then partQ m c h ki b r x else 0 : ℝ) : EReal)
  k : ∀ y x, (s.2.1 : FVec Ideal S512x256 .f32) (ix2 y x) = ((∑ b ∈ S, partK m c h ki b y x : ℝ) : EReal)
  v : ∀ y x, (s.2.2 : FVec Ideal S512x128 .f32) (ix2 y x) = ((∑ b ∈ S, partV m c h ki b y x : ℝ) : EReal)

variable (H : Found m c h ki Q O T k v) {R : Fin 16 → Fin 512 → Fin 256 → ℝ} {S : Finset (Fin 16)} {s : St Ideal}
include H

theorem added_step {b : Fin 16} (hb : ki < b) (hS : b ∉ S) (A : Added m c h ki R S s) :
    Added m c h ki R (insert b S) (step (F := Ideal) Q O T k v s b) := by
  constructor
  · intro b' r x
    by_cases e : b' = b
    · subst e
      refine (congrFun (gB_put_same _ _ _) _).trans ?_
      refine (pay7_at _ r x).trans ?_
      rw [Math.sum_mul_coe (below_grad H hb r) (fun y => H.k y x)]
      refine (congrArg (fun z : EReal => z + _) (A.q b' r x)).trans ?_
      rw [if_neg hS, if_pos (Finset.mem_insert_self _ _), ← EReal.coe_add, add_zero]
      rfl
    · refine (congrFun (gB_put_other _ _ e) _).trans ?_
      rw [A.q b' r x]
      simp only [Finset.mem_insert, e, false_or]
  · intro y x
    refine (pay6_at _ y x).trans ?_
    rw [Math.sum_mul_coe (fun r => below_grad H hb r y) (fun r => H.q b r x), A.k, Finset.sum_insert hS, ← EReal.coe_add, add_comm]
    rfl
  · intro y x
    refine (pay4_at _ y x).trans ?_
    rw [Math.sum_mul_coe (fun r => below_weight H hb r y) (fun r => H.o b r x), A.v, Finset.sum_insert hS, ← EReal.coe_add, add_comm]
    rfl

theorem added_rows : ∀ (L : List (Fin 16)) (S : Finset (Fin 16)) (s : St Ideal), L.Nodup → (∀ b ∈ L, ki < b ∧ b ∉ S) → Added m c h ki R S s →
    Added m c h ki R (S ∪ L.toFinset) (rows (F := Ideal) Q O T k v L s)
  | [], S, s, _, _, A => by simpa [rows] using A
  | b :: L, S, s, hn, hb, A => by
    have e := added_rows L (insert b S) (step (F := Ideal) Q O T k v s b) (List.nodup_cons.1 hn).2
      (fun b' h' => ⟨(hb b' (List.mem_cons_of_mem _ h')).1, fun hm => by
        rcases Finset.mem_insert.1 hm with rfl | hm
        · exact (List.nodup_cons.1 hn).1 h'
        · exact (hb b' (List.mem_cons_of_mem _ h')).2 hm⟩)
      (added_step H (hb b (List.mem_cons_self ..)).1 (hb b (List.mem_cons_self ..)).2 A)
    have hu : S ∪ (b :: L).toFinset = insert b S ∪ L.toFinset := by
      ext z; simp only [Finset.mem_union, List.mem_toFinset, List.mem_cons, Finset.mem_insert]; tauto
    rw [hu]
    exact e

omit H in
theorem added_start {i : grid0.Coords} (hi : (i 1).val = ki.val) {kn kr vv : FVec Ideal S512x128 .bf16}
    (H : Found m c h ki Q O T (k0_pay56 (F := Ideal) kn kr) (k0_pay57 (F := Ideal) vv)) (P : FVec Ideal S8192x256 .f32)
    (hP : ∀ b r x, gB (opened (F := Ideal) i P) b (ix2 r x) = (R b r x : EReal)) :
    Added m c h ki R {ki} (start (F := Ideal) i Q O T kn vv kr P) := by
  have hk : blk (i 1).val = ki := Fin.ext (by rw [blk_val (by omega), hi])
  unfold start
  rw [hk]
  have hw := diagonal_weight H rfl
  have hg := diagonal_grad H hw
  constructor
  · intro b r x
    by_cases e : b = ki
    · subst e
      refine (congrFun (gB_put_same _ _ _) _).trans ?_
      rw [pay60_eq, pay61_eq]
      refine (pay66_at _ _ r x).trans ?_
      rw [Math.sum_mul_coe (hg r) (fun y => H.k y x)]
      refine (congrArg (fun z : EReal => z + _) (hP b r x)).trans ?_
      rw [if_pos (Finset.mem_singleton_self _), ← EReal.coe_add]
      rfl
    · refine (congrFun (gB_put_other _ _ e) _).trans ?_
      rw [hP b r x, if_neg (fun h' => e (Finset.mem_singleton.1 h')), add_zero]
  · intro y x
    rw [pay60_eq, pay61_eq]
    refine (pay65_at _ y x).trans ?_
    rw [Math.sum_mul_coe (fun r => hg r y) (fun r => H.q ki r x), Finset.sum_singleton]
    rfl
  · intro y x
    refine (pay63_at _ _ y x).trans ?_
    rw [Math.sum_mul_coe (fun r => hw r y) (fun r => H.o ki r x), Finset.sum_singleton]
    rfl

omit H in
theorem order_spec : ∀ t : Fin cfg0.N, (order (grid0.coords t)).Nodup ∧ ∀ b : Fin 16, b ∈ order (grid0.coords t) ↔ t.val % 16 < b.val := by
  decide +kernel

/-- The row blocks a key block meets. -/
def meets (ki : Fin 16) : Finset (Fin 16) := Finset.univ.filter (ki ≤ ·)

omit H in
theorem added_done {t : Fin cfg0.N} (ht : t.val % 16 = ki.val) {kn kr vv : FVec Ideal S512x128 .bf16}
    (H : Found m c h ki Q O T (k0_pay56 (F := Ideal) kn kr) (k0_pay57 (F := Ideal) vv)) (P : FVec Ideal S8192x256 .f32)
    (hP : ∀ b r x, gB (opened (F := Ideal) (grid0.coords t) P) b (ix2 r x) = (R b r x : EReal)) :
    Added m c h ki R (meets ki) (done (F := Ideal) (grid0.coords t) Q O T kn vv kr P) := by
  have hm (b : Fin 16) : b ∈ order (grid0.coords t) ↔ ki < b := ((order_spec t).2 b).trans (by rw [ht]; rfl)
  have e := added_rows H (order (grid0.coords t)) {ki} _ (order_spec t).1
    (fun b hb => ⟨(hm b).1 hb, fun hs => by rw [Finset.mem_singleton.1 hs] at hb; exact absurd ((hm ki).1 hb) (lt_irrefl _)⟩)
    (added_start ((coord1 t).trans ht) H P hP)
  have hu : {ki} ∪ (order (grid0.coords t)).toFinset = meets ki := by
    ext z
    simp only [Finset.mem_union, List.mem_toFinset, Finset.mem_singleton, hm, meets, Finset.mem_filter, Finset.mem_univ, true_and]
    constructor
    · rintro (rfl | h')
      · exact le_rfl
      · exact le_of_lt h'
    · intro h'
      rcases eq_or_lt_of_le h' with e | e
      · exact Or.inl e.symm
      · exact Or.inr e
  rw [← hu]
  exact e

end Cert.AttnB
-- ==== Proof.AttnBPoint.lean ====
module

public import proofs.«01_k».proof.Proof.AttnBFold
public import proofs.«01_k».proof.Proof.AttnBHost

@[expose] public section

/-! What the points of the launch find and leave: grid point `16 h + ki` is head `h` and key block `ki`. -/

set_option maxRecDepth 16384

noncomputable section

namespace Cert.AttnB

open Idealize.ShloMosaic Idealize.ShloMosaic.TcCoe Idealize.SL.Sem
open Cert.KAttnBIdeal Cert.KAttnBIdeal.Gen

/-- The operands' blocks at a point, -/
theorem idxIn : ∀ t : Fin cfg0.N, win0_0.index t = ![0, t.val / 16] ∧ win0_1.index t = ![0, t.val / 16] ∧ win0_2.index t = ![0, t.val / 16]
    ∧ win0_3.index t = ![t.val % 16, t.val / 16] ∧ win0_4.index t = ![t.val % 16, 16 + t.val / 16] ∧ win0_5.index t = ![t.val % 16, 0] :=
  (by decide +kernel : ∀ t : Fin grid0.N, _)

/-- and the results'. -/
theorem idxOut : ∀ t : Fin cfg0.N, win0_6.index t = ![0, t.val / 16] ∧ win0_7.index t = ![t.val % 16, t.val / 16]
    ∧ win0_8.index t = ![t.val % 16, t.val / 16] ∧ win0_9.index t = ![t.val % 16, t.val / 16] :=
  (by decide +kernel : ∀ t : Fin grid0.N, _)

variable {m : (ℓ : Loc nD τ sig) → Buf (Elt Ideal) ℓ} {c : Dev nD}
variable {h ki : Fin 16} {t : Fin cfg0.N}

theorem read_q (ht : t.val = 16 * h.val + ki.val) (b : Fin 16) (r : Fin 512) (x : Fin 256) (j : Fin 4096) (hj : j.val = 256 * h.val + x.val) :
    qB (iblk m c 0 t) b (ix2 r x) = (V m c main_v41 : S8192x4096.Idx → EReal) (ix2 (tb b r) j) := by
  have hd : t.val / 16 = h.val := by omega
  have hb : (tb b r).val = 512 * b.val + r.val := rfl
  show (iblk m c 0 t : S8192x256.Idx → EReal) ((Rect.unit (s := S8192x256) ![512 * b.val, 0] S512x256.size (inb256 b)).emb (ix2 r x)) = _
  blk_simp [iblk, idxIn t]
  blk_ext [idxIn t]

theorem read_o (ht : t.val = 16 * h.val + ki.val) (b : Fin 16) (r : Fin 512) (x : Fin 128) (j : Fin 2048) (hj : j.val = 128 * h.val + x.val) :
    oB (iblk m c 1 t) b (ix2 r x) = (V m c main_v50 : S8192x2048.Idx → EReal) (ix2 (tb b r) j) := by
  have hd : t.val / 16 = h.val := by omega
  have hb : (tb b r).val = 512 * b.val + r.val := rfl
  show (iblk m c 1 t : S8192x128.Idx → EReal) ((Rect.unit (s := S8192x128) ![512 * b.val, 0] S512x128.size (inb128 b)).emb (ix2 r x)) = _
  blk_simp [iblk, idxIn t]
  blk_ext [idxIn t]

theorem read_l (ht : t.val = 16 * h.val + ki.val) (b : Fin 16) (r : Fin 512) (j : Fin 2048) (hj : j.val = 128 * h.val) :
    lB (iblk m c 2 t) b (ix2 r 0) = (V m c main_v35 : S8192x2048.Idx → EReal) (ix2 (tb b r) j) := by
  have hd : t.val / 16 = h.val := by omega
  have hb : (tb b r).val = 512 * b.val + r.val := rfl
  show (iblk m c 2 t : S8192x128.Idx → EReal) ((Rect.unit (s := S8192x128) ![512 * b.val, 0] S512x1.size (inb0 b)).emb (ix2 r 0)) = _
  blk_simp [iblk, idxIn t]
  blk_ext [idxIn t]

theorem read_d (ht : t.val = 16 * h.val + ki.val) (b : Fin 16) (r : Fin 512) (j : Fin 2048) (hj : j.val = 128 * h.val + 64) :
    dB (iblk m c 2 t) b (ix2 r 0) = (V m c main_v35 : S8192x2048.Idx → EReal) (ix2 (tb b r) j) := by
  have hd : t.val / 16 = h.val := by omega
  have hb : (tb b r).val = 512 * b.val + r.val := rfl
  show (iblk m c 2 t : S8192x128.Idx → EReal) ((Rect.unit (s := S8192x128) ![512 * b.val, 64] S512x1.size (inb64 b)).emb (ix2 r 0)) = _
  blk_simp [iblk, idxIn t]
  blk_ext [idxIn t]

theorem read_kn (ht : t.val = 16 * h.val + ki.val) (y : Fin 512) (x : Fin 128) (j : Fin 4096) (hj : j.val = 128 * h.val + x.val) :
    (iblk m c 3 t : S512x128.Idx → EReal) (ix2 y x) = (V m c main_v45 : S8192x4096.Idx → EReal) (ix2 (tb ki y) j) := by
  have hd : t.val / 16 = h.val := by omega
  have hd' : t.val % 16 = ki.val := by omega
  have hb : (tb ki y).val = 512 * ki.val + y.val := rfl
  blk_simp [iblk, idxIn t]
  blk_ext [idxIn t]

theorem read_v (ht : t.val = 16 * h.val + ki.val) (y : Fin 512) (x : Fin 128) (j : Fin 4096) (hj : j.val = 2048 + 128 * h.val + x.val) :
    (iblk m c 4 t : S512x128.Idx → EReal) (ix2 y x) = (V m c main_v45 : S8192x4096.Idx → EReal) (ix2 (tb ki y) j) := by
  have hd : t.val / 16 = h.val := by omega
  have hd' : t.val % 16 = ki.val := by omega
  have hb : (tb ki y).val = 512 * ki.val + y.val := rfl
  blk_simp [iblk, idxIn t]
  blk_ext [idxIn t]

theorem read_kr (ht : t.val = 16 * h.val + ki.val) (y : Fin 512) (x : Fin 128) :
    (iblk m c 5 t : S512x128.Idx → EReal) (ix2 y x) = (V m c main_v48 : S8192x128.Idx → EReal) (ix2 (tb ki y) x) := by
  have hd' : t.val % 16 = ki.val := by omega
  have hb : (tb ki y).val = 512 * ki.val + y.val := rfl
  blk_simp [iblk, idxIn t]
  blk_ext [idxIn t]

/-- The query gradient starts at zero. -/
theorem pay55_at (j : S8192x256.Idx) : (k0_pay55 (F := Ideal) : S8192x256.Idx → EReal) j = 0 := by
  pointwise! [k0_pay55]

/-- Every point finds the padded operands of its head and block. -/
theorem found (hf : Finite m c) (ht : t.val = 16 * h.val + ki.val) :
    Found m c h ki (iblk m c 0 t) (iblk m c 1 t) (iblk m c 2 t) (k0_pay56 (F := Ideal) (iblk m c 3 t) (iblk m c 5 t)) (k0_pay57 (F := Ideal) (iblk m c 4 t)) where
  q b r x := (read_q ht b r x ⟨256 * h.val + x.val, by omega⟩ rfl).trans (V_q hf h _ _ x rfl)
  o b r x := (read_o ht b r x ⟨128 * h.val + x.val, by omega⟩ rfl).trans (V_do hf h _ _ x rfl)
  l b r := (read_l ht b r ⟨128 * h.val, by omega⟩ rfl).trans (V_lse hf h _ _ rfl)
  d b r := (read_d ht b r ⟨128 * h.val + 64, by omega⟩ rfl).trans (V_mean hf h _ _ rfl)
  k y x := by
    refine (pay56_at _ _ y x).trans ?_
    by_cases hx : x.val < 128
    · rw [dif_pos hx]
      exact (read_kn ht y ⟨x.val, hx⟩ ⟨128 * h.val + x.val, by omega⟩ rfl).trans (V_kn hf h (tb ki y) ⟨128 * h.val + x.val, by omega⟩ ⟨x.val, hx⟩ rfl)
    · rw [dif_neg hx]
      refine ((read_kr ht y ⟨x.val - 128, by omega⟩).trans (V_kr hf h (tb ki y) ⟨x.val - 128, by omega⟩)).trans ?_
      have e : (⟨128 + (x.val - 128), by omega⟩ : Fin 256) = x := Fin.ext (by show 128 + (x.val - 128) = x.val; omega)
      exact congrArg (fun z => ((ks m c h (tb ki y) z : ℝ) : EReal)) e
  v y x := (pay57_at (v := iblk m c 4 t) y x).trans ((read_v ht y x ⟨2048 + 128 * h.val + x.val, by omega⟩ rfl).trans (V_v hf h _ _ x rfl))

theorem grd_zero {a b : Fin 16} (hab : b < a) (r y : Fin 512) : grd m c h (tb b r) (tb a y) = 0 := Math.grad_after _ _ _ (tb_not_le hab y r)
theorem wgt_zero {a b : Fin 16} (hab : b < a) (r y : Fin 512) : wgt m c h (tb b r) (tb a y) = 0 := Math.soft_after _ _ (tb_not_le hab y r)

variable (m c h) in
/-- The query gradient from the first `n` key blocks. -/
def upto (n : ℕ) (b : Fin 16) (r : Fin 512) (x : Fin 256) : ℝ := ∑ a ∈ Finset.range n, if ha : a < 16 then partQ m c h ⟨a, ha⟩ b r x else 0

theorem upto_succ (ki b : Fin 16) (r : Fin 512) (x : Fin 256) :
    upto m c h ki.val b r x + (if b ∈ meets ki then partQ m c h ki b r x else 0) = upto m c h (ki.val + 1) b r x := by
  unfold upto
  rw [Finset.sum_range_succ, dif_pos ki.isLt]
  by_cases hb : ki ≤ b
  · rw [if_pos (show b ∈ meets ki from Finset.mem_filter.2 ⟨Finset.mem_univ _, hb⟩)]
  · rw [if_neg (show b ∉ meets ki from fun e => hb (Finset.mem_filter.1 e).2)]
    refine congrArg _ (Eq.symm ?_)
    exact Finset.sum_eq_zero fun y _ => by rw [grd_zero (lt_of_not_ge hb), zero_mul]

/-- A head's points add its key blocks to the query gradient one after the other. -/
theorem point (hf : Finite m c) : ∀ (n : ℕ) (ki : Fin 16) (t : Fin cfg0.N), ki.val = n → t.val = 16 * h.val + ki.val →
    Added m c h ki (upto m c h ki.val) (meets ki) (pointOut m c t (qBefore m c t.val)) := by
  intro n
  induction n with
  | zero =>
    intro ki t hn ht
    refine added_done (by omega) (found hf ht) _ fun b r x => ?_
    have ho : opened (F := Ideal) (grid0.coords t) (qBefore m c t.val) = k0_pay55 (F := Ideal) := if_pos ((coord1 t).trans (by omega))
    rw [ho, hn]
    refine (pay55_at ((Rect.unit (s := S8192x256) ![512 * b.val, 0] S512x256.size (inb256 b)).emb (ix2 r x))).trans ?_
    rw [show upto m c h 0 b r x = 0 from Finset.sum_range_zero _]
    exact EReal.coe_zero.symm
  | succ n ih =>
    intro ki t hn ht
    refine added_done (by omega) (found hf ht) _ fun b r x => ?_
    have ho : opened (F := Ideal) (grid0.coords t) (qBefore m c t.val) = qBefore m c t.val := if_neg (by rw [coord1 t]; omega)
    have hN : t.val < cfg0.N := t.isLt
    have hp := (ih ⟨n, by omega⟩ ⟨t.val - 1, by omega⟩ rfl (by show t.val - 1 = 16 * h.val + n; omega)).q b r x
    have hs := qBefore_succ m c ⟨t.val - 1, by omega⟩
    have he : t.val - 1 + 1 = t.val := by omega
    rw [ho]
    have hs' : qBefore m c t.val = (pointOut m c ⟨t.val - 1, by omega⟩ (qBefore m c (t.val - 1))).1 := (congrArg (qBefore m c) he.symm).trans hs
    rw [hs', hp, upto_succ, hn]

/-- A sum over the row blocks and their rows is one over all rows. -/
theorem sum_blocks (f : Fin 8192 → ℝ) : ∑ b, ∑ r, f (tb b r) = ∑ t, f t := by
  rw [← Fintype.sum_prod_type' (f := fun b r => f (tb b r))]
  refine Fintype.sum_equiv (finProdFinEquiv (m := 16) (n := 512)) _ (fun t : Fin (16 * 512) => f t) fun p => congrArg f (Fin.ext ?_)
  show 512 * p.1.val + p.2.val = p.2.val + 512 * p.1.val
  exact add_comm _ _

/-- The blocks before a key block add nothing to it. -/
theorem sum_meets (ki : Fin 16) (f : Fin 16 → ℝ) (hz : ∀ b, b < ki → f b = 0) : ∑ b ∈ meets ki, f b = ∑ b, f b :=
  Finset.sum_subset (Finset.subset_univ _) fun b _ hb => hz b (lt_of_not_ge fun e => hb (Finset.mem_filter.2 ⟨Finset.mem_univ _, e⟩))

/-- The padded key gradient a point leaves, -/
theorem point_k (hf : Finite m c) (ht : t.val = 16 * h.val + ki.val) (y : Fin 512) (x : Fin 256) :
    ((pointOut m c t (qBefore m c t.val)).2.1 : S512x256.Idx → EReal) (ix2 y x) = ((∑ s, grd m c h s (tb ki y) * qs m c h s x : ℝ) : EReal) := by
  refine ((point hf ki.val ki t rfl ht).k y x).trans (congrArg _ ?_)
  rw [sum_meets ki (fun b => partK m c h ki b y x) fun b hb => Finset.sum_eq_zero fun r _ => by rw [grd_zero hb, zero_mul]]
  exact sum_blocks fun s => grd m c h s (tb ki y) * qs m c h s x

/-- the value gradient, -/
theorem point_v (hf : Finite m c) (ht : t.val = 16 * h.val + ki.val) (y : Fin 512) (x : Fin 128) :
    ((pointOut m c t (qBefore m c t.val)).2.2 : S512x128.Idx → EReal) (ix2 y x) = ((∑ s, wgt m c h s (tb ki y) * vr (argG m c) h s x : ℝ) : EReal) := by
  refine ((point hf ki.val ki t rfl ht).v y x).trans (congrArg _ ?_)
  rw [sum_meets ki (fun b => partV m c h ki b y x) fun b hb => Finset.sum_eq_zero fun r _ => by rw [wgt_zero hb, zero_mul]]
  exact sum_blocks fun s => wgt m c h s (tb ki y) * vr (argG m c) h s x

/-- and a head's last point the whole query gradient. -/
theorem point_q (hf : Finite m c) (ht : t.val = 16 * h.val + 15) (b : Fin 16) (r : Fin 512) (x : Fin 256) :
    gB (pointOut m c t (qBefore m c t.val)).1 b (ix2 r x) = ((∑ u, grd m c h (tb b r) u * ks m c h u x : ℝ) : EReal) := by
  refine ((point hf 15 (15 : Fin 16) t rfl ht).q b r x).trans (congrArg _ ?_)
  rw [upto_succ]
  refine (Finset.sum_range (n := 16) _).trans ?_
  rw [← sum_blocks]
  exact Finset.sum_congr rfl fun a _ => dif_pos a.isLt

end Cert.AttnB
-- ==== Proof.AttnBArr.lean ====
module

public import proofs.«01_k».proof.Proof.AttnBPoint

@[expose] public section

/-! The four arrays the launch leaves: the blocks of its points, put together. -/

set_option maxRecDepth 16384

noncomputable section

namespace Cert.AttnB

open Idealize.ShloMosaic Idealize.ShloMosaic.TcCoe Idealize.SL.Sem
open Cert.KAttnBIdeal Cert.KAttnBIdeal.Gen

variable (m : (ℓ : Loc nD τ sig) → Buf (Elt Ideal) ℓ) (c : Dev nD)

/-- The query gradient, each head's 192 features padded to 256, before the last scaling. -/
def dqArr : S8192x4096.Idx → EReal := fun i =>
  ((∑ u, grd m c ⟨(i 1).val / 256, by have : (i 1).val < 4096 := (i 1).isLt; omega⟩ (i 0) u
    * ks m c ⟨(i 1).val / 256, by have : (i 1).val < 4096 := (i 1).isLt; omega⟩ u ⟨(i 1).val % 256, by omega⟩ : ℝ) : EReal)

/-- The head of a feature of an array with 128 features to a head, -/
def headAt (i : S8192x2048.Idx) : Fin 16 := ⟨(i 1).val / 128, by have : (i 1).val < 2048 := (i 1).isLt; omega⟩
/-- and the feature within it. -/
def featAt (i : S8192x2048.Idx) : Fin 128 := ⟨(i 1).val % 128, by omega⟩

/-- A key's own feature among its padded 256, -/
def lo (x : Fin 128) : Fin 256 := ⟨x.val, by omega⟩
/-- and a rotary one. -/
def hi (x : Fin 128) : Fin 256 := ⟨128 + x.val, by omega⟩

/-- The gradient of the keys' own features, -/
def dknArr : S8192x2048.Idx → EReal := fun i => ((∑ s, grd m c (headAt i) s (i 0) * qs m c (headAt i) s (lo (featAt i)) : ℝ) : EReal)
/-- of the rotary features, head by head, -/
def dkrArr : S8192x2048.Idx → EReal := fun i => ((∑ s, grd m c (headAt i) s (i 0) * qs m c (headAt i) s (hi (featAt i)) : ℝ) : EReal)
/-- and of the values. -/
def dvArr : S8192x2048.Idx → EReal := fun i => ((∑ s, wgt m c (headAt i) s (i 0) * vr (argG m c) (headAt i) s (featAt i) : ℝ) : EReal)

theorem pay8_at (a : FVec Ideal S512x256 .f32) (y : Fin 512) (x : Fin 128) : k0_pay8 (F := Ideal) a (ix2 y x) = a (ix2 y (lo x)) := by
  pointwise [k0_pay8]
  first | done | rfl
theorem pay9_at (a : FVec Ideal S512x256 .f32) (y : Fin 512) (x : Fin 128) : k0_pay9 (F := Ideal) a (ix2 y x) = a (ix2 y (hi x)) := by
  pointwise [k0_pay9]
  first | done | rfl
theorem pay10_at (a : FVec Ideal S512x128 .f32) (y : Fin 512) (x : Fin 128) : k0_pay10 (F := Ideal) a (ix2 y x) = a (ix2 y x) := by
  pointwise [k0_pay10]

theorem gB_at (X : FVec Ideal S8192x256 .f32) (b : Fin 16) (r : Fin 512) (x : Fin 256) : gB X b (ix2 r x) = X (ix2 (tb b r) x) := by
  have hb : (tb b r).val = 512 * b.val + r.val := rfl
  show X ((Rect.unit (s := S8192x256) ![512 * b.val, 0] S512x256.size (inb256 b)).emb (ix2 r x)) = _
  refine congrArg X ?_
  blk_ext

theorem place_head {i : S8192x2048.Idx} {h : Fin 16} {x : Fin 128} (e : (i 1).val = h.val * 128 + x.val) : headAt i = h := Fin.ext (by show (i 1).val / 128 = h.val; omega)
theorem place_feat {i : S8192x2048.Idx} {h : Fin 16} {x : Fin 128} (e : (i 1).val = h.val * 128 + x.val) : featAt i = x := Fin.ext (by show (i 1).val % 128 = x.val; omega)

/-- The row of key block `ki` an index of a result's block stands for. -/
theorem place_row {i : S8192x2048.Idx} {ki : Fin 16} {y : Fin 512} (e : (i 0).val = ki.val * 512 + y.val) : i 0 = tb ki y :=
  Fin.ext (by show (i 0).val = 512 * ki.val + y.val; omega)

variable {m c} (hf : Finite m c)
include hf

theorem final_dkn : (dats m 0 c).arrAt 7 (cfgs 0).N = dknArr m c := by
  refine (dats m 0 c).arrAt_eq_of_covers 7 _ (by decide +kernel) fun t _ y => ?_
  blk_simp [idxOut t]
  rw [after_7]
  have ht : t.val < 256 := lt_of_lt_of_eq t.isLt N_0
  obtain_idx j : S8192x2048 := [t.val % 16 * 512 + (y 0 : ℕ), t.val / 16 * 128 + (y 1 : ℕ)] with hj
  have he : (win0_7.blk t).view.emb y = j := by blk_ext [idxOut t]
  have p := (pay8_at _ (y 0) (y 1)).trans (point_k (h := ⟨t.val / 16, by omega⟩) (ki := ⟨t.val % 16, by omega⟩) hf (show t.val = 16 * (t.val / 16) + t.val % 16 by omega) (y 0) (lo (y 1)))
  rw [he, eq_ix2 y]
  refine p.trans ?_
  unfold dknArr
  rw [place_head (h := ⟨t.val / 16, by omega⟩) (x := y 1) hj1, place_feat (h := ⟨t.val / 16, by omega⟩) (x := y 1) hj1, place_row (ki := ⟨t.val % 16, by omega⟩) (y := y 0) hj0]

theorem final_dkr : (dats m 0 c).arrAt 9 (cfgs 0).N = dkrArr m c := by
  refine (dats m 0 c).arrAt_eq_of_covers 9 _ (by decide +kernel) fun t _ y => ?_
  blk_simp [idxOut t]
  rw [after_9]
  have ht : t.val < 256 := lt_of_lt_of_eq t.isLt N_0
  obtain_idx j : S8192x2048 := [t.val % 16 * 512 + (y 0 : ℕ), t.val / 16 * 128 + (y 1 : ℕ)] with hj
  have he : (win0_9.blk t).view.emb y = j := by blk_ext [idxOut t]
  have p := (pay9_at _ (y 0) (y 1)).trans (point_k (h := ⟨t.val / 16, by omega⟩) (ki := ⟨t.val % 16, by omega⟩) hf (show t.val = 16 * (t.val / 16) + t.val % 16 by omega) (y 0) (hi (y 1)))
  rw [he, eq_ix2 y]
  refine p.trans ?_
  unfold dkrArr
  rw [place_head (h := ⟨t.val / 16, by omega⟩) (x := y 1) hj1, place_feat (h := ⟨t.val / 16, by omega⟩) (x := y 1) hj1, place_row (ki := ⟨t.val % 16, by omega⟩) (y := y 0) hj0]

theorem final_dv : (dats m 0 c).arrAt 8 (cfgs 0).N = dvArr m c := by
  refine (dats m 0 c).arrAt_eq_of_covers 8 _ (by decide +kernel) fun t _ y => ?_
  blk_simp [idxOut t]
  rw [after_8]
  have ht : t.val < 256 := lt_of_lt_of_eq t.isLt N_0
  obtain_idx j : S8192x2048 := [t.val % 16 * 512 + (y 0 : ℕ), t.val / 16 * 128 + (y 1 : ℕ)] with hj
  have he : (win0_8.blk t).view.emb y = j := by blk_ext [idxOut t]
  have p := (pay10_at _ (y 0) (y 1)).trans (point_v (h := ⟨t.val / 16, by omega⟩) (ki := ⟨t.val % 16, by omega⟩) hf (show t.val = 16 * (t.val / 16) + t.val % 16 by omega) (y 0) (y 1))
  rw [he, eq_ix2 y]
  refine p.trans ?_
  unfold dvArr
  rw [place_head (h := ⟨t.val / 16, by omega⟩) (x := y 1) hj1, place_feat (h := ⟨t.val / 16, by omega⟩) (x := y 1) hj1, place_row (ki := ⟨t.val % 16, by omega⟩) (y := y 0) hj0]

theorem final_dq : (dats m 0 c).arrAt 6 (cfgs 0).N = dqArr m c := by
  refine (dats m 0 c).arrAt_eq_of_covers 6 _ (by decide +kernel) fun t h y => ?_
  have h15 : t.val % 16 = 15 := (flush0_6 t).mp h
  blk_simp [idxOut t]
  rw [after_6]
  have ht : t.val < 256 := lt_of_lt_of_eq t.isLt N_0
  obtain_idx j : S8192x4096 := [(y 0 : ℕ), t.val / 16 * 256 + (y 1 : ℕ)] with hj
  have he : (win0_6.blk t).view.emb y = j := by blk_ext [idxOut t]
  have h0 : (y 0 : ℕ) < 8192 := (y 0).isLt
  have p := (gB_at _ ⟨(y 0).val / 512, by omega⟩ ⟨(y 0).val % 512, by omega⟩ (y 1)).symm.trans
    (point_q (h := ⟨t.val / 16, by omega⟩) hf (show t.val = 16 * (t.val / 16) + 15 by omega) ⟨(y 0).val / 512, by omega⟩ ⟨(y 0).val % 512, by omega⟩ (y 1))
  have e0 : tb ⟨(y 0).val / 512, by omega⟩ ⟨(y 0).val % 512, by omega⟩ = y 0 := Fin.ext (by show 512 * ((y 0).val / 512) + (y 0).val % 512 = (y 0).val; omega)
  have j0 : j 0 = y 0 := Fin.ext hj0
  have h1 : (y 1 : ℕ) < 256 := (y 1).isLt
  rw [e0] at p
  rw [he, eq_ix2 y]
  refine p.trans ?_
  unfold dqArr
  have a1 : (⟨(j 1).val / 256, by omega⟩ : Fin 16) = ⟨t.val / 16, by omega⟩ := Fin.ext (by show (j 1).val / 256 = t.val / 16; omega)
  have a2 : (⟨(j 1).val % 256, by omega⟩ : Fin 256) = y 1 := Fin.ext (by show (j 1).val % 256 = (y 1).val; omega)
  rw [a1, a2, j0]

end Cert.AttnB
-- ==== Proof.AttnBTail.lean ====
module

public import proofs.«01_k».proof.Proof.AttnBArr
public import Idealize.ShloMosaic.Lib.StableHlo.ReadAt

@[expose] public section

/-! The host lines after the launch, read at an index: the padding dropped, the query gradient scaled, the rotary gradient summed over the heads. -/

set_option maxRecDepth 16384

noncomputable section

namespace Cert.AttnB

open Idealize.ShloMosaic Idealize.ShloMosaic.TcCoe Idealize.SL.Sem
open Cert.KAttnBIdeal Cert.KAttnBIdeal.Gen

variable {m : (ℓ : Loc nD τ sig) → Buf (Elt Ideal) ℓ} {c : Dev nD}

variable (m c) in
/-- The contents the lines after the launch start from. -/
def launched : Valuation τ sig (Elt Ideal) := Pipeline.withArrays (cfgs 0).spec c (V0 m c) fun w => (dats m 0 c).arrAt w (cfgs 0).N

theorem launched_arr (w : Fin cfg0.W) : launched m c (Proc.devRef .tc (Pipeline.arrRef spec0 w)) = (dats m 0 c).arrAt w (cfgs 0).N :=
  Pipeline.withArrays_arr_shared _ c _ _ ((dats m 0 c).arrAt_sharedIn sharedIn0 (V0 m c) (A_eq m c) _) w

variable (hf : Finite m c)
include hf

theorem launched_dq : launched m c (no_index (Proc.devRef .tc main_v51_0)) = dqArr m c := (launched_arr 6).trans (final_dq hf)
theorem launched_dkn : launched m c (no_index (Proc.devRef .tc main_v51_1)) = dknArr m c := (launched_arr 7).trans (final_dkn hf)
theorem launched_dv : launched m c (no_index (Proc.devRef .tc main_v51_2)) = dvArr m c := (launched_arr 8).trans (final_dv hf)
theorem launched_dkr : launched m c (no_index (Proc.devRef .tc main_v51_3)) = dkrArr m c := (launched_arr 9).trans (final_dkr hf)

/-- A key's own feature, -/
theorem tail_dkn (u : Fin 8192) (h : Fin 16) (d : Fin 128) :
    (Pipeline.afterTail₀ cfgs (dats m) 0 (V0 m) [hostOps1] c main_v56 : S8192x16x128.Idx → EReal) (ix3 u h d)
      = ((∑ s, grd m c h s u * qs m c h s (lo d) : ℝ) : EReal) := by
  unfold Pipeline.afterTail₀
  change StableHlo.after _ (launched m c) _ _ = _
  after_reads_at
  rw [launched_dkn hf]
  unfold dknArr
  rw [place_head (h := h) (x := d) rfl, place_feat (h := h) (x := d) rfl]
  rfl

/-- a value's, -/
theorem tail_dv (u : Fin 8192) (h : Fin 16) (d : Fin 128) :
    (Pipeline.afterTail₀ cfgs (dats m) 0 (V0 m) [hostOps1] c main_v57 : S8192x16x128.Idx → EReal) (ix3 u h d)
      = ((∑ s, wgt m c h s u * vr (argG m c) h s d : ℝ) : EReal) := by
  unfold Pipeline.afterTail₀
  change StableHlo.after _ (launched m c) _ _ = _
  after_reads_at
  rw [launched_dv hf]
  unfold dvArr
  rw [place_head (h := h) (x := d) rfl, place_feat (h := h) (x := d) rfl]
  rfl

/-- a query's, -/
theorem tail_dq (t : Fin 8192) (h : Fin 16) (d : Fin 192) :
    (Pipeline.afterTail₀ cfgs (dats m) 0 (V0 m) [hostOps1] c main_v55 : S8192x16x192.Idx → EReal) (ix3 t h d)
      = (((∑ u, grd m c h t u * ks m c h u ⟨d.val, by omega⟩) * scale : ℝ) : EReal) := by
  unfold Pipeline.afterTail₀
  change StableHlo.after _ (launched m c) _ _ = _
  after_reads_at
  rw [launched_dq hf, scale_eq, EReal.coe_mul]
  refine congrArg (· * (scale : EReal)) ?_
  unfold dqArr
  have a1 : (⟨(h.val * 256 + d.val) / 256, by omega⟩ : Fin 16) = h := Fin.ext (by show (h.val * 256 + d.val) / 256 = h.val; omega)
  have a2 : (⟨(h.val * 256 + d.val) % 256, by omega⟩ : Fin 256) = ⟨d.val, by omega⟩ := Fin.ext (by show (h.val * 256 + d.val) % 256 = d.val; omega)
  show ((∑ u, grd m c ⟨(h.val * 256 + d.val) / 256, _⟩ t u * ks m c ⟨(h.val * 256 + d.val) / 256, _⟩ u ⟨(h.val * 256 + d.val) % 256, _⟩ : ℝ) : EReal) = _
  rw [a1, a2]

/-- and a rotary one, summed over the heads. -/
theorem tail_dkr (u : Fin 8192) (d : Fin 64) :
    (Pipeline.afterTail₀ cfgs (dats m) 0 (V0 m) [hostOps1] c main_v60 : S8192x64.Idx → EReal) (ix2 u d)
      = ((∑ h, ∑ s, grd m c h s u * qs m c h s (hi ⟨d.val, by omega⟩) : ℝ) : EReal) := by
  unfold Pipeline.afterTail₀
  change StableHlo.after _ (launched m c) _ _ = _
  after_reads_at
  refine Math.sum_coe fun h => ?_
  rw [launched_dkr hf]
  unfold dkrArr
  rw [place_head (h := h) (x := ⟨d.val, by omega⟩) rfl, place_feat (h := h) (x := ⟨d.val, by omega⟩) rfl]
  rfl

end Cert.AttnB
-- ==== Proof.RealArray.lean ====
module

public import proofs.«01_k».proof.Proof.AttnBRefB

@[expose] public section

/-! What the precondition says: an array whose magnitudes all compare below infinity holds reals. -/

set_option maxRecDepth 16384

noncomputable section

namespace Cert.AttnB

open Idealize.ShloMosaic Idealize.ShloMosaic.TcCoe

/-- A value below infinity in magnitude is a real. -/
theorem real_entry {x : EReal} (h : max x (-x) < ⊤) : x = (x.toReal : EReal) := by
  refine (EReal.coe_toReal ?_ ?_).symm
  · rintro rfl; simp at h
  · rintro rfl; simp at h

theorem real_array {s : Shape} (X : FVec Ideal s .f32) (hb) (h : cmpf .olt (Host.absf X) (broadcastInDim s ![] hb (constant ⟨0, ![]⟩ .f32 0x7F800000#32)) = fun _ => 1#1) :
    Real? X := fun i => by
  have e := congrFun h i
  refine real_entry ?_
  revert e
  pointwise
  rw [show Ideal.ofBits .f32 0x7F800000#32 = ⊤ by simp [Ideal.ofBits, Ideal.ieee]]
  intro e
  by_contra hn
  rw [decide_eq_false (show ¬(FloatOps.absf (X i) : EReal) < ⊤ from hn)] at e
  exact absurd e (by decide)

end Cert.AttnB

end
-- ==== Proof.AttnBValue.lean ====
module

public import proofs.«01_k».proof.Proof.AttnBTail
public import proofs.«01_k».proof.Proof.RealArray
public import proofs.«01_k».proof.Defs
public import proofs.«01_k».proof.Proof.Gen.Pre_finite
public import proofs.«01_k».proof.Proof.Gen.KAttnB

@[expose] public section

/-! The certificate's claims for the attention's backward call: its frames, the named mask, and that it computes the reference's four gradients. -/

set_option maxRecDepth 16384

noncomputable section

namespace Cert.AttnB

open Idealize.ShloMosaic Idealize.ShloMosaic.TcCoe Idealize.SL.Sem
open Cert.KAttnBIdeal Cert.KAttnBIdeal.Gen Cert.RAttnBIdeal.Read

variable (m : (ℓ : Loc nD τ sig) → Buf (Elt Ideal) ℓ)

theorem finite_of_pre (h : Cert.Pre_KAttnBIdeal_finite m) (c : Dev nD) : Finite m c :=
  have p := h c
  ⟨real_array _ _ p.1, real_array _ _ p.2.1, real_array _ _ p.2.2.1, real_array _ _ p.2.2.2.2, real_array _ _ p.2.2.2.1⟩

/-- The run, each result named. -/
theorem run_results (ρ : Dev nD → PrngReg) : θ_run defs (onTc (τ := τ) (main (F := Ideal))) ⟨m, fun _ => 0, ρ⟩ fun r => ∀ c : Dev nD,
      r.2.mem ((c : Thread nD τ).loc main_v55) = Pipeline.afterTail₀ cfgs (dats m) 0 (V0 m) [hostOps1] c main_v55
      ∧ r.2.mem ((c : Thread nD τ).loc main_v56) = Pipeline.afterTail₀ cfgs (dats m) 0 (V0 m) [hostOps1] c main_v56
      ∧ r.2.mem ((c : Thread nD τ).loc main_v57) = Pipeline.afterTail₀ cfgs (dats m) 0 (V0 m) [hostOps1] c main_v57
      ∧ r.2.mem ((c : Thread nD τ).loc main_v60) = Pipeline.afterTail₀ cfgs (dats m) 0 (V0 m) [hostOps1] c main_v60
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  have rest (b : Ref sig .tc) (h1) (h2) : b ∈ Pipeline.restRefs sig (cfgs 0).spec := Pipeline.mem_restRefs_of b h1 h2
  (θ_run defs _ _).mono (fun r h c => ⟨(h.1 c).2 main_v55 (Pipeline.mem_restRefs_of main_v55 (by decide) (by decide)),
      (h.1 c).2 main_v56 (Pipeline.mem_restRefs_of main_v56 (by decide) (by decide)),
      (h.1 c).2 main_v57 (Pipeline.mem_restRefs_of main_v57 (by decide) (by decide)),
      (h.1 c).2 main_v60 (Pipeline.mem_restRefs_of main_v60 (by decide) (by decide)), h.2.1 c⟩)
    (θ_run_and (run_main m ρ) (frame_run m ρ))

variable {m} {c : Dev nD}

theorem ks_at (h : Fin 16) (u : Fin 8192) (d : Fin 192) : ks m c h u ⟨d.val, by omega⟩ = kr (argB m c) (argR m c) h u d := dif_pos d.isLt
theorem qs_at (h : Fin 16) (t : Fin 8192) (d : Fin 192) (x : Fin 256) (hx : x.val = d.val) : qs m c h t x = qr (argA m c) h t d * scale := by
  have e : x = ⟨d.val, lt_trans d.isLt (by decide)⟩ := Fin.ext hx
  rw [e]
  exact dif_pos d.isLt

/-- The scale moves from the end of a query's sum to its terms, -/
theorem dq_sum (h : Fin 16) (t : Fin 8192) (d : Fin 192) : (∑ u, grd m c h t u * ks m c h u ⟨d.val, by omega⟩) * scale
    = ∑ u, gr (argA m c) (argB m c) (argW m c) (argG m c) (argR m c) h t u * scale * kr (argB m c) (argR m c) h u d := by
  rw [Finset.sum_mul]
  refine Finset.sum_congr rfl fun u _ => ?_
  rw [ks_at, mul_right_comm]
  rfl

/-- and from the queries to the gradient of the scores. -/
theorem dk_sum (h : Fin 16) (u : Fin 8192) (d : Fin 192) (x : Fin 256) (hx : x.val = d.val) : ∑ t, grd m c h t u * qs m c h t x
    = ∑ t, gr (argA m c) (argB m c) (argW m c) (argG m c) (argR m c) h t u * scale * qr (argA m c) h t d := by
  refine Finset.sum_congr rfl fun t _ => ?_
  rw [qs_at h t d x hx, mul_comm (qr _ _ _ _), ← mul_assoc]
  rfl

variable (hf : Finite m c)
include hf

/-- The queries' gradient is the reference's, -/
theorem dq_eq : Pipeline.afterTail₀ cfgs (dats m) 0 (V0 m) [hostOps1] c main_v55
    = val_main_v65 (F := Ideal) (argA m c) (argB m c) (argW m c) (argR m c) (argG m c) := by
  funext i
  rw [eq_ix3 i]
  refine (tail_dq hf (i 0) (i 1) (i 2)).trans (Eq.trans (congrArg _ ?_) (v65_real hf.A hf.B hf.W hf.G hf.R (i 0) (i 1) (i 2)).symm)
  exact dq_sum (i 1) (i 0) (i 2)

/-- the keys' own features', -/
theorem dkn_eq : Pipeline.afterTail₀ cfgs (dats m) 0 (V0 m) [hostOps1] c main_v56
    = val_main_v71 (F := Ideal) (argA m c) (argB m c) (argW m c) (argR m c) (argG m c) := by
  funext i
  rw [eq_ix3 i]
  refine (tail_dkn hf (i 0) (i 1) (i 2)).trans (Eq.trans (congrArg _ ?_) (v71_real hf.A hf.B hf.W hf.G hf.R (i 0) (i 1) (i 2)).symm)
  exact dk_sum (i 1) (i 0) _ (lo (i 2)) rfl

/-- the values' -/
theorem dv_eq : Pipeline.afterTail₀ cfgs (dats m) 0 (V0 m) [hostOps1] c main_v57
    = val_main_v72 (F := Ideal) (argA m c) (argB m c) (argR m c) (argG m c) := by
  funext i
  rw [eq_ix3 i]
  refine (tail_dv hf (i 0) (i 1) (i 2)).trans (Eq.trans (congrArg _ ?_) (v72_real hf.A hf.B hf.G hf.R (i 0) (i 1) (i 2)).symm)
  refine Finset.sum_congr rfl fun t _ => ?_
  rw [mul_comm]
  rfl

/-- and the shared rotary features'. -/
theorem dkr_eq : Pipeline.afterTail₀ cfgs (dats m) 0 (V0 m) [hostOps1] c main_v60
    = val_main_v70 (F := Ideal) (argA m c) (argB m c) (argW m c) (argR m c) (argG m c) := by
  funext i
  rw [eq_ix2 i]
  refine (tail_dkr hf (i 0) (i 1)).trans (Eq.trans (congrArg _ ?_) (v70_real hf.A hf.B hf.W hf.G hf.R (i 0) (i 1)).symm)
  exact Finset.sum_congr rfl fun h _ => dk_sum h (i 0) _ _ rfl

omit hf in
/-- The reference runs to its end with its arguments unchanged. -/
theorem frame_reference : Cert.quiescent_RAttnBIdeal := fun m ρ _ =>
  (θ_run Cert.RAttnBIdeal.defs _ _).mono
    (fun r h => ⟨fun c => (h c).2.2.2.2, sem_eq_zero_of_no_sems (by decide) r.2⟩) (Cert.RAttnBIdeal.Value.run m ρ)

omit hf in
/-- Kernel and reference compute the same four gradients of finite arguments. -/
theorem algebraic : Cert.algebraic_KAttnBIdeal_RAttnBIdeal_pre_finite := by
  pair_intro
  · run_from run_results m g
  · run_from Cert.RAttnBIdeal.Value.run m' g'
    · rw [dq_eq (finite_of_pre m hpre c), val_main_v65_eq, (hagree c).1, (hagree c).2.1, (hagree c).2.2.1, (hagree c).2.2.2.1, (hagree c).2.2.2.2]
    · rw [dkn_eq (finite_of_pre m hpre c), val_main_v71_eq, (hagree c).1, (hagree c).2.1, (hagree c).2.2.1, (hagree c).2.2.2.1, (hagree c).2.2.2.2]
    · rw [dv_eq (finite_of_pre m hpre c), val_main_v72_eq, (hagree c).1, (hagree c).2.1, (hagree c).2.2.2.1, (hagree c).2.2.2.2]
    · rw [dkr_eq (finite_of_pre m hpre c), val_main_v70_eq, (hagree c).1, (hagree c).2.1, (hagree c).2.2.1, (hagree c).2.2.2.1, (hagree c).2.2.2.2]

omit hf in
/-- The mask is minus infinity by name. -/
theorem preserves : Cert.preserves_KAttnB_KAttnBIdeal :=
  IdealRules.named_const.statement Cert.KAttnBIdeal.κ "mask" .f32 0xF149F2CA#32 ⊥ rfl

omit hf in
/-- The idealized kernel runs to its end with its arguments unchanged. -/
theorem frame_ideal : Cert.quiescent_KAttnBIdeal := fun m ρ _ => frame_run m ρ

/-- On machine words a named constant is its word. -/
local instance : Named Bits where
  named _ _ {φ} bits := FloatOps.ofBits φ bits

omit hf in
/-- The kernel runs to its end with its arguments unchanged: one run serves both. -/
theorem frame_word : Cert.quiescent_KAttnB := fun m ρ _ =>
  cast (by sl_kernel_rfl) (frame_run (F := Bits) m ρ)

end Cert.AttnB
-- ==== Proof.AttnFRef.lean ====
module

public import proofs.«01_k».proof.Proof.AttnBRefB
public import proofs.«01_k».proof.Proof.Gen.RAttnFIdeal.Read
public import Idealize.ShloMosaic.Lib.Pointwise

@[expose] public section

/-! The reference's result at finite arguments: each entry is a row's softmax combination of the values. -/

set_option maxRecDepth 16384
set_option maxHeartbeats 400000

noncomputable section

namespace Cert.AttnF

open Idealize.ShloMosaic Idealize.ShloMosaic.TcCoe Idealize.SL.Sem
open Cert.RAttnFIdeal Cert.RAttnFIdeal.Gen Cert.RAttnFIdeal.Read
open Cert.AttnB (Real? vr)

variable {A : FVec Ideal S8192x16x192 .f32} {B W : FVec Ideal S8192x16x128 .f32} {R : FVec Ideal S8192x64 .f32}
variable (hA : Real? A) (hB : Real? B) (hW : Real? W) (hR : Real? R)

theorem same_scores : val_main_v12 (F := Ideal) A B R = Cert.RAttnBIdeal.Read.val_main_v12_0 (F := Ideal) A B R := rfl
theorem same_max : val_main_v13 (F := Ideal) A B R = Cert.RAttnBIdeal.Read.val_main_v13 (F := Ideal) A B R := rfl

/-- The exponential of a score less the row's maximum. -/
theorem exp_at (h : Fin 16) (t u : Fin 8192) : val_main_v19 (F := Ideal) A B R (ix3 h t u)
    = Ideal.exp (val_main_v12 (F := Ideal) A B R (ix3 h t u) - val_main_v13 (F := Ideal) A B R (ix2 h t)) := by
  have e : val_main_v19 (F := Ideal) A B R (ix3 h t u) = Ideal.exp (val_main_v12 (F := Ideal) A B R (ix3 h t u)
      - max (Ideal.ofBits .f32 4286578688#32) (val_main_v13 (F := Ideal) A B R (ix2 h t))) := by
    rw [val_main_v19_apply, val_main_v18_apply, val_main_v17_apply, val_main_v16_apply, val_main_v15_apply, val_main_v14_apply, val_main_cst_2_apply]
    have hi : idx_main_v16 (idx_main_v17 (ix3 h t u)) = ix2 h t := funext fun a => Fin.ext (by
      match a with
      | ⟨0, _⟩ => rfl
      | ⟨1, _⟩ => rfl)
    rw [hi]
    rfl
  rw [e, show Ideal.ofBits .f32 4286578688#32 = ⊥ by simp [Ideal.ofBits, Ideal.ieee], max_eq_right bot_le]

/-- The weight over the row's sum. -/
theorem weight_at (h : Fin 16) (t u : Fin 8192) : val_main_v23 (F := Ideal) A B R (ix3 h t u)
    = Ideal.div (val_main_v19 (F := Ideal) A B R (ix3 h t u)) (∑ k, val_main_v19 (F := Ideal) A B R (ix3 h t k)) := by
  generalize hE : val_main_v19 (F := Ideal) A B R = E
  pointwise [val_main_v23, val_main_v22, val_main_v21, val_main_v20, val_main_cst_3]
  rw [hE]

theorem result_at (t : Fin 8192) (x : Fin 2048) (h : Fin 16) (d : Fin 128) (hx : x.val = 128 * h.val + d.val) :
    val_main_v27 (F := Ideal) A B W R (ix2 t x) = ∑ u, W (ix3 u h d) * val_main_v23 (F := Ideal) A B R (ix3 h t u) := by
  generalize hE : val_main_v23 (F := Ideal) A B R = E
  pointwise [val_main_v27, val_main_v26, val_main_v25, val_main_v24]
  rw [hE]
  have e : (⟨x.val / 128, by omega⟩ : Fin 16) = h := Fin.ext (by show x.val / 128 = h.val; omega)
  have e2 : (⟨x.val % 128, by omega⟩ : Fin 128) = d := Fin.ext (by show x.val % 128 = d.val; omega)
  exact Finset.sum_congr rfl fun u _ => congrArg₂ (fun a b => W (ix3 u a b) * E (ix3 a t u)) e e2

include hA hB hR in
theorem soft_real (h : Fin 16) (t u : Fin 8192) : val_main_v23 (F := Ideal) A B R (ix3 h t u) = (Cert.AttnB.wt A B R h t u : EReal) := by
  have hT := (Cert.AttnB.Math.tot_pos (Cert.AttnB.sc A B R h) (Cert.AttnB.mx A B R h) t).ne'
  have he (k : Fin 8192) := (exp_at (A := A) (B := B) (R := R) h t k).trans (Cert.AttnB.ex_real hA hB hR h t k)
  rw [weight_at, Cert.AttnB.Math.sum_coe he, he]
  refine (Ideal.div_coe hT _).trans ?_
  rw [← EReal.coe_mul, mul_one_div]
  rfl

include hA hB hR hW in
/-- The reference's result. -/
theorem result_real (t : Fin 8192) (x : Fin 2048) (h : Fin 16) (d : Fin 128) (hx : x.val = 128 * h.val + d.val) :
    val_main_v27 (F := Ideal) A B W R (ix2 t x) = ((∑ u, Cert.AttnB.wt A B R h t u * vr W h u d : ℝ) : EReal) := by
  rw [result_at t x h d hx, Cert.AttnB.Math.sum_mul_coe (fun u => hW (ix3 u h d)) (soft_real hA hB hR h t)]
  exact congrArg _ (Finset.sum_congr rfl fun u _ => mul_comm _ _)

end Cert.AttnF

end
-- ==== Proof.AttnFOff.lean ====
module

public import proofs.«01_k».proof.Proof.Gen.KAttnFIdeal
public import proofs.«01_k».proof.Proof.Gen.KAttnFIdeal.Skeleton

@[expose] public section

/-! Where the attention kernel's body reads its keys and values, and how often its loops turn. -/

set_option maxRecDepth 16384

noncomputable section

namespace Cert.AttnF

open Idealize.ShloMosaic Cert.KAttnFIdeal Cert.KAttnFIdeal.Gen

theorem off1_eq : ∀ (i : grid0.Coords) (k : Fin (k0_t1_loop i).trips), k0_off1 i k = ![512 * k.val, 0] := by decide +kernel
theorem off2_eq : ∀ (i : grid0.Coords) (k : Fin (k0_t1_loop i).trips), k0_off2 i k = ![512 * k.val, 0] := by decide +kernel
theorem off3_eq : ∀ (i : grid0.Coords) (k : Fin (k0_t1_loop i).trips), k0_off3 i k = ![512 * k.val, 128] := by decide +kernel
theorem off4_eq : ∀ (i : grid0.Coords) (k : Fin (k0_t1_loop i).trips), k0_off4 i k = ![512 * k.val, 256] := by decide +kernel
theorem off5_eq : ∀ (i : grid0.Coords) (k : Fin (k0_t1_loop i).trips), k0_off5 i k = ![512 * k.val, 384] := by decide +kernel
theorem off11_eq : ∀ i : grid0.Coords, k0_off11 i = ![512 * (i 1).val, 0] := by decide +kernel
theorem off12_eq : ∀ i : grid0.Coords, k0_off12 i = ![512 * (i 1).val, 0] := by decide +kernel
theorem off13_eq : ∀ i : grid0.Coords, k0_off13 i = ![512 * (i 1).val, 128] := by decide +kernel
theorem off14_eq : ∀ i : grid0.Coords, k0_off14 i = ![512 * (i 1).val, 256] := by decide +kernel
theorem off15_eq : ∀ i : grid0.Coords, k0_off15 i = ![512 * (i 1).val, 384] := by decide +kernel
theorem trips1_eq : ∀ i : grid0.Coords, (k0_t1_loop i).trips = (i 1).val := by decide +kernel
theorem trips2_eq : ∀ i : grid0.Coords, (k0_t2_loop i).trips = 0 := by decide +kernel

end Cert.AttnF

end
-- ==== Proof.AttnFLoop.lean ====
module

public import proofs.«01_k».proof.Proof.Gen.KAttnFIdeal.Frame
public import proofs.«01_k».proof.Proof.Gen.KAttnFIdeal.Loops
public import proofs.«01_k».proof.Proof.AttnFOff
public import Idealize.ShloMosaic.Lib.VecWindow

@[expose] public section

set_option maxRecDepth 16384

noncomputable section

namespace Cert.AttnF

open Idealize.ShloMosaic Idealize.ShloMosaic.TcCoe Idealize.ShloMosaic.Tactic
open Idealize.SL Idealize.SL.Sem
open Cert.KAttnFIdeal Cert.KAttnFIdeal.Gen

variable {F : FTy → Type} [FloatOps F] [Named F]

/-- What one head's loop carries: the running maximum, the running sum and the running combination of the values. -/
abbrev Car (F : FTy → Type) := FVec F S512x1 .f32 × FVec F S512x1 .f32 × FVec F S512x128 .f32

/-- The four heads' loads side by side. -/
def flat (a b c d : Car F) : FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 :=
  (a.1, a.2.1, a.2.2, b.1, b.2.1, b.2.2, c.1, c.2.1, c.2.2, d.1, d.2.1, d.2.2)

/-- One block of keys taken in. -/
def upd (q : FVec F S512x256 .bf16) (kr kn v : Vec F S512x128 .bf16) (s : Car F) : Car F :=
  (k0_pay4 q s.1 kr kn, k0_pay7 q s.1 s.2.1 kr kn, k0_pay8 q s.1 s.2.2 kr kn v)

/-- One block of keys taken in, the keys after the query's row left out. -/
def updD (q : FVec F S512x256 .bf16) (kr kn v : Vec F S512x128 .bf16) (s : Car F) : Car F :=
  (k0_pay65 q s.1 kr kn, k0_pay69 s.1 s.2.1 (k0_pay64 q kr kn) (k0_pay65 q s.1 kr kn) (k0_pay66 q s.1 kr kn),
    k0_pay70 s.1 s.2.2 (k0_pay64 q kr kn) (k0_pay65 q s.1 kr kn) (k0_pay66 q s.1 kr kn) v)

theorem inbK (b : Fin 16) (e : Fin 4) : ∀ a, ![512 * b.val, 128 * e.val] a + S512x128.size a ≤ S8192x512.size a := by
  revert b e; decide +kernel
theorem inbR (b : Fin 16) : ∀ a, ![512 * b.val, 0] a + S512x128.size a ≤ S8192x128.size a := by revert b; decide +kernel
theorem inbQ (e : Fin 4) : ∀ a, ![0, 256 * e.val] a + S512x256.size a ≤ S512x1024.size a := by revert e; decide +kernel

/-- Block `b` of head `e`'s keys or values, -/
def colK (X : Vec F S8192x512 .bf16) (b : Fin 16) (e : Fin 4) : Vec F S512x128 .bf16 :=
  View.ld (X : Vec F S8192x512 .bf16) (Rect.unit (s := S8192x512) ![512 * b.val, 128 * e.val] S512x128.size (inbK b e))
/-- of the shared rotary keys, -/
def colR (X : Vec F S8192x128 .bf16) (b : Fin 16) : Vec F S512x128 .bf16 :=
  View.ld (X : Vec F S8192x128 .bf16) (Rect.unit (s := S8192x128) ![512 * b.val, 0] S512x128.size (inbR b))
/-- and head `e`'s queries. -/
def colQ (X : Vec F S512x1024 .bf16) (e : Fin 4) : Vec F S512x256 .bf16 :=
  View.ld (X : Vec F S512x1024 .bf16) (Rect.unit (s := S512x1024) ![0, 256 * e.val] S512x256.size (inbQ e))

theorem readK (m : Memref sig .tc .vmem S8192x512 .bf16) (hm : m.IsWhole) (X : Vec F S8192x512 .bf16) {off} (inb) {b : Fin 16} (e : Fin 4) (h : off = ![512 * b.val, 128 * e.val]) :
    m.view.readAt (Elt F) (Rect.unit (s := S8192x512) off ![512, 128] inb).toLoadRect (hm.unread X) = colK X b e := by
  refine (View.readAt_unit m.view _ inb h (inbK b e)).trans ?_
  rw [hm.read_unread]
  rfl
theorem readR (m : Memref sig .tc .vmem S8192x128 .bf16) (hm : m.IsWhole) (X : Vec F S8192x128 .bf16) {off} (inb) {b : Fin 16} (h : off = ![512 * b.val, 0]) :
    m.view.readAt (Elt F) (Rect.unit (s := S8192x128) off ![512, 128] inb).toLoadRect (hm.unread X) = colR X b := by
  refine (View.readAt_unit m.view _ inb h (inbR b)).trans ?_
  rw [hm.read_unread]
  rfl
theorem readQ (m : Memref sig .tc .vmem S512x1024 .bf16) (hm : m.IsWhole) (X : Vec F S512x1024 .bf16) {off} (inb) (e : Fin 4) (h : off = ![0, 256 * e.val]) :
    m.view.readAt (Elt F) (Rect.unit (s := S512x1024) off ![512, 256] inb).toLoadRect (hm.unread X) = colQ X e := by
  refine (View.readAt_unit m.view _ inb h (inbQ e)).trans ?_
  rw [hm.read_unread]
  rfl

end Cert.AttnF

end
-- ==== Proof.AttnFRun.lean ====
module

public import proofs.«01_k».proof.Proof.AttnFLoop

@[expose] public section

/-! What the attention kernel's body leaves for each head: a fold over the key blocks, then the diagonal block. -/

set_option maxRecDepth 16384

noncomputable section

namespace Cert.AttnF

open Idealize.ShloMosaic Idealize.ShloMosaic.TcCoe Idealize.ShloMosaic.Tactic
open Idealize.SL Idealize.SL.Sem
open Cert.KAttnFIdeal Cert.KAttnFIdeal.Gen

variable {F : FTy → Type} [FloatOps F] [Named F]
variable (x0 : Vec F S512x1024 .bf16) (x1 x2 : Vec F S8192x512 .bf16) (x3 : Vec F S8192x128 .bf16)

/-- Block `n` (past the last, the last). -/
def blk (n : ℕ) : Fin 16 := ⟨min n 15, by omega⟩

theorem blk_val {n : ℕ} (h : n < 16) : (blk n).val = n := by show min n 15 = n; omega

/-- Head `e`'s carried values before block `n`. -/
def state (e : Fin 4) : ℕ → Car F
  | 0 => (k0_pay56 (F := F), k0_pay57 (F := F), k0_pay58 (F := F))
  | n + 1 => upd (k0_pay52 (colQ x0 e)) (colR x3 (blk n)) (colK x1 (blk n) e) (colK x2 (blk n) e) (state e n)

/-- Its values after the diagonal block `b`. -/
def last (e : Fin 4) (b : Fin 16) : Car F := updD (colQ x0 e) (colR x3 b) (colK x1 b e) (colK x2 b e) (state x0 x1 x2 x3 e b.val)

/-- The combination divided by the sum. -/
def share (s : Car F) : FVec F S512x128 .bf16 := k0_pay89 s.2.1 s.2.2

/-- What it leaves. -/
def left (e : Fin 4) (b : Fin 16) : FVec F S512x128 .bf16 := share (last x0 x1 x2 x3 e b)

variable (𝒱 : Variants) (c : Dev nD) (bd : Option 𝒱.V) (i : grid0.Coords) (arg2 : Memref sig .tc .vmem S512x1024 .bf16) (harg2 : arg2.IsWhole) (arg3 : Memref sig .tc .vmem S8192x512 .bf16) (harg3 : arg3.IsWhole) (arg4 : Memref sig .tc .vmem S8192x512 .bf16) (harg4 : arg4.IsWhole) (arg5 : Memref sig .tc .vmem S8192x128 .bf16) (harg5 : arg5.IsWhole) (arg6 : Memref sig .tc .vmem S512x512 .bf16) (harg6 : arg6.IsWhole) (arg7 : Memref sig .tc .vmem S512x512 .f32) (harg7 : arg7.IsWhole)

theorem trip_eq (k : Fin (k0_t1_loop i).trips) (a b e d : Car F) :
    tripR_k0_t1 (F := F) 𝒱 c bd i arg2 harg2 arg3 harg3 arg4 harg4 arg5 harg5 arg6 harg6 arg7 harg7 (colQ x0 0) (colQ x0 1) (colQ x0 2) (colQ x0 3) (harg3.unread x1) (harg4.unread x2) (harg5.unread x3) k (flat a b e d)
      = flat (upd (k0_pay52 (colQ x0 0)) (colR x3 (blk k.val)) (colK x1 (blk k.val) 0) (colK x2 (blk k.val) 0) a)
        (upd (k0_pay52 (colQ x0 1)) (colR x3 (blk k.val)) (colK x1 (blk k.val) 1) (colK x2 (blk k.val) 1) b)
        (upd (k0_pay52 (colQ x0 2)) (colR x3 (blk k.val)) (colK x1 (blk k.val) 2) (colK x2 (blk k.val) 2) e)
        (upd (k0_pay52 (colQ x0 3)) (colR x3 (blk k.val)) (colK x1 (blk k.val) 3) (colK x2 (blk k.val) 3) d) := by
  have hk : (blk k.val).val = k.val := blk_val (by
    have := k.isLt; have e1 := trips1_eq i; have : (i 1).val < 16 := (i 1).isLt; omega)
  have h1 : k0_off1 i k = ![512 * (blk k.val).val, 0] := by rw [hk]; exact off1_eq i k
  have h2 : k0_off2 i k = ![512 * (blk k.val).val, 128 * (0 : Fin 4).val] := by rw [hk]; exact off2_eq i k
  have h3 : k0_off3 i k = ![512 * (blk k.val).val, 128 * (1 : Fin 4).val] := by rw [hk]; exact off3_eq i k
  have h4 : k0_off4 i k = ![512 * (blk k.val).val, 128 * (2 : Fin 4).val] := by rw [hk]; exact off4_eq i k
  have h5 : k0_off5 i k = ![512 * (blk k.val).val, 128 * (3 : Fin 4).val] := by rw [hk]; exact off5_eq i k
  rw [← readR arg5 harg5 x3 (k0_off1_inb i k) h1, ← readK arg3 harg3 x1 (k0_off2_inb i k) 0 h2, ← readK arg4 harg4 x2 (k0_off2_inb i k) 0 h2,
    ← readK arg3 harg3 x1 (k0_off3_inb i k) 1 h3, ← readK arg4 harg4 x2 (k0_off3_inb i k) 1 h3, ← readK arg3 harg3 x1 (k0_off4_inb i k) 2 h4,
    ← readK arg4 harg4 x2 (k0_off4_inb i k) 2 h4, ← readK arg3 harg3 x1 (k0_off5_inb i k) 3 h5, ← readK arg4 harg4 x2 (k0_off5_inb i k) 3 h5]
  unfold tripR_k0_t1 trip_k0_t1
  rfl

/-- The four heads' first values. -/
abbrev first : FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 :=
  (k0_pay56 (F := F), k0_pay57 (F := F), k0_pay58 (F := F), k0_pay56 (F := F), k0_pay57 (F := F), k0_pay58 (F := F),
    k0_pay56 (F := F), k0_pay57 (F := F), k0_pay58 (F := F), k0_pay56 (F := F), k0_pay57 (F := F), k0_pay58 (F := F))

/-- Head `e`'s loaded queries are its columns. -/
abbrev ldQ (off : Fin 2 → ℕ) (inb : ∀ a, off a + S512x256.size a ≤ S512x1024.size a) : Vec F S512x256 .bf16 :=
  View.readAt (Elt F) arg2.view (Rect.unit (s := S512x1024) off S512x256.size inb).toLoadRect (harg2.unread x0)

theorem state_eq (n : ℕ) (hn : n ≤ (i 1).val) :
    st_k0_t1 (F := F) 𝒱 c bd i arg2 harg2 arg3 harg3 arg4 harg4 arg5 harg5 arg6 harg6 arg7 harg7 (colQ x0 0) (colQ x0 1) (colQ x0 2) (colQ x0 3) (harg3.unread x1) (harg4.unread x2) (harg5.unread x3) first n
      = flat (state x0 x1 x2 x3 0 n) (state x0 x1 x2 x3 1 n) (state x0 x1 x2 x3 2 n) (state x0 x1 x2 x3 3 n) := by
  induction n with
  | zero => rfl
  | succ n ih =>
    have hk : n < (k0_t1_loop i).trips := by rw [trips1_eq i]; omega
    rw [st_k0_t1_succ (F := F) 𝒱 c bd i arg2 harg2 arg3 harg3 arg4 harg4 arg5 harg5 arg6 harg6 arg7 harg7 _ _ _ _ _ _ _ _ ⟨n, hk⟩]
    refine (congrArg _ (ih (by omega))).trans ?_
    exact trip_eq x0 x1 x2 x3 𝒱 c bd i arg2 harg2 arg3 harg3 arg4 harg4 arg5 harg5 arg6 harg6 arg7 harg7 ⟨n, hk⟩ _ _ _ _

/-- What the loops carry out. -/
def carried : FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 × FVec F S512x1 .f32 × FVec F S512x1 .f32 × FVec F S512x128 .f32 :=
  st_k0_t2 (F := F) Variants.none c none i arg2 harg2 arg3 harg3 arg4 harg4 arg5 harg5 arg6 harg6 arg7 harg7
    (ldQ x0 arg2 harg2 ![0, 0] inb_S512x1024_S512x256_0_0) (ldQ x0 arg2 harg2 ![0, 256] inb_S512x1024_S512x256_0_256)
    (ldQ x0 arg2 harg2 ![0, 512] inb_S512x1024_S512x256_0_512) (ldQ x0 arg2 harg2 ![0, 768] inb_S512x1024_S512x256_0_768)
    (k0_t1_loop i).ub (harg3.unread x1) (harg4.unread x2) (harg5.unread x3)
    (st_k0_t1 (F := F) Variants.none c none i arg2 harg2 arg3 harg3 arg4 harg4 arg5 harg5 arg6 harg6 arg7 harg7
      (ldQ x0 arg2 harg2 ![0, 0] inb_S512x1024_S512x256_0_0) (ldQ x0 arg2 harg2 ![0, 256] inb_S512x1024_S512x256_0_256)
      (ldQ x0 arg2 harg2 ![0, 512] inb_S512x1024_S512x256_0_512) (ldQ x0 arg2 harg2 ![0, 768] inb_S512x1024_S512x256_0_768)
      (harg3.unread x1) (harg4.unread x2) (harg5.unread x3) first (k0_t1_loop i).trips) (k0_t2_loop i).trips

theorem carried_eq : carried x0 x1 x2 x3 c i arg2 harg2 arg3 harg3 arg4 harg4 arg5 harg5 arg6 harg6 arg7 harg7
    = flat (state x0 x1 x2 x3 0 (i 1).val) (state x0 x1 x2 x3 1 (i 1).val) (state x0 x1 x2 x3 2 (i 1).val) (state x0 x1 x2 x3 3 (i 1).val) := by
  unfold carried ldQ
  rw [readQ arg2 harg2 x0 inb_S512x1024_S512x256_0_0 0 rfl, readQ arg2 harg2 x0 inb_S512x1024_S512x256_0_256 1 rfl,
    readQ arg2 harg2 x0 inb_S512x1024_S512x256_0_512 2 rfl, readQ arg2 harg2 x0 inb_S512x1024_S512x256_0_768 3 rfl, trips2_eq, trips1_eq,
    state_eq x0 x1 x2 x3 _ _ _ _ _ _ _ _ _ _ _ _ _ _ _ _ (i 1).val le_rfl]
  rfl

section Heads
variable (q : Vec F S512x256 .bf16) (kr kn v : Vec F S512x128 .bf16) (s : Car F)

theorem head0 : k0_pay89 (k0_pay69 s.1 s.2.1 (k0_pay64 q kr kn) (k0_pay65 q s.1 kr kn) (k0_pay66 q s.1 kr kn))
    (k0_pay70 s.1 s.2.2 (k0_pay64 q kr kn) (k0_pay65 q s.1 kr kn) (k0_pay66 q s.1 kr kn) v) = share (updD q kr kn v s) := rfl

theorem head1 : k0_pay91 (k0_pay75 (k0_pay53 q) s.1 s.2.1 (k0_pay63 kr) kn) (k0_pay76 (k0_pay53 q) s.1 s.2.2 (k0_pay63 kr) kn v)
    = share (updD q kr kn v s) := rfl

theorem head2 : k0_pay93 (k0_pay82 (k0_pay54 q) s.1 s.2.1 (k0_pay63 kr) (k0_pay77 kn)) (k0_pay83 (k0_pay54 q) s.1 s.2.2 (k0_pay63 kr) (k0_pay77 kn) v)
    = share (updD q kr kn v s) := rfl

theorem head3 : k0_pay95 s.2.2 (k0_pay86 (k0_pay55 q) s.1 (k0_pay63 kr) kn) (k0_pay87 (k0_pay55 q) s.1 (k0_pay63 kr) kn)
    (k0_pay88 (k0_pay55 q) s.1 s.2.1 (k0_pay63 kr) kn) v = share (updD q kr kn v s) := rfl
end Heads

set_option maxHeartbeats 1600000 in
theorem piece0 : k0_pay89 (kernelRun0_A.sl.r_19 c i arg2 harg2 arg3 harg3 arg4 harg4 arg5 harg5 arg6 harg6 arg7 harg7 x0 x1 x2 x3) (kernelRun0_A.sl.r_20 c i arg2 harg2 arg3 harg3 arg4 harg4 arg5 harg5 arg6 harg6 arg7 harg7 x0 x1 x2 x3)
    = left x0 x1 x2 x3 0 (i 1) := by
  have hs : state x0 x1 x2 x3 0 (i 1).val = ((carried x0 x1 x2 x3 c i arg2 harg2 arg3 harg3 arg4 harg4 arg5 harg5 arg6 harg6 arg7 harg7).1, (carried x0 x1 x2 x3 c i arg2 harg2 arg3 harg3 arg4 harg4 arg5 harg5 arg6 harg6 arg7 harg7).2.1, (carried x0 x1 x2 x3 c i arg2 harg2 arg3 harg3 arg4 harg4 arg5 harg5 arg6 harg6 arg7 harg7).2.2.1) := by
    rw [carried_eq]; rfl
  unfold left last
  rw [hs, ← readQ arg2 harg2 x0 inb_S512x1024_S512x256_0_0 0 rfl, ← readR (b := i 1) arg5 harg5 x3 (k0_off11_inb i) (off11_eq i),
    ← readK (b := i 1) arg3 harg3 x1 (k0_off12_inb i) 0 (off12_eq i), ← readK (b := i 1) arg4 harg4 x2 (k0_off12_inb i) 0 (off12_eq i)]
  have h3 : kernelRun0_A.sl.r_3 c i arg2 harg2 arg3 harg3 arg4 harg4 arg5 harg5 arg6 harg6 arg7 harg7 x0 x1 x2 x3 = (carried x0 x1 x2 x3 c i arg2 harg2 arg3 harg3 arg4 harg4 arg5 harg5 arg6 harg6 arg7 harg7).1 := by unfold kernelRun0_A.sl.r_3 carried; rfl
  have h4 : kernelRun0_A.sl.r_4 c i arg2 harg2 arg3 harg3 arg4 harg4 arg5 harg5 arg6 harg6 arg7 harg7 x0 x1 x2 x3 = (carried x0 x1 x2 x3 c i arg2 harg2 arg3 harg3 arg4 harg4 arg5 harg5 arg6 harg6 arg7 harg7).2.1 := by unfold kernelRun0_A.sl.r_4 carried; rfl
  have h5 : kernelRun0_A.sl.r_5 c i arg2 harg2 arg3 harg3 arg4 harg4 arg5 harg5 arg6 harg6 arg7 harg7 x0 x1 x2 x3 = (carried x0 x1 x2 x3 c i arg2 harg2 arg3 harg3 arg4 harg4 arg5 harg5 arg6 harg6 arg7 harg7).2.2.1 := by unfold kernelRun0_A.sl.r_5 carried; rfl
  have h17 : kernelRun0_A.sl.r_17 c i arg2 harg2 arg3 harg3 arg4 harg4 arg5 harg5 arg6 harg6 arg7 harg7 x0 x1 x2 x3
      = k0_pay65 (ldQ x0 arg2 harg2 ![0, 0] inb_S512x1024_S512x256_0_0) (kernelRun0_A.sl.r_3 c i arg2 harg2 arg3 harg3 arg4 harg4 arg5 harg5 arg6 harg6 arg7 harg7 x0 x1 x2 x3) (View.readAt (Elt F) arg5.view (Rect.unit (s := S8192x128) (k0_off11 i) S512x128.size (k0_off11_inb i)).toLoadRect (harg5.unread x3))
        (View.readAt (Elt F) arg3.view (Rect.unit (s := S8192x512) (k0_off12 i) S512x128.size (k0_off12_inb i)).toLoadRect (harg3.unread x1)) := by unfold kernelRun0_A.sl.r_17 kernelRun0_A.sl.r_3; rfl
  have h18 : kernelRun0_A.sl.r_18 c i arg2 harg2 arg3 harg3 arg4 harg4 arg5 harg5 arg6 harg6 arg7 harg7 x0 x1 x2 x3
      = k0_pay66 (ldQ x0 arg2 harg2 ![0, 0] inb_S512x1024_S512x256_0_0) (kernelRun0_A.sl.r_3 c i arg2 harg2 arg3 harg3 arg4 harg4 arg5 harg5 arg6 harg6 arg7 harg7 x0 x1 x2 x3) (View.readAt (Elt F) arg5.view (Rect.unit (s := S8192x128) (k0_off11 i) S512x128.size (k0_off11_inb i)).toLoadRect (harg5.unread x3))
        (View.readAt (Elt F) arg3.view (Rect.unit (s := S8192x512) (k0_off12 i) S512x128.size (k0_off12_inb i)).toLoadRect (harg3.unread x1)) := by unfold kernelRun0_A.sl.r_18 kernelRun0_A.sl.r_3; rfl
  unfold kernelRun0_A.sl.r_19 kernelRun0_A.sl.r_20
  rw [h17, h18, h3, h4, h5]
  exact head0 _ _ _ _ ((carried x0 x1 x2 x3 c i arg2 harg2 arg3 harg3 arg4 harg4 arg5 harg5 arg6 harg6 arg7 harg7).1, (carried x0 x1 x2 x3 c i arg2 harg2 arg3 harg3 arg4 harg4 arg5 harg5 arg6 harg6 arg7 harg7).2.1, (carried x0 x1 x2 x3 c i arg2 harg2 arg3 harg3 arg4 harg4 arg5 harg5 arg6 harg6 arg7 harg7).2.2.1)

theorem piece1 : k0_pay91 (kernelRun0_A.sl.r_22 c i arg2 harg2 arg3 harg3 arg4 harg4 arg5 harg5 arg6 harg6 arg7 harg7 x0 x1 x2 x3) (kernelRun0_A.sl.r_23 c i arg2 harg2 arg3 harg3 arg4 harg4 arg5 harg5 arg6 harg6 arg7 harg7 x0 x1 x2 x3)
    = left x0 x1 x2 x3 1 (i 1) := by
  have hs : state x0 x1 x2 x3 1 (i 1).val = ((carried x0 x1 x2 x3 c i arg2 harg2 arg3 harg3 arg4 harg4 arg5 harg5 arg6 harg6 arg7 harg7).2.2.2.1, (carried x0 x1 x2 x3 c i arg2 harg2 arg3 harg3 arg4 harg4 arg5 harg5 arg6 harg6 arg7 harg7).2.2.2.2.1, (carried x0 x1 x2 x3 c i arg2 harg2 arg3 harg3 arg4 harg4 arg5 harg5 arg6 harg6 arg7 harg7).2.2.2.2.2.1) := by
    rw [carried_eq]; rfl
  unfold left last
  rw [hs, ← readQ arg2 harg2 x0 inb_S512x1024_S512x256_0_256 1 rfl, ← readR (b := i 1) arg5 harg5 x3 (k0_off11_inb i) (off11_eq i),
    ← readK (b := i 1) arg3 harg3 x1 (k0_off13_inb i) 1 (off13_eq i), ← readK (b := i 1) arg4 harg4 x2 (k0_off13_inb i) 1 (off13_eq i)]
  exact head1 _ _ _ _ ((carried x0 x1 x2 x3 c i arg2 harg2 arg3 harg3 arg4 harg4 arg5 harg5 arg6 harg6 arg7 harg7).2.2.2.1, (carried x0 x1 x2 x3 c i arg2 harg2 arg3 harg3 arg4 harg4 arg5 harg5 arg6 harg6 arg7 harg7).2.2.2.2.1, (carried x0 x1 x2 x3 c i arg2 harg2 arg3 harg3 arg4 harg4 arg5 harg5 arg6 harg6 arg7 harg7).2.2.2.2.2.1)

theorem piece2 : k0_pay93 (kernelRun0_A.sl.r_26 c i arg2 harg2 arg3 harg3 arg4 harg4 arg5 harg5 arg6 harg6 arg7 harg7 x0 x1 x2 x3) (kernelRun0_A.sl.r_27 c i arg2 harg2 arg3 harg3 arg4 harg4 arg5 harg5 arg6 harg6 arg7 harg7 x0 x1 x2 x3)
    = left x0 x1 x2 x3 2 (i 1) := by
  have hs : state x0 x1 x2 x3 2 (i 1).val = ((carried x0 x1 x2 x3 c i arg2 harg2 arg3 harg3 arg4 harg4 arg5 harg5 arg6 harg6 arg7 harg7).2.2.2.2.2.2.1, (carried x0 x1 x2 x3 c i arg2 harg2 arg3 harg3 arg4 harg4 arg5 harg5 arg6 harg6 arg7 harg7).2.2.2.2.2.2.2.1, (carried x0 x1 x2 x3 c i arg2 harg2 arg3 harg3 arg4 harg4 arg5 harg5 arg6 harg6 arg7 harg7).2.2.2.2.2.2.2.2.1) := by
    rw [carried_eq]; rfl
  unfold left last
  rw [hs, ← readQ arg2 harg2 x0 inb_S512x1024_S512x256_0_512 2 rfl, ← readR (b := i 1) arg5 harg5 x3 (k0_off11_inb i) (off11_eq i),
    ← readK (b := i 1) arg3 harg3 x1 (k0_off14_inb i) 2 (off14_eq i), ← readK (b := i 1) arg4 harg4 x2 (k0_off14_inb i) 2 (off14_eq i)]
  exact head2 _ _ _ _ ((carried x0 x1 x2 x3 c i arg2 harg2 arg3 harg3 arg4 harg4 arg5 harg5 arg6 harg6 arg7 harg7).2.2.2.2.2.2.1, (carried x0 x1 x2 x3 c i arg2 harg2 arg3 harg3 arg4 harg4 arg5 harg5 arg6 harg6 arg7 harg7).2.2.2.2.2.2.2.1, (carried x0 x1 x2 x3 c i arg2 harg2 arg3 harg3 arg4 harg4 arg5 harg5 arg6 harg6 arg7 harg7).2.2.2.2.2.2.2.2.1)

theorem piece3 : kernelRun0_A.sl.r_32 c i arg2 harg2 arg3 harg3 arg4 harg4 arg5 harg5 arg6 harg6 arg7 harg7 x0 x1 x2 x3
    = left x0 x1 x2 x3 3 (i 1) := by
  have hs : state x0 x1 x2 x3 3 (i 1).val = ((carried x0 x1 x2 x3 c i arg2 harg2 arg3 harg3 arg4 harg4 arg5 harg5 arg6 harg6 arg7 harg7).2.2.2.2.2.2.2.2.2.1, (carried x0 x1 x2 x3 c i arg2 harg2 arg3 harg3 arg4 harg4 arg5 harg5 arg6 harg6 arg7 harg7).2.2.2.2.2.2.2.2.2.2.1, (carried x0 x1 x2 x3 c i arg2 harg2 arg3 harg3 arg4 harg4 arg5 harg5 arg6 harg6 arg7 harg7).2.2.2.2.2.2.2.2.2.2.2) := by
    rw [carried_eq]; rfl
  unfold left last
  rw [hs, ← readQ arg2 harg2 x0 inb_S512x1024_S512x256_0_768 3 rfl, ← readR (b := i 1) arg5 harg5 x3 (k0_off11_inb i) (off11_eq i),
    ← readK (b := i 1) arg3 harg3 x1 (k0_off15_inb i) 3 (off15_eq i), ← readK (b := i 1) arg4 harg4 x2 (k0_off15_inb i) 3 (off15_eq i)]
  exact head3 _ _ _ _ ((carried x0 x1 x2 x3 c i arg2 harg2 arg3 harg3 arg4 harg4 arg5 harg5 arg6 harg6 arg7 harg7).2.2.2.2.2.2.2.2.2.1, (carried x0 x1 x2 x3 c i arg2 harg2 arg3 harg3 arg4 harg4 arg5 harg5 arg6 harg6 arg7 harg7).2.2.2.2.2.2.2.2.2.2.1, (carried x0 x1 x2 x3 c i arg2 harg2 arg3 harg3 arg4 harg4 arg5 harg5 arg6 harg6 arg7 harg7).2.2.2.2.2.2.2.2.2.2.2)

/-- The four stores of the output block, last first. -/
theorem pieces : (kernelRun0_A c i arg2 harg2 arg3 harg3 arg4 harg4 arg5 harg5 arg6 harg6 arg7 harg7 x0 x1 x2 x3).1 =
    [⟨Rect.unit (s := S512x512) ![0, 384] ![512, 128] inb_S512x512_S512x128_0_384, left x0 x1 x2 x3 3 (i 1)⟩,
     ⟨Rect.unit (s := S512x512) ![0, 256] S512x128.size inb_S512x512_S512x128_0_256, left x0 x1 x2 x3 2 (i 1)⟩,
     ⟨Rect.unit (s := S512x512) ![0, 128] S512x128.size inb_S512x512_S512x128_0_128, left x0 x1 x2 x3 1 (i 1)⟩,
     ⟨Rect.unit (s := S512x512) ![0, 0] S512x128.size inb_S512x512_S512x128_0_0, left x0 x1 x2 x3 0 (i 1)⟩] := by
  rw [← piece0 x0 x1 x2 x3 c i arg2 harg2 arg3 harg3 arg4 harg4 arg5 harg5 arg6 harg6 arg7 harg7, ← piece1 x0 x1 x2 x3 c i arg2 harg2 arg3 harg3 arg4 harg4 arg5 harg5 arg6 harg6 arg7 harg7,
    ← piece2 x0 x1 x2 x3 c i arg2 harg2 arg3 harg3 arg4 harg4 arg5 harg5 arg6 harg6 arg7 harg7, ← piece3 x0 x1 x2 x3 c i arg2 harg2 arg3 harg3 arg4 harg4 arg5 harg5 arg6 harg6 arg7 harg7]
  rfl

end Cert.AttnF

end
-- ==== Proof.AttnFMath.lean ====
module

public import proofs.«01_k».proof.Proof.AttnBMath

@[expose] public section

/-! Softmax taken a block of keys at a time: the running maximum, sum and combination of one row, over the reals. -/

noncomputable section

namespace Cert.AttnF.Math

open Idealize.ShloMosaic Cert.AttnB.Math

/-- A row over `Fin n`, zero past its end. -/
def ext {n : ℕ} (s : Fin n → ℝ) (i : ℕ) : ℝ := if h : i < n then s ⟨i, h⟩ else 0

variable (s v : ℕ → ℝ)

/-- The exponentials of the first `n` scores less `M`, summed -/
def den (n : ℕ) (M : ℝ) : ℝ := ∑ i ∈ Finset.range n, Real.exp (s i - M)
/-- and combining a column `v`. -/
def num (n : ℕ) (M : ℝ) : ℝ := ∑ i ∈ Finset.range n, Real.exp (s i - M) * v i

theorem den_shift (n : ℕ) (M N : ℝ) : Real.exp (M - N) * den s n M = den s n N := by
  unfold den
  rw [Finset.mul_sum]
  exact Finset.sum_congr rfl fun i _ => by rw [← Real.exp_add]; congr 1; ring

theorem num_shift (n : ℕ) (M N : ℝ) : Real.exp (M - N) * num s v n M = num s v n N := by
  unfold num
  rw [Finset.mul_sum]
  exact Finset.sum_congr rfl fun i _ => by rw [← mul_assoc, ← Real.exp_add]; congr 2; ring

theorem den_pos (n : ℕ) (M : ℝ) : 0 < den s (n + 1) M :=
  Finset.sum_pos (fun i _ => Real.exp_pos _) ⟨0, Finset.mem_range.2 n.succ_pos⟩

/-- The first `k` terms of a longer sum. -/
theorem sum_first (w : ℕ → ℝ) {n k : ℕ} (hk : k ≤ n) : ∑ y : Fin n, (if y.val < k then w y.val else 0) = ∑ i ∈ Finset.range k, w i := by
  have h : ∑ y : Fin n, (if y.val < k then w y.val else 0) = ∑ i ∈ Finset.range n, if i < k then w i else 0 :=
    (Finset.sum_range fun i => if i < k then w i else 0).symm
  rw [h, ← Finset.sum_filter]
  refine Finset.sum_congr ?_ fun _ _ => rfl
  ext i
  simp only [Finset.mem_filter, Finset.mem_range]
  omega

/-- One row's running maximum, sum and combination, read at whatever real maximum. -/
structure Inv (n : ℕ) (m l : EReal) {k : ℕ} (a : Fin k → EReal) (v : Fin k → ℕ → ℝ) : Prop where
  top : m ≠ ⊤
  l : ∀ N : ℝ, Ideal.exp (m - N) * l = (den s n N : EReal)
  a : ∀ (N : ℝ) x, Ideal.exp (m - N) * a x = (num s (v x) n N : EReal)

variable {s} {k : ℕ} {vs : Fin k → ℕ → ℝ}

theorem Inv.zero {a : Fin k → EReal} (ha : ∀ x, a x = 0) : Inv s 0 ⊥ 0 a vs where
  top := bot_ne_top
  l N := by rw [mul_zero]; rfl
  a N x := by rw [ha, mul_zero]; rfl

theorem Inv.of_real {n : ℕ} {m l : EReal} {a : Fin k → EReal} {M : ℝ} (hm : m = M) (hl : l = (den s n M : EReal))
    (ha : ∀ x, a x = (num s (vs x) n M : EReal)) : Inv s n m l a vs where
  top := by rw [hm]; exact EReal.coe_ne_top M
  l N := by rw [hm, hl, ← EReal.coe_sub, Ideal.exp_coe, ← EReal.coe_mul, den_shift]
  a N x := by rw [hm, ha, ← EReal.coe_sub, Ideal.exp_coe, ← EReal.coe_mul, num_shift]

/-- The combination over the sum does not depend on the maximum taken. -/
theorem ratio (n : ℕ) (M N : ℝ) : num s v n M / den s n M = num s v n N / den s n N := by
  rw [← den_shift s n N M, ← num_shift s v n N M, mul_div_mul_left _ _ (Real.exp_pos _).ne']

/-- It is the softmax combination. -/
theorem ratio_eq {n : ℕ} (S : Fin n → Fin n → ℝ) (M : Fin n → ℝ) (t : Fin n) (w : Fin n → ℝ) (N : ℝ) :
    num (ext (S t)) (ext w) (t.val + 1) N / den (ext (S t)) (t.val + 1) N = ∑ u, soft S M t u * w u := by
  have hd : den (ext (S t)) (t.val + 1) (M t) = tot S M t := by
    unfold den tot ex
    rw [← sum_first _ t.isLt]
    exact Finset.sum_congr rfl fun u _ => by unfold ext; rw [dif_pos u.isLt]; exact if_congr Nat.lt_succ_iff rfl rfl
  have hn : num (ext (S t)) (ext w) (t.val + 1) (M t) = ∑ u, ex S M t u * w u := by
    unfold num ex
    rw [← sum_first _ t.isLt]
    exact Finset.sum_congr rfl fun u _ => by
      unfold ext; rw [dif_pos u.isLt, dif_pos u.isLt, ite_mul, zero_mul]; exact if_congr Nat.lt_succ_iff rfl rfl
  rw [ratio _ _ N (M t), hd, hn, Finset.sum_div]
  exact Finset.sum_congr rfl fun u _ => by unfold soft; ring

end Cert.AttnF.Math

end
-- ==== Proof.AttnFTile.lean ====
module

public import proofs.«01_k».proof.Proof.AttnFMath
public import proofs.«01_k».proof.Proof.AttnFLoop
public import Idealize.ShloMosaic.Lib.Pointwise

@[expose] public section

/-! One block of keys taken in: how the running maximum, sum and combination of each row change. -/

set_option maxRecDepth 16384

noncomputable section

namespace Cert.AttnF

open Idealize.ShloMosaic Idealize.ShloMosaic.TcCoe Idealize.SL.Sem
open Cert.KAttnFIdeal Cert.KAttnFIdeal.Gen

/-- The larger of the running maximum and a row's largest score. -/
def mx (S : FVec Ideal S512x512 .f32) (m : FVec Ideal S512x1 .f32) : FVec Ideal S512x1 .f32 :=
  maximumf m (shapeCast S512x1 (multiReduction .maximumf [1] S512 S 0xFF800000#32 reduces_S512x512_S512 (.inl rfl) rfl) shapeCasts_S512_S512x1)

/-- A block with scores `S` and values `v` taken in. -/
def step (S : FVec Ideal S512x512 .f32) (v : FVec Ideal S512x128 .bf16) (s : Car Ideal) : Car Ideal :=
  (mx S s.1, k0_pay69 (F := Ideal) s.1 s.2.1 S (mx S s.1) (broadcastTo S512x512 (mx S s.1) broadcasts_S512x1_S512x512),
    k0_pay70 (F := Ideal) s.1 s.2.2 S (mx S s.1) (broadcastTo S512x512 (mx S s.1) broadcasts_S512x1_S512x512) v)

theorem upd_eq (q : FVec Ideal S512x256 .bf16) (kr kn v : FVec Ideal S512x128 .bf16) (s : Car Ideal) :
    upd (F := Ideal) q kr kn v s = step (k0_pay3 (F := Ideal) q kr kn) v s := rfl

theorem updD_eq (q : FVec Ideal S512x256 .bf16) (kr kn v : FVec Ideal S512x128 .bf16) (s : Car Ideal) :
    updD (F := Ideal) q kr kn v s = step (k0_pay64 (F := Ideal) q kr kn) v s := rfl

variable (S : FVec Ideal S512x512 .f32) (v : FVec Ideal S512x128 .bf16) (m l M : FVec Ideal S512x1 .f32) (a : FVec Ideal S512x128 .f32)

theorem mx_at (r : Fin 512) : mx S m (ix2 r 0) = max (m (ix2 r 0)) ((Finset.univ : Finset (Fin 512)).fold max ⊥ fun y => S (ix2 r y)) := by
  pointwise [mx]
  rw [show Ideal.ofBits .f32 4286578688#32 = ⊥ by simp [Ideal.ofBits, Ideal.ieee]]

theorem sum_at (r : Fin 512) : k0_pay69 (F := Ideal) m l S M (broadcastTo S512x512 M broadcasts_S512x1_S512x512) (ix2 r 0)
    = Ideal.exp (m (ix2 r 0) - M (ix2 r 0)) * l (ix2 r 0) + ∑ y, Ideal.exp (S (ix2 r y) - M (ix2 r 0)) := by
  pointwise [k0_pay69, k0_pay68, k0_pay67]

theorem comb_at (r : Fin 512) (x : Fin 128) : k0_pay70 (F := Ideal) m a S M (broadcastTo S512x512 M broadcasts_S512x1_S512x512) v (ix2 r x)
    = Ideal.exp (m (ix2 r 0) - M (ix2 r 0)) * a (ix2 r x) + ∑ y, Ideal.exp (S (ix2 r y) - M (ix2 r 0)) * v (ix2 y x) := by
  pointwise [k0_pay70, k0_pay68, k0_pay67]

theorem share_at (r : Fin 512) (x : Fin 128) : k0_pay89 (F := Ideal) l a (ix2 r x) = Ideal.div (a (ix2 r x)) (l (ix2 r 0)) := by
  pointwise [k0_pay89]

theorem key_at (kr kn : FVec Ideal S512x128 .bf16) (q : FVec Ideal S512x256 .bf16) (r y : Fin 512) : k0_pay3 (F := Ideal) q kr kn (ix2 r y)
    = ∑ x : Fin 256, q (ix2 r x) * (if h : x.val < 128 then kn (ix2 y ⟨x.val, h⟩) else kr (ix2 y ⟨x.val - 128, by omega⟩)) := by
  pointwise [k0_pay3, k0_pay2]

theorem mask_at (kr kn : FVec Ideal S512x128 .bf16) (q : FVec Ideal S512x256 .bf16) (r y : Fin 512) : k0_pay64 (F := Ideal) q kr kn (ix2 r y)
    = if y ≤ r then k0_pay3 (F := Ideal) q kr kn (ix2 r y) else ⊥ := by
  pointwise [k0_pay64, k0_pay52, k0_pay63, k0_pay3, k0_pay2]
  have hn : Named.named (F := Ideal) κ "mask" (φ := .f32) 0xF149F2CA#32 = (⊥ : EReal) := by rfl
  have hc : IntOp.cmpi CmpIPredicate.sle (BitVec.ofNat 32 y.val) (BitVec.ofNat 32 r.val) = 1#1 ↔ y ≤ r := by
    rw [IntOp.cmpi_sle, Fin.le_def]
    simp only [BitVec.toInt_eq_toNat_cond, BitVec.toNat_ofNat]
    have := y.isLt
    have := r.isLt
    omega
  rw [hn]
  unfold Scalar.select
  by_cases h : y ≤ r
  · rw [if_pos h, hc.2 h]; rfl
  · rw [if_neg h]; exact if_neg fun e => h (hc.1 e)

theorem start_max (r : Fin 512) : k0_pay56 (F := Ideal) (ix2 r 0) = (⊥ : EReal) := rfl
theorem start_sum (r : Fin 512) : k0_pay57 (F := Ideal) (ix2 r 0) = (0 : EReal) := by
  pointwise [k0_pay57]
theorem start_comb (r : Fin 512) (x : Fin 128) : k0_pay58 (F := Ideal) (ix2 r x) = (0 : EReal) := by
  pointwise [k0_pay58]

end Cert.AttnF

end
-- ==== Proof.AttnFStep.lean ====
module

public import proofs.«01_k».proof.Proof.AttnFTile

@[expose] public section

/-! A block of keys taken in keeps the running maximum, sum and combination of a row true of one key block more. -/

set_option maxRecDepth 16384

noncomputable section

namespace Cert.AttnF

open Idealize.ShloMosaic Idealize.ShloMosaic.TcCoe Idealize.SL.Sem
open Cert.KAttnFIdeal Cert.KAttnFIdeal.Gen
open Cert.AttnF.Math (den num Inv)

/-- The larger of something below `⊤` and a real is a real. -/
theorem max_coe {a : EReal} (h : a ≠ ⊤) (f : ℝ) : ∃ M : ℝ, max a (f : EReal) = M := by
  have h1 : max a (f : EReal) ≠ ⊤ := fun e => by
    rcases max_choice a (f : EReal) with e' | e'
    · exact h (e'.symm.trans e)
    · exact EReal.coe_ne_top f (e'.symm.trans e)
  have h2 : max a (f : EReal) ≠ ⊥ := fun e => EReal.coe_ne_bot f (le_bot_iff.1 (e ▸ le_max_right a (f : EReal)))
  exact ⟨_, (EReal.coe_toReal h1 h2).symm⟩

variable {s : ℕ → ℝ} {vs : Fin 128 → ℕ → ℝ} {n k : ℕ} {r : Fin 512} {S : FVec Ideal S512x512 .f32} {v : FVec Ideal S512x128 .bf16} {st : Car Ideal}

/-- Row `r` after a block whose first `k` keys count. -/
theorem step_row (hk : 0 < k) (hk' : k ≤ 512) (hS : ∀ y : Fin 512, S (ix2 r y) = if y.val < k then (s (n + y.val) : EReal) else ⊥)
    (hv : ∀ y x, v (ix2 y x) = (vs x (n + y.val) : EReal))
    (H : Inv s n (st.1 (ix2 r 0)) (st.2.1 (ix2 r 0)) (fun x => st.2.2 (ix2 r x)) vs) :
    ∃ M : ℝ, (step S v st).1 (ix2 r 0) = (M : EReal) ∧ (step S v st).2.1 (ix2 r 0) = (den s (n + k) M : EReal)
      ∧ ∀ x, (step S v st).2.2 (ix2 r x) = (num s (vs x) (n + k) M : EReal) := by
  obtain ⟨f, hf⟩ := Cert.AttnB.Math.max_real (fun y : Fin 512 => (S (ix2 r y) : EReal))
    (fun y => by rw [hS y]; split; exacts [EReal.coe_ne_top _, bot_ne_top]) 0 (by rw [hS 0, if_pos (show (0 : Fin 512).val < k from hk)]; exact EReal.coe_ne_bot _)
  obtain ⟨M, hM⟩ := max_coe H.top f
  have hm : mx S st.1 (ix2 r 0) = (M : EReal) := (mx_at S st.1 r).trans ((congrArg (max (st.1 (ix2 r 0) : EReal)) hf).trans hM)
  have he (y : Fin 512) : Ideal.exp (S (ix2 r y) - mx S st.1 (ix2 r 0)) = ((if y.val < k then Real.exp (s (n + y.val) - M) else 0 : ℝ) : EReal) := by
    rw [hm, hS y]
    by_cases hy : y.val < k
    · rw [if_pos hy, if_pos hy, ← EReal.coe_sub, Ideal.exp_coe]
    · rw [if_neg hy, if_neg hy, EReal.bot_sub, Ideal.exp_bot, EReal.coe_zero]
  refine ⟨M, hm, ?_, fun x => ?_⟩
  · refine (sum_at S st.1 st.2.1 (mx S st.1) r).trans ?_
    rw [Cert.AttnB.Math.sum_coe he, hm, H.l M, ← EReal.coe_add, Math.sum_first (fun i => Real.exp (s (n + i) - M)) hk']
    exact congrArg _ (Finset.sum_range_add _ n k).symm
  · refine (comb_at S v st.1 (mx S st.1) st.2.2 r x).trans ?_
    rw [Cert.AttnB.Math.sum_mul_coe he (fun y => hv y x), hm, H.a M x, ← EReal.coe_add]
    have e : ∑ y : Fin 512, (if y.val < k then Real.exp (s (n + y.val) - M) else 0) * vs x (n + y.val)
        = ∑ i ∈ Finset.range k, Real.exp (s (n + i) - M) * vs x (n + i) := by
      rw [← Math.sum_first _ hk']
      exact Finset.sum_congr rfl fun y _ => by rw [ite_mul, zero_mul]
    rw [e]
    exact congrArg _ (Finset.sum_range_add _ n k).symm

theorem step_inv (hk : 0 < k) (hk' : k ≤ 512) (hS : ∀ y : Fin 512, S (ix2 r y) = if y.val < k then (s (n + y.val) : EReal) else ⊥)
    (hv : ∀ y x, v (ix2 y x) = (vs x (n + y.val) : EReal))
    (H : Inv s n (st.1 (ix2 r 0)) (st.2.1 (ix2 r 0)) (fun x => st.2.2 (ix2 r x)) vs) :
    Inv s (n + k) ((step S v st).1 (ix2 r 0)) ((step S v st).2.1 (ix2 r 0)) (fun x => (step S v st).2.2 (ix2 r x)) vs := by
  obtain ⟨M, h1, h2, h3⟩ := step_row hk hk' hS hv H
  exact Inv.of_real h1 h2 h3

/-- The combination over the sum once the last block is in. -/
theorem share_row (hk : 0 < k) (hk' : k ≤ 512) (hS : ∀ y : Fin 512, S (ix2 r y) = if y.val < k then (s (n + y.val) : EReal) else ⊥)
    (hv : ∀ y x, v (ix2 y x) = (vs x (n + y.val) : EReal))
    (H : Inv s n (st.1 (ix2 r 0)) (st.2.1 (ix2 r 0)) (fun x => st.2.2 (ix2 r x)) vs) (x : Fin 128) :
    ∃ M : ℝ, k0_pay89 (F := Ideal) (step S v st).2.1 (step S v st).2.2 (ix2 r x) = ((num s (vs x) (n + k) M / den s (n + k) M : ℝ) : EReal) := by
  obtain ⟨M, _, h2, h3⟩ := step_row hk hk' hS hv H
  refine ⟨M, (share_at _ _ r x).trans ?_⟩
  obtain ⟨j, rfl⟩ : ∃ j, k = j + 1 := ⟨k - 1, by omega⟩
  rw [h2, h3 x]
  refine (Ideal.div_coe (Math.den_pos s (n + j) M).ne' _).trans ?_
  rw [← EReal.coe_mul, mul_one_div]
  rfl

end Cert.AttnF

end
-- ==== Proof.AttnFHost.lean ====
module

public import proofs.«01_k».proof.Proof.AttnFRef
public import proofs.«01_k».proof.Proof.AttnFRun
public import proofs.«01_k».proof.Proof.AttnFStep
public import Idealize.ShloMosaic.Lib.Pipeline.ValueKit
public import Idealize.ShloMosaic.Lib.Pointwise
public import Idealize.ShloMosaic.Lib.StableHlo.ReadAt

@[expose] public section

/-! The arrays the launch reads, as the lines before it leave them. -/

set_option maxRecDepth 16384

noncomputable section

namespace Cert.AttnF

open Idealize.ShloMosaic Idealize.ShloMosaic.TcCoe Idealize.SL.Sem
open Cert.KAttnFIdeal Cert.KAttnFIdeal.Gen
open Cert.AttnB (Real? qr kr vr sc scale scale_eq key_left key_right key_real)

variable (m : (ℓ : Loc nD τ sig) → Buf (Elt Ideal) ℓ) (c : Dev nD)

/-- The queries, -/
abbrev inQ : FVec Ideal S8192x16x192 .f32 := m (c, Proc.devRef .tc main_arg0)
/-- the keys' own features, -/
abbrev inK : FVec Ideal S8192x16x128 .f32 := m (c, Proc.devRef .tc main_arg1)
/-- the values -/
abbrev inV : FVec Ideal S8192x16x128 .f32 := m (c, Proc.devRef .tc main_arg2)
/-- and the rotary keys, one for all heads. -/
abbrev inR : FVec Ideal S8192x64 .f32 := m (c, Proc.devRef .tc main_arg3)

/-- Every argument entry is a real. -/
structure Finite : Prop where
  q : Real? (inQ m c)
  k : Real? (inK m c)
  v : Real? (inV m c)
  r : Real? (inR m c)

/-- Head `h`'s scaled query `t`, padded to 256 features. -/
def padQ (h : Fin 16) (t : Fin 8192) (x : Fin 256) : ℝ := if hx : x.val < 192 then qr (inQ m c) h t ⟨x.val, hx⟩ * scale else 0
/-- Head `h`'s key `u`, padded likewise. -/
def padK (h : Fin 16) (u : Fin 8192) (x : Fin 256) : ℝ := if hx : x.val < 192 then kr (inK m c) (inR m c) h u ⟨x.val, hx⟩ else 0

/-- A padded query meets a padded key in the score. -/
theorem pad_score (h : Fin 16) (t u : Fin 8192) : ∑ x, padQ m c h t x * padK m c h u x = sc (inQ m c) (inK m c) (inR m c) h t u := by
  refine (Fin.sum_univ_add (a := 192) (b := 64) fun x : Fin (192 + 64) => padQ m c h t x * padK m c h u x).trans ?_
  have hz (x : Fin 64) : padQ m c h t (Fin.natAdd 192 x) * padK m c h u (Fin.natAdd 192 x) = 0 :=
    mul_eq_zero_of_right _ (dif_neg (show ¬192 + x.val < 192 by omega))
  have hs (x : Fin 192) : padQ m c h t (Fin.castAdd 64 x) * padK m c h u (Fin.castAdd 64 x)
      = qr (inQ m c) h t x * kr (inK m c) (inR m c) h u x * scale :=
    (congrArg₂ (· * ·) (dif_pos x.isLt) (dif_pos x.isLt)).trans (mul_right_comm _ _ _)
  rw [Finset.sum_congr rfl fun x _ => hz x, Finset.sum_const_zero, add_zero, Finset.sum_congr rfl fun x _ => hs x, ← Finset.sum_mul]
  rfl

variable {m c} (hf : Finite m c)
include hf

theorem host_q (h : Fin 16) (t : Fin 8192) (x : Fin 4096) (y : Fin 256) (hx : x.val = 256 * h.val + y.val) :
    (V m c main_v5 : S8192x4096.Idx → EReal) (ix2 t x) = (padQ m c h t y : EReal) := by
  unfold V
  after_reads_at
  after_reads_at
  have e : (⟨x.val / 256, by omega⟩ : Fin 16) = h := Fin.ext (by show x.val / 256 = h.val; omega)
  have ey : x.val % 256 = y.val := by omega
  unfold padQ
  by_cases hy : y.val < 192
  · rw [dif_pos (by omega), dif_pos hy, scale_eq, EReal.coe_mul]
    refine congrArg (· * (scale : EReal)) ?_
    refine Eq.trans ?_ (hf.q (ix3 t h ⟨y.val, hy⟩))
    exact congrArg₂ (fun a b => inQ m c (ix3 t a b)) e (Fin.ext ey)
  · rw [dif_neg (by omega), dif_neg hy, EReal.coe_zero]

theorem host_kn (h : Fin 16) (u : Fin 8192) (x : Fin 4096) (y : Fin 128) (hx : x.val = 128 * h.val + y.val) :
    (V m c main_v9 : S8192x4096.Idx → EReal) (ix2 u x) = (padK m c h u ⟨y.val, by omega⟩ : EReal) := by
  unfold V
  after_reads_at
  after_reads_at
  have e : (⟨x.val / 128, by omega⟩ : Fin 16) = h := Fin.ext (by show x.val / 128 = h.val; omega)
  have e2 : (⟨x.val % 128, by omega⟩ : Fin 128) = y := Fin.ext (by show x.val % 128 = y.val; omega)
  rw [dif_pos (by omega)]
  refine Eq.trans ?_ (congrArg _ (dif_pos (show y.val < 192 by omega)).symm)
  refine Eq.trans ?_ (key_real hf.k hf.r u h _)
  rw [key_left u h ⟨y.val, by omega⟩ y rfl]
  exact congrArg₂ (fun a b => inK m c (ix3 u a b)) e e2

theorem host_v (h : Fin 16) (u : Fin 8192) (x : Fin 4096) (y : Fin 128) (hx : x.val = 2048 + 128 * h.val + y.val) :
    (V m c main_v9 : S8192x4096.Idx → EReal) (ix2 u x) = (vr (inV m c) h u y : EReal) := by
  unfold V
  after_reads_at
  after_reads_at
  have e : (⟨(x.val - 2048) / 128, by omega⟩ : Fin 16) = h := Fin.ext (by show (x.val - 2048) / 128 = h.val; omega)
  have e2 : (⟨(x.val - 2048) % 128, by omega⟩ : Fin 128) = y := Fin.ext (by show (x.val - 2048) % 128 = y.val; omega)
  rw [dif_neg (by omega)]
  exact (congrArg₂ (fun a b => inV m c (ix3 u a b)) e e2).trans (hf.v (ix3 u h y))

theorem host_kr (h : Fin 16) (u : Fin 8192) (x : Fin 128) :
    (V m c main_v12 : S8192x128.Idx → EReal) (ix2 u x) = (padK m c h u ⟨128 + x.val, by omega⟩ : EReal) := by
  unfold V
  after_reads_at
  after_reads_at
  unfold padK
  by_cases hx : x.val < 64
  · rw [dif_pos hx, dif_pos (show 128 + x.val < 192 by omega)]
    refine Eq.trans ?_ (key_real hf.k hf.r u h _)
    rw [key_right u h ⟨128 + x.val, by omega⟩ ⟨x.val, hx⟩ rfl]
  · rw [dif_neg hx, dif_neg (show ¬128 + x.val < 192 by omega), EReal.coe_zero]

end Cert.AttnF

end
-- ==== Proof.AttnFPoint.lean ====
module

public import proofs.«01_k».proof.Proof.AttnFHost

@[expose] public section

/-! What a point of the launch leaves: grid point `16 g + b` is the group of heads `4 g … 4 g + 3` and row block `b` of the queries. -/

set_option maxRecDepth 16384

noncomputable section

namespace Cert.AttnF

open Idealize.ShloMosaic Idealize.ShloMosaic.TcCoe Idealize.SL.Sem
open Cert.KAttnFIdeal Cert.KAttnFIdeal.Gen
open Cert.AttnB (vr sc)
open Cert.AttnF.Math (ext Inv num den)

/-- The operands' blocks and the result's at a point. -/
theorem blocks : ∀ t : Fin cfg0.N, win0_0.index t = ![t.val % 16, t.val / 16] ∧ win0_1.index t = ![0, t.val / 16] ∧ win0_2.index t = ![0, 4 + t.val / 16]
    ∧ win0_3.index t = ![0, 0] ∧ win0_4.index t = ![t.val % 16, t.val / 16] :=
  (by decide +kernel : ∀ t : Fin grid0.N, _)

/-- The point's row block is its second coordinate. -/
theorem coord : ∀ t : Fin cfg0.N, ((grid0.coords t) 1).val = t.val % 16 := (by decide +kernel : ∀ t : Fin grid0.N, _)

/-- Row `r` of row block `b`. -/
def row (b : Fin 16) (r : Fin 512) : Fin 8192 := ⟨512 * b.val + r.val, by omega⟩
/-- Head `e` of group `g`. -/
def head (g e : Fin 4) : Fin 16 := ⟨4 * g.val + e.val, by omega⟩

variable {m : (ℓ : Loc nD τ sig) → Buf (Elt Ideal) ℓ} {c : Dev nD} {g : Fin 4} {b : Fin 16} {t : Fin cfg0.N}

theorem blk_q (ht : t.val = 16 * g.val + b.val) (e : Fin 4) (r : Fin 512) (x : Fin 256) (j : Fin 4096) (hj : j.val = 256 * (head g e).val + x.val) :
    colQ (F := Ideal) (iblk m c 0 t) e (ix2 r x) = (V m c main_v5 : S8192x4096.Idx → EReal) (ix2 (row b r) j) := by
  have hd : t.val / 16 = g.val := by omega
  have hb : t.val % 16 = b.val := by omega
  have hr : (row b r).val = 512 * b.val + r.val := rfl
  have hh : (head g e).val = 4 * g.val + e.val := rfl
  show (iblk m c 0 t : S512x1024.Idx → EReal) ((Rect.unit (s := S512x1024) ![0, 256 * e.val] S512x256.size (inbQ e)).emb (ix2 r x)) = _
  blk_simp [iblk, blocks t]
  blk_ext [blocks t]

theorem blk_kn (ht : t.val = 16 * g.val + b.val) (e : Fin 4) (a : Fin 16) (y : Fin 512) (x : Fin 128) (j : Fin 4096) (hj : j.val = 128 * (head g e).val + x.val) :
    colK (F := Ideal) (iblk m c 1 t) a e (ix2 y x) = (V m c main_v9 : S8192x4096.Idx → EReal) (ix2 (row a y) j) := by
  have hd : t.val / 16 = g.val := by omega
  have hr : (row a y).val = 512 * a.val + y.val := rfl
  have hh : (head g e).val = 4 * g.val + e.val := rfl
  show (iblk m c 1 t : S8192x512.Idx → EReal) ((Rect.unit (s := S8192x512) ![512 * a.val, 128 * e.val] S512x128.size (inbK a e)).emb (ix2 y x)) = _
  blk_simp [iblk, blocks t]
  blk_ext [blocks t]

theorem blk_v (ht : t.val = 16 * g.val + b.val) (e : Fin 4) (a : Fin 16) (y : Fin 512) (x : Fin 128) (j : Fin 4096)
    (hj : j.val = 2048 + 128 * (head g e).val + x.val) :
    colK (F := Ideal) (iblk m c 2 t) a e (ix2 y x) = (V m c main_v9 : S8192x4096.Idx → EReal) (ix2 (row a y) j) := by
  have hd : t.val / 16 = g.val := by omega
  have hr : (row a y).val = 512 * a.val + y.val := rfl
  have hh : (head g e).val = 4 * g.val + e.val := rfl
  show (iblk m c 2 t : S8192x512.Idx → EReal) ((Rect.unit (s := S8192x512) ![512 * a.val, 128 * e.val] S512x128.size (inbK a e)).emb (ix2 y x)) = _
  blk_simp [iblk, blocks t]
  blk_ext [blocks t]

theorem blk_kr (a : Fin 16) (y : Fin 512) (x : Fin 128) :
    colR (F := Ideal) (iblk m c 3 t) a (ix2 y x) = (V m c main_v12 : S8192x128.Idx → EReal) (ix2 (row a y) x) := by
  have hr : (row a y).val = 512 * a.val + y.val := rfl
  show (iblk m c 3 t : S8192x128.Idx → EReal) ((Rect.unit (s := S8192x128) ![512 * a.val, 0] S512x128.size (inbR a)).emb (ix2 y x)) = _
  blk_simp [iblk, blocks t]
  blk_ext [blocks t]

theorem ext_at {f : Fin 8192 → ℝ} (u : Fin 8192) {i : ℕ} (h : i = u.val) : ext f i = f u := by
  subst h
  exact dif_pos u.isLt

theorem same_q (q : FVec Ideal S512x256 .bf16) : k0_pay52 (F := Ideal) q = q := shapeCast_self _ _

variable (hf : Finite m c) (ht : t.val = 16 * g.val + b.val) (e : Fin 4)
include hf ht

/-- The scores of a block of keys. -/
theorem scores (a : Fin 16) (r y : Fin 512) : k0_pay3 (F := Ideal) (colQ (F := Ideal) (iblk m c 0 t) e) (colR (F := Ideal) (iblk m c 3 t) a) (colK (F := Ideal) (iblk m c 1 t) a e) (ix2 r y)
    = (sc (inQ m c) (inK m c) (inR m c) (head g e) (row b r) (row a y) : EReal) := by
  have hk (x : Fin 256) : (if h : x.val < 128 then colK (F := Ideal) (iblk m c 1 t) a e (ix2 y ⟨x.val, h⟩) else colR (F := Ideal) (iblk m c 3 t) a (ix2 y ⟨x.val - 128, by omega⟩))
      = (padK m c (head g e) (row a y) x : EReal) := by
    by_cases hx : x.val < 128
    · rw [dif_pos hx]
      exact (blk_kn ht e a y ⟨x.val, hx⟩ ⟨128 * (head g e).val + x.val, by omega⟩ rfl).trans (host_kn hf (head g e) (row a y) _ ⟨x.val, hx⟩ rfl)
    · rw [dif_neg hx]
      refine ((blk_kr a y ⟨x.val - 128, by omega⟩).trans (host_kr hf (head g e) (row a y) ⟨x.val - 128, by omega⟩)).trans ?_
      exact congrArg (fun z => ((padK m c (head g e) (row a y) z : ℝ) : EReal)) (Fin.ext (by show 128 + (x.val - 128) = x.val; omega))
  have hq (x : Fin 256) : colQ (F := Ideal) (iblk m c 0 t) e (ix2 r x) = (padQ m c (head g e) (row b r) x : EReal) :=
    (blk_q ht e r x ⟨256 * (head g e).val + x.val, by omega⟩ rfl).trans (host_q hf (head g e) (row b r) _ x rfl)
  refine (key_at _ _ _ r y).trans ?_
  rw [Cert.AttnB.Math.sum_mul_coe hq hk, pad_score]

/-- Its values. -/
theorem values (a : Fin 16) (y : Fin 512) (x : Fin 128) : colK (F := Ideal) (iblk m c 2 t) a e (ix2 y x) = (ext (fun u => vr (inV m c) (head g e) u x) (512 * a.val + y.val) : EReal) := by
  refine (blk_v ht e a y x ⟨2048 + 128 * (head g e).val + x.val, by omega⟩ rfl).trans ((host_v hf (head g e) (row a y) _ x rfl).trans ?_)
  exact congrArg _ (ext_at (f := fun u => vr (inV m c) (head g e) u x) (row a y) rfl).symm

/-- After `n` blocks a row carries its first `512 n` keys. -/
theorem carried_row (r : Fin 512) : ∀ n : ℕ, n ≤ b.val →
    Inv (ext (sc (inQ m c) (inK m c) (inR m c) (head g e) (row b r))) (512 * n)
      ((state (F := Ideal) (iblk m c 0 t) (iblk m c 1 t) (iblk m c 2 t) (iblk m c 3 t) e n).1 (ix2 r 0))
      ((state (F := Ideal) (iblk m c 0 t) (iblk m c 1 t) (iblk m c 2 t) (iblk m c 3 t) e n).2.1 (ix2 r 0))
      (fun x => (state (F := Ideal) (iblk m c 0 t) (iblk m c 1 t) (iblk m c 2 t) (iblk m c 3 t) e n).2.2 (ix2 r x))
      (fun x => ext fun u => vr (inV m c) (head g e) u x)
  | 0, _ => by
    show Inv _ 0 (k0_pay56 (F := Ideal) (ix2 r 0)) (k0_pay57 (F := Ideal) (ix2 r 0)) (fun x => k0_pay58 (F := Ideal) (ix2 r x)) _
    rw [start_max, start_sum]
    exact Inv.zero fun x => start_comb r x
  | n + 1, hn => by
    have ih := carried_row r n (by omega)
    have hb : (blk n).val = n := blk_val (by omega)
    have hS (y : Fin 512) : k0_pay3 (F := Ideal) (k0_pay52 (F := Ideal) (colQ (F := Ideal) (iblk m c 0 t) e)) (colR (F := Ideal) (iblk m c 3 t) (blk n)) (colK (F := Ideal) (iblk m c 1 t) (blk n) e) (ix2 r y)
        = if y.val < 512 then (ext (sc (inQ m c) (inK m c) (inR m c) (head g e) (row b r)) (512 * n + y.val) : EReal) else ⊥ := by
      rw [same_q, if_pos y.isLt, scores hf ht e (blk n) r y]
      refine congrArg _ (Eq.trans ?_ (congrArg (fun k => ext (sc (inQ m c) (inK m c) (inR m c) (head g e) (row b r)) (512 * k + y.val)) hb))
      exact (ext_at (row (blk n) y) rfl).symm
    have hv (y : Fin 512) (x : Fin 128) : colK (F := Ideal) (iblk m c 2 t) (blk n) e (ix2 y x) = (ext (fun u => vr (inV m c) (head g e) u x) (512 * n + y.val) : EReal) :=
      (values hf ht e (blk n) y x).trans (congrArg (fun k => ((ext (fun u => vr (inV m c) (head g e) u x) (512 * k + y.val) : ℝ) : EReal)) hb)
    exact step_inv (k := 512) (by omega) le_rfl hS hv ih

/-- What a head's rows are at the end: the softmax combination of the values. -/
theorem left_row (r : Fin 512) (x : Fin 128) : left (F := Ideal) (iblk m c 0 t) (iblk m c 1 t) (iblk m c 2 t) (iblk m c 3 t) e b (ix2 r x)
    = ((∑ u, Cert.AttnB.wt (inQ m c) (inK m c) (inR m c) (head g e) (row b r) u * vr (inV m c) (head g e) u x : ℝ) : EReal) := by
  have hS (y : Fin 512) : k0_pay64 (F := Ideal) (colQ (F := Ideal) (iblk m c 0 t) e) (colR (F := Ideal) (iblk m c 3 t) b) (colK (F := Ideal) (iblk m c 1 t) b e) (ix2 r y)
      = if y.val < r.val + 1 then (ext (sc (inQ m c) (inK m c) (inR m c) (head g e) (row b r)) (512 * b.val + y.val) : EReal) else ⊥ := by
    rw [mask_at]
    refine if_congr (Fin.le_def.trans Nat.lt_succ_iff.symm) ((scores hf ht e b r y).trans ?_) rfl
    exact congrArg _ (ext_at (row b y) rfl).symm
  obtain ⟨M, hM⟩ := share_row (k := r.val + 1) (by omega) (by omega) hS (values hf ht e b) (carried_row hf ht e r b.val le_rfl) x
  exact hM.trans (congrArg _ (Math.ratio_eq (sc (inQ m c) (inK m c) (inR m c) (head g e)) (Cert.AttnB.mx (inQ m c) (inK m c) (inR m c) (head g e)) (row b r)
    (fun u => vr (inV m c) (head g e) u x) M))

end Cert.AttnF

end
-- ==== Proof.AttnFValue.lean ====
module

public import proofs.«01_k».proof.Proof.AttnFPoint
public import proofs.«01_k».proof.Proof.RealArray
public import proofs.«01_k».proof.Defs
public import proofs.«01_k».proof.Proof.Gen.Pre_finite_args
public import proofs.«01_k».proof.Proof.Gen.KAttnF
public import Idealize.ShloMosaic.Lib.Claim

@[expose] public section

/-! The certificate's claims for the attention's forward call: its frames, the named mask, and that it computes the reference's combination of the values. -/

set_option maxRecDepth 16384

noncomputable section

namespace Cert.AttnF

open Idealize.ShloMosaic Idealize.ShloMosaic.TcCoe Idealize.SL.Sem
open Cert.KAttnFIdeal Cert.KAttnFIdeal.Gen
open Cert.RAttnFIdeal.Read (val_main_v27 val_main_v27_eq)
open Cert.AttnB (vr wt)

variable (m : (ℓ : Loc nD τ sig) → Buf (Elt Ideal) ℓ) (c : Dev nD)

/-- Each head's 128 features side by side: the combination of the values. -/
def outArr : S8192x2048.Idx → EReal := fun i =>
  ((∑ u, wt (inQ m c) (inK m c) (inR m c) ⟨(i 1).val / 128, by have : (i 1).val < 2048 := (i 1).isLt; omega⟩ (i 0) u
    * vr (inV m c) ⟨(i 1).val / 128, by have : (i 1).val < 2048 := (i 1).isLt; omega⟩ u ⟨(i 1).val % 128, by omega⟩ : ℝ) : EReal)

theorem outArr_at (i : S8192x2048.Idx) (h : Fin 16) (t : Fin 8192) (x : Fin 128) (h0 : (i 0).val = t.val) (h1 : (i 1).val = 128 * h.val + x.val) :
    outArr m c i = ((∑ u, wt (inQ m c) (inK m c) (inR m c) h t u * vr (inV m c) h u x : ℝ) : EReal) := by
  have e0 : i 0 = t := Fin.ext h0
  have eh : (⟨(i 1).val / 128, by have : (i 1).val < 2048 := (i 1).isLt; omega⟩ : Fin 16) = h := Fin.ext (by show (i 1).val / 128 = h.val; omega)
  have ex : (⟨(i 1).val % 128, by omega⟩ : Fin 128) = x := Fin.ext (by show (i 1).val % 128 = x.val; omega)
  unfold outArr
  rw [eh, ex, e0]

/-- Where point `(g, b)`'s block puts an entry. -/
def place (g : Fin 4) (b : Fin 16) (y : S512x512.Idx) : S8192x2048.Idx :=
  ix2 (⟨512 * b.val + (y 0).val, by have : (y 0).val < 512 := (y 0).isLt; omega⟩ : Fin 8192) (⟨512 * g.val + (y 1).val, by have : (y 1).val < 512 := (y 1).isLt; omega⟩ : Fin 2048)

variable {m c} (hf : Finite m c)
include hf

/-- One head's columns of a point's block. -/
theorem piece_at {g : Fin 4} {b : Fin 16} {t : Fin cfg0.N} (ht : t.val = 16 * g.val + b.val) (e : Fin 4) (o : ℕ) (ho : o = 128 * e.val)
    (inb : ∀ a, (![0, o] : Fin 2 → ℕ) a + S512x128.size a ≤ S512x512.size a) (x : S512x128.Idx) :
    left (F := Ideal) (iblk m c 0 t) (iblk m c 1 t) (iblk m c 2 t) (iblk m c 3 t) e b x
      = outArr m c (place g b ((Rect.unit (s := S512x512) ![0, o] S512x128.size inb).emb x)) := by
  rw [eq_ix2 x]
  refine (left_row hf ht e (x 0) (x 1)).trans (outArr_at m c _ (head g e) (row b (x 0)) (x 1) ?_ ?_).symm
  · show 512 * b.val + (0 + 1 * (x 0).val) = 512 * b.val + (x 0).val
    omega
  · show 512 * g.val + (o + 1 * (x 1).val) = 128 * (4 * g.val + e.val) + (x 1).val
    omega

/-- A point's block of the result. -/
theorem point {g : Fin 4} {b : Fin 16} {t : Fin cfg0.N} (ht : t.val = 16 * g.val + b.val) (y : S512x512.Idx) :
    (outsAt0 m c t).1 y = outArr m c (place g b y) := by
  have hb : (grid0.coords t) 1 = b := Fin.ext ((coord t).trans (by omega))
  have hcov := cover0_A_4 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t)
    (iblk m c 0 t) (iblk m c 1 t) (iblk m c 2 t) (iblk m c 3 t) y
  unfold outsAt0
  dsimp only
  unfold out0_A_4
  rw [pieces, hb] at hcov ⊢
  refine View.read_writes_apply_of_pieces VO0_4 VO0_4.junk (fun y => outArr m c (place g b y)) _ ?_ y hcov
  intro p hp
  simp only [List.mem_cons, List.not_mem_nil, or_false] at hp
  rcases hp with rfl | rfl | rfl | rfl
  · exact fun x => piece_at hf ht 3 384 rfl inb_S512x512_S512x128_0_384 x
  · exact fun x => piece_at hf ht 2 256 rfl inb_S512x512_S512x128_0_256 x
  · exact fun x => piece_at hf ht 1 128 rfl inb_S512x512_S512x128_0_128 x
  · exact fun x => piece_at hf ht 0 0 rfl inb_S512x512_S512x128_0_0 x

/-- The array the launch leaves. -/
theorem final_out : (dats m 0 c).arrAt 4 (cfgs 0).N = outArr m c := by
  refine (dats m 0 c).arrAt_eq_of_covers 4 _ (by decide +kernel) fun t _ y => ?_
  blk_simp [blocks t]
  rw [after0_4]
  have ht : t.val < 64 := lt_of_lt_of_eq t.isLt N_0
  have he : (win0_4.blk t).view.emb y = place ⟨t.val / 16, by omega⟩ ⟨t.val % 16, by omega⟩ y := by
    obtain_idx j : S8192x2048 := [t.val % 16 * 512 + (y 0 : ℕ), t.val / 16 * 512 + (y 1 : ℕ)] with hj
    have h1 : (win0_4.blk t).view.emb y = j := by blk_ext [blocks t]
    rw [h1, eq_ix2 j]
    exact congrArg₂ ix2 (Fin.ext (by rw [hj0, mul_comm])) (Fin.ext (by rw [hj1, mul_comm]))
  rw [he]
  exact point hf (g := ⟨t.val / 16, by omega⟩) (b := ⟨t.val % 16, by omega⟩) (show t.val = 16 * (t.val / 16) + t.val % 16 by omega) y

/-- It is the reference's. -/
theorem out_eq : (dats m 0 c).arrAt 4 (cfgs 0).N = val_main_v27 (F := Ideal) (inQ m c) (inK m c) (inV m c) (inR m c) := by
  rw [final_out hf]
  funext i
  have h1 : (i 1).val < 2048 := (i 1).isLt
  have e : (i 1).val = 128 * ((i 1).val / 128) + (i 1).val % 128 := by omega
  refine (outArr_at m c i ⟨(i 1).val / 128, by omega⟩ (i 0) ⟨(i 1).val % 128, by omega⟩ rfl e).trans (Eq.symm ?_)
  exact (congrArg (val_main_v27 (F := Ideal) _ _ _ _) (eq_ix2 i)).trans (result_real hf.q hf.k hf.v hf.r (i 0) (i 1) _ _ e)

variable (m)
omit hf

theorem finite_of_pre (h : Cert.Pre_KAttnFIdeal_finite_args m) (c : Dev nD) : Finite m c :=
  have p := h c
  ⟨Cert.AttnB.real_array _ _ p.1, Cert.AttnB.real_array _ _ p.2.1, Cert.AttnB.real_array _ _ p.2.2.1, Cert.AttnB.real_array _ _ p.2.2.2⟩

/-- The run with the result named and the arguments unchanged. -/
theorem run_results (ρ : Dev nD → PrngReg) : θ_run defs (onTc (τ := τ) (main (F := Ideal))) ⟨m, fun _ => 0, ρ⟩ fun r => ∀ c : Dev nD,
      r.2.mem ((c : Thread nD τ).loc main_v13_0) = (dats m 0 c).arrAt 4 (cfgs 0).N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h.1 c).1 4, h.2 c⟩) (θ_run_and (run_main m ρ) (unchanged m ρ))

/-- The reference runs to its end with its arguments unchanged. -/
theorem frame_reference : Cert.quiescent_RAttnFIdeal := fun m ρ _ =>
  (θ_run Cert.RAttnFIdeal.defs _ _).mono
    (fun r h => ⟨fun c => (h c).2, sem_eq_zero_of_no_sems (by decide) r.2⟩) (Cert.RAttnFIdeal.Value.run m ρ)

/-- Kernel and reference compute the same combination for finite arguments. -/
theorem algebraic : Cert.algebraic_KAttnFIdeal_RAttnFIdeal_pre_finite_args := by
  pair_intro
  · run_from run_results m g
  · run_from Cert.RAttnFIdeal.Value.run m' g'
    rw [out_eq (finite_of_pre m hpre c), val_main_v27_eq, (hagree c).1, (hagree c).2.1, (hagree c).2.2.1, (hagree c).2.2.2]

/-- The mask is minus infinity by name. -/
theorem preserves : Cert.preserves_KAttnF_KAttnFIdeal :=
  IdealRules.named_const.statement Cert.KAttnFIdeal.κ "mask" .f32 0xF149F2CA#32 ⊥ rfl

/-- The idealized kernel runs to its end with its arguments unchanged. -/
theorem frame_ideal : Cert.quiescent_KAttnFIdeal := fun m ρ _ => Cert.KAttnFIdeal.Gen.frame m ρ

/-- On machine words a named constant is its word. -/
local instance : Named Bits where
  named _ _ {φ} bits := FloatOps.ofBits φ bits

/-- The kernel runs to its end with its arguments unchanged: one run serves both. -/
theorem frame_word : Cert.quiescent_KAttnF := fun m ρ _ =>
  cast (by sl_kernel_rfl) (Cert.KAttnFIdeal.Gen.frame (F := Bits) m ρ)

end Cert.AttnF

end
-- ==== Proof.lean ====
module

public import proofs.«01_k».proof.Proof.Gen.KRms.Frame
public import proofs.«01_k».proof.Proof.Gen.KRmsIdeal.Value
public import proofs.«01_k».proof.Proof.Gen.RRmsIdeal.Read
public import proofs.«01_k».proof.Proof.RmsValue
public import proofs.«01_k».proof.Proof.Gen.KPost.Frame
public import proofs.«01_k».proof.Proof.Gen.KPostIdeal.Value
public import proofs.«01_k».proof.Proof.Gen.RPostIdeal.Read
public import proofs.«01_k».proof.Proof.PostValue
public import proofs.«01_k».proof.Proof.Gen.KPle.Frame
public import proofs.«01_k».proof.Proof.Gen.KPleIdeal.Value
public import proofs.«01_k».proof.Proof.Gen.RPleIdeal.Read
public import proofs.«01_k».proof.Proof.PleValue
public import proofs.«01_k».proof.Proof.Gen.KConv.Frame
public import proofs.«01_k».proof.Proof.Gen.KConvIdeal.Value
public import proofs.«01_k».proof.Proof.Gen.RConvIdeal.Read
public import proofs.«01_k».proof.Proof.ConvValue
public import proofs.«01_k».proof.Proof.Gen.KFfn.Frame
public import proofs.«01_k».proof.Proof.Gen.KFfnIdeal.Value
public import proofs.«01_k».proof.Proof.Gen.RFfnIdeal.Read
public import proofs.«01_k».proof.Proof.FfnValue
public import proofs.«01_k».proof.Proof.Gen.KLoss.Frame
public import proofs.«01_k».proof.Proof.Gen.KLossIdeal.Frame
public import proofs.«01_k».proof.Proof.Gen.RLossIdeal.Read
public import proofs.«01_k».proof.Proof.LossValue
public import proofs.«01_k».proof.Proof.Gen.KQrope.Frame
public import proofs.«01_k».proof.Proof.Gen.KQropeIdeal.Frame
public import proofs.«01_k».proof.Proof.Gen.RQropeIdeal.Read
public import proofs.«01_k».proof.Proof.QropeValue
public import proofs.«01_k».proof.Proof.Gen.KKprep.Frame
public import proofs.«01_k».proof.Proof.Gen.KKprepIdeal.Frame
public import proofs.«01_k».proof.Proof.Gen.RKprepIdeal.Read
public import proofs.«01_k».proof.Proof.KprepValue
public import proofs.«01_k».proof.Proof.Gen.KRmsF.Frame
public import proofs.«01_k».proof.Proof.Gen.KRmsFIdeal.Value
public import proofs.«01_k».proof.Proof.Gen.RRmsFIdeal.Read
public import proofs.«01_k».proof.Proof.RmsFValue
public import proofs.«01_k».proof.Proof.Gen.KPostF.Frame
public import proofs.«01_k».proof.Proof.Gen.KPostFIdeal.Value
public import proofs.«01_k».proof.Proof.Gen.RPostFIdeal.Read
public import proofs.«01_k».proof.Proof.PostFValue
public import proofs.«01_k».proof.Proof.Gen.KPleF.Frame
public import proofs.«01_k».proof.Proof.Gen.KPleFIdeal.Value
public import proofs.«01_k».proof.Proof.Gen.RPleFIdeal.Read
public import proofs.«01_k».proof.Proof.PleFValue
public import proofs.«01_k».proof.Proof.Gen.KFfnF.Frame
public import proofs.«01_k».proof.Proof.Gen.KFfnFIdeal.Value
public import proofs.«01_k».proof.Proof.Gen.RFfnFIdeal.Read
public import proofs.«01_k».proof.Proof.FfnFValue
public import proofs.«01_k».proof.Proof.Gen.KKprepF.Frame
public import proofs.«01_k».proof.Proof.Gen.KKprepFIdeal.Frame
public import proofs.«01_k».proof.Proof.Gen.RKprepFIdeal.Read
public import proofs.«01_k».proof.Proof.KprepFValue
public import proofs.«01_k».proof.Proof.Gen.KQropeF.Frame
public import proofs.«01_k».proof.Proof.Gen.KQropeFIdeal.Frame
public import proofs.«01_k».proof.Proof.Gen.RQropeFIdeal.Read
public import proofs.«01_k».proof.Proof.QropeFValue
public import proofs.«01_k».proof.Proof.Gen.KAttnB
public import proofs.«01_k».proof.Proof.Gen.KAttnBIdeal.Frame
public import proofs.«01_k».proof.Proof.Gen.KAttnBIdeal.Points
public import proofs.«01_k».proof.Proof.Gen.KAttnBIdeal.Loops
public import proofs.«01_k».proof.Proof.Gen.KAttnBIdeal.Skeleton
public import proofs.«01_k».proof.Proof.Gen.RAttnBIdeal.Read
public import proofs.«01_k».proof.Proof.Gen.Pre_finite
public import proofs.«01_k».proof.Proof.AttnBValue
public import proofs.«01_k».proof.Proof.Gen.KAttnF
public import proofs.«01_k».proof.Proof.Gen.KAttnFIdeal.Frame
public import proofs.«01_k».proof.Proof.Gen.KAttnFIdeal.Skeleton
public import proofs.«01_k».proof.Proof.Gen.RAttnFIdeal.Read
public import proofs.«01_k».proof.Proof.Gen.Pre_finite_args
public import proofs.«01_k».proof.Proof.AttnFValue
public import proofs.«01_k».proof.Defs
public import Idealize.ShloMosaic.Adequacy
public import Idealize.ShloMosaic.Init

@[expose] public section

noncomputable section

namespace Cert.Proof

open Idealize.ShloMosaic Idealize.SL.Sem

/-- Every claim of this directory. -/
theorem claim : Cert.Claim :=
  ⟨Cert.KRms.Gen.facts,
    Cert.KRmsIdeal.Gen.facts,
    Cert.RRmsIdeal.Gen.facts,
    Cert.KPost.Gen.facts,
    Cert.KPostIdeal.Gen.facts,
    Cert.RPostIdeal.Gen.facts,
    Cert.KPle.Gen.facts,
    Cert.KPleIdeal.Gen.facts,
    Cert.RPleIdeal.Gen.facts,
    Cert.KConv.Gen.facts,
    Cert.KConvIdeal.Gen.facts,
    Cert.RConvIdeal.Gen.facts,
    Cert.KFfn.Gen.facts,
    Cert.KFfnIdeal.Gen.facts,
    Cert.RFfnIdeal.Gen.facts,
    Cert.KLoss.Gen.facts,
    Cert.KLossIdeal.Gen.facts,
    Cert.RLossIdeal.Gen.facts,
    Cert.KQrope.Gen.facts,
    Cert.KQropeIdeal.Gen.facts,
    Cert.RQropeIdeal.Gen.facts,
    Cert.KKprep.Gen.facts,
    Cert.KKprepIdeal.Gen.facts,
    Cert.RKprepIdeal.Gen.facts,
    Cert.KRmsF.Gen.facts,
    Cert.KRmsFIdeal.Gen.facts,
    Cert.RRmsFIdeal.Gen.facts,
    Cert.KPostF.Gen.facts,
    Cert.KPostFIdeal.Gen.facts,
    Cert.RPostFIdeal.Gen.facts,
    Cert.KPleF.Gen.facts,
    Cert.KPleFIdeal.Gen.facts,
    Cert.RPleFIdeal.Gen.facts,
    Cert.KFfnF.Gen.facts,
    Cert.KFfnFIdeal.Gen.facts,
    Cert.RFfnFIdeal.Gen.facts,
    Cert.KKprepF.Gen.facts,
    Cert.KKprepFIdeal.Gen.facts,
    Cert.RKprepFIdeal.Gen.facts,
    Cert.KQropeF.Gen.facts,
    Cert.KQropeFIdeal.Gen.facts,
    Cert.RQropeFIdeal.Gen.facts,
    Cert.KAttnB.Gen.facts,
    Cert.KAttnBIdeal.Gen.facts,
    Cert.RAttnBIdeal.Gen.facts,
    Cert.KAttnF.Gen.facts,
    Cert.KAttnFIdeal.Gen.facts,
    Cert.RAttnFIdeal.Gen.facts,
    Cert.Pre_finite.Gen.facts,
    Cert.Pre_finite_args.Gen.facts,
    fun m ρ _ => Cert.KRms.Gen.frame m ρ,
    fun m ρ _ => Cert.KRmsIdeal.Gen.frame m ρ,
    Cert.RmsValue.frame_reference,
    fun m ρ _ => Cert.KPost.Gen.frame m ρ,
    fun m ρ _ => Cert.KPostIdeal.Gen.frame m ρ,
    Cert.PostValue.frame_reference,
    fun m ρ _ => Cert.KPle.Gen.frame m ρ,
    fun m ρ _ => Cert.KPleIdeal.Gen.frame m ρ,
    Cert.PleValue.frame_reference,
    fun m ρ _ => Cert.KConv.Gen.frame m ρ,
    fun m ρ _ => Cert.KConvIdeal.Gen.frame m ρ,
    Cert.ConvValue.frame_reference,
    fun m ρ _ => Cert.KFfn.Gen.frame m ρ,
    fun m ρ _ => Cert.KFfnIdeal.Gen.frame m ρ,
    Cert.FfnValue.frame_reference,
    fun m ρ _ => Cert.KLoss.Gen.frame m ρ,
    fun m ρ _ => Cert.KLossIdeal.Gen.frame m ρ,
    Cert.LossValue.frame_reference,
    fun m ρ _ => Cert.KQrope.Gen.frame m ρ,
    fun m ρ _ => Cert.KQropeIdeal.Gen.frame m ρ,
    Cert.QropeValue.frame_reference,
    fun m ρ _ => Cert.KKprep.Gen.frame m ρ,
    fun m ρ _ => Cert.KKprepIdeal.Gen.frame m ρ,
    Cert.KprepValue.frame_reference,
    fun m ρ _ => Cert.KRmsF.Gen.frame m ρ,
    fun m ρ _ => Cert.KRmsFIdeal.Gen.frame m ρ,
    Cert.RmsFValue.frame_reference,
    fun m ρ _ => Cert.KPostF.Gen.frame m ρ,
    fun m ρ _ => Cert.KPostFIdeal.Gen.frame m ρ,
    Cert.PostFValue.frame_reference,
    fun m ρ _ => Cert.KPleF.Gen.frame m ρ,
    fun m ρ _ => Cert.KPleFIdeal.Gen.frame m ρ,
    Cert.PleFValue.frame_reference,
    fun m ρ _ => Cert.KFfnF.Gen.frame m ρ,
    fun m ρ _ => Cert.KFfnFIdeal.Gen.frame m ρ,
    Cert.FfnFValue.frame_reference,
    fun m ρ _ => Cert.KKprepF.Gen.frame m ρ,
    fun m ρ _ => Cert.KKprepFIdeal.Gen.frame m ρ,
    Cert.KprepFValue.frame_reference,
    fun m ρ _ => Cert.KQropeF.Gen.frame m ρ,
    fun m ρ _ => Cert.KQropeFIdeal.Gen.frame m ρ,
    Cert.QropeFValue.frame_reference,
    Cert.AttnB.frame_word,
    Cert.AttnB.frame_ideal,
    fun m ρ _ => Cert.AttnB.frame_ideal m ρ trivial,
    Cert.AttnB.frame_reference,
    fun m ρ _ => Cert.AttnB.frame_reference m ρ trivial,
    Cert.AttnF.frame_word,
    Cert.AttnF.frame_ideal,
    fun m ρ _ => Cert.AttnF.frame_ideal m ρ trivial,
    Cert.AttnF.frame_reference,
    fun m ρ _ => Cert.AttnF.frame_reference m ρ trivial,
    trivial,
    Cert.RmsValue.algebraic,
    trivial,
    Cert.PostValue.algebraic,
    trivial,
    Cert.PleValue.algebraic,
    trivial,
    Cert.ConvValue.algebraic,
    trivial,
    Cert.FfnValue.algebraic,
    trivial,
    Cert.LossValue.algebraic,
    trivial,
    Cert.QropeValue.algebraic,
    trivial,
    Cert.KprepValue.algebraic,
    trivial,
    Cert.RmsFValue.algebraic,
    trivial,
    Cert.PostFValue.algebraic,
    trivial,
    Cert.PleFValue.algebraic,
    trivial,
    Cert.FfnFValue.algebraic,
    trivial,
    Cert.KprepFValue.algebraic,
    trivial,
    Cert.QropeFValue.algebraic,
    Cert.AttnB.preserves,
    Cert.AttnB.algebraic,
    Cert.AttnF.preserves,
    Cert.AttnF.algebraic⟩

end Cert.Proof

end
